-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)) (v5 : (c : Dev Cert.Kernel4Ideal.nD) → Buf (Elt Ideal) ((c.tc : Thread Cert.Kernel4Ideal.nD Cert.Kernel4Ideal.τ).loc Cert.Kernel4Ideal.main_v3_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_v3_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v96) = v0 c
          ∧ r.2.mem ((c.tc : Thread Cert.Reference4Ideal.nD Cert.Reference4Ideal.τ).loc Cert.Reference4Ideal.main_v98) = v1 c
          ∧ r.2.mem ((c.tc : Thread Cert.Reference4Ideal.nD Cert.Reference4Ideal.τ).loc Cert.Reference4Ideal.main_v100) = v2 c
          ∧ r.2.mem ((c.tc : Thread Cert.Reference4Ideal.nD Cert.Reference4Ideal.τ).loc Cert.Reference4Ideal.main_v101) = v3 c
          ∧ r.2.mem ((c.tc : Thread Cert.Reference4Ideal.nD Cert.Reference4Ideal.τ).loc Cert.Reference4Ideal.main_v102) = v4 c
          ∧ r.2.mem ((c.tc : Thread Cert.Reference4Ideal.nD Cert.Reference4Ideal.τ).loc Cert.Reference4Ideal.main_v103) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v243) = v0 c
          ∧ r.2.mem ((c.tc : Thread Cert.Reference5Ideal.nD Cert.Reference5Ideal.τ).loc Cert.Reference5Ideal.main_v216) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "mask" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v195_0)) (v1 : (c : Dev Cert.Kernel6Ideal.nD) → Buf (Elt Ideal) ((c.tc : Thread Cert.Kernel6Ideal.nD Cert.Kernel6Ideal.τ).loc Cert.Kernel6Ideal.main_v195_1)) (v2 : (c : Dev Cert.Kernel6Ideal.nD) → Buf (Elt Ideal) ((c.tc : Thread Cert.Kernel6Ideal.nD Cert.Kernel6Ideal.τ).loc Cert.Kernel6Ideal.main_v195_2)) (v3 : (c : Dev Cert.Kernel6Ideal.nD) → Buf (Elt Ideal) ((c.tc : Thread Cert.Kernel6Ideal.nD Cert.Kernel6Ideal.τ).loc Cert.Kernel6Ideal.main_v195_3)) (v4 : (c : Dev Cert.Kernel6Ideal.nD) → Buf (Elt Ideal) ((c.tc : Thread Cert.Kernel6Ideal.nD Cert.Kernel6Ideal.τ).loc Cert.Kernel6Ideal.main_v195_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v195_0) = v0 c
          ∧ r.2.mem ((c.tc : Thread Cert.Kernel6Ideal.nD Cert.Kernel6Ideal.τ).loc Cert.Kernel6Ideal.main_v195_1) = v1 c
          ∧ r.2.mem ((c.tc : Thread Cert.Kernel6Ideal.nD Cert.Kernel6Ideal.τ).loc Cert.Kernel6Ideal.main_v195_2) = v2 c
          ∧ r.2.mem ((c.tc : Thread Cert.Kernel6Ideal.nD Cert.Kernel6Ideal.τ).loc Cert.Kernel6Ideal.main_v195_3) = v3 c
          ∧ r.2.mem ((c.tc : Thread Cert.Kernel6Ideal.nD Cert.Kernel6Ideal.τ).loc Cert.Kernel6Ideal.main_v195_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v647) = v0 c
          ∧ r.2.mem ((c.tc : Thread Cert.Reference6Ideal.nD Cert.Reference6Ideal.τ).loc Cert.Reference6Ideal.main_v658) = v1 c
          ∧ r.2.mem ((c.tc : Thread Cert.Reference6Ideal.nD Cert.Reference6Ideal.τ).loc Cert.Reference6Ideal.main_v659) = v2 c
          ∧ r.2.mem ((c.tc : Thread Cert.Reference6Ideal.nD Cert.Reference6Ideal.τ).loc Cert.Reference6Ideal.main_v264) = v3 c
          ∧ r.2.mem ((c.tc : Thread Cert.Reference6Ideal.nD Cert.Reference6Ideal.τ).loc Cert.Reference6Ideal.main_v655) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)) (v2 : (c : Dev Cert.Kernel16Ideal.nD) → Buf (Elt Ideal) ((c.tc : Thread Cert.Kernel16Ideal.nD Cert.Kernel16Ideal.τ).loc Cert.Kernel16Ideal.main_v2_2)) (v3 : (c : Dev Cert.Kernel16Ideal.nD) → Buf (Elt Ideal) ((c.tc : Thread Cert.Kernel16Ideal.nD Cert.Kernel16Ideal.τ).loc Cert.Kernel16Ideal.main_v2_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_v2_2) = v2 c
          ∧ r.2.mem ((c.tc : Thread Cert.Kernel16Ideal.nD Cert.Kernel16Ideal.τ).loc Cert.Kernel16Ideal.main_v2_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v61) = v0 c
          ∧ r.2.mem ((c.tc : Thread Cert.Reference16Ideal.nD Cert.Reference16Ideal.τ).loc Cert.Reference16Ideal.main_v62) = v1 c
          ∧ r.2.mem ((c.tc : Thread Cert.Reference16Ideal.nD Cert.Reference16Ideal.τ).loc Cert.Reference16Ideal.main_v37) = v2 c
          ∧ r.2.mem ((c.tc : Thread Cert.Reference16Ideal.nD Cert.Reference16Ideal.τ).loc Cert.Reference16Ideal.main_v34) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel3 : Cert.Kernel3.Facts) (hKernel3Ideal : Cert.Kernel3Ideal.Facts) (hReference3Ideal : Cert.Reference3Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite2 : Cert.Pre_finite2.Facts) (hPre_finite4 : Cert.Pre_finite4.Facts) (hPre_finite5 : Cert.Pre_finite5.Facts) (hPre_finite6 : Cert.Pre_finite6.Facts) (hPre_finite3 : Cert.Pre_finite3.Facts) (hPre_finite16 : Cert.Pre_finite16.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
-- ==== Pre_finite16.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg5 : FVec F S2048x4096 .f32) (main_arg6 : FVec F S2048x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S2048x4096 .f32 := Host.absf main_arg5
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S2048x1024 .f32 := Host.absf main_arg6
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x1024 .f32) (main_arg1 : FVec F S2048x1024 .f32) (main_arg2 : FVec F S1x1024 .f32) (main_arg3 : FVec F S1x1024 .f32) (main_arg4 : FVec F S1024x4096 .f32) (main_arg5 : FVec F S2048x4096 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg5 main_arg6 main_v13 main_v16
-- ==== Pre_finite2.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S2048x1024 .f32) (main_arg6 : FVec F S2048x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S2048x1024 .f32 := Host.absf main_arg5
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg6
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x1024 .f32) (main_arg1 : FVec F S2048x1024 .f32) (main_arg2 : FVec F S1x1024 .f32) (main_arg3 : FVec F S1x1024 .f32) (main_arg4 : FVec F S1024x1024 .f32) (main_arg5 : FVec F S2048x1024 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_v13 main_v16
-- ==== Pre_finite3.lean ====
abbrev S2048x5632 : Shape := ⟨2, ![2048, 5632]⟩
abbrev S2048x2048 : Shape := ⟨2, ![2048, 2048]⟩
abbrev S4x2048 : Shape := ⟨2, ![4, 2048]⟩
abbrev S1x2048 : Shape := ⟨2, ![1, 2048]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4x2048 : S_.BroadcastsInDim S4x2048 (![] : Fin 0 → Fin S4x2048.rank)
  reducesTo_S4x2048_S_d0_1 : S4x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S2048x5632 .f32) (main_arg1 : FVec F S2048x2048 .f32) (main_arg2 : FVec F S4x2048 .f32) (main_arg3 : FVec F S1x2048 .f32) : IVec S_ 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Pre_finite4.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_arg6 : FVec F S2048x1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S2048x1024 .f32) (main_arg1 : FVec F S2048x256 .f32) (main_arg2 : FVec F S1024x1024 .f32) (main_arg3 : FVec F S256x1024 .f32) (main_arg4 : FVec F S1x1024 .f32) (main_arg5 : FVec F S1x1024 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_v13 main_v16
-- ==== Pre_finite5.lean ====
abbrev S2048x2048 : Shape := ⟨2, ![2048, 2048]⟩
abbrev S2048x5632 : Shape := ⟨2, ![2048, 5632]⟩
abbrev S1x16 : Shape := ⟨2, ![1, 16]⟩
abbrev S1x1024 : Shape := ⟨2, ![1, 1024]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S1x16 : S_.BroadcastsInDim S1x16 (![] : Fin 0 → Fin S1x16.rank)
  reducesTo_S1x16_S_d0_1 : S1x16.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x16 .f32) (main_arg6 : FVec F S1x1024 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1x16 .f32 := Host.absf main_arg5
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1x1024 .f32 := Host.absf main_arg6
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S2048x2048 .f32) (main_arg1 : FVec F S2048x5632 .f32) (main_arg2 : FVec F S2048x2048 .f32) (main_arg3 : FVec F S1x16 .f32) (main_arg4 : FVec F S1x16 .f32) (main_arg5 : FVec F S1x16 .f32) (main_arg6 : FVec F S1x1024 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1x16 .f32 := Host.absf main_arg4
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg5 main_arg6 main_v13 main_v16
-- ==== Pre_finite6.lean ====
abbrev S2048x2048 : Shape := ⟨2, ![2048, 2048]⟩
abbrev S2048x5632 : Shape := ⟨2, ![2048, 5632]⟩
abbrev S1x16 : Shape := ⟨2, ![1, 16]⟩
abbrev S1x1024 : Shape := ⟨2, ![1, 1024]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S1x16 : S_.BroadcastsInDim S1x16 (![] : Fin 0 → Fin S1x16.rank)
  reducesTo_S1x16_S_d0_1 : S1x16.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x16 .f32) (main_arg5 : FVec F S1x16 .f32) (main_arg6 : FVec F S1x1024 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S2048x2048 .f32) (main_arg1 : FVec F S2048x5632 .f32) (main_arg2 : FVec F S2048x2048 .f32) (main_arg3 : FVec F S1x16 .f32) (main_arg4 : FVec F S1x16 .f32) (main_arg5 : FVec F S1x16 .f32) (main_arg6 : FVec F S1x1024 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_arg5 main_arg6 main_v13 main_v16
-- ==== Kernel.lean ====
abbrev S2048x1024 : Shape := ⟨2, ![2048, 1024]⟩
abbrev S4096x1024 : Shape := ⟨2, ![4096, 1024]⟩
abbrev S2048x4096 : Shape := ⟨2, ![2048, 4096]⟩
abbrev S512x1024 : Shape := ⟨2, ![512, 1024]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S2048x1024, .bf16⟩
  | .hbm, ⟨4, _⟩ => ⟨S4096x1024, .bf16⟩
  | .hbm, ⟨5, _⟩ => ⟨S2048x4096, .bf16⟩
  | .hbm, ⟨6, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S1024x1024, .bf16⟩
  | .hbm, ⟨9, _⟩ => ⟨S2048x1024, .f32⟩
  | .hbm, ⟨10, _⟩ => ⟨S2048x1024, .bf16⟩
  | .hbm, ⟨11, _⟩ => ⟨S1x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048, .f32⟩
  | .hbm, ⟨84, _⟩ => ⟨S2048x1024, .f32⟩
  | .hbm, ⟨85, _⟩ => ⟨S2048x1024, .f32⟩
  | .hbm, ⟨86, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel4.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S1x128 : Shape := ⟨2, ![1, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 16
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1024x1024, .bf16⟩
  | .hbm, ⟨9, _⟩ => ⟨S256x1024, .bf16⟩
  | .hbm, ⟨10, _⟩ => ⟨S1x128, .f32⟩
  | .hbm, ⟨11, _⟩ => ⟨S2048x1024, .bf16⟩
  | .hbm, ⟨12, _⟩ => ⟨S2048x1024, .bf16⟩
  | .hbm, ⟨13, _⟩ => ⟨S2048x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S1x2048x1024 : Shape := ⟨3, ![1, 2048, 1024]⟩
abbrev S1x2048x256 : Shape := ⟨3, ![1, 2048, 256]⟩
abbrev S_ : Shape := ⟨0, ![]⟩
abbrev S1024 : Shape := ⟨1, ![1024]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S2048x1024, .f32⟩
  | 1 => ⟨S2048x256, .f32⟩
  | 2 => ⟨S1024x1024, .f32⟩
  | 3 => ⟨S256x1024, .f32⟩
  | 4 => ⟨S1x1024, .f32⟩
  | 5 => ⟨S1x1024, .f32⟩
  | 6 => ⟨S2048x1024, .f32⟩
  | 7 => ⟨S1x2048x1024, .f32⟩
  | 8 => ⟨S1x2048x256, .f32⟩
  | 9 => ⟨S1x2048x1024, .f32⟩
  | 10 => ⟨S1x2048x1024, .f32⟩
  | 11 => ⟨S1x2048x1024, .f32⟩
  | 12 => ⟨S_, .f32⟩
  | 13 => ⟨S1x2048x1024, .f32⟩
  | 14 => ⟨S1x2048x1024, .f32⟩
  | 15 => ⟨S1024, .f32⟩
  | 16 => ⟨S1024, .f32⟩
  | 17 => ⟨S1x2048x1024, .f32⟩
  | 18 => ⟨S1x2048x1024, .f32⟩
  | 19 => ⟨S_, .f32⟩
  | 20 => ⟨S1x2048x1024, .f32⟩
  | 21 => ⟨S1x2048x1024, .f32⟩
  | 22 => ⟨S_, .f32⟩
  | 23 => ⟨S1x2048x1024, .f32⟩
  | 24 => ⟨S1x2048x1024, .f32⟩
  | 25 => ⟨S_, .f32⟩
  | 26 => ⟨S1x2048x1024, .f32⟩
  | 27 => ⟨S1x2048x1024, .f32⟩
  | 28 => ⟨S1x2048x1024, .f32⟩
  | 29 => ⟨S1x2048x1024, .f32⟩
  | 30 => ⟨S1x2048x1024, .f32⟩
  | 31 => ⟨S_, .f32⟩
  | 32 => ⟨S1x2048, .f32⟩
  | 33 => ⟨S1x2048x1, .f32⟩
  | 34 => ⟨S_, .f32⟩
  | 35 => ⟨S1x2048x1, .f32⟩
  | 36 => ⟨S1x2048x1, .f32⟩
  | 37 => ⟨S1x2048x1024, .f32⟩
  | 38 => ⟨S1x2048x1024, .f32⟩
  | 39 => ⟨S1x2048x1024, .f32⟩
  | 40 => ⟨S_, .f32⟩
  | 41 => ⟨S1x2048, .f32⟩
  | 42 => ⟨S1x2048x1, .f32⟩
  | 43 => ⟨S_, .f32⟩
  | 44 => ⟨S1x2048x1, .f32⟩
  | 45 => ⟨S1x2048x1, .f32⟩
  | 46 => ⟨S_, .f32⟩
  | 47 => ⟨S1x2048x1, .f32⟩
  | 48 => ⟨S1x2048x1, .f32⟩
  | 49 => ⟨S1x2048x1, .f32⟩
  | 50 => ⟨S1x2048x1, .f32⟩
  | 51 => ⟨S_, .f32⟩
  | 52 => ⟨S1x2048x1, .f32⟩
  | 53 => ⟨S1x2048x1, .f32⟩
  | 54 => ⟨S1x2048x1024, .f32⟩
  | 55 => ⟨S1x2048x1024, .f32⟩
  | 56 => ⟨S1x1x1024, .f32⟩
  | 57 => ⟨S1x2048x1024, .f32⟩
  | 58 => ⟨S1x2048x1024, .f32⟩
  | 59 => ⟨S1x1x1024, .f32⟩
  | 60 => ⟨S1x2048x1024, .f32⟩
  | 61 => ⟨S1x2048x1024, .f32⟩
  | 62 => ⟨S1x2048x1024, .f32⟩
  | 63 => ⟨S1x2048x1024, .f32⟩
  | 64 => ⟨S_, .f32⟩
  | 65 => ⟨S1x2048x1024, .f32⟩
  | 66 => ⟨S1x2048x1024, .f32⟩
  | 67 => ⟨S_, .f32⟩
  | 68 => ⟨S1x2048, .f32⟩
  | 69 => ⟨S_, .f32⟩
  | 70 => ⟨S1x2048, .f32⟩
  | 71 => ⟨S1x2048, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S1x2048, .f32⟩
  | 80 => ⟨S_, .f32⟩
  | 81 => ⟨S1x2048, .f32⟩
  | 82 => ⟨S1x2048, .f32⟩
  | 83 => ⟨S1x2048x1024, .f32⟩
  | 84 => ⟨S1x2048x1024, .f32⟩
  | 85 => ⟨S_, .f32⟩
  | 86 => ⟨S1x1024, .f32⟩
  | 87 => ⟨S1x1x1024, .f32⟩
  | 88 => ⟨S_, .f32⟩
  | 89 => ⟨S1024, .f32⟩
  | 90 => ⟨S1x2048x1024, .f32⟩
  | 91 => ⟨S_, .f32⟩
  | 92 => ⟨S1x1024, .f32⟩
  | 93 => ⟨S1x1x1024, .f32⟩
  | 94 => ⟨S1x2048x1024, .f32⟩
  | 95 => ⟨S1x2048x1024, .f32⟩
  | 96 => ⟨S_, .f32⟩
  | 97 => ⟨S1024, .f32⟩
  | 98 => ⟨S1x2048x1024, .f32⟩
  | 99 => ⟨S_, .f32⟩
  | 100 => ⟨S1x2048, .f32⟩
  | 101 => ⟨S1x2048x1, .f32⟩
  | 102 => ⟨S1x2048x1024, .f32⟩
  | 103 => ⟨S1x2048x1024, .f32⟩
  | 104 => ⟨S1x2048x1, .f32⟩
  | 105 => ⟨S_, .f32⟩
  | 106 => ⟨S1x2048x1, .f32⟩
  | 107 => ⟨S1x2048x1, .f32⟩
  | 108 => ⟨S_, .f32⟩
  | 109 => ⟨S2048, .f32⟩
  | 110 => ⟨S1x2048, .f32⟩
  | 111 => ⟨S1x2048x1024, .f32⟩
  | 112 => ⟨S1x2048x1024, .f32⟩
  | 113 => ⟨S1x2048x1024, .f32⟩
  | 114 => ⟨S1x2048x1024, .f32⟩
  | 115 => ⟨S1x2048x1024, .f32⟩
  | 116 => ⟨S1x2048x1024, .f32⟩
  | 117 => ⟨S_, .f32⟩
  | 118 => ⟨S1x2048, .f32⟩
  | 119 => ⟨S1x2048x1, .f32⟩
  | 120 => ⟨S_, .f32⟩
  | 121 => ⟨S1x2048x1, .f32⟩
  | 122 => ⟨S1x2048x1, .f32⟩
  | 123 => ⟨S_, .f32⟩
  | 124 => ⟨S2048, .f32⟩
  | 125 => ⟨S1x2048, .f32⟩
  | 126 => ⟨S1x2048x1024, .f32⟩
  | 127 => ⟨S1x2048x1024, .f32⟩
  | _ => ⟨S2048x1024, .f32⟩

abbrev hbmTy0_1 (i : Nat) : BufTy := match i % 128 with
  | 0 => ⟨S1x2048x1024, .f32⟩
  | 1 => ⟨S1x2048x1024, .f32⟩
  | 2 => ⟨S1x2048x1024, .f32⟩
  | 3 => ⟨S1x128, .f32⟩
  | 4 => ⟨S2048x1024, .f32⟩
  | 5 => ⟨S2048x1024, .bf16⟩
  | 6 => ⟨S2048x1024, .f32⟩
  | 7 => ⟨S2048x1024, .bf16⟩
  | 8 => ⟨S2048x1024, .f32⟩
  | 9 => ⟨S1x1024, .f32⟩
  | 10 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_cst_14 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_cst_16 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_v60 : Ref sig .tc := ⟨.hbm, 86, rfl⟩
abbrev main_v61 : Ref sig .tc := ⟨.hbm, 87, rfl⟩
abbrev main_cst_18 : Ref sig .tc := ⟨.hbm, 88, rfl⟩
abbrev main_v62 : Ref sig .tc := ⟨.hbm, 89, rfl⟩
abbrev main_v63 : Ref sig .tc := ⟨.hbm, 90, rfl⟩
abbrev main_cst_19 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_20 : Ref sig .tc := ⟨.hbm, 96, rfl⟩
abbrev main_v68 : Ref sig .tc := ⟨.hbm, 97, rfl⟩
abbrev main_v69 : Ref sig .tc := ⟨.hbm, 98, rfl⟩
abbrev main_cst_21 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_22 : Ref sig .tc := ⟨.hbm, 105, rfl⟩
abbrev main_v75 : Ref sig .tc := ⟨.hbm, 106, rfl⟩
abbrev main_v76 : Ref sig .tc := ⟨.hbm, 107, rfl⟩
abbrev main_cst_23 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_24 : Ref sig .tc := ⟨.hbm, 117, rfl⟩
abbrev main_v85 : Ref sig .tc := ⟨.hbm, 118, rfl⟩
abbrev main_v86 : Ref sig .tc := ⟨.hbm, 119, rfl⟩
abbrev main_cst_25 : Ref sig .tc := ⟨.hbm, 120, rfl⟩
abbrev main_v87 : Ref sig .tc := ⟨.hbm, 121, rfl⟩
abbrev main_v88 : Ref sig .tc := ⟨.hbm, 122, rfl⟩
abbrev main_cst_26 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]
-- ==== Kernel5.lean ====
abbrev S2048x2048 : Shape := ⟨2, ![2048, 2048]⟩
abbrev S2048x5632 : Shape := ⟨2, ![2048, 5632]⟩
abbrev S1x16 : Shape := ⟨2, ![1, 16]⟩
abbrev S1x1024 : Shape := ⟨2, ![1, 1024]⟩
abbrev S_ : Shape := ⟨0, ![]⟩
abbrev S1x112 : Shape := ⟨2, ![1, 112]⟩
abbrev S1x128 : Shape := ⟨2, ![1, 128]⟩
abbrev S1x16x64 : Shape := ⟨3, ![1, 16, 64]⟩
abbrev S16x128x1024 : Shape := ⟨3, ![16, 128, 1024]⟩
abbrev S128x2048 : Shape := ⟨2, ![128, 2048]⟩
abbrev S128x128 : Shape := ⟨2, ![128, 128]⟩
abbrev S128x1024 : Shape := ⟨2, ![128, 1024]⟩
abbrev S1x128x1024 : Shape := ⟨3, ![1, 128, 1024]⟩
abbrev S128 : Shape := ⟨1, ![128]⟩
abbrev S128x256 : Shape := ⟨2, ![128, 256]⟩
abbrev S1x256 : Shape := ⟨2, ![1, 256]⟩
abbrev S128x1 : Shape := ⟨2, ![128, 1]⟩
abbrev S1 : Shape := ⟨1, ![1]⟩
abbrev S1x1 : Shape := ⟨2, ![1, 1]⟩

abbrev nBuf : Space → Nat
  | .hbm => 18
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S2048x2048, .bf16⟩
  | .hbm, ⟨8, _⟩ => ⟨S_, .f32⟩
  | .hbm, ⟨9, _⟩ => ⟨S1x112, .f32⟩
  | .hbm, ⟨10, _⟩ => ⟨S1x128, .f32⟩
  | .hbm, ⟨11, _⟩ => ⟨S_, .f32⟩
  | .hbm, ⟨12, _⟩ => ⟨S1x112, .f32⟩
  | .hbm, ⟨13, _⟩ => ⟨S1x128, .f32⟩
  | .hbm, ⟨14, _⟩ => ⟨S1x16x64, .f32⟩
  | .hbm, ⟨15, _⟩ => ⟨S1x1024, .f32⟩
  | .hbm, ⟨16, _⟩ => ⟨S2048x2048, .bf16⟩
  | .hbm, ⟨17, _⟩ => ⟨S16x128x1024, .f32⟩
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x128, .f32⟩
  | .local _ .vmem, ⟨4, _⟩ => ⟨S128x1024, .f32⟩
  | .local _ .vmem, ⟨5, _⟩ => ⟨S128x1024, .f32⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S128x1024, .bf16⟩
  | .local _ .vmem, ⟨11, _⟩ => ⟨S128x1024, .bf16⟩
  | .local _ .vmem, ⟨12, _⟩ => ⟨S1x128x1024, .f32⟩
  | .local _ .vmem, ⟨13, _⟩ => ⟨S1x128x1024, .f32⟩
  | .local _ .vmem, ⟨14, _⟩ => ⟨S128x1024, .f32⟩
  | .local _ .vmem, ⟨15, _⟩ => ⟨S128x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S2048x2048 : Shape := ⟨2, ![2048, 2048]⟩
abbrev S2048x5632 : Shape := ⟨2, ![2048, 5632]⟩
abbrev S1x16 : Shape := ⟨2, ![1, 16]⟩
abbrev S1x1024 : Shape := ⟨2, ![1, 1024]⟩
abbrev S2048x1024 : Shape := ⟨2, ![2048, 1024]⟩
abbrev S2048x16 : Shape := ⟨2, ![2048, 16]⟩
abbrev S2048x16x64 : Shape := ⟨3, ![2048, 16, 64]⟩
abbrev S2048x512 : Shape := ⟨2, ![2048, 512]⟩
abbrev S2048x4x128 : Shape := ⟨3, ![2048, 4, 128]⟩
abbrev S_ : Shape := ⟨0, ![]⟩
abbrev S16 : Shape := ⟨1, ![16]⟩
abbrev S2048x16x1 : Shape := ⟨3, ![2048, 16, 1]⟩
abbrev S16x128x4x4x64 : Shape := ⟨5, ![16, 128, 4, 4, 64]⟩
abbrev S16x128x4x4 : Shape := ⟨4, ![16, 128, 4, 4]⟩
abbrev S4x4x16x128 : Shape := ⟨4, ![4, 4, 16, 128]⟩
abbrev S16x128x4x128 : Shape := ⟨4, ![16, 128, 4, 128]⟩
abbrev S128x128 : Shape := ⟨2, ![128, 128]⟩
abbrev S4x4x16x128x1 : Shape := ⟨5, ![4, 4, 16, 128, 1]⟩
abbrev S4x4x16x1x128 : Shape := ⟨5, ![4, 4, 16, 1, 128]⟩
abbrev S4x4x16x128x128 : Shape := ⟨5, ![4, 4, 16, 128, 128]⟩
abbrev S4x16x128x128 : Shape := ⟨4, ![4, 16, 128, 128]⟩
abbrev S4x1x16x128x128 : Shape := ⟨5, ![4, 1, 16, 128, 128]⟩
abbrev S16x4x4x64x128 : Shape := ⟨5, ![16, 4, 4, 64, 128]⟩
abbrev S4x4x16x1 : Shape := ⟨4, ![4, 4, 16, 1]⟩
abbrev S16x128x4x4x1 : Shape := ⟨5, ![16, 128, 4, 4, 1]⟩
abbrev S4x4x16 : Shape := ⟨3, ![4, 4, 16]⟩
abbrev S4x4x64x128 : Shape := ⟨4, ![4, 4, 64, 128]⟩
abbrev S16x4x4 : Shape := ⟨3, ![16, 4, 4]⟩
abbrev S0x4x4x64x128 : Shape := ⟨5, ![0, 4, 4, 64, 128]⟩
abbrev S0x4x4 : Shape := ⟨3, ![0, 4, 4]⟩
abbrev S1x4x4x64x128 : Shape := ⟨5, ![1, 4, 4, 64, 128]⟩
abbrev S1x4x4 : Shape := ⟨3, ![1, 4, 4]⟩
abbrev S4x4 : Shape := ⟨2, ![4, 4]⟩
abbrev S4x4x1x1 : Shape := ⟨4, ![4, 4, 1, 1]⟩
abbrev S16x128x1024 : Shape := ⟨3, ![16, 128, 1024]⟩
abbrev S16x1 : Shape := ⟨2, ![16, 1]⟩
abbrev S1x16x1 : Shape := ⟨3, ![1, 16, 1]⟩
abbrev S2048x4x256 : Shape := ⟨3, ![2048, 4, 256]⟩
abbrev S2048x4 : Shape := ⟨2, ![2048, 4]⟩
abbrev S2048x4x1 : Shape := ⟨3, ![2048, 4, 1]⟩

abbrev nBuf : Space → Nat
  | .hbm => 292
  | .vmem => 0
  | .smem => 0
  | _ => 0

abbrev hbmTy0_0 (i : Nat) : BufTy := match i % 128 with
  | 0 => ⟨S2048x2048, .f32⟩
  | 1 => ⟨S2048x5632, .f32⟩
  | 2 => ⟨S2048x2048, .f32⟩
  | 3 => ⟨S1x16, .f32⟩
  | 4 => ⟨S1x16, .f32⟩
  | 5 => ⟨S1x16, .f32⟩
  | 6 => ⟨S1x1024, .f32⟩
  | 7 => ⟨S2048x1024, .f32⟩
  | 8 => ⟨S2048x16, .f32⟩
  | 9 => ⟨S2048x1024, .f32⟩
  | 10 => ⟨S2048x16x64, .f32⟩
  | 11 => ⟨S2048x512, .f32⟩
  | 12 => ⟨S2048x4x128, .f32⟩
  | 13 => ⟨S2048x512, .f32⟩
  | 14 => ⟨S2048x4x128, .f32⟩
  | 15 => ⟨S2048x16, .f32⟩
  | 16 => ⟨S2048x16, .f32⟩
  | 17 => ⟨S_, .f32⟩
  | 18 => ⟨S2048x16, .f32⟩
  | 19 => ⟨S2048x16, .f32⟩
  | 20 => ⟨S2048x16, .f32⟩
  | 21 => ⟨S2048x16, .f32⟩
  | 22 => ⟨S2048x16, .i1⟩
  | 23 => ⟨S2048x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S2048x16, .f32⟩
  | 30 => ⟨S2048x16, .f32⟩
  | 31 => ⟨S16, .f32⟩
  | 32 => ⟨S16, .f32⟩
  | 33 => ⟨S16, .f32⟩
  | 34 => ⟨S2048x16x1, .f32⟩
  | 35 => ⟨S2048x16x64, .f32⟩
  | 36 => ⟨S2048x16x64, .f32⟩
  | 37 => ⟨S16x128x4x4x64, .f32⟩
  | 38 => ⟨S1x16, .f32⟩
  | 39 => ⟨S2048x16, .f32⟩
  | 40 => ⟨S2048x16, .f32⟩
  | 41 => ⟨S16x128x4x4, .f32⟩
  | 42 => ⟨S4x4x16x128, .f32⟩
  | 43 => ⟨S16x128x4x128, .f32⟩
  | 44 => ⟨S16x128x4x128, .f32⟩
  | 45 => ⟨S_, .f32⟩
  | 46 => ⟨S_, .f32⟩
  | 47 => ⟨S4x4x16x128, .f32⟩
  | 48 => ⟨S_, .i1⟩
  | 49 => ⟨S128x128, .i1⟩
  | 50 => ⟨S128x128, .i32⟩
  | 51 => ⟨S_, .i32⟩
  | 52 => ⟨S128x128, .i32⟩
  | 53 => ⟨S128x128, .i32⟩
  | 54 => ⟨S128x128, .i32⟩
  | 55 => ⟨S128x128, .i1⟩
  | 56 => ⟨S_, .i1⟩
  | 57 => ⟨S128x128, .i1⟩
  | 58 => ⟨S128x128, .i1⟩
  | 59 => ⟨S4x4x16x128x1, .f32⟩
  | 60 => ⟨S4x4x16x1x128, .f32⟩
  | 61 => ⟨S4x4x16x128x128, .f32⟩
  | 62 => ⟨S4x4x16x128x128, .f32⟩
  | 63 => ⟨S4x4x16x128x128, .f32⟩
  | 64 => ⟨S_, .f32⟩
  | 65 => ⟨S_, .f32⟩
  | 66 => ⟨S4x4x16x128x128, .i1⟩
  | 67 => ⟨S4x4x16x128x128, .f32⟩
  | 68 => ⟨S4x4x16x128x128, .f32⟩
  | 69 => ⟨S4x4x16x128x128, .f32⟩
  | 70 => ⟨S4x16x128x128, .f32⟩
  | 71 => ⟨S4x1x16x128x128, .f32⟩
  | 72 => ⟨S4x4x16x128x128, .f32⟩
  | 73 => ⟨S4x4x16x128x128, .f32⟩
  | 74 => ⟨S16x4x4x64x128, .f32⟩
  | 75 => ⟨S16x128x4x4x64, .f32⟩
  | 76 => ⟨S4x4x16x1, .f32⟩
  | 77 => ⟨S4x4x16x128, .f32⟩
  | 78 => ⟨S4x4x16x128, .f32⟩
  | 79 => ⟨S4x4x16x128, .f32⟩
  | 80 => ⟨S16x128x4x4, .f32⟩
  | 81 => ⟨S16x128x4x4x1, .f32⟩
  | 82 => ⟨S16x128x4x4x64, .f32⟩
  | 83 => ⟨S16x128x4x4x64, .f32⟩
  | 84 => ⟨S16x4x4x64x128, .f32⟩
  | 85 => ⟨S4x4x16x1, .f32⟩
  | 86 => ⟨S4x4x16, .f32⟩
  | 87 => ⟨S4x4x16, .f32⟩
  | 88 => ⟨S_, .f32⟩
  | 89 => ⟨S4x4x64x128, .f32⟩
  | 90 => ⟨S16x4x4, .f32⟩
  | 91 => ⟨S0x4x4x64x128, .f32⟩
  | 92 => ⟨S16x4x4x64x128, .f32⟩
  | 93 => ⟨S0x4x4, .f32⟩
  | 94 => ⟨S16x4x4, .f32⟩
  | 95 => ⟨S_, .f32⟩
  | 96 => ⟨S0x4x4x64x128, .f32⟩
  | 97 => ⟨S1x4x4x64x128, .f32⟩
  | 98 => ⟨S4x4x64x128, .f32⟩
  | 99 => ⟨S1x4x4, .f32⟩
  | 100 => ⟨S4x4, .f32⟩
  | 101 => ⟨S4x4x1x1, .f32⟩
  | 102 => ⟨S4x4x64x128, .f32⟩
  | 103 => ⟨S4x4x64x128, .f32⟩
  | 104 => ⟨S4x4x64x128, .f32⟩
  | 105 => ⟨S1x4x4x64x128, .f32⟩
  | 106 => ⟨S4x4x64x128, .f32⟩
  | 107 => ⟨S1x4x4, .f32⟩
  | 108 => ⟨S4x4, .f32⟩
  | 109 => ⟨S4x4x1x1, .f32⟩
  | 110 => ⟨S4x4x64x128, .f32⟩
  | 111 => ⟨S4x4x64x128, .f32⟩
  | 112 => ⟨S4x4x64x128, .f32⟩
  | 113 => ⟨S1x4x4x64x128, .f32⟩
  | 114 => ⟨S4x4x64x128, .f32⟩
  | 115 => ⟨S1x4x4, .f32⟩
  | 116 => ⟨S4x4, .f32⟩
  | 117 => ⟨S4x4x1x1, .f32⟩
  | 118 => ⟨S4x4x64x128, .f32⟩
  | 119 => ⟨S4x4x64x128, .f32⟩
  | 120 => ⟨S4x4x64x128, .f32⟩
  | 121 => ⟨S1x4x4x64x128, .f32⟩
  | 122 => ⟨S4x4x64x128, .f32⟩
  | 123 => ⟨S1x4x4, .f32⟩
  | 124 => ⟨S4x4, .f32⟩
  | 125 => ⟨S4x4x1x1, .f32⟩
  | 126 => ⟨S4x4x64x128, .f32⟩
  | 127 => ⟨S4x4x64x128, .f32⟩
  | _ => ⟨S2048x2048, .f32⟩

abbrev hbmTy0_1 (i : Nat) : BufTy := match i % 128 with
  | 0 => ⟨S4x4x64x128, .f32⟩
  | 1 => ⟨S1x4x4x64x128, .f32⟩
  | 2 => ⟨S4x4x64x128, .f32⟩
  | 3 => ⟨S1x4x4, .f32⟩
  | 4 => ⟨S4x4, .f32⟩
  | 5 => ⟨S4x4x1x1, .f32⟩
  | 6 => ⟨S4x4x64x128, .f32⟩
  | 7 => ⟨S4x4x64x128, .f32⟩
  | 8 => ⟨S4x4x64x128, .f32⟩
  | 9 => ⟨S1x4x4x64x128, .f32⟩
  | 10 => ⟨S4x4x64x128, .f32⟩
  | 11 => ⟨S1x4x4, .f32⟩
  | 12 => ⟨S4x4, .f32⟩
  | 13 => ⟨S4x4x1x1, .f32⟩
  | 14 => ⟨S4x4x64x128, .f32⟩
  | 15 => ⟨S4x4x64x128, .f32⟩
  | 16 => ⟨S4x4x64x128, .f32⟩
  | 17 => ⟨S1x4x4x64x128, .f32⟩
  | 18 => ⟨S4x4x64x128, .f32⟩
  | 19 => ⟨S1x4x4, .f32⟩
  | 20 => ⟨S4x4, .f32⟩
  | 21 => ⟨S4x4x1x1, .f32⟩
  | 22 => ⟨S4x4x64x128, .f32⟩
  | 23 => ⟨S4x4x64x128, .f32⟩
  | 24 => ⟨S4x4x64x128, .f32⟩
  | 25 => ⟨S1x4x4x64x128, .f32⟩
  | 26 => ⟨S4x4x64x128, .f32⟩
  | 27 => ⟨S1x4x4, .f32⟩
  | 28 => ⟨S4x4, .f32⟩
  | 29 => ⟨S4x4x1x1, .f32⟩
  | 30 => ⟨S4x4x64x128, .f32⟩
  | 31 => ⟨S4x4x64x128, .f32⟩
  | 32 => ⟨S4x4x64x128, .f32⟩
  | 33 => ⟨S1x4x4x64x128, .f32⟩
  | 34 => ⟨S4x4x64x128, .f32⟩
  | 35 => ⟨S1x4x4, .f32⟩
  | 36 => ⟨S4x4, .f32⟩
  | 37 => ⟨S4x4x1x1, .f32⟩
  | 38 => ⟨S4x4x64x128, .f32⟩
  | 39 => ⟨S4x4x64x128, .f32⟩
  | 40 => ⟨S4x4x64x128, .f32⟩
  | 41 => ⟨S1x4x4x64x128, .f32⟩
  | 42 => ⟨S4x4x64x128, .f32⟩
  | 43 => ⟨S1x4x4, .f32⟩
  | 44 => ⟨S4x4, .f32⟩
  | 45 => ⟨S4x4x1x1, .f32⟩
  | 46 => ⟨S4x4x64x128, .f32⟩
  | 47 => ⟨S4x4x64x128, .f32⟩
  | 48 => ⟨S4x4x64x128, .f32⟩
  | 49 => ⟨S1x4x4x64x128, .f32⟩
  | 50 => ⟨S4x4x64x128, .f32⟩
  | 51 => ⟨S1x4x4, .f32⟩
  | 52 => ⟨S4x4, .f32⟩
  | 53 => ⟨S4x4x1x1, .f32⟩
  | 54 => ⟨S4x4x64x128, .f32⟩
  | 55 => ⟨S4x4x64x128, .f32⟩
  | 56 => ⟨S4x4x64x128, .f32⟩
  | 57 => ⟨S1x4x4x64x128, .f32⟩
  | 58 => ⟨S4x4x64x128, .f32⟩
  | 59 => ⟨S1x4x4, .f32⟩
  | 60 => ⟨S4x4, .f32⟩
  | 61 => ⟨S4x4x1x1, .f32⟩
  | 62 => ⟨S4x4x64x128, .f32⟩
  | 63 => ⟨S4x4x64x128, .f32⟩
  | 64 => ⟨S4x4x64x128, .f32⟩
  | 65 => ⟨S1x4x4x64x128, .f32⟩
  | 66 => ⟨S4x4x64x128, .f32⟩
  | 67 => ⟨S1x4x4, .f32⟩
  | 68 => ⟨S4x4, .f32⟩
  | 69 => ⟨S4x4x1x1, .f32⟩
  | 70 => ⟨S4x4x64x128, .f32⟩
  | 71 => ⟨S4x4x64x128, .f32⟩
  | 72 => ⟨S4x4x64x128, .f32⟩
  | 73 => ⟨S1x4x4x64x128, .f32⟩
  | 74 => ⟨S4x4x64x128, .f32⟩
  | 75 => ⟨S1x4x4, .f32⟩
  | 76 => ⟨S4x4, .f32⟩
  | 77 => ⟨S4x4x1x1, .f32⟩
  | 78 => ⟨S4x4x64x128, .f32⟩
  | 79 => ⟨S4x4x64x128, .f32⟩
  | 80 => ⟨S4x4x64x128, .f32⟩
  | 81 => ⟨S1x4x4x64x128, .f32⟩
  | 82 => ⟨S4x4x64x128, .f32⟩
  | 83 => ⟨S1x4x4, .f32⟩
  | 84 => ⟨S4x4, .f32⟩
  | 85 => ⟨S4x4x1x1, .f32⟩
  | 86 => ⟨S4x4x64x128, .f32⟩
  | 87 => ⟨S4x4x64x128, .f32⟩
  | 88 => ⟨S4x4x64x128, .f32⟩
  | 89 => ⟨S1x4x4x64x128, .f32⟩
  | 90 => ⟨S4x4x64x128, .f32⟩
  | 91 => ⟨S1x4x4, .f32⟩
  | 92 => ⟨S4x4, .f32⟩
  | 93 => ⟨S4x4x1x1, .f32⟩
  | 94 => ⟨S4x4x64x128, .f32⟩
  | 95 => ⟨S4x4x64x128, .f32⟩
  | 96 => ⟨S4x4x64x128, .f32⟩
  | 97 => ⟨S1x4x4x64x128, .f32⟩
  | 98 => ⟨S1x4x4x64x128, .f32⟩
  | 99 => ⟨S1x4x4x64x128, .f32⟩
  | 100 => ⟨S1x4x4x64x128, .f32⟩
  | 101 => ⟨S1x4x4x64x128, .f32⟩
  | 102 => ⟨S1x4x4x64x128, .f32⟩
  | 103 => ⟨S1x4x4x64x128, .f32⟩
  | 104 => ⟨S1x4x4x64x128, .f32⟩
  | 105 => ⟨S1x4x4x64x128, .f32⟩
  | 106 => ⟨S1x4x4x64x128, .f32⟩
  | 107 => ⟨S1x4x4x64x128, .f32⟩
  | 108 => ⟨S1x4x4x64x128, .f32⟩
  | 109 => ⟨S1x4x4x64x128, .f32⟩
  | 110 => ⟨S1x4x4x64x128, .f32⟩
  | 111 => ⟨S1x4x4x64x128, .f32⟩
  | 112 => ⟨S1x4x4x64x128, .f32⟩
  | 113 => ⟨S16x4x4x64x128, .f32⟩
  | 114 => ⟨S16x4x4x64x128, .f32⟩
  | 115 => ⟨S16x4x4x64x128, .f32⟩
  | 116 => ⟨S16x128x4x4x64, .f32⟩
  | 117 => ⟨S4x4x16x128, .f32⟩
  | 118 => ⟨S16x128x4x4, .f32⟩
  | 119 => ⟨S16x128x4x4x1, .f32⟩
  | 120 => ⟨S16x128x4x4x64, .f32⟩
  | 121 => ⟨S16x128x4x4x64, .f32⟩
  | 122 => ⟨S16x128x4x4x64, .f32⟩
  | 123 => ⟨S2048x16x64, .f32⟩
  | 124 => ⟨S16x128x4x4x64, .f32⟩
  | 125 => ⟨S16x128x1024, .f32⟩
  | 126 => ⟨S16, .f32⟩
  | 127 => ⟨S16x1, .f32⟩
  | _ => ⟨S2048x2048, .f32⟩

abbrev hbmTy0_2 (i : Nat) : BufTy := match i % 128 with
  | 0 => ⟨S1x16x1, .f32⟩
  | 1 => ⟨S2048x16x64, .f32⟩
  | 2 => ⟨S2048x16x64, .f32⟩
  | 3 => ⟨S2048x16x64, .f32⟩
  | 4 => ⟨S2048x1024, .f32⟩
  | 5 => ⟨S2048x1024, .f32⟩
  | 6 => ⟨S2048x1024, .f32⟩
  | 7 => ⟨S_, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S2048x1024, .f32⟩
  | 14 => ⟨S2048x1024, .f32⟩
  | 15 => ⟨S2048x4x256, .f32⟩
  | 16 => ⟨S2048x4x256, .f32⟩
  | 17 => ⟨S_, .f32⟩
  | 18 => ⟨S2048x4, .f32⟩
  | 19 => ⟨S2048x4x1, .f32⟩
  | 20 => ⟨S_, .f32⟩
  | 21 => ⟨S2048x4x1, .f32⟩
  | 22 => ⟨S2048x4x1, .f32⟩
  | 23 => ⟨S_, .f32⟩
  | 24 => ⟨S2048x4x1, .f32⟩
  | 25 => ⟨S2048x4x1, .f32⟩
  | 26 => ⟨S2048x4x1, .f32⟩
  | 27 => ⟨S2048x4x256, .f32⟩
  | 28 => ⟨S2048x4x256, .f32⟩
  | 29 => ⟨S2048x1024, .f32⟩
  | 30 => ⟨S2048x1024, .f32⟩
  | 31 => ⟨S2048x1024, .f32⟩
  | 32 => ⟨S2048x1024, .f32⟩
  | 33 => ⟨S2048x1024, .bf16⟩
  | 34 => ⟨S2048x1024, .bf16⟩
  | 35 => ⟨S2048x2048, .bf16⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_call0_cst : Ref sig .tc := ⟨.hbm, 45, rfl⟩
abbrev main_call1_call0_v0 : Ref sig .tc := ⟨.hbm, 46, rfl⟩
abbrev main_v25 : Ref sig .tc := ⟨.hbm, 47, rfl⟩
abbrev main_c : Ref sig .tc := ⟨.hbm, 48, rfl⟩
abbrev main_v26 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_0 : Ref sig .tc := ⟨.hbm, 56, rfl⟩
abbrev main_call2_v5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_1 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_call4_v0 : Ref sig .tc := ⟨.hbm, 261, rfl⟩
abbrev main_call4_v1 : Ref sig .tc := ⟨.hbm, 262, rfl⟩
abbrev main_call4_cst : Ref sig .tc := ⟨.hbm, 263, rfl⟩
abbrev main_call4_v2 : Ref sig .tc := ⟨.hbm, 264, rfl⟩
abbrev main_call4_v3 : Ref sig .tc := ⟨.hbm, 265, rfl⟩
abbrev main_call4_cst_0 : Ref sig .tc := ⟨.hbm, 266, rfl⟩
abbrev main_call4_v4 : Ref sig .tc := ⟨.hbm, 267, rfl⟩
abbrev main_call4_v5 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_cst_2 : Ref sig .tc := ⟨.hbm, 273, rfl⟩
abbrev main_v228 : Ref sig .tc := ⟨.hbm, 274, rfl⟩
abbrev main_v229 : Ref sig .tc := ⟨.hbm, 275, rfl⟩
abbrev main_cst_3 : Ref sig .tc := ⟨.hbm, 276, rfl⟩
abbrev main_v230 : Ref sig .tc := ⟨.hbm, 277, rfl⟩
abbrev main_v231 : Ref sig .tc := ⟨.hbm, 278, rfl⟩
abbrev main_cst_4 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩

abbrev nD : Nat := 1
abbrev τ : Topo := Topo.v7x

variable {F : FTy → Type} [FloatOps F]
-- ==== Kernel6.lean ====
abbrev S2048x2048 : Shape := ⟨2, ![2048, 2048]⟩
abbrev S2048x5632 : Shape := ⟨2, ![2048, 5632]⟩
abbrev S1x16 : Shape := ⟨2, ![1, 16]⟩
abbrev S1x1024 : Shape := ⟨2, ![1, 1024]⟩
abbrev S2048x1024 : Shape := ⟨2, ![2048, 1024]⟩
abbrev S2048x16x64 : Shape := ⟨3, ![2048, 16, 64]⟩
abbrev S2048x512 : Shape := ⟨2, ![2048, 512]⟩
abbrev S2048x4x128 : Shape := ⟨3, ![2048, 4, 128]⟩
abbrev S2048x16 : Shape := ⟨2, ![2048, 16]⟩
abbrev S_ : Shape := ⟨0, ![]⟩
abbrev S2048x16x1 : Shape := ⟨3, ![2048, 16, 1]⟩
abbrev S16x128x4x4x64 : Shape := ⟨5, ![16, 128, 4, 4, 64]⟩
abbrev S16x128x4x4 : Shape := ⟨4, ![16, 128, 4, 4]⟩
abbrev S4x4x16x128 : Shape := ⟨4, ![4, 4, 16, 128]⟩
abbrev S16x128x4x128 : Shape := ⟨4, ![16, 128, 4, 128]⟩
abbrev S4x4x16x1 : Shape := ⟨4, ![4, 4, 16, 1]⟩
abbrev S16x128x4x4x1 : Shape := ⟨5, ![16, 128, 4, 4, 1]⟩
abbrev S16x4x4x64x128 : Shape := ⟨5, ![16, 4, 4, 64, 128]⟩
abbrev S4x4x16 : Shape := ⟨3, ![4, 4, 16]⟩
abbrev S4x4x64x128 : Shape := ⟨4, ![4, 4, 64, 128]⟩
abbrev S16x4x4 : Shape := ⟨3, ![16, 4, 4]⟩
abbrev S0x4x4x64x128 : Shape := ⟨5, ![0, 4, 4, 64, 128]⟩
abbrev S0x4x4 : Shape := ⟨3, ![0, 4, 4]⟩
abbrev S1x4x4x64x128 : Shape := ⟨5, ![1, 4, 4, 64, 128]⟩
abbrev S1x4x4 : Shape := ⟨3, ![1, 4, 4]⟩
abbrev S4x4 : Shape := ⟨2, ![4, 4]⟩
abbrev S4x4x1x1 : Shape := ⟨4, ![4, 4, 1, 1]⟩
abbrev S16x128x1024 : Shape := ⟨3, ![16, 128, 1024]⟩
abbrev S1x112 : Shape := ⟨2, ![1, 112]⟩
abbrev S1x128 : Shape := ⟨2, ![1, 128]⟩
abbrev S1x16x64 : Shape := ⟨3, ![1, 16, 64]⟩
abbrev S2048x128 : Shape := ⟨2, ![2048, 128]⟩
abbrev S8x128 : Shape := ⟨2, ![8, 128]⟩
abbrev S128x2048 : Shape := ⟨2, ![128, 2048]⟩
abbrev S128x128 : Shape := ⟨2, ![128, 128]⟩
abbrev S128x1024 : Shape := ⟨2, ![128, 1024]⟩
abbrev S1x128x1024 : Shape := ⟨3, ![1, 128, 1024]⟩
abbrev S8x1024 : Shape := ⟨2, ![8, 1024]⟩
abbrev S128 : Shape := ⟨1, ![128]⟩
abbrev S128x256 : Shape := ⟨2, ![128, 256]⟩
abbrev S1x128x256 : Shape := ⟨3, ![1, 128, 256]⟩
abbrev S1x256 : Shape := ⟨2, ![1, 256]⟩
abbrev S128x1 : Shape := ⟨2, ![128, 1]⟩
abbrev S1 : Shape := ⟨1, ![1]⟩
abbrev S1x1 : Shape := ⟨2, ![1, 1]⟩
abbrev S256 : Shape := ⟨1, ![256]⟩
abbrev S1024x128 : Shape := ⟨2, ![1024, 128]⟩

abbrev nBuf : Space → Nat
  | .hbm => 226
  | .vmem => 27
  | .smem => 0
  | _ => 0

abbrev hbmTy0_0 (i : Nat) : BufTy := match i % 128 with
  | 0 => ⟨S2048x2048, .f32⟩
  | 1 => ⟨S2048x5632, .f32⟩
  | 2 => ⟨S2048x2048, .f32⟩
  | 3 => ⟨S1x16, .f32⟩
  | 4 => ⟨S1x16, .f32⟩
  | 5 => ⟨S1x16, .f32⟩
  | 6 => ⟨S1x1024, .f32⟩
  | 7 => ⟨S2048x1024, .f32⟩
  | 8 => ⟨S2048x16x64, .f32⟩
  | 9 => ⟨S2048x512, .f32⟩
  | 10 => ⟨S2048x4x128, .f32⟩
  | 11 => ⟨S2048x512, .f32⟩
  | 12 => ⟨S2048x4x128, .f32⟩
  | 13 => ⟨S2048x16, .f32⟩
  | 14 => ⟨S2048x16, .f32⟩
  | 15 => ⟨S2048x16, .f32⟩
  | 16 => ⟨S_, .f32⟩
  | 17 => ⟨S2048x16, .f32⟩
  | 18 => ⟨S2048x16, .f32⟩
  | 19 => ⟨S2048x16, .f32⟩
  | 20 => ⟨S2048x16, .f32⟩
  | 21 => ⟨S2048x16, .i1⟩
  | 22 => ⟨S2048x16, .f32⟩
  | 23 => ⟨S2048x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S2048x16, .f32⟩
  | 30 => ⟨S1x16, .f32⟩
  | 31 => ⟨S1x16, .f32⟩
  | 32 => ⟨S2048x16x1, .f32⟩
  | 33 => ⟨S2048x16x64, .f32⟩
  | 34 => ⟨S2048x16x64, .f32⟩
  | 35 => ⟨S16x128x4x4x64, .f32⟩
  | 36 => ⟨S2048x16, .f32⟩
  | 37 => ⟨S2048x16, .f32⟩
  | 38 => ⟨S16x128x4x4, .f32⟩
  | 39 => ⟨S4x4x16x128, .f32⟩
  | 40 => ⟨S16x128x4x128, .f32⟩
  | 41 => ⟨S_, .f32⟩
  | 42 => ⟨S_, .f32⟩
  | 43 => ⟨S4x4x16x128, .f32⟩
  | 44 => ⟨S4x4x16x1, .f32⟩
  | 45 => ⟨S4x4x16x128, .f32⟩
  | 46 => ⟨S4x4x16x128, .f32⟩
  | 47 => ⟨S4x4x16x128, .f32⟩
  | 48 => ⟨S16x128x4x4, .f32⟩
  | 49 => ⟨S16x128x4x4x1, .f32⟩
  | 50 => ⟨S16x128x4x4x64, .f32⟩
  | 51 => ⟨S16x128x4x4x64, .f32⟩
  | 52 => ⟨S16x4x4x64x128, .f32⟩
  | 53 => ⟨S4x4x16x1, .f32⟩
  | 54 => ⟨S4x4x16, .f32⟩
  | 55 => ⟨S4x4x16, .f32⟩
  | 56 => ⟨S_, .f32⟩
  | 57 => ⟨S4x4x64x128, .f32⟩
  | 58 => ⟨S16x4x4, .f32⟩
  | 59 => ⟨S0x4x4x64x128, .f32⟩
  | 60 => ⟨S16x4x4x64x128, .f32⟩
  | 61 => ⟨S0x4x4, .f32⟩
  | 62 => ⟨S16x4x4, .f32⟩
  | 63 => ⟨S_, .f32⟩
  | 64 => ⟨S0x4x4x64x128, .f32⟩
  | 65 => ⟨S1x4x4x64x128, .f32⟩
  | 66 => ⟨S4x4x64x128, .f32⟩
  | 67 => ⟨S1x4x4, .f32⟩
  | 68 => ⟨S4x4, .f32⟩
  | 69 => ⟨S4x4x1x1, .f32⟩
  | 70 => ⟨S4x4x64x128, .f32⟩
  | 71 => ⟨S4x4x64x128, .f32⟩
  | 72 => ⟨S4x4x64x128, .f32⟩
  | 73 => ⟨S1x4x4x64x128, .f32⟩
  | 74 => ⟨S4x4x64x128, .f32⟩
  | 75 => ⟨S1x4x4, .f32⟩
  | 76 => ⟨S4x4, .f32⟩
  | 77 => ⟨S4x4x1x1, .f32⟩
  | 78 => ⟨S4x4x64x128, .f32⟩
  | 79 => ⟨S4x4x64x128, .f32⟩
  | 80 => ⟨S4x4x64x128, .f32⟩
  | 81 => ⟨S1x4x4x64x128, .f32⟩
  | 82 => ⟨S4x4x64x128, .f32⟩
  | 83 => ⟨S1x4x4, .f32⟩
  | 84 => ⟨S4x4, .f32⟩
  | 85 => ⟨S4x4x1x1, .f32⟩
  | 86 => ⟨S4x4x64x128, .f32⟩
  | 87 => ⟨S4x4x64x128, .f32⟩
  | 88 => ⟨S4x4x64x128, .f32⟩
  | 89 => ⟨S1x4x4x64x128, .f32⟩
  | 90 => ⟨S4x4x64x128, .f32⟩
  | 91 => ⟨S1x4x4, .f32⟩
  | 92 => ⟨S4x4, .f32⟩
  | 93 => ⟨S4x4x1x1, .f32⟩
  | 94 => ⟨S4x4x64x128, .f32⟩
  | 95 => ⟨S4x4x64x128, .f32⟩
  | 96 => ⟨S4x4x64x128, .f32⟩
  | 97 => ⟨S1x4x4x64x128, .f32⟩
  | 98 => ⟨S4x4x64x128, .f32⟩
  | 99 => ⟨S1x4x4, .f32⟩
  | 100 => ⟨S4x4, .f32⟩
  | 101 => ⟨S4x4x1x1, .f32⟩
  | 102 => ⟨S4x4x64x128, .f32⟩
  | 103 => ⟨S4x4x64x128, .f32⟩
  | 104 => ⟨S4x4x64x128, .f32⟩
  | 105 => ⟨S1x4x4x64x128, .f32⟩
  | 106 => ⟨S4x4x64x128, .f32⟩
  | 107 => ⟨S1x4x4, .f32⟩
  | 108 => ⟨S4x4, .f32⟩
  | 109 => ⟨S4x4x1x1, .f32⟩
  | 110 => ⟨S4x4x64x128, .f32⟩
  | 111 => ⟨S4x4x64x128, .f32⟩
  | 112 => ⟨S4x4x64x128, .f32⟩
  | 113 => ⟨S1x4x4x64x128, .f32⟩
  | 114 => ⟨S4x4x64x128, .f32⟩
  | 115 => ⟨S1x4x4, .f32⟩
  | 116 => ⟨S4x4, .f32⟩
  | 117 => ⟨S4x4x1x1, .f32⟩
  | 118 => ⟨S4x4x64x128, .f32⟩
  | 119 => ⟨S4x4x64x128, .f32⟩
  | 120 => ⟨S4x4x64x128, .f32⟩
  | 121 => ⟨S1x4x4x64x128, .f32⟩
  | 122 => ⟨S4x4x64x128, .f32⟩
  | 123 => ⟨S1x4x4, .f32⟩
  | 124 => ⟨S4x4, .f32⟩
  | 125 => ⟨S4x4x1x1, .f32⟩
  | 126 => ⟨S4x4x64x128, .f32⟩
  | 127 => ⟨S4x4x64x128, .f32⟩
  | _ => ⟨S2048x2048, .f32⟩

abbrev hbmTy0_1 (i : Nat) : BufTy := match i % 128 with
  | 0 => ⟨S4x4x64x128, .f32⟩
  | 1 => ⟨S1x4x4x64x128, .f32⟩
  | 2 => ⟨S4x4x64x128, .f32⟩
  | 3 => ⟨S1x4x4, .f32⟩
  | 4 => ⟨S4x4, .f32⟩
  | 5 => ⟨S4x4x1x1, .f32⟩
  | 6 => ⟨S4x4x64x128, .f32⟩
  | 7 => ⟨S4x4x64x128, .f32⟩
  | 8 => ⟨S4x4x64x128, .f32⟩
  | 9 => ⟨S1x4x4x64x128, .f32⟩
  | 10 => ⟨S4x4x64x128, .f32⟩
  | 11 => ⟨S1x4x4, .f32⟩
  | 12 => ⟨S4x4, .f32⟩
  | 13 => ⟨S4x4x1x1, .f32⟩
  | 14 => ⟨S4x4x64x128, .f32⟩
  | 15 => ⟨S4x4x64x128, .f32⟩
  | 16 => ⟨S4x4x64x128, .f32⟩
  | 17 => ⟨S1x4x4x64x128, .f32⟩
  | 18 => ⟨S4x4x64x128, .f32⟩
  | 19 => ⟨S1x4x4, .f32⟩
  | 20 => ⟨S4x4, .f32⟩
  | 21 => ⟨S4x4x1x1, .f32⟩
  | 22 => ⟨S4x4x64x128, .f32⟩
  | 23 => ⟨S4x4x64x128, .f32⟩
  | 24 => ⟨S4x4x64x128, .f32⟩
  | 25 => ⟨S1x4x4x64x128, .f32⟩
  | 26 => ⟨S4x4x64x128, .f32⟩
  | 27 => ⟨S1x4x4, .f32⟩
  | 28 => ⟨S4x4, .f32⟩
  | 29 => ⟨S4x4x1x1, .f32⟩
  | 30 => ⟨S4x4x64x128, .f32⟩
  | 31 => ⟨S4x4x64x128, .f32⟩
  | 32 => ⟨S4x4x64x128, .f32⟩
  | 33 => ⟨S1x4x4x64x128, .f32⟩
  | 34 => ⟨S4x4x64x128, .f32⟩
  | 35 => ⟨S1x4x4, .f32⟩
  | 36 => ⟨S4x4, .f32⟩
  | 37 => ⟨S4x4x1x1, .f32⟩
  | 38 => ⟨S4x4x64x128, .f32⟩
  | 39 => ⟨S4x4x64x128, .f32⟩
  | 40 => ⟨S4x4x64x128, .f32⟩
  | 41 => ⟨S1x4x4x64x128, .f32⟩
  | 42 => ⟨S4x4x64x128, .f32⟩
  | 43 => ⟨S1x4x4, .f32⟩
  | 44 => ⟨S4x4, .f32⟩
  | 45 => ⟨S4x4x1x1, .f32⟩
  | 46 => ⟨S4x4x64x128, .f32⟩
  | 47 => ⟨S4x4x64x128, .f32⟩
  | 48 => ⟨S4x4x64x128, .f32⟩
  | 49 => ⟨S1x4x4x64x128, .f32⟩
  | 50 => ⟨S4x4x64x128, .f32⟩
  | 51 => ⟨S1x4x4, .f32⟩
  | 52 => ⟨S4x4, .f32⟩
  | 53 => ⟨S4x4x1x1, .f32⟩
  | 54 => ⟨S4x4x64x128, .f32⟩
  | 55 => ⟨S4x4x64x128, .f32⟩
  | 56 => ⟨S4x4x64x128, .f32⟩
  | 57 => ⟨S1x4x4x64x128, .f32⟩
  | 58 => ⟨S4x4x64x128, .f32⟩
  | 59 => ⟨S1x4x4, .f32⟩
  | 60 => ⟨S4x4, .f32⟩
  | 61 => ⟨S4x4x1x1, .f32⟩
  | 62 => ⟨S4x4x64x128, .f32⟩
  | 63 => ⟨S4x4x64x128, .f32⟩
  | 64 => ⟨S4x4x64x128, .f32⟩
  | 65 => ⟨S1x4x4x64x128, .f32⟩
  | 66 => ⟨S1x4x4x64x128, .f32⟩
  | 67 => ⟨S1x4x4x64x128, .f32⟩
  | 68 => ⟨S1x4x4x64x128, .f32⟩
  | 69 => ⟨S1x4x4x64x128, .f32⟩
  | 70 => ⟨S1x4x4x64x128, .f32⟩
  | 71 => ⟨S1x4x4x64x128, .f32⟩
  | 72 => ⟨S1x4x4x64x128, .f32⟩
  | 73 => ⟨S1x4x4x64x128, .f32⟩
  | 74 => ⟨S1x4x4x64x128, .f32⟩
  | 75 => ⟨S1x4x4x64x128, .f32⟩
  | 76 => ⟨S1x4x4x64x128, .f32⟩
  | 77 => ⟨S1x4x4x64x128, .f32⟩
  | 78 => ⟨S1x4x4x64x128, .f32⟩
  | 79 => ⟨S1x4x4x64x128, .f32⟩
  | 80 => ⟨S1x4x4x64x128, .f32⟩
  | 81 => ⟨S16x4x4x64x128, .f32⟩
  | 82 => ⟨S16x4x4x64x128, .f32⟩
  | 83 => ⟨S16x128x4x4x64, .f32⟩
  | 84 => ⟨S16x128x1024, .f32⟩
  | 85 => ⟨S_, .f32⟩
  | 86 => ⟨S1x112, .f32⟩
  | 87 => ⟨S1x128, .f32⟩
  | 88 => ⟨S_, .f32⟩
  | 89 => ⟨S1x112, .f32⟩
  | 90 => ⟨S1x128, .f32⟩
  | 91 => ⟨S1x16x64, .f32⟩
  | 92 => ⟨S1x1024, .f32⟩
  | 93 => ⟨S2048x2048, .f32⟩
  | 94 => ⟨S2048x128, .bf16⟩
  | 95 => ⟨S2048x1024, .bf16⟩
  | 96 => ⟨S1x1024, .f32⟩
  | 97 => ⟨S8x128, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x128, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S128x2048, .f32⟩
  | .local _ .vmem, ⟨15, _⟩ => ⟨S128x2048, .f32⟩
  | .local _ .vmem, ⟨16, _⟩ => ⟨S128x128, .bf16⟩
  | .local _ .vmem, ⟨17, _⟩ => ⟨S128x128, .bf16⟩
  | .local _ .vmem, ⟨18, _⟩ => ⟨S128x1024, .bf16⟩
  | .local _ .vmem, ⟨19, _⟩ => ⟨S128x1024, .bf16⟩
  | .local _ .vmem, ⟨20, _⟩ => ⟨S1x1024, .f32⟩
  | .local _ .vmem, ⟨21, _⟩ => ⟨S8x128, .f32⟩
  | .local _ .vmem, ⟨22, _⟩ => ⟨S128x1024, .f32⟩
  | .local _ .vmem, ⟨23, _⟩ => ⟨S128x128, .f32⟩
  | .local _ .vmem, ⟨24, _⟩ => ⟨S8x1024, .f32⟩
  | .local _ .vmem, ⟨25, _⟩ => ⟨S128x1024, .f32⟩
  | .local _ .vmem, ⟨26, _⟩ => ⟨S128x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_call0_cst : Ref sig .tc := ⟨.hbm, 41, rfl⟩
abbrev main_call1_call0_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_cst_1 : Ref sig .tc := ⟨.hbm, 213, rfl⟩
abbrev main_v189 : Ref sig .tc := ⟨.hbm, 214, rfl⟩
abbrev main_v190 : Ref sig .tc := ⟨.hbm, 215, rfl⟩
abbrev main_cst_2 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195_0 : Ref sig .tc := ⟨.hbm, 221, rfl⟩
abbrev main_v195_1 : Ref sig .tc := ⟨.hbm, 222, rfl⟩
abbrev main_v195_2 : Ref sig .tc := ⟨.hbm, 223, rfl⟩
abbrev main_v195_3 : Ref sig .tc := ⟨.hbm, 224, rfl⟩
abbrev main_v195_4 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c40_i32 : BitVec 32 := 40#32
  let c0_i32 : BitVec 32 := 0#32
  ![v0.toNat, c40_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel6Ideal.lean ====
variable {F : FTy → Type} [FloatOps F] [Named F]
def κ : String → Option EReal := fun
  | "mask" => some ⊥
  | _ => none
-- ==== Reference6Ideal.lean ====
abbrev S2048x2048 : Shape := ⟨2, ![2048, 2048]⟩
abbrev S2048x5632 : Shape := ⟨2, ![2048, 5632]⟩
abbrev S1x16 : Shape := ⟨2, ![1, 16]⟩
abbrev S1x1024 : Shape := ⟨2, ![1, 1024]⟩
abbrev S2048x1024 : Shape := ⟨2, ![2048, 1024]⟩
abbrev S2048x16 : Shape := ⟨2, ![2048, 16]⟩
abbrev S2048x16x64 : Shape := ⟨3, ![2048, 16, 64]⟩
abbrev S2048x512 : Shape := ⟨2, ![2048, 512]⟩
abbrev S2048x4x128 : Shape := ⟨3, ![2048, 4, 128]⟩
abbrev S_ : Shape := ⟨0, ![]⟩
abbrev S16 : Shape := ⟨1, ![16]⟩
abbrev S2048x16x1 : Shape := ⟨3, ![2048, 16, 1]⟩
abbrev S16x128x4x4x64 : Shape := ⟨5, ![16, 128, 4, 4, 64]⟩
abbrev S16x128x4x4 : Shape := ⟨4, ![16, 128, 4, 4]⟩
abbrev S4x4x16x128 : Shape := ⟨4, ![4, 4, 16, 128]⟩
abbrev S16x128x4x128 : Shape := ⟨4, ![16, 128, 4, 128]⟩
abbrev S128x128 : Shape := ⟨2, ![128, 128]⟩
abbrev S4x4x16x128x1 : Shape := ⟨5, ![4, 4, 16, 128, 1]⟩
abbrev S4x4x16x1x128 : Shape := ⟨5, ![4, 4, 16, 1, 128]⟩
abbrev S4x4x16x128x128 : Shape := ⟨5, ![4, 4, 16, 128, 128]⟩
abbrev S4x16x128x128 : Shape := ⟨4, ![4, 16, 128, 128]⟩
abbrev S4x1x16x128x128 : Shape := ⟨5, ![4, 1, 16, 128, 128]⟩
abbrev S16x4x4x64x128 : Shape := ⟨5, ![16, 4, 4, 64, 128]⟩
abbrev S4x4x16x1 : Shape := ⟨4, ![4, 4, 16, 1]⟩
abbrev S16x128x4x4x1 : Shape := ⟨5, ![16, 128, 4, 4, 1]⟩
abbrev S4x4x16 : Shape := ⟨3, ![4, 4, 16]⟩
abbrev S4x4x64x128 : Shape := ⟨4, ![4, 4, 64, 128]⟩
abbrev S16x4x4 : Shape := ⟨3, ![16, 4, 4]⟩
abbrev S0x4x4x64x128 : Shape := ⟨5, ![0, 4, 4, 64, 128]⟩
abbrev S0x4x4 : Shape := ⟨3, ![0, 4, 4]⟩
abbrev S0x4x4x1x1 : Shape := ⟨5, ![0, 4, 4, 1, 1]⟩
abbrev S1x4x4x64x128 : Shape := ⟨5, ![1, 4, 4, 64, 128]⟩
abbrev S1x4x4 : Shape := ⟨3, ![1, 4, 4]⟩
abbrev S4x4 : Shape := ⟨2, ![4, 4]⟩
abbrev S4x4x1x1 : Shape := ⟨4, ![4, 4, 1, 1]⟩
abbrev S1x4x4x1x1 : Shape := ⟨5, ![1, 4, 4, 1, 1]⟩
abbrev S16x4x4x1x1 : Shape := ⟨5, ![16, 4, 4, 1, 1]⟩
abbrev S16x1 : Shape := ⟨2, ![16, 1]⟩
abbrev S1x16x1 : Shape := ⟨3, ![1, 16, 1]⟩
abbrev S2048x4x256 : Shape := ⟨3, ![2048, 4, 256]⟩
abbrev S2048x4 : Shape := ⟨2, ![2048, 4]⟩
abbrev S2048x4x1 : Shape := ⟨3, ![2048, 4, 1]⟩
abbrev S1024 : Shape := ⟨1, ![1024]⟩
abbrev S16x4x128x128 : Shape := ⟨4, ![16, 4, 128, 128]⟩
abbrev S16x4x4x128x128 : Shape := ⟨5, ![16, 4, 4, 128, 128]⟩
abbrev S1x112 : Shape := ⟨2, ![1, 112]⟩
abbrev S1x128 : Shape := ⟨2, ![1, 128]⟩
abbrev S5x128 : Shape := ⟨2, ![5, 128]⟩
abbrev S8x128 : Shape := ⟨2, ![8, 128]⟩
abbrev S2048x112 : Shape := ⟨2, ![2048, 112]⟩
abbrev S2048x128 : Shape := ⟨2, ![2048, 128]⟩

abbrev nBuf : Space → Nat
  | .hbm => 824
  | .vmem => 0
  | .smem => 0
  | _ => 0

abbrev hbmTy0_0 (i : Nat) : BufTy := match i % 128 with
  | 0 => ⟨S2048x2048, .f32⟩
  | 1 => ⟨S2048x5632, .f32⟩
  | 2 => ⟨S2048x2048, .f32⟩
  | 3 => ⟨S1x16, .f32⟩
  | 4 => ⟨S1x16, .f32⟩
  | 5 => ⟨S1x16, .f32⟩
  | 6 => ⟨S1x1024, .f32⟩
  | 7 => ⟨S2048x1024, .f32⟩
  | 8 => ⟨S2048x16, .f32⟩
  | 9 => ⟨S2048x1024, .f32⟩
  | 10 => ⟨S2048x16x64, .f32⟩
  | 11 => ⟨S2048x512, .f32⟩
  | 12 => ⟨S2048x4x128, .f32⟩
  | 13 => ⟨S2048x512, .f32⟩
  | 14 => ⟨S2048x4x128, .f32⟩
  | 15 => ⟨S2048x16, .f32⟩
  | 16 => ⟨S2048x16, .f32⟩
  | 17 => ⟨S_, .f32⟩
  | 18 => ⟨S2048x16, .f32⟩
  | 19 => ⟨S2048x16, .f32⟩
  | 20 => ⟨S2048x16, .f32⟩
  | 21 => ⟨S2048x16, .f32⟩
  | 22 => ⟨S2048x16, .i1⟩
  | 23 => ⟨S2048x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S2048x16, .f32⟩
  | 30 => ⟨S2048x16, .f32⟩
  | 31 => ⟨S_, .f32⟩
  | 32 => ⟨S2048x16, .f32⟩
  | 33 => ⟨S2048x16, .i1⟩
  | 34 => ⟨S_, .f32⟩
  | 35 => ⟨S2048x16, .f32⟩
  | 36 => ⟨S2048x16, .f32⟩
  | 37 => ⟨S_, .f32⟩
  | 38 => ⟨S2048x16, .f32⟩
  | 39 => ⟨S2048x16, .i1⟩
  | 40 => ⟨S_, .f32⟩
  | 41 => ⟨S2048x16, .f32⟩
  | 42 => ⟨S2048x16, .f32⟩
  | 43 => ⟨S2048x16, .f32⟩
  | 44 => ⟨S2048x16, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S2048x16, .f32⟩
  | 53 => ⟨S2048x16, .i1⟩
  | 54 => ⟨S_, .f32⟩
  | 55 => ⟨S2048x16, .f32⟩
  | 56 => ⟨S2048x16, .f32⟩
  | 57 => ⟨S2048x16, .f32⟩
  | 58 => ⟨S2048x16, .f32⟩
  | 59 => ⟨S2048x16, .f32⟩
  | 60 => ⟨S_, .f32⟩
  | 61 => ⟨S2048x16, .f32⟩
  | 62 => ⟨S2048x16, .f32⟩
  | 63 => ⟨S16, .f32⟩
  | 64 => ⟨S16, .f32⟩
  | 65 => ⟨S16, .f32⟩
  | 66 => ⟨S2048x16x1, .f32⟩
  | 67 => ⟨S2048x16x64, .f32⟩
  | 68 => ⟨S2048x16x64, .f32⟩
  | 69 => ⟨S16x128x4x4x64, .f32⟩
  | 70 => ⟨S1x16, .f32⟩
  | 71 => ⟨S2048x16, .f32⟩
  | 72 => ⟨S2048x16, .f32⟩
  | 73 => ⟨S16x128x4x4, .f32⟩
  | 74 => ⟨S4x4x16x128, .f32⟩
  | 75 => ⟨S16x128x4x128, .f32⟩
  | 76 => ⟨S16x128x4x128, .f32⟩
  | 77 => ⟨S_, .f32⟩
  | 78 => ⟨S_, .f32⟩
  | 79 => ⟨S4x4x16x128, .f32⟩
  | 80 => ⟨S_, .i1⟩
  | 81 => ⟨S128x128, .i1⟩
  | 82 => ⟨S128x128, .i32⟩
  | 83 => ⟨S_, .i32⟩
  | 84 => ⟨S128x128, .i32⟩
  | 85 => ⟨S128x128, .i32⟩
  | 86 => ⟨S128x128, .i32⟩
  | 87 => ⟨S128x128, .i1⟩
  | 88 => ⟨S_, .i1⟩
  | 89 => ⟨S128x128, .i1⟩
  | 90 => ⟨S128x128, .i1⟩
  | 91 => ⟨S4x4x16x128x1, .f32⟩
  | 92 => ⟨S4x4x16x1x128, .f32⟩
  | 93 => ⟨S4x4x16x128x128, .f32⟩
  | 94 => ⟨S4x4x16x128x128, .f32⟩
  | 95 => ⟨S4x4x16x128x128, .f32⟩
  | 96 => ⟨S_, .f32⟩
  | 97 => ⟨S_, .f32⟩
  | 98 => ⟨S4x4x16x128x128, .i1⟩
  | 99 => ⟨S4x4x16x128x128, .f32⟩
  | 100 => ⟨S4x4x16x128x128, .f32⟩
  | 101 => ⟨S_, .f32⟩
  | 102 => ⟨S4x4x16x128x128, .f32⟩
  | 103 => ⟨S4x4x16x128x128, .f32⟩
  | 104 => ⟨S4x16x128x128, .f32⟩
  | 105 => ⟨S4x1x16x128x128, .f32⟩
  | 106 => ⟨S4x4x16x128x128, .f32⟩
  | 107 => ⟨S4x4x16x128x128, .f32⟩
  | 108 => ⟨S16x4x4x64x128, .f32⟩
  | 109 => ⟨S16x128x4x4x64, .f32⟩
  | 110 => ⟨S4x4x16x1, .f32⟩
  | 111 => ⟨S4x4x16x128, .f32⟩
  | 112 => ⟨S4x4x16x128, .f32⟩
  | 113 => ⟨S4x4x16x128, .f32⟩
  | 114 => ⟨S16x128x4x4, .f32⟩
  | 115 => ⟨S16x128x4x4x1, .f32⟩
  | 116 => ⟨S16x128x4x4x64, .f32⟩
  | 117 => ⟨S16x128x4x4x64, .f32⟩
  | 118 => ⟨S16x4x4x64x128, .f32⟩
  | 119 => ⟨S4x4x16x1, .f32⟩
  | 120 => ⟨S4x4x16, .f32⟩
  | 121 => ⟨S4x4x16, .f32⟩
  | 122 => ⟨S_, .f32⟩
  | 123 => ⟨S4x4x64x128, .f32⟩
  | 124 => ⟨S16x4x4, .f32⟩
  | 125 => ⟨S0x4x4x64x128, .f32⟩
  | 126 => ⟨S16x4x4x64x128, .f32⟩
  | 127 => ⟨S0x4x4, .f32⟩
  | _ => ⟨S2048x2048, .f32⟩

abbrev hbmTy0_1 (i : Nat) : BufTy := match i % 128 with
  | 0 => ⟨S16x4x4, .f32⟩
  | 1 => ⟨S_, .f32⟩
  | 2 => ⟨S0x4x4x64x128, .f32⟩
  | 3 => ⟨S_, .f32⟩
  | 4 => ⟨S0x4x4x1x1, .f32⟩
  | 5 => ⟨S1x4x4x64x128, .f32⟩
  | 6 => ⟨S4x4x64x128, .f32⟩
  | 7 => ⟨S1x4x4, .f32⟩
  | 8 => ⟨S4x4, .f32⟩
  | 9 => ⟨S4x4x1x1, .f32⟩
  | 10 => ⟨S4x4x64x128, .f32⟩
  | 11 => ⟨S4x4x64x128, .f32⟩
  | 12 => ⟨S4x4x64x128, .f32⟩
  | 13 => ⟨S1x4x4x64x128, .f32⟩
  | 14 => ⟨S4x4x64x128, .f32⟩
  | 15 => ⟨S1x4x4, .f32⟩
  | 16 => ⟨S4x4, .f32⟩
  | 17 => ⟨S4x4x1x1, .f32⟩
  | 18 => ⟨S4x4x64x128, .f32⟩
  | 19 => ⟨S4x4x64x128, .f32⟩
  | 20 => ⟨S4x4x64x128, .f32⟩
  | 21 => ⟨S1x4x4x64x128, .f32⟩
  | 22 => ⟨S4x4x64x128, .f32⟩
  | 23 => ⟨S1x4x4, .f32⟩
  | 24 => ⟨S4x4, .f32⟩
  | 25 => ⟨S4x4x1x1, .f32⟩
  | 26 => ⟨S4x4x64x128, .f32⟩
  | 27 => ⟨S4x4x64x128, .f32⟩
  | 28 => ⟨S4x4x64x128, .f32⟩
  | 29 => ⟨S1x4x4x64x128, .f32⟩
  | 30 => ⟨S4x4x64x128, .f32⟩
  | 31 => ⟨S1x4x4, .f32⟩
  | 32 => ⟨S4x4, .f32⟩
  | 33 => ⟨S4x4x1x1, .f32⟩
  | 34 => ⟨S4x4x64x128, .f32⟩
  | 35 => ⟨S4x4x64x128, .f32⟩
  | 36 => ⟨S4x4x64x128, .f32⟩
  | 37 => ⟨S1x4x4x64x128, .f32⟩
  | 38 => ⟨S4x4x64x128, .f32⟩
  | 39 => ⟨S1x4x4, .f32⟩
  | 40 => ⟨S4x4, .f32⟩
  | 41 => ⟨S4x4x1x1, .f32⟩
  | 42 => ⟨S4x4x64x128, .f32⟩
  | 43 => ⟨S4x4x64x128, .f32⟩
  | 44 => ⟨S4x4x64x128, .f32⟩
  | 45 => ⟨S1x4x4x64x128, .f32⟩
  | 46 => ⟨S4x4x64x128, .f32⟩
  | 47 => ⟨S1x4x4, .f32⟩
  | 48 => ⟨S4x4, .f32⟩
  | 49 => ⟨S4x4x1x1, .f32⟩
  | 50 => ⟨S4x4x64x128, .f32⟩
  | 51 => ⟨S4x4x64x128, .f32⟩
  | 52 => ⟨S4x4x64x128, .f32⟩
  | 53 => ⟨S1x4x4x64x128, .f32⟩
  | 54 => ⟨S4x4x64x128, .f32⟩
  | 55 => ⟨S1x4x4, .f32⟩
  | 56 => ⟨S4x4, .f32⟩
  | 57 => ⟨S4x4x1x1, .f32⟩
  | 58 => ⟨S4x4x64x128, .f32⟩
  | 59 => ⟨S4x4x64x128, .f32⟩
  | 60 => ⟨S4x4x64x128, .f32⟩
  | 61 => ⟨S1x4x4x64x128, .f32⟩
  | 62 => ⟨S4x4x64x128, .f32⟩
  | 63 => ⟨S1x4x4, .f32⟩
  | 64 => ⟨S4x4, .f32⟩
  | 65 => ⟨S4x4x1x1, .f32⟩
  | 66 => ⟨S4x4x64x128, .f32⟩
  | 67 => ⟨S4x4x64x128, .f32⟩
  | 68 => ⟨S4x4x64x128, .f32⟩
  | 69 => ⟨S1x4x4x64x128, .f32⟩
  | 70 => ⟨S4x4x64x128, .f32⟩
  | 71 => ⟨S1x4x4, .f32⟩
  | 72 => ⟨S4x4, .f32⟩
  | 73 => ⟨S4x4x1x1, .f32⟩
  | 74 => ⟨S4x4x64x128, .f32⟩
  | 75 => ⟨S4x4x64x128, .f32⟩
  | 76 => ⟨S4x4x64x128, .f32⟩
  | 77 => ⟨S1x4x4x64x128, .f32⟩
  | 78 => ⟨S4x4x64x128, .f32⟩
  | 79 => ⟨S1x4x4, .f32⟩
  | 80 => ⟨S4x4, .f32⟩
  | 81 => ⟨S4x4x1x1, .f32⟩
  | 82 => ⟨S4x4x64x128, .f32⟩
  | 83 => ⟨S4x4x64x128, .f32⟩
  | 84 => ⟨S4x4x64x128, .f32⟩
  | 85 => ⟨S1x4x4x64x128, .f32⟩
  | 86 => ⟨S4x4x64x128, .f32⟩
  | 87 => ⟨S1x4x4, .f32⟩
  | 88 => ⟨S4x4, .f32⟩
  | 89 => ⟨S4x4x1x1, .f32⟩
  | 90 => ⟨S4x4x64x128, .f32⟩
  | 91 => ⟨S4x4x64x128, .f32⟩
  | 92 => ⟨S4x4x64x128, .f32⟩
  | 93 => ⟨S1x4x4x64x128, .f32⟩
  | 94 => ⟨S4x4x64x128, .f32⟩
  | 95 => ⟨S1x4x4, .f32⟩
  | 96 => ⟨S4x4, .f32⟩
  | 97 => ⟨S4x4x1x1, .f32⟩
  | 98 => ⟨S4x4x64x128, .f32⟩
  | 99 => ⟨S4x4x64x128, .f32⟩
  | 100 => ⟨S4x4x64x128, .f32⟩
  | 101 => ⟨S1x4x4x64x128, .f32⟩
  | 102 => ⟨S4x4x64x128, .f32⟩
  | 103 => ⟨S1x4x4, .f32⟩
  | 104 => ⟨S4x4, .f32⟩
  | 105 => ⟨S4x4x1x1, .f32⟩
  | 106 => ⟨S4x4x64x128, .f32⟩
  | 107 => ⟨S4x4x64x128, .f32⟩
  | 108 => ⟨S4x4x64x128, .f32⟩
  | 109 => ⟨S1x4x4x64x128, .f32⟩
  | 110 => ⟨S4x4x64x128, .f32⟩
  | 111 => ⟨S1x4x4, .f32⟩
  | 112 => ⟨S4x4, .f32⟩
  | 113 => ⟨S4x4x1x1, .f32⟩
  | 114 => ⟨S4x4x64x128, .f32⟩
  | 115 => ⟨S4x4x64x128, .f32⟩
  | 116 => ⟨S4x4x64x128, .f32⟩
  | 117 => ⟨S1x4x4x64x128, .f32⟩
  | 118 => ⟨S4x4x64x128, .f32⟩
  | 119 => ⟨S1x4x4, .f32⟩
  | 120 => ⟨S4x4, .f32⟩
  | 121 => ⟨S4x4x1x1, .f32⟩
  | 122 => ⟨S4x4x64x128, .f32⟩
  | 123 => ⟨S4x4x64x128, .f32⟩
  | 124 => ⟨S4x4x64x128, .f32⟩
  | 125 => ⟨S1x4x4x64x128, .f32⟩
  | 126 => ⟨S4x4x64x128, .f32⟩
  | 127 => ⟨S1x4x4, .f32⟩
  | _ => ⟨S2048x2048, .f32⟩

abbrev hbmTy0_2 (i : Nat) : BufTy := match i % 128 with
  | 0 => ⟨S4x4, .f32⟩
  | 1 => ⟨S4x4x1x1, .f32⟩
  | 2 => ⟨S4x4x64x128, .f32⟩
  | 3 => ⟨S4x4x64x128, .f32⟩
  | 4 => ⟨S4x4x64x128, .f32⟩
  | 5 => ⟨S1x4x4x64x128, .f32⟩
  | 6 => ⟨S1x4x4x64x128, .f32⟩
  | 7 => ⟨S1x4x4x64x128, .f32⟩
  | 8 => ⟨S1x4x4x64x128, .f32⟩
  | 9 => ⟨S1x4x4x64x128, .f32⟩
  | 10 => ⟨S1x4x4x64x128, .f32⟩
  | 11 => ⟨S1x4x4x64x128, .f32⟩
  | 12 => ⟨S1x4x4x64x128, .f32⟩
  | 13 => ⟨S1x4x4x64x128, .f32⟩
  | 14 => ⟨S1x4x4x64x128, .f32⟩
  | 15 => ⟨S1x4x4x64x128, .f32⟩
  | 16 => ⟨S1x4x4x64x128, .f32⟩
  | 17 => ⟨S1x4x4x64x128, .f32⟩
  | 18 => ⟨S1x4x4x64x128, .f32⟩
  | 19 => ⟨S1x4x4x64x128, .f32⟩
  | 20 => ⟨S1x4x4x64x128, .f32⟩
  | 21 => ⟨S16x4x4x64x128, .f32⟩
  | 22 => ⟨S1x4x4x1x1, .f32⟩
  | 23 => ⟨S1x4x4x1x1, .f32⟩
  | 24 => ⟨S1x4x4x1x1, .f32⟩
  | 25 => ⟨S1x4x4x1x1, .f32⟩
  | 26 => ⟨S1x4x4x1x1, .f32⟩
  | 27 => ⟨S1x4x4x1x1, .f32⟩
  | 28 => ⟨S1x4x4x1x1, .f32⟩
  | 29 => ⟨S1x4x4x1x1, .f32⟩
  | 30 => ⟨S1x4x4x1x1, .f32⟩
  | 31 => ⟨S1x4x4x1x1, .f32⟩
  | 32 => ⟨S1x4x4x1x1, .f32⟩
  | 33 => ⟨S1x4x4x1x1, .f32⟩
  | 34 => ⟨S1x4x4x1x1, .f32⟩
  | 35 => ⟨S1x4x4x1x1, .f32⟩
  | 36 => ⟨S1x4x4x1x1, .f32⟩
  | 37 => ⟨S1x4x4x1x1, .f32⟩
  | 38 => ⟨S16x4x4x1x1, .f32⟩
  | 39 => ⟨S16x4x4x64x128, .f32⟩
  | 40 => ⟨S16x4x4x1x1, .f32⟩
  | 41 => ⟨S16x4x4x64x128, .f32⟩
  | 42 => ⟨S16x128x4x4x64, .f32⟩
  | 43 => ⟨S4x4x16x128, .f32⟩
  | 44 => ⟨S16x128x4x4, .f32⟩
  | 45 => ⟨S16x128x4x4x1, .f32⟩
  | 46 => ⟨S16x128x4x4x64, .f32⟩
  | 47 => ⟨S16x128x4x4x64, .f32⟩
  | 48 => ⟨S16x128x4x4x64, .f32⟩
  | 49 => ⟨S2048x16x64, .f32⟩
  | 50 => ⟨S16, .f32⟩
  | 51 => ⟨S16x1, .f32⟩
  | 52 => ⟨S1x16x1, .f32⟩
  | 53 => ⟨S2048x16x64, .f32⟩
  | 54 => ⟨S2048x16x64, .f32⟩
  | 55 => ⟨S2048x16x64, .f32⟩
  | 56 => ⟨S2048x1024, .f32⟩
  | 57 => ⟨S2048x1024, .f32⟩
  | 58 => ⟨S2048x1024, .f32⟩
  | 59 => ⟨S_, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S_, .f32⟩
  | 66 => ⟨S2048x1024, .f32⟩
  | 67 => ⟨S2048x1024, .f32⟩
  | 68 => ⟨S2048x1024, .f32⟩
  | 69 => ⟨S2048x1024, .f32⟩
  | 70 => ⟨S2048x1024, .f32⟩
  | 71 => ⟨S2048x4x256, .f32⟩
  | 72 => ⟨S2048x4x256, .f32⟩
  | 73 => ⟨S_, .f32⟩
  | 74 => ⟨S2048x4, .f32⟩
  | 75 => ⟨S2048x4x1, .f32⟩
  | 76 => ⟨S_, .f32⟩
  | 77 => ⟨S2048x4x1, .f32⟩
  | 78 => ⟨S2048x4x1, .f32⟩
  | 79 => ⟨S_, .f32⟩
  | 80 => ⟨S2048x4x1, .f32⟩
  | 81 => ⟨S2048x4x1, .f32⟩
  | 82 => ⟨S2048x4x1, .f32⟩
  | 83 => ⟨S2048x4x1, .f32⟩
  | 84 => ⟨S_, .f32⟩
  | 85 => ⟨S2048x4x1, .f32⟩
  | 86 => ⟨S2048x4x1, .f32⟩
  | 87 => ⟨S2048x4x256, .f32⟩
  | 88 => ⟨S2048x4x256, .f32⟩
  | 89 => ⟨S2048x1024, .f32⟩
  | 90 => ⟨S2048x1024, .f32⟩
  | 91 => ⟨S2048x1024, .f32⟩
  | 92 => ⟨S2048x1024, .f32⟩
  | 93 => ⟨S_, .f32⟩
  | 94 => ⟨S4x4x64x128, .f32⟩
  | 95 => ⟨S2048x1024, .f32⟩
  | 96 => ⟨S_, .f32⟩
  | 97 => ⟨S1024, .f32⟩
  | 98 => ⟨S1x1024, .f32⟩
  | 99 => ⟨S2048x1024, .f32⟩
  | 100 => ⟨S2048x1024, .f32⟩
  | 101 => ⟨S2048x4x256, .f32⟩
  | 102 => ⟨S2048x4x256, .f32⟩
  | 103 => ⟨S_, .f32⟩
  | 104 => ⟨S2048x4, .f32⟩
  | 105 => ⟨S2048x4x1, .f32⟩
  | 106 => ⟨S2048x4x256, .f32⟩
  | 107 => ⟨S2048x4x256, .f32⟩
  | 108 => ⟨S2048x4x1, .f32⟩
  | 109 => ⟨S_, .f32⟩
  | 110 => ⟨S2048x4x1, .f32⟩
  | 111 => ⟨S2048x4x1, .f32⟩
  | 112 => ⟨S_, .f32⟩
  | 113 => ⟨S2048x4, .f32⟩
  | 114 => ⟨S2048x4x256, .f32⟩
  | 115 => ⟨S2048x4x256, .f32⟩
  | 116 => ⟨S2048x4x256, .f32⟩
  | 117 => ⟨S2048x4x256, .f32⟩
  | 118 => ⟨S2048x4x256, .f32⟩
  | 119 => ⟨S2048x1024, .f32⟩
  | 120 => ⟨S2048x1024, .f32⟩
  | 121 => ⟨S2048x1024, .f32⟩
  | 122 => ⟨S2048x1024, .f32⟩
  | 123 => ⟨S2048x1024, .f32⟩
  | 124 => ⟨S2048x1024, .f32⟩
  | 125 => ⟨S2048x1024, .f32⟩
  | 126 => ⟨S2048x16x64, .f32⟩
  | 127 => ⟨S2048x16x64, .f32⟩
  | _ => ⟨S2048x2048, .f32⟩

abbrev hbmTy0_3 (i : Nat) : BufTy := match i % 128 with
  | 0 => ⟨S_, .f32⟩
  | 1 => ⟨S16, .f32⟩
  | 2 => ⟨S1x16x1, .f32⟩
  | 3 => ⟨S2048x16x64, .f32⟩
  | 4 => ⟨S2048x16x64, .f32⟩
  | 5 => ⟨S_, .f32⟩
  | 6 => ⟨S16, .f32⟩
  | 7 => ⟨S16x1, .f32⟩
  | 8 => ⟨S_, .f32⟩
  | 9 => ⟨S16, .f32⟩
  | 10 => ⟨S1x16, .f32⟩
  | 11 => ⟨S16x128x4x4x64, .f32⟩
  | 12 => ⟨S16x128x4x4x64, .f32⟩
  | 13 => ⟨S_, .f32⟩
  | 14 => ⟨S16x128x4x4, .f32⟩
  | 15 => ⟨S16x128x4x4x1, .f32⟩
  | 16 => ⟨S16x128x4x4x64, .f32⟩
  | 17 => ⟨S16x128x4x4x64, .f32⟩
  | 18 => ⟨S_, .f32⟩
  | 19 => ⟨S16x128x4x4, .f32⟩
  | 20 => ⟨S4x4x16x128, .f32⟩
  | 21 => ⟨S4x4x16x128, .f32⟩
  | 22 => ⟨S16x4x4x64x128, .f32⟩
  | 23 => ⟨S16x4x128x128, .f32⟩
  | 24 => ⟨S16x128x4x128, .f32⟩
  | 25 => ⟨S16x4x4x64x128, .f32⟩
  | 26 => ⟨S_, .f32⟩
  | 27 => ⟨S4x4x64x128, .f32⟩
  | 28 => ⟨S16x4x4x64x128, .f32⟩
  | 29 => ⟨S0x4x4x64x128, .f32⟩
  | 30 => ⟨S16x4x4x64x128, .f32⟩
  | 31 => ⟨S0x4x4x64x128, .f32⟩
  | 32 => ⟨S16x4x4x1x1, .f32⟩
  | 33 => ⟨S0x4x4x1x1, .f32⟩
  | 34 => ⟨S_, .f32⟩
  | 35 => ⟨S0x4x4x64x128, .f32⟩
  | 36 => ⟨S_, .f32⟩
  | 37 => ⟨S0x4x4, .f32⟩
  | 38 => ⟨S1x4x4x64x128, .f32⟩
  | 39 => ⟨S4x4x64x128, .f32⟩
  | 40 => ⟨S1x4x4x64x128, .f32⟩
  | 41 => ⟨S4x4x64x128, .f32⟩
  | 42 => ⟨S1x4x4x1x1, .f32⟩
  | 43 => ⟨S4x4x1x1, .f32⟩
  | 44 => ⟨S4x4x64x128, .f32⟩
  | 45 => ⟨S4x4x64x128, .f32⟩
  | 46 => ⟨S4x4x64x128, .f32⟩
  | 47 => ⟨S4x4x64x128, .f32⟩
  | 48 => ⟨S_, .f32⟩
  | 49 => ⟨S4x4, .f32⟩
  | 50 => ⟨S4x4x1x1, .f32⟩
  | 51 => ⟨S_, .f32⟩
  | 52 => ⟨S4x4, .f32⟩
  | 53 => ⟨S1x4x4x64x128, .f32⟩
  | 54 => ⟨S4x4x64x128, .f32⟩
  | 55 => ⟨S1x4x4x64x128, .f32⟩
  | 56 => ⟨S4x4x64x128, .f32⟩
  | 57 => ⟨S1x4x4x1x1, .f32⟩
  | 58 => ⟨S4x4x1x1, .f32⟩
  | 59 => ⟨S4x4x64x128, .f32⟩
  | 60 => ⟨S4x4x64x128, .f32⟩
  | 61 => ⟨S4x4x64x128, .f32⟩
  | 62 => ⟨S4x4x64x128, .f32⟩
  | 63 => ⟨S_, .f32⟩
  | 64 => ⟨S4x4, .f32⟩
  | 65 => ⟨S4x4x1x1, .f32⟩
  | 66 => ⟨S_, .f32⟩
  | 67 => ⟨S4x4, .f32⟩
  | 68 => ⟨S1x4x4x64x128, .f32⟩
  | 69 => ⟨S4x4x64x128, .f32⟩
  | 70 => ⟨S1x4x4x64x128, .f32⟩
  | 71 => ⟨S4x4x64x128, .f32⟩
  | 72 => ⟨S1x4x4x1x1, .f32⟩
  | 73 => ⟨S4x4x1x1, .f32⟩
  | 74 => ⟨S4x4x64x128, .f32⟩
  | 75 => ⟨S4x4x64x128, .f32⟩
  | 76 => ⟨S4x4x64x128, .f32⟩
  | 77 => ⟨S4x4x64x128, .f32⟩
  | 78 => ⟨S_, .f32⟩
  | 79 => ⟨S4x4, .f32⟩
  | 80 => ⟨S4x4x1x1, .f32⟩
  | 81 => ⟨S_, .f32⟩
  | 82 => ⟨S4x4, .f32⟩
  | 83 => ⟨S1x4x4x64x128, .f32⟩
  | 84 => ⟨S4x4x64x128, .f32⟩
  | 85 => ⟨S1x4x4x64x128, .f32⟩
  | 86 => ⟨S4x4x64x128, .f32⟩
  | 87 => ⟨S1x4x4x1x1, .f32⟩
  | 88 => ⟨S4x4x1x1, .f32⟩
  | 89 => ⟨S4x4x64x128, .f32⟩
  | 90 => ⟨S4x4x64x128, .f32⟩
  | 91 => ⟨S4x4x64x128, .f32⟩
  | 92 => ⟨S4x4x64x128, .f32⟩
  | 93 => ⟨S_, .f32⟩
  | 94 => ⟨S4x4, .f32⟩
  | 95 => ⟨S4x4x1x1, .f32⟩
  | 96 => ⟨S_, .f32⟩
  | 97 => ⟨S4x4, .f32⟩
  | 98 => ⟨S1x4x4x64x128, .f32⟩
  | 99 => ⟨S4x4x64x128, .f32⟩
  | 100 => ⟨S1x4x4x64x128, .f32⟩
  | 101 => ⟨S4x4x64x128, .f32⟩
  | 102 => ⟨S1x4x4x1x1, .f32⟩
  | 103 => ⟨S4x4x1x1, .f32⟩
  | 104 => ⟨S4x4x64x128, .f32⟩
  | 105 => ⟨S4x4x64x128, .f32⟩
  | 106 => ⟨S4x4x64x128, .f32⟩
  | 107 => ⟨S4x4x64x128, .f32⟩
  | 108 => ⟨S_, .f32⟩
  | 109 => ⟨S4x4, .f32⟩
  | 110 => ⟨S4x4x1x1, .f32⟩
  | 111 => ⟨S_, .f32⟩
  | 112 => ⟨S4x4, .f32⟩
  | 113 => ⟨S1x4x4x64x128, .f32⟩
  | 114 => ⟨S4x4x64x128, .f32⟩
  | 115 => ⟨S1x4x4x64x128, .f32⟩
  | 116 => ⟨S4x4x64x128, .f32⟩
  | 117 => ⟨S1x4x4x1x1, .f32⟩
  | 118 => ⟨S4x4x1x1, .f32⟩
  | 119 => ⟨S4x4x64x128, .f32⟩
  | 120 => ⟨S4x4x64x128, .f32⟩
  | 121 => ⟨S4x4x64x128, .f32⟩
  | 122 => ⟨S4x4x64x128, .f32⟩
  | 123 => ⟨S_, .f32⟩
  | 124 => ⟨S4x4, .f32⟩
  | 125 => ⟨S4x4x1x1, .f32⟩
  | 126 => ⟨S_, .f32⟩
  | 127 => ⟨S4x4, .f32⟩
  | _ => ⟨S2048x2048, .f32⟩

abbrev hbmTy0_4 (i : Nat) : BufTy := match i % 128 with
  | 0 => ⟨S1x4x4x64x128, .f32⟩
  | 1 => ⟨S4x4x64x128, .f32⟩
  | 2 => ⟨S1x4x4x64x128, .f32⟩
  | 3 => ⟨S4x4x64x128, .f32⟩
  | 4 => ⟨S1x4x4x1x1, .f32⟩
  | 5 => ⟨S4x4x1x1, .f32⟩
  | 6 => ⟨S4x4x64x128, .f32⟩
  | 7 => ⟨S4x4x64x128, .f32⟩
  | 8 => ⟨S4x4x64x128, .f32⟩
  | 9 => ⟨S4x4x64x128, .f32⟩
  | 10 => ⟨S_, .f32⟩
  | 11 => ⟨S4x4, .f32⟩
  | 12 => ⟨S4x4x1x1, .f32⟩
  | 13 => ⟨S_, .f32⟩
  | 14 => ⟨S4x4, .f32⟩
  | 15 => ⟨S1x4x4x64x128, .f32⟩
  | 16 => ⟨S4x4x64x128, .f32⟩
  | 17 => ⟨S1x4x4x64x128, .f32⟩
  | 18 => ⟨S4x4x64x128, .f32⟩
  | 19 => ⟨S1x4x4x1x1, .f32⟩
  | 20 => ⟨S4x4x1x1, .f32⟩
  | 21 => ⟨S4x4x64x128, .f32⟩
  | 22 => ⟨S4x4x64x128, .f32⟩
  | 23 => ⟨S4x4x64x128, .f32⟩
  | 24 => ⟨S4x4x64x128, .f32⟩
  | 25 => ⟨S_, .f32⟩
  | 26 => ⟨S4x4, .f32⟩
  | 27 => ⟨S4x4x1x1, .f32⟩
  | 28 => ⟨S_, .f32⟩
  | 29 => ⟨S4x4, .f32⟩
  | 30 => ⟨S1x4x4x64x128, .f32⟩
  | 31 => ⟨S4x4x64x128, .f32⟩
  | 32 => ⟨S1x4x4x64x128, .f32⟩
  | 33 => ⟨S4x4x64x128, .f32⟩
  | 34 => ⟨S1x4x4x1x1, .f32⟩
  | 35 => ⟨S4x4x1x1, .f32⟩
  | 36 => ⟨S4x4x64x128, .f32⟩
  | 37 => ⟨S4x4x64x128, .f32⟩
  | 38 => ⟨S4x4x64x128, .f32⟩
  | 39 => ⟨S4x4x64x128, .f32⟩
  | 40 => ⟨S_, .f32⟩
  | 41 => ⟨S4x4, .f32⟩
  | 42 => ⟨S4x4x1x1, .f32⟩
  | 43 => ⟨S_, .f32⟩
  | 44 => ⟨S4x4, .f32⟩
  | 45 => ⟨S1x4x4x64x128, .f32⟩
  | 46 => ⟨S4x4x64x128, .f32⟩
  | 47 => ⟨S1x4x4x64x128, .f32⟩
  | 48 => ⟨S4x4x64x128, .f32⟩
  | 49 => ⟨S1x4x4x1x1, .f32⟩
  | 50 => ⟨S4x4x1x1, .f32⟩
  | 51 => ⟨S4x4x64x128, .f32⟩
  | 52 => ⟨S4x4x64x128, .f32⟩
  | 53 => ⟨S4x4x64x128, .f32⟩
  | 54 => ⟨S4x4x64x128, .f32⟩
  | 55 => ⟨S_, .f32⟩
  | 56 => ⟨S4x4, .f32⟩
  | 57 => ⟨S4x4x1x1, .f32⟩
  | 58 => ⟨S_, .f32⟩
  | 59 => ⟨S4x4, .f32⟩
  | 60 => ⟨S1x4x4x64x128, .f32⟩
  | 61 => ⟨S4x4x64x128, .f32⟩
  | 62 => ⟨S1x4x4x64x128, .f32⟩
  | 63 => ⟨S4x4x64x128, .f32⟩
  | 64 => ⟨S1x4x4x1x1, .f32⟩
  | 65 => ⟨S4x4x1x1, .f32⟩
  | 66 => ⟨S4x4x64x128, .f32⟩
  | 67 => ⟨S4x4x64x128, .f32⟩
  | 68 => ⟨S4x4x64x128, .f32⟩
  | 69 => ⟨S4x4x64x128, .f32⟩
  | 70 => ⟨S_, .f32⟩
  | 71 => ⟨S4x4, .f32⟩
  | 72 => ⟨S4x4x1x1, .f32⟩
  | 73 => ⟨S_, .f32⟩
  | 74 => ⟨S4x4, .f32⟩
  | 75 => ⟨S1x4x4x64x128, .f32⟩
  | 76 => ⟨S4x4x64x128, .f32⟩
  | 77 => ⟨S1x4x4x64x128, .f32⟩
  | 78 => ⟨S4x4x64x128, .f32⟩
  | 79 => ⟨S1x4x4x1x1, .f32⟩
  | 80 => ⟨S4x4x1x1, .f32⟩
  | 81 => ⟨S4x4x64x128, .f32⟩
  | 82 => ⟨S4x4x64x128, .f32⟩
  | 83 => ⟨S4x4x64x128, .f32⟩
  | 84 => ⟨S4x4x64x128, .f32⟩
  | 85 => ⟨S_, .f32⟩
  | 86 => ⟨S4x4, .f32⟩
  | 87 => ⟨S4x4x1x1, .f32⟩
  | 88 => ⟨S_, .f32⟩
  | 89 => ⟨S4x4, .f32⟩
  | 90 => ⟨S1x4x4x64x128, .f32⟩
  | 91 => ⟨S4x4x64x128, .f32⟩
  | 92 => ⟨S1x4x4x64x128, .f32⟩
  | 93 => ⟨S4x4x64x128, .f32⟩
  | 94 => ⟨S1x4x4x1x1, .f32⟩
  | 95 => ⟨S4x4x1x1, .f32⟩
  | 96 => ⟨S4x4x64x128, .f32⟩
  | 97 => ⟨S4x4x64x128, .f32⟩
  | 98 => ⟨S4x4x64x128, .f32⟩
  | 99 => ⟨S4x4x64x128, .f32⟩
  | 100 => ⟨S_, .f32⟩
  | 101 => ⟨S4x4, .f32⟩
  | 102 => ⟨S4x4x1x1, .f32⟩
  | 103 => ⟨S_, .f32⟩
  | 104 => ⟨S4x4, .f32⟩
  | 105 => ⟨S1x4x4x64x128, .f32⟩
  | 106 => ⟨S4x4x64x128, .f32⟩
  | 107 => ⟨S1x4x4x64x128, .f32⟩
  | 108 => ⟨S4x4x64x128, .f32⟩
  | 109 => ⟨S1x4x4x1x1, .f32⟩
  | 110 => ⟨S4x4x1x1, .f32⟩
  | 111 => ⟨S4x4x64x128, .f32⟩
  | 112 => ⟨S4x4x64x128, .f32⟩
  | 113 => ⟨S4x4x64x128, .f32⟩
  | 114 => ⟨S4x4x64x128, .f32⟩
  | 115 => ⟨S_, .f32⟩
  | 116 => ⟨S4x4, .f32⟩
  | 117 => ⟨S4x4x1x1, .f32⟩
  | 118 => ⟨S_, .f32⟩
  | 119 => ⟨S4x4, .f32⟩
  | 120 => ⟨S1x4x4x64x128, .f32⟩
  | 121 => ⟨S4x4x64x128, .f32⟩
  | 122 => ⟨S1x4x4x64x128, .f32⟩
  | 123 => ⟨S4x4x64x128, .f32⟩
  | 124 => ⟨S1x4x4x1x1, .f32⟩
  | 125 => ⟨S4x4x1x1, .f32⟩
  | 126 => ⟨S4x4x64x128, .f32⟩
  | 127 => ⟨S4x4x64x128, .f32⟩
  | _ => ⟨S2048x2048, .f32⟩

abbrev hbmTy0_5 (i : Nat) : BufTy := match i % 128 with
  | 0 => ⟨S4x4x64x128, .f32⟩
  | 1 => ⟨S4x4x64x128, .f32⟩
  | 2 => ⟨S_, .f32⟩
  | 3 => ⟨S4x4, .f32⟩
  | 4 => ⟨S4x4x1x1, .f32⟩
  | 5 => ⟨S_, .f32⟩
  | 6 => ⟨S4x4, .f32⟩
  | 7 => ⟨S1x4x4x64x128, .f32⟩
  | 8 => ⟨S4x4x64x128, .f32⟩
  | 9 => ⟨S1x4x4x64x128, .f32⟩
  | 10 => ⟨S4x4x64x128, .f32⟩
  | 11 => ⟨S1x4x4x1x1, .f32⟩
  | 12 => ⟨S4x4x1x1, .f32⟩
  | 13 => ⟨S4x4x64x128, .f32⟩
  | 14 => ⟨S4x4x64x128, .f32⟩
  | 15 => ⟨S4x4x64x128, .f32⟩
  | 16 => ⟨S4x4x64x128, .f32⟩
  | 17 => ⟨S_, .f32⟩
  | 18 => ⟨S4x4, .f32⟩
  | 19 => ⟨S4x4x1x1, .f32⟩
  | 20 => ⟨S_, .f32⟩
  | 21 => ⟨S4x4, .f32⟩
  | 22 => ⟨S1x4x4x64x128, .f32⟩
  | 23 => ⟨S1x4x4x64x128, .f32⟩
  | 24 => ⟨S1x4x4x64x128, .f32⟩
  | 25 => ⟨S1x4x4x64x128, .f32⟩
  | 26 => ⟨S1x4x4x64x128, .f32⟩
  | 27 => ⟨S1x4x4x64x128, .f32⟩
  | 28 => ⟨S1x4x4x64x128, .f32⟩
  | 29 => ⟨S1x4x4x64x128, .f32⟩
  | 30 => ⟨S1x4x4x64x128, .f32⟩
  | 31 => ⟨S1x4x4x64x128, .f32⟩
  | 32 => ⟨S1x4x4x64x128, .f32⟩
  | 33 => ⟨S1x4x4x64x128, .f32⟩
  | 34 => ⟨S1x4x4x64x128, .f32⟩
  | 35 => ⟨S1x4x4x64x128, .f32⟩
  | 36 => ⟨S1x4x4x64x128, .f32⟩
  | 37 => ⟨S1x4x4x64x128, .f32⟩
  | 38 => ⟨S16x4x4x64x128, .f32⟩
  | 39 => ⟨S1x4x4, .f32⟩
  | 40 => ⟨S1x4x4, .f32⟩
  | 41 => ⟨S1x4x4, .f32⟩
  | 42 => ⟨S1x4x4, .f32⟩
  | 43 => ⟨S1x4x4, .f32⟩
  | 44 => ⟨S1x4x4, .f32⟩
  | 45 => ⟨S1x4x4, .f32⟩
  | 46 => ⟨S1x4x4, .f32⟩
  | 47 => ⟨S1x4x4, .f32⟩
  | 48 => ⟨S1x4x4, .f32⟩
  | 49 => ⟨S1x4x4, .f32⟩
  | 50 => ⟨S1x4x4, .f32⟩
  | 51 => ⟨S1x4x4, .f32⟩
  | 52 => ⟨S1x4x4, .f32⟩
  | 53 => ⟨S1x4x4, .f32⟩
  | 54 => ⟨S1x4x4, .f32⟩
  | 55 => ⟨S16x4x4, .f32⟩
  | 56 => ⟨S16x4x4x64x128, .f32⟩
  | 57 => ⟨S16x4x4, .f32⟩
  | 58 => ⟨S4x4x16, .f32⟩
  | 59 => ⟨S4x4x16, .f32⟩
  | 60 => ⟨S4x4x16x1, .f32⟩
  | 61 => ⟨S_, .f32⟩
  | 62 => ⟨S4x4x16x128, .f32⟩
  | 63 => ⟨S4x4x16x128, .f32⟩
  | 64 => ⟨S16x4x128x128, .f32⟩
  | 65 => ⟨S16x128x4x128, .f32⟩
  | 66 => ⟨S16x4x4x64x128, .f32⟩
  | 67 => ⟨S16x128x4x4x64, .f32⟩
  | 68 => ⟨S16x128x4x4x64, .f32⟩
  | 69 => ⟨S16x128x4x4x64, .f32⟩
  | 70 => ⟨S16x128x4x4x64, .f32⟩
  | 71 => ⟨S_, .f32⟩
  | 72 => ⟨S16x128x4x4, .f32⟩
  | 73 => ⟨S16x128x4x4x1, .f32⟩
  | 74 => ⟨S_, .f32⟩
  | 75 => ⟨S16x128x4x4, .f32⟩
  | 76 => ⟨S4x4x16x128, .f32⟩
  | 77 => ⟨S4x4x16x128, .f32⟩
  | 78 => ⟨S_, .f32⟩
  | 79 => ⟨S4x4x16, .f32⟩
  | 80 => ⟨S4x4x16x1, .f32⟩
  | 81 => ⟨S4x4x16x128, .f32⟩
  | 82 => ⟨S4x4x16x128, .f32⟩
  | 83 => ⟨S_, .f32⟩
  | 84 => ⟨S4x4x16x128, .f32⟩
  | 85 => ⟨S4x4x16x128, .f32⟩
  | 86 => ⟨S16x4x4x64x128, .f32⟩
  | 87 => ⟨S16x4x4x128x128, .f32⟩
  | 88 => ⟨S4x4x16x128x128, .f32⟩
  | 89 => ⟨S16x4x4x64x128, .f32⟩
  | 90 => ⟨S16x128x4x4x64, .f32⟩
  | 91 => ⟨S16x128x4x4x64, .f32⟩
  | 92 => ⟨S4x4x16x128x128, .f32⟩
  | 93 => ⟨S4x4x16x128x128, .f32⟩
  | 94 => ⟨S4x4x16x128x128, .f32⟩
  | 95 => ⟨S_, .f32⟩
  | 96 => ⟨S4x16x128x128, .f32⟩
  | 97 => ⟨S4x1x16x128x128, .f32⟩
  | 98 => ⟨S_, .f32⟩
  | 99 => ⟨S4x16x128x128, .f32⟩
  | 100 => ⟨S4x16x128x128, .f32⟩
  | 101 => ⟨S16x128x4x128, .f32⟩
  | 102 => ⟨S16x128x4x128, .f32⟩
  | 103 => ⟨S4x16x128x128, .f32⟩
  | 104 => ⟨S16x128x4x128, .f32⟩
  | 105 => ⟨S16x128x4x128, .f32⟩
  | 106 => ⟨S4x4x16x128x128, .f32⟩
  | 107 => ⟨S_, .f32⟩
  | 108 => ⟨S4x4x16x128x128, .f32⟩
  | 109 => ⟨S4x4x16x128x128, .f32⟩
  | 110 => ⟨S_, .f32⟩
  | 111 => ⟨S4x4x16x128, .f32⟩
  | 112 => ⟨S4x4x16x128x1, .f32⟩
  | 113 => ⟨S4x4x16x128x128, .f32⟩
  | 114 => ⟨S_, .f32⟩
  | 115 => ⟨S4x4x16x128, .f32⟩
  | 116 => ⟨S4x4x16x1x128, .f32⟩
  | 117 => ⟨S_, .f32⟩
  | 118 => ⟨S4x4x16x128, .f32⟩
  | 119 => ⟨S4x4x16x128, .f32⟩
  | 120 => ⟨S_, .f32⟩
  | 121 => ⟨S4x4x16x128, .f32⟩
  | 122 => ⟨S4x4x16x128, .f32⟩
  | 123 => ⟨S_, .f32⟩
  | 124 => ⟨S_, .f32⟩
  | 125 => ⟨S4x4x16x128, .f32⟩
  | 126 => ⟨S2048x4x128, .f32⟩
  | 127 => ⟨S2048x4x128, .f32⟩
  | _ => ⟨S2048x2048, .f32⟩

abbrev hbmTy0_6 (i : Nat) : BufTy := match i % 128 with
  | 0 => ⟨S16x128x4x4, .f32⟩
  | 1 => ⟨S2048x16, .f32⟩
  | 2 => ⟨S2048x16, .f32⟩
  | 3 => ⟨S_, .f32⟩
  | 4 => ⟨S16, .f32⟩
  | 5 => ⟨S1x16, .f32⟩
  | 6 => ⟨S2048x16, .f32⟩
  | 7 => ⟨S2048x16, .f32⟩
  | 8 => ⟨S_, .f32⟩
  | 9 => ⟨S16, .f32⟩
  | 10 => ⟨S2048x16x64, .f32⟩
  | 11 => ⟨S2048x16x64, .f32⟩
  | 12 => ⟨S_, .f32⟩
  | 13 => ⟨S2048x16, .f32⟩
  | 14 => ⟨S2048x16x1, .f32⟩
  | 15 => ⟨S2048x16x64, .f32⟩
  | 16 => ⟨S2048x16x64, .f32⟩
  | 17 => ⟨S2048x16x64, .f32⟩
  | 18 => ⟨S_, .f32⟩
  | 19 => ⟨S2048x16, .f32⟩
  | 20 => ⟨S2048x16, .f32⟩
  | 21 => ⟨S16, .f32⟩
  | 22 => ⟨S16, .f32⟩
  | 23 => ⟨S1x16, .f32⟩
  | 24 => ⟨S2048x16, .f32⟩
  | 25 => ⟨S_, .f32⟩
  | 26 => ⟨S16, .f32⟩
  | 27 => ⟨S1x16, .f32⟩
  | 28 => ⟨S2048x512, .f32⟩
  | 29 => ⟨S_, .f32⟩
  | 30 => ⟨S2048x2048, .f32⟩
  | 31 => ⟨S2048x512, .f32⟩
  | 32 => ⟨S_, .f32⟩
  | 33 => ⟨S2048x2048, .f32⟩
  | 34 => ⟨S2048x2048, .f32⟩
  | 35 => ⟨S2048x1024, .f32⟩
  | 36 => ⟨S_, .f32⟩
  | 37 => ⟨S2048x2048, .f32⟩
  | 38 => ⟨S2048x2048, .f32⟩
  | 39 => ⟨S_, .f32⟩
  | 40 => ⟨S1x112, .f32⟩
  | 41 => ⟨S1x128, .f32⟩
  | 42 => ⟨S_, .f32⟩
  | 43 => ⟨S1x112, .f32⟩
  | 44 => ⟨S1x128, .f32⟩
  | 45 => ⟨S_, .f32⟩
  | 46 => ⟨S1x112, .f32⟩
  | 47 => ⟨S1x128, .f32⟩
  | 48 => ⟨S_, .f32⟩
  | 49 => ⟨S5x128, .f32⟩
  | 50 => ⟨S8x128, .f32⟩
  | 51 => ⟨S_, .f32⟩
  | 52 => ⟨S2048x112, .f32⟩
  | 53 => ⟨S2048x128, .f32⟩
  | 54 => ⟨S2048x128, .bf16⟩
  | 55 => ⟨S2048x1024, .bf16⟩
  | _ => ⟨S2048x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v10_0 : Ref sig .tc := ⟨.hbm, 30, rfl⟩
abbrev main_call0_cst_0 : Ref sig .tc := ⟨.hbm, 31, rfl⟩
abbrev main_call0_v13 : Ref sig .tc := ⟨.hbm, 32, rfl⟩
abbrev main_call0_v14 : Ref sig .tc := ⟨.hbm, 33, rfl⟩
abbrev main_call0_cst_1 : Ref sig .tc := ⟨.hbm, 34, rfl⟩
abbrev main_call0_v15 : Ref sig .tc := ⟨.hbm, 35, rfl⟩
abbrev main_call0_v16 : Ref sig .tc := ⟨.hbm, 36, rfl⟩
abbrev main_call0_cst_2 : Ref sig .tc := ⟨.hbm, 37, rfl⟩
abbrev main_call0_v17 : Ref sig .tc := ⟨.hbm, 38, rfl⟩
abbrev main_call0_v18 : Ref sig .tc := ⟨.hbm, 39, rfl⟩
abbrev main_call0_cst_3 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_v10_1 : Ref sig .tc := ⟨.hbm, 44, rfl⟩
abbrev main_call0_cst_4 : Ref sig .tc := ⟨.hbm, 45, rfl⟩
abbrev main_call0_cst_5 : Ref sig .tc := ⟨.hbm, 46, rfl⟩
abbrev main_call0_v23 : Ref sig .tc := ⟨.hbm, 47, rfl⟩
abbrev main_call0_cst_6 : Ref sig .tc := ⟨.hbm, 48, rfl⟩
abbrev main_call0_cst_7 : Ref sig .tc := ⟨.hbm, 49, rfl⟩
abbrev main_call0_v24 : Ref sig .tc := ⟨.hbm, 50, rfl⟩
abbrev main_call0_cst_8 : Ref sig .tc := ⟨.hbm, 51, rfl⟩
abbrev main_call0_v25 : Ref sig .tc := ⟨.hbm, 52, rfl⟩
abbrev main_call0_v26 : Ref sig .tc := ⟨.hbm, 53, rfl⟩
abbrev main_call0_cst_9 : Ref sig .tc := ⟨.hbm, 54, rfl⟩
abbrev main_call0_v27 : Ref sig .tc := ⟨.hbm, 55, rfl⟩
abbrev main_call0_v28 : Ref sig .tc := ⟨.hbm, 56, rfl⟩
abbrev main_call0_v29 : Ref sig .tc := ⟨.hbm, 57, rfl⟩
abbrev main_call0_v30 : Ref sig .tc := ⟨.hbm, 58, rfl⟩
abbrev main_call0_v31 : Ref sig .tc := ⟨.hbm, 59, rfl⟩
abbrev main_call0_cst_10 : Ref sig .tc := ⟨.hbm, 60, rfl⟩
abbrev main_call0_v32 : Ref sig .tc := ⟨.hbm, 61, rfl⟩
abbrev main_v10_2 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_call1_call0_cst : Ref sig .tc := ⟨.hbm, 77, rfl⟩
abbrev main_call1_call0_v0 : Ref sig .tc := ⟨.hbm, 78, rfl⟩
abbrev main_v25 : Ref sig .tc := ⟨.hbm, 79, rfl⟩
abbrev main_c : Ref sig .tc := ⟨.hbm, 80, rfl⟩
abbrev main_v26 : Ref sig .tc := ⟨.hbm, 81, rfl⟩
abbrev main_call2_v0 : Ref sig .tc := ⟨.hbm, 82, rfl⟩
abbrev main_call2_c : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_c_0 : Ref sig .tc := ⟨.hbm, 88, rfl⟩
abbrev main_call2_v5 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_cst : Ref sig .tc := ⟨.hbm, 96, rfl⟩
abbrev main_call3_v0 : Ref sig .tc := ⟨.hbm, 97, rfl⟩
abbrev main_v33_1 : Ref sig .tc := ⟨.hbm, 98, rfl⟩
abbrev main_call3_v2 : Ref sig .tc := ⟨.hbm, 99, rfl⟩
abbrev main_v33_0 : Ref sig .tc := ⟨.hbm, 100, rfl⟩
abbrev main_call3_cst : Ref sig .tc := ⟨.hbm, 101, rfl⟩
abbrev main_v33_2 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_cst_0 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_1 : Ref sig .tc := ⟨.hbm, 129, rfl⟩
abbrev main_v59 : Ref sig .tc := ⟨.hbm, 130, rfl⟩
abbrev main_cst_2 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_call4_v0 : Ref sig .tc := ⟨.hbm, 313, rfl⟩
abbrev main_call4_v1 : Ref sig .tc := ⟨.hbm, 314, rfl⟩
abbrev main_call4_cst : Ref sig .tc := ⟨.hbm, 315, rfl⟩
abbrev main_call4_v2 : Ref sig .tc := ⟨.hbm, 316, rfl⟩
abbrev main_call4_v3 : Ref sig .tc := ⟨.hbm, 317, rfl⟩
abbrev main_call4_cst_0 : Ref sig .tc := ⟨.hbm, 318, rfl⟩
abbrev main_call4_v4 : Ref sig .tc := ⟨.hbm, 319, rfl⟩
abbrev main_v241_2 : Ref sig .tc := ⟨.hbm, 320, rfl⟩
abbrev main_call4_cst_1 : Ref sig .tc := ⟨.hbm, 321, rfl⟩
abbrev main_call4_v6 : Ref sig .tc := ⟨.hbm, 322, rfl⟩
abbrev main_call4_v7 : Ref sig .tc := ⟨.hbm, 323, rfl⟩
abbrev main_v241_1 : Ref sig .tc := ⟨.hbm, 324, rfl⟩
abbrev main_v241_0 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_cst_3 : Ref sig .tc := ⟨.hbm, 329, rfl⟩
abbrev main_v245 : Ref sig .tc := ⟨.hbm, 330, rfl⟩
abbrev main_v246 : Ref sig .tc := ⟨.hbm, 331, rfl⟩
abbrev main_cst_4 : Ref sig .tc := ⟨.hbm, 332, rfl⟩
abbrev main_v247 : Ref sig .tc := ⟨.hbm, 333, rfl⟩
abbrev main_v248 : Ref sig .tc := ⟨.hbm, 334, rfl⟩
abbrev main_cst_5 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_cst_6 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_cst_7 : Ref sig .tc := ⟨.hbm, 349, rfl⟩
abbrev main_v261 : Ref sig .tc := ⟨.hbm, 350, rfl⟩
abbrev main_v262 : Ref sig .tc := ⟨.hbm, 351, rfl⟩
abbrev main_cst_8 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_cst_9 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_v272 : Ref sig .tc := ⟨.hbm, 363, rfl⟩
abbrev main_v273 : Ref sig .tc := ⟨.hbm, 364, rfl⟩
abbrev main_cst_10 : Ref sig .tc := ⟨.hbm, 365, rfl⟩
abbrev main_v274 : Ref sig .tc := ⟨.hbm, 366, rfl⟩
abbrev main_v275 : Ref sig .tc := ⟨.hbm, 367, rfl⟩
abbrev main_cst_11 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_call5_v0 : Ref sig .tc := ⟨.hbm, 378, rfl⟩
abbrev main_call5_v1 : Ref sig .tc := ⟨.hbm, 379, rfl⟩
abbrev main_call5_v2 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_cst_12 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_v291 : Ref sig .tc := ⟨.hbm, 388, rfl⟩
abbrev main_cst_13 : Ref sig .tc := ⟨.hbm, 389, rfl⟩
abbrev main_v292 : Ref sig .tc := ⟨.hbm, 390, rfl⟩
abbrev main_v293 : Ref sig .tc := ⟨.hbm, 391, rfl⟩
abbrev main_cst_14 : Ref sig .tc := ⟨.hbm, 392, rfl⟩
abbrev main_v294 : Ref sig .tc := ⟨.hbm, 393, rfl⟩
abbrev main_v295 : Ref sig .tc := ⟨.hbm, 394, rfl⟩
abbrev main_v296 : Ref sig .tc := ⟨.hbm, 395, rfl⟩
abbrev main_v297 : Ref sig .tc := ⟨.hbm, 396, rfl⟩
abbrev main_cst_15 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_v301 : Ref sig .tc := ⟨.hbm, 401, rfl⟩
abbrev main_cst_16 : Ref sig .tc := ⟨.hbm, 402, rfl⟩
abbrev main_v302 : Ref sig .tc := ⟨.hbm, 403, rfl⟩
abbrev main_v303 : Ref sig .tc := ⟨.hbm, 404, rfl⟩
abbrev main_v304 : Ref sig .tc := ⟨.hbm, 405, rfl⟩
abbrev main_v305 : Ref sig .tc := ⟨.hbm, 406, rfl⟩
abbrev main_v306 : Ref sig .tc := ⟨.hbm, 407, rfl⟩
abbrev main_v307 : Ref sig .tc := ⟨.hbm, 408, rfl⟩
abbrev main_v308 : Ref sig .tc := ⟨.hbm, 409, rfl⟩
abbrev main_cst_17 : Ref sig .tc := ⟨.hbm, 410, rfl⟩
abbrev main_v309 : Ref sig .tc := ⟨.hbm, 411, rfl⟩
abbrev main_v310 : Ref sig .tc := ⟨.hbm, 412, rfl⟩
abbrev main_v311 : Ref sig .tc := ⟨.hbm, 413, rfl⟩
abbrev main_v312 : Ref sig .tc := ⟨.hbm, 414, rfl⟩
abbrev main_v313 : Ref sig .tc := ⟨.hbm, 415, rfl⟩
abbrev main_v314 : Ref sig .tc := ⟨.hbm, 416, rfl⟩
abbrev main_v315 : Ref sig .tc := ⟨.hbm, 417, rfl⟩
abbrev main_cst_18 : Ref sig .tc := ⟨.hbm, 418, rfl⟩
abbrev main_v316 : Ref sig .tc := ⟨.hbm, 419, rfl⟩
abbrev main_cst_19 : Ref sig .tc := ⟨.hbm, 420, rfl⟩
abbrev main_v317 : Ref sig .tc := ⟨.hbm, 421, rfl⟩
abbrev main_v318 : Ref sig .tc := ⟨.hbm, 422, rfl⟩
abbrev main_v319 : Ref sig .tc := ⟨.hbm, 423, rfl⟩
abbrev main_v320 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_cst_20 : Ref sig .tc := ⟨.hbm, 432, rfl⟩
abbrev main_v328 : Ref sig .tc := ⟨.hbm, 433, rfl⟩
abbrev main_v329 : Ref sig .tc := ⟨.hbm, 434, rfl⟩
abbrev main_cst_21 : Ref sig .tc := ⟨.hbm, 435, rfl⟩
abbrev main_v330 : Ref sig .tc := ⟨.hbm, 436, rfl⟩
abbrev main_v331 : Ref sig .tc := ⟨.hbm, 437, rfl⟩
abbrev main_v332 : Ref sig .tc := ⟨.hbm, 438, rfl⟩
abbrev main_v333 : Ref sig .tc := ⟨.hbm, 439, rfl⟩
abbrev main_v334 : Ref sig .tc := ⟨.hbm, 440, rfl⟩
abbrev main_v335 : Ref sig .tc := ⟨.hbm, 441, rfl⟩
abbrev main_v336 : Ref sig .tc := ⟨.hbm, 442, rfl⟩
abbrev main_v337 : Ref sig .tc := ⟨.hbm, 443, rfl⟩
abbrev main_v338 : Ref sig .tc := ⟨.hbm, 444, rfl⟩
abbrev main_v339 : Ref sig .tc := ⟨.hbm, 445, rfl⟩
abbrev main_v340 : Ref sig .tc := ⟨.hbm, 446, rfl⟩
abbrev main_cst_22 : Ref sig .tc := ⟨.hbm, 447, rfl⟩
abbrev main_v341 : Ref sig .tc := ⟨.hbm, 448, rfl⟩
abbrev main_v342 : Ref sig .tc := ⟨.hbm, 449, rfl⟩
abbrev main_cst_23 : Ref sig .tc := ⟨.hbm, 450, rfl⟩
abbrev main_v343 : Ref sig .tc := ⟨.hbm, 451, rfl⟩
abbrev main_v344 : Ref sig .tc := ⟨.hbm, 452, rfl⟩
abbrev main_v345 : Ref sig .tc := ⟨.hbm, 453, rfl⟩
abbrev main_v346 : Ref sig .tc := ⟨.hbm, 454, rfl⟩
abbrev main_v347 : Ref sig .tc := ⟨.hbm, 455, rfl⟩
abbrev main_v348 : Ref sig .tc := ⟨.hbm, 456, rfl⟩
abbrev main_v349 : Ref sig .tc := ⟨.hbm, 457, rfl⟩
abbrev main_v350 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_cst_24 : Ref sig .tc := ⟨.hbm, 462, rfl⟩
abbrev main_v354 : Ref sig .tc := ⟨.hbm, 463, rfl⟩
abbrev main_v355 : Ref sig .tc := ⟨.hbm, 464, rfl⟩
abbrev main_cst_25 : Ref sig .tc := ⟨.hbm, 465, rfl⟩
abbrev main_v356 : Ref sig .tc := ⟨.hbm, 466, rfl⟩
abbrev main_v357 : Ref sig .tc := ⟨.hbm, 467, rfl⟩
abbrev main_v358 : Ref sig .tc := ⟨.hbm, 468, rfl⟩
abbrev main_v359 : Ref sig .tc := ⟨.hbm, 469, rfl⟩
abbrev main_v360 : Ref sig .tc := ⟨.hbm, 470, rfl⟩
abbrev main_v361 : Ref sig .tc := ⟨.hbm, 471, rfl⟩
abbrev main_v362 : Ref sig .tc := ⟨.hbm, 472, rfl⟩
abbrev main_v363 : Ref sig .tc := ⟨.hbm, 473, rfl⟩
abbrev main_v364 : Ref sig .tc := ⟨.hbm, 474, rfl⟩
abbrev main_v365 : Ref sig .tc := ⟨.hbm, 475, rfl⟩
abbrev main_v366 : Ref sig .tc := ⟨.hbm, 476, rfl⟩
abbrev main_cst_26 : Ref sig .tc := ⟨.hbm, 477, rfl⟩
abbrev main_v367 : Ref sig .tc := ⟨.hbm, 478, rfl⟩
abbrev main_v368 : Ref sig .tc := ⟨.hbm, 479, rfl⟩
abbrev main_cst_27 : Ref sig .tc := ⟨.hbm, 480, rfl⟩
abbrev main_v369 : Ref sig .tc := ⟨.hbm, 481, rfl⟩
abbrev main_v370 : Ref sig .tc := ⟨.hbm, 482, rfl⟩
abbrev main_v371 : Ref sig .tc := ⟨.hbm, 483, rfl⟩
abbrev main_v372 : Ref sig .tc := ⟨.hbm, 484, rfl⟩
abbrev main_v373 : Ref sig .tc := ⟨.hbm, 485, rfl⟩
abbrev main_v374 : Ref sig .tc := ⟨.hbm, 486, rfl⟩
abbrev main_v375 : Ref sig .tc := ⟨.hbm, 487, rfl⟩
abbrev main_v376 : Ref sig .tc := ⟨.hbm, 488, rfl⟩
abbrev main_v377 : Ref sig .tc := ⟨.hbm, 489, rfl⟩
abbrev main_v378 : Ref sig .tc := ⟨.hbm, 490, rfl⟩
abbrev main_v379 : Ref sig .tc := ⟨.hbm, 491, rfl⟩
abbrev main_cst_28 : Ref sig .tc := ⟨.hbm, 492, rfl⟩
abbrev main_v380 : Ref sig .tc := ⟨.hbm, 493, rfl⟩
abbrev main_v381 : Ref sig .tc := ⟨.hbm, 494, rfl⟩
abbrev main_cst_29 : Ref sig .tc := ⟨.hbm, 495, rfl⟩
abbrev main_v382 : Ref sig .tc := ⟨.hbm, 496, rfl⟩
abbrev main_v383 : Ref sig .tc := ⟨.hbm, 497, rfl⟩
abbrev main_v384 : Ref sig .tc := ⟨.hbm, 498, rfl⟩
abbrev main_v385 : Ref sig .tc := ⟨.hbm, 499, rfl⟩
abbrev main_v386 : Ref sig .tc := ⟨.hbm, 500, rfl⟩
abbrev main_v387 : Ref sig .tc := ⟨.hbm, 501, rfl⟩
abbrev main_v388 : Ref sig .tc := ⟨.hbm, 502, rfl⟩
abbrev main_v389 : Ref sig .tc := ⟨.hbm, 503, rfl⟩
abbrev main_v390 : Ref sig .tc := ⟨.hbm, 504, rfl⟩
abbrev main_v391 : Ref sig .tc := ⟨.hbm, 505, rfl⟩
abbrev main_v392 : Ref sig .tc := ⟨.hbm, 506, rfl⟩
abbrev main_cst_30 : Ref sig .tc := ⟨.hbm, 507, rfl⟩
abbrev main_v393 : Ref sig .tc := ⟨.hbm, 508, rfl⟩
abbrev main_v394 : Ref sig .tc := ⟨.hbm, 509, rfl⟩
abbrev main_cst_31 : Ref sig .tc := ⟨.hbm, 510, rfl⟩
abbrev main_v395 : Ref sig .tc := ⟨.hbm, 511, rfl⟩
abbrev main_v396 : Ref sig .tc := ⟨.hbm, 512, rfl⟩
abbrev main_v397 : Ref sig .tc := ⟨.hbm, 513, rfl⟩
abbrev main_v398 : Ref sig .tc := ⟨.hbm, 514, rfl⟩
abbrev main_v399 : Ref sig .tc := ⟨.hbm, 515, rfl⟩
abbrev main_v400 : Ref sig .tc := ⟨.hbm, 516, rfl⟩
abbrev main_v401 : Ref sig .tc := ⟨.hbm, 517, rfl⟩
abbrev main_v402 : Ref sig .tc := ⟨.hbm, 518, rfl⟩
abbrev main_v403 : Ref sig .tc := ⟨.hbm, 519, rfl⟩
abbrev main_v404 : Ref sig .tc := ⟨.hbm, 520, rfl⟩
abbrev main_v405 : Ref sig .tc := ⟨.hbm, 521, rfl⟩
abbrev main_cst_32 : Ref sig .tc := ⟨.hbm, 522, rfl⟩
abbrev main_v406 : Ref sig .tc := ⟨.hbm, 523, rfl⟩
abbrev main_v407 : Ref sig .tc := ⟨.hbm, 524, rfl⟩
abbrev main_cst_33 : Ref sig .tc := ⟨.hbm, 525, rfl⟩
abbrev main_v408 : Ref sig .tc := ⟨.hbm, 526, rfl⟩
abbrev main_v409 : Ref sig .tc := ⟨.hbm, 527, rfl⟩
abbrev main_v410 : Ref sig .tc := ⟨.hbm, 528, rfl⟩
abbrev main_v411 : Ref sig .tc := ⟨.hbm, 529, rfl⟩
abbrev main_v412 : Ref sig .tc := ⟨.hbm, 530, rfl⟩
abbrev main_v413 : Ref sig .tc := ⟨.hbm, 531, rfl⟩
abbrev main_v414 : Ref sig .tc := ⟨.hbm, 532, rfl⟩
abbrev main_v415 : Ref sig .tc := ⟨.hbm, 533, rfl⟩
abbrev main_v416 : Ref sig .tc := ⟨.hbm, 534, rfl⟩
abbrev main_v417 : Ref sig .tc := ⟨.hbm, 535, rfl⟩
abbrev main_v418 : Ref sig .tc := ⟨.hbm, 536, rfl⟩
abbrev main_cst_34 : Ref sig .tc := ⟨.hbm, 537, rfl⟩
abbrev main_v419 : Ref sig .tc := ⟨.hbm, 538, rfl⟩
abbrev main_v420 : Ref sig .tc := ⟨.hbm, 539, rfl⟩
abbrev main_cst_35 : Ref sig .tc := ⟨.hbm, 540, rfl⟩
abbrev main_v421 : Ref sig .tc := ⟨.hbm, 541, rfl⟩
abbrev main_v422 : Ref sig .tc := ⟨.hbm, 542, rfl⟩
abbrev main_v423 : Ref sig .tc := ⟨.hbm, 543, rfl⟩
abbrev main_v424 : Ref sig .tc := ⟨.hbm, 544, rfl⟩
abbrev main_v425 : Ref sig .tc := ⟨.hbm, 545, rfl⟩
abbrev main_v426 : Ref sig .tc := ⟨.hbm, 546, rfl⟩
abbrev main_v427 : Ref sig .tc := ⟨.hbm, 547, rfl⟩
abbrev main_v428 : Ref sig .tc := ⟨.hbm, 548, rfl⟩
abbrev main_v429 : Ref sig .tc := ⟨.hbm, 549, rfl⟩
abbrev main_v430 : Ref sig .tc := ⟨.hbm, 550, rfl⟩
abbrev main_v431 : Ref sig .tc := ⟨.hbm, 551, rfl⟩
abbrev main_cst_36 : Ref sig .tc := ⟨.hbm, 552, rfl⟩
abbrev main_v432 : Ref sig .tc := ⟨.hbm, 553, rfl⟩
abbrev main_v433 : Ref sig .tc := ⟨.hbm, 554, rfl⟩
abbrev main_cst_37 : Ref sig .tc := ⟨.hbm, 555, rfl⟩
abbrev main_v434 : Ref sig .tc := ⟨.hbm, 556, rfl⟩
abbrev main_v435 : Ref sig .tc := ⟨.hbm, 557, rfl⟩
abbrev main_v436 : Ref sig .tc := ⟨.hbm, 558, rfl⟩
abbrev main_v437 : Ref sig .tc := ⟨.hbm, 559, rfl⟩
abbrev main_v438 : Ref sig .tc := ⟨.hbm, 560, rfl⟩
abbrev main_v439 : Ref sig .tc := ⟨.hbm, 561, rfl⟩
abbrev main_v440 : Ref sig .tc := ⟨.hbm, 562, rfl⟩
abbrev main_v441 : Ref sig .tc := ⟨.hbm, 563, rfl⟩
abbrev main_v442 : Ref sig .tc := ⟨.hbm, 564, rfl⟩
abbrev main_v443 : Ref sig .tc := ⟨.hbm, 565, rfl⟩
abbrev main_v444 : Ref sig .tc := ⟨.hbm, 566, rfl⟩
abbrev main_cst_38 : Ref sig .tc := ⟨.hbm, 567, rfl⟩
abbrev main_v445 : Ref sig .tc := ⟨.hbm, 568, rfl⟩
abbrev main_v446 : Ref sig .tc := ⟨.hbm, 569, rfl⟩
abbrev main_cst_39 : Ref sig .tc := ⟨.hbm, 570, rfl⟩
abbrev main_v447 : Ref sig .tc := ⟨.hbm, 571, rfl⟩
abbrev main_v448 : Ref sig .tc := ⟨.hbm, 572, rfl⟩
abbrev main_v449 : Ref sig .tc := ⟨.hbm, 573, rfl⟩
abbrev main_v450 : Ref sig .tc := ⟨.hbm, 574, rfl⟩
abbrev main_v451 : Ref sig .tc := ⟨.hbm, 575, rfl⟩
abbrev main_v452 : Ref sig .tc := ⟨.hbm, 576, rfl⟩
abbrev main_v453 : Ref sig .tc := ⟨.hbm, 577, rfl⟩
abbrev main_v454 : Ref sig .tc := ⟨.hbm, 578, rfl⟩
abbrev main_v455 : Ref sig .tc := ⟨.hbm, 579, rfl⟩
abbrev main_v456 : Ref sig .tc := ⟨.hbm, 580, rfl⟩
abbrev main_v457 : Ref sig .tc := ⟨.hbm, 581, rfl⟩
abbrev main_cst_40 : Ref sig .tc := ⟨.hbm, 582, rfl⟩
abbrev main_v458 : Ref sig .tc := ⟨.hbm, 583, rfl⟩
abbrev main_v459 : Ref sig .tc := ⟨.hbm, 584, rfl⟩
abbrev main_cst_41 : Ref sig .tc := ⟨.hbm, 585, rfl⟩
abbrev main_v460 : Ref sig .tc := ⟨.hbm, 586, rfl⟩
abbrev main_v461 : Ref sig .tc := ⟨.hbm, 587, rfl⟩
abbrev main_v462 : Ref sig .tc := ⟨.hbm, 588, rfl⟩
abbrev main_v463 : Ref sig .tc := ⟨.hbm, 589, rfl⟩
abbrev main_v464 : Ref sig .tc := ⟨.hbm, 590, rfl⟩
abbrev main_v465 : Ref sig .tc := ⟨.hbm, 591, rfl⟩
abbrev main_v466 : Ref sig .tc := ⟨.hbm, 592, rfl⟩
abbrev main_v467 : Ref sig .tc := ⟨.hbm, 593, rfl⟩
abbrev main_v468 : Ref sig .tc := ⟨.hbm, 594, rfl⟩
abbrev main_v469 : Ref sig .tc := ⟨.hbm, 595, rfl⟩
abbrev main_v470 : Ref sig .tc := ⟨.hbm, 596, rfl⟩
abbrev main_cst_42 : Ref sig .tc := ⟨.hbm, 597, rfl⟩
abbrev main_v471 : Ref sig .tc := ⟨.hbm, 598, rfl⟩
abbrev main_v472 : Ref sig .tc := ⟨.hbm, 599, rfl⟩
abbrev main_cst_43 : Ref sig .tc := ⟨.hbm, 600, rfl⟩
abbrev main_v473 : Ref sig .tc := ⟨.hbm, 601, rfl⟩
abbrev main_v474 : Ref sig .tc := ⟨.hbm, 602, rfl⟩
abbrev main_v475 : Ref sig .tc := ⟨.hbm, 603, rfl⟩
abbrev main_v476 : Ref sig .tc := ⟨.hbm, 604, rfl⟩
abbrev main_v477 : Ref sig .tc := ⟨.hbm, 605, rfl⟩
abbrev main_v478 : Ref sig .tc := ⟨.hbm, 606, rfl⟩
abbrev main_v479 : Ref sig .tc := ⟨.hbm, 607, rfl⟩
abbrev main_v480 : Ref sig .tc := ⟨.hbm, 608, rfl⟩
abbrev main_v481 : Ref sig .tc := ⟨.hbm, 609, rfl⟩
abbrev main_v482 : Ref sig .tc := ⟨.hbm, 610, rfl⟩
abbrev main_v483 : Ref sig .tc := ⟨.hbm, 611, rfl⟩
abbrev main_cst_44 : Ref sig .tc := ⟨.hbm, 612, rfl⟩
abbrev main_v484 : Ref sig .tc := ⟨.hbm, 613, rfl⟩
abbrev main_v485 : Ref sig .tc := ⟨.hbm, 614, rfl⟩
abbrev main_cst_45 : Ref sig .tc := ⟨.hbm, 615, rfl⟩
abbrev main_v486 : Ref sig .tc := ⟨.hbm, 616, rfl⟩
abbrev main_v487 : Ref sig .tc := ⟨.hbm, 617, rfl⟩
abbrev main_v488 : Ref sig .tc := ⟨.hbm, 618, rfl⟩
abbrev main_v489 : Ref sig .tc := ⟨.hbm, 619, rfl⟩
abbrev main_v490 : Ref sig .tc := ⟨.hbm, 620, rfl⟩
abbrev main_v491 : Ref sig .tc := ⟨.hbm, 621, rfl⟩
abbrev main_v492 : Ref sig .tc := ⟨.hbm, 622, rfl⟩
abbrev main_v493 : Ref sig .tc := ⟨.hbm, 623, rfl⟩
abbrev main_v494 : Ref sig .tc := ⟨.hbm, 624, rfl⟩
abbrev main_v495 : Ref sig .tc := ⟨.hbm, 625, rfl⟩
abbrev main_v496 : Ref sig .tc := ⟨.hbm, 626, rfl⟩
abbrev main_cst_46 : Ref sig .tc := ⟨.hbm, 627, rfl⟩
abbrev main_v497 : Ref sig .tc := ⟨.hbm, 628, rfl⟩
abbrev main_v498 : Ref sig .tc := ⟨.hbm, 629, rfl⟩
abbrev main_cst_47 : Ref sig .tc := ⟨.hbm, 630, rfl⟩
abbrev main_v499 : Ref sig .tc := ⟨.hbm, 631, rfl⟩
abbrev main_v500 : Ref sig .tc := ⟨.hbm, 632, rfl⟩
abbrev main_v501 : Ref sig .tc := ⟨.hbm, 633, rfl⟩
abbrev main_v502 : Ref sig .tc := ⟨.hbm, 634, rfl⟩
abbrev main_v503 : Ref sig .tc := ⟨.hbm, 635, rfl⟩
abbrev main_v504 : Ref sig .tc := ⟨.hbm, 636, rfl⟩
abbrev main_v505 : Ref sig .tc := ⟨.hbm, 637, rfl⟩
abbrev main_v506 : Ref sig .tc := ⟨.hbm, 638, rfl⟩
abbrev main_v507 : Ref sig .tc := ⟨.hbm, 639, rfl⟩
abbrev main_v508 : Ref sig .tc := ⟨.hbm, 640, rfl⟩
abbrev main_v509 : Ref sig .tc := ⟨.hbm, 641, rfl⟩
abbrev main_cst_48 : Ref sig .tc := ⟨.hbm, 642, rfl⟩
abbrev main_v510 : Ref sig .tc := ⟨.hbm, 643, rfl⟩
abbrev main_v511 : Ref sig .tc := ⟨.hbm, 644, rfl⟩
abbrev main_cst_49 : Ref sig .tc := ⟨.hbm, 645, rfl⟩
abbrev main_v512 : Ref sig .tc := ⟨.hbm, 646, rfl⟩
abbrev main_v513 : Ref sig .tc := ⟨.hbm, 647, rfl⟩
abbrev main_v514 : Ref sig .tc := ⟨.hbm, 648, rfl⟩
abbrev main_v515 : Ref sig .tc := ⟨.hbm, 649, rfl⟩
abbrev main_v516 : Ref sig .tc := ⟨.hbm, 650, rfl⟩
abbrev main_v517 : Ref sig .tc := ⟨.hbm, 651, rfl⟩
abbrev main_v518 : Ref sig .tc := ⟨.hbm, 652, rfl⟩
abbrev main_v519 : Ref sig .tc := ⟨.hbm, 653, rfl⟩
abbrev main_v520 : Ref sig .tc := ⟨.hbm, 654, rfl⟩
abbrev main_v521 : Ref sig .tc := ⟨.hbm, 655, rfl⟩
abbrev main_v522 : Ref sig .tc := ⟨.hbm, 656, rfl⟩
abbrev main_cst_50 : Ref sig .tc := ⟨.hbm, 657, rfl⟩
abbrev main_v523 : Ref sig .tc := ⟨.hbm, 658, rfl⟩
abbrev main_v524 : Ref sig .tc := ⟨.hbm, 659, rfl⟩
abbrev main_cst_51 : Ref sig .tc := ⟨.hbm, 660, rfl⟩
abbrev main_v525 : Ref sig .tc := ⟨.hbm, 661, rfl⟩
abbrev main_v526 : Ref sig .tc := ⟨.hbm, 662, rfl⟩
abbrev main_v527 : Ref sig .tc := ⟨.hbm, 663, rfl⟩
abbrev main_v528 : Ref sig .tc := ⟨.hbm, 664, rfl⟩
abbrev main_v529 : Ref sig .tc := ⟨.hbm, 665, rfl⟩
abbrev main_v530 : Ref sig .tc := ⟨.hbm, 666, rfl⟩
abbrev main_v531 : Ref sig .tc := ⟨.hbm, 667, rfl⟩
abbrev main_v532 : Ref sig .tc := ⟨.hbm, 668, rfl⟩
abbrev main_v533 : Ref sig .tc := ⟨.hbm, 669, rfl⟩
abbrev main_v534 : Ref sig .tc := ⟨.hbm, 670, rfl⟩
abbrev main_v535 : Ref sig .tc := ⟨.hbm, 671, rfl⟩
abbrev main_v536 : Ref sig .tc := ⟨.hbm, 672, rfl⟩
abbrev main_v537 : Ref sig .tc := ⟨.hbm, 673, rfl⟩
abbrev main_v538 : Ref sig .tc := ⟨.hbm, 674, rfl⟩
abbrev main_v539 : Ref sig .tc := ⟨.hbm, 675, rfl⟩
abbrev main_v540 : Ref sig .tc := ⟨.hbm, 676, rfl⟩
abbrev main_v541 : Ref sig .tc := ⟨.hbm, 677, rfl⟩
abbrev main_v542 : Ref sig .tc := ⟨.hbm, 678, rfl⟩
abbrev main_v543 : Ref sig .tc := ⟨.hbm, 679, rfl⟩
abbrev main_v544 : Ref sig .tc := ⟨.hbm, 680, rfl⟩
abbrev main_v545 : Ref sig .tc := ⟨.hbm, 681, rfl⟩
abbrev main_v546 : Ref sig .tc := ⟨.hbm, 682, rfl⟩
abbrev main_v547 : Ref sig .tc := ⟨.hbm, 683, rfl⟩
abbrev main_v548 : Ref sig .tc := ⟨.hbm, 684, rfl⟩
abbrev main_v549 : Ref sig .tc := ⟨.hbm, 685, rfl⟩
abbrev main_v550 : Ref sig .tc := ⟨.hbm, 686, rfl⟩
abbrev main_v551 : Ref sig .tc := ⟨.hbm, 687, rfl⟩
abbrev main_v552 : Ref sig .tc := ⟨.hbm, 688, rfl⟩
abbrev main_v553 : Ref sig .tc := ⟨.hbm, 689, rfl⟩
abbrev main_v554 : Ref sig .tc := ⟨.hbm, 690, rfl⟩
abbrev main_v555 : Ref sig .tc := ⟨.hbm, 691, rfl⟩
abbrev main_v556 : Ref sig .tc := ⟨.hbm, 692, rfl⟩
abbrev main_v557 : Ref sig .tc := ⟨.hbm, 693, rfl⟩
abbrev main_v558 : Ref sig .tc := ⟨.hbm, 694, rfl⟩
abbrev main_v559 : Ref sig .tc := ⟨.hbm, 695, rfl⟩
abbrev main_v560 : Ref sig .tc := ⟨.hbm, 696, rfl⟩
abbrev main_v561 : Ref sig .tc := ⟨.hbm, 697, rfl⟩
abbrev main_v562 : Ref sig .tc := ⟨.hbm, 698, rfl⟩
abbrev main_v563 : Ref sig .tc := ⟨.hbm, 699, rfl⟩
abbrev main_v564 : Ref sig .tc := ⟨.hbm, 700, rfl⟩
abbrev main_cst_52 : Ref sig .tc := ⟨.hbm, 701, rfl⟩
abbrev main_v565 : Ref sig .tc := ⟨.hbm, 702, rfl⟩
abbrev main_v566 : Ref sig .tc := ⟨.hbm, 703, rfl⟩
abbrev main_v567 : Ref sig .tc := ⟨.hbm, 704, rfl⟩
abbrev main_v568 : Ref sig .tc := ⟨.hbm, 705, rfl⟩
abbrev main_v569 : Ref sig .tc := ⟨.hbm, 706, rfl⟩
abbrev main_v570 : Ref sig .tc := ⟨.hbm, 707, rfl⟩
abbrev main_v571 : Ref sig .tc := ⟨.hbm, 708, rfl⟩
abbrev main_v572 : Ref sig .tc := ⟨.hbm, 709, rfl⟩
abbrev main_v573 : Ref sig .tc := ⟨.hbm, 710, rfl⟩
abbrev main_cst_53 : Ref sig .tc := ⟨.hbm, 711, rfl⟩
abbrev main_v574 : Ref sig .tc := ⟨.hbm, 712, rfl⟩
abbrev main_v575 : Ref sig .tc := ⟨.hbm, 713, rfl⟩
abbrev main_cst_54 : Ref sig .tc := ⟨.hbm, 714, rfl⟩
abbrev main_v576 : Ref sig .tc := ⟨.hbm, 715, rfl⟩
abbrev main_v577 : Ref sig .tc := ⟨.hbm, 716, rfl⟩
abbrev main_v578 : Ref sig .tc := ⟨.hbm, 717, rfl⟩
abbrev main_cst_55 : Ref sig .tc := ⟨.hbm, 718, rfl⟩
abbrev main_v579 : Ref sig .tc := ⟨.hbm, 719, rfl⟩
abbrev main_v580 : Ref sig .tc := ⟨.hbm, 720, rfl⟩
abbrev main_v581 : Ref sig .tc := ⟨.hbm, 721, rfl⟩
abbrev main_v582 : Ref sig .tc := ⟨.hbm, 722, rfl⟩
abbrev main_cst_56 : Ref sig .tc := ⟨.hbm, 723, rfl⟩
abbrev main_v583 : Ref sig .tc := ⟨.hbm, 724, rfl⟩
abbrev main_v584 : Ref sig .tc := ⟨.hbm, 725, rfl⟩
abbrev main_v585 : Ref sig .tc := ⟨.hbm, 726, rfl⟩
abbrev main_v586 : Ref sig .tc := ⟨.hbm, 727, rfl⟩
abbrev main_v587 : Ref sig .tc := ⟨.hbm, 728, rfl⟩
abbrev main_v588 : Ref sig .tc := ⟨.hbm, 729, rfl⟩
abbrev main_v589 : Ref sig .tc := ⟨.hbm, 730, rfl⟩
abbrev main_v590 : Ref sig .tc := ⟨.hbm, 731, rfl⟩
abbrev main_v591 : Ref sig .tc := ⟨.hbm, 732, rfl⟩
abbrev main_v592 : Ref sig .tc := ⟨.hbm, 733, rfl⟩
abbrev main_v593 : Ref sig .tc := ⟨.hbm, 734, rfl⟩
abbrev main_cst_57 : Ref sig .tc := ⟨.hbm, 735, rfl⟩
abbrev main_v594 : Ref sig .tc := ⟨.hbm, 736, rfl⟩
abbrev main_v595 : Ref sig .tc := ⟨.hbm, 737, rfl⟩
abbrev main_cst_58 : Ref sig .tc := ⟨.hbm, 738, rfl⟩
abbrev main_v596 : Ref sig .tc := ⟨.hbm, 739, rfl⟩
abbrev main_v597 : Ref sig .tc := ⟨.hbm, 740, rfl⟩
abbrev main_v598 : Ref sig .tc := ⟨.hbm, 741, rfl⟩
abbrev main_v599 : Ref sig .tc := ⟨.hbm, 742, rfl⟩
abbrev main_v600 : Ref sig .tc := ⟨.hbm, 743, rfl⟩
abbrev main_v601 : Ref sig .tc := ⟨.hbm, 744, rfl⟩
abbrev main_v602 : Ref sig .tc := ⟨.hbm, 745, rfl⟩
abbrev main_v603 : Ref sig .tc := ⟨.hbm, 746, rfl⟩
abbrev main_call6_cst : Ref sig .tc := ⟨.hbm, 747, rfl⟩
abbrev main_call6_v0 : Ref sig .tc := ⟨.hbm, 748, rfl⟩
abbrev main_v604 : Ref sig .tc := ⟨.hbm, 749, rfl⟩
abbrev main_cst_59 : Ref sig .tc := ⟨.hbm, 750, rfl⟩
abbrev main_v605 : Ref sig .tc := ⟨.hbm, 751, rfl⟩
abbrev main_v606 : Ref sig .tc := ⟨.hbm, 752, rfl⟩
abbrev main_v607 : Ref sig .tc := ⟨.hbm, 753, rfl⟩
abbrev main_cst_60 : Ref sig .tc := ⟨.hbm, 754, rfl⟩
abbrev main_v608 : Ref sig .tc := ⟨.hbm, 755, rfl⟩
abbrev main_v609 : Ref sig .tc := ⟨.hbm, 756, rfl⟩
abbrev main_cst_61 : Ref sig .tc := ⟨.hbm, 757, rfl⟩
abbrev main_v610 : Ref sig .tc := ⟨.hbm, 758, rfl⟩
abbrev main_v611 : Ref sig .tc := ⟨.hbm, 759, rfl⟩
abbrev main_cst_62 : Ref sig .tc := ⟨.hbm, 760, rfl⟩
abbrev main_v612 : Ref sig .tc := ⟨.hbm, 761, rfl⟩
abbrev main_v613 : Ref sig .tc := ⟨.hbm, 762, rfl⟩
abbrev main_call7_call0_cst : Ref sig .tc := ⟨.hbm, 763, rfl⟩
abbrev main_call7_call0_v0 : Ref sig .tc := ⟨.hbm, 764, rfl⟩
abbrev main_v614 : Ref sig .tc := ⟨.hbm, 765, rfl⟩
abbrev main_v615 : Ref sig .tc := ⟨.hbm, 766, rfl⟩
abbrev main_v616 : Ref sig .tc := ⟨.hbm, 767, rfl⟩
abbrev main_v617 : Ref sig .tc := ⟨.hbm, 768, rfl⟩
abbrev main_v618 : Ref sig .tc := ⟨.hbm, 769, rfl⟩
abbrev main_v619 : Ref sig .tc := ⟨.hbm, 770, rfl⟩
abbrev main_cst_63 : Ref sig .tc := ⟨.hbm, 771, rfl⟩
abbrev main_v620 : Ref sig .tc := ⟨.hbm, 772, rfl⟩
abbrev main_v621 : Ref sig .tc := ⟨.hbm, 773, rfl⟩
abbrev main_v622 : Ref sig .tc := ⟨.hbm, 774, rfl⟩
abbrev main_v623 : Ref sig .tc := ⟨.hbm, 775, rfl⟩
abbrev main_cst_64 : Ref sig .tc := ⟨.hbm, 776, rfl⟩
abbrev main_v624 : Ref sig .tc := ⟨.hbm, 777, rfl⟩
abbrev main_v625 : Ref sig .tc := ⟨.hbm, 778, rfl⟩
abbrev main_v626 : Ref sig .tc := ⟨.hbm, 779, rfl⟩
abbrev main_cst_65 : Ref sig .tc := ⟨.hbm, 780, rfl⟩
abbrev main_v627 : Ref sig .tc := ⟨.hbm, 781, rfl⟩
abbrev main_v628 : Ref sig .tc := ⟨.hbm, 782, rfl⟩
abbrev main_v629 : Ref sig .tc := ⟨.hbm, 783, rfl⟩
abbrev main_v630 : Ref sig .tc := ⟨.hbm, 784, rfl⟩
abbrev main_v631 : Ref sig .tc := ⟨.hbm, 785, rfl⟩
abbrev main_cst_66 : Ref sig .tc := ⟨.hbm, 786, rfl⟩
abbrev main_v632 : Ref sig .tc := ⟨.hbm, 787, rfl⟩
abbrev main_v633 : Ref sig .tc := ⟨.hbm, 788, rfl⟩
abbrev main_v634 : Ref sig .tc := ⟨.hbm, 789, rfl⟩
abbrev main_v635 : Ref sig .tc := ⟨.hbm, 790, rfl⟩
abbrev main_v636 : Ref sig .tc := ⟨.hbm, 791, rfl⟩
abbrev main_v637 : Ref sig .tc := ⟨.hbm, 792, rfl⟩
abbrev main_cst_67 : Ref sig .tc := ⟨.hbm, 793, rfl⟩
abbrev main_v638 : Ref sig .tc := ⟨.hbm, 794, rfl⟩
abbrev main_v639 : Ref sig .tc := ⟨.hbm, 795, rfl⟩
abbrev main_v640 : Ref sig .tc := ⟨.hbm, 796, rfl⟩
abbrev main_cst_68 : Ref sig .tc := ⟨.hbm, 797, rfl⟩
abbrev main_v641 : Ref sig .tc := ⟨.hbm, 798, rfl⟩
abbrev main_v642 : Ref sig .tc := ⟨.hbm, 799, rfl⟩
abbrev main_cst_69 : Ref sig .tc := ⟨.hbm, 800, rfl⟩
abbrev main_v643 : Ref sig .tc := ⟨.hbm, 801, rfl⟩
abbrev main_v644 : Ref sig .tc := ⟨.hbm, 802, rfl⟩
abbrev main_v645 : Ref sig .tc := ⟨.hbm, 803, rfl⟩
abbrev main_cst_70 : Ref sig .tc := ⟨.hbm, 804, rfl⟩
abbrev main_v646 : Ref sig .tc := ⟨.hbm, 805, rfl⟩
abbrev main_v647 : Ref sig .tc := ⟨.hbm, 806, rfl⟩
abbrev main_cst_71 : Ref sig .tc := ⟨.hbm, 807, rfl⟩
abbrev main_v648 : Ref sig .tc := ⟨.hbm, 808, rfl⟩
abbrev main_v649 : Ref sig .tc := ⟨.hbm, 809, rfl⟩
abbrev main_cst_72 : Ref sig .tc := ⟨.hbm, 810, rfl⟩
abbrev main_v650 : Ref sig .tc := ⟨.hbm, 811, rfl⟩
abbrev main_v651 : Ref sig .tc := ⟨.hbm, 812, rfl⟩
abbrev main_cst_73 : Ref sig .tc := ⟨.hbm, 813, rfl⟩
abbrev main_v652 : Ref sig .tc := ⟨.hbm, 814, rfl⟩
abbrev main_v653 : Ref sig .tc := ⟨.hbm, 815, rfl⟩
abbrev main_cst_74 : Ref sig .tc := ⟨.hbm, 816, rfl⟩
abbrev main_v654 : Ref sig .tc := ⟨.hbm, 817, rfl⟩
abbrev main_v655 : Ref sig .tc := ⟨.hbm, 818, rfl⟩
abbrev main_cst_75 : Ref sig .tc := ⟨.hbm, 819, rfl⟩
abbrev main_v656 : Ref sig .tc := ⟨.hbm, 820, rfl⟩
abbrev main_v657 : Ref sig .tc := ⟨.hbm, 821, rfl⟩
abbrev main_v658 : Ref sig .tc := ⟨.hbm, 822, rfl⟩
abbrev main_v659 : Ref sig .tc := ⟨.hbm, 823, rfl⟩

abbrev nD : Nat := 1
abbrev τ : Topo := Topo.v7x

variable {F : FTy → Type} [FloatOps F]
-- ==== Kernel3.lean ====
abbrev S2048x5632 : Shape := ⟨2, ![2048, 5632]⟩
abbrev S2048x2048 : Shape := ⟨2, ![2048, 2048]⟩
abbrev S4x2048 : Shape := ⟨2, ![4, 2048]⟩
abbrev S1x2048 : Shape := ⟨2, ![1, 2048]⟩
abbrev S_ : Shape := ⟨0, ![]⟩
abbrev S8x2048 : Shape := ⟨2, ![8, 2048]⟩
abbrev S2048x256 : Shape := ⟨2, ![2048, 256]⟩
abbrev S8x256 : Shape := ⟨2, ![8, 256]⟩
abbrev S1x256 : Shape := ⟨2, ![1, 256]⟩
abbrev S2056x256 : Shape := ⟨2, ![2056, 256]⟩
abbrev S256x256 : Shape := ⟨2, ![256, 256]⟩
abbrev S264x256 : Shape := ⟨2, ![264, 256]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S4x2048, .f32⟩
  | .hbm, ⟨3, _⟩ => ⟨S1x2048, .f32⟩
  | .hbm, ⟨4, _⟩ => ⟨S_, .f32⟩
  | .hbm, ⟨5, _⟩ => ⟨S4x2048, .f32⟩
  | .hbm, ⟨6, _⟩ => ⟨S8x2048, .f32⟩
  | .hbm, ⟨7, _⟩ => ⟨S2048x2048, .bf16⟩
  | .hbm, ⟨8, _⟩ => ⟨S8x2048, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S8x256, .f32⟩
  | .local _ .vmem, ⟨5, _⟩ => ⟨S8x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S8x256, .f32⟩
  | .local _ .vmem, ⟨11, _⟩ => ⟨S8x256, .f32⟩
  | .local _ .vmem, ⟨12, _⟩ => ⟨S2056x256, .f32⟩
  | .local _ .vmem, ⟨13, _⟩ => ⟨S2056x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v13 : BitVec 32 := Scalar.muli arg9 c256_i32
  v13
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v13 : BitVec 32 := Scalar.muli arg9 c256_i32
  let v14 : BitVec 32 := v13
  let v15 : Index := Scalar.indexCast v14
  let c0_15 : Index := 0#32
  ![v15.toNat, 0]
def k0_mult2 (k0_t1 : Fin k0_t1_loop.trips) : BitVec 32 :=
  let c8_i32_16 : BitVec 32 := 8#32
  let c0_i32 : BitVec 32 := 0#32
  let c1_i32 : BitVec 32 := 1#32
  let arg9 : BitVec 32 := Scf.iv c0_i32 c1_i32 k0_t1
  let c256_i32 : BitVec 32 := 256#32
  let v13 : BitVec 32 := Scalar.muli arg9 c256_i32
  let v14 : BitVec 32 := v13
  let v17 : BitVec 32 := Scalar.addi c8_i32_16 v14
  v17
def k0_off2 (k0_t1 : Fin k0_t1_loop.trips) : Fin 2 → Nat :=
  let c8_i32_16 : BitVec 32 := 8#32
  let c0_i32 : BitVec 32 := 0#32
  let c1_i32 : BitVec 32 := 1#32
  let arg9 : BitVec 32 := Scf.iv c0_i32 c1_i32 k0_t1
  let c256_i32 : BitVec 32 := 256#32
  let v13 : BitVec 32 := Scalar.muli arg9 c256_i32
  let v14 : BitVec 32 := v13
  let v17 : BitVec 32 := Scalar.addi c8_i32_16 v14
  let v18 : BitVec 32 := v17
  let v19 : Index := Scalar.indexCast v18
  let c0_17 : Index := 0#32
  ![v19.toNat, 0]
@[reducible] def k0_t2_loop : Scf.Loop 32 :=
  let c0_i32_7 : BitVec 32 := 0#32
  let c8_i32_8 : BitVec 32 := 8#32
  let v11 : BitVec 32 := Scalar.addi c0_i32_7 c8_i32_8
  let c1_i32_9 : BitVec 32 := 1#32
  ⟨c0_i32_7, v11, c1_i32_9⟩
def k0_mult3 (k0_t2 : Fin k0_t2_loop.trips) : BitVec 32 :=
  let c0_i32_7 : BitVec 32 := 0#32
  let c1_i32_9 : BitVec 32 := 1#32
  let arg9 : BitVec 32 := Scf.iv c0_i32_7 c1_i32_9 k0_t2
  let c256_i32 : BitVec 32 := 256#32
  let v13 : BitVec 32 := Scalar.muli arg9 c256_i32
  v13
def k0_off3 (k0_t2 : Fin k0_t2_loop.trips) : Fin 2 → Nat :=
  let c0_i32_7 : BitVec 32 := 0#32
  let c1_i32_9 : BitVec 32 := 1#32
  let arg9 : BitVec 32 := Scf.iv c0_i32_7 c1_i32_9 k0_t2
  let c256_i32 : BitVec 32 := 256#32
  let v13 : BitVec 32 := Scalar.muli arg9 c256_i32
  let v14 : BitVec 32 := v13
  let v15 : Index := Scalar.indexCast v14
  let c0_15 : Index := 0#32
  ![v15.toNat, 0]
def k0_off4 (k0_t2 : Fin k0_t2_loop.trips) : Fin 2 → Nat :=
  let c0_i32_7 : BitVec 32 := 0#32
  let c1_i32_9 : BitVec 32 := 1#32
  let arg9 : BitVec 32 := Scf.iv c0_i32_7 c1_i32_9 k0_t2
  let c256_i32 : BitVec 32 := 256#32
  let v13 : BitVec 32 := Scalar.muli arg9 c256_i32
  let v14 : BitVec 32 := v13
  let v47 : Index := Scalar.indexCast v14
  let c0_24 : Index := 0#32
  ![v47.toNat, 0]
def k0_off5 (k0_t2 : Fin k0_t2_loop.trips) : Fin 2 → Nat :=
  let c0_i32_7 : BitVec 32 := 0#32
  let c1_i32_9 : BitVec 32 := 1#32
  let arg9 : BitVec 32 := Scf.iv c0_i32_7 c1_i32_9 k0_t2
  let c256_i32 : BitVec 32 := 256#32
  let v13 : BitVec 32 := Scalar.muli arg9 c256_i32
  let v14 : BitVec 32 := v13
  let v56 : Index := Scalar.indexCast v14
  let c0_27 : Index := 0#32
  ![v56.toNat, 0]
@[reducible] def k0_t3_loop : Scf.Loop 32 :=
  let c0_i32_11 : BitVec 32 := 0#32
  let c8_i32_12 : BitVec 32 := 8#32
  let v12 : BitVec 32 := Scalar.addi c0_i32_11 c8_i32_12
  let c1_i32_13 : BitVec 32 := 1#32
  ⟨c0_i32_11, v12, c1_i32_13⟩
def k0_mult4 (k0_t3 : Fin k0_t3_loop.trips) : BitVec 32 :=
  let c0_i32_11 : BitVec 32 := 0#32
  let c1_i32_13 : BitVec 32 := 1#32
  let arg9 : BitVec 32 := Scf.iv c0_i32_11 c1_i32_13 k0_t3
  let c256_i32 : BitVec 32 := 256#32
  let v13 : BitVec 32 := Scalar.muli arg9 c256_i32
  v13
def k0_off6 (k0_t3 : Fin k0_t3_loop.trips) : Fin 2 → Nat :=
  let c0_i32_11 : BitVec 32 := 0#32
  let c1_i32_13 : BitVec 32 := 1#32
  let arg9 : BitVec 32 := Scf.iv c0_i32_11 c1_i32_13 k0_t3
  let c256_i32 : BitVec 32 := 256#32
  let v13 : BitVec 32 := Scalar.muli arg9 c256_i32
  let v14 : BitVec 32 := v13
  let v15 : Index := Scalar.indexCast v14
  let c0_15 : Index := 0#32
  ![v15.toNat, 0]
def k0_off7 (k0_t3 : Fin k0_t3_loop.trips) : Fin 2 → Nat :=
  let c0_i32_11 : BitVec 32 := 0#32
  let c1_i32_13 : BitVec 32 := 1#32
  let arg9 : BitVec 32 := Scf.iv c0_i32_11 c1_i32_13 k0_t3
  let c256_i32 : BitVec 32 := 256#32
  let v13 : BitVec 32 := Scalar.muli arg9 c256_i32
  let v14 : BitVec 32 := v13
  let v44 : Index := Scalar.indexCast v14
  let c0_21 : Index := 0#32
  ![v44.toNat, 0]
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2048x5632 : Shape := ⟨2, ![2048, 5632]⟩
abbrev S2048x2048 : Shape := ⟨2, ![2048, 2048]⟩
abbrev S4x2048 : Shape := ⟨2, ![4, 2048]⟩
abbrev S1x2048 : Shape := ⟨2, ![1, 2048]⟩
abbrev S_ : Shape := ⟨0, ![]⟩
abbrev S3x2048 : Shape := ⟨2, ![3, 2048]⟩
abbrev S2051x2048 : Shape := ⟨2, ![2051, 2048]⟩
abbrev S2048 : Shape := ⟨1, ![2048]⟩
abbrev S8x2048 : Shape := ⟨2, ![8, 2048]⟩

abbrev nBuf : Space → Nat
  | .hbm => 103
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S4x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S3x2048, .f32⟩
  | .hbm, ⟨7, _⟩ => ⟨S2051x2048, .f32⟩
  | .hbm, ⟨8, _⟩ => ⟨S_, .f32⟩
  | .hbm, ⟨9, _⟩ => ⟨S3x2048, .f32⟩
  | .hbm, ⟨10, _⟩ => ⟨S1x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2051x2048, .f32⟩
  | .hbm, ⟨59, _⟩ => ⟨S_, .f32⟩
  | .hbm, ⟨60, _⟩ => ⟨S4x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S_, .f32⟩
  | .hbm, ⟨68, _⟩ => ⟨S2051x2048, .f32⟩
  | .hbm, ⟨69, _⟩ => ⟨S2051x2048, .f32⟩
  | .hbm, ⟨70, _⟩ => ⟨S_, .f32⟩
  | .hbm, ⟨71, _⟩ => ⟨S4x2048, .f32⟩
  | .hbm, ⟨72, _⟩ => ⟨S4x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S_, .f32⟩
  | .hbm, ⟨80, _⟩ => ⟨S2051x2048, .f32⟩
  | .hbm, ⟨81, _⟩ => ⟨S2051x2048, .f32⟩
  | .hbm, ⟨82, _⟩ => ⟨S_, .f32⟩
  | .hbm, ⟨83, _⟩ => ⟨S4x2048, .f32⟩
  | .hbm, ⟨84, _⟩ => ⟨S4x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S_, .f32⟩
  | .hbm, ⟨89, _⟩ => ⟨S2048, .f32⟩
  | .hbm, ⟨90, _⟩ => ⟨S1x2048, .f32⟩
  | .hbm, ⟨91, _⟩ => ⟨S_, .f32⟩
  | .hbm, ⟨92, _⟩ => ⟨S2051x2048, .f32⟩
  | .hbm, ⟨93, _⟩ => ⟨S2051x2048, .f32⟩
  | .hbm, ⟨94, _⟩ => ⟨S_, .f32⟩
  | .hbm, ⟨95, _⟩ => ⟨S4x2048, .f32⟩
  | .hbm, ⟨96, _⟩ => ⟨S4x2048, .f32⟩
  | .hbm, ⟨97, _⟩ => ⟨S3x2048, .f32⟩
  | .hbm, ⟨98, _⟩ => ⟨S2048x2048, .f32⟩
  | .hbm, ⟨99, _⟩ => ⟨S2048x2048, .bf16⟩
  | .hbm, ⟨100, _⟩ => ⟨S_, .f32⟩
  | .hbm, ⟨101, _⟩ => ⟨S3x2048, .f32⟩
  | .hbm, ⟨102, _⟩ => ⟨S8x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v25_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v25_1 : Ref sig .tc := ⟨.hbm, 42, rfl⟩
abbrev main_v25_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩

abbrev nD : Nat := 1
abbrev τ : Topo := Topo.v7x

variable {F : FTy → Type} [FloatOps F]
-- ==== Kernel7.lean ====
abbrev S2048x1024 : Shape := ⟨2, ![2048, 1024]⟩
abbrev S4096x1024 : Shape := ⟨2, ![4096, 1024]⟩
abbrev S2048x4096 : Shape := ⟨2, ![2048, 4096]⟩
abbrev S2048x512 : Shape := ⟨2, ![2048, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S2048x4096, .bf16⟩
  | .hbm, ⟨4, _⟩ => ⟨S2048x1024, .bf16⟩
  | .hbm, ⟨5, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S2048x5632 : Shape := ⟨2, ![2048, 5632]⟩
abbrev S4x2048 : Shape := ⟨2, ![4, 2048]⟩
abbrev S1x2048 : Shape := ⟨2, ![1, 2048]⟩
abbrev S_ : Shape := ⟨0, ![]⟩
abbrev S8x2048 : Shape := ⟨2, ![8, 2048]⟩
abbrev S2048x2048 : Shape := ⟨2, ![2048, 2048]⟩
abbrev S2048x256 : Shape := ⟨2, ![2048, 256]⟩
abbrev S8x256 : Shape := ⟨2, ![8, 256]⟩
abbrev S1x256 : Shape := ⟨2, ![1, 256]⟩
abbrev S2056x256 : Shape := ⟨2, ![2056, 256]⟩
abbrev S256x256 : Shape := ⟨2, ![256, 256]⟩
abbrev S264x256 : Shape := ⟨2, ![264, 256]⟩

abbrev nBuf : Space → Nat
  | .hbm => 7
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S4x2048, .f32⟩
  | .hbm, ⟨2, _⟩ => ⟨S1x2048, .f32⟩
  | .hbm, ⟨3, _⟩ => ⟨S_, .f32⟩
  | .hbm, ⟨4, _⟩ => ⟨S4x2048, .f32⟩
  | .hbm, ⟨5, _⟩ => ⟨S8x2048, .f32⟩
  | .hbm, ⟨6, _⟩ => ⟨S2048x2048, .f32⟩
  | .local _ .vmem, ⟨0, _⟩ => ⟨S2048x256, .f32⟩
  | .local _ .vmem, ⟨1, _⟩ => ⟨S2048x256, .f32⟩
  | .local _ .vmem, ⟨2, _⟩ => ⟨S8x256, .f32⟩
  | .local _ .vmem, ⟨3, _⟩ => ⟨S8x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2056x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  v6
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  let v7 : BitVec 32 := v6
  let v8 : Index := Scalar.indexCast v7
  let c0_6 : Index := 0#32
  ![v8.toNat, 0]
def k0_mult2 (k0_t1 : Fin k0_t1_loop.trips) : BitVec 32 :=
  let c8_i32_7 : BitVec 32 := 8#32
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  let v7 : BitVec 32 := v6
  let v10 : BitVec 32 := Scalar.addi c8_i32_7 v7
  v10
def k0_off2 (k0_t1 : Fin k0_t1_loop.trips) : Fin 2 → Nat :=
  let c8_i32_7 : BitVec 32 := 8#32
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  let v7 : BitVec 32 := v6
  let v10 : BitVec 32 := Scalar.addi c8_i32_7 v7
  let v11 : BitVec 32 := v10
  let v12 : Index := Scalar.indexCast v11
  let c0_8 : Index := 0#32
  ![v12.toNat, 0]
@[reducible] def k0_t2_loop : Scf.Loop 32 :=
  let c0_i32_2 : BitVec 32 := 0#32
  let c8_i32_3 : BitVec 32 := 8#32
  let v5 : BitVec 32 := Scalar.addi c0_i32_2 c8_i32_3
  let c1_i32_4 : BitVec 32 := 1#32
  ⟨c0_i32_2, v5, c1_i32_4⟩
def k0_mult3 (k0_t2 : Fin k0_t2_loop.trips) : BitVec 32 :=
  let c0_i32_2 : BitVec 32 := 0#32
  let c1_i32_4 : BitVec 32 := 1#32
  let arg6 : BitVec 32 := Scf.iv c0_i32_2 c1_i32_4 k0_t2
  let c256_i32 : BitVec 32 := 256#32
  let v6 : BitVec 32 := Scalar.muli arg6 c256_i32
  v6
def k0_off3 (k0_t2 : Fin k0_t2_loop.trips) : Fin 2 → Nat :=
  let c0_i32_2 : BitVec 32 := 0#32
  let c1_i32_4 : BitVec 32 := 1#32
  let arg6 : BitVec 32 := Scf.iv c0_i32_2 c1_i32_4 k0_t2
  let c256_i32 : BitVec 32 := 256#32
  let v6 : BitVec 32 := Scalar.muli arg6 c256_i32
  let v7 : BitVec 32 := v6
  let v8 : Index := Scalar.indexCast v7
  let c0_6 : Index := 0#32
  ![v8.toNat, 0]
def k0_off4 (k0_t2 : Fin k0_t2_loop.trips) : Fin 2 → Nat :=
  let c0_i32_2 : BitVec 32 := 0#32
  let c1_i32_4 : BitVec 32 := 1#32
  let arg6 : BitVec 32 := Scf.iv c0_i32_2 c1_i32_4 k0_t2
  let c256_i32 : BitVec 32 := 256#32
  let v6 : BitVec 32 := Scalar.muli arg6 c256_i32
  let v7 : BitVec 32 := v6
  let v41 : Index := Scalar.indexCast v7
  let c0_15 : Index := 0#32
  ![v41.toNat, 0]
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S2048x5632 : Shape := ⟨2, ![2048, 5632]⟩
abbrev S4x2048 : Shape := ⟨2, ![4, 2048]⟩
abbrev S1x2048 : Shape := ⟨2, ![1, 2048]⟩
abbrev S2048x2048 : Shape := ⟨2, ![2048, 2048]⟩
abbrev S_ : Shape := ⟨0, ![]⟩
abbrev S3x2048 : Shape := ⟨2, ![3, 2048]⟩
abbrev S2051x2048 : Shape := ⟨2, ![2051, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S4x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S3x2048, .f32⟩
  | .hbm, ⟨6, _⟩ => ⟨S2051x2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel9.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x4096, .bf16⟩
  | .hbm, ⟨6, _⟩ => ⟨S4096x1024, .bf16⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel10.lean ====
abbrev S2048x1024 : Shape := ⟨2, ![2048, 1024]⟩
abbrev S1024x5136 : Shape := ⟨2, ![1024, 5136]⟩
abbrev S2048x2048 : Shape := ⟨2, ![2048, 2048]⟩
abbrev S2048x16 : Shape := ⟨2, ![2048, 16]⟩
abbrev S5136x1024 : Shape := ⟨2, ![5136, 1024]⟩
abbrev S_ : Shape := ⟨0, ![]⟩
abbrev S496x1024 : Shape := ⟨2, ![496, 1024]⟩
abbrev S5632x1024 : Shape := ⟨2, ![5632, 1024]⟩
abbrev S2048x112 : Shape := ⟨2, ![2048, 112]⟩
abbrev S2048x128 : Shape := ⟨2, ![2048, 128]⟩
abbrev S256x1024 : Shape := ⟨2, ![256, 1024]⟩
abbrev S256x2048 : Shape := ⟨2, ![256, 2048]⟩
abbrev S256x128 : Shape := ⟨2, ![256, 128]⟩
abbrev S1024x1024 : Shape := ⟨2, ![1024, 1024]⟩
abbrev S128x1024 : Shape := ⟨2, ![128, 1024]⟩

abbrev nBuf : Space → Nat
  | .hbm => 22
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x5136, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x2048, .f32⟩
  | .hbm, ⟨6, _⟩ => ⟨S2048x16, .f32⟩
  | .hbm, ⟨7, _⟩ => ⟨S2048x1024, .f32⟩
  | .hbm, ⟨8, _⟩ => ⟨S5136x1024, .f32⟩
  | .hbm, ⟨9, _⟩ => ⟨S_, .f32⟩
  | .hbm, ⟨10, _⟩ => ⟨S496x1024, .f32⟩
  | .hbm, ⟨11, _⟩ => ⟨S5632x1024, .f32⟩
  | .hbm, ⟨12, _⟩ => ⟨S5632x1024, .bf16⟩
  | .hbm, ⟨13, _⟩ => ⟨S_, .f32⟩
  | .hbm, ⟨14, _⟩ => ⟨S2048x112, .f32⟩
  | .hbm, ⟨15, _⟩ => ⟨S2048x128, .f32⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x2048, .bf16⟩
  | .hbm, ⟨20, _⟩ => ⟨S2048x128, .bf16⟩
  | .hbm, ⟨21, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x128, .bf16⟩
  | .local _ .vmem, ⟨9, _⟩ => ⟨S256x128, .bf16⟩
  | .local _ .vmem, ⟨10, _⟩ => ⟨S5632x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S2048x1024 : Shape := ⟨2, ![2048, 1024]⟩
abbrev S1024x5136 : Shape := ⟨2, ![1024, 5136]⟩
abbrev S2048x2048 : Shape := ⟨2, ![2048, 2048]⟩
abbrev S2048x16 : Shape := ⟨2, ![2048, 16]⟩
abbrev S2048x5136 : Shape := ⟨2, ![2048, 5136]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5136, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x2048, .f32⟩
  | .hbm, ⟨6, _⟩ => ⟨S2048x16, .f32⟩
  | .hbm, ⟨7, _⟩ => ⟨S2048x1024, .f32⟩
  | .hbm, ⟨8, _⟩ => ⟨S2048x5136, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x2048, .f32⟩
  | .hbm, ⟨16, _⟩ => ⟨S2048x16, .f32⟩
  | .hbm, ⟨17, _⟩ => ⟨S2048x5136, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Kernel11.lean ====
abbrev S4x512x1024 : Shape := ⟨3, ![4, 512, 1024]⟩
abbrev S512x1024 : Shape := ⟨2, ![512, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S4x512x1024, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S4x512x1024 : Shape := ⟨3, ![4, 512, 1024]⟩
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S2048x4096 : Shape := ⟨2, ![2048, 4096]⟩
abbrev S1024x4096 : Shape := ⟨2, ![1024, 4096]⟩
abbrev S2048x1024 : Shape := ⟨2, ![2048, 1024]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S1024x4096, .f32⟩
  | .hbm, ⟨2, _⟩ => ⟨S2048x1024, .f32⟩
  | .hbm, ⟨3, _⟩ => ⟨S2048x1024, .bf16⟩
  | .hbm, ⟨4, _⟩ => ⟨S2048x4096, .bf16⟩
  | .hbm, ⟨5, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x4096 : Shape := ⟨2, ![2048, 4096]⟩
abbrev S1024x4096 : Shape := ⟨2, ![1024, 4096]⟩
abbrev S2048x1024 : Shape := ⟨2, ![2048, 1024]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1024x4096, .f32⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x1024 : Shape := ⟨2, ![2048, 1024]⟩
abbrev S2048x2048 : Shape := ⟨2, ![2048, 2048]⟩
abbrev S2048x512 : Shape := ⟨2, ![2048, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x2048, .bf16⟩
  | .hbm, ⟨4, _⟩ => ⟨S2048x1024, .bf16⟩
  | .hbm, ⟨5, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S2048x1024 : Shape := ⟨2, ![2048, 1024]⟩
abbrev S256x1024 : Shape := ⟨2, ![256, 1024]⟩
abbrev S2048x256 : Shape := ⟨2, ![2048, 256]⟩
abbrev S8x256x128 : Shape := ⟨3, ![8, 256, 128]⟩
abbrev S2048x128 : Shape := ⟨2, ![2048, 128]⟩
abbrev S1x256x128 : Shape := ⟨3, ![1, 256, 128]⟩
abbrev S256x128 : Shape := ⟨2, ![256, 128]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S2048x256, .f32⟩
  | .hbm, ⟨3, _⟩ => ⟨S2048x1024, .bf16⟩
  | .hbm, ⟨4, _⟩ => ⟨S8x256x128, .bf16⟩
  | .local _ .vmem, ⟨0, _⟩ => ⟨S2048x256, .f32⟩
  | .local _ .vmem, ⟨1, _⟩ => ⟨S2048x128, .bf16⟩
  | .local _ .vmem, ⟨2, _⟩ => ⟨S2048x128, .bf16⟩
  | .local _ .vmem, ⟨3, _⟩ => ⟨S1x256x128, .bf16⟩
  | .local _ .vmem, ⟨4, _⟩ => ⟨S1x256x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2048x1024 : Shape := ⟨2, ![2048, 1024]⟩
abbrev S256x1024 : Shape := ⟨2, ![256, 1024]⟩
abbrev S2048x256 : Shape := ⟨2, ![2048, 256]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S2048x256, .f32⟩
  | .hbm, ⟨3, _⟩ => ⟨S2048x1024, .f32⟩
  | .hbm, ⟨4, _⟩ => ⟨S1024x256, .f32⟩
  | .hbm, ⟨5, _⟩ => ⟨S256x1024, .f32⟩
  | .hbm, ⟨6, _⟩ => ⟨S256x1024, .bf16⟩
  | .hbm, ⟨7, _⟩ => ⟨S256x8x128, .bf16⟩
  | .hbm, ⟨8, _⟩ => ⟨S8x256x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S2048x4096, .f32⟩
  | .hbm, ⟨6, _⟩ => ⟨S2048x1024, .f32⟩
  | .hbm, ⟨7, _⟩ => ⟨S2048x4096, .bf16⟩
  | .hbm, ⟨8, _⟩ => ⟨S1024x4096, .bf16⟩
  | .hbm, ⟨9, _⟩ => ⟨S2048x1024, .f32⟩
  | .hbm, ⟨10, _⟩ => ⟨S2048x1024, .bf16⟩
  | .hbm, ⟨11, _⟩ => ⟨S1x1024, .f32⟩
  | .hbm, ⟨12, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference16Ideal.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S2048x4096, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x4096, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048, .f32⟩
  | .hbm, ⟨84, _⟩ => ⟨S2048x1024, .f32⟩
  | .hbm, ⟨85, _⟩ => ⟨S2048x1024, .f32⟩
  | .hbm, ⟨86, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel17.lean ====
abbrev S2048x1024 : Shape := ⟨2, ![2048, 1024]⟩
abbrev S1024x5136 : Shape := ⟨2, ![1024, 5136]⟩
abbrev S5136x1024 : Shape := ⟨2, ![5136, 1024]⟩
abbrev S_ : Shape := ⟨0, ![]⟩
abbrev S496x1024 : Shape := ⟨2, ![496, 1024]⟩
abbrev S5632x1024 : Shape := ⟨2, ![5632, 1024]⟩
abbrev S2048x5632 : Shape := ⟨2, ![2048, 5632]⟩
abbrev S512x1024 : Shape := ⟨2, ![512, 1024]⟩
abbrev S2048x512 : Shape := ⟨2, ![2048, 512]⟩

abbrev nBuf : Space → Nat
  | .hbm => 9
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x5136, .f32⟩
  | .hbm, ⟨2, _⟩ => ⟨S5136x1024, .f32⟩
  | .hbm, ⟨3, _⟩ => ⟨S_, .f32⟩
  | .hbm, ⟨4, _⟩ => ⟨S496x1024, .f32⟩
  | .hbm, ⟨5, _⟩ => ⟨S5632x1024, .f32⟩
  | .hbm, ⟨6, _⟩ => ⟨S5632x1024, .bf16⟩
  | .hbm, ⟨7, _⟩ => ⟨S2048x1024, .bf16⟩
  | .hbm, ⟨8, _⟩ => ⟨S2048x5632, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S2048x1024 : Shape := ⟨2, ![2048, 1024]⟩
abbrev S1024x5136 : Shape := ⟨2, ![1024, 5136]⟩
abbrev S2048x5136 : Shape := ⟨2, ![2048, 5136]⟩
abbrev S_ : Shape := ⟨0, ![]⟩
abbrev S2048x496 : Shape := ⟨2, ![2048, 496]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5136, .f32⟩
  | .hbm, ⟨2, _⟩ => ⟨S2048x5136, .f32⟩
  | .hbm, ⟨3, _⟩ => ⟨S_, .f32⟩
  | .hbm, ⟨4, _⟩ => ⟨S2048x496, .f32⟩
  | .hbm, ⟨5, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.DPre.lean ====
/- d_pre: the gradient of the squared relu. The kernel multiplies the product by two and by the positive part of the
   forward input; the reference selects, where that input is positive, the product times twice its positive part.
   The two agree at every extended real, so no precondition is needed. -/
module

public import proofs.«01_k».proof.Proof.Gen.KernelIdeal.Value
public import proofs.«01_k».proof.Proof.Gen.ReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DPre

open Idealize.ShloMosaic Idealize.ShloMosaic.TcCoe Idealize.SL.Sem
open Cert.KernelIdeal Cert.KernelIdeal.Gen

/-- What the reference computes of the cotangent `D`, the weight `W` and the forward input `X`. -/
def reluGrad (D : FVec Ideal S2048x1024 .f32) (W : FVec Ideal S4096x1024 .f32) (X : FVec Ideal S2048x4096 .f32) :
    FVec Ideal S2048x4096 .bf16 :=
  truncf .bf16 (select (cmpf .ogt X (broadcastInDim Cert.ReferenceIdeal.S2048x4096 ![] Cert.ReferenceIdeal.Gen.bcast_S_S2048x4096 (constant Cert.ReferenceIdeal.S_ .f32 0x00000000#32))) (mulf (Host.dotGeneral Cert.ReferenceIdeal.dot_S2048x1024_S4096x1024_S2048x4096_1_1_0_0_n_n none D W) (mulf (broadcastInDim Cert.ReferenceIdeal.S2048x4096 ![] Cert.ReferenceIdeal.Gen.bcast_S_S2048x4096 (constant Cert.ReferenceIdeal.S_ .f32 0x40000000#32)) (maximumf X (broadcastInDim Cert.ReferenceIdeal.S2048x4096 ![] Cert.ReferenceIdeal.Gen.bcast_S_S2048x4096 (constant Cert.ReferenceIdeal.S_ .f32 0x00000000#32))))) (broadcastInDim Cert.ReferenceIdeal.S2048x4096 ![] Cert.ReferenceIdeal.Gen.bcast_S_S2048x4096 (constant Cert.ReferenceIdeal.S_ .f32 0x00000000#32))) Cert.ReferenceIdeal.Gen.bitsLt_bf16_f32

/-- Where `x` is not positive its positive part is zero, and the selected gradient is zero too. -/
theorem select_pos_part (a b x : EReal) : a * b * max x 0 = if 0 < x then a * (b * max x 0) else 0 := by
  split_ifs with h
  · exact mul_assoc a b _
  · rw [max_eq_right (not_lt.mp h), mul_zero]

variable (m : (ℓ : Loc nD τ sig) → Buf (Elt Ideal) ℓ)

/-- Each window's block at a grid point. -/
theorem blockIdx : ∀ t : Fin cfg0.N, win0_0.index t = ![0, 0] ∧ win0_1.index t = ![t.val, 0]
    ∧ win0_2.index t = ![0, t.val] ∧ win0_3.index t = ![0, t.val] :=
  (by decide +kernel : ∀ t : Fin grid0.N, _)

/-- The stored block at an index is the reference's gradient at the array index the block puts there. -/
theorem stored (c : Dev nD) (t : Fin cfg0.N) (y : S2048x512.Idx) :
    k0_pay1 (F := Ideal) (iblk m c 0 t) (iblk m c 1 t) (iblk m c 2 t) y
      = reluGrad (m ((c : Thread nD τ).loc main_arg0)) (m ((c : Thread nD τ).loc main_arg1)) (m ((c : Thread nD τ).loc main_arg2))
          (((cfg0.win 3).blk t).view.emb y) := by
  pointwise [k0_pay1, reluGrad]
  rw [select_pos_part]
  blk_point [iblk, V, blockIdx t]

/-- The result array after the run is the reference's gradient of the argument arrays. -/
theorem result (c : Dev nD) : (dats m 0 c).arrAt 3 (cfgs 0).N
    = reluGrad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact stored m c t y

theorem algebraic : Cert.algebraic_KernelIdeal_ReferenceIdeal := by
  pair_intro
  · run_from Cert.KernelIdeal.Gen.run_main m g
  · run_from Cert.ReferenceIdeal.Value.run m' g'
    exact (result m c).symm

end Cert.DPre

end
-- ==== Proof.Real.lean ====
/- Finite extended reals: the float operations at numbers that are real are the real operations, and an array whose
   every absolute value is below infinity is an array of real numbers. -/
module

public import Idealize.ShloMosaic.Lib.Pointwise
public import Idealize.ShloMosaic.Lib.ReduceAll
public import Idealize.ShloMosaic.Lib.Affine

@[expose] public section

set_option maxRecDepth 16384

noncomputable section

namespace Cert.Reals

open Idealize.ShloMosaic

/-- A finite sum of real numbers, read in the extended reals, is the real sum. -/
theorem sum_coe {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem mul_coe (a b : ℝ) : (a : EReal) * (b : EReal) = ((a * b : ℝ) : EReal) := (EReal.coe_mul a b).symm
theorem neg_coe (a : ℝ) : -(a : EReal) = ((-a : ℝ) : EReal) := (EReal.coe_neg a).symm
theorem max_coe (a b : ℝ) : max (a : EReal) (b : EReal) = ((max a b : ℝ) : EReal) := ((EReal.coe_strictMono.monotone).map_max (a := a) (b := b)).symm
theorem ite_coe (p : Prop) [Decidable p] (a b : ℝ) : (if p then (a : EReal) else (b : EReal)) = ((if p then a else b : ℝ) : EReal) := by
  split_ifs <;> rfl
theorem zero_coe : (0 : EReal) = ((0 : ℝ) : EReal) := rfl
theorem one_coe : (1 : EReal) = ((1 : ℝ) : EReal) := rfl

/-- Division by a real number that is not zero. -/
theorem div_coe (a b : ℝ) (h : b ≠ 0) : Ideal.div (a : EReal) (b : EReal) = ((a / b : ℝ) : EReal) := by
  rw [Ideal.div_coe h, mul_coe]; congr 1; ring

/-- The reciprocal square root of a positive number. -/
theorem rsqrt_pos (a : ℝ) (h : 0 < a) : Ideal.rsqrt (a : EReal) = (((Real.sqrt a)⁻¹ : ℝ) : EReal) := by
  rw [Ideal.rsqrt_coe, if_neg (not_lt.mpr h.le), if_neg h.ne']

/-- An extended real whose absolute value is below infinity is a real number. -/
theorem real_of_abs_lt (x : EReal) (h : max x (-x) < ⊤) : ∃ r : ℝ, x = (r : EReal) := by
  induction x with
  | bot => simp at h
  | top => simp at h
  | coe r => exact ⟨r, rfl⟩

/-- An array of real numbers. -/
def IsReal {ι : Type*} (X : ι → EReal) : Prop := ∃ x : ι → ℝ, X = fun i => (x i : EReal)

/-- The predicate's reduction over one array: every entry's absolute value is below infinity. -/
theorem real_of_all {s t u : Shape} {φ : FTy} [Subsingleton t.Idx] (X : FVec Ideal s φ) (B : FVec Ideal s φ)
    (hB : ∀ i, B i = ⊤) (init : IVec u 1) {dims : List (Fin s.rank)} (h : s.ReducesTo dims t) (hu : 0 < u.numel) (j : t.Idx)
    (e : Host.reduce IntOp.andi (cmpf .olt (Host.absf X) B) init h hu j = 1#1) : IsReal X := by
  have key : ∀ i, ∃ r : ℝ, X i = (r : EReal) := fun i => by
    have q := Host.reduce_andi_all _ _ h hu j e i
    refine real_of_abs_lt _ ?_
    have q' : Ideal.cmp .olt (max (X i) (-X i)) (B i) = 1#1 := q
    rw [hB] at q'
    by_contra hn
    simp [Ideal.cmp, hn] at q'
  choose r hr using key
  exact ⟨r, funext hr⟩

/-- The word of positive infinity. -/
theorem word_inf : Ideal.ofBits .f32 0x7F800000#32 = ⊤ := by
  simp [Ideal.ofBits, Ideal.ieee]

/-- The word of 1024, of the layer norm's epsilon and of one half with a minus sign. -/
theorem word_1024 : Ideal.ofBits .f32 0x44800000#32 = ((1024 : ℝ) : EReal) := by
  simp [Ideal.ofBits, Ideal.ieee, -EReal.coe_mul]; norm_num
theorem word_neg_half : Ideal.ofBits .f32 0xBF000000#32 = ((-(1/2) : ℝ) : EReal) := by
  simp [Ideal.ofBits, Ideal.ieee, -EReal.coe_mul]; norm_num

theorem word_half : Ideal.ofBits .f32 0x3F000000#32 = ((1/2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_per_1024 : Ideal.ofBits .f32 0x3A800000#32 = ((1/1024 : ℝ) : EReal) := by
  simp [Ideal.ofBits, Ideal.ieee, -EReal.coe_mul]; norm_num

/-- The epsilon of the norms, as the real number its word stands for. -/
def eps : ℝ := 10995116 / 1099511627776
theorem eps_pos : 0 < eps := by unfold eps; norm_num
theorem word_eps : Ideal.ofBits .f32 0x3727C5AC#32 = ((eps : ℝ) : EReal) := by
  unfold eps; simp [Ideal.ofBits, Ideal.ieee, -EReal.coe_mul]; norm_num

/-- The residual's factor, as the real number its word stands for. -/
def alpha : ℝ := 9975792 / 8388608
theorem word_alpha : Ideal.ofBits .f32 0x3F9837F0#32 = ((alpha : ℝ) : EReal) := by
  unfold alpha; simp [Ideal.ofBits, Ideal.ieee, -EReal.coe_mul]; norm_num

theorem div_1024 (a : ℝ) : Ideal.div (a : EReal) ((1024 : ℝ) : EReal) = ((a / 1024 : ℝ) : EReal) :=
  div_coe a 1024 (by norm_num)

/-- The logistic function as a quotient. -/
theorem div_logistic (a : ℝ) : Ideal.div ((1 : ℝ) : EReal) ((1 + Real.exp (-a) : ℝ) : EReal) = (((1 + Real.exp (-a))⁻¹ : ℝ) : EReal) := by
  rw [div_coe _ _ (by positivity), one_div]

theorem var_pos {n : ℕ} (f : Fin n → ℝ) : 0 < (∑ i, f i * f i) / 1024 + eps :=
  add_pos_of_nonneg_of_pos (div_nonneg (Finset.sum_nonneg fun i _ => mul_self_nonneg (f i)) (by norm_num)) eps_pos
theorem rsqrt_var {n : ℕ} (f : Fin n → ℝ) : Ideal.rsqrt (((∑ i, f i * f i) / 1024 + eps : ℝ) : EReal)
    = (((Real.sqrt ((∑ i, f i * f i) / 1024 + eps))⁻¹ : ℝ) : EReal) := rsqrt_pos _ (var_pos f)
theorem div_var {n : ℕ} (a : ℝ) (f : Fin n → ℝ) : Ideal.div (a : EReal) (((∑ i, f i * f i) / 1024 + eps : ℝ) : EReal)
    = ((a / ((∑ i, f i * f i) / 1024 + eps) : ℝ) : EReal) := div_coe _ _ (var_pos f).ne'

end Cert.Reals

end
-- ==== Proof.Norm.lean ====
/- The layer norm of a row of 1024 real numbers and its gradient, as the kernels write it and as the reverse pass of
   the reference writes it. -/
module

public import proofs.«01_k».proof.Proof.Real
public import Idealize.ShloMosaic.Lib.Pointwise

@[expose] public section

set_option maxRecDepth 16384

noncomputable section

namespace Cert.Norm

open Idealize.ShloMosaic Cert.Reals

/-- A matrix of real numbers, with its two indices apart. -/
theorem real2 {n k : ℕ} (X : (⟨2, ![n, k]⟩ : Shape).Idx → EReal) (h : IsReal X) :
    ∃ x : Fin n → Fin k → ℝ, X = fun i => (x (i 0) (i 1) : EReal) := by
  obtain ⟨x, rfl⟩ := h
  exact ⟨fun a b => x (ix2 a b), funext fun i => by congr 2; exact (ix2_eta i).symm⟩

/-- A host reduction whose result at an index takes one element of the operand. -/
theorem reduce_one {s t : Shape} {axes : List (Fin s.rank)} (h : s.ReducesTo axes t) (x : s.Idx → EReal) (init : EReal) (j : t.Idx)
    (p : s.Idx) (hp : ∀ i, h.drop i = j ↔ i = p) : Ideal.hostReduceAdd h x init j = init + x p := by
  unfold Ideal.hostReduceAdd
  rw [show Finset.univ.filter (fun i => h.drop i = j) = {p} from by ext i; simp [hp], Finset.sum_singleton]
theorem reduce_0_2 {n : ℕ} (h : (⟨3, ![1, n, 1]⟩ : Shape).ReducesTo [0, 2] ⟨1, ![n]⟩) (x : (⟨3, ![1, n, 1]⟩ : Shape).Idx → EReal) (init : EReal)
    (k : Fin n) : Ideal.hostReduceAdd h x init (ix1 k) = init + x (ix3 0 k 0) := by
  refine reduce_one h x init _ _ fun i => ⟨fun e => ?_, fun e => ?_⟩
  · rw [eq_ix3 i]
    have e1 : i 1 = k := congrFun e 0
    congr 1 <;> first | exact e1 | exact Subsingleton.elim _ _
  · rw [e]
    funext b
    match b with
    | ⟨0, _⟩ => rfl
theorem reduce_0_1 {n : ℕ} (h : (⟨3, ![1, 1, n]⟩ : Shape).ReducesTo [0, 1] ⟨1, ![n]⟩) (x : (⟨3, ![1, 1, n]⟩ : Shape).Idx → EReal) (init : EReal)
    (k : Fin n) : Ideal.hostReduceAdd h x init (ix1 k) = init + x (ix3 0 0 k) := by
  refine reduce_one h x init _ _ fun i => ⟨fun e => ?_, fun e => ?_⟩
  · rw [eq_ix3 i]
    have e1 : i 2 = k := congrFun e 0
    congr 1 <;> first | exact e1 | exact Subsingleton.elim _ _
  · rw [e]
    funext b
    match b with
    | ⟨0, _⟩ => rfl

/-- The mean of a row, the row less its mean, the row's variance with the epsilon, and its reciprocal root. -/
def mean (f : Fin 1024 → ℝ) : ℝ := (∑ k, f k) / 1024
def cent (f : Fin 1024 → ℝ) (k : Fin 1024) : ℝ := f k - (∑ k, f k) / 1024
def var (f : Fin 1024 → ℝ) : ℝ := (∑ k, cent f k * cent f k) / 1024 + eps
def rstd (f : Fin 1024 → ℝ) : ℝ := (Real.sqrt (var f))⁻¹

/-- The gradient of the layer norm of the row `f` for the scaled cotangent `u`, as the kernel writes it. -/
def gradK (f u : Fin 1024 → ℝ) (k : Fin 1024) : ℝ :=
  rstd f * (u k - (∑ k, u k) / 1024 - cent f k * rstd f * ((∑ k, u k * (cent f k * rstd f)) / 1024))

/-- The same gradient as the reference's reverse pass writes it: the gradient through the variance, the gradient
    through the centred row with both its factors, and the gradient through the mean. -/
def gradV (f u : Fin 1024 → ℝ) : ℝ := (∑ k, cent f k * u k) * (-(1 / 2) * (rstd f / var f)) / 1024
def gradC (f u : Fin 1024 → ℝ) (k : Fin 1024) : ℝ :=
  u k * rstd f + cent f k * (∑ _i : Fin 1, gradV f u) + (∑ _i : Fin 1, gradV f u) * cent f k
def gradR (f u : Fin 1024 → ℝ) (k : Fin 1024) : ℝ :=
  gradC f u k + ∑ _i : Fin 1, (∑ k, -gradC f u k) / 1024

theorem sum_cent (f : Fin 1024 → ℝ) : ∑ k, cent f k = 0 := by
  simp only [cent, Finset.sum_sub_distrib, Finset.sum_const, Finset.card_univ, Fintype.card_fin, nsmul_eq_mul]
  push_cast; ring

theorem rstd_div_var (f : Fin 1024 → ℝ) : rstd f / var f = rstd f * rstd f * rstd f := by
  have h : 0 < var f := var_pos (cent f)
  have q : rstd f * rstd f = (var f)⁻¹ := by unfold rstd; rw [← mul_inv, Real.mul_self_sqrt h.le]
  rw [q, div_eq_inv_mul]

theorem gradR_eq (f u : Fin 1024 → ℝ) (k : Fin 1024) : gradR f u k = gradK f u k := by
  have h1 : ∑ k, gradC f u k = (∑ k, u k) * rstd f := by
    simp only [gradC, Finset.sum_add_distrib, ← Finset.sum_mul, ← Finset.mul_sum, sum_cent]; ring
  have h2 : ∑ k, u k * (cent f k * rstd f) = (∑ k, cent f k * u k) * rstd f := by
    rw [Finset.sum_mul]; exact Finset.sum_congr rfl fun k _ => by ring
  rw [gradR, gradK, Finset.sum_neg_distrib, h1, h2]
  simp only [Finset.univ_unique, Finset.sum_singleton, gradC, gradV, rstd_div_var]
  ring

/-- The normalised row. -/
def hat (f : Fin 1024 → ℝ) (k : Fin 1024) : ℝ := cent f k * rstd f

end Cert.Norm

end
-- ==== Proof.LnBwd.lean ====
module

public import proofs.«01_k».proof.Proof.Gen.Kernel2Ideal.Value
public import proofs.«01_k».proof.Proof.Gen.Reference2Ideal.Run
public import proofs.«01_k».proof.Proof.Gen.Pre_finite2
public import proofs.«01_k».proof.Proof.Norm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.LnBwd

open Idealize.ShloMosaic Idealize.ShloMosaic.TcCoe Idealize.SL.Sem
open Cert.Kernel2Ideal Cert.Kernel2Ideal.Gen
open Cert.Reals Cert.Norm

variable (m : (ℓ : Loc nD τ sig) → Buf (Elt Ideal) ℓ)

theorem finite_args (hp : Cert.Pre_Kernel2Ideal_finite2 m) (c : Dev nD) :
    IsReal (m ((c : Thread nD τ).loc main_arg0)) ∧ IsReal (m ((c : Thread nD τ).loc main_arg1))
    ∧ IsReal (m ((c : Thread nD τ).loc main_arg2)) ∧ IsReal (m ((c : Thread nD τ).loc main_arg4))
    ∧ IsReal (m ((c : Thread nD τ).loc main_arg5)) ∧ IsReal (m ((c : Thread nD τ).loc main_arg6)) := by
  have e := hp c
  unfold Cert.Pre_finite2.fn Cert.Pre_finite2.fn_part1 at e
  have e := congrFun e (fun a => a.elim0)
  have : Subsingleton Cert.Pre_finite2.S_.Idx := ⟨fun a b => funext fun i => i.elim0⟩
  obtain ⟨e, e6⟩ := IntOp.andi_eq_one.mp e
  obtain ⟨e, e5⟩ := IntOp.andi_eq_one.mp e
  obtain ⟨e, e4⟩ := IntOp.andi_eq_one.mp e
  obtain ⟨e, e2⟩ := IntOp.andi_eq_one.mp e
  obtain ⟨e0, e1⟩ := IntOp.andi_eq_one.mp e
  exact ⟨real_of_all _ _ (fun _ => word_inf) _ _ _ _ e0, real_of_all _ _ (fun _ => word_inf) _ _ _ _ e1,
    real_of_all _ _ (fun _ => word_inf) _ _ _ _ e2, real_of_all _ _ (fun _ => word_inf) _ _ _ _ e4,
    real_of_all _ _ (fun _ => word_inf) _ _ _ _ e5, real_of_all _ _ (fun _ => word_inf) _ _ _ _ e6⟩

/-- The cotangent of the norm's output at a row. -/
def cotan (d a : Fin 1024 → ℝ) (b : Fin 1024 → Fin 1024 → ℝ) (k : Fin 1024) : ℝ := alpha * d k + ∑ p, a p * b k p

theorem stored_dt (X R : S512x1024.Idx → ℝ) (A : S512x1024.Idx → ℝ) (B : S1024x1024.Idx → ℝ) (G : S1x1024.Idx → ℝ) (D : S512x1024.Idx → ℝ)
    (i : Fin 512) (k : Fin 1024) :
    k0_pay1 (F := Ideal) (k0_pay9 (fun i => (X i : EReal)) (fun i => (R i : EReal))) (k0_pay10 (fun i => (X i : EReal)) (fun i => (R i : EReal)))
      (k0_pay11 (fun i => (A i : EReal)) (fun i => (B i : EReal)) (fun i => (D i : EReal)) (fun i => (G i : EReal)))
      (k0_pay12 (fun i => (A i : EReal)) (fun i => (B i : EReal)) (fun i => (D i : EReal)) (fun i => (G i : EReal))) (ix2 i k)
      = ((gradK (fun k => alpha * X (ix2 i k) + R (ix2 i k)) (fun k => cotan (fun k => D (ix2 i k)) (fun p => A (ix2 i p)) (fun k p => B (ix2 k p)) k * G (ix2 0 k)) k : ℝ) : EReal) := by
  pointwise [k0_pay1, k0_pay9, k0_pay10, k0_pay11, k0_pay12, k0_pay8, k0_pay7]
  simp only [word_1024, word_eps, word_alpha, add_coe, sub_coe, mul_coe, sum_coe, div_1024, rsqrt_var]
  rfl

/-- The parts of the four blocks' sums that a block adds to the gradients of the scale and of the shift. -/
theorem stored_dg (X R : S512x1024.Idx → ℝ) (A : S512x1024.Idx → ℝ) (B : S1024x1024.Idx → ℝ) (D : S512x1024.Idx → ℝ) (W : Vec Ideal S1x1024 .f32)
    (k : Fin 1024) :
    k0_pay5 (F := Ideal) (k0_pay7 (fun i => (A i : EReal)) (fun i => (B i : EReal)) (fun i => (D i : EReal)))
       (k0_pay10 (fun i => (X i : EReal)) (fun i => (R i : EReal))) W (ix2 0 k)
      = W (ix2 0 k) + ((∑ i : Fin 512, cotan (fun k => D (ix2 i k)) (fun p => A (ix2 i p)) (fun k p => B (ix2 k p)) k
          * hat (fun k => alpha * X (ix2 i k) + R (ix2 i k)) k : ℝ) : EReal) := by
  pointwise [k0_pay5, k0_pay9, k0_pay10, k0_pay8, k0_pay7]
  simp only [word_1024, word_eps, word_alpha, add_coe, sub_coe, mul_coe, sum_coe, div_1024, rsqrt_var]
  rfl
theorem stored_db (A : S512x1024.Idx → ℝ) (B : S1024x1024.Idx → ℝ) (D : S512x1024.Idx → ℝ) (W : Vec Ideal S1x1024 .f32)
    (k : Fin 1024) :
    k0_pay6 (F := Ideal) (k0_pay7 (fun i => (A i : EReal)) (fun i => (B i : EReal)) (fun i => (D i : EReal))) W (ix2 0 k)
      = W (ix2 0 k) + ((∑ i : Fin 512, cotan (fun k => D (ix2 i k)) (fun p => A (ix2 i p)) (fun k p => B (ix2 k p)) k : ℝ) : EReal) := by
  pointwise [k0_pay6, k0_pay7]
  simp only [word_1024, word_eps, word_alpha, add_coe, sub_coe, mul_coe, sum_coe, div_1024, rsqrt_var]
  rfl

/-- Real arrays the arguments are equal to. -/
structure Args where
  X : Fin 2048 → Fin 1024 → ℝ
  R : Fin 2048 → Fin 1024 → ℝ
  G : Fin 1024 → ℝ
  B : Fin 1024 → Fin 1024 → ℝ
  A : Fin 2048 → Fin 1024 → ℝ
  D : Fin 2048 → Fin 1024 → ℝ

/-- The four results of real arguments, as the kernel's formulas give them. -/
def Args.cot (q : Args) (i : Fin 2048) : Fin 1024 → ℝ := cotan (q.D i) (q.A i) q.B
def Args.row (q : Args) (i : Fin 2048) : Fin 1024 → ℝ := fun k => alpha * q.X i k + q.R i k
def Args.dt (q : Args) : S2048x1024.Idx → EReal := fun j =>
  ((gradK (q.row (j 0)) (fun k => q.cot (j 0) k * q.G k) (j 1) : ℝ) : EReal)
def Args.dg (q : Args) : S1x1024.Idx → EReal := fun j => ((∑ i, q.cot i (j 1) * hat (q.row i) (j 1) : ℝ) : EReal)
def Args.db (q : Args) : S1x1024.Idx → EReal := fun j => ((∑ i, q.cot i (j 1) : ℝ) : EReal)

/-- The memory's argument arrays are the real arrays `q`. -/
structure Holds (q : Args) (c : Dev nD) : Prop where
  h0 : m ((c : Thread nD τ).loc main_arg0) = fun i => (q.X (i 0) (i 1) : EReal)
  h1 : m ((c : Thread nD τ).loc main_arg1) = fun i => (q.R (i 0) (i 1) : EReal)
  h2 : m ((c : Thread nD τ).loc main_arg2) = fun i => (q.G (i 1) : EReal)
  h4 : m ((c : Thread nD τ).loc main_arg4) = fun i => (q.B (i 0) (i 1) : EReal)
  h5 : m ((c : Thread nD τ).loc main_arg5) = fun i => (q.A (i 0) (i 1) : EReal)
  h6 : m ((c : Thread nD τ).loc main_arg6) = fun i => (q.D (i 0) (i 1) : EReal)

theorem holds_of_finite (hp : Cert.Pre_Kernel2Ideal_finite2 m) (c : Dev nD) : ∃ q, Holds m q c := by
  obtain ⟨h0, h1, h2, h4, h5, h6⟩ := finite_args m hp c
  obtain ⟨X, h0⟩ := real2 _ h0
  obtain ⟨R, h1⟩ := real2 _ h1
  obtain ⟨G, h2⟩ := real2 _ h2
  obtain ⟨B, h4⟩ := real2 _ h4
  obtain ⟨A, h5⟩ := real2 _ h5
  obtain ⟨D, h6⟩ := real2 _ h6
  refine ⟨⟨X, R, G 0, B, A, D⟩, h0, h1, h2.trans (funext fun i => ?_), h4, h5, h6⟩
  congr 2
  exact Subsingleton.elim _ _

/-- Each window's block at a grid point. -/
theorem blockIdx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- The array's row that block `t`'s row `i` is. -/
def rowOf (t : Fin cfg0.N) (i : Fin 512) : Fin 2048 := ⟨t.val * 512 + i.val, by have := t.isLt; have : cfg0.N = 4 := N_0; omega⟩

variable {m} {q : Args} {c : Dev nD} (H : Holds m q c) (t : Fin cfg0.N)

include H in
theorem block0 : iblk m c 0 t = fun y : S512x1024.Idx => (q.A (rowOf t (y 0)) (y 1) : EReal) := by
  funext y
  have e : (win0_0.blk t).view.emb y = ix2 (rowOf t (y 0)) (y 1) := by blk_ext [blockIdx t, rowOf]
  blk_simp [iblk]
  entry_read
  rw [H.h5]
  pointwise
  rw [e]
  rfl
include H in
theorem block1 : iblk m c 1 t = fun y : S1024x1024.Idx => (q.B (y 0) (y 1) : EReal) := by
  funext y
  have e : (win0_1.blk t).view.emb y = ix2 (y 0) (y 1) := by blk_ext [blockIdx t, rowOf]
  blk_simp [iblk]
  entry_read
  rw [H.h4]
  pointwise
  rw [e]
  rfl
include H in
theorem block2 : iblk m c 2 t = fun y : S512x1024.Idx => (q.X (rowOf t (y 0)) (y 1) : EReal) := by
  funext y
  have e : (win0_2.blk t).view.emb y = ix2 (rowOf t (y 0)) (y 1) := by blk_ext [blockIdx t, rowOf]
  blk_simp [iblk]
  rw [V_main_arg0 m c, H.h0]
  rw [e]
  rfl
include H in
theorem block3 : iblk m c 3 t = fun y : S512x1024.Idx => (q.R (rowOf t (y 0)) (y 1) : EReal) := by
  funext y
  have e : (win0_3.blk t).view.emb y = ix2 (rowOf t (y 0)) (y 1) := by blk_ext [blockIdx t, rowOf]
  blk_simp [iblk]
  rw [V_main_arg1 m c, H.h1]
  rw [e]
  rfl
include H in
theorem block4 : iblk m c 4 t = fun y : S1x1024.Idx => (q.G (y 1) : EReal) := by
  funext y
  have e : (win0_4.blk t).view.emb y = ix2 (y 0) (y 1) := by blk_ext [blockIdx t, rowOf]
  blk_simp [iblk]
  rw [V_main_arg2 m c, H.h2]
  rw [e]
  rfl
include H in
theorem block5 : iblk m c 5 t = fun y : S512x1024.Idx => (q.D (rowOf t (y 0)) (y 1) : EReal) := by
  funext y
  have e : (win0_5.blk t).view.emb y = ix2 (rowOf t (y 0)) (y 1) := by blk_ext [blockIdx t, rowOf]
  blk_simp [iblk]
  rw [V_main_arg6 m c, H.h6]
  rw [e]
  rfl

include H in
theorem result_dt : (dats m 0 c).arrAt 6 (cfgs 0).N = q.dt := by
  refine (dats m 0 c).arrAt_eq_of_covers 6 _ (by decide +kernel) fun t hf y => ?_
  have e : (win0_6.blk t).view.emb y = ix2 (rowOf t (y 0)) (y 1) := by blk_ext [blockIdx t, rowOf]
  blk_simp
  rw [after0_6]
  by_cases h : t.val % 4 = 0
  · rw [outsAt0_A m c t h]; dsimp only; frame_out
    rw [block0 H, block1 H, block2 H, block3 H, block4 H, block5 H, e, eq_ix2 y]
    exact stored_dt _ _ _ _ _ _ _ _
  · rw [outsAt0_B m c t h]; dsimp only; frame_out
    rw [block0 H, block1 H, block2 H, block3 H, block4 H, block5 H, e, eq_ix2 y]
    exact stored_dt _ _ _ _ _ _ _ _
include H in
theorem result_dtb : (dats m 0 c).arrAt 7 (cfgs 0).N = q.dt := by
  refine (dats m 0 c).arrAt_eq_of_covers 7 _ (by decide +kernel) fun t hf y => ?_
  have e : (win0_7.blk t).view.emb y = ix2 (rowOf t (y 0)) (y 1) := by blk_ext [blockIdx t, rowOf]
  blk_simp
  rw [after0_7]
  by_cases h : t.val % 4 = 0
  · rw [outsAt0_A m c t h]; dsimp only; frame_out
    rw [block0 H, block1 H, block2 H, block3 H, block4 H, block5 H, e, eq_ix2 y]
    exact stored_dt _ _ _ _ _ _ _ _
  · rw [outsAt0_B m c t h]; dsimp only; frame_out
    rw [block0 H, block1 H, block2 H, block3 H, block4 H, block5 H, e, eq_ix2 y]
    exact stored_dt _ _ _ _ _ _ _ _

theorem zero_dg (j : S1x1024.Idx) : k0_pay3 (F := Ideal) j = 0 := by pointwise! [k0_pay3]
theorem zero_db (j : S1x1024.Idx) : k0_pay4 (F := Ideal) j = 0 := by pointwise! [k0_pay4]

/-- A sum over the 2048 rows is the sum of the four blocks' sums. -/
theorem sum_rows (f : Fin 2048 → ℝ) : (∑ p : Fin cfg0.N, ((∑ i : Fin 512, f (rowOf p i) : ℝ) : EReal)) = ((∑ i, f i : ℝ) : EReal) := by
  rw [sum_coe, Fin.sum_univ_tiles 4 512 rfl f]
  rfl

include H in
theorem result_dg : (dats m 0 c).arrAt 8 (cfgs 0).N = q.dg := by
  refine (dats m 0 c).arrAt_eq_of_after_last 8 t0_3 (by decide +kernel) _ fun j => ?_
  blk_simp
  obtain ⟨k, rfl⟩ : ∃ k, j = ix2 0 k := ⟨j 1, (eq_ix2 j).trans (by congr 1; exact Subsingleton.elim _ _)⟩
  rw [after0_8, Pipeline.eq_sum_fin_of_reset_step_apply_last (fun n h => (outsAt0 m c n h).2.2.1) 4 (fun _ => 0)
    (fun t j => ((∑ i : Fin 512, q.cot (rowOf t i) (j 1) * hat (q.row (rowOf t i)) (j 1) : ℝ) : EReal))
    (fun t h j => by
      obtain ⟨k, rfl⟩ : ∃ k, j = ix2 0 k := ⟨j 1, (eq_ix2 j).trans (by congr 1; exact Subsingleton.elim _ _)⟩
      rw [outsAt0_A m c t h]; frame_out; rw [block0 H, block1 H, block2 H, block3 H, block5 H]
      refine (stored_dg _ _ _ _ _ _ _).trans ?_; rw [zero_dg]; rfl)
    (fun t h j => by
      obtain ⟨k, rfl⟩ : ∃ k, j = ix2 0 k := ⟨j 1, (eq_ix2 j).trans (by congr 1; exact Subsingleton.elim _ _)⟩
      rw [outsAt0_B m c t h]; frame_out; rw [block0 H, block1 H, block2 H, block3 H, block5 H]
      exact stored_dg _ _ _ _ _ _ _)
    (le_of_eq N_0) t0_3 rfl (ix2 0 k), zero_add]
  exact sum_rows fun i => q.cot i k * hat (q.row i) k

include H in
theorem result_db : (dats m 0 c).arrAt 9 (cfgs 0).N = q.db := by
  refine (dats m 0 c).arrAt_eq_of_after_last 9 t0_3 (by decide +kernel) _ fun j => ?_
  blk_simp
  obtain ⟨k, rfl⟩ : ∃ k, j = ix2 0 k := ⟨j 1, (eq_ix2 j).trans (by congr 1; exact Subsingleton.elim _ _)⟩
  rw [after0_9, Pipeline.eq_sum_fin_of_reset_step_apply_last (fun n h => (outsAt0 m c n h).2.2.2) 4 (fun _ => 0)
    (fun t j => ((∑ i : Fin 512, q.cot (rowOf t i) (j 1) : ℝ) : EReal))
    (fun t h j => by
      obtain ⟨k, rfl⟩ : ∃ k, j = ix2 0 k := ⟨j 1, (eq_ix2 j).trans (by congr 1; exact Subsingleton.elim _ _)⟩
      rw [outsAt0_A m c t h]; frame_out; rw [block0 H, block1 H, block5 H]
      refine (stored_db _ _ _ _ _).trans ?_; rw [zero_db]; rfl)
    (fun t h j => by
      obtain ⟨k, rfl⟩ : ∃ k, j = ix2 0 k := ⟨j 1, (eq_ix2 j).trans (by congr 1; exact Subsingleton.elim _ _)⟩
      rw [outsAt0_B m c t h]; frame_out; rw [block0 H, block1 H, block5 H]
      exact stored_db _ _ _ _ _)
    (le_of_eq N_0) t0_3 rfl (ix2 0 k), zero_add]
  exact sum_rows fun i => q.cot i k

section Reference

open Cert.Reference2Ideal Cert.Reference2Ideal.Gen

variable (m' : (ℓ : Loc Cert.Reference2Ideal.nD Cert.Reference2Ideal.τ Cert.Reference2Ideal.sig) → Buf (Elt Ideal) ℓ)

/-- The reference's composed terms of arrays that are real. -/
theorem ref_dt (q : Args) (c : Dev 1)
    (h0 : m' ((c.tc : Thread Cert.Reference2Ideal.nD Cert.Reference2Ideal.τ).loc main_arg0) = fun i => (q.X (i 0) (i 1) : EReal))
    (h1 : m' ((c.tc : Thread Cert.Reference2Ideal.nD Cert.Reference2Ideal.τ).loc main_arg1) = fun i => (q.R (i 0) (i 1) : EReal))
    (h2 : m' ((c.tc : Thread Cert.Reference2Ideal.nD Cert.Reference2Ideal.τ).loc main_arg2) = fun i => (q.G (i 1) : EReal))
    (h4 : m' ((c.tc : Thread Cert.Reference2Ideal.nD Cert.Reference2Ideal.τ).loc main_arg4) = fun i => (q.B (i 0) (i 1) : EReal))
    (h5 : m' ((c.tc : Thread Cert.Reference2Ideal.nD Cert.Reference2Ideal.τ).loc main_arg5) = fun i => (q.A (i 0) (i 1) : EReal))
    (h6 : m' ((c.tc : Thread Cert.Reference2Ideal.nD Cert.Reference2Ideal.τ).loc main_arg6) = fun i => (q.D (i 0) (i 1) : EReal)) :
    Cert.Reference2Ideal.Value.res_main_v61 (F := Ideal) m' c = q.dt := by
  funext j
  unfold Cert.Reference2Ideal.Value.res_main_v61
  rw [h0, h1, h2, h4, h5, h6]
  rw [eq_ix2 j]
  pointwise
  simp only [word_1024, word_eps, word_alpha, word_neg_half, add_coe, sub_coe, mul_coe, neg_coe, sum_coe, div_1024, rsqrt_var, div_var]
  refine Eq.trans ?_ (congrArg (fun x : ℝ => (x : EReal)) (gradR_eq (q.row (j 0)) (fun k => q.cot (j 0) k * q.G k) (j 1)))
  simp only [Args.cot, cotan, add_comm (alpha * _) (∑ p, _)]
  rfl

end Reference

theorem algebraic : Cert.algebraic_Kernel2Ideal_Reference2Ideal_pre_finite2 := by
  pair_intro
  · exact Cert.Kernel2Ideal.Value.run_blocks m g
  · refine (θ_run _ _ _).mono (fun r h c => ?_) (Cert.Reference2Ideal.Value.run m' g')
    obtain ⟨e0, e1, e2, e3, er⟩ := h c
    obtain ⟨q, H⟩ := holds_of_finite m hpre c
    obtain ⟨a0, a1, a2, a3, a4, a5, a6⟩ := hagree c
    clear h
    have r0 := ref_dt m' q c (a0.trans H.h0) (a1.trans H.h1) (a2.trans H.h2) (a4.trans H.h4) (a5.trans H.h5) (a6.trans H.h6)
    refine ⟨e0.trans (r0.trans (result_dt H).symm), e1.trans (Eq.trans ?_ (result_dtb H).symm), e2.trans (Eq.trans ?_ (result_dg H).symm),
      e3.trans (Eq.trans ?_ (result_db H).symm), er⟩
    · exact r0
    · rw [a0.trans H.h0, a1.trans H.h1, a4.trans H.h4, a5.trans H.h5, a6.trans H.h6]
      funext j
      obtain ⟨k, rfl⟩ : ∃ k, j = ix2 0 k := ⟨j 1, (eq_ix2 j).trans (by congr 1; exact Subsingleton.elim _ _)⟩
      pointwise
      simp only [word_1024, word_eps, word_alpha, add_coe, sub_coe, mul_coe, sum_coe, div_1024, rsqrt_var]
      refine congrArg (fun x : ℝ => (x : EReal)) (Finset.sum_congr rfl fun i _ => ?_)
      change hat (q.row i) k * ((∑ p, q.A i p * q.B k p) + alpha * q.D i k) = (alpha * q.D i k + ∑ p, q.A i p * q.B k p) * hat (q.row i) k
      ring
    · rw [a4.trans H.h4, a5.trans H.h5, a6.trans H.h6]
      funext j
      obtain ⟨k, rfl⟩ : ∃ k, j = ix2 0 k := ⟨j 1, (eq_ix2 j).trans (by congr 1; exact Subsingleton.elim _ _)⟩
      pointwise
      simp only [word_alpha, add_coe, mul_coe, sum_coe]
      refine congrArg (fun x : ℝ => (x : EReal)) (Finset.sum_congr rfl fun i _ => ?_)
      exact add_comm _ _

end Cert.LnBwd

end
-- ==== Proof.Head.lean ====
module

public import proofs.«01_k».proof.Proof.Gen.Kernel4Ideal.Value
public import proofs.«01_k».proof.Proof.Gen.Reference4Ideal.Run
public import proofs.«01_k».proof.Proof.Gen.Pre_finite4
public import proofs.«01_k».proof.Proof.Norm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Head

open Idealize.ShloMosaic Idealize.ShloMosaic.TcCoe Idealize.SL.Sem
open Cert.Kernel4Ideal Cert.Kernel4Ideal.Gen
open Cert.Reals Cert.Norm

variable (m : (ℓ : Loc nD τ sig) → Buf (Elt Ideal) ℓ)

theorem finite_args (hp : Cert.Pre_Kernel4Ideal_finite4 m) (c : Dev nD) :
    IsReal (m ((c : Thread nD τ).loc main_arg0)) ∧ IsReal (m ((c : Thread nD τ).loc main_arg1))
    ∧ IsReal (m ((c : Thread nD τ).loc main_arg2)) ∧ IsReal (m ((c : Thread nD τ).loc main_arg3))
    ∧ IsReal (m ((c : Thread nD τ).loc main_arg4))
    ∧ IsReal (m ((c : Thread nD τ).loc main_arg5)) ∧ IsReal (m ((c : Thread nD τ).loc main_arg6)) := by
  have e := hp c
  unfold Cert.Pre_finite4.fn Cert.Pre_finite4.fn_part1 at e
  have e := congrFun e (fun a => a.elim0)
  have : Subsingleton Cert.Pre_finite4.S_.Idx := ⟨fun a b => funext fun i => i.elim0⟩
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_of_all _ _ (fun _ => word_inf) _ _ _ _ e0, real_of_all _ _ (fun _ => word_inf) _ _ _ _ e1,
    real_of_all _ _ (fun _ => word_inf) _ _ _ _ e2, real_of_all _ _ (fun _ => word_inf) _ _ _ _ e3,
    real_of_all _ _ (fun _ => word_inf) _ _ _ _ e4,
    real_of_all _ _ (fun _ => word_inf) _ _ _ _ e5, real_of_all _ _ (fun _ => word_inf) _ _ _ _ e6⟩

/-- One row: the gate, the embedding's row, the gated residual, the norm's error against the target, the cotangent
    of the norm's output and the gradient of the gated residual. -/
def gate (a : Fin 1024 → ℝ) (W : Fin 1024 → Fin 1024 → ℝ) (k : Fin 1024) : ℝ := (1 + Real.exp (-∑ p, a p * W p k))⁻¹
def emb (a : Fin 256 → ℝ) (W : Fin 256 → Fin 1024 → ℝ) (k : Fin 1024) : ℝ := ∑ p, a p * W p k
def row (x u v : Fin 1024 → ℝ) (k : Fin 1024) : ℝ := alpha * x k + u k * v k
def err (f g b t : Fin 1024 → ℝ) (k : Fin 1024) : ℝ := hat f k * g k + b k - t k
def cotan (f g b t : Fin 1024 → ℝ) (k : Fin 1024) : ℝ := err f g b t k * (1 / 1024)
def grad (f g b t : Fin 1024 → ℝ) : Fin 1024 → ℝ := gradK f fun k => cotan f g b t k * g k

theorem pay_gate (X : S512x1024.Idx → ℝ) (W : S1024x1024.Idx → ℝ) :
    k0_pay4 (F := Ideal) (fun i => (X i : EReal)) (fun i => (W i : EReal))
      = fun i => ((gate (fun p => X (ix2 (i 0) p)) (fun p k => W (ix2 p k)) (i 1) : ℝ) : EReal) := by
  funext j
  rw [eq_ix2 j]
  pointwise [k0_pay4]
  simp only [mul_coe, sum_coe, Ideal.logistic_coe]
  rfl
theorem pay_emb (P : S512x256.Idx → ℝ) (W : S256x1024.Idx → ℝ) :
    k0_pay5 (F := Ideal) (fun i => (P i : EReal)) (fun i => (W i : EReal))
      = fun i => ((emb (fun p => P (ix2 (i 0) p)) (fun p k => W (ix2 p k)) (i 1) : ℝ) : EReal) := by
  funext j
  rw [eq_ix2 j]
  pointwise [k0_pay5]
  simp only [mul_coe, sum_coe]
  rfl

/-- A block's arguments: the residual's rows (twice: the second copy meets the gate's weights), the rows to embed,
    the two weights, the scale, the shift and the targets. -/
structure Block where
  X : Fin 512 → Fin 1024 → ℝ
  P : Fin 512 → Fin 256 → ℝ
  WG : Fin 1024 → Fin 1024 → ℝ
  WP : Fin 256 → Fin 1024 → ℝ
  G : Fin 1024 → ℝ
  B : Fin 1024 → ℝ
  T : Fin 512 → Fin 1024 → ℝ

section Pay
variable (b : Block)
abbrev Block.x : S512x1024.Idx → EReal := fun i => (b.X (i 0) (i 1) : EReal)
abbrev Block.p : S512x256.Idx → EReal := fun i => (b.P (i 0) (i 1) : EReal)
abbrev Block.wg : S1024x1024.Idx → EReal := fun i => (b.WG (i 0) (i 1) : EReal)
abbrev Block.wp : S256x1024.Idx → EReal := fun i => (b.WP (i 0) (i 1) : EReal)
abbrev Block.g : S1x1024.Idx → EReal := fun i => (b.G (i 1) : EReal)
abbrev Block.s : S1x1024.Idx → EReal := fun i => (b.B (i 1) : EReal)
abbrev Block.t : S512x1024.Idx → EReal := fun i => (b.T (i 0) (i 1) : EReal)
def Block.gate (i : Fin 512) : Fin 1024 → ℝ := Head.gate (b.X i) b.WG
def Block.emb (i : Fin 512) : Fin 1024 → ℝ := Head.emb (b.P i) b.WP
def Block.row (i : Fin 512) : Fin 1024 → ℝ := Head.row (b.X i) (b.gate i) (b.emb i)
def Block.err (i : Fin 512) : Fin 1024 → ℝ := Head.err (b.row i) b.G b.B (b.T i)
def Block.cot (i : Fin 512) : Fin 1024 → ℝ := Head.cotan (b.row i) b.G b.B (b.T i)
def Block.grad (i : Fin 512) : Fin 1024 → ℝ := Head.grad (b.row i) b.G b.B (b.T i)

theorem Block.pay4 : k0_pay4 (F := Ideal) b.x b.wg = fun i => (b.gate (i 0) (i 1) : EReal) := pay_gate _ _
theorem Block.pay5 : k0_pay5 (F := Ideal) b.p b.wp = fun i => (b.emb (i 0) (i 1) : EReal) := pay_emb _ _
theorem Block.pay6 : k0_pay6 (F := Ideal) b.x b.wg b.p b.wp b.x = fun i => (cent (b.row (i 0)) (i 1) : EReal) := by
  funext j
  rw [k0_pay6, b.pay4, b.pay5, eq_ix2 j]
  pointwise
  simp only [word_1024, word_alpha, add_coe, sub_coe, mul_coe, sum_coe, div_1024]
  rfl
theorem Block.pay7 : k0_pay7 (F := Ideal) b.x b.wg b.p b.wp b.x = fun i => (rstd (b.row (i 0)) : EReal) := by
  funext j
  obtain ⟨k, rfl⟩ : ∃ k, j = ix2 k 0 := ⟨j 0, (eq_ix2 j).trans (by congr 1; exact Subsingleton.elim _ _)⟩
  rw [k0_pay7, b.pay6]
  pointwise
  simp only [word_1024, word_eps, add_coe, sub_coe, mul_coe, sum_coe, div_1024, rsqrt_var]
  rfl
theorem Block.pay8 : k0_pay8 (F := Ideal) b.x b.wg b.p b.wp b.x = fun i => (hat (b.row (i 0)) (i 1) : EReal) := by
  funext j
  rw [k0_pay8, b.pay6, b.pay7, eq_ix2 j]
  pointwise
  simp only [mul_coe]
  rfl
theorem Block.pay9 : k0_pay9 (F := Ideal) b.x b.wg b.p b.wp b.x b.g = fun i => ((hat (b.row (i 0)) (i 1) * b.G (i 1) : ℝ) : EReal) := by
  funext j
  rw [k0_pay9, b.pay8, eq_ix2 j]
  pointwise
  simp only [mul_coe]
  rfl
theorem Block.pay10 : k0_pay10 (F := Ideal) b.s = fun i => (b.B (i 1) : EReal) := by
  funext j
  rw [eq_ix2 j]
  pointwise [k0_pay10]
  rfl
theorem Block.pay11 : k0_pay11 (F := Ideal) (fun i => ((hat (b.row (i 0)) (i 1) * b.G (i 1) : ℝ) : EReal)) (fun i => (b.B (i 1) : EReal)) b.t
    = fun i => (b.err (i 0) (i 1) : EReal) := by
  funext j
  rw [eq_ix2 j]
  pointwise [k0_pay11]
  simp only [add_coe, sub_coe]
  rfl
theorem Block.pay12 : k0_pay12 (F := Ideal) (fun i => ((hat (b.row (i 0)) (i 1) * b.G (i 1) : ℝ) : EReal)) (fun i => (b.B (i 1) : EReal)) b.t
    = fun i => (b.cot (i 0) (i 1) : EReal) := by
  funext j
  rw [k0_pay12, b.pay11, eq_ix2 j]
  pointwise
  simp only [word_per_1024, mul_coe]
  rfl
theorem Block.pay13 : k0_pay13 (F := Ideal) (fun i => (rstd (b.row (i 0)) : EReal)) (fun i => (hat (b.row (i 0)) (i 1) : EReal))
      (fun i => ((hat (b.row (i 0)) (i 1) * b.G (i 1) : ℝ) : EReal)) (fun i => (b.B (i 1) : EReal)) b.t b.g
    = fun i => (b.grad (i 0) (i 1) : EReal) := by
  funext j
  rw [k0_pay13, b.pay12, eq_ix2 j]
  pointwise
  simp only [word_1024, add_coe, sub_coe, mul_coe, sum_coe, div_1024]
  rfl
theorem Block.pay14 : k0_pay14 (F := Ideal) (fun i => (b.gate (i 0) (i 1) : EReal)) (fun i => (b.emb (i 0) (i 1) : EReal))
      (fun i => (rstd (b.row (i 0)) : EReal)) (fun i => (hat (b.row (i 0)) (i 1) : EReal))
      (fun i => ((hat (b.row (i 0)) (i 1) * b.G (i 1) : ℝ) : EReal)) (fun i => (b.B (i 1) : EReal)) b.t b.g
    = fun i => ((b.grad (i 0) (i 1) * b.emb (i 0) (i 1) * b.gate (i 0) (i 1) * (1 - b.gate (i 0) (i 1)) : ℝ) : EReal) := by
  funext j
  rw [k0_pay14, b.pay13, eq_ix2 j]
  pointwise
  simp only [Ideal.ofBits_one_f32, one_coe, sub_coe, mul_coe]
theorem Block.pay15 : k0_pay15 (F := Ideal) (fun i => (b.gate (i 0) (i 1) : EReal))
      (fun i => (rstd (b.row (i 0)) : EReal)) (fun i => (hat (b.row (i 0)) (i 1) : EReal))
      (fun i => ((hat (b.row (i 0)) (i 1) * b.G (i 1) : ℝ) : EReal)) (fun i => (b.B (i 1) : EReal)) b.t b.g
    = fun i => ((b.grad (i 0) (i 1) * b.gate (i 0) (i 1) : ℝ) : EReal) := by
  funext j
  rw [k0_pay15, b.pay13, eq_ix2 j]
  pointwise
  simp only [mul_coe]
theorem Block.pay1 (W : Vec Ideal S1x128 .f32) (k : Fin 128) : k0_pay1 (F := Ideal) (fun i => (b.err (i 0) (i 1) : EReal)) W (ix2 0 k)
    = W (ix2 0 k) + ((1 / 2 * ∑ i : Fin 512, (∑ k, b.err i k * b.err i k) / 1024 : ℝ) : EReal) := by
  pointwise [k0_pay1]
  simp only [word_1024, word_half, add_coe, sub_coe, mul_coe, sum_coe, div_1024, Finset.univ_unique, Finset.sum_singleton]
theorem Block.pay2 (W : Vec Ideal S1x1024 .f32) (k : Fin 1024) : k0_pay2 (F := Ideal) (fun i => (hat (b.row (i 0)) (i 1) : EReal))
      (fun i => (b.cot (i 0) (i 1) : EReal)) W (ix2 0 k)
    = W (ix2 0 k) + ((∑ i : Fin 512, b.cot i k * hat (b.row i) k : ℝ) : EReal) := by
  pointwise [k0_pay2]
  simp only [mul_coe, sum_coe]
theorem Block.pay3 (W : Vec Ideal S1x1024 .f32) (k : Fin 1024) : k0_pay3 (F := Ideal) (fun i => (b.cot (i 0) (i 1) : EReal)) W (ix2 0 k)
    = W (ix2 0 k) + ((∑ i : Fin 512, b.cot i k : ℝ) : EReal) := by
  pointwise [k0_pay3]
  simp only [mul_coe, sum_coe]
end Pay

/-- Real arrays the arguments are equal to. -/
structure Args where
  X : Fin 2048 → Fin 1024 → ℝ
  P : Fin 2048 → Fin 256 → ℝ
  WG : Fin 1024 → Fin 1024 → ℝ
  WP : Fin 256 → Fin 1024 → ℝ
  G : Fin 1024 → ℝ
  B : Fin 1024 → ℝ
  T : Fin 2048 → Fin 1024 → ℝ

/-- The six results of real arguments, as the kernel's formulas give them. -/
def Args.gate (q : Args) (i : Fin 2048) : Fin 1024 → ℝ := Head.gate (q.X i) q.WG
def Args.emb (q : Args) (i : Fin 2048) : Fin 1024 → ℝ := Head.emb (q.P i) q.WP
def Args.row (q : Args) (i : Fin 2048) : Fin 1024 → ℝ := Head.row (q.X i) (q.gate i) (q.emb i)
def Args.err (q : Args) (i : Fin 2048) : Fin 1024 → ℝ := Head.err (q.row i) q.G q.B (q.T i)
def Args.cot (q : Args) (i : Fin 2048) : Fin 1024 → ℝ := Head.cotan (q.row i) q.G q.B (q.T i)
def Args.grad (q : Args) (i : Fin 2048) : Fin 1024 → ℝ := Head.grad (q.row i) q.G q.B (q.T i)
def Args.loss (q : Args) : S1x128.Idx → EReal := fun _ => ((∑ i, 1 / 2 * ((∑ k, q.err i k * q.err i k) / 1024) : ℝ) : EReal)
def Args.dgp (q : Args) : S2048x1024.Idx → EReal := fun j =>
  ((q.grad (j 0) (j 1) * q.emb (j 0) (j 1) * q.gate (j 0) (j 1) * (1 - q.gate (j 0) (j 1)) : ℝ) : EReal)
def Args.dple (q : Args) : S2048x1024.Idx → EReal := fun j => ((q.grad (j 0) (j 1) * q.gate (j 0) (j 1) : ℝ) : EReal)
def Args.dt (q : Args) : S2048x1024.Idx → EReal := fun j => (q.grad (j 0) (j 1) : EReal)
def Args.dg (q : Args) : S1x1024.Idx → EReal := fun j => ((∑ i, q.cot i (j 1) * hat (q.row i) (j 1) : ℝ) : EReal)
def Args.db (q : Args) : S1x1024.Idx → EReal := fun j => ((∑ i, q.cot i (j 1) : ℝ) : EReal)

/-- The memory's argument arrays are the real arrays `q`. -/
structure Holds (q : Args) (c : Dev nD) : Prop where
  h0 : m ((c : Thread nD τ).loc main_arg0) = fun i => (q.X (i 0) (i 1) : EReal)
  h1 : m ((c : Thread nD τ).loc main_arg1) = fun i => (q.P (i 0) (i 1) : EReal)
  h2 : m ((c : Thread nD τ).loc main_arg2) = fun i => (q.WG (i 0) (i 1) : EReal)
  h3 : m ((c : Thread nD τ).loc main_arg3) = fun i => (q.WP (i 0) (i 1) : EReal)
  h4 : m ((c : Thread nD τ).loc main_arg4) = fun i => (q.G (i 1) : EReal)
  h5 : m ((c : Thread nD τ).loc main_arg5) = fun i => (q.B (i 1) : EReal)
  h6 : m ((c : Thread nD τ).loc main_arg6) = fun i => (q.T (i 0) (i 1) : EReal)

theorem real_row (X : S1x1024.Idx → EReal) (h : IsReal X) : ∃ x : Fin 1024 → ℝ, X = fun i => (x (i 1) : EReal) := by
  obtain ⟨x, rfl⟩ := h
  exact ⟨fun k => x (ix2 0 k), funext fun i => by congr 2; exact (eq_ix2 i).trans (by congr 1; exact Subsingleton.elim _ _)⟩

theorem holds_of_finite (hp : Cert.Pre_Kernel4Ideal_finite4 m) (c : Dev nD) : ∃ q, Holds m q c := by
  obtain ⟨h0, h1, h2, h3, h4, h5, h6⟩ := finite_args m hp c
  obtain ⟨X, h0⟩ := real2 _ h0
  obtain ⟨P, h1⟩ := real2 _ h1
  obtain ⟨WG, h2⟩ := real2 _ h2
  obtain ⟨WP, h3⟩ := real2 _ h3
  obtain ⟨G, h4⟩ := real_row _ h4
  obtain ⟨B, h5⟩ := real_row _ h5
  obtain ⟨T, h6⟩ := real2 _ h6
  exact ⟨⟨X, P, WG, WP, G, B, T⟩, h0, h1, h2, h3, h4, h5, h6⟩

/-- Each window's block at a grid point. -/
theorem blockIdx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![0, 0]
    ∧ win0_9.index t = ![t.val, 0]
    ∧ win0_10.index t = ![t.val, 0]
    ∧ win0_11.index t = ![t.val, 0]
    ∧ win0_12.index t = ![0, 0]
    ∧ win0_13.index t = ![0, 0] :=
  (by decide +kernel : ∀ t : Fin grid0.N, _)

/-- The array's row that block `t`'s row `i` is. -/
def rowOf (t : Fin cfg0.N) (i : Fin 512) : Fin 2048 := ⟨t.val * 512 + i.val, by have := t.isLt; have : cfg0.N = 4 := N_0; omega⟩

/-- The block of the arguments that a grid point reads. -/
def Args.block (q : Args) (t : Fin cfg0.N) : Block :=
  ⟨fun i => q.X (rowOf t i), fun i => q.P (rowOf t i), q.WG, q.WP, q.G, q.B, fun i => q.T (rowOf t i)⟩

variable {m} {q : Args} {c : Dev nD} (H : Holds m q c) (t : Fin cfg0.N)

include H in
theorem block0 : iblk m c 0 t = (q.block t).x := by
  funext y
  have e : (win0_0.blk t).view.emb y = ix2 (rowOf t (y 0)) (y 1) := by blk_ext [blockIdx t, rowOf]
  blk_simp [iblk]
  rw [V_main_arg0 m c, H.h0]
  rw [e]
  rfl
include H in
theorem block1 : iblk m c 1 t = (q.block t).x := by
  funext y
  have e : (win0_1.blk t).view.emb y = ix2 (rowOf t (y 0)) (y 1) := by blk_ext [blockIdx t, rowOf]
  blk_simp [iblk]
  entry_read
  rw [H.h0]
  pointwise
  rw [e]
  rfl
include H in
theorem block2 : iblk m c 2 t = (q.block t).p := by
  funext y
  have e : (win0_2.blk t).view.emb y = ix2 (rowOf t (y 0)) (y 1) := by blk_ext [blockIdx t, rowOf]
  blk_simp [iblk]
  rw [V_main_arg1 m c, H.h1]
  rw [e]
  rfl
include H in
theorem block3 : iblk m c 3 t = (q.block t).wg := by
  funext y
  have e : (win0_3.blk t).view.emb y = ix2 (y 0) (y 1) := by blk_ext [blockIdx t, rowOf]
  blk_simp [iblk]
  entry_read
  rw [H.h2]
  pointwise
  rw [e]
  rfl
include H in
theorem block4 : iblk m c 4 t = (q.block t).wp := by
  funext y
  have e : (win0_4.blk t).view.emb y = ix2 (y 0) (y 1) := by blk_ext [blockIdx t, rowOf]
  blk_simp [iblk]
  entry_read
  rw [H.h3]
  pointwise
  rw [e]
  rfl
include H in
theorem block5 : iblk m c 5 t = (q.block t).g := by
  funext y
  have e : (win0_5.blk t).view.emb y = ix2 (y 0) (y 1) := by blk_ext [blockIdx t, rowOf]
  blk_simp [iblk]
  rw [V_main_arg4 m c, H.h4]
  rw [e]
  rfl
include H in
theorem block6 : iblk m c 6 t = (q.block t).s := by
  funext y
  have e : (win0_6.blk t).view.emb y = ix2 (y 0) (y 1) := by blk_ext [blockIdx t, rowOf]
  blk_simp [iblk]
  rw [V_main_arg5 m c, H.h5]
  rw [e]
  rfl
include H in
theorem block7 : iblk m c 7 t = (q.block t).t := by
  funext y
  have e : (win0_7.blk t).view.emb y = ix2 (rowOf t (y 0)) (y 1) := by blk_ext [blockIdx t, rowOf]
  blk_simp [iblk]
  rw [V_main_arg6 m c, H.h6]
  rw [e]
  rfl

include H in
theorem result_dgp : (dats m 0 c).arrAt 9 (cfgs 0).N = q.dgp := by
  refine (dats m 0 c).arrAt_eq_of_covers 9 _ (by decide +kernel) fun t hf y => ?_
  have e : (win0_9.blk t).view.emb y = ix2 (rowOf t (y 0)) (y 1) := by blk_ext [blockIdx t, rowOf]
  blk_simp
  rw [after0_9]
  by_cases h : t.val % 4 = 0
  · rw [outsAt0_A m c t h]; dsimp only; frame_out
    rw [block0 H, block1 H, block2 H, block3 H, block4 H, block5 H, block6 H, block7 H, (q.block t).pay4, (q.block t).pay5, (q.block t).pay7, (q.block t).pay8, (q.block t).pay9, (q.block t).pay10, (q.block t).pay14, e]
    rfl
  · rw [outsAt0_B m c t h]; dsimp only; frame_out
    rw [block0 H, block1 H, block2 H, block3 H, block4 H, block5 H, block6 H, block7 H, (q.block t).pay4, (q.block t).pay5, (q.block t).pay7, (q.block t).pay8, (q.block t).pay9, (q.block t).pay10, (q.block t).pay14, e]
    rfl

include H in
theorem result_dple : (dats m 0 c).arrAt 10 (cfgs 0).N = q.dple := by
  refine (dats m 0 c).arrAt_eq_of_covers 10 _ (by decide +kernel) fun t hf y => ?_
  have e : (win0_10.blk t).view.emb y = ix2 (rowOf t (y 0)) (y 1) := by blk_ext [blockIdx t, rowOf]
  blk_simp
  rw [after0_10]
  by_cases h : t.val % 4 = 0
  · rw [outsAt0_A m c t h]; dsimp only; frame_out
    rw [block0 H, block1 H, block2 H, block3 H, block4 H, block5 H, block6 H, block7 H, (q.block t).pay4, (q.block t).pay7, (q.block t).pay8, (q.block t).pay9, (q.block t).pay10, (q.block t).pay15, e]
    rfl
  · rw [outsAt0_B m c t h]; dsimp only; frame_out
    rw [block0 H, block1 H, block2 H, block3 H, block4 H, block5 H, block6 H, block7 H, (q.block t).pay4, (q.block t).pay7, (q.block t).pay8, (q.block t).pay9, (q.block t).pay10, (q.block t).pay15, e]
    rfl

include H in
theorem result_dt : (dats m 0 c).arrAt 11 (cfgs 0).N = q.dt := by
  refine (dats m 0 c).arrAt_eq_of_covers 11 _ (by decide +kernel) fun t hf y => ?_
  have e : (win0_11.blk t).view.emb y = ix2 (rowOf t (y 0)) (y 1) := by blk_ext [blockIdx t, rowOf]
  blk_simp
  rw [after0_11]
  by_cases h : t.val % 4 = 0
  · rw [outsAt0_A m c t h]; dsimp only; frame_out
    rw [block0 H, block1 H, block2 H, block3 H, block4 H, block5 H, block6 H, block7 H, (q.block t).pay7, (q.block t).pay8, (q.block t).pay9, (q.block t).pay10, (q.block t).pay13, e]
    rfl
  · rw [outsAt0_B m c t h]; dsimp only; frame_out
    rw [block0 H, block1 H, block2 H, block3 H, block4 H, block5 H, block6 H, block7 H, (q.block t).pay7, (q.block t).pay8, (q.block t).pay9, (q.block t).pay10, (q.block t).pay13, e]
    rfl

theorem zero_loss (j : S1x128.Idx) : k0_pay16 (F := Ideal) j = 0 := by pointwise! [k0_pay16]
theorem zero_dg (j : S1x1024.Idx) : k0_pay17 (F := Ideal) j = 0 := by pointwise! [k0_pay17]
theorem zero_db (j : S1x1024.Idx) : k0_pay18 (F := Ideal) j = 0 := by pointwise! [k0_pay18]

/-- A sum over the 2048 rows is the sum of the four blocks' sums. -/
theorem sum_rows (f : Fin 2048 → ℝ) : (∑ p : Fin cfg0.N, ((∑ i : Fin 512, f (rowOf p i) : ℝ) : EReal)) = ((∑ i, f i : ℝ) : EReal) := by
  rw [sum_coe, Fin.sum_univ_tiles 4 512 rfl f]
  rfl

include H in
theorem result_loss : (dats m 0 c).arrAt 8 (cfgs 0).N = q.loss := by
  refine (dats m 0 c).arrAt_eq_of_after_last 8 t0_3 (by decide +kernel) _ fun j => ?_
  blk_simp
  obtain ⟨k, rfl⟩ : ∃ k, j = ix2 0 k := ⟨j 1, (eq_ix2 j).trans (by congr 1; exact Subsingleton.elim _ _)⟩
  rw [after0_8, Pipeline.eq_sum_fin_of_reset_step_apply_last (fun n h => (outsAt0 m c n h).1) 4 (fun _ => 0)
    (fun t j => ((1 / 2 * ∑ i : Fin 512, (∑ k, (q.block t).err i k * (q.block t).err i k) / 1024 : ℝ) : EReal))
    (fun t h j => by
      obtain ⟨k, rfl⟩ : ∃ k, j = ix2 0 k := ⟨j 1, (eq_ix2 j).trans (by congr 1; exact Subsingleton.elim _ _)⟩
      rw [outsAt0_A m c t h]; frame_out; rw [block0 H, block1 H, block2 H, block3 H, block4 H, block5 H, block6 H, block7 H, (q.block t).pay9, (q.block t).pay10, (q.block t).pay11]
      refine ((q.block t).pay1 _ _).trans ?_; rw [zero_loss])
    (fun t h j => by
      obtain ⟨k, rfl⟩ : ∃ k, j = ix2 0 k := ⟨j 1, (eq_ix2 j).trans (by congr 1; exact Subsingleton.elim _ _)⟩
      rw [outsAt0_B m c t h]; frame_out; rw [block0 H, block1 H, block2 H, block3 H, block4 H, block5 H, block6 H, block7 H, (q.block t).pay9, (q.block t).pay10, (q.block t).pay11]
      exact (q.block t).pay1 _ _)
    (le_of_eq N_0) t0_3 rfl (ix2 0 k), zero_add]
  simp only [Finset.mul_sum]
  exact sum_rows fun i => 1 / 2 * ((∑ k, q.err i k * q.err i k) / 1024)

include H in
theorem result_dg : (dats m 0 c).arrAt 12 (cfgs 0).N = q.dg := by
  refine (dats m 0 c).arrAt_eq_of_after_last 12 t0_3 (by decide +kernel) _ fun j => ?_
  blk_simp
  obtain ⟨k, rfl⟩ : ∃ k, j = ix2 0 k := ⟨j 1, (eq_ix2 j).trans (by congr 1; exact Subsingleton.elim _ _)⟩
  rw [after0_12, Pipeline.eq_sum_fin_of_reset_step_apply_last (fun n h => (outsAt0 m c n h).2.2.2.2.1) 4 (fun _ => 0)
    (fun t j => ((∑ i : Fin 512, (q.block t).cot i (j 1) * hat ((q.block t).row i) (j 1) : ℝ) : EReal))
    (fun t h j => by
      obtain ⟨k, rfl⟩ : ∃ k, j = ix2 0 k := ⟨j 1, (eq_ix2 j).trans (by congr 1; exact Subsingleton.elim _ _)⟩
      rw [outsAt0_A m c t h]; frame_out; rw [block0 H, block1 H, block2 H, block3 H, block4 H, block5 H, block6 H, block7 H, (q.block t).pay8, (q.block t).pay9, (q.block t).pay10, (q.block t).pay12]
      refine ((q.block t).pay2 _ _).trans ?_; rw [zero_dg]; rfl)
    (fun t h j => by
      obtain ⟨k, rfl⟩ : ∃ k, j = ix2 0 k := ⟨j 1, (eq_ix2 j).trans (by congr 1; exact Subsingleton.elim _ _)⟩
      rw [outsAt0_B m c t h]; frame_out; rw [block0 H, block1 H, block2 H, block3 H, block4 H, block5 H, block6 H, block7 H, (q.block t).pay8, (q.block t).pay9, (q.block t).pay10, (q.block t).pay12]
      exact (q.block t).pay2 _ _)
    (le_of_eq N_0) t0_3 rfl (ix2 0 k), zero_add]
  exact sum_rows (fun i => q.cot i k * hat (q.row i) k)

include H in
theorem result_db : (dats m 0 c).arrAt 13 (cfgs 0).N = q.db := by
  refine (dats m 0 c).arrAt_eq_of_after_last 13 t0_3 (by decide +kernel) _ fun j => ?_
  blk_simp
  obtain ⟨k, rfl⟩ : ∃ k, j = ix2 0 k := ⟨j 1, (eq_ix2 j).trans (by congr 1; exact Subsingleton.elim _ _)⟩
  rw [after0_13, Pipeline.eq_sum_fin_of_reset_step_apply_last (fun n h => (outsAt0 m c n h).2.2.2.2.2) 4 (fun _ => 0)
    (fun t j => ((∑ i : Fin 512, (q.block t).cot i (j 1) : ℝ) : EReal))
    (fun t h j => by
      obtain ⟨k, rfl⟩ : ∃ k, j = ix2 0 k := ⟨j 1, (eq_ix2 j).trans (by congr 1; exact Subsingleton.elim _ _)⟩
      rw [outsAt0_A m c t h]; frame_out; rw [block0 H, block1 H, block2 H, block3 H, block4 H, block5 H, block6 H, block7 H, (q.block t).pay9, (q.block t).pay10, (q.block t).pay12]
      refine ((q.block t).pay3 _ _).trans ?_; rw [zero_db]; rfl)
    (fun t h j => by
      obtain ⟨k, rfl⟩ : ∃ k, j = ix2 0 k := ⟨j 1, (eq_ix2 j).trans (by congr 1; exact Subsingleton.elim _ _)⟩
      rw [outsAt0_B m c t h]; frame_out; rw [block0 H, block1 H, block2 H, block3 H, block4 H, block5 H, block6 H, block7 H, (q.block t).pay9, (q.block t).pay10, (q.block t).pay12]
      exact (q.block t).pay3 _ _)
    (le_of_eq N_0) t0_3 rfl (ix2 0 k), zero_add]
  exact sum_rows (fun i => q.cot i k)

section Reference

open Cert.Reference4Ideal Cert.Reference4Ideal.Value

/-- A device's buffers whose arguments are the real arrays `q`. -/
structure RefHolds (V : Valuation Cert.Reference4Ideal.τ Cert.Reference4Ideal.sig (Elt Ideal)) (q : Args) : Prop where
  h0 : V (Proc.devRef .tc Cert.Reference4Ideal.main_arg0) = fun i => (q.X (i 0) (i 1) : EReal)
  h1 : V (Proc.devRef .tc Cert.Reference4Ideal.main_arg1) = fun i => (q.P (i 0) (i 1) : EReal)
  h2 : V (Proc.devRef .tc Cert.Reference4Ideal.main_arg2) = fun i => (q.WG (i 0) (i 1) : EReal)
  h3 : V (Proc.devRef .tc Cert.Reference4Ideal.main_arg3) = fun i => (q.WP (i 0) (i 1) : EReal)
  h4 : V (Proc.devRef .tc Cert.Reference4Ideal.main_arg4) = fun i => (q.G (i 1) : EReal)
  h5 : V (Proc.devRef .tc Cert.Reference4Ideal.main_arg5) = fun i => (q.B (i 1) : EReal)
  h6 : V (Proc.devRef .tc Cert.Reference4Ideal.main_arg6) = fun i => (q.T (i 0) (i 1) : EReal)

variable {V : Valuation Cert.Reference4Ideal.τ Cert.Reference4Ideal.sig (Elt Ideal)} (E : RefHolds V q)

include E in
theorem ref0 : res_main_v0 (F := Ideal) V = fun i : Cert.Reference4Ideal.S1x2048x1024.Idx => ((q.X (i 1) (i 2) : ℝ) : EReal) := by
  funext j
  rw [res_main_v0, E.h0]
  obtain ⟨a, b, d, rfl⟩ : ∃ (a : Fin 1) (b : Fin 2048) (d : Fin 1024), j = ix3 a b d := ⟨j 0, j 1, j 2, eq_ix3 j⟩
  pointwise
include E in
theorem ref4 : res_main_v4 (F := Ideal) V = fun i : Cert.Reference4Ideal.S1x2048x1024.Idx => ((q.emb (i 1) (i 2) : ℝ) : EReal) := by
  funext j
  rw [res_main_v4, E.h1, E.h3]
  obtain ⟨a, b, d, rfl⟩ : ∃ (a : Fin 1) (b : Fin 2048) (d : Fin 1024), j = ix3 a b d := ⟨j 0, j 1, j 2, eq_ix3 j⟩
  pointwise
  simp only [mul_coe, sum_coe]
  rfl
include E in
theorem ref14 : res_main_v14 (F := Ideal) V = fun i : Cert.Reference4Ideal.S1x2048x1024.Idx => ((q.gate (i 1) (i 2) : ℝ) : EReal) := by
  funext j
  rw [res_main_v14, ref0 E, E.h2]
  obtain ⟨a, b, d, rfl⟩ : ∃ (a : Fin 1) (b : Fin 2048) (d : Fin 1024), j = ix3 a b d := ⟨j 0, j 1, j 2, eq_ix3 j⟩
  pointwise
  simp only [Ideal.ofBits_one_f32, one_coe, Ideal.exp_coe, div_logistic, add_coe, sub_coe, mul_coe, neg_coe, sum_coe]
  rfl
include E in
theorem ref19 : res_main_v19 (F := Ideal) V = fun i : Cert.Reference4Ideal.S1x2048x1024.Idx => ((q.row (i 1) (i 2) : ℝ) : EReal) := by
  funext j
  rw [res_main_v19, ref0 E, ref14 E, ref4 E]
  obtain ⟨a, b, d, rfl⟩ : ∃ (a : Fin 1) (b : Fin 2048) (d : Fin 1024), j = ix3 a b d := ⟨j 0, j 1, j 2, eq_ix3 j⟩
  pointwise
  simp only [word_alpha, add_coe, sub_coe, mul_coe, neg_coe, sum_coe]
  rfl
include E in
theorem ref25 : res_main_v25 (F := Ideal) V = fun i : Cert.Reference4Ideal.S1x2048x1024.Idx => ((cent (q.row (i 1)) (i 2) : ℝ) : EReal) := by
  funext j
  rw [res_main_v25, ref19 E]
  obtain ⟨a, b, d, rfl⟩ : ∃ (a : Fin 1) (b : Fin 2048) (d : Fin 1024), j = ix3 a b d := ⟨j 0, j 1, j 2, eq_ix3 j⟩
  pointwise
  simp only [word_1024, div_1024, add_coe, sub_coe, mul_coe, neg_coe, sum_coe]
  rfl
include E in
theorem ref32 : res_main_v32 (F := Ideal) V = fun i : Cert.Reference4Ideal.S1x2048x1.Idx => ((var (q.row (i 1)) : ℝ) : EReal) := by
  funext j
  rw [res_main_v32, ref25 E]
  obtain ⟨k, rfl⟩ : ∃ k : Fin 2048, j = ix3 0 k 0 := ⟨j 1, (eq_ix3 j).trans (by congr 1 <;> exact Subsingleton.elim _ _)⟩
  pointwise
  simp only [word_1024, word_eps, div_1024, add_coe, sub_coe, mul_coe, neg_coe, sum_coe]
  rfl
include E in
theorem ref33 : res_main_v33 (F := Ideal) V = fun i : Cert.Reference4Ideal.S1x2048x1.Idx => ((rstd (q.row (i 1)) : ℝ) : EReal) := by
  funext j
  rw [res_main_v33, ref32 E]
  obtain ⟨k, rfl⟩ : ∃ k : Fin 2048, j = ix3 0 k 0 := ⟨j 1, (eq_ix3 j).trans (by congr 1 <;> exact Subsingleton.elim _ _)⟩
  pointwise
  simp only [var, rsqrt_var]
  rfl
include E in
theorem ref38 : res_main_v38 (F := Ideal) V = fun i : Cert.Reference4Ideal.S1x2048x1024.Idx => ((hat (q.row (i 1)) (i 2) : ℝ) : EReal) := by
  funext j
  rw [res_main_v38, ref25 E, ref33 E]
  obtain ⟨a, b, d, rfl⟩ : ∃ (a : Fin 1) (b : Fin 2048) (d : Fin 1024), j = ix3 a b d := ⟨j 0, j 1, j 2, eq_ix3 j⟩
  pointwise
  simp only [add_coe, sub_coe, mul_coe, neg_coe, sum_coe]
  rfl
include E in
theorem ref39 : res_main_v39 (F := Ideal) V = fun i : Cert.Reference4Ideal.S1x1x1024.Idx => ((q.G (i 2) : ℝ) : EReal) := by
  funext j
  rw [res_main_v39, E.h4]
  obtain ⟨k, rfl⟩ : ∃ k : Fin 1024, j = ix3 0 0 k := ⟨j 2, (eq_ix3 j).trans (by congr 1 <;> exact Subsingleton.elim _ _)⟩
  pointwise
include E in
theorem ref45 : res_main_v45 (F := Ideal) V = fun i : Cert.Reference4Ideal.S1x2048x1024.Idx => ((q.err (i 1) (i 2) : ℝ) : EReal) := by
  funext j
  rw [res_main_v45, ref38 E, ref39 E, E.h5, E.h6]
  obtain ⟨a, b, d, rfl⟩ : ∃ (a : Fin 1) (b : Fin 2048) (d : Fin 1024), j = ix3 a b d := ⟨j 0, j 1, j 2, eq_ix3 j⟩
  pointwise
  simp only [add_coe, sub_coe, mul_coe, neg_coe, sum_coe]
  rfl
include E in
theorem ref59 : res_main_v59 (F := Ideal) V = fun i : Cert.Reference4Ideal.S1x2048x1024.Idx => ((q.cot (i 1) (i 2) : ℝ) : EReal) := by
  funext j
  rw [res_main_v59, ref45 E]
  obtain ⟨a, b, d, rfl⟩ : ∃ (a : Fin 1) (b : Fin 2048) (d : Fin 1024), j = ix3 a b d := ⟨j 0, j 1, j 2, eq_ix3 j⟩
  pointwise
  simp only [word_half, word_two, word_1024, Ideal.ofBits_one_f32, one_coe, div_1024, add_coe, sub_coe, mul_coe, neg_coe, sum_coe]
  refine congrArg (fun x : ℝ => (x : EReal)) ?_
  change 1 / 2 / 1024 * (2 * q.err b d) = q.err b d * (1 / 1024)
  ring
include E in
theorem ref67 : res_main_v67 (F := Ideal) V = fun i : Cert.Reference4Ideal.S1x2048x1024.Idx => ((q.cot (i 1) (i 2) * q.G (i 2) : ℝ) : EReal) := by
  funext j
  rw [res_main_v67, ref59 E, ref39 E]
  obtain ⟨a, b, d, rfl⟩ : ∃ (a : Fin 1) (b : Fin 2048) (d : Fin 1024), j = ix3 a b d := ⟨j 0, j 1, j 2, eq_ix3 j⟩
  pointwise
  simp only [add_coe, sub_coe, mul_coe, neg_coe, sum_coe]
include E in
theorem ref79 : res_main_v79 (F := Ideal) V = fun i : Cert.Reference4Ideal.S1x2048x1024.Idx => ((∑ _i : Fin 1, gradV (q.row (i 1)) (fun k => q.cot (i 1) k * q.G k) : ℝ) : EReal) := by
  funext j
  rw [res_main_v79, ref25 E, ref67 E, ref33 E, ref32 E]
  obtain ⟨a, b, d, rfl⟩ : ∃ (a : Fin 1) (b : Fin 2048) (d : Fin 1024), j = ix3 a b d := ⟨j 0, j 1, j 2, eq_ix3 j⟩
  pointwise
  rw [reduce_0_2 Gen.reducesTo_S1x2048x1_S2048_d0_2]
  pointwise
  simp only [word_1024, word_neg_half, div_1024, var, div_var, add_coe, sub_coe, mul_coe, neg_coe, sum_coe]
  simp only [Finset.univ_unique, Finset.sum_singleton]
  rfl
include E in
theorem ref83 : res_main_v83 (F := Ideal) V = fun i : Cert.Reference4Ideal.S1x2048x1024.Idx => ((gradC (q.row (i 1)) (fun k => q.cot (i 1) k * q.G k) (i 2) : ℝ) : EReal) := by
  funext j
  rw [res_main_v83, ref25 E, ref67 E, ref33 E, ref79 E]
  obtain ⟨a, b, d, rfl⟩ : ∃ (a : Fin 1) (b : Fin 2048) (d : Fin 1024), j = ix3 a b d := ⟨j 0, j 1, j 2, eq_ix3 j⟩
  pointwise
  simp only [add_coe, sub_coe, mul_coe, neg_coe, sum_coe]
  rfl
include E in
theorem ref92 : res_main_v92 (F := Ideal) V = fun i : Cert.Reference4Ideal.S1x2048x1024.Idx => ((q.grad (i 1) (i 2) : ℝ) : EReal) := by
  funext j
  rw [res_main_v92, ref83 E]
  obtain ⟨a, b, d, rfl⟩ : ∃ (a : Fin 1) (b : Fin 2048) (d : Fin 1024), j = ix3 a b d := ⟨j 0, j 1, j 2, eq_ix3 j⟩
  pointwise
  rw [reduce_0_2 Gen.reducesTo_S1x2048x1_S2048_d0_2]
  pointwise
  simp only [word_1024, div_1024, add_coe, sub_coe, mul_coe, neg_coe, sum_coe]
  refine Eq.trans ?_ (congrArg (fun x : ℝ => (x : EReal)) (gradR_eq (q.row b) (fun k => q.cot b k * q.G k) d))
  simp only [gradR, Finset.univ_unique, Finset.sum_singleton]

end Reference

theorem algebraic : Cert.algebraic_Kernel4Ideal_Reference4Ideal_pre_finite4 := by
  pair_intro
  · exact Cert.Kernel4Ideal.Value.run_blocks m g
  · refine (θ_run _ _ _).mono (fun r h c => ?_) (Cert.Reference4Ideal.Value.run m' g')
    obtain ⟨e0, e1, e2, e3, e4, e5, er⟩ := h c
    obtain ⟨q, H⟩ := holds_of_finite m hpre c
    obtain ⟨a0, a1, a2, a3, a4, a5, a6⟩ := hagree c
    clear h
    have E : RefHolds (StableHlo.launchContents m' c) q :=
      ⟨a0.trans H.h0, a1.trans H.h1, a2.trans H.h2, a3.trans H.h3, a4.trans H.h4, a5.trans H.h5, a6.trans H.h6⟩
    refine ⟨e0.trans (Eq.trans ?_ (result_loss H).symm), e1.trans (Eq.trans ?_ (result_dgp H).symm), e2.trans (Eq.trans ?_ (result_dple H).symm),
      e3.trans (Eq.trans ?_ (result_dt H).symm), e4.trans (Eq.trans ?_ (result_dg H).symm), e5.trans (Eq.trans ?_ (result_db H).symm), er⟩
    all_goals funext j
    · rw [ref45 E]
      pointwise
      simp only [word_half, word_1024, div_1024, add_coe, sub_coe, mul_coe, neg_coe, sum_coe]
      refine congrArg (fun x : ℝ => (x : EReal)) ?_
      simp only [Finset.univ_unique, Finset.sum_singleton]
      exact Finset.mul_sum _ _ _
    · rw [ref92 E, ref4 E, ref14 E, eq_ix2 j]
      pointwise
      simp only [Ideal.ofBits_one_f32, one_coe, add_coe, sub_coe, mul_coe, neg_coe, sum_coe]
      refine congrArg (fun x : ℝ => (x : EReal)) ?_
      exact (mul_assoc _ _ _).symm
    · rw [ref92 E, ref14 E, eq_ix2 j]
      pointwise
      simp only [add_coe, sub_coe, mul_coe, neg_coe, sum_coe]
      exact congrArg (fun x : ℝ => (x : EReal)) (mul_comm _ _)
    · rw [ref92 E, eq_ix2 j]
      pointwise
      rfl
    · obtain ⟨k, rfl⟩ : ∃ k, j = ix2 0 k := ⟨j 1, (eq_ix2 j).trans (by congr 1; exact Subsingleton.elim _ _)⟩
      rw [ref38 E, ref59 E]
      pointwise
      rw [reduce_0_1 Cert.Reference4Ideal.Gen.reducesTo_S1x1x1024_S1024_d0_1]
      pointwise
      simp only [add_coe, sub_coe, mul_coe, neg_coe, sum_coe]
      exact congrArg (fun x : ℝ => (x : EReal)) (Finset.sum_congr rfl fun i _ => mul_comm _ _)
    · obtain ⟨k, rfl⟩ : ∃ k, j = ix2 0 k := ⟨j 1, (eq_ix2 j).trans (by congr 1; exact Subsingleton.elim _ _)⟩
      rw [ref59 E]
      pointwise
      rw [reduce_0_1 Cert.Reference4Ideal.Gen.reducesTo_S1x1x1024_S1024_d0_1]
      pointwise
      simp only [add_coe, sub_coe, mul_coe, neg_coe, sum_coe]
      rfl

end Cert.Head

end
-- ==== Proof.Ssd.lean ====
/- The state space layer's chunk, as vector operations named after what they compute: the step sizes, the running sum of
   the log decays, the spread of a per-head column over the head's lanes, the decay matrix, the chunk's output, its gated
   norm and the state it hands on. -/
module

public import proofs.«01_k».proof.Proof.Gen.Kernel5Ideal.Frame
public import proofs.«01_k».proof.Proof.Norm
public import Idealize.ShloMosaic.Lib.Pointwise

@[expose] public section

set_option maxRecDepth 16384

noncomputable section

namespace Cert.Ssd

open Cert.Kernel5Ideal Cert.Kernel5Ideal.Gen Idealize.ShloMosaic

variable {F : FTy → Type} [FloatOps F]

/-! ## The vector operations -/

/-- The zero vector. -/
abbrev zeroV (s : Shape) : FVec F s .f32 := broadcast s (Scalar.ofBits .f32 0x00000000#32)

/-- `max(v, 0) + log(1 + exp(-|v|))`. -/
def softplusV (v : FVec F S128x128 .f32) : FVec F S128x128 .f32 :=
  addf (maximumf v (zeroV _)) (log1p (exp (subf (zeroV _) (absf v))))

/-- The step sizes of a chunk: softplus of the raw columns plus the bias row. -/
def dtV (r : FVec F S128x128 .f32) (b : FVec F S1x128 .f32) : FVec F S128x128 .f32 :=
  softplusV (addf r (broadcastTo S128x128 (shapeCast S1x128 b shapeCasts_S1x128_S1x128) broadcasts_S1x128_S128x128))

/-- The decay rate of each head, zero on the lanes past the sixteen heads. -/
def rateV (al : FVec F S1x128 .f32) : FVec F S1x128 .f32 :=
  select (cmpi .slt (iota .tc S1x128 32 [1] iota_S1x128_d1_w32) (broadcast S1x128 16#32))
    (subf (zeroV _) (exp (shapeCast S1x128 al shapeCasts_S1x128_S1x128))) (zeroV _)

/-- The log decays of a chunk. -/
def logV (r : FVec F S128x128 .f32) (b al : FVec F S1x128 .f32) : FVec F S128x128 .f32 :=
  mulf (dtV r b) (broadcastTo S128x128 (rateV al) broadcasts_S1x128_S128x128)

/-- One on and below the diagonal, zero above. -/
def lowerV : FVec F S128x128 .f32 :=
  sitofp .f32 (extui 32 (cmpi .sle (iota .tc S128x128 32 [1] iota_S128x128_d1_w32)
    (iota .tc S128x128 32 [0] iota_S128x128_d0_w32)) natLt_1_32)

/-- What is left of `v` past its narrow part. -/
def restV {s : Shape} (v : FVec F s .f32) : FVec F s .f32 :=
  subf v (extf .f32 (truncf .bf16 v bitsLt_bf16_f32) bitsLt_bf16_f32)

/-- A product by a matrix of zeros and ones, the other factor taken in three narrow parts. -/
def exactDot (m v : FVec F S128x128 .f32) : FVec F S128x128 .f32 :=
  let f := fun p : FVec F S128x128 .f32 => matmul dot_S128x128_S128x128_S128x128_1_0_0_1_n_n none (truncf .bf16 m bitsLt_bf16_f32)
    (truncf .bf16 p bitsLt_bf16_f32) (constant S128x128 .f32 0x00000000#32)
  addf (addf (f v) (f (restV v))) (f (restV (restV v)))

/-- The running sum of the log decays. -/
def cumV (a : FVec F S128x128 .f32) : FVec F S128x128 .f32 := exactDot lowerV a

/-- The sum of the chunk's log decays. -/
def totV (a : FVec F S128x128 .f32) : FVec F S1x128 .f32 :=
  shapeCast S1x128 (multiReduction .add [0] S128 a 0x00000000#32 reduces_S128x128_S128 (.inl rfl) rfl) shapeCasts_S128_S1x128

/-- Whether an entry is on or below the diagonal. -/
def causalV : IVec S128x128 1 := cmpf .ogt (lowerV (F := F)) (zeroV _)

/-- Column `h` of `v`. -/
def colV (v : FVec F S128x128 .f32) (h : ℕ) : FVec F S128x1 .f32 :=
  shapeCast S128x1 (multiReduction .add [1] S128 (select (cmpi .eq (iota .tc S128x128 32 [1] iota_S128x128_d1_w32)
    (broadcast S128x128 (BitVec.ofNat 32 h))) v (zeroV _)) 0x00000000#32 reduces_S128x128_S128_2 (.inl rfl) rfl) shapeCasts_S128_S128x1

/-- Whether a lane belongs to head `j` of the group. -/
def headV (j : ℕ) : IVec S128x256 1 :=
  andi (cmpi .sge (iota .tc S128x256 32 [1] iota_S128x256_d1_w32) (broadcast S128x256 (BitVec.ofNat 32 (64 * j))))
    (cmpi .slt (iota .tc S128x256 32 [1] iota_S128x256_d1_w32) (broadcast S128x256 (BitVec.ofNat 32 (64 * j + 64))))

/-- Four values, each on its head's lanes. -/
def headsV (f : ℕ → FVec F S128x256 .f32) : FVec F S128x256 .f32 :=
  select (headV 3) (f 3) (select (headV 2) (f 2) (select (headV 1) (f 1) (select (headV 0) (f 0) (zeroV _))))

/-- The columns of group `g`'s heads, each spread over its head's lanes. -/
def spreadV (v : FVec F S128x128 .f32) (g : ℕ) : FVec F S128x256 .f32 :=
  headsV fun j => broadcastTo S128x256 (shapeCast S128x1 (colV v (4 * g + j)) shapeCasts_S128x1_S128x1) broadcasts_S128x1_S128x256

/-- Entry `h` of a row. -/
def entV (v : FVec F S1x128 .f32) (h : ℕ) : FVec F S1x1 .f32 :=
  shapeCast S1x1 (multiReduction .add [1] S1 (select (cmpi .eq (iota .tc S1x128 32 [1] iota_S1x128_d1_w32)
    (broadcast S1x128 (BitVec.ofNat 32 h))) v (zeroV _)) 0x00000000#32 reduces_S1x128_S1 (.inl rfl) rfl) shapeCasts_S1_S1x1

/-- Whether a lane of a row belongs to head `j` of the group. -/
def headR (j : ℕ) : IVec S1x256 1 :=
  andi (cmpi .sge (iota .tc S1x256 32 [1] iota_S1x256_d1_w32) (broadcast S1x256 (BitVec.ofNat 32 (64 * j))))
    (cmpi .slt (iota .tc S1x256 32 [1] iota_S1x256_d1_w32) (broadcast S1x256 (BitVec.ofNat 32 (64 * j + 64))))

/-- The entries of group `g`'s heads in a row, each spread over its head's lanes. -/
def spreadR (v : FVec F S1x128 .f32) (g : ℕ) : FVec F S1x256 .f32 :=
  let f := fun j : ℕ => broadcastTo S1x256 (shapeCast S1x1 (entV v (4 * g + j)) shapeCasts_S1x1_S1x1) broadcasts_S1x1_S1x256
  select (headR 3) (f 3) (select (headR 2) (f 2) (select (headR 1) (f 1) (select (headR 0) (f 0) (zeroV _))))

/-- The decay from each earlier position of the chunk to each later one, of head `h`; `neg` is what the mask writes. -/
def decayV (neg : F .f32) (cs : FVec F S128x128 .f32) (row : FVec F S1x128 .f32) (h : ℕ) : FVec F S128x128 .f32 :=
  exp (select (causalV (F := F)) (subf (broadcastTo S128x128 (colV cs h) broadcasts_S128x1_S128x128)
    (broadcastTo S128x128 row broadcasts_S1x128_S128x128)) (broadcast S128x128 neg))

/-- The scores of the chunk's positions against each other, before the decay. -/
def scoreV (bg cg : FVec F S128x128 .f32) : FVec F S128x128 .f32 :=
  matmul dot_S128x128_S128x128_S128x128_1_1_0_0_n_n none (truncf .bf16 cg bitsLt_bf16_f32) (truncf .bf16 bg bitsLt_bf16_f32)
    (constant S128x128 .f32 0x00000000#32)

/-- A product of a square matrix by a group's lanes. -/
def mixV (a : FVec F S128x128 .f32) (x : FVec F S128x256 .f32) : FVec F S128x256 .f32 :=
  matmul dot_S128x128_S128x256_S128x256_1_0_0_1_n_n none (truncf .bf16 a bitsLt_bf16_f32) (truncf .bf16 x bitsLt_bf16_f32)
    (constant S128x256 .f32 0x00000000#32)

/-- The same product with the square matrix transposed. -/
def mixTV (a : FVec F S128x128 .f32) (x : FVec F S128x256 .f32) : FVec F S128x256 .f32 :=
  matmul dot_S128x128_S128x256_S128x256_0_0_1_1_n_n none (truncf .bf16 a bitsLt_bf16_f32) (truncf .bf16 x bitsLt_bf16_f32)
    (constant S128x256 .f32 0x00000000#32)

/-- A row repeated over the chunk. -/
def rowV (x : FVec F S1x256 .f32) : FVec F S128x256 .f32 := broadcastTo S128x256 x broadcasts_S1x256_S128x256

/-- A group's part of a chunk: its slices of the lanes, of the two projections, of the state carried in and of the skip
    row, with the chunk's step sizes, running sums, their total and the rows of the transposed running sums. -/
structure Part (F : FTy → Type) where
  neg : F .f32
  dt : FVec F S128x128 .f32
  cs : FVec F S128x128 .f32
  tot : FVec F S1x128 .f32
  row : ℕ → FVec F S1x128 .f32
  x : FVec F S128x256 .f32
  b : FVec F S128x128 .f32
  c : FVec F S128x128 .f32
  h : FVec F S128x256 .f32
  d : FVec F S1x256 .f32

variable (p : Part F) (g : ℕ)

/-- The lanes times their head's step size. -/
def Part.xdt : FVec F S128x256 .f32 := mulf p.x (spreadV p.dt g)

/-- What the state carried in adds to the output. -/
def Part.off : FVec F S128x256 .f32 := mulf (mixV p.c p.h) (exp (spreadV p.cs g))

/-- The decay matrix of head `j` of the group. -/
def Part.decay (j : ℕ) : FVec F S128x128 .f32 := decayV p.neg p.cs (p.row (4 * g + j)) (4 * g + j)

/-- The layer's output before the norm. -/
def Part.y : FVec F S128x256 .f32 :=
  addf (addf (headsV fun j => mixV (mulf (scoreV p.b p.c) (p.decay g j)) (p.xdt g)) (p.off g))
    (mulf p.x (rowV (shapeCast S1x256 p.d shapeCasts_S1x256_S1x256)))

/-- The decay from each position to the end of the chunk. -/
def Part.toEnd : FVec F S128x256 .f32 := exp (subf (rowV (spreadR p.tot g)) (spreadV p.cs g))

/-- The state handed on. -/
def Part.next : FVec F S128x256 .f32 :=
  addf (mulf (rowV (exp (spreadR p.tot g))) p.h) (mixTV p.b (mulf (p.xdt g) (p.toEnd g)))

/-- `z` times its sigmoid. -/
def siluV (z : FVec F S128x256 .f32) : FVec F S128x256 .f32 := mulf z (logistic z)

/-- The reciprocal root of the mean square over the group's lanes. -/
def rmsV (v : FVec F S128x256 .f32) : FVec F S128x1 .f32 :=
  rsqrt (addf (divf (shapeCast S128x1 (multiReduction .add [1] S128 (mulf v v) 0x00000000#32 reduces_S128x256_S128 (.inl rfl) rfl)
    shapeCasts_S128_S128x1) (broadcast S128x1 (Scalar.ofBits .f32 0x43800000#32))) (broadcast S128x1 (Scalar.ofBits .f32 0x3727C5AC#32)))

/-- The gated output over its root mean square. -/
def normedV (y z : FVec F S128x256 .f32) : FVec F S128x256 .f32 :=
  mulf (mulf y (siluV z)) (broadcastTo S128x256 (rmsV (mulf y (siluV z))) broadcasts_S128x1_S128x256)

/-! ## Their values on real data -/

open Cert.Reals

/-- The array of a real matrix. -/
abbrev M2 {a b : ℕ} (V : Fin a → Fin b → ℝ) : (⟨2, ![a, b]⟩ : Shape).Idx → EReal := fun i => ((V (i 0) (i 1) : ℝ) : EReal)

theorem M2_ix2 {a b : ℕ} (V : Fin a → Fin b → ℝ) (i : Fin a) (j : Fin b) : M2 V (ix2 i j) = ((V i j : ℝ) : EReal) := rfl

/-- `max(x, 0) + log(1 + exp(-|x|))`. -/
def softplus (x : ℝ) : ℝ := max x 0 + Real.log (1 + Real.exp (-|x|))

/-- The head of lane `l` of group `g`. -/
def hd (g : Fin 4) (l : Fin 256) : Fin 128 := ⟨4 * g + l / 64, by omega⟩

theorem abs_coe (a : ℝ) : FloatOps.absf (F := Ideal) (φ := .f32) (a : EReal) = ((|a| : ℝ) : EReal) := by
  show max (a : EReal) (-(a : EReal)) = _
  rw [neg_coe, max_coe]; rfl

theorem log1p_exp (a : ℝ) : Ideal.log1p ((Real.exp a : ℝ) : EReal) = ((Real.log (1 + Real.exp a) : ℝ) : EReal) := by
  have h : (0 : ℝ) < 1 + Real.exp a := by positivity
  unfold Ideal.log1p
  rw [one_coe, add_coe, Ideal.log_coe, if_neg h.not_ge]

theorem eq_bit : ∀ (k h : Fin 128), IntOp.cmpi .eq (BitVec.ofNat 32 k) (BitVec.ofNat 32 h) = if k = h then 1#1 else 0#1 := by
  decide +kernel

theorem slt_bit : ∀ k : Fin 128, IntOp.cmpi .slt (BitVec.ofNat 32 k) 16#32 = if k.1 < 16 then 1#1 else 0#1 := by decide +kernel

theorem sle_bit : ∀ a b : Fin 128, BitVec.setWidth 32 (IntOp.cmpi .sle (BitVec.ofNat 32 b) (BitVec.ofNat 32 a)) = if b ≤ a then 1#32 else 0#32 := by
  decide +kernel

theorem head_bit : ∀ (j : Fin 4) (l : Fin 256), IntOp.andi (IntOp.cmpi .sge (BitVec.ofNat 32 l) (BitVec.ofNat 32 (64 * j)))
    (IntOp.cmpi .slt (BitVec.ofNat 32 l) (BitVec.ofNat 32 (64 * j + 64))) = if l.1 / 64 = j.1 then 1#1 else 0#1 := by
  decide +kernel

theorem select_bit {α : Type} (p : Prop) [Decidable p] (a b : α) : Scalar.select (if p then 1#1 else 0#1) a b = if p then a else b := by
  by_cases h : p <;> simp [h, Scalar.select]

theorem colV_real (V : Fin 128 → Fin 128 → ℝ) (h : Fin 128) : colV (F := Ideal) (M2 V) h = M2 fun i _ => V i h := by
  funext j
  obtain ⟨a, b, rfl⟩ : ∃ (a : Fin 128) (b : Fin 1), j = ix2 a b := ⟨j 0, j 1, eq_ix2 j⟩
  unfold colV
  pointwise
  simp only [eq_bit, select_bit, zero_coe, ite_coe, sum_coe]
  simp

theorem entV_real (V : Fin 1 → Fin 128 → ℝ) (h : Fin 128) : entV (F := Ideal) (M2 V) h = M2 fun i _ => V i h := by
  funext j
  obtain ⟨a, b, rfl⟩ : ∃ (a : Fin 1) (b : Fin 1), j = ix2 a b := ⟨j 0, j 1, eq_ix2 j⟩
  unfold entV
  pointwise
  obtain rfl : a = 0 := Subsingleton.elim _ _
  simp only [eq_bit, select_bit, zero_coe, ite_coe, sum_coe]
  simp

theorem softplusV_real (V : Fin 128 → Fin 128 → ℝ) : softplusV (F := Ideal) (M2 V) = M2 fun i j => softplus (V i j) := by
  funext j
  obtain ⟨a, b, rfl⟩ : ∃ (a : Fin 128) (b : Fin 128), j = ix2 a b := ⟨j 0, j 1, eq_ix2 j⟩
  unfold softplusV
  pointwise
  simp only [abs_coe, zero_coe, sub_coe, Ideal.exp_coe, log1p_exp, max_coe, add_coe, zero_sub]
  rfl

theorem dtV_real (R : Fin 128 → Fin 128 → ℝ) (b : Fin 1 → Fin 128 → ℝ) :
    dtV (F := Ideal) (M2 R) (M2 b) = M2 fun i j => softplus (R i j + b 0 j) := by
  unfold dtV
  refine Eq.trans (congrArg _ ?_) (softplusV_real fun i j => R i j + b 0 j)
  funext j
  obtain ⟨a, b, rfl⟩ : ∃ (a : Fin 128) (b : Fin 128), j = ix2 a b := ⟨j 0, j 1, eq_ix2 j⟩
  pointwise
  simp only [add_coe]
  rfl

theorem rateV_real (V : Fin 1 → Fin 128 → ℝ) :
    rateV (F := Ideal) (M2 V) = M2 fun i j => if j.1 < 16 then -Real.exp (V 0 j) else 0 := by
  funext j
  obtain ⟨a, b, rfl⟩ : ∃ (a : Fin 1) (b : Fin 128), j = ix2 a b := ⟨j 0, j 1, eq_ix2 j⟩
  obtain rfl : a = 0 := Subsingleton.elim _ _
  unfold rateV
  pointwise
  simp only [slt_bit, select_bit, zero_coe, Ideal.exp_coe, sub_coe, ite_coe, zero_sub]
  rfl

theorem logV_real (R : Fin 128 → Fin 128 → ℝ) (b al : Fin 1 → Fin 128 → ℝ) : logV (F := Ideal) (M2 R) (M2 b) (M2 al)
    = M2 fun i j => softplus (R i j + b 0 j) * if j.1 < 16 then -Real.exp (al 0 j) else 0 := by
  unfold logV
  rw [dtV_real, rateV_real]
  funext j
  obtain ⟨a, b, rfl⟩ : ∃ (a : Fin 128) (b : Fin 128), j = ix2 a b := ⟨j 0, j 1, eq_ix2 j⟩
  pointwise
  simp only [mul_coe]
  rfl

theorem lowerV_real : lowerV (F := Ideal) = M2 fun i j => if j ≤ i then 1 else 0 := by
  funext j
  obtain ⟨a, b, rfl⟩ : ∃ (a : Fin 128) (b : Fin 128), j = ix2 a b := ⟨j 0, j 1, eq_ix2 j⟩
  unfold lowerV
  pointwise
  rw [sle_bit]
  by_cases h : b ≤ a <;> simp only [h, if_true, if_false, M2_ix2] <;> simp [FloatOps.sitofp]

theorem exactDot_real (U V : Fin 128 → Fin 128 → ℝ) :
    exactDot (F := Ideal) (M2 U) (M2 V) = M2 fun i j => ∑ k, U i k * V k j := by
  funext j
  obtain ⟨a, b, rfl⟩ : ∃ (a : Fin 128) (b : Fin 128), j = ix2 a b := ⟨j 0, j 1, eq_ix2 j⟩
  unfold exactDot restV
  pointwise
  simp only [sub_coe, mul_coe, sum_coe, add_coe, sub_self, mul_zero, Finset.sum_const_zero, add_zero]
  rfl

theorem cumV_real (V : Fin 128 → Fin 128 → ℝ) : cumV (F := Ideal) (M2 V) = M2 fun i j => ∑ k, if k ≤ i then V k j else 0 := by
  unfold cumV
  rw [lowerV_real, exactDot_real]
  simp

theorem totV_real (V : Fin 128 → Fin 128 → ℝ) : totV (F := Ideal) (M2 V) = M2 fun _ j => ∑ i, V i j := by
  funext j
  obtain ⟨a, b, rfl⟩ : ∃ (a : Fin 1) (b : Fin 128), j = ix2 a b := ⟨j 0, j 1, eq_ix2 j⟩
  unfold totV
  pointwise
  simp only [sum_coe]
  rfl

theorem causalV_real (a b : Fin 128) : causalV (F := Ideal) (ix2 a b) = if b ≤ a then 1#1 else 0#1 := by
  unfold causalV
  rw [lowerV_real]
  pointwise
  by_cases h : b ≤ a <;> simp [h]

theorem headV_real (j : ℕ) (hj : j < 4) (a : Fin 128) (l : Fin 256) : headV j (ix2 a l) = if l.1 / 64 = j then 1#1 else 0#1 := by
  unfold headV
  pointwise
  exact head_bit ⟨j, hj⟩ l

theorem headR_real (j : ℕ) (hj : j < 4) (a : Fin 1) (l : Fin 256) : headR j (ix2 a l) = if l.1 / 64 = j then 1#1 else 0#1 := by
  unfold headR
  pointwise
  exact head_bit ⟨j, hj⟩ l

/-- Of four values on their heads' lanes, the one a lane reads. -/
theorem pick {α : Type} (f : ℕ → α) (z : α) (l : Fin 256) :
    (if l.1 / 64 = 3 then f 3 else if l.1 / 64 = 2 then f 2 else if l.1 / 64 = 1 then f 1 else if l.1 / 64 = 0 then f 0 else z) = f (l / 64) := by
  have : l.1 / 64 = 3 ∨ l.1 / 64 = 2 ∨ l.1 / 64 = 1 ∨ l.1 / 64 = 0 := by omega
  rcases this with h | h | h | h <;> simp [h]

theorem headsV_real (f : ℕ → Fin 128 → Fin 256 → ℝ) : headsV (F := Ideal) (fun j => M2 (f j)) = M2 fun i l => f (l / 64) i l := by
  funext j
  obtain ⟨a, l, rfl⟩ : ∃ (a : Fin 128) (l : Fin 256), j = ix2 a l := ⟨j 0, j 1, eq_ix2 j⟩
  unfold headsV
  pointwise
  rw [headV_real 3 (by omega), headV_real 2 (by omega), headV_real 1 (by omega), headV_real 0 (by omega)]
  simp only [select_bit]
  exact pick (fun j => ((f j a l : ℝ) : EReal)) _ l

theorem headsV_eq (f : ℕ → FVec Ideal S128x256 .f32) (r : ℕ → Fin 128 → Fin 256 → ℝ) (h : ∀ j < 4, f j = M2 (r j)) :
    headsV f = M2 fun i l => r (l / 64) i l := by
  rw [← headsV_real]
  simp only [headsV, h 3 (by omega), h 2 (by omega), h 1 (by omega), h 0 (by omega)]

theorem spreadV_real (V : Fin 128 → Fin 128 → ℝ) (g : Fin 4) : spreadV (F := Ideal) (M2 V) g = M2 fun i l => V i (hd g l) := by
  have e : ∀ l : Fin 256, 4 * g.1 + l.1 / 64 < 128 := fun l => by omega
  unfold spreadV
  rw [headsV_eq _ (fun j i _ => V i (Fin.ofNat 128 (4 * g + j))) fun j hj => ?_]
  · funext i
    obtain ⟨a, l, rfl⟩ : ∃ (a : Fin 128) (l : Fin 256), i = ix2 a l := ⟨i 0, i 1, eq_ix2 i⟩
    refine congrArg (fun k => ((V a k : ℝ) : EReal)) (Fin.ext ?_)
    exact Nat.mod_eq_of_lt (e l)
  · have := colV_real V (Fin.ofNat 128 (4 * g + j))
    rw [show ((Fin.ofNat 128 (4 * g + j) : Fin 128) : ℕ) = 4 * g + j from Nat.mod_eq_of_lt (by omega)] at this
    rw [this]
    funext i
    obtain ⟨a, l, rfl⟩ : ∃ (a : Fin 128) (l : Fin 256), i = ix2 a l := ⟨i 0, i 1, eq_ix2 i⟩
    pointwise
    rfl

theorem spreadR_real (V : Fin 1 → Fin 128 → ℝ) (g : Fin 4) : spreadR (F := Ideal) (M2 V) g = M2 fun i l => V 0 (hd g l) := by
  have e : ∀ j < 4, entV (F := Ideal) (M2 V) (4 * g + j) = M2 fun i _ => V i (Fin.ofNat 128 (4 * g + j)) := fun j hj => by
    have := entV_real V (Fin.ofNat 128 (4 * g + j))
    rwa [show ((Fin.ofNat 128 (4 * g + j) : Fin 128) : ℕ) = 4 * g + j from Nat.mod_eq_of_lt (by omega)] at this
  funext i
  obtain ⟨a, l, rfl⟩ : ∃ (a : Fin 1) (l : Fin 256), i = ix2 a l := ⟨i 0, i 1, eq_ix2 i⟩
  obtain rfl : a = 0 := Subsingleton.elim _ _
  unfold spreadR
  simp only [e 3 (by omega), e 2 (by omega), e 1 (by omega), e 0 (by omega)]
  pointwise
  rw [headR_real 3 (by omega), headR_real 2 (by omega), headR_real 1 (by omega), headR_real 0 (by omega)]
  simp only [select_bit]
  refine (pick (fun j => ((V 0 (Fin.ofNat 128 (4 * g + j)) : ℝ) : EReal)) _ l).trans ?_
  refine congrArg (fun k => ((V 0 k : ℝ) : EReal)) (Fin.ext ?_)
  exact Nat.mod_eq_of_lt (by omega)

theorem decayV_real (cs : Fin 128 → Fin 128 → ℝ) (row : Fin 1 → Fin 128 → ℝ) (h : Fin 128) : decayV (F := Ideal) ⊥ (M2 cs) (M2 row) h
    = M2 fun i k => if k ≤ i then Real.exp (cs i h - row 0 k) else 0 := by
  unfold decayV
  rw [colV_real]
  funext j
  obtain ⟨a, b, rfl⟩ : ∃ (a : Fin 128) (b : Fin 128), j = ix2 a b := ⟨j 0, j 1, eq_ix2 j⟩
  pointwise
  rw [causalV_real, select_bit]
  by_cases hb : b ≤ a
  · simp only [if_pos hb, M2_ix2, sub_coe, Ideal.exp_coe]
  · simp only [if_neg hb, M2_ix2, Ideal.exp_bot, zero_coe]

theorem scoreV_real (B C : Fin 128 → Fin 128 → ℝ) : scoreV (F := Ideal) (M2 B) (M2 C) = M2 fun i k => ∑ n, C i n * B k n := by
  funext j
  obtain ⟨a, b, rfl⟩ : ∃ (a : Fin 128) (b : Fin 128), j = ix2 a b := ⟨j 0, j 1, eq_ix2 j⟩
  unfold scoreV
  pointwise
  simp only [mul_coe, sum_coe]
  rfl

theorem mixV_real (U : Fin 128 → Fin 128 → ℝ) (V : Fin 128 → Fin 256 → ℝ) : mixV (F := Ideal) (M2 U) (M2 V) = M2 fun i j => ∑ k, U i k * V k j := by
  funext j
  obtain ⟨a, b, rfl⟩ : ∃ (a : Fin 128) (b : Fin 256), j = ix2 a b := ⟨j 0, j 1, eq_ix2 j⟩
  unfold mixV
  pointwise
  simp only [mul_coe, sum_coe]
  rfl

theorem mixTV_real (U : Fin 128 → Fin 128 → ℝ) (V : Fin 128 → Fin 256 → ℝ) : mixTV (F := Ideal) (M2 U) (M2 V) = M2 fun i j => ∑ k, U k i * V k j := by
  funext j
  obtain ⟨a, b, rfl⟩ : ∃ (a : Fin 128) (b : Fin 256), j = ix2 a b := ⟨j 0, j 1, eq_ix2 j⟩
  unfold mixTV
  pointwise
  simp only [mul_coe, sum_coe]
  rfl

/-! Elementwise operations on real matrices. -/

section
variable {n m : ℕ} (U V : Fin n → Fin m → ℝ)

theorem mulf_real : mulf (F := Ideal) (s := ⟨2, ![n, m]⟩) (φ := .f32) (M2 U) (M2 V) = M2 fun i j => U i j * V i j := funext fun _ => mul_coe _ _
theorem addf_real : addf (F := Ideal) (s := ⟨2, ![n, m]⟩) (φ := .f32) (M2 U) (M2 V) = M2 fun i j => U i j + V i j := funext fun _ => add_coe _ _
theorem subf_real : subf (F := Ideal) (s := ⟨2, ![n, m]⟩) (φ := .f32) (M2 U) (M2 V) = M2 fun i j => U i j - V i j := funext fun _ => sub_coe _ _
theorem exp_real : exp (F := Ideal) (s := ⟨2, ![n, m]⟩) (φ := .f32) (M2 U) = M2 fun i j => Real.exp (U i j) := funext fun _ => Ideal.exp_coe _
theorem logistic_real : logistic (F := Ideal) (s := ⟨2, ![n, m]⟩) (φ := .f32) (M2 U) = M2 fun i j => (1 + Real.exp (-U i j))⁻¹ := funext fun _ => Ideal.logistic_coe _
end

theorem rowV_real (V : Fin 1 → Fin 256 → ℝ) : rowV (F := Ideal) (M2 V) = M2 fun _ j => V 0 j := by
  funext j
  obtain ⟨a, b, rfl⟩ : ∃ (a : Fin 128) (b : Fin 256), j = ix2 a b := ⟨j 0, j 1, eq_ix2 j⟩
  unfold rowV
  pointwise
  rfl

/-- The mean square of 256 numbers plus the norm's constant. -/
def meanSq (f : Fin 256 → ℝ) : ℝ := (∑ i, f i * f i) / 256 + eps

theorem meanSq_pos (f : Fin 256 → ℝ) : 0 < meanSq f :=
  add_pos_of_nonneg_of_pos (div_nonneg (Finset.sum_nonneg fun i _ => mul_self_nonneg _) (by norm_num)) eps_pos

theorem word_256 : Ideal.ofBits .f32 0x43800000#32 = ((256 : ℝ) : EReal) := by
  simp [Ideal.ofBits, Ideal.ieee, -EReal.coe_mul]; norm_num

theorem rmsV_real (V : Fin 128 → Fin 256 → ℝ) : rmsV (F := Ideal) (M2 V) = M2 fun i _ => (Real.sqrt (meanSq (V i)))⁻¹ := by
  funext j
  obtain ⟨a, b, rfl⟩ : ∃ (a : Fin 128) (b : Fin 1), j = ix2 a b := ⟨j 0, j 1, eq_ix2 j⟩
  unfold rmsV
  pointwise
  simp only [mul_coe, sum_coe]
  rw [word_256, word_eps, div_coe _ _ (by norm_num), add_coe]
  exact rsqrt_pos _ (meanSq_pos (V a))

/-- `z` times its sigmoid. -/
def silu (z : ℝ) : ℝ := z * (1 + Real.exp (-z))⁻¹

theorem normedV_real (Y Z : Fin 128 → Fin 256 → ℝ) : normedV (F := Ideal) (M2 Y) (M2 Z)
    = M2 fun i l => Y i l * silu (Z i l) * (Real.sqrt (meanSq fun k => Y i k * silu (Z i k)))⁻¹ := by
  unfold normedV siluV
  rw [logistic_real, mulf_real, mulf_real, rmsV_real]
  funext j
  obtain ⟨a, b, rfl⟩ : ∃ (a : Fin 128) (b : Fin 256), j = ix2 a b := ⟨j 0, j 1, eq_ix2 j⟩
  pointwise
  exact mul_coe _ _

/-- A group's part of a chunk, as real data. -/
structure RPart where
  dt : Fin 128 → Fin 128 → ℝ
  cs : Fin 128 → Fin 128 → ℝ
  tot : Fin 128 → ℝ
  x : Fin 128 → Fin 256 → ℝ
  b : Fin 128 → Fin 128 → ℝ
  c : Fin 128 → Fin 128 → ℝ
  h : Fin 128 → Fin 256 → ℝ
  d : Fin 256 → ℝ

/-- The vectors of a real part. -/
structure Part.Of (p : Part Ideal) (r : RPart) : Prop where
  neg : p.neg = ⊥
  dt : p.dt = M2 r.dt
  cs : p.cs = M2 r.cs
  tot : p.tot = M2 fun _ => r.tot
  row : ∀ h : Fin 128, p.row h = M2 fun _ k => r.cs k h
  x : p.x = M2 r.x
  b : p.b = M2 r.b
  c : p.c = M2 r.c
  h : p.h = M2 r.h
  d : p.d = M2 fun _ => r.d

namespace RPart
variable (r : RPart) (g : Fin 4)

def xdt (i : Fin 128) (l : Fin 256) : ℝ := r.x i l * r.dt i (hd g l)
def off (i : Fin 128) (l : Fin 256) : ℝ := (∑ n, r.c i n * r.h n l) * Real.exp (r.cs i (hd g l))
def decay (h : Fin 128) (i k : Fin 128) : ℝ := if k ≤ i then Real.exp (r.cs i h - r.cs k h) else 0
def score (i k : Fin 128) : ℝ := ∑ n, r.c i n * r.b k n
def diag (i : Fin 128) (l : Fin 256) : ℝ := ∑ k, r.score i k * r.decay (hd g l) i k * r.xdt g k l
def y (i : Fin 128) (l : Fin 256) : ℝ := r.diag g i l + r.off g i l + r.x i l * r.d l
def toEnd (i : Fin 128) (l : Fin 256) : ℝ := Real.exp (r.tot (hd g l) - r.cs i (hd g l))
def next (n : Fin 128) (l : Fin 256) : ℝ := Real.exp (r.tot (hd g l)) * r.h n l + ∑ i, r.b i n * (r.xdt g i l * r.toEnd g i l)
end RPart

section
variable {p : Part Ideal} {r : RPart} (E : p.Of r) (g : Fin 4)
include E

theorem xdt_real : p.xdt g = M2 (r.xdt g) := by
  unfold Part.xdt; rw [E.x, E.dt, spreadV_real, mulf_real]; rfl

theorem off_real : p.off g = M2 (r.off g) := by
  unfold Part.off; rw [E.c, E.h, E.cs, spreadV_real, exp_real, mixV_real, mulf_real]; rfl

theorem decay_real (j : ℕ) (hj : j < 4) : p.decay g j = M2 (r.decay (Fin.ofNat 128 (4 * g + j))) := by
  have e : ((Fin.ofNat 128 (4 * g + j) : Fin 128) : ℕ) = 4 * g + j := Nat.mod_eq_of_lt (by omega)
  unfold Part.decay
  have h := E.row (Fin.ofNat 128 (4 * g + j))
  have h' := decayV_real r.cs (fun _ k => r.cs k (Fin.ofNat 128 (4 * g + j))) (Fin.ofNat 128 (4 * g + j))
  rw [e] at h h'
  rw [h, E.neg, E.cs, h']
  rfl

theorem score_real : scoreV p.b p.c = M2 r.score := by
  rw [E.b, E.c, scoreV_real]; rfl

theorem y_real : p.y g = M2 (r.y g) := by
  unfold Part.y
  rw [headsV_eq _ (fun j i l => ∑ k, r.score i k * r.decay (Fin.ofNat 128 (4 * g + j)) i k * r.xdt g k l) fun j hj => by
    rw [score_real E, decay_real E g j hj, xdt_real E, mulf_real, mixV_real]]
  rw [off_real E, E.x, E.d, show shapeCast S1x256 (M2 fun _ : Fin 1 => r.d) shapeCasts_S1x256_S1x256 = M2 fun _ : Fin 1 => r.d from by
    funext j
    obtain ⟨a, b, rfl⟩ : ∃ (a : Fin 1) (b : Fin 256), j = ix2 a b := ⟨j 0, j 1, eq_ix2 j⟩
    pointwise, rowV_real, mulf_real, addf_real, addf_real]
  funext i
  obtain ⟨a, l, rfl⟩ : ∃ (a : Fin 128) (l : Fin 256), i = ix2 a l := ⟨i 0, i 1, eq_ix2 i⟩
  refine congrArg (fun x : ℝ => (x : EReal)) ?_
  show (∑ k, r.score a k * r.decay (Fin.ofNat 128 (4 * g + l / 64)) a k * r.xdt g k l) + _ + _ = _
  rw [show (Fin.ofNat 128 (4 * g + l / 64) : Fin 128) = hd g l from Fin.ext (Nat.mod_eq_of_lt (by omega))]
  rfl

theorem toEnd_real : p.toEnd g = M2 (r.toEnd g) := by
  unfold Part.toEnd; rw [E.tot, E.cs, spreadR_real, spreadV_real, rowV_real, subf_real, exp_real]; rfl

theorem next_real : p.next g = M2 (r.next g) := by
  unfold Part.next
  rw [xdt_real E, toEnd_real E, E.tot, E.h, E.b, spreadR_real, exp_real, rowV_real, mulf_real, mulf_real, mixTV_real, addf_real]; rfl

end

/-! ## The layer over the whole sequence -/

/-- Row `i` of chunk `c`. -/
def rowAt (c : Fin 16) (i : Fin 128) : Fin 2048 := ⟨c * 128 + i, by omega⟩

/-- Lane `l` of group `g`. -/
def lane (g : Fin 4) (l : Fin 256) : Fin 1024 := ⟨g * 256 + l, by omega⟩

/-- The group a lane is in. -/
def groupOf (l : Fin 1024) : Fin 4 := ⟨l / 256, by omega⟩

/-- A lane's place in its group. -/
def placeOf (l : Fin 1024) : Fin 256 := ⟨l % 256, by omega⟩

theorem lane_group (l : Fin 1024) : lane (groupOf l) (placeOf l) = l := Fin.ext (by show l.1 / 256 * 256 + l.1 % 256 = l.1; omega)

theorem group_lane (g : Fin 4) (l : Fin 256) : groupOf (lane g l) = g := Fin.ext (by show (g.1 * 256 + l.1) / 256 = g.1; omega)

theorem place_lane (g : Fin 4) (l : Fin 256) : placeOf (lane g l) = l := Fin.ext (by show (g.1 * 256 + l.1) % 256 = l.1; omega)

/-- One number per head, zero on the lanes past the heads. -/
def pad (v : Fin 16 → ℝ) (h : Fin 128) : ℝ := if hh : h.1 < 16 then v ⟨h, hh⟩ else 0

/-- The layer's real data: the joined columns, the projection, the step-size bias, the log rates, the skip weights and
    the norm's weights. -/
structure Seq where
  X : Fin 2048 → Fin 2048 → ℝ
  P : Fin 2048 → Fin 5632 → ℝ
  bias : Fin 16 → ℝ
  al : Fin 16 → ℝ
  d : Fin 16 → ℝ
  w : Fin 1024 → ℝ

namespace Seq
variable (q : Seq)

/-- The raw step size plus its bias. -/
def raw (c : Fin 16) (i h : Fin 128) : ℝ := q.P (rowAt c i) ⟨5120 + h, by omega⟩ + pad q.bias h

/-- The step sizes. -/
def dt (c : Fin 16) (i h : Fin 128) : ℝ := softplus (q.raw c i h)

/-- The decay rates. -/
def rate (h : Fin 128) : ℝ := if h.1 < 16 then -Real.exp (pad q.al h) else 0

/-- The log decays' running sum within a chunk. -/
def cs (c : Fin 16) (i h : Fin 128) : ℝ := ∑ k, if k ≤ i then q.dt c k h * q.rate h else 0

/-- The log decays' sum over a chunk. -/
def tot (c : Fin 16) (h : Fin 128) : ℝ := ∑ i, q.dt c i h * q.rate h

/-- Group `g`'s part of chunk `c`, the state carried in being `H`. -/
def part (c : Fin 16) (H : Fin 128 → Fin 1024 → ℝ) (g : Fin 4) : RPart where
  dt := q.dt c
  cs := q.cs c
  tot := q.tot c
  x i l := q.X (rowAt c i) ⟨g * 256 + l, by omega⟩
  b i n := q.X (rowAt c i) ⟨1024 + (g * 128 + n), by omega⟩
  c i n := q.X (rowAt c i) ⟨1536 + (g * 128 + n), by omega⟩
  h n l := H n (lane g l)
  d l := q.d ⟨g * 4 + l / 64, by omega⟩

/-- The state after `n` chunks. -/
def state : ℕ → Fin 128 → Fin 1024 → ℝ
  | 0 => fun _ _ => 0
  | c + 1 => fun n l => (q.part (Fin.ofNat 16 c) (state c) (groupOf l)).next (groupOf l) n (placeOf l)

/-- Group `g`'s part of chunk `c`. -/
def chunk (c : Fin 16) (g : Fin 4) : RPart := q.part c (q.state c) g

/-- The gate's columns. -/
def z (c : Fin 16) (i : Fin 128) (g : Fin 4) (l : Fin 256) : ℝ := q.P (rowAt c i) ⟨2048 + (g * 256 + l), by omega⟩

/-- The gated output before its norm. -/
def gated (c : Fin 16) (g : Fin 4) (i : Fin 128) (l : Fin 256) : ℝ := (q.chunk c g).y g i l * silu (q.z c i g l)

/-- The layer's output. -/
def out (c : Fin 16) (g : Fin 4) (i : Fin 128) (l : Fin 256) : ℝ :=
  q.gated c g i l * (Real.sqrt (meanSq (q.gated c g i)))⁻¹ * q.w (lane g l)

theorem cs_last (c : Fin 16) (h : Fin 128) : q.cs c 127 h = q.tot c h := by
  unfold cs tot
  refine Finset.sum_congr rfl fun k _ => if_pos ?_
  exact Fin.le_def.mpr (by have := k.isLt; show k.1 ≤ 127; omega)

end Seq

end Cert.Ssd

end
-- ==== Proof.SsdFwd.lean ====
module

public import proofs.«01_k».proof.Proof.Ssd
public import proofs.«01_k».proof.Proof.Gen.Kernel5Ideal.Value
public import proofs.«01_k».proof.Proof.Gen.Reference5Ideal.Run
public import proofs.«01_k».proof.Proof.Gen.Pre_finite5
public import proofs.«01_k».proof.Defs
public import Idealize.ShloMosaic.Lib.Pipeline.ValueKit
public import Idealize.ShloMosaic.Lib.Claim

@[expose] public section

set_option maxRecDepth 16384

noncomputable section

namespace Cert.SsdFwd

open Cert.Kernel5Ideal Cert.Kernel5Ideal.Gen Cert.Ssd Idealize.ShloMosaic Idealize.ShloMosaic.TcCoe Idealize.SL.Sem

variable {F : FTy → Type} [FloatOps F] [Named F]

section
variable (c : Dev nD) (i : grid0.Coords) (arg1 : Memref sig .tc .vmem S128x2048 .f32) (harg1 : arg1.IsWhole)
  (arg2 : Memref sig .tc .vmem S128x128 .f32) (harg2 : arg2.IsWhole) (arg3 : Memref sig .tc .vmem S128x1024 .f32) (harg3 : arg3.IsWhole)
  (arg5 : Memref sig .tc .vmem S1x128 .f32) (harg5 : arg5.IsWhole) (arg6 : Memref sig .tc .vmem S1x128 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S128x1024 .bf16) (harg9 : arg9.IsWhole) (arg10 : Memref sig .tc .vmem S1x128x1024 .f32) (harg10 : arg10.IsWhole)
  (arg11 : Memref sig .tc .vmem S128x1024 .f32) (harg11 : arg11.IsWhole) (arg12 : Memref sig .tc .vmem S128x128 .f32) (harg12 : arg12.IsWhole)
  (x0 : Vec F S128x2048 .f32) (x1 : Vec F S128x128 .f32) (x2 : Vec F S128x1024 .f32) (x3 : Vec F S1x128 .f32) (x4 : Vec F S1x128 .f32)
  (x5 : Vec F S1x1024 .f32) (x6 : Vec F S1x1024 .f32) (xs0 : Vec F S128x1024 .f32)

theorem inbX (g : Fin 4) : ∀ a, (![0, 256 * g] : Fin 2 → Nat) a + S128x256.size a ≤ S128x2048.size a := by revert g; decide
theorem inbB (g : Fin 4) : ∀ a, (![0, 1024 + 128 * g] : Fin 2 → Nat) a + S128x128.size a ≤ S128x2048.size a := by revert g; decide
theorem inbC (g : Fin 4) : ∀ a, (![0, 1536 + 128 * g] : Fin 2 → Nat) a + S128x128.size a ≤ S128x2048.size a := by revert g; decide
theorem inbW (g : Fin 4) : ∀ a, (![0, 256 * g] : Fin 2 → Nat) a + S128x256.size a ≤ S128x1024.size a := by revert g; decide
theorem inbR (g : Fin 4) : ∀ a, (![0, 256 * g] : Fin 2 → Nat) a + S1x256.size a ≤ S1x1024.size a := by revert g; decide
theorem inbH (h : Fin 128) : ∀ a, (![h, 0] : Fin 2 → Nat) a + S1x128.size a ≤ S128x128.size a := by revert h; decide

/-- Lane block `g` of the chunk's rows. -/
abbrev rW (g : Fin 4) : Rect S128x1024 := Rect.unit ![0, 256 * g] S128x256.size (inbW g)

/-- Lane block `g` of the joined columns. -/
abbrev rX (g : Fin 4) : Rect S128x2048 := Rect.unit (s := S128x2048) ![0, 256 * g] S128x256.size (inbX g)

/-- The first projection of group `g`. -/
abbrev rB (g : Fin 4) : Rect S128x2048 := Rect.unit (s := S128x2048) ![0, 1024 + 128 * g] S128x128.size (inbB g)

/-- The second projection of group `g`. -/
abbrev rC (g : Fin 4) : Rect S128x2048 := Rect.unit (s := S128x2048) ![0, 1536 + 128 * g] S128x128.size (inbC g)

/-- Lane block `g` of a row. -/
abbrev rR (g : Fin 4) : Rect S1x1024 := Rect.unit (s := S1x1024) ![0, 256 * g] S1x256.size (inbR g)

/-- Row `h` of a square block. -/
abbrev rH (h : Fin 128) : Rect S128x128 := Rect.unit (s := S128x128) ![h, 0] S1x128.size (inbH h)

/-- The log decays at a grid point. -/
def logs : FVec F S128x128 .f32 :=
  logV (View.readAt (Elt F) arg2.view (Rect.unit ![0, 0] S128x128.size inb_S128x128_S128x128_0_0).toLoadRect (harg2.unread x1))
    (View.readAt (Elt F) arg5.view (Rect.unit ![0, 0] S1x128.size inb_S1x128_S1x128_0_0).toLoadRect (harg5.unread x3))
    (View.readAt (Elt F) arg6.view (Rect.unit ![0, 0] S1x128.size inb_S1x128_S1x128_0_0).toLoadRect (harg6.unread x4))

/-- Group `g`'s part at a grid point, as loads from the point's blocks; `h` are the lane blocks of the state carried in. -/
def part (h : Fin 4 → FVec F S128x256 .f32) (g : Fin 4) : Part F where
  neg := Named.named κ "mask" 0xF149F2CA#32
  dt := dtV (View.readAt (Elt F) arg2.view (Rect.unit ![0, 0] S128x128.size inb_S128x128_S128x128_0_0).toLoadRect (harg2.unread x1))
    (View.readAt (Elt F) arg5.view (Rect.unit ![0, 0] S1x128.size inb_S1x128_S1x128_0_0).toLoadRect (harg5.unread x3))
  cs := cumV (logs arg2 harg2 arg5 harg5 arg6 harg6 x1 x3 x4)
  tot := totV (logs arg2 harg2 arg5 harg5 arg6 harg6 x1 x3 x4)
  row h := if hh : h < 128 then View.readCov (Val := Elt F) arg12.view [⟨Rect.unit ![0, 0] S128x128.size inb_S128x128_S128x128_0_0,
      shapeCast S128x128 (transpose S128x128 [1, 0] (cumV (logs arg2 harg2 arg5 harg5 arg6 harg6 x1 x3 x4))
        transposes_S128x128_p1_0_S128x128) shapeCasts_S128x128_S128x128⟩]
      (rH ⟨h, hh⟩).toLoadRect else zeroV _
  x := View.readAt (Elt F) arg1.view (rX g).toLoadRect (harg1.unread x0)
  b := View.readAt (Elt F) arg1.view (rB g).toLoadRect (harg1.unread x0)
  c := View.readAt (Elt F) arg1.view (rC g).toLoadRect (harg1.unread x0)
  h := h g
  d := View.readAt (Elt F) arg7.view (rR g).toLoadRect (harg7.unread x5)

/-- What group `g`'s lanes of the output are at a grid point. -/
def outV (h : Fin 4 → FVec F S128x256 .f32) (g : Fin 4) : FVec F S128x256 .bf16 :=
  truncf .bf16 (mulf (normedV ((part arg1 harg1 arg2 harg2 arg5 harg5 arg6 harg6 arg7 harg7 arg12 x0 x1 x3 x4 x5 h g).y g)
    (View.readAt (Elt F) arg3.view (rW g).toLoadRect (harg3.unread x2)))
    (rowV (View.readAt (Elt F) arg8.view (rR g).toLoadRect (harg8.unread x6)))) bitsLt_bf16_f32

/-- The lane blocks of the state as the point before left it. -/
def held (g : Fin 4) : FVec F S128x256 .f32 := View.readAt (Elt F) arg11.view (rW g).toLoadRect (harg11.unread xs0)

/-- The zero state. -/
def zeroH : FVec F S128x1024 .f32 := shapeCast S128x1024 (zeroV _) shapeCasts_S128x1024_S128x1024

/-- The stores into the state at the first point, up to lane block `n`: the fill by zero, then each block's new state. -/
def stores : (n : ℕ) → n ≤ 4 → List (View.Piece (Elt F) S128x1024 .f32)
  | 0, _ => [⟨Rect.unit ![0, 0] S128x1024.size inb_S128x1024_S128x1024_0_0, zeroH⟩]
  | k + 1, hk => ⟨rW ⟨k, hk⟩, shapeCast S128x256 ((part arg1 harg1 arg2 harg2 arg5 harg5 arg6 harg6 arg7 harg7 arg12 x0 x1 x3 x4 x5
      (fun g => View.readCov (Val := Elt F) arg11.view (stores k (Nat.le_of_succ_le hk)) (rW g).toLoadRect) ⟨k, hk⟩).next k) shapeCasts_S128x256_S128x256⟩
      :: stores k (Nat.le_of_succ_le hk)

/-- The lane blocks of the state at the first point. -/
def fresh (g : Fin 4) : FVec F S128x256 .f32 :=
  View.readCov (Val := Elt F) arg11.view (stores arg1 harg1 arg2 harg2 arg5 harg5 arg6 harg6 arg7 harg7 arg11 arg12 x0 x1 x3 x4 x5 g.1 g.2.le) (rW g).toLoadRect

theorem pieces_B (hc0 : ¬cond0_0 i) :
    (kernelRun0_B c i arg1 harg1 arg2 harg2 arg3 harg3 arg5 harg5 arg6 harg6 arg7 harg7 arg8 harg8 arg9 harg9 arg10 harg10 arg11 harg11 arg12 harg12 hc0 x0 x1 x2 x3 x4 x5 x6 xs0).1
      = [3, 2, 1, 0].map fun g : Fin 4 => ⟨rW g, outV arg1 harg1 arg2 harg2 arg3 harg3 arg5 harg5 arg6 harg6 arg7 harg7 arg8 harg8 arg12 x0 x1 x2 x3 x4 x5 x6 (held arg11 harg11 xs0) g⟩ := by
  rfl

theorem state_B (hc0 : ¬cond0_0 i) :
    (kernelRun0_B c i arg1 harg1 arg2 harg2 arg3 harg3 arg5 harg5 arg6 harg6 arg7 harg7 arg8 harg8 arg9 harg9 arg10 harg10 arg11 harg11 arg12 harg12 hc0 x0 x1 x2 x3 x4 x5 x6 xs0).2.2.1
      = [3, 2, 1, 0].map fun g : Fin 4 => ⟨rW g, shapeCast S128x256 ((part arg1 harg1 arg2 harg2 arg5 harg5 arg6 harg6 arg7 harg7 arg12 x0 x1 x3 x4 x5 (held arg11 harg11 xs0) g).next g) shapeCasts_S128x256_S128x256⟩ := by
  rfl

theorem prev_B (hc0 : ¬cond0_0 i) :
    (kernelRun0_B c i arg1 harg1 arg2 harg2 arg3 harg3 arg5 harg5 arg6 harg6 arg7 harg7 arg8 harg8 arg9 harg9 arg10 harg10 arg11 harg11 arg12 harg12 hc0 x0 x1 x2 x3 x4 x5 x6 xs0).2.1
      = [⟨Rect.unit ![0, 0, 0] S1x128x1024.size inb_S1x128x1024_S1x128x1024_0_0_0, k0_pay3 (View.readAt (Elt F) arg11.view (Rect.unit ![0, 0] S128x1024.size inb_S128x1024_S128x1024_0_0).toLoadRect (harg11.unread xs0))⟩] := by
  rfl

theorem prev_A (hc0 : cond0_0 i) :
    (kernelRun0_A c i arg1 harg1 arg2 harg2 arg3 harg3 arg5 harg5 arg6 harg6 arg7 harg7 arg8 harg8 arg9 harg9 arg10 harg10 arg11 harg11 arg12 harg12 hc0 x0 x1 x2 x3 x4 x5 x6).2.1
      = [⟨Rect.unit ![0, 0, 0] S1x128x1024.size inb_S1x128x1024_S1x128x1024_0_0_0, k0_pay3 (View.readCov (Val := Elt F) arg11.view [⟨Rect.unit ![0, 0] S128x1024.size inb_S128x1024_S128x1024_0_0, zeroH⟩] (Rect.unit ![0, 0] S128x1024.size inb_S128x1024_S128x1024_0_0).toLoadRect)⟩] := by
  rfl

theorem pieces_A (hc0 : cond0_0 i) :
    (kernelRun0_A c i arg1 harg1 arg2 harg2 arg3 harg3 arg5 harg5 arg6 harg6 arg7 harg7 arg8 harg8 arg9 harg9 arg10 harg10 arg11 harg11 arg12 harg12 hc0 x0 x1 x2 x3 x4 x5 x6).1
      = [3, 2, 1, 0].map fun g : Fin 4 => ⟨rW g, outV arg1 harg1 arg2 harg2 arg3 harg3 arg5 harg5 arg6 harg6 arg7 harg7 arg8 harg8 arg12 x0 x1 x2 x3 x4 x5 x6 (fresh arg1 harg1 arg2 harg2 arg5 harg5 arg6 harg6 arg7 harg7 arg11 arg12 x0 x1 x3 x4 x5) g⟩ := by
  rfl

theorem state_A (hc0 : cond0_0 i) :
    (kernelRun0_A c i arg1 harg1 arg2 harg2 arg3 harg3 arg5 harg5 arg6 harg6 arg7 harg7 arg8 harg8 arg9 harg9 arg10 harg10 arg11 harg11 arg12 harg12 hc0 x0 x1 x2 x3 x4 x5 x6).2.2.1
      = stores arg1 harg1 arg2 harg2 arg5 harg5 arg6 harg6 arg7 harg7 arg11 arg12 x0 x1 x3 x4 x5 4 le_rfl := by
  rfl
end

end Cert.SsdFwd

end
-- ==== Proof.SsdFwdVal.lean ====
/- What a grid point of the state space layer's forward kernel computes on real blocks. -/
module

public import proofs.«01_k».proof.Proof.SsdFwd
public import Idealize.ShloMosaic.Lib.Pipeline.ReadBack
public import Idealize.ShloMosaic.Lib.Pointwise

@[expose] public section

set_option maxRecDepth 16384

noncomputable section

namespace Cert.SsdFwd

open Cert.Kernel5Ideal Cert.Kernel5Ideal.Gen Cert.Ssd Cert.Reals Idealize.ShloMosaic Idealize.ShloMosaic.TcCoe Idealize.SL.Sem

/-- A load of a rectangle of a real block. -/
theorem load_M2 {sg : RefSig} {a b a' b' : ℕ} (M : Memref sg .tc .vmem ⟨2, ![a, b]⟩ .f32) (h : M.IsWhole) (V : Fin a → Fin b → ℝ) (o0 o1 : ℕ)
    (inb : ∀ x, (![o0, o1] : Fin 2 → ℕ) x + (![a', b'] : Fin 2 → ℕ) x ≤ (![a, b] : Fin 2 → ℕ) x) (f : Fin a' → Fin b' → ℝ)
    (hf : ∀ (i : Fin a') (j : Fin b') (hi : o0 + i.1 < a) (hj : o1 + j.1 < b), V ⟨o0 + i, hi⟩ ⟨o1 + j, hj⟩ = f i j) :
    View.readAt (Elt Ideal) M.view (Rect.unit (s := ⟨2, ![a, b]⟩) ![o0, o1] ![a', b'] inb).toLoadRect (h.unread (M2 V)) = M2 f := by
  rw [View.readAt_eq_ld, h.read_unread]
  funext j
  obtain ⟨x, y, rfl⟩ : ∃ (x : Fin a') (y : Fin b'), j = ix2 x y := ⟨j 0, j 1, eq_ix2 j⟩
  have h0 : o0 + x.1 < a := by have := inb 0; have := x.2; simp at *; omega
  have h1 : o1 + y.1 < b := by have := inb 1; have := y.2; simp at *; omega
  refine (View.ld_unit_apply_of _ _ _ inb (ix2 x y) (ix2 ⟨o0 + x, h0⟩ ⟨o1 + y, h1⟩) fun z => ?_).trans ?_
  · match z with
    | ⟨0, _⟩ => rfl
    | ⟨1, _⟩ => rfl
  · exact congrArg (fun r : ℝ => (r : EReal)) (hf x y h0 h1)

/-- The blocks of a chunk. -/
def bX (q : Seq) (k : Fin 16) (i : Fin 128) (l : Fin 2048) : ℝ := q.X (rowAt k i) l
def bR (q : Seq) (k : Fin 16) (i h : Fin 128) : ℝ := q.P (rowAt k i) ⟨5120 + h, by omega⟩
def bZ (q : Seq) (k : Fin 16) (i : Fin 128) (l : Fin 1024) : ℝ := q.P (rowAt k i) ⟨2048 + l, by omega⟩
def bD (q : Seq) (_ : Fin 1) (l : Fin 1024) : ℝ := q.d ⟨l / 64, by omega⟩

section
variable (arg1 : Memref sig .tc .vmem S128x2048 .f32) (harg1 : arg1.IsWhole)
  (arg2 : Memref sig .tc .vmem S128x128 .f32) (harg2 : arg2.IsWhole) (arg3 : Memref sig .tc .vmem S128x1024 .f32) (harg3 : arg3.IsWhole)
  (arg5 : Memref sig .tc .vmem S1x128 .f32) (harg5 : arg5.IsWhole) (arg6 : Memref sig .tc .vmem S1x128 .f32) (harg6 : arg6.IsWhole)
  (arg7 : Memref sig .tc .vmem S1x1024 .f32) (harg7 : arg7.IsWhole) (arg8 : Memref sig .tc .vmem S1x1024 .f32) (harg8 : arg8.IsWhole)
  (arg11 : Memref sig .tc .vmem S128x1024 .f32) (harg11 : arg11.IsWhole) (arg12 : Memref sig .tc .vmem S128x128 .f32)
  (q : Seq) (k : Fin 16)

theorem logs_real : logs (F := Ideal) arg2 harg2 arg5 harg5 arg6 harg6 (M2 (bR q k)) (M2 fun _ => pad q.bias) (M2 fun _ => pad q.al) = M2 fun i h => q.dt k i h * q.rate h := by
  unfold logs
  have e1 := load_M2 arg2 harg2 (bR q k) 0 0 inb_S128x128_S128x128_0_0 (bR q k) fun i j hi hj => by congr 1 <;> exact Fin.ext (Nat.zero_add _)
  have e2 := load_M2 arg5 harg5 (fun _ => pad q.bias) 0 0 inb_S1x128_S1x128_0_0 (fun _ => pad q.bias) fun i j hi hj => by congr 1; exact Fin.ext (Nat.zero_add _)
  have e3 := load_M2 arg6 harg6 (fun _ => pad q.al) 0 0 inb_S1x128_S1x128_0_0 (fun _ => pad q.al) fun i j hi hj => by congr 1; exact Fin.ext (Nat.zero_add _)
  refine (congr (congrArg₂ logV e1 e2) e3).trans ?_
  exact logV_real _ _ _

theorem part_of (h : Fin 4 → FVec Ideal S128x256 .f32) (H : Fin 128 → Fin 1024 → ℝ) (g : Fin 4) (hh : h g = M2 fun n l => H n (lane g l)) :
    (part (F := Ideal) arg1 harg1 arg2 harg2 arg5 harg5 arg6 harg6 arg7 harg7 arg12 (M2 (bX q k)) (M2 (bR q k)) (M2 fun _ => pad q.bias) (M2 fun _ => pad q.al) (M2 (bD q)) h g).Of
      (q.part k H g) := by
  have el := logs_real arg2 harg2 arg5 harg5 arg6 harg6 q k
  have ec : cumV (logs (F := Ideal) arg2 harg2 arg5 harg5 arg6 harg6 (M2 (bR q k)) (M2 fun _ => pad q.bias) (M2 fun _ => pad q.al)) = M2 (q.cs k) :=
    (congrArg cumV el).trans (cumV_real _)
  refine ⟨?_, ?_, ec, (congrArg totV el).trans (totV_real _), ?_, ?_, ?_, ?_, hh, ?_⟩
  · exact IdealRules.named_const.ideal_named_scalar _ _ _ _ rfl
  · have e1 := load_M2 arg2 harg2 (bR q k) 0 0 inb_S128x128_S128x128_0_0 (bR q k) fun i j hi hj => by congr 1 <;> exact Fin.ext (Nat.zero_add _)
    have e2 := load_M2 arg5 harg5 (fun _ => pad q.bias) 0 0 inb_S1x128_S1x128_0_0 (fun _ => pad q.bias) fun i j hi hj => by congr 1; exact Fin.ext (Nat.zero_add _)
    exact (congrArg₂ dtV e1 e2).trans (dtV_real _ _)
  · intro r
    refine (dif_pos r.2).trans ?_
    rw [View.readCov_fill _ _ _ _ _ (by decide)]
    funext j
    obtain ⟨x, y, rfl⟩ : ∃ (x : Fin 1) (y : Fin 128), j = ix2 x y := ⟨j 0, j 1, eq_ix2 j⟩
    refine (View.ld_unit_apply_of _ _ _ _ (ix2 x y) (ix2 r y) fun z => ?_).trans ?_
    · match z with
      | ⟨0, _⟩ => show r.1 = r.1 + x.1; omega
      | ⟨1, _⟩ => show y.1 = 0 + y.1; omega
    · rw [ec]
      pointwise
      rfl
  · exact load_M2 arg1 harg1 (bX q k) 0 (256 * g) (inbX g) (q.part k H g).x fun i j hi hj => by
      refine congrArg₂ q.X (congrArg (rowAt k) (Fin.ext (Nat.zero_add _))) (Fin.ext ?_)
      show 256 * g.1 + j.1 = g.1 * 256 + j.1; omega
  · exact load_M2 arg1 harg1 (bX q k) 0 (1024 + 128 * g) (inbB g) (q.part k H g).b fun i j hi hj => by
      refine congrArg₂ q.X (congrArg (rowAt k) (Fin.ext (Nat.zero_add _))) (Fin.ext ?_)
      show 1024 + 128 * g.1 + j.1 = 1024 + (g.1 * 128 + j.1); omega
  · exact load_M2 arg1 harg1 (bX q k) 0 (1536 + 128 * g) (inbC g) (q.part k H g).c fun i j hi hj => by
      refine congrArg₂ q.X (congrArg (rowAt k) (Fin.ext (Nat.zero_add _))) (Fin.ext ?_)
      show 1536 + 128 * g.1 + j.1 = 1536 + (g.1 * 128 + j.1); omega
  · exact load_M2 arg7 harg7 (bD q) 0 (256 * g) (inbR g) (fun _ => (q.part k H g).d) fun i j hi hj => by
      refine congrArg q.d (Fin.ext ?_)
      show (256 * g.1 + j.1) / 64 = g.1 * 4 + j.1 / 64; omega

theorem outV_real (h : Fin 4 → FVec Ideal S128x256 .f32) (g : Fin 4) (hh : h g = M2 fun n l => q.state k n (lane g l)) :
    outV (F := Ideal) arg1 harg1 arg2 harg2 arg3 harg3 arg5 harg5 arg6 harg6 arg7 harg7 arg8 harg8 arg12 (M2 (bX q k)) (M2 (bR q k)) (M2 (bZ q k)) (M2 fun _ => pad q.bias)
      (M2 fun _ => pad q.al) (M2 (bD q)) (M2 fun _ => q.w) h g = M2 (q.out k g) := by
  have ey := y_real (part_of arg1 harg1 arg2 harg2 arg5 harg5 arg6 harg6 arg7 harg7 arg12 q k h (q.state k) g hh) g
  have ez := load_M2 arg3 harg3 (bZ q k) 0 (256 * g) (inbW g) (fun i l => q.z k i g l) fun i j hi hj => by
      refine congrArg₂ q.P (congrArg (rowAt k) (Fin.ext (Nat.zero_add _))) (Fin.ext ?_)
      show 2048 + (256 * g.1 + j.1) = 2048 + (g.1 * 256 + j.1); omega
  have ew := load_M2 arg8 harg8 (fun _ => q.w) 0 (256 * g) (inbR g) (fun _ l => q.w (lane g l)) fun i j hi hj => by
      refine congrArg q.w (Fin.ext ?_)
      show 256 * g.1 + j.1 = g.1 * 256 + j.1; omega
  unfold outV
  refine (congrArg (fun v => truncf .bf16 v bitsLt_bf16_f32) (congrArg₂ mulf ((congrArg₂ normedV ey ez).trans (normedV_real _ _)) ((congrArg rowV ew).trans (rowV_real _)))).trans ?_
  rw [mulf_real]
  rfl

theorem held_real (H : Fin 128 → Fin 1024 → ℝ) (g : Fin 4) : held (F := Ideal) arg11 harg11 (M2 H) g = M2 fun n l => H n (lane g l) :=
  load_M2 arg11 harg11 H 0 (256 * g) (inbW g) _ fun i j hi hj => by
    refine congrArg₂ H (Fin.ext (Nat.zero_add _)) (Fin.ext ?_)
    show 256 * g.1 + j.1 = g.1 * 256 + j.1; omega

theorem zeroH_real : zeroH (F := Ideal) = M2 fun _ _ => 0 := by
  funext j
  obtain ⟨x, y, rfl⟩ : ∃ (x : Fin 128) (y : Fin 1024), j = ix2 x y := ⟨j 0, j 1, eq_ix2 j⟩
  unfold zeroH zeroV
  pointwise
  rfl

theorem lanes_disj : ∀ k g : Fin 4, k < g → LoadRect.disj (rW k) (rW g).toLoadRect = true := by decide +kernel

theorem fresh_real (x0 : Vec Ideal S128x2048 .f32) (x1 : Vec Ideal S128x128 .f32) (x3 x4 : Vec Ideal S1x128 .f32) (x5 : Vec Ideal S1x1024 .f32) (g : Fin 4) :
    fresh (F := Ideal) arg1 harg1 arg2 harg2 arg5 harg5 arg6 harg6 arg7 harg7 arg11 arg12 x0 x1 x3 x4 x5 g = M2 fun n l => q.state 0 n (lane g l) := by
  have key : ∀ (n : ℕ) (hn : n ≤ 4), n ≤ g.1 → View.readCov (Val := Elt Ideal) arg11.view
      (stores (F := Ideal) arg1 harg1 arg2 harg2 arg5 harg5 arg6 harg6 arg7 harg7 arg11 arg12 x0 x1 x3 x4 x5 n hn) (rW g).toLoadRect = M2 fun _ _ => 0 := by
    intro n
    induction n with
    | zero =>
      intro hn _
      unfold stores
      rw [View.readCov_fill _ _ _ _ _ (by decide), zeroH_real]
      rfl
    | succ n ih =>
      intro hn hg
      unfold stores
      rw [View.readCov_skip _ _ _ _ _ (lanes_disj ⟨n, hn⟩ g hg)]
      exact ih _ (Nat.le_of_succ_le hg)
  exact key g.1 g.2.le le_rfl

/-- Four lane blocks over any earlier stores leave the array they are the blocks of. -/
theorem canon_lanes {e : EltTy} (P : Fin 4 → S128x256.Idx → Elt Ideal e) (L : List (View.Piece (Elt Ideal) S128x1024 e)) (G : S128x1024.Idx → Elt Ideal e)
    (h : ∀ g (i : Fin 128) (l : Fin 256), P g (ix2 i l) = G (ix2 i (lane g l))) :
    View.canon (([3, 2, 1, 0].map fun g : Fin 4 => (⟨rW g, P g⟩ : View.Piece (Elt Ideal) S128x1024 e)) ++ L) = G := by
  funext y
  obtain ⟨i, l, rfl⟩ : ∃ (i : Fin 128) (l : Fin 1024), y = ix2 i l := ⟨y 0, y 1, eq_ix2 y⟩
  refine View.canon_append_of_pieces G L _ (fun p hp x => ?_) _ ?_
  · obtain ⟨g, _, rfl⟩ := List.mem_map.mp hp
    obtain ⟨a, b, rfl⟩ : ∃ (a : Fin 128) (b : Fin 256), x = ix2 a b := ⟨x 0, x 1, eq_ix2 x⟩
    refine (h g a b).trans (congrArg G (funext fun z => Fin.ext ?_))
    match z with
    | ⟨0, _⟩ => show a.1 = 0 + 1 * a.1; omega
    | ⟨1, _⟩ => show g.1 * 256 + b.1 = 256 * g.1 + 1 * b.1; omega
  · refine ⟨⟨rW (groupOf l), P (groupOf l)⟩, List.mem_map.mpr ⟨groupOf l, ?_, rfl⟩, ?_⟩
    · generalize groupOf l = g; revert g; decide
    · refine (Rect.mem_set_unit (inb := inbW (groupOf l))).mpr fun z => ?_
      match z with
      | ⟨0, _⟩ => exact ⟨Nat.zero_le _, by show i.1 < 0 + 128; omega⟩
      | ⟨1, _⟩ => exact ⟨by show 256 * (l.1 / 256) ≤ l.1; omega, by show l.1 < 256 * (l.1 / 256) + 256; omega⟩

end

end Cert.SsdFwd

end
-- ==== Proof.SsdHost.lean ====
/- The state space layer's forward lines as array operations over the whole sequence, and their values on real data. -/
module

public import proofs.«01_k».proof.Proof.Ssd
public import proofs.«01_k».proof.Proof.Gen.Reference5Ideal
public import Idealize.ShloMosaic.Lib.Pointwise

@[expose] public section

set_option maxRecDepth 16384

noncomputable section

namespace Cert.SsdHost

open Cert.Reference5Ideal Cert.Reference5Ideal.Gen Idealize.ShloMosaic Cert.Ssd Cert.Reals

variable {F : FTy → Type} [FloatOps F]

/-! ## The array operations -/

/-- The scalar zero. -/
abbrev zero0 : FVec F S_ .f32 := constant S_ .f32 0x00000000#32

/-- The raw step sizes plus their bias. -/
def rawA (P : FVec F S2048x5632 .f32) (b : FVec F S1x16 .f32) : FVec F S2048x16 .f32 :=
  addf (extractStridedSlice S2048x16 ![0, 5120] P slices_S2048x5632_S2048x16_0_5120) (broadcastInDim S2048x16 ![0, 1] bcast_S1x16_S2048x16_0_1 b)

/-- Softplus, as the log of a sum of exponentials. -/
def softplusA (v : FVec F S2048x16 .f32) : FVec F S2048x16 .f32 :=
  let z : FVec F S2048x16 .f32 := broadcastInDim S2048x16 ![] bcast_S_S2048x16 zero0
  select (cmpf .une (subf v z) (subf v z)) (addf v z) (addf (maximumf v z) (Host.log1p (Host.exp (Host.negf (Host.absf (subf v z))))))

/-- The lanes, by head. -/
def lanesA (X : FVec F S2048x2048 .f32) : FVec F S2048x16x64 .f32 :=
  shapeCast _ (extractStridedSlice S2048x1024 ![0, 0] X slices_S2048x2048_S2048x1024_0_0) shapeCasts_S2048x1024_S2048x16x64

/-- The lanes times their head's step size, by chunk. -/
def xdtA (x : FVec F S2048x16x64 .f32) (dt : FVec F S2048x16 .f32) : FVec F S16x128x4x4x64 .f32 :=
  shapeCast _ (mulf x (broadcastInDim S2048x16x64 ![0, 1, 2] bcast_S2048x16x1_S2048x16x64_0_1_2 (broadcastInDim S2048x16x1 ![0, 1] bcast_S2048x16_S2048x16x1_0_1 dt))) shapeCasts_S2048x16x64_S16x128x4x4x64

/-- The first projection, by chunk and group. -/
def inA (X : FVec F S2048x2048 .f32) : FVec F S16x128x4x128 .f32 :=
  shapeCast _ (shapeCast S2048x4x128 (extractStridedSlice S2048x512 ![0, 1024] X slices_S2048x2048_S2048x512_0_1024) shapeCasts_S2048x512_S2048x4x128) shapeCasts_S2048x4x128_S16x128x4x128

/-- The second projection, by chunk and group. -/
def outA (X : FVec F S2048x2048 .f32) : FVec F S16x128x4x128 .f32 :=
  shapeCast _ (shapeCast S2048x4x128 (extractStridedSlice S2048x512 ![0, 1536] X slices_S2048x2048_S2048x512_0_1536) shapeCasts_S2048x512_S2048x4x128) shapeCasts_S2048x4x128_S16x128x4x128

/-- The decay rates. -/
def rateA (al : FVec F S1x16 .f32) : FVec F S1x16 .f32 :=
  broadcastInDim S1x16 ![1] bcast_S16_S1x16_1 (Host.negf (Host.exp (shapeCast S16 al shapeCasts_S1x16_S16)))

/-- The log decays, by head and chunk. -/
def logA (dt : FVec F S2048x16 .f32) (rate : FVec F S1x16 .f32) : FVec F S4x4x16x128 .f32 :=
  transpose S4x4x16x128 [2, 3, 0, 1] (shapeCast S16x128x4x4 (mulf dt (broadcastInDim S2048x16 ![0, 1] bcast_S1x16_S2048x16_0_1 rate)) shapeCasts_S2048x16_S16x128x4x4) transposes_S16x128x4x4_S4x4x16x128_2_3_0_1

/-- The running sum along a chunk. -/
def cumA (a : FVec F S4x4x16x128 .f32) : FVec F S4x4x16x128 .f32 :=
  Host.reduceWindowAdd ![1, 1, 1, 128] ![1, 1, 1, 1] ![0, 0, 0, 127] ![0, 0, 0, 0] a (broadcastInDim S_ ![] bcast_S_S_ zero0) reduceWindows_S4x4x16x128_S4x4x16x128_w1s1p0_0_w1s1p0_0_w1s1p0_0_w128s1p127_0 h_S_

/-- The running sum's last entry. -/
def lastA (cs : FVec F S4x4x16x128 .f32) : FVec F S4x4x16x1 .f32 :=
  extractStridedSlice S4x4x16x1 ![0, 0, 0, 127] cs slices_S4x4x16x128_S4x4x16x1_0_0_0_127

/-- The decay from each position to its chunk's end. -/
def toEndA (cs : FVec F S4x4x16x128 .f32) : FVec F S4x4x16x128 .f32 :=
  Host.exp (subf (broadcastInDim S4x4x16x128 ![0, 1, 2, 3] bcast_S4x4x16x1_S4x4x16x128_0_1_2_3 (lastA cs)) cs)

/-- An array by head and chunk, spread over the head's lanes. -/
def spreadA (v : FVec F S4x4x16x128 .f32) : FVec F S16x128x4x4x64 .f32 :=
  broadcastInDim S16x128x4x4x64 ![0, 1, 2, 3, 4] bcast_S16x128x4x4x1_S16x128x4x4x64_0_1_2_3_4 (broadcastInDim S16x128x4x4x1 ![0, 1, 2, 3] bcast_S16x128x4x4_S16x128x4x4x1_0_1_2_3 (transpose S16x128x4x4 [2, 3, 0, 1] v transposes_S4x4x16x128_S16x128x4x4_2_3_0_1))

/-- What each chunk adds to the state. -/
def addedA (x : FVec F S16x128x4x4x64 .f32) (b : FVec F S16x128x4x128 .f32) : FVec F S16x4x4x64x128 .f32 :=
  Host.dotGeneral dot_S16x128x4x4x64_S16x128x4x128_S16x4x4x64x128_1_1_34_3_02_02 none x b

/-- Each chunk's decay of the state. -/
def chunkDecayA (cs : FVec F S4x4x16x128 .f32) : FVec F S16x4x4 .f32 :=
  transpose S16x4x4 [2, 0, 1] (Host.exp (shapeCast S4x4x16 (lastA cs) shapeCasts_S4x4x16x1_S4x4x16)) transposes_S4x4x16_S16x4x4_2_0_1

theorem slices_decay (k : Fin 16) : S16x4x4.Slices ![k, 0, 0] S1x4x4 := by revert k; decide
theorem slices_added (k : Fin 16) : S16x4x4x64x128.Slices ![k, 0, 0, 0, 0] S1x4x4x64x128 := by revert k; decide

/-- The state before chunk `k`. -/
def stateA (dec : FVec F S16x4x4 .f32) (add : FVec F S16x4x4x64x128 .f32) : (k : ℕ) → k < 16 → FVec F S4x4x64x128 .f32
  | 0, _ => broadcastInDim S4x4x64x128 ![] bcast_S_S4x4x64x128 zero0
  | k + 1, hk => addf (mulf (broadcastInDim S4x4x64x128 ![0, 1, 2, 3] bcast_S4x4x1x1_S4x4x64x128_0_1_2_3 (broadcastInDim S4x4x1x1 ![0, 1] bcast_S4x4_S4x4x1x1_0_1
      (shapeCast S4x4 (extractStridedSlice S1x4x4 ![k, 0, 0] dec (slices_decay ⟨k, Nat.lt_of_succ_lt hk⟩)) shapeCasts_S1x4x4_S4x4))) (stateA dec add k (Nat.lt_of_succ_lt hk)))
    (shapeCast S4x4x64x128 (extractStridedSlice S1x4x4x64x128 ![k, 0, 0, 0, 0] add (slices_added ⟨k, Nat.lt_of_succ_lt hk⟩)) shapeCasts_S1x4x4x64x128_S4x4x64x128)

/-- The state before chunk `k` as one slab. -/
def slabA (dec : FVec F S16x4x4 .f32) (add : FVec F S16x4x4x64x128 .f32) (k : Fin 16) : Σ s : Shape, (s.Idx → F .f32) :=
  ⟨S1x4x4x64x128, broadcastInDim S1x4x4x64x128 ![1, 2, 3, 4] bcast_S4x4x64x128_S1x4x4x64x128_1_2_3_4 (stateA dec add k.1 k.2)⟩

/-- The states before each chunk. -/
def statesA (dec : FVec F S16x4x4 .f32) (add : FVec F S16x4x4x64x128 .f32) : FVec F S16x4x4x64x128 .f32 :=
  concatenate S16x4x4x64x128 0 [slabA dec add 0, slabA dec add 1, slabA dec add 2, slabA dec add 3, slabA dec add 4, slabA dec add 5, slabA dec add 6, slabA dec add 7,
    slabA dec add 8, slabA dec add 9, slabA dec add 10, slabA dec add 11, slabA dec add 12, slabA dec add 13, slabA dec add 14, slabA dec add 15]
    concatenates_S1x4x4x64x128_S1x4x4x64x128_S1x4x4x64x128_S1x4x4x64x128_S1x4x4x64x128_S1x4x4x64x128_S1x4x4x64x128_S1x4x4x64x128_S1x4x4x64x128_S1x4x4x64x128_S1x4x4x64x128_S1x4x4x64x128_S1x4x4x64x128_S1x4x4x64x128_S1x4x4x64x128_S1x4x4x64x128_S16x4x4x64x128_d0

/-- The same after the scan's empty first part. -/
def scanA (v : FVec F S16x4x4x64x128 .f32) : FVec F S16x4x4x64x128 .f32 :=
  concatenate S16x4x4x64x128 0 [⟨S0x4x4x64x128, broadcastInDim S0x4x4x64x128 ![] bcast_S_S0x4x4x64x128 (zero0 (F := F))⟩, ⟨S16x4x4x64x128, v⟩] concatenates_S0x4x4x64x128_S16x4x4x64x128_S16x4x4x64x128_d0

/-- A slice of a whole array from its start. -/
def allAdded (v : FVec F S16x4x4x64x128 .f32) : FVec F S16x4x4x64x128 .f32 :=
  extractStridedSlice S16x4x4x64x128 ![0, 0, 0, 0, 0] v slices_S16x4x4x64x128_S16x4x4x64x128_0_0_0_0_0

/-- A slice of a whole array from its start. -/
def allDecay (v : FVec F S16x4x4 .f32) : FVec F S16x4x4 .f32 :=
  extractStridedSlice S16x4x4 ![0, 0, 0] v slices_S16x4x4_S16x4x4_0_0_0

/-- On and below the diagonal. -/
def causalA : IVec S4x4x16x128x128 1 :=
  broadcastInDim S4x4x16x128x128 ![3, 4] bcast_S128x128_S4x4x16x128x128_3_4 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))

/-- The decay between a chunk's positions. -/
def decayA (cs : FVec F S4x4x16x128 .f32) : FVec F S4x4x16x128x128 .f32 :=
  Host.exp (select causalA (subf (broadcastInDim S4x4x16x128x128 ![0, 1, 2, 3, 4] bcast_S4x4x16x128x1_S4x4x16x128x128_0_1_2_3_4 (broadcastInDim S4x4x16x128x1 ![0, 1, 2, 3] bcast_S4x4x16x128_S4x4x16x128x1_0_1_2_3 cs)) (broadcastInDim S4x4x16x128x128 ![0, 1, 2, 3, 4] bcast_S4x4x16x1x128_S4x4x16x128x128_0_1_2_3_4 (broadcastInDim S4x4x16x1x128 ![0, 1, 2, 4] bcast_S4x4x16x128_S4x4x16x1x128_0_1_2_4 cs))) (broadcastInDim S4x4x16x128x128 ![] bcast_S_S4x4x16x128x128 (id (constant S_ .f32 0xFF800000#32))))

/-- The scores of a chunk's positions, per group. -/
def scoreA (b c : FVec F S16x128x4x128 .f32) : FVec F S4x16x128x128 .f32 :=
  Host.dotGeneral dot_S16x128x4x128_S16x128x4x128_S4x16x128x128_3_3_1_1_20_20 none c b

/-- The scores times the decay, per head. -/
def mixA (sc : FVec F S4x16x128x128 .f32) (dec : FVec F S4x4x16x128x128 .f32) : FVec F S4x4x16x128x128 .f32 :=
  mulf (broadcastInDim S4x4x16x128x128 ![0, 1, 2, 3, 4] bcast_S4x1x16x128x128_S4x4x16x128x128_0_1_2_3_4 (broadcastInDim S4x1x16x128x128 ![0, 2, 3, 4] bcast_S4x16x128x128_S4x1x16x128x128_0_2_3_4 sc)) dec

/-- What a chunk's own positions add to its output. -/
def diagA (x : FVec F S16x128x4x4x64 .f32) (m : FVec F S4x4x16x128x128 .f32) : FVec F S16x128x4x4x64 .f32 :=
  transpose S16x128x4x4x64 [0, 4, 1, 2, 3] (Host.dotGeneral dot_S16x128x4x4x64_S4x4x16x128x128_S16x4x4x64x128_1_4_4_3_023_201 none x m) transposes_S16x4x4x64x128_S16x128x4x4x64_0_4_1_2_3

/-- The carried state read by the second projection. -/
def readA (h : FVec F S16x4x4x64x128 .f32) (c : FVec F S16x128x4x128 .f32) : FVec F S16x128x4x4x64 .f32 :=
  transpose S16x128x4x4x64 [0, 4, 1, 2, 3] (Host.dotGeneral dot_S16x4x4x64x128_S16x128x4x128_S16x4x4x64x128_4_3_23_1_01_02 none h c) transposes_S16x4x4x64x128_S16x128x4x4x64_0_4_1_2_3

/-- The skip term. -/
def skipA (x : FVec F S2048x16x64 .f32) (d : FVec F S1x16 .f32) : FVec F S2048x16x64 .f32 :=
  mulf x (broadcastInDim S2048x16x64 ![0, 1, 2] bcast_S1x16x1_S2048x16x64_0_1_2 (broadcastInDim S1x16x1 ![1, 2] bcast_S16x1_S1x16x1_1_2 (broadcastInDim S16x1 ![0] bcast_S16_S16x1_0 (shapeCast S16 d shapeCasts_S1x16_S16))))

/-- The layer's output before the norm. -/
def yA (diag off : FVec F S16x128x4x4x64 .f32) (skip : FVec F S2048x16x64 .f32) : FVec F S2048x1024 .f32 :=
  shapeCast S2048x1024 (addf (shapeCast S2048x16x64 (addf diag off) shapeCasts_S16x128x4x4x64_S2048x16x64) skip) shapeCasts_S2048x16x64_S2048x1024

/-- The gate's columns. -/
def zA (P : FVec F S2048x5632 .f32) : FVec F S2048x1024 .f32 :=
  extractStridedSlice S2048x1024 ![0, 2048] P slices_S2048x5632_S2048x1024_0_2048

/-- The sigmoid. -/
def sigA (z : FVec F S2048x1024 .f32) : FVec F S2048x1024 .f32 :=
  let one : FVec F S2048x1024 .f32 := broadcastInDim S2048x1024 ![] bcast_S_S2048x1024 (constant S_ .f32 0x3F800000#32)
  Host.divf one (addf one (Host.exp (Host.negf z)))

/-- The gated output, by group. -/
def gatedA (y z : FVec F S2048x1024 .f32) : FVec F S2048x4x256 .f32 :=
  shapeCast S2048x4x256 (mulf y (mulf z (sigA z))) shapeCasts_S2048x1024_S2048x4x256

/-! ## Their values on real data -/

/-- The array of a real function of three coordinates. -/
abbrev A3 {a b c : ℕ} (f : Fin a → Fin b → Fin c → ℝ) : (⟨3, ![a, b, c]⟩ : Shape).Idx → EReal := fun i => ((f (i 0) (i 1) (i 2) : ℝ) : EReal)

/-- The array of a real function of four coordinates. -/
abbrev A4 {a b c d : ℕ} (f : Fin a → Fin b → Fin c → Fin d → ℝ) : (⟨4, ![a, b, c, d]⟩ : Shape).Idx → EReal :=
  fun i => ((f (i 0) (i 1) (i 2) (i 3) : ℝ) : EReal)

/-- The array of a real function of five coordinates. -/
abbrev A5 {a b c d e : ℕ} (f : Fin a → Fin b → Fin c → Fin d → Fin e → ℝ) : (⟨5, ![a, b, c, d, e]⟩ : Shape).Idx → EReal :=
  fun i => ((f (i 0) (i 1) (i 2) (i 3) (i 4) : ℝ) : EReal)

section
variable {a b c d e : ℕ}
theorem A3_ix3 (f : Fin a → Fin b → Fin c → ℝ) (i : Fin a) (j : Fin b) (k : Fin c) : A3 f (ix3 i j k) = ((f i j k : ℝ) : EReal) := rfl
theorem A4_ix4 (f : Fin a → Fin b → Fin c → Fin d → ℝ) (i : Fin a) (j : Fin b) (k : Fin c) (l : Fin d) :
    A4 f (ix4 i j k l) = ((f i j k l : ℝ) : EReal) := rfl
theorem A5_ix5 (f : Fin a → Fin b → Fin c → Fin d → Fin e → ℝ) (i : Fin a) (j : Fin b) (k : Fin c) (l : Fin d) (m : Fin e) :
    A5 f (ix5 i j k l m) = ((f i j k l m : ℝ) : EReal) := rfl
theorem exp_A4 (f : Fin a → Fin b → Fin c → Fin d → ℝ) : Host.exp (F := Ideal) (s := ⟨4, ![a, b, c, d]⟩) (φ := .f32) (A4 f) = A4 fun i j k l => Real.exp (f i j k l) :=
  funext fun _ => Ideal.exp_coe _
theorem mul_A5 (f g : Fin a → Fin b → Fin c → Fin d → Fin e → ℝ) : mulf (F := Ideal) (s := ⟨5, ![a, b, c, d, e]⟩) (φ := .f32) (A5 f) (A5 g)
    = A5 fun i j k l m => f i j k l m * g i j k l m := funext fun _ => mul_coe _ _
end

theorem rawA_real (P : Fin 2048 → Fin 5632 → ℝ) (b : Fin 1 → Fin 16 → ℝ) :
    rawA (F := Ideal) (M2 P) (M2 b) = M2 fun s h => P s ⟨5120 + h, by omega⟩ + b 0 h := by
  funext i
  obtain ⟨s, h, rfl⟩ : ∃ (s : Fin 2048) (h : Fin 16), i = ix2 s h := ⟨i 0, i 1, eq_ix2 i⟩
  unfold rawA
  pointwise
  exact add_coe _ _

theorem softplusA_real (V : Fin 2048 → Fin 16 → ℝ) : softplusA (F := Ideal) (M2 V) = M2 fun s h => softplus (V s h) := by
  funext i
  obtain ⟨s, h, rfl⟩ : ∃ (s : Fin 2048) (h : Fin 16), i = ix2 s h := ⟨i 0, i 1, eq_ix2 i⟩
  unfold softplusA
  pointwise
  rw [if_neg (by simp)]
  simp only [M2_ix2, abs_coe, neg_coe, Ideal.exp_coe, log1p_exp, zero_coe, max_coe, add_coe]
  rfl

theorem lanesA_real (X : Fin 2048 → Fin 2048 → ℝ) : lanesA (F := Ideal) (M2 X) = A3 fun s h p => X s ⟨h * 64 + p, by omega⟩ := by
  funext i
  obtain ⟨s, h, p, rfl⟩ : ∃ (s : Fin 2048) (h : Fin 16) (p : Fin 64), i = ix3 s h p := ⟨i 0, i 1, i 2, eq_ix3 i⟩
  unfold lanesA
  pointwise
  rfl

theorem xdtA_real (x : Fin 2048 → Fin 16 → Fin 64 → ℝ) (D : Fin 2048 → Fin 16 → ℝ) : xdtA (F := Ideal) (A3 x) (M2 D)
    = A5 fun (c : Fin 16) (i : Fin 128) (g j : Fin 4) (p : Fin 64) => x (rowAt c i) ⟨g * 4 + j, by omega⟩ p * D (rowAt c i) ⟨g * 4 + j, by omega⟩ := by
  funext i
  obtain ⟨c, s, g, j, p, rfl⟩ : ∃ (c : Fin 16) (s : Fin 128) (g : Fin 4) (j : Fin 4) (p : Fin 64), i = ix5 c s g j p := ⟨i 0, i 1, i 2, i 3, i 4, eq_ix5 i⟩
  unfold xdtA
  pointwise
  exact mul_coe _ _

theorem inA_real (X : Fin 2048 → Fin 2048 → ℝ) : inA (F := Ideal) (M2 X)
    = A4 fun (c : Fin 16) (i : Fin 128) (g : Fin 4) (n : Fin 128) => X (rowAt c i) ⟨1024 + (g * 128 + n), by omega⟩ := by
  funext i
  obtain ⟨c, s, g, n, rfl⟩ : ∃ (c : Fin 16) (s : Fin 128) (g : Fin 4) (n : Fin 128), i = ix4 c s g n := ⟨i 0, i 1, i 2, i 3, eq_ix4 i⟩
  unfold inA
  pointwise
  rfl

theorem outA_real (X : Fin 2048 → Fin 2048 → ℝ) : outA (F := Ideal) (M2 X)
    = A4 fun (c : Fin 16) (i : Fin 128) (g : Fin 4) (n : Fin 128) => X (rowAt c i) ⟨1536 + (g * 128 + n), by omega⟩ := by
  funext i
  obtain ⟨c, s, g, n, rfl⟩ : ∃ (c : Fin 16) (s : Fin 128) (g : Fin 4) (n : Fin 128), i = ix4 c s g n := ⟨i 0, i 1, i 2, i 3, eq_ix4 i⟩
  unfold outA
  pointwise
  rfl

theorem rateA_real (al : Fin 1 → Fin 16 → ℝ) : rateA (F := Ideal) (M2 al) = M2 fun _ h => -Real.exp (al 0 h) := by
  funext i
  obtain ⟨s, h, rfl⟩ : ∃ (s : Fin 1) (h : Fin 16), i = ix2 s h := ⟨i 0, i 1, eq_ix2 i⟩
  unfold rateA
  pointwise
  simp only [M2_ix2, Ideal.exp_coe, neg_coe]

theorem logA_real (D : Fin 2048 → Fin 16 → ℝ) (r : Fin 1 → Fin 16 → ℝ) : logA (F := Ideal) (M2 D) (M2 r)
    = A4 fun (g j : Fin 4) (c : Fin 16) (i : Fin 128) => D (rowAt c i) ⟨g * 4 + j, by omega⟩ * r 0 ⟨g * 4 + j, by omega⟩ := by
  funext i
  obtain ⟨g, j, c, s, rfl⟩ : ∃ (g j : Fin 4) (c : Fin 16) (s : Fin 128), i = ix4 g j c s := ⟨i 0, i 1, i 2, i 3, eq_ix4 i⟩
  unfold logA
  pointwise
  exact mul_coe _ _

/-- Position `n` of a window one wide but for its last axis. -/
theorem window_last (n : Fin (⟨4, ![1, 1, 1, 128]⟩ : Shape).numel) :
    (⟨4, ![1, 1, 1, 128]⟩ : Shape).rowMajor.symm n = ix4 (0 : Fin 1) (0 : Fin 1) (0 : Fin 1) (n.cast (by decide) : Fin 128) := by
  refine (Equiv.symm_apply_eq _).mpr (Fin.ext ?_)
  revert n
  decide +kernel

theorem foldl_add {ι : Type} (l : List ι) (f : ι → EReal) (z : EReal) : l.foldl (fun r n => r + f n) z = z + (l.map f).sum := by
  induction l generalizing z with
  | nil => simp
  | cons a l ih => rw [List.foldl_cons, ih, List.map_cons, List.sum_cons, add_assoc]

/-- The sum over a window padded low: the entries up to and including the one it stands at. -/
theorem sum_window (f : Fin 128 → ℝ) (i : Fin 128) :
    (∑ n : Fin 128, if h : 127 ≤ i.1 + n.1 then f ⟨i.1 + n.1 - 127, by omega⟩ else 0) = ∑ k, if k ≤ i then f k else 0 := by
  rw [← Finset.sum_filter]
  rw [← Finset.sum_filter_of_ne (p := fun n : Fin 128 => 127 ≤ i.1 + n.1) (fun n _ hn => by by_contra h; exact hn (dif_neg h))]
  refine Finset.sum_bij' (fun n _ => (⟨(i.1 + n.1 - 127) % 128, Nat.mod_lt _ (by omega)⟩ : Fin 128)) (fun k _ => (⟨(k.1 + 127 - i.1) % 128, Nat.mod_lt _ (by omega)⟩ : Fin 128)) ?_ ?_ ?_ ?_ ?_
  · intro n hn
    have := (Finset.mem_filter.mp hn).2
    refine Finset.mem_filter.mpr ⟨Finset.mem_univ _, Fin.le_def.mpr ?_⟩
    show (i.1 + n.1 - 127) % 128 ≤ i.1
    omega
  · intro k hk
    have := Fin.le_def.mp (Finset.mem_filter.mp hk).2
    refine Finset.mem_filter.mpr ⟨Finset.mem_univ _, ?_⟩
    show 127 ≤ i.1 + (k.1 + 127 - i.1) % 128
    omega
  · intro n hn
    have := (Finset.mem_filter.mp hn).2
    refine Fin.ext ?_
    show ((i.1 + n.1 - 127) % 128 + 127 - i.1) % 128 = n.1
    omega
  · intro k hk
    have := Fin.le_def.mp (Finset.mem_filter.mp hk).2
    refine Fin.ext ?_
    show (i.1 + (k.1 + 127 - i.1) % 128 - 127) % 128 = k.1
    omega
  · intro n hn
    have h := (Finset.mem_filter.mp hn).2
    rw [dif_pos h]
    exact congrArg f (Fin.ext (by show i.1 + n.1 - 127 = (i.1 + n.1 - 127) % 128; omega))

theorem cumA_real (a : Fin 4 → Fin 4 → Fin 16 → Fin 128 → ℝ) : cumA (F := Ideal) (A4 a) = A4 fun g j c i => ∑ k, if k ≤ i then a g j c k else 0 := by
  funext i
  obtain ⟨g, j, c, s, rfl⟩ : ∃ (g j : Fin 4) (c : Fin 16) (s : Fin 128), i = ix4 g j c s := ⟨i 0, i 1, i 2, i 3, eq_ix4 i⟩
  rw [A4_ix4, ← sum_window (a g j c) s]
  unfold cumA Host.reduceWindowAdd
  rw [Ideal.hostReduceWindowAdd_def]
  unfold Ideal.hostReduceWindowAdd Host.reduceWindow
  dsimp only
  rw [foldl_add]
  have hz : ∀ u : S_.Idx, broadcastInDim S_ ![] bcast_S_S_ (zero0 (F := Ideal)) u = 0 := fun u => by
    obtain rfl : u = ix0 := funext fun a => a.elim0
    pointwise
  simp only [hz]
  rw [zero_add, ← Fin.sum_univ_def, ← sum_coe]
  refine Fintype.sum_equiv (finCongr (by decide)) _ _ fun n => ?_
  have w0 : ((⟨4, ![1, 1, 1, 128]⟩ : Shape).rowMajor.symm n 0).val = 0 := by rw [window_last]; rfl
  have w1 : ((⟨4, ![1, 1, 1, 128]⟩ : Shape).rowMajor.symm n 1).val = 0 := by rw [window_last]; rfl
  have w2 : ((⟨4, ![1, 1, 1, 128]⟩ : Shape).rowMajor.symm n 2).val = 0 := by rw [window_last]; rfl
  have w3 : ((⟨4, ![1, 1, 1, 128]⟩ : Shape).rowMajor.symm n 3).val = n.1 := by rw [window_last]; rfl
  have hn : n.1 < 128 := (n.cast (by decide) : Fin 128).2
  by_cases h : 127 ≤ s.1 + n.1
  · rw [dif_pos (show 127 ≤ s.1 + (finCongr (by decide) n : Fin 128).1 from h), dif_pos]
    · refine (congrArg (A4 a) (?_ : _ = ix4 g j c (⟨s.1 + n.1 - 127, by omega⟩ : Fin 128))).trans rfl
      refine funext fun x => Fin.ext ?_
      match x with
      | ⟨0, _⟩ => show g.1 * 1 + ((⟨4, ![1, 1, 1, 128]⟩ : Shape).rowMajor.symm n 0).val - 0 = g.1; omega
      | ⟨1, _⟩ => show j.1 * 1 + ((⟨4, ![1, 1, 1, 128]⟩ : Shape).rowMajor.symm n 1).val - 0 = j.1; omega
      | ⟨2, _⟩ => show c.1 * 1 + ((⟨4, ![1, 1, 1, 128]⟩ : Shape).rowMajor.symm n 2).val - 0 = c.1; omega
      | ⟨3, _⟩ => show s.1 * 1 + ((⟨4, ![1, 1, 1, 128]⟩ : Shape).rowMajor.symm n 3).val - 127 = s.1 + n.1 - 127; omega
    · intro x
      match x with
      | ⟨0, _⟩ => show 0 ≤ g.1 * 1 + ((⟨4, ![1, 1, 1, 128]⟩ : Shape).rowMajor.symm n 0).val ∧ g.1 * 1 + ((⟨4, ![1, 1, 1, 128]⟩ : Shape).rowMajor.symm n 0).val - 0 < 4; omega
      | ⟨1, _⟩ => show 0 ≤ j.1 * 1 + ((⟨4, ![1, 1, 1, 128]⟩ : Shape).rowMajor.symm n 1).val ∧ j.1 * 1 + ((⟨4, ![1, 1, 1, 128]⟩ : Shape).rowMajor.symm n 1).val - 0 < 4; omega
      | ⟨2, _⟩ => show 0 ≤ c.1 * 1 + ((⟨4, ![1, 1, 1, 128]⟩ : Shape).rowMajor.symm n 2).val ∧ c.1 * 1 + ((⟨4, ![1, 1, 1, 128]⟩ : Shape).rowMajor.symm n 2).val - 0 < 16; omega
      | ⟨3, _⟩ => show 127 ≤ s.1 * 1 + ((⟨4, ![1, 1, 1, 128]⟩ : Shape).rowMajor.symm n 3).val ∧ s.1 * 1 + ((⟨4, ![1, 1, 1, 128]⟩ : Shape).rowMajor.symm n 3).val - 127 < 128; omega
  · rw [dif_neg (show ¬127 ≤ s.1 + (finCongr (by decide) n : Fin 128).1 from h), dif_neg]
    · rfl
    · intro hin
      have h3 : 127 ≤ s.1 * 1 + ((⟨4, ![1, 1, 1, 128]⟩ : Shape).rowMajor.symm n 3).val := (hin 3).1
      omega

theorem toEndA_real (cs : Fin 4 → Fin 4 → Fin 16 → Fin 128 → ℝ) : toEndA (F := Ideal) (A4 cs) = A4 fun g j c i => Real.exp (cs g j c 127 - cs g j c i) := by
  funext i
  obtain ⟨g, j, c, s, rfl⟩ : ∃ (g j : Fin 4) (c : Fin 16) (s : Fin 128), i = ix4 g j c s := ⟨i 0, i 1, i 2, i 3, eq_ix4 i⟩
  unfold toEndA lastA
  pointwise
  simp only [A4_ix4, sub_coe, Ideal.exp_coe]

theorem spreadA_real (v : Fin 4 → Fin 4 → Fin 16 → Fin 128 → ℝ) :
    spreadA (F := Ideal) (A4 v) = A5 fun (c : Fin 16) (i : Fin 128) (g j : Fin 4) (_ : Fin 64) => v g j c i := by
  funext i
  obtain ⟨c, s, g, j, p, rfl⟩ : ∃ (c : Fin 16) (s : Fin 128) (g : Fin 4) (j : Fin 4) (p : Fin 64), i = ix5 c s g j p := ⟨i 0, i 1, i 2, i 3, i 4, eq_ix5 i⟩
  unfold spreadA
  pointwise
  rfl

theorem addedA_real (x : Fin 16 → Fin 128 → Fin 4 → Fin 4 → Fin 64 → ℝ) (b : Fin 16 → Fin 128 → Fin 4 → Fin 128 → ℝ) : addedA (F := Ideal) (A5 x) (A4 b)
    = A5 fun (c : Fin 16) (g j : Fin 4) (p : Fin 64) (n : Fin 128) => ∑ i, x c i g j p * b c i g n := by
  funext i
  obtain ⟨c, g, j, p, n, rfl⟩ : ∃ (c : Fin 16) (g : Fin 4) (j : Fin 4) (p : Fin 64) (n : Fin 128), i = ix5 c g j p n := ⟨i 0, i 1, i 2, i 3, i 4, eq_ix5 i⟩
  unfold addedA
  pointwise
  simp only [A4_ix4, A5_ix5, mul_coe, sum_coe]

theorem chunkDecayA_real (cs : Fin 4 → Fin 4 → Fin 16 → Fin 128 → ℝ) : chunkDecayA (F := Ideal) (A4 cs) = A3 fun (c : Fin 16) (g j : Fin 4) => Real.exp (cs g j c 127) := by
  funext i
  obtain ⟨c, g, j, rfl⟩ : ∃ (c : Fin 16) (g j : Fin 4), i = ix3 c g j := ⟨i 0, i 1, i 2, eq_ix3 i⟩
  unfold chunkDecayA lastA
  pointwise
  simp only [A4_ix4, Ideal.exp_coe]
  rfl

/-- The state before chunk `k`, from the chunks' decays and what each adds. -/
def stateR (dec : Fin 16 → Fin 4 → Fin 4 → ℝ) (add : Fin 16 → Fin 4 → Fin 4 → Fin 64 → Fin 128 → ℝ) : (k : ℕ) → k < 16 → Fin 4 → Fin 4 → Fin 64 → Fin 128 → ℝ
  | 0, _ => fun _ _ _ _ => 0
  | k + 1, hk => fun g j p n => dec ⟨k, Nat.lt_of_succ_lt hk⟩ g j * stateR dec add k (Nat.lt_of_succ_lt hk) g j p n + add ⟨k, Nat.lt_of_succ_lt hk⟩ g j p n

theorem stateA_real (dec : Fin 16 → Fin 4 → Fin 4 → ℝ) (add : Fin 16 → Fin 4 → Fin 4 → Fin 64 → Fin 128 → ℝ) (k : ℕ) (hk : k < 16) :
    stateA (F := Ideal) (A3 dec) (A5 add) k hk = A4 (stateR dec add k hk) := by
  induction k with
  | zero =>
    funext i
    obtain ⟨g, j, p, n, rfl⟩ : ∃ (g j : Fin 4) (p : Fin 64) (n : Fin 128), i = ix4 g j p n := ⟨i 0, i 1, i 2, i 3, eq_ix4 i⟩
    unfold stateA
    pointwise
    rfl
  | succ k ih =>
    funext i
    obtain ⟨g, j, p, n, rfl⟩ : ∃ (g j : Fin 4) (p : Fin 64) (n : Fin 128), i = ix4 g j p n := ⟨i 0, i 1, i 2, i 3, eq_ix4 i⟩
    unfold stateA
    rw [ih (Nat.lt_of_succ_lt hk)]
    pointwise
    simp only [A3_ix3, A4_ix4, A5_ix5, mul_coe, add_coe]
    rfl

theorem statesA_real (dec : Fin 16 → Fin 4 → Fin 4 → ℝ) (add : Fin 16 → Fin 4 → Fin 4 → Fin 64 → Fin 128 → ℝ) :
    statesA (F := Ideal) (A3 dec) (A5 add) = A5 fun (c : Fin 16) (g j : Fin 4) (p : Fin 64) (n : Fin 128) => stateR dec add c.1 c.2 g j p n := by
  have e : ∀ k : Fin 16, slabA (F := Ideal) (A3 dec) (A5 add) k = ⟨S1x4x4x64x128, fun i => ((stateR dec add k.1 k.2 (i 1) (i 2) (i 3) (i 4) : ℝ) : EReal)⟩ := fun k => by
    unfold slabA
    rw [stateA_real]
    refine congrArg (fun v => (⟨S1x4x4x64x128, v⟩ : Σ s : Shape, (s.Idx → EReal))) (funext fun i => ?_)
    obtain ⟨z, g, j, p, n, rfl⟩ : ∃ (z : Fin 1) (g : Fin 4) (j : Fin 4) (p : Fin 64) (n : Fin 128), i = ix5 z g j p n := ⟨i 0, i 1, i 2, i 3, i 4, eq_ix5 i⟩
    pointwise
    rfl
  funext i
  obtain ⟨c, g, j, p, n, rfl⟩ : ∃ (c : Fin 16) (g : Fin 4) (j : Fin 4) (p : Fin 64) (n : Fin 128), i = ix5 c g j p n := ⟨i 0, i 1, i 2, i 3, i 4, eq_ix5 i⟩
  unfold statesA
  simp only [e]
  have hc := (by decide : Shape.Concatenates (List.replicate 16 S1x4x4x64x128) S16x4x4x64x128 0)
  refine (show _ = concatenate S16x4x4x64x128 0 (List.ofFn fun k : Fin 16 => (⟨S1x4x4x64x128, fun i =>
    ((stateR dec add k.1 k.2 (i 1) (i 2) (i 3) (i 4) : ℝ) : EReal)⟩ : Σ s : Shape, (s.Idx → EReal))) hc (ix5 c g j p n) from rfl).trans ?_
  rw [concatenate_ofFn_unit_apply' 0 (fun (k : Fin 16) (i : S1x4x4x64x128.Idx) => ((stateR dec add k.1 k.2 (i 1) (i 2) (i 3) (i 4) : ℝ) : EReal)) hc rfl]
  rfl

theorem scanA_real (x : Fin 16 → Fin 4 → Fin 4 → Fin 64 → Fin 128 → ℝ) : scanA (F := Ideal) (A5 x) = A5 x := by
  funext i
  obtain ⟨c, g, j, p, n, rfl⟩ : ∃ (c : Fin 16) (g : Fin 4) (j : Fin 4) (p : Fin 64) (n : Fin 128), i = ix5 c g j p n := ⟨i 0, i 1, i 2, i 3, i 4, eq_ix5 i⟩
  unfold scanA
  pointwise
  rw [dif_neg (by omega)]

theorem allAdded_eq (x : Fin 16 → Fin 4 → Fin 4 → Fin 64 → Fin 128 → ℝ) : allAdded (F := Ideal) (A5 x) = A5 x := by
  funext i
  obtain ⟨c, g, j, p, n, rfl⟩ : ∃ (c : Fin 16) (g : Fin 4) (j : Fin 4) (p : Fin 64) (n : Fin 128), i = ix5 c g j p n := ⟨i 0, i 1, i 2, i 3, i 4, eq_ix5 i⟩
  unfold allAdded
  pointwise

theorem allDecay_eq (x : Fin 16 → Fin 4 → Fin 4 → ℝ) : allDecay (F := Ideal) (A3 x) = A3 x := by
  funext i
  obtain ⟨c, g, j, rfl⟩ : ∃ (c : Fin 16) (g j : Fin 4), i = ix3 c g j := ⟨i 0, i 1, i 2, eq_ix3 i⟩
  unfold allDecay
  pointwise

theorem sge_bit : ∀ a b : Fin 128, IntOp.cmpi .sge (IntOp.addi (BitVec.ofNat 32 a) 0#32) (BitVec.ofNat 32 b) = if b ≤ a then 1#1 else 0#1 := by
  decide +kernel

theorem word_bot : Ideal.ofBits .f32 0xFF800000#32 = ⊥ := by simp [Ideal.ofBits, Ideal.ieee]

theorem decayA_real (cs : Fin 4 → Fin 4 → Fin 16 → Fin 128 → ℝ) : decayA (F := Ideal) (A4 cs)
    = A5 fun (g j : Fin 4) (c : Fin 16) (i k : Fin 128) => if k ≤ i then Real.exp (cs g j c i - cs g j c k) else 0 := by
  funext i
  obtain ⟨g, j, c, s, k, rfl⟩ : ∃ (g j : Fin 4) (c : Fin 16) (s k : Fin 128), i = ix5 g j c s k := ⟨i 0, i 1, i 2, i 3, i 4, eq_ix5 i⟩
  unfold decayA causalA
  pointwise
  rw [sge_bit, select_bit]
  rw [show (if k ≤ s then (1#1 : BitVec 1) else 0#1) = if k ≤ s then 1#1 else 0#1 from rfl, select_bit]
  by_cases h : k ≤ s
  · simp only [if_pos h, A4_ix4, A5_ix5, sub_coe, Ideal.exp_coe]
  · simp only [if_neg h, A5_ix5]
    show Ideal.exp (Ideal.ofBits .f32 0xFF800000#32) = _
    rw [word_bot, Ideal.exp_bot, zero_coe]

theorem scoreA_real (b c : Fin 16 → Fin 128 → Fin 4 → Fin 128 → ℝ) : scoreA (F := Ideal) (A4 b) (A4 c)
    = A4 fun (g : Fin 4) (k : Fin 16) (i s : Fin 128) => ∑ n, c k i g n * b k s g n := by
  funext i
  obtain ⟨g, k, s, s', rfl⟩ : ∃ (g : Fin 4) (k : Fin 16) (s s' : Fin 128), i = ix4 g k s s' := ⟨i 0, i 1, i 2, i 3, eq_ix4 i⟩
  unfold scoreA
  pointwise
  simp only [A4_ix4, mul_coe, sum_coe]

theorem mixA_real (sc : Fin 4 → Fin 16 → Fin 128 → Fin 128 → ℝ) (dec : Fin 4 → Fin 4 → Fin 16 → Fin 128 → Fin 128 → ℝ) : mixA (F := Ideal) (A4 sc) (A5 dec)
    = A5 fun g j c i k => sc g c i k * dec g j c i k := by
  funext i
  obtain ⟨g, j, c, s, k, rfl⟩ : ∃ (g j : Fin 4) (c : Fin 16) (s k : Fin 128), i = ix5 g j c s k := ⟨i 0, i 1, i 2, i 3, i 4, eq_ix5 i⟩
  unfold mixA
  pointwise
  exact mul_coe _ _

theorem diagA_real (x : Fin 16 → Fin 128 → Fin 4 → Fin 4 → Fin 64 → ℝ) (m : Fin 4 → Fin 4 → Fin 16 → Fin 128 → Fin 128 → ℝ) : diagA (F := Ideal) (A5 x) (A5 m)
    = A5 fun (c : Fin 16) (i : Fin 128) (g j : Fin 4) (p : Fin 64) => ∑ k, x c k g j p * m g j c i k := by
  funext i
  obtain ⟨c, s, g, j, p, rfl⟩ : ∃ (c : Fin 16) (s : Fin 128) (g : Fin 4) (j : Fin 4) (p : Fin 64), i = ix5 c s g j p := ⟨i 0, i 1, i 2, i 3, i 4, eq_ix5 i⟩
  unfold diagA
  pointwise
  simp only [A5_ix5, mul_coe, sum_coe]

theorem readA_real (h : Fin 16 → Fin 4 → Fin 4 → Fin 64 → Fin 128 → ℝ) (c : Fin 16 → Fin 128 → Fin 4 → Fin 128 → ℝ) : readA (F := Ideal) (A5 h) (A4 c)
    = A5 fun (k : Fin 16) (i : Fin 128) (g j : Fin 4) (p : Fin 64) => ∑ n, h k g j p n * c k i g n := by
  funext i
  obtain ⟨k, s, g, j, p, rfl⟩ : ∃ (k : Fin 16) (s : Fin 128) (g : Fin 4) (j : Fin 4) (p : Fin 64), i = ix5 k s g j p := ⟨i 0, i 1, i 2, i 3, i 4, eq_ix5 i⟩
  unfold readA
  pointwise
  simp only [A4_ix4, A5_ix5, mul_coe, sum_coe]

theorem skipA_real (x : Fin 2048 → Fin 16 → Fin 64 → ℝ) (d : Fin 1 → Fin 16 → ℝ) : skipA (F := Ideal) (A3 x) (M2 d) = A3 fun s h p => x s h p * d 0 h := by
  funext i
  obtain ⟨s, h, p, rfl⟩ : ∃ (s : Fin 2048) (h : Fin 16) (p : Fin 64), i = ix3 s h p := ⟨i 0, i 1, i 2, eq_ix3 i⟩
  unfold skipA
  pointwise
  exact mul_coe _ _

theorem yA_real (u v : Fin 16 → Fin 128 → Fin 4 → Fin 4 → Fin 64 → ℝ) (w : Fin 2048 → Fin 16 → Fin 64 → ℝ) : yA (F := Ideal) (A5 u) (A5 v) (A3 w)
    = M2 fun (s : Fin 2048) (l : Fin 1024) =>
      u ⟨s / 128, by omega⟩ ⟨s % 128, by omega⟩ ⟨l / 64 / 4, by omega⟩ ⟨l / 64 % 4, by omega⟩ ⟨l % 64, by omega⟩
        + v ⟨s / 128, by omega⟩ ⟨s % 128, by omega⟩ ⟨l / 64 / 4, by omega⟩ ⟨l / 64 % 4, by omega⟩ ⟨l % 64, by omega⟩
        + w s ⟨l / 64, by omega⟩ ⟨l % 64, by omega⟩ := by
  funext i
  obtain ⟨s, l, rfl⟩ : ∃ (s : Fin 2048) (l : Fin 1024), i = ix2 s l := ⟨i 0, i 1, eq_ix2 i⟩
  unfold yA
  pointwise
  simp only [A3_ix3, A5_ix5, add_coe]
  rfl

theorem zA_real (P : Fin 2048 → Fin 5632 → ℝ) : zA (F := Ideal) (M2 P) = M2 fun (s : Fin 2048) (l : Fin 1024) => P s ⟨2048 + l, by omega⟩ := by
  funext i
  obtain ⟨s, l, rfl⟩ : ∃ (s : Fin 2048) (l : Fin 1024), i = ix2 s l := ⟨i 0, i 1, eq_ix2 i⟩
  unfold zA
  pointwise
  rfl

theorem sigA_real (z : Fin 2048 → Fin 1024 → ℝ) : sigA (F := Ideal) (M2 z) = M2 fun s l => (1 + Real.exp (-z s l))⁻¹ := by
  funext i
  obtain ⟨s, l, rfl⟩ : ∃ (s : Fin 2048) (l : Fin 1024), i = ix2 s l := ⟨i 0, i 1, eq_ix2 i⟩
  unfold sigA
  pointwise
  simp only [M2_ix2, neg_coe, Ideal.exp_coe, one_coe, add_coe, div_logistic]

theorem gatedA_real (y z : Fin 2048 → Fin 1024 → ℝ) : gatedA (F := Ideal) (M2 y) (M2 z)
    = A3 fun (s : Fin 2048) (g : Fin 4) (l : Fin 256) => y s ⟨g * 256 + l, by omega⟩ * silu (z s ⟨g * 256 + l, by omega⟩) := by
  unfold gatedA
  rw [sigA_real]
  funext i
  obtain ⟨s, g, l, rfl⟩ : ∃ (s : Fin 2048) (g : Fin 4) (l : Fin 256), i = ix3 s g l := ⟨i 0, i 1, i 2, eq_ix3 i⟩
  pointwise
  simp only [M2_ix2, mul_coe]
  rfl

end Cert.SsdHost

end
-- ==== Proof.SsdSeq.lean ====
/- The state space layer's forward arrays as the sequence's functions. -/
module

public import proofs.«01_k».proof.Proof.SsdHost

@[expose] public section

set_option maxRecDepth 16384

noncomputable section

namespace Cert.SsdHost

open Cert.Reference5Ideal Cert.Reference5Ideal.Gen Idealize.ShloMosaic Cert.Ssd Cert.Reals

/-- Head `j` of group `g`. -/
def hh (g j : Fin 4) : Fin 16 := ⟨g * 4 + j, by omega⟩

/-- The same among the padded lanes. -/
def hk (g j : Fin 4) : Fin 128 := ⟨g * 4 + j, by omega⟩

/-- Lane `p` of head `j` of a group. -/
def ln (j : Fin 4) (p : Fin 64) : Fin 256 := ⟨j * 64 + p, by omega⟩

/-- The head of a lane within its group. -/
def lj (l : Fin 256) : Fin 4 := ⟨l / 64, by omega⟩

/-- A lane's place within its head. -/
def lp (l : Fin 256) : Fin 64 := ⟨l % 64, by omega⟩

theorem ln_lj (l : Fin 256) : ln (lj l) (lp l) = l := Fin.ext (by show l.1 / 64 * 64 + l.1 % 64 = l.1; omega)

theorem hd_ln (g j : Fin 4) (p : Fin 64) : hd g (ln j p) = hk g j := Fin.ext (by show 4 * g.1 + (j.1 * 64 + p.1) / 64 = g.1 * 4 + j.1; omega)

/-- The chunk of a row. -/
def chunkOf (s : Fin 2048) : Fin 16 := ⟨s / 128, by omega⟩

/-- A row's place in its chunk. -/
def posOf (s : Fin 2048) : Fin 128 := ⟨s % 128, by omega⟩

theorem row_chunk (s : Fin 2048) : rowAt (chunkOf s) (posOf s) = s := Fin.ext (by show s.1 / 128 * 128 + s.1 % 128 = s.1; omega)

theorem chunk_row (c : Fin 16) (i : Fin 128) : chunkOf (rowAt c i) = c := Fin.ext (by show (c.1 * 128 + i.1) / 128 = c.1; omega)

theorem pos_row (c : Fin 16) (i : Fin 128) : posOf (rowAt c i) = i := Fin.ext (by show (c.1 * 128 + i.1) % 128 = i.1; omega)

theorem pad_head (v : Fin 16 → ℝ) (g j : Fin 4) : pad v (hk g j) = v (hh g j) := dif_pos (by show g.1 * 4 + j.1 < 16; omega)

/-! ## The arrays -/

section
variable {F : FTy → Type} [FloatOps F]

/-- The step sizes. -/
abbrev dtAll (P : FVec F S2048x5632 .f32) (b : FVec F S1x16 .f32) : FVec F S2048x16 .f32 := softplusA (rawA P b)

/-- The running sums of the log decays. -/
abbrev csAll (P : FVec F S2048x5632 .f32) (b al : FVec F S1x16 .f32) : FVec F S4x4x16x128 .f32 := cumA (logA (dtAll P b) (rateA al))

/-- The lanes times their step sizes. -/
abbrev xdtAll (X : FVec F S2048x2048 .f32) (P : FVec F S2048x5632 .f32) (b : FVec F S1x16 .f32) : FVec F S16x128x4x4x64 .f32 := xdtA (lanesA X) (dtAll P b)

/-- What each chunk adds to the state. -/
abbrev addAll (X : FVec F S2048x2048 .f32) (P : FVec F S2048x5632 .f32) (b al : FVec F S1x16 .f32) : FVec F S16x4x4x64x128 .f32 :=
  addedA (mulf (spreadA (toEndA (csAll P b al))) (xdtAll X P b)) (inA X)

/-- The states before each chunk. -/
abbrev prevAll (X : FVec F S2048x2048 .f32) (P : FVec F S2048x5632 .f32) (b al : FVec F S1x16 .f32) : FVec F S16x4x4x64x128 .f32 :=
  scanA (statesA (allDecay (chunkDecayA (csAll P b al))) (allAdded (addAll X P b al)))

/-- The output before its gate. -/
abbrev yAll (X : FVec F S2048x2048 .f32) (P : FVec F S2048x5632 .f32) (b al d : FVec F S1x16 .f32) : FVec F S2048x1024 .f32 :=
  yA (diagA (xdtAll X P b) (mixA (scoreA (inA X) (outA X)) (decayA (csAll P b al))))
    (mulf (readA (prevAll X P b al) (outA X)) (spreadA (Host.exp (csAll P b al)))) (skipA (lanesA X) d)

/-- The gated output over its root mean square, times the norm's weights. -/
def normA (v : FVec F S2048x4x256 .f32) (w : FVec F S1x1024 .f32) : FVec F S2048x1024 .f32 :=
  mulf (shapeCast _ (mulf v (broadcastInDim S2048x4x256 ![0, 1, 2] bcast_S2048x4x1_S2048x4x256_0_1_2 (Host.rsqrt (addf (Host.divf (broadcastInDim S2048x4x1 ![0, 1] bcast_S2048x4_S2048x4x1_0_1 (Host.reduceAdd (mulf v v) (constant S_ .f32 0x00000000#32) reducesTo_S2048x4x256_S2048x4_d2 h_S_)) (broadcastInDim S2048x4x1 ![] bcast_S_S2048x4x1 (constant S_ .f32 0x43800000#32))) (broadcastInDim S2048x4x1 ![] bcast_S_S2048x4x1 (constant S_ .f32 0x3727C5AC#32)))))) shapeCasts_S2048x4x256_S2048x1024) (broadcastInDim S2048x1024 ![0, 1] bcast_S1x1024_S2048x1024_0_1 w)

end

/-! ## Their values -/

section
variable (q : Seq)

theorem dtAll_real : dtAll (F := Ideal) (M2 q.P) (M2 fun _ => q.bias) = M2 fun s h => softplus (q.P s ⟨5120 + h, by omega⟩ + q.bias h) := by
  unfold dtAll
  rw [rawA_real, softplusA_real]

theorem dt_head (c : Fin 16) (i : Fin 128) (g j : Fin 4) :
    q.dt c i (hk g j) = softplus (q.P (rowAt c i) ⟨5120 + (hh g j).1, by omega⟩ + q.bias (hh g j)) := by
  unfold Seq.dt Seq.raw
  rw [pad_head]
  rfl

theorem rate_head (g j : Fin 4) : q.rate (hk g j) = -Real.exp (q.al (hh g j)) := by
  unfold Seq.rate
  rw [if_pos (show (hk g j).1 < 16 by show g.1 * 4 + j.1 < 16; omega), pad_head]

theorem csAll_real : csAll (F := Ideal) (M2 q.P) (M2 fun _ => q.bias) (M2 fun _ => q.al) = A4 fun g j c i => q.cs c i (hk g j) := by
  unfold csAll
  rw [dtAll_real, rateA_real, logA_real, cumA_real]
  refine congrArg A4 (funext fun g => funext fun j => funext fun c => funext fun i => ?_)
  unfold Seq.cs
  refine Finset.sum_congr rfl fun k _ => ?_
  rw [dt_head, rate_head]
  rfl

theorem lanes_eq (g j : Fin 4) (p : Fin 64) : (⟨(hh g j).1 * 64 + p, by omega⟩ : Fin 2048) = ⟨g * 256 + (ln j p).1, by omega⟩ :=
  Fin.ext (by show (g.1 * 4 + j.1) * 64 + p.1 = g.1 * 256 + (j.1 * 64 + p.1); omega)

theorem xdtAll_real : xdtAll (F := Ideal) (M2 q.X) (M2 q.P) (M2 fun _ => q.bias) = A5 fun c i g j p => (q.chunk c g).xdt g i (ln j p) := by
  unfold xdtAll
  rw [dtAll_real, lanesA_real, xdtA_real]
  refine congrArg A5 (funext fun c => funext fun i => funext fun g => funext fun j => funext fun p => ?_)
  show q.X (rowAt c i) ⟨(hh g j).1 * 64 + p, _⟩ * softplus (q.P (rowAt c i) ⟨5120 + (hh g j).1, _⟩ + q.bias (hh g j))
    = q.X (rowAt c i) ⟨g * 256 + (ln j p).1, _⟩ * q.dt c i (hd g (ln j p))
  rw [hd_ln, dt_head, lanes_eq]

theorem addAll_real : addAll (F := Ideal) (M2 q.X) (M2 q.P) (M2 fun _ => q.bias) (M2 fun _ => q.al)
    = A5 fun c g j p n => ∑ i, (q.chunk c g).b i n * ((q.chunk c g).xdt g i (ln j p) * (q.chunk c g).toEnd g i (ln j p)) := by
  unfold addAll
  rw [csAll_real, xdtAll_real, toEndA_real, spreadA_real, mul_A5, inA_real, addedA_real]
  refine congrArg A5 (funext fun c => funext fun g => funext fun j => funext fun p => funext fun n => Finset.sum_congr rfl fun i _ => ?_)
  have e : (q.chunk c g).toEnd g i (ln j p) = Real.exp (q.cs c 127 (hk g j) - q.cs c i (hk g j)) := by
    unfold RPart.toEnd
    rw [hd_ln, Seq.cs_last]
    rfl
  rw [e, mul_comm, mul_comm (Real.exp _)]
  rfl

theorem chunkDecay_real : chunkDecayA (csAll (F := Ideal) (M2 q.P) (M2 fun _ => q.bias) (M2 fun _ => q.al)) = A3 fun c g j => Real.exp (q.tot c (hk g j)) := by
  rw [csAll_real, chunkDecayA_real]
  simp only [Seq.cs_last]

theorem stateR_eq (k : ℕ) (hk' : k < 16) (g j : Fin 4) (p : Fin 64) (n : Fin 128) :
    stateR (fun c g j => Real.exp (q.tot c (hk g j))) (fun c g j p n => ∑ i, (q.chunk c g).b i n * ((q.chunk c g).xdt g i (ln j p) * (q.chunk c g).toEnd g i (ln j p)))
      k hk' g j p n = q.state k n (lane g (ln j p)) := by
  induction k generalizing g j p n with
  | zero => rfl
  | succ k ih =>
    have e : (Fin.ofNat 16 k : Fin 16) = ⟨k, Nat.lt_of_succ_lt hk'⟩ := Fin.ext (Nat.mod_eq_of_lt (Nat.lt_of_succ_lt hk'))
    show _ * stateR _ _ k _ g j p n + _ = (q.part (Fin.ofNat 16 k) (q.state k) (groupOf (lane g (ln j p)))).next (groupOf (lane g (ln j p))) n (placeOf (lane g (ln j p)))
    rw [ih, group_lane, place_lane, e]
    unfold RPart.next
    rw [hd_ln]
    rfl

theorem prevAll_real : prevAll (F := Ideal) (M2 q.X) (M2 q.P) (M2 fun _ => q.bias) (M2 fun _ => q.al) = A5 fun c g j p n => q.state c n (lane g (ln j p)) := by
  unfold prevAll
  rw [chunkDecay_real, addAll_real, allDecay_eq, allAdded_eq, statesA_real, scanA_real]
  refine congrArg A5 (funext fun c => funext fun g => funext fun j => funext fun p => funext fun n => ?_)
  exact stateR_eq q c.1 c.2 g j p n

theorem diag_real : diagA (xdtAll (F := Ideal) (M2 q.X) (M2 q.P) (M2 fun _ => q.bias)) (mixA (scoreA (inA (M2 q.X)) (outA (M2 q.X)))
      (decayA (csAll (M2 q.P) (M2 fun _ => q.bias) (M2 fun _ => q.al)))) = A5 fun c i g j p => (q.chunk c g).diag g i (ln j p) := by
  rw [csAll_real, xdtAll_real, inA_real, outA_real, scoreA_real, decayA_real, mixA_real, diagA_real]
  refine congrArg A5 (funext fun c => funext fun i => funext fun g => funext fun j => funext fun p => ?_)
  unfold RPart.diag
  refine Finset.sum_congr rfl fun k _ => ?_
  rw [hd_ln, mul_comm]
  rfl

theorem off_real : mulf (readA (prevAll (F := Ideal) (M2 q.X) (M2 q.P) (M2 fun _ => q.bias) (M2 fun _ => q.al)) (outA (M2 q.X)))
      (spreadA (Host.exp (csAll (M2 q.P) (M2 fun _ => q.bias) (M2 fun _ => q.al)))) = A5 fun c i g j p => (q.chunk c g).off g i (ln j p) := by
  rw [prevAll_real, csAll_real, outA_real, readA_real, exp_A4, spreadA_real, mul_A5]
  refine congrArg A5 (funext fun c => funext fun i => funext fun g => funext fun j => funext fun p => ?_)
  unfold RPart.off
  rw [hd_ln]
  refine congrArg (· * _) (Finset.sum_congr rfl fun n _ => mul_comm _ _)

theorem yAll_real : yAll (F := Ideal) (M2 q.X) (M2 q.P) (M2 fun _ => q.bias) (M2 fun _ => q.al) (M2 fun _ => q.d)
    = M2 fun s l => (q.chunk (chunkOf s) (groupOf l)).y (groupOf l) (posOf s) (placeOf l) := by
  unfold yAll
  rw [diag_real, off_real, lanesA_real, skipA_real, yA_real]
  refine congrArg M2 (funext fun s => funext fun l => ?_)
  have eg : (⟨l / 64 / 4, by omega⟩ : Fin 4) = groupOf l := Fin.ext (by show l.1 / 64 / 4 = l.1 / 256; omega)
  have el : ln ⟨l / 64 % 4, by omega⟩ ⟨l % 64, by omega⟩ = placeOf l := Fin.ext (by show l.1 / 64 % 4 * 64 + l.1 % 64 = l.1 % 256; omega)
  rw [eg, el]
  unfold RPart.y
  refine congrArg₂ (· + ·) rfl (congrArg₂ (· * ·) ?_ ?_)
  · show q.X s ⟨l / 64 * 64 + l % 64, _⟩ = q.X (rowAt (chunkOf s) (posOf s)) ⟨(groupOf l).1 * 256 + (placeOf l).1, _⟩
    rw [row_chunk]
    exact congrArg (q.X s) (Fin.ext (by show l.1 / 64 * 64 + l.1 % 64 = l.1 / 256 * 256 + l.1 % 256; omega))
  · exact congrArg q.d (Fin.ext (by show l.1 / 64 = l.1 / 256 * 4 + l.1 % 256 / 64; omega))

theorem gatedAll_real : gatedA (yAll (F := Ideal) (M2 q.X) (M2 q.P) (M2 fun _ => q.bias) (M2 fun _ => q.al) (M2 fun _ => q.d)) (zA (M2 q.P))
    = A3 fun s g l => q.gated (chunkOf s) g (posOf s) l := by
  rw [yAll_real, zA_real, gatedA_real]
  refine congrArg A3 (funext fun s => funext fun g => funext fun l => ?_)
  unfold Seq.gated Seq.z
  rw [row_chunk]
  show (q.chunk (chunkOf s) (groupOf (lane g l))).y (groupOf (lane g l)) (posOf s) (placeOf (lane g l)) * _ = _
  rw [group_lane, place_lane]

theorem normA_real (v : Fin 2048 → Fin 4 → Fin 256 → ℝ) (w : Fin 1024 → ℝ) : normA (F := Ideal) (A3 v) (M2 fun _ => w)
    = M2 fun s l => v s (groupOf l) (placeOf l) * (Real.sqrt (meanSq (v s (groupOf l))))⁻¹ * w l := by
  funext i
  obtain ⟨s, l, rfl⟩ : ∃ (s : Fin 2048) (l : Fin 1024), i = ix2 s l := ⟨i 0, i 1, eq_ix2 i⟩
  unfold normA
  pointwise
  simp only [A3_ix3, mul_coe, sum_coe, word_256, word_eps, div_coe _ _ (show (256 : ℝ) ≠ 0 by norm_num), add_coe]
  refine (congrArg (fun x => _ * x * _) (rsqrt_pos _ (meanSq_pos (v s (groupOf l))))).trans ?_
  simp only [M2_ix2, mul_coe]
  rfl

theorem outAll_real : normA (gatedA (yAll (F := Ideal) (M2 q.X) (M2 q.P) (M2 fun _ => q.bias) (M2 fun _ => q.al) (M2 fun _ => q.d)) (zA (M2 q.P))) (M2 fun _ => q.w)
    = M2 fun s l => q.out (chunkOf s) (groupOf l) (posOf s) (placeOf l) := by
  rw [gatedAll_real, normA_real]
  refine congrArg M2 (funext fun s => funext fun l => ?_)
  unfold Seq.out
  rw [lane_group]

end

end Cert.SsdHost

end
-- ==== Proof.SsdFwdOut.lean ====
/- The state space layer's forward call: its two results on finite arguments, and the reference's. -/
module

public import proofs.«01_k».proof.Proof.SsdFwdVal
public import proofs.«01_k».proof.Proof.SsdSeq
public import proofs.«01_k».proof.Proof.Norm

@[expose] public section

set_option maxRecDepth 16384

noncomputable section

namespace Cert.SsdFwd

open Idealize.ShloMosaic Idealize.ShloMosaic.TcCoe Idealize.SL.Sem
open Cert.Kernel5Ideal Cert.Kernel5Ideal.Gen Cert.Ssd Cert.SsdHost Cert.Reals Cert.Norm

variable (m : (ℓ : Loc nD τ sig) → Buf (Elt Ideal) ℓ)

theorem finite_args (hp : Cert.Pre_Kernel5Ideal_finite5 m) (c : Dev nD) :
    IsReal (m ((c : Thread nD τ).loc main_arg0)) ∧ IsReal (m ((c : Thread nD τ).loc main_arg1))
    ∧ IsReal (m ((c : Thread nD τ).loc main_arg3))
    ∧ IsReal (m ((c : Thread nD τ).loc main_arg4))
    ∧ IsReal (m ((c : Thread nD τ).loc main_arg5)) ∧ IsReal (m ((c : Thread nD τ).loc main_arg6)) := by
  have e := hp c
  unfold Cert.Pre_finite5.fn Cert.Pre_finite5.fn_part1 at e
  have e := congrFun e (fun a => a.elim0)
  have : Subsingleton Cert.Pre_finite5.S_.Idx := ⟨fun a b => funext fun i => i.elim0⟩
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e0, e1⟩ := IntOp.andi_eq_one.mp e
  exact ⟨real_of_all _ _ (fun _ => word_inf) _ _ _ _ e0, real_of_all _ _ (fun _ => word_inf) _ _ _ _ e1,
    real_of_all _ _ (fun _ => word_inf) _ _ _ _ e3,
    real_of_all _ _ (fun _ => word_inf) _ _ _ _ e4,
    real_of_all _ _ (fun _ => word_inf) _ _ _ _ e5, real_of_all _ _ (fun _ => word_inf) _ _ _ _ e6⟩

/-! ## One grid point -/

theorem state_succ (q : Seq) (k : Fin 16) (g : Fin 4) (n : Fin 128) (l : Fin 256) : q.state (k + 1) n (lane g l) = (q.chunk k g).next g n l := by
  show (q.part (Fin.ofNat 16 k.1) (q.state k) (groupOf (lane g l))).next (groupOf (lane g l)) n (placeOf (lane g l)) = _
  rw [group_lane, place_lane, show (Fin.ofNat 16 k.1 : Fin 16) = k from Fin.ext (Nat.mod_eq_of_lt k.2)]
  rfl

/-- A chunk's rows of the layer's output. -/
def rows (q : Seq) (k : Fin 16) (i : Fin 128) (l : Fin 1024) : ℝ := q.out k (groupOf l) i (placeOf l)

section
variable (c : Dev nD) (i : grid0.Coords) (arg1 : Memref sig .tc .vmem S128x2048 .f32) (harg1 : arg1.IsWhole)
  (arg2 : Memref sig .tc .vmem S128x128 .f32) (harg2 : arg2.IsWhole) (arg3 : Memref sig .tc .vmem S128x1024 .f32) (harg3 : arg3.IsWhole)
  (arg5 : Memref sig .tc .vmem S1x128 .f32) (harg5 : arg5.IsWhole) (arg6 : Memref sig .tc .vmem S1x128 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S128x1024 .bf16) (harg9 : arg9.IsWhole) (arg10 : Memref sig .tc .vmem S1x128x1024 .f32) (harg10 : arg10.IsWhole)
  (arg11 : Memref sig .tc .vmem S128x1024 .f32) (harg11 : arg11.IsWhole) (arg12 : Memref sig .tc .vmem S128x128 .f32) (harg12 : arg12.IsWhole)
  (q : Seq) (k : Fin 16)

theorem pay3_real (V : Fin 128 → Fin 1024 → ℝ) : k0_pay3 (F := Ideal) (M2 V) = A3 fun _ n l => V n l := by
  funext y
  obtain ⟨a, n, l, rfl⟩ : ∃ (a : Fin 1) (n : Fin 128) (l : Fin 1024), y = ix3 a n l := ⟨y 0, y 1, y 2, eq_ix3 y⟩
  rw [A3_ix3]
  pointwise [k0_pay3]
  rfl

theorem out_B (hc0 : ¬cond0_0 i) : out0_B_7 (F := Ideal) c i arg1 harg1 arg2 harg2 arg3 harg3 arg5 harg5 arg6 harg6 arg7 harg7 arg8 harg8 arg9 harg9 arg10 harg10 arg11 harg11 arg12 harg12 hc0 (M2 (bX q k)) (M2 (bR q k)) (M2 (bZ q k)) (M2 fun _ => pad q.bias) (M2 fun _ => pad q.al) (M2 (bD q)) (M2 fun _ => q.w) (M2 (q.state k)) = M2 (rows q k) := by
  unfold out0_B_7
  rw [View.read_writes_junk_eq_canon, pieces_B]
  refine (congrArg View.canon (List.append_nil _).symm).trans (canon_lanes _ [] _ fun g a l => ?_)
  rw [outV_real _ _ _ _ _ _ _ _ _ _ _ _ _ _ _ q k _ g (held_real arg11 harg11 (q.state k) g), M2_ix2, M2_ix2, rows, group_lane, place_lane]

theorem out_A (hc0 : cond0_0 i) (hk : k = 0) : out0_A_7 (F := Ideal) c i arg1 harg1 arg2 harg2 arg3 harg3 arg5 harg5 arg6 harg6 arg7 harg7 arg8 harg8 arg9 harg9 arg10 harg10 arg11 harg11 arg12 harg12 hc0 (M2 (bX q k)) (M2 (bR q k)) (M2 (bZ q k)) (M2 fun _ => pad q.bias) (M2 fun _ => pad q.al) (M2 (bD q)) (M2 fun _ => q.w) = M2 (rows q k) := by
  unfold out0_A_7
  rw [View.read_writes_junk_eq_canon, pieces_A]
  refine (congrArg View.canon (List.append_nil _).symm).trans (canon_lanes _ [] _ fun g a l => ?_)
  rw [outV_real _ _ _ _ _ _ _ _ _ _ _ _ _ _ _ q k _ g ((fresh_real _ _ _ _ _ _ _ _ _ _ _ _ q _ _ _ _ _ g).trans (by rw [hk]; rfl)), M2_ix2, M2_ix2, rows, group_lane, place_lane]

theorem next_B (hc0 : ¬cond0_0 i) : sout0_B_0 (F := Ideal) c i arg1 harg1 arg2 harg2 arg3 harg3 arg5 harg5 arg6 harg6 arg7 harg7 arg8 harg8 arg9 harg9 arg10 harg10 arg11 harg11 arg12 harg12 hc0 (M2 (bX q k)) (M2 (bR q k)) (M2 (bZ q k)) (M2 fun _ => pad q.bias) (M2 fun _ => pad q.al) (M2 (bD q)) (M2 fun _ => q.w) (M2 (q.state k)) = M2 (q.state (k + 1)) := by
  unfold sout0_B_0
  rw [View.read_writes_junk_eq_canon, state_B]
  refine (congrArg View.canon (List.append_nil _).symm).trans (canon_lanes _ [] _ fun g a l => ?_)
  rw [next_real (part_of _ _ _ _ _ _ _ _ _ _ _ q k _ (q.state k) g (held_real arg11 harg11 (q.state k) g)), M2_ix2, state_succ]
  pointwise
  rfl

theorem next_A (hc0 : cond0_0 i) (hk : k = 0) : sout0_A_0 (F := Ideal) c i arg1 harg1 arg2 harg2 arg3 harg3 arg5 harg5 arg6 harg6 arg7 harg7 arg8 harg8 arg9 harg9 arg10 harg10 arg11 harg11 arg12 harg12 hc0 (M2 (bX q k)) (M2 (bR q k)) (M2 (bZ q k)) (M2 fun _ => pad q.bias) (M2 fun _ => pad q.al) (M2 (bD q)) (M2 fun _ => q.w) = M2 (q.state (k + 1)) := by
  unfold sout0_A_0
  rw [View.read_writes_junk_eq_canon, state_A]
  refine Eq.trans ?_ (canon_lanes (fun g => shapeCast S128x256 ((part (F := Ideal) arg1 harg1 arg2 harg2 arg5 harg5 arg6 harg6 arg7 harg7 arg12 (M2 (bX q k)) (M2 (bR q k)) (M2 fun _ => pad q.bias) (M2 fun _ => pad q.al) (M2 (bD q))
      (fresh (F := Ideal) arg1 harg1 arg2 harg2 arg5 harg5 arg6 harg6 arg7 harg7 arg11 arg12 (M2 (bX q k)) (M2 (bR q k)) (M2 fun _ => pad q.bias) (M2 fun _ => pad q.al) (M2 (bD q))) g).next g) shapeCasts_S128x256_S128x256)
    [⟨Rect.unit ![0, 0] S128x1024.size inb_S128x1024_S128x1024_0_0, zeroH (F := Ideal)⟩] _ fun g a l => ?_)
  · rfl
  · rw [next_real (part_of _ _ _ _ _ _ _ _ _ _ _ q k _ (q.state k) g ((fresh_real _ _ _ _ _ _ _ _ _ _ _ _ q _ _ _ _ _ g).trans (by rw [hk]; rfl))), M2_ix2, state_succ]
    pointwise
    rfl

theorem prev_real_B (hc0 : ¬cond0_0 i) : out0_B_8 (F := Ideal) c i arg1 harg1 arg2 harg2 arg3 harg3 arg5 harg5 arg6 harg6 arg7 harg7 arg8 harg8 arg9 harg9 arg10 harg10 arg11 harg11 arg12 harg12 hc0 (M2 (bX q k)) (M2 (bR q k)) (M2 (bZ q k)) (M2 fun _ => pad q.bias) (M2 fun _ => pad q.al) (M2 (bD q)) (M2 fun _ => q.w) (M2 (q.state k)) = A3 fun _ n l => q.state k n l := by
  unfold out0_B_8
  rw [View.read_writes_junk_eq_canon, prev_B]
  refine (View.canon_cons_unit_lit _ _ [] (by decide)).trans ?_
  refine (congrArg k0_pay3 ?_).trans (pay3_real (q.state k))
  exact load_M2 arg11 harg11 (q.state k) 0 0 _ _ fun a l hi hj => by congr 1 <;> exact Fin.ext (Nat.zero_add _)

theorem prev_real_A (hc0 : cond0_0 i) (hk : k = 0) : out0_A_8 (F := Ideal) c i arg1 harg1 arg2 harg2 arg3 harg3 arg5 harg5 arg6 harg6 arg7 harg7 arg8 harg8 arg9 harg9 arg10 harg10 arg11 harg11 arg12 harg12 hc0 (M2 (bX q k)) (M2 (bR q k)) (M2 (bZ q k)) (M2 fun _ => pad q.bias) (M2 fun _ => pad q.al) (M2 (bD q)) (M2 fun _ => q.w) = A3 fun _ n l => q.state k n l := by
  unfold out0_A_8
  rw [View.read_writes_junk_eq_canon, prev_A]
  refine (View.canon_cons_unit_lit _ _ [] (by decide)).trans ?_
  refine (congrArg k0_pay3 ?_).trans (pay3_real (q.state k))
  rw [View.readCov_fill _ _ _ _ _ (by decide), zeroH_real, hk]
  rfl
end

/-- The memory's argument arrays are the layer's real data `q`. -/
structure Holds (q : Seq) (c : Dev nD) : Prop where
  h0 : m ((c : Thread nD τ).loc main_arg0) = M2 q.X
  h1 : m ((c : Thread nD τ).loc main_arg1) = M2 q.P
  h3 : m ((c : Thread nD τ).loc main_arg3) = M2 fun _ => q.bias
  h4 : m ((c : Thread nD τ).loc main_arg4) = M2 fun _ => q.al
  h5 : m ((c : Thread nD τ).loc main_arg5) = M2 fun _ => q.d
  h6 : m ((c : Thread nD τ).loc main_arg6) = M2 fun _ => q.w

theorem real_row {n : ℕ} (X : (⟨2, ![1, n]⟩ : Shape).Idx → EReal) (h : IsReal X) : ∃ x : Fin n → ℝ, X = M2 fun _ => x := by
  obtain ⟨x, rfl⟩ := h
  exact ⟨fun k => x (ix2 0 k), funext fun i => by congr 2; exact (eq_ix2 i).trans (by congr 1; exact Subsingleton.elim _ _)⟩

theorem holds_of_finite (hp : Cert.Pre_Kernel5Ideal_finite5 m) (c : Dev nD) : ∃ q, Holds m q c := by
  obtain ⟨h0, h1, h3, h4, h5, h6⟩ := finite_args m hp c
  obtain ⟨X, h0⟩ := real2 _ h0
  obtain ⟨P, h1⟩ := real2 _ h1
  obtain ⟨b, h3⟩ := real_row _ h3
  obtain ⟨al, h4⟩ := real_row _ h4
  obtain ⟨d, h5⟩ := real_row _ h5
  obtain ⟨w, h6⟩ := real_row _ h6
  exact ⟨⟨X, P, b, al, d, w⟩, h0, h1, h3, h4, h5, h6⟩

/-- Each window's block at a grid point. -/
theorem blockIdx : ∀ t : Fin cfg0.N, win0_0.index t = ![t.val, 0]
    ∧ win0_1.index t = ![t.val, 40]
    ∧ win0_2.index t = ![t.val, 2]
    ∧ win0_3.index t = ![0, 0]
    ∧ win0_4.index t = ![0, 0]
    ∧ win0_5.index t = ![0, 0]
    ∧ win0_6.index t = ![0, 0]
    ∧ win0_7.index t = ![t.val, 1]
    ∧ win0_8.index t = ![t.val, 0, 0] :=
  (by decide +kernel : ∀ t : Fin grid0.N, _)

/-- The chunk a grid point works on. -/
def at_ (t : Fin cfg0.N) : Fin 16 := ⟨t.val, by have := t.isLt; have : cfg0.N = 16 := N_0; omega⟩

variable {m} {q : Seq} {c : Dev nD} (H : Holds m q c) (t : Fin cfg0.N)

include H in
theorem block0 : iblk m c 0 t = M2 (bX q (at_ t)) := by
  funext y
  have e : (win0_0.blk t).view.emb y = ix2 (rowAt (at_ t) (y 0)) (y 1) := by blk_ext [blockIdx t, rowAt, at_]
  blk_simp [iblk]
  rw [V_main_arg0 m c, H.h0]
  rw [e]
  rfl
include H in
theorem block1 : iblk m c 1 t = M2 (bR q (at_ t)) := by
  funext y
  have e : (win0_1.blk t).view.emb y = ix2 (rowAt (at_ t) (y 0)) (⟨5120 + (y 1).1, by have : (y 1).1 < 128 := (y 1).2; omega⟩ : Fin 5632) := by blk_ext [blockIdx t, rowAt, at_]
  blk_simp [iblk]
  rw [V_main_arg1 m c, H.h1]
  rw [e]
  rfl
include H in
theorem block2 : X0_2 m c t = M2 (bZ q (at_ t)) := by
  funext y
  unfold X0_2 Pipeline.Window.fill
  rw [dif_pos (moved0_2 t y)]
  have e : (win0_2.blk t).view.emb (fun a => ⟨(y a).1, ((cfg0.win 2).moved_iff _ y).mp (moved0_2 t y) a⟩) = ix2 (rowAt (at_ t) (y 0)) (⟨2048 + (y 1).1, by have : (y 1).1 < 1024 := (y 1).2; omega⟩ : Fin 5632) := by blk_ext [blockIdx t, rowAt, at_]
  blk_simp [iblk]
  rw [V_main_arg1 m c, H.h1]
  rw [e]
  rfl

/-- A row of head values filled up with zeros. -/
theorem pad_real (b : S1x16.Idx → EReal) (v : Fin 16 → ℝ) (hb : b = M2 fun _ => v) :
    concatenate S1x128 1 [⟨S1x16, b⟩, ⟨S1x112, broadcastInDim S1x112 ![] bcast_S_S1x112 (constant (F := Ideal) S_ FTy.f32 0#32)⟩]
      concatenates_S1x16_S1x112_S1x128_d1 = M2 fun _ => pad v := by
  subst hb
  funext i
  obtain ⟨a, h, rfl⟩ : ∃ a h, i = ix2 a h := ⟨i 0, i 1, eq_ix2 i⟩
  rw [M2_ix2]
  by_cases hh : h.1 < 16
  · refine (concatenate_pair_apply_left (s₁ := S1x16) (s₂ := S1x112) 1 _ _ _ (ix2 a h) rfl (ix2 a (⟨h.1, hh⟩ : Fin 16)) (by intro b; fin_cases b <;> rfl)).trans ?_
    exact congrArg (fun x : ℝ => (x : EReal)) (dif_pos hh : Ssd.pad v h = v ⟨h.1, hh⟩).symm
  · refine (concatenate_pair_apply_right (s₁ := S1x16) (s₂ := S1x112) 1 _ _ _ (ix2 a h) rfl rfl (ix2 a (⟨h.1 - 16, by omega⟩ : Fin 112))
      (by intro b hb; fin_cases b; rfl; exact absurd rfl hb) (by show h.1 - 16 + 16 = h.1; omega)).trans ?_
    rw [show Ssd.pad v h = 0 from dif_neg hh]
    pointwise
    rfl

include H in
theorem block3 : iblk m c 3 t = M2 fun _ => pad q.bias := by
  funext y
  have e : (win0_3.blk t).view.emb y = ix2 (y 0) (y 1) := by blk_ext [blockIdx t]
  blk_simp [iblk]
  entry_read
  refine (congrFun (pad_real _ _ H.h3) _).trans ?_
  rw [e]
  rfl
include H in
theorem block4 : iblk m c 4 t = M2 fun _ => pad q.al := by
  funext y
  have e : (win0_4.blk t).view.emb y = ix2 (y 0) (y 1) := by blk_ext [blockIdx t]
  blk_simp [iblk]
  entry_read
  refine (congrFun (pad_real _ _ H.h4) _).trans ?_
  rw [e]
  rfl
/-- The skip weights spread over their lanes. -/
theorem skip_real (b : S1x16.Idx → EReal) (v : Fin 16 → ℝ) (hb : b = M2 fun _ => v) :
    shapeCast S1x1024 (broadcastInDim S1x16x64 ![0, 1] bcast_S1x16_S1x16x64_0_1 b) shapeCasts_S1x16x64_S1x1024
      = M2 fun (_ : Fin 1) (l : Fin 1024) => v ⟨l / 64, by omega⟩ := by
  subst hb
  funext i
  obtain ⟨a, h, rfl⟩ : ∃ a h, i = ix2 a h := ⟨i 0, i 1, eq_ix2 i⟩
  rw [M2_ix2]
  pointwise
  rfl
include H in
theorem block5 : iblk m c 5 t = M2 (bD q) := by
  funext y
  have e : (win0_5.blk t).view.emb y = ix2 (y 0) (y 1) := by blk_ext [blockIdx t]
  blk_simp [iblk]
  entry_read
  refine (congrFun (skip_real _ _ H.h5) _).trans ?_
  rw [e]
  rfl
include H in
theorem block6 : iblk m c 6 t = M2 fun _ => q.w := by
  funext y
  have e : (win0_6.blk t).view.emb y = ix2 (y 0) (y 1) := by blk_ext [blockIdx t]
  blk_simp [iblk]
  rw [V_main_arg6 m c, H.h6]
  rw [e]
  rfl

/-! ## Over the grid -/

include H in
/-- After a point the carried state is the state after its chunk. -/
theorem carried : ∀ (n : ℕ) (hn : n < cfg0.N), (outsAt0 m c n hn).2.2 = M2 (q.state (n + 1)) := by
  intro n
  induction n with
  | zero =>
    intro hn
    rw [outsAt0_A m c ⟨0, hn⟩ rfl]
    dsimp only
    rw [block0 H, block1 H, block2 H, block3 H, block4 H, block5 H, block6 H]
    rw [next_A _ _ _ _ _ _ _ _ _ _ _ _ _ _ _ _ _ _ _ _ _ _ _ _ q (at_ ⟨0, hn⟩) _ rfl]
    rfl
  | succ n ih =>
    intro hn
    have hN : cfg0.N = 16 := N_0
    rw [outsAt0_B m c ⟨n + 1, hn⟩ (by show ¬(n + 1) % 16 = 0; omega)]
    dsimp only
    rw [block0 H, block1 H, block2 H, block3 H, block4 H, block5 H, block6 H]
    have e : ∀ h, (outsAt0 m c (n + 1 - 1) h).2.2 = M2 (q.state (at_ ⟨n + 1, hn⟩)) := fun h => ih h
    rw [e]
    rw [next_B _ _ _ _ _ _ _ _ _ _ _ _ _ _ _ _ _ _ _ _ _ _ _ _ q (at_ ⟨n + 1, hn⟩) _]
    rfl

include H in
theorem at_point : (outsAt0 m c t.val t.isLt).1 = M2 (rows q (at_ t)) ∧ (outsAt0 m c t.val t.isLt).2.1 = A3 fun _ n l => q.state (at_ t) n l := by
  have hN : cfg0.N = 16 := N_0
  have hlt := t.isLt
  by_cases h : t.val % 16 = 0
  · have hk : at_ t = 0 := Fin.ext (by show t.val = 0; omega)
    rw [outsAt0_A m c t h]
    dsimp only
    rw [block0 H, block1 H, block2 H, block3 H, block4 H, block5 H, block6 H]
    rw [out_A _ _ _ _ _ _ _ _ _ _ _ _ _ _ _ _ _ _ _ _ _ _ _ _ q (at_ t) _ hk, prev_real_A _ _ _ _ _ _ _ _ _ _ _ _ _ _ _ _ _ _ _ _ _ _ _ _ q (at_ t) _ hk]
    exact ⟨rfl, rfl⟩
  · have hs : ∀ hn, (outsAt0 m c (t.val - 1) hn).2.2 = M2 (q.state (at_ t)) := fun hn => by
      rw [carried H, show t.val - 1 + 1 = t.val by omega]
      rfl
    rw [outsAt0_B m c t h]
    dsimp only
    rw [hs, block0 H, block1 H, block2 H, block3 H, block4 H, block5 H, block6 H]
    rw [out_B _ _ _ _ _ _ _ _ _ _ _ _ _ _ _ _ _ _ _ _ _ _ _ _ q (at_ t) _, prev_real_B _ _ _ _ _ _ _ _ _ _ _ _ _ _ _ _ _ _ _ _ _ _ _ _ q (at_ t) _]
    exact ⟨rfl, rfl⟩

include H in
theorem result_prev : (dats m 0 c).arrAt 8 cfg0.N = A3 fun (k : Fin 16) n l => q.state k n l := by
  refine (dats m 0 c).arrAt_eq_of_covers 8 _ (by decide +kernel) fun t hf y => ?_
  have e : (win0_8.blk t).view.emb y = ix3 (at_ t) (y 1) (y 2) := by blk_ext [blockIdx t, at_]
  blk_simp
  rw [after0_8, (at_point H t).2, e]
  rfl

/-- Half of the joined columns. -/
abbrev Half : Shape := ⟨2, ![2048, 1024]⟩

theorem joins : Shape.Concatenates [Half, Half] S2048x2048 1 := by decide

/-- The mixed columns rounded, with the layer's output as their second half. -/
def joined (a : S2048x2048.Idx → EReal) (b : Half.Idx → EReal) : S2048x2048.Idx → EReal :=
  concatenate S2048x2048 1 [⟨Half, truncf (F := Ideal) .bf16 (extractStridedSlice Half ![0, 0] a (by decide)) bitsLt_bf16_f32⟩, ⟨Half, b⟩] joins

include H in
theorem result_out : (dats m 0 c).arrAt 7 cfg0.N
    = joined (m ((c : Thread nD τ).loc main_arg2)) (M2 fun s l => q.out (chunkOf s) (groupOf l) (posOf s) (placeOf l)) := by
  refine (dats m 0 c).arrAt_eq_of_coversWhere_of_agree 7 _ (fun β => β 1 = 1) (by decide +kernel) (fun t hf y => ?_) (fun j hj => ?_)
  · have e : (win0_7.blk t).view.emb y = ix2 (rowAt (at_ t) (y 0)) (⟨1024 + (y 1).1, by have : (y 1).1 < 1024 := (y 1).2; omega⟩ : Fin 2048) := by blk_ext [blockIdx t, rowAt, at_]
    blk_simp
    rw [after0_7, (at_point H t).1, e]
    refine Eq.trans ?_ (concatenate_pair_apply_right (s₁ := Half) (s₂ := Half) 1 _ _ joins (ix2 (rowAt (at_ t) (y 0)) (⟨1024 + (y 1).1, by have : (y 1).1 < 1024 := (y 1).2; omega⟩ : Fin 2048)) rfl rfl
      (ix2 (rowAt (at_ t) (y 0)) (y 1)) (by intro b hb; fin_cases b; rfl; exact absurd rfl hb) (Nat.add_comm _ _)).symm
    show _ = ((q.out (chunkOf (rowAt (at_ t) (y 0))) (groupOf (y 1)) (posOf (rowAt (at_ t) (y 0))) (placeOf (y 1)) : ℝ) : EReal)
    have ec : chunkOf (rowAt (at_ t) (y 0)) = at_ t := chunk_row _ _
    have ep : posOf (rowAt (at_ t) (y 0)) = y 0 := pos_row _ _
    rw [ec, ep]
    rfl
  · blk_simp [Pipeline.Window.cell_apply] at hj
    rw [show (dats m 0 c).A 7 = V m c (Pipeline.arrRef spec0 7) from A_eq m c 7]
    have e : (cfg0.win 7).arr.view.emb j = j := rfl
    rw [e]
    obtain ⟨s, l, rfl⟩ : ∃ (s : Fin 2048) (l : Fin 2048), j = ix2 s l := ⟨j 0, j 1, eq_ix2 j⟩
    have hl : l.1 < 1024 := by
      have h1 := l.2
      have h2 : ¬l.1 / 1024 = 1 := hj
      omega
    refine Eq.trans ?_ (concatenate_pair_apply_left (s₁ := Half) (s₂ := Half) 1 _ _ joins (ix2 s l) rfl (ix2 s (⟨l.1, hl⟩ : Fin 1024)) (by intro b; fin_cases b <;> rfl)).symm
    entry_read
    pointwise

end Cert.SsdFwd

end
-- ==== Proof.SsdFwdAlg.lean ====
/- The state space layer's forward call equals the plain layer over the extended reals. -/
module

public import proofs.«01_k».proof.Defs
public import proofs.«01_k».proof.Proof.SsdFwdOut
public import proofs.«01_k».proof.Proof.Gen.Reference5Ideal.Run
public import proofs.«01_k».proof.Proof.Gen.Pre_finite5

@[expose] public section

set_option maxRecDepth 16384

noncomputable section

namespace Cert.SsdFwd

open Idealize.ShloMosaic Idealize.ShloMosaic.TcCoe Idealize.SL.Sem
open Cert.Kernel5Ideal Cert.Kernel5Ideal.Gen Cert.Ssd Cert.SsdHost Cert.Reals Cert.Norm
open Cert.Reference5Ideal.Value

/-- A device's buffers whose arguments are the real arrays of `q`. -/
structure RefHolds (V : Valuation Cert.Reference5Ideal.τ Cert.Reference5Ideal.sig (Elt Ideal)) (q : Seq) : Prop where
  h0 : V (Proc.devRef .tc Cert.Reference5Ideal.main_arg0) = M2 q.X
  h1 : V (Proc.devRef .tc Cert.Reference5Ideal.main_arg1) = M2 q.P
  h3 : V (Proc.devRef .tc Cert.Reference5Ideal.main_arg3) = M2 fun _ => q.bias
  h4 : V (Proc.devRef .tc Cert.Reference5Ideal.main_arg4) = M2 fun _ => q.al
  h5 : V (Proc.devRef .tc Cert.Reference5Ideal.main_arg5) = M2 fun _ => q.d
  h6 : V (Proc.devRef .tc Cert.Reference5Ideal.main_arg6) = M2 fun _ => q.w

variable {q : Seq} {V : Valuation Cert.Reference5Ideal.τ Cert.Reference5Ideal.sig (Elt Ideal)} (E : RefHolds V q)

include E in
theorem ref205 : res_main_v205 (F := Ideal) V = A5 fun c g j p n => q.state c n (lane g (ln j p)) := by
  have e : res_main_v205 (F := Ideal) V = prevAll (F := Ideal) (V (Proc.devRef .tc Cert.Reference5Ideal.main_arg0)) (V (Proc.devRef .tc Cert.Reference5Ideal.main_arg1))
      (V (Proc.devRef .tc Cert.Reference5Ideal.main_arg3)) (V (Proc.devRef .tc Cert.Reference5Ideal.main_arg4)) := rfl
  rw [e, E.h0, E.h1, E.h3, E.h4]
  exact prevAll_real q

include E in
theorem ref226 : res_main_v226 (F := Ideal) V
    = gatedA (yAll (F := Ideal) (M2 q.X) (M2 q.P) (M2 fun _ => q.bias) (M2 fun _ => q.al) (M2 fun _ => q.d)) (zA (M2 q.P)) := by
  have e : res_main_v226 (F := Ideal) V = gatedA (yAll (F := Ideal) (V (Proc.devRef .tc Cert.Reference5Ideal.main_arg0)) (V (Proc.devRef .tc Cert.Reference5Ideal.main_arg1))
      (V (Proc.devRef .tc Cert.Reference5Ideal.main_arg3)) (V (Proc.devRef .tc Cert.Reference5Ideal.main_arg4)) (V (Proc.devRef .tc Cert.Reference5Ideal.main_arg5)))
      (zA (V (Proc.devRef .tc Cert.Reference5Ideal.main_arg1))) := rfl
  rw [e, E.h0, E.h1, E.h3, E.h4, E.h5]

/-- The states before the chunks, laid out with the heads' lanes side by side. -/
theorem laid_out (f : Fin 16 → Fin 4 → Fin 4 → Fin 64 → Fin 128 → ℝ) (H : Fin 16 → Fin 128 → Fin 1024 → ℝ)
    (h : ∀ c g j p n, f c g j p n = H c n (lane g (ln j p))) :
    shapeCast Cert.Reference5Ideal.S16x128x1024 (transpose Cert.Reference5Ideal.S16x128x4x4x64 [0, 4, 1, 2, 3] (A5 f) Cert.Reference5Ideal.Gen.facts.transposes_S16x4x4x64x128_S16x128x4x4x64_0_4_1_2_3)
      Cert.Reference5Ideal.Gen.facts.shapeCasts_S16x128x4x4x64_S16x128x1024 = A3 H := by
  funext y
  obtain ⟨c, n, l, rfl⟩ : ∃ (c : Fin 16) (n : Fin 128) (l : Fin 1024), y = ix3 c n l := ⟨y 0, y 1, y 2, eq_ix3 y⟩
  pointwise
  refine congrArg (fun x : ℝ => (x : EReal)) ((h _ _ _ _ _).trans (congrArg (H c n) (Fin.ext ?_)))
  show l.1 / 256 * 256 + (l.1 / 64 % 4 * 64 + l.1 % 64) = l.1
  omega

theorem algebraic : Cert.algebraic_Kernel5Ideal_Reference5Ideal_pre_finite5 := by
  pair_intro
  · exact Cert.Kernel5Ideal.Value.run_blocks m g
  · refine (θ_run _ _ _).mono (fun r h c => ?_) (Cert.Reference5Ideal.Value.run m' g')
    obtain ⟨e0, e1, er⟩ := h c
    obtain ⟨q, H⟩ := holds_of_finite m hpre c
    obtain ⟨a0, a1, a2, a3, a4, a5, a6⟩ := hagree c
    clear h
    have E : RefHolds (StableHlo.launchContents m' c) q :=
      ⟨a0.trans H.h0, a1.trans H.h1, a3.trans H.h3, a4.trans H.h4, a5.trans H.h5, a6.trans H.h6⟩
    refine ⟨e0.trans (Eq.trans ?_ (result_out H).symm), e1.trans (Eq.trans ?_ (result_prev H).symm), er⟩
    · rw [ref226 E, E.h6, ← outAll_real q]
      have a2' : StableHlo.launchContents m' c (Proc.devRef .tc Cert.Reference5Ideal.main_arg2) = m ((c : Thread nD τ).loc main_arg2) := a2
      rw [a2']
      rfl
    · rw [ref205 E]
      exact laid_out _ _ fun c g j p n => rfl

end Cert.SsdFwd

end
-- ==== Proof.SsdBwd.lean ====
/- The state space layer's backward chunk, as vector operations named after what they compute, and the stores of the backward
   kernel's grid points in terms of them. -/
module

public import proofs.«01_k».proof.Proof.SsdFwd
public import proofs.«01_k».proof.Proof.Gen.Kernel6Ideal.Value
public import Idealize.ShloMosaic.Lib.Pipeline.ValueKit

@[expose] public section

set_option maxRecDepth 16384

noncomputable section

namespace Cert.SsdBwd

open Cert.Kernel6Ideal Cert.Kernel6Ideal.Gen Cert.Ssd Idealize.ShloMosaic Idealize.ShloMosaic.TcCoe Idealize.SL.Sem
open Cert.SsdFwd (rW rX rB rC rR rH)

variable {F : FTy → Type} [FloatOps F] [Named F]

/-! ## The vector operations -/

/-- The sum over a chunk's rows. -/
def sumV (v : FVec F S128x256 .f32) : FVec F S1x256 .f32 :=
  shapeCast S1x256 (multiReduction .add [0] S256 v 0x00000000#32 reduces_S128x256_S256 (.inl rfl) rfl) shapeCasts_S256_S1x256

/-- The mean over a group's lanes. -/
def meanV (v : FVec F S128x256 .f32) : FVec F S128x1 .f32 :=
  divf (shapeCast S128x1 (multiReduction .add [1] S128 v 0x00000000#32 reduces_S128x256_S128 (.inl rfl) rfl) shapeCasts_S128_S128x1)
    (broadcast S128x1 (Scalar.ofBits .f32 0x43800000#32))

/-- The cotangent of the gated output before its norm. -/
def gatedV (y z o : FVec F S128x256 .f32) (w : FVec F S1x256 .f32) : FVec F S128x256 .f32 :=
  mulf (broadcastTo S128x256 (rmsV (mulf y (siluV z))) broadcasts_S128x1_S128x256)
    (subf (mulf o (rowV w)) (mulf (normedV y z) (broadcastTo S128x256 (meanV (mulf (mulf o (rowV w)) (normedV y z))) broadcasts_S128x1_S128x256)))

/-- The cotangent of the gate's columns. -/
def gateV (y z o : FVec F S128x256 .f32) (w : FVec F S1x256 .f32) : FVec F S128x256 .f32 :=
  mulf (mulf (mulf (gatedV y z o w) y) (logistic z)) (addf (broadcast S128x256 (Scalar.ofBits .f32 0x3F800000#32))
    (mulf z (subf (broadcast S128x256 (Scalar.ofBits .f32 0x3F800000#32)) (logistic z))))

/-- The products of a chunk's rows of lanes with each other. -/
def pairV (u v : FVec F S128x256 .f32) : FVec F S128x128 .f32 :=
  matmul dot_S128x256_S128x256_S128x128_1_1_0_0_n_n none (truncf .bf16 u bitsLt_bf16_f32) (truncf .bf16 v bitsLt_bf16_f32)
    (constant S128x128 .f32 0x00000000#32)

/-- The product of two square matrices. -/
def sqV (u v : FVec F S128x128 .f32) : FVec F S128x128 .f32 :=
  matmul dot_S128x128_S128x128_S128x128_1_0_0_1_n_n none (truncf .bf16 u bitsLt_bf16_f32) (truncf .bf16 v bitsLt_bf16_f32)
    (constant S128x128 .f32 0x00000000#32)

/-- The product of two square matrices, the first transposed. -/
def sqTV (u v : FVec F S128x128 .f32) : FVec F S128x128 .f32 :=
  matmul dot_S128x128_S128x128_S128x128_0_0_1_1_n_n none (truncf .bf16 u bitsLt_bf16_f32) (truncf .bf16 v bitsLt_bf16_f32)
    (constant S128x128 .f32 0x00000000#32)

/-- The sums of `m`'s rows added into column `h` of `v`. -/
def addCol (v m : FVec F S128x128 .f32) (h : ℕ) : FVec F S128x128 .f32 :=
  addf v (select (cmpi .eq (iota .tc S128x128 32 [1] iota_S128x128_d1_w32) (broadcast S128x128 (BitVec.ofNat 32 h)))
    (broadcastTo S128x128 (shapeCast S128x1 (shapeCast S128x1 (multiReduction .add [1] S128 m 0x00000000#32 reduces_S128x128_S128_2 (.inl rfl) rfl)
      shapeCasts_S128_S128x1) shapeCasts_S128x1_S128x1) broadcasts_S128x1_S128x128) (zeroV _))

/-- The sums of `m`'s columns added into row `h` of `v`. -/
def addRow (v m : FVec F S128x128 .f32) (h : ℕ) : FVec F S128x128 .f32 :=
  addf v (select (cmpi .eq (iota .tc S128x128 32 [0] iota_S128x128_d0_w32) (broadcast S128x128 (BitVec.ofNat 32 h)))
    (broadcastTo S128x128 (shapeCast S1x128 (shapeCast S1x128 (multiReduction .add [0] S128 m 0x00000000#32 reduces_S128x128_S128 (.inl rfl) rfl)
      shapeCasts_S128_S1x128) shapeCasts_S1x128_S1x128) broadcasts_S1x128_S128x128) (zeroV _))

/-- One where a lane belongs to a head, zero elsewhere. -/
def memberV : FVec F S1024x128 .f32 :=
  sitofp .f32 (extui 32 (cmpi .eq (shrsi (iota .tc S1024x128 32 [0] iota_S1024x128_d0_w32) (broadcast S1024x128 6#32))
    (iota .tc S1024x128 32 [1] iota_S1024x128_d1_w32)) natLt_1_32)

/-- One on and above the diagonal, zero below. -/
def upperV : FVec F S128x128 .f32 :=
  sitofp .f32 (extui 32 (cmpi .sge (iota .tc S128x128 32 [1] iota_S128x128_d1_w32)
    (iota .tc S128x128 32 [0] iota_S128x128_d0_w32)) natLt_1_32)

/-- The sums over each head's lanes, the lanes taken in two narrow parts. -/
def headSumV (v : FVec F S128x1024 .f32) : FVec F S128x128 .f32 :=
  let f := fun p : FVec F S128x1024 .f32 => matmul dot_S128x1024_S1024x128_S128x128_1_0_0_1_n_n none (truncf .bf16 p bitsLt_bf16_f32)
    (truncf .bf16 memberV bitsLt_bf16_f32) (constant S128x128 .f32 0x00000000#32)
  addf (f v) (f (restV v))

/-- The sums over each head's lanes of eight rows, the lanes taken in three narrow parts. -/
def headSumR (v : FVec F S8x1024 .f32) : FVec F S8x128 .f32 :=
  let f := fun p : FVec F S8x1024 .f32 => matmul dot_S8x1024_S1024x128_S8x128_1_0_0_1_n_n none (truncf .bf16 p bitsLt_bf16_f32)
    (truncf .bf16 memberV bitsLt_bf16_f32) (constant S8x128 .f32 0x00000000#32)
  addf (addf (f v) (f (restV v))) (f (restV (restV v)))

/-- The cotangent of the log decays: from the running sums' cotangents and the chunk total's. -/
def logCot (heads rows : FVec F S128x128 .f32) (cs : FVec F S128x1024 .f32) (acc : FVec F S8x1024 .f32) : FVec F S128x128 .f32 :=
  addf (exactDot upperV (addf (subf heads (transpose S128x128 [1, 0] rows transposes_S128x128_p1_0_S128x128)) (headSumV cs)))
    (broadcastTo S128x128 (extractStridedSlice S1x128 ![2, 0] (headSumR acc) slices_S8x128_o2_0_S1x128) broadcasts_S1x128_S128x128)

/-- The cotangent of the raw step sizes. -/
def rawCot (a : FVec F S128x128 .f32) (dts : FVec F S128x1024 .f32) (rate : FVec F S1x128 .f32) (raw : FVec F S128x128 .f32) (bias : FVec F S1x128 .f32) :
    FVec F S128x128 .f32 :=
  mulf (addf (headSumV dts) (mulf a (broadcastTo S128x128 rate broadcasts_S1x128_S128x128)))
    (logistic (addf raw (broadcastTo S128x128 (shapeCast S1x128 bias shapeCasts_S1x128_S1x128) broadcasts_S1x128_S128x128)))

/-- The sum over a chunk's rows added to a row. -/
def addSum (old : FVec F S1x128 .f32) (v : FVec F S128x128 .f32) : FVec F S1x128 .f32 :=
  addf (shapeCast S1x128 old shapeCasts_S1x128_S1x128)
    (shapeCast S1x128 (multiReduction .add [0] S128 v 0x00000000#32 reduces_S128x128_S128 (.inl rfl) rfl) shapeCasts_S128_S1x128)

/-- What a grid point reads: each group's part, its gate, its output cotangent, its norm weights and the cotangent of the
    state it handed on. -/
structure Point (F : FTy → Type) where
  part : Fin 4 → Part F
  z : Fin 4 → FVec F S128x256 .f32
  o : Fin 4 → FVec F S128x256 .f32
  w : Fin 4 → FVec F S1x256 .f32
  dh : Fin 4 → FVec F S128x256 .f32

namespace Point
variable (p : Point F) (g : Fin 4)

/-- The cotangent of the layer's output before the gate. -/
def dy : FVec F S128x256 .f32 := mulf (gatedV ((p.part g).y g) (p.z g) (p.o g) (p.w g)) (siluV (p.z g))

/-- The output's cotangent with the decay from the chunk's start. -/
def dyo : FVec F S128x256 .f32 := mulf (p.dy g) (exp (spreadV (p.part g).cs g))

/-- The cotangent of the decayed scores of head `j`. -/
def ds (j : ℕ) : FVec F S128x128 .f32 :=
  select (causalV (F := F)) (pairV (select (headV j) (p.dy g) (zeroV _)) ((p.part g).xdt g)) (zeroV _)

/-- The decayed scores of head `j`. -/
def sc (j : ℕ) : FVec F S128x128 .f32 := mulf (scoreV (p.part g).b (p.part g).c) ((p.part g).decay g j)

/-- The cotangent of the scores, summed over the heads. -/
def dcb : FVec F S128x128 .f32 :=
  addf (addf (addf (addf (zeroV _) (mulf (p.ds g 0) ((p.part g).decay g 0))) (mulf (p.ds g 1) ((p.part g).decay g 1)))
    (mulf (p.ds g 2) ((p.part g).decay g 2))) (mulf (p.ds g 3) ((p.part g).decay g 3))

/-- The products that a running sum's cotangent sums. -/
def m (j : ℕ) : FVec F S128x128 .f32 := mulf (p.ds g j) (p.sc g j)

/-- The state's cotangent seen from each position. -/
def dxd : FVec F S128x256 .f32 := mixV (p.part g).b (p.dh g)

/-- The cotangent of the stepped lanes. -/
def dxdt : FVec F S128x256 .f32 :=
  addf (headsV fun j => mixTV (p.sc g j) (p.dy g)) (mulf (p.dxd g) ((p.part g).toEnd g))

def qq : FVec F S128x256 .f32 := mulf (mulf (p.dxd g) ((p.part g).xdt g)) ((p.part g).toEnd g)

/-- The lanes' part of the running sums' cotangent. -/
def dcs : FVec F S128x256 .f32 := subf (mulf (p.dy g) ((p.part g).off g)) (p.qq g)

def etot : FVec F S1x256 .f32 := exp (spreadR (p.part g).tot g)

/-- The lanes' part of the chunk total's cotangent. -/
def dtot : FVec F S1x256 .f32 := addf (sumV (p.qq g)) (mulf (sumV (mulf (p.dh g) (p.part g).h)) (p.etot g))

/-- The cotangent of the state carried in. -/
def dprev : FVec F S128x256 .f32 := addf (mulf (rowV (p.etot g)) (p.dh g)) (mixTV (p.part g).c (p.dyo g))

def dc : FVec F S128x128 .f32 := addf (pairV (p.dyo g) (p.part g).h) (sqV (p.dcb g) (p.part g).b)
def db : FVec F S128x128 .f32 := addf (pairV (mulf ((p.part g).xdt g) ((p.part g).toEnd g)) (p.dh g)) (sqTV (p.dcb g) (p.part g).c)
def dx : FVec F S128x256 .f32 :=
  addf (mulf (p.dxdt g) (spreadV (p.part g).dt g)) (mulf (p.dy g) (rowV (shapeCast S1x256 (p.part g).d shapeCasts_S1x256_S1x256)))

/-- The row sums of the decayed scores' products, each head's in its column. -/
def heads : FVec F S128x128 .f32 :=
  [0, 1, 2, 3].foldl (fun v (g : Fin 4) => addCol (addCol (addCol (addCol v (p.m g 0) (4 * g + 0)) (p.m g 1) (4 * g + 1)) (p.m g 2) (4 * g + 2)) (p.m g 3) (4 * g + 3)) (zeroV _)

/-- The column sums of the decayed scores' products, each head's in its row. -/
def rows : FVec F S128x128 .f32 :=
  [0, 1, 2, 3].foldl (fun v (g : Fin 4) => addRow (addRow (addRow (addRow v (p.m g 0) (4 * g + 0)) (p.m g 1) (4 * g + 1)) (p.m g 2) (4 * g + 2)) (p.m g 3) (4 * g + 3)) (zeroV _)

end Point

/-! ## The stores -/

section
variable (c : Dev nD) (i : grid0.Coords) (arg1 : Memref sig .tc .vmem S128x2048 .f32) (harg1 : arg1.IsWhole)
  (arg2 : Memref sig .tc .vmem S128x128 .f32) (harg2 : arg2.IsWhole) (arg3 : Memref sig .tc .vmem S128x1024 .f32) (harg3 : arg3.IsWhole)
  (arg4 : Memref sig .tc .vmem S128x1024 .f32) (harg4 : arg4.IsWhole) (arg5 : Memref sig .tc .vmem S1x128x1024 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S128x2048 .f32) (harg10 : arg10.IsWhole) (arg11 : Memref sig .tc .vmem S128x128 .bf16) (harg11 : arg11.IsWhole)
  (arg12 : Memref sig .tc .vmem S128x1024 .bf16) (harg12 : arg12.IsWhole) (arg13 : Memref sig .tc .vmem S1x1024 .f32) (harg13 : arg13.IsWhole)
  (arg14 : Memref sig .tc .vmem S8x128 .f32) (harg14 : arg14.IsWhole) (arg15 : Memref sig .tc .vmem S128x1024 .f32) (harg15 : arg15.IsWhole)
  (arg16 : Memref sig .tc .vmem S128x128 .f32) (harg16 : arg16.IsWhole) (arg17 : Memref sig .tc .vmem S8x1024 .f32) (harg17 : arg17.IsWhole)
  (arg18 : Memref sig .tc .vmem S128x1024 .f32) (harg18 : arg18.IsWhole) (arg19 : Memref sig .tc .vmem S128x1024 .f32) (harg19 : arg19.IsWhole)
  (x0 : Vec F S128x2048 .f32) (x1 : Vec F S128x128 .f32) (x2 : Vec F S128x1024 .f32) (x3 : Vec F S128x1024 .f32) (x4 : Vec F S1x128x1024 .f32)
  (x5 : Vec F S1x128 .f32) (x6 : Vec F S1x128 .f32) (x7 : Vec F S1x1024 .f32) (x8 : Vec F S1x1024 .f32)
  (xo12 : Vec F S1x1024 .f32) (xo13 : Vec F S8x128 .f32) (xs0 : Vec F S128x1024 .f32) (xs2 : Vec F S8x1024 .f32)

theorem inbP (g : Fin 4) : ∀ a, (![0, 0, 256 * g] : Fin 3 → Nat) a + S1x128x256.size a ≤ S1x128x1024.size a := by revert g; decide
theorem inbA (r : Fin 8) (g : Fin 4) : ∀ a, (![r, 256 * g] : Fin 2 → Nat) a + S1x256.size a ≤ S8x1024.size a := by revert r g; decide
theorem inbS (r : Fin 8) : ∀ a, (![r, 0] : Fin 2 → Nat) a + S1x128.size a ≤ S8x128.size a := by revert r; decide

/-- Lane block `g` of the state carried in. -/
abbrev rP (g : Fin 4) : Rect S1x128x1024 := Rect.unit (s := S1x128x1024) ![0, 0, 256 * g] S1x128x256.size (inbP g)

/-- Lane block `g` of row `r` of the accumulator. -/
abbrev rA (r : Fin 8) (g : Fin 4) : Rect S8x1024 := Rect.unit (s := S8x1024) ![r, 256 * g] S1x256.size (inbA r g)

/-- Row `r` of the small sums. -/
abbrev rS (r : Fin 8) : Rect S8x128 := Rect.unit (s := S8x128) ![r, 0] S1x128.size (inbS r)

/-- The raw step sizes, their bias and the log rates at a grid point. -/
def rawL : FVec F S128x128 .f32 := View.readAt (Elt F) arg2.view (Rect.unit ![0, 0] S128x128.size inb_S128x128_S128x128_0_0).toLoadRect (harg2.unread x1)
def biasL : FVec F S1x128 .f32 := View.readAt (Elt F) arg6.view (Rect.unit ![0, 0] S1x128.size inb_S1x128_S1x128_0_0).toLoadRect (harg6.unread x5)
def rateL : FVec F S1x128 .f32 := View.readAt (Elt F) arg7.view (Rect.unit ![0, 0] S1x128.size inb_S1x128_S1x128_0_0).toLoadRect (harg7.unread x6)

/-- What a grid point reads; `dh` are the lane blocks of the state's cotangent. -/
def point (dh : Fin 4 → FVec F S128x256 .f32) : Point F where
  part g := {
    neg := Named.named κ "mask" 0xF149F2CA#32
    dt := dtV (rawL arg2 harg2 x1) (biasL arg6 harg6 x5)
    cs := cumV (logV (rawL arg2 harg2 x1) (biasL arg6 harg6 x5) (rateL arg7 harg7 x6))
    tot := totV (logV (rawL arg2 harg2 x1) (biasL arg6 harg6 x5) (rateL arg7 harg7 x6))
    row := fun h => if hh : h < 128 then View.readCov (Val := Elt F) arg16.view [⟨Rect.unit ![0, 0] S128x128.size inb_S128x128_S128x128_0_0,
      shapeCast S128x128 (transpose S128x128 [1, 0] (cumV (logV (rawL arg2 harg2 x1) (biasL arg6 harg6 x5) (rateL arg7 harg7 x6)))
        transposes_S128x128_p1_0_S128x128) shapeCasts_S128x128_S128x128⟩] (rH ⟨h, hh⟩).toLoadRect else zeroV _
    x := View.readAt (Elt F) arg1.view (rX g).toLoadRect (harg1.unread x0)
    b := View.readAt (Elt F) arg1.view (rB g).toLoadRect (harg1.unread x0)
    c := View.readAt (Elt F) arg1.view (rC g).toLoadRect (harg1.unread x0)
    h := shapeCast S128x256 (View.readAt (Elt F) arg5.view (rP g).toLoadRect (harg5.unread x4)) shapeCasts_S1x128x256_S128x256
    d := View.readAt (Elt F) arg8.view (rR g).toLoadRect (harg8.unread x7) }
  z g := View.readAt (Elt F) arg3.view (rW g).toLoadRect (harg3.unread x2)
  o g := View.readAt (Elt F) arg4.view (rW g).toLoadRect (harg4.unread x3)
  w g := View.readAt (Elt F) arg9.view (rR g).toLoadRect (harg9.unread x8)
  dh := dh

/-- The lane blocks of the state's cotangent as the point before left it. -/
def held (g : Fin 4) : FVec F S128x256 .f32 := View.readAt (Elt F) arg15.view (rW g).toLoadRect (harg15.unread xs0)

section
variable (p : Point F)

/-- The stores of the cotangent of the joined columns. -/
def colStores : List (View.Piece (Elt F) S128x2048 .f32) :=
  [3, 2, 1, 0].flatMap fun g : Fin 4 => [⟨rC g, p.dc g⟩, ⟨rB g, p.db g⟩, ⟨rX g, p.dx g⟩]

/-- The stores of the gate's cotangent. -/
def gateStores : List (View.Piece (Elt F) S128x1024 .bf16) :=
  [3, 2, 1, 0].map fun g : Fin 4 => ⟨rW g, truncf .bf16 (gateV ((p.part g).y g) (p.z g) (p.o g) (p.w g)) bitsLt_bf16_f32⟩

/-- The stores of the norm weights' cotangent, over the loads `old`. -/
def normStores (old : Fin 4 → FVec F S1x256 .f32) : List (View.Piece (Elt F) S1x1024 .f32) :=
  [3, 2, 1, 0].map fun g : Fin 4 => ⟨rR g, addf (shapeCast S1x256 (old g) shapeCasts_S1x256_S1x256) (sumV (mulf (p.o g) (normedV ((p.part g).y g) (p.z g))))⟩

/-- The stores of the carried cotangent. -/
def stateStores : List (View.Piece (Elt F) S128x1024 .f32) :=
  [3, 2, 1, 0].map fun g : Fin 4 => ⟨rW g, shapeCast S128x256 (p.dprev g) shapeCasts_S128x256_S128x256⟩

/-- The stores of the accumulator, over the loads `old`. -/
def accStores (old : Fin 4 → FVec F S1x256 .f32) : List (View.Piece (Elt F) S8x1024 .f32) :=
  [3, 2, 1, 0].flatMap fun g : Fin 4 => [⟨rA 2 g, shapeCast S1x256 (p.dtot g) shapeCasts_S1x256_S1x256⟩,
    ⟨rA 0 g, shapeCast S1x256 (addf (old g) (sumV (mulf (p.dy g) (p.part g).x))) shapeCasts_S1x256_S1x256⟩]

/-- The lanes' part of the running sums' cotangent, read back. -/
def csBack : FVec F S128x1024 .f32 := View.readCov (Val := Elt F) arg18.view
  ([3, 2, 1, 0].map fun g : Fin 4 => ⟨rW g, shapeCast S128x256 (p.dcs g) shapeCasts_S128x256_S128x256⟩)
  (Rect.unit ![0, 0] S128x1024.size inb_S128x1024_S128x1024_0_0).toLoadRect

/-- The lanes' part of the step sizes' cotangent, read back. -/
def dtBack : FVec F S128x1024 .f32 := View.readCov (Val := Elt F) arg19.view
  ([3, 2, 1, 0].map fun g : Fin 4 => ⟨rW g, shapeCast S128x256 (mulf (p.dxdt g) (p.part g).x) shapeCasts_S128x256_S128x256⟩)
  (Rect.unit ![0, 0] S128x1024.size inb_S128x1024_S128x1024_0_0).toLoadRect

/-- The cotangent of the log decays at a grid point, `acc` being the accumulator as read back. -/
def aAt (acc : FVec F S8x1024 .f32) : FVec F S128x128 .f32 := logCot p.heads p.rows (csBack arg18 p) acc

/-- The cotangent of the raw step sizes at a grid point. -/
def rawAt (acc : FVec F S8x1024 .f32) : FVec F S128x128 .f32 :=
  rawCot (aAt arg18 p acc) (dtBack arg19 p) (rateV (rateL arg7 harg7 x6)) (rawL arg2 harg2 x1) (biasL arg6 harg6 x5)

/-- The two rows of small sums stored at a grid point over the rows `o1` and `o0`. -/
def smallStores (acc : FVec F S8x1024 .f32) (o0 o1 : FVec F S1x128 .f32) : List (View.Piece (Elt F) S8x128 .f32) :=
  [⟨rS 0, addSum o0 (rawAt arg2 harg2 arg6 harg6 arg7 harg7 arg18 arg19 x1 x5 x6 p acc)⟩,
   ⟨rS 1, addSum o1 (mulf (aAt arg18 p acc) (p.part 0).dt)⟩]

end

/-- The accumulator read back over what the point before left. -/
def accBack (p : Point F) : FVec F S8x1024 .f32 :=
  View.readAt (Elt F) arg17.view (Rect.unit ![0, 0] S8x1024.size inb_S8x1024_S8x1024_0_0).toLoadRect
    (arg17.view.writes (Elt F) (harg17.unread xs2) (accStores p fun g => View.readAt (Elt F) arg17.view (rA 0 g).toLoadRect (harg17.unread xs2)))

/-- The point's reads when the carried cotangent is `xs0`. -/
abbrev pointB : Point F := point arg1 harg1 arg2 harg2 arg3 harg3 arg4 harg4 arg5 harg5 arg6 harg6 arg7 harg7 arg8 harg8 arg9 harg9 arg16 x0 x1 x2 x3 x4 x5 x6 x7 x8 (held arg15 harg15 xs0)

/-- The stores into the carried cotangent at the first point, up to lane block `n`: the fill by zero, then each block's new value. -/
def freshStores : (n : ℕ) → n ≤ 4 → List (View.Piece (Elt F) S128x1024 .f32)
  | 0, _ => [⟨Rect.unit ![0, 0] S128x1024.size inb_S128x1024_S128x1024_0_0, shapeCast S128x1024 (zeroV _) shapeCasts_S128x1024_S128x1024⟩]
  | k + 1, hk => ⟨rW ⟨k, hk⟩, shapeCast S128x256 ((point arg1 harg1 arg2 harg2 arg3 harg3 arg4 harg4 arg5 harg5 arg6 harg6 arg7 harg7 arg8 harg8 arg9 harg9 arg16
      x0 x1 x2 x3 x4 x5 x6 x7 x8 fun g => View.readCov (Val := Elt F) arg15.view (freshStores k (Nat.le_of_succ_le hk)) (rW g).toLoadRect).dprev ⟨k, hk⟩) shapeCasts_S128x256_S128x256⟩
      :: freshStores k (Nat.le_of_succ_le hk)

/-- The point's reads at the first point. -/
abbrev pointA : Point F := point arg1 harg1 arg2 harg2 arg3 harg3 arg4 harg4 arg5 harg5 arg6 harg6 arg7 harg7 arg8 harg8 arg9 harg9 arg16 x0 x1 x2 x3 x4 x5 x6 x7 x8
  fun g => View.readCov (Val := Elt F) arg15.view (freshStores arg1 harg1 arg2 harg2 arg3 harg3 arg4 harg4 arg5 harg5 arg6 harg6 arg7 harg7 arg8 harg8 arg9 harg9 arg15 arg16
    x0 x1 x2 x3 x4 x5 x6 x7 x8 g.1 g.2.le) (rW g).toLoadRect

/-- The stores of the norm weights' cotangent at the first point, up to lane block `n`. -/
def freshNorm (p : Point F) : ℕ → List (View.Piece (Elt F) S1x1024 .f32)
  | 0 => [⟨Rect.unit ![0, 0] S1x1024.size inb_S1x1024_S1x1024_0_0, zeroV _⟩]
  | k + 1 => ⟨rR (Fin.ofNat 4 k), addf (shapeCast S1x256 (View.readCov (Val := Elt F) arg13.view (freshNorm p k) (rR (Fin.ofNat 4 k)).toLoadRect) shapeCasts_S1x256_S1x256)
      (sumV (mulf (p.o (Fin.ofNat 4 k)) (normedV ((p.part (Fin.ofNat 4 k)).y k) (p.z (Fin.ofNat 4 k)))))⟩ :: freshNorm p k

/-- The stores of the accumulator at the first point, up to lane block `n`. -/
def freshAcc (p : Point F) : ℕ → List (View.Piece (Elt F) S8x1024 .f32)
  | 0 => [⟨Rect.unit ![0, 0] S8x1024.size inb_S8x1024_S8x1024_0_0, shapeCast S8x1024 (zeroV _) shapeCasts_S8x1024_S8x1024⟩]
  | k + 1 => ⟨rA 2 (Fin.ofNat 4 k), shapeCast S1x256 (p.dtot (Fin.ofNat 4 k)) shapeCasts_S1x256_S1x256⟩ ::
      ⟨rA 0 (Fin.ofNat 4 k), shapeCast S1x256 (addf (View.readCov (Val := Elt F) arg17.view (freshAcc p k) (rA 0 (Fin.ofNat 4 k)).toLoadRect)
        (sumV (mulf (p.dy (Fin.ofNat 4 k)) (p.part (Fin.ofNat 4 k)).x))) shapeCasts_S1x256_S1x256⟩ :: freshAcc p k

/-- The accumulator read back at the first point. -/
def freshBack (p : Point F) : FVec F S8x1024 .f32 :=
  View.readCov (Val := Elt F) arg17.view (freshAcc arg17 p 4) (Rect.unit ![0, 0] S8x1024.size inb_S8x1024_S8x1024_0_0).toLoadRect

/-- The fill of the small sums by zero. -/
def fillS : View.Piece (Elt F) S8x128 .f32 :=
  ⟨Rect.unit ![0, 0] S8x128.size inb_S8x128_S8x128_0_0, zeroV _⟩

/-- The stores of the small sums at the first point. -/
def freshSmall (p : Point F) (acc : FVec F S8x1024 .f32) : List (View.Piece (Elt F) S8x128 .f32) :=
  [⟨rS 0, addSum (View.readCov (Val := Elt F) arg14.view
      [⟨rS 1, addSum (View.readCov (Val := Elt F) arg14.view [fillS] (rS 1).toLoadRect) (mulf (aAt arg18 p acc) (p.part 0).dt)⟩, fillS] (rS 0).toLoadRect)
      (rawAt arg2 harg2 arg6 harg6 arg7 harg7 arg18 arg19 x1 x5 x6 p acc)⟩,
   ⟨rS 1, addSum (View.readCov (Val := Elt F) arg14.view [fillS] (rS 1).toLoadRect) (mulf (aAt arg18 p acc) (p.part 0).dt)⟩, fillS]

/-- The stores of the small sums at the last point, over those of every point. -/
def lastSmall (acc : FVec F S8x1024 .f32) (L : List (View.Piece (Elt F) S8x128 .f32)) : List (View.Piece (Elt F) S8x128 .f32) :=
  [⟨rS 2, extractStridedSlice S1x128 ![0, 0] (headSumR acc) slices_S8x128_o0_0_S1x128⟩,
   ⟨rS 1, mulf (shapeCast S1x128 (View.readCov (Val := Elt F) arg14.view L (rS 1).toLoadRect) shapeCasts_S1x128_S1x128) (rateV (rateL arg7 harg7 x6))⟩] ++ L

end

end Cert.SsdBwd

end
-- ==== Proof.SsdBwdVal.lean ====
/- What the vector operations of the state space layer's backward chunk compute on real data. -/
module

public import proofs.«01_k».proof.Proof.SsdBwd
public import proofs.«01_k».proof.Proof.SsdFwdVal

@[expose] public section

set_option maxRecDepth 16384

noncomputable section

namespace Cert.SsdBwd

open Cert.Kernel6Ideal Cert.Kernel6Ideal.Gen Cert.Ssd Cert.Reals Idealize.ShloMosaic Idealize.ShloMosaic.TcCoe Idealize.SL.Sem
open Cert.SsdFwd (rW rX rB rC rR rH)

/-! ## The vector operations -/

theorem sumV_real (V : Fin 128 → Fin 256 → ℝ) : sumV (F := Ideal) (M2 V) = M2 fun _ l => ∑ i, V i l := by
  funext j
  obtain ⟨a, b, rfl⟩ : ∃ (a : Fin 1) (b : Fin 256), j = ix2 a b := ⟨j 0, j 1, eq_ix2 j⟩
  unfold sumV
  pointwise
  simp only [sum_coe]
  rfl

theorem meanV_real (V : Fin 128 → Fin 256 → ℝ) : meanV (F := Ideal) (M2 V) = M2 fun i _ => (∑ l, V i l) / 256 := by
  funext j
  obtain ⟨a, b, rfl⟩ : ∃ (a : Fin 128) (b : Fin 1), j = ix2 a b := ⟨j 0, j 1, eq_ix2 j⟩
  unfold meanV
  pointwise
  simp only [sum_coe]
  rw [word_256, div_coe _ _ (by norm_num)]
  rfl

theorem overV_real (V : Fin 128 → Fin 1 → ℝ) : broadcastTo (α := Ideal .f32) S128x256 (M2 V) broadcasts_S128x1_S128x256 = M2 fun i _ => V i 0 := by
  funext j
  obtain ⟨a, b, rfl⟩ : ∃ (a : Fin 128) (b : Fin 256), j = ix2 a b := ⟨j 0, j 1, eq_ix2 j⟩
  pointwise
  rfl

/-- The gated output. -/
def gatedR (y z : Fin 128 → Fin 256 → ℝ) (i : Fin 128) (l : Fin 256) : ℝ := y i l * silu (z i l)

/-- The gated output after its norm. -/
def normedR (y z : Fin 128 → Fin 256 → ℝ) (i : Fin 128) (l : Fin 256) : ℝ := gatedR y z i l * (Real.sqrt (meanSq (gatedR y z i)))⁻¹

/-- The cotangent of the gated output. -/
def dgatedR (y z o : Fin 128 → Fin 256 → ℝ) (w : Fin 256 → ℝ) (i : Fin 128) (l : Fin 256) : ℝ :=
  (Real.sqrt (meanSq (gatedR y z i)))⁻¹ * (o i l * w l - normedR y z i l * ((∑ k, o i k * w k * normedR y z i k) / 256))

/-- The cotangent of the gate's columns. -/
def dzR (y z o : Fin 128 → Fin 256 → ℝ) (w : Fin 256 → ℝ) (i : Fin 128) (l : Fin 256) : ℝ :=
  dgatedR y z o w i l * y i l * (1 + Real.exp (-z i l))⁻¹ * (1 + z i l * (1 - (1 + Real.exp (-z i l))⁻¹))

section
variable (Y Z O : Fin 128 → Fin 256 → ℝ) (w : Fin 256 → ℝ)

theorem siluV_real : siluV (F := Ideal) (M2 Z) = M2 fun i l => silu (Z i l) := by
  unfold siluV; rw [logistic_real, mulf_real]; rfl

theorem normedV_eq : normedV (F := Ideal) (M2 Y) (M2 Z) = M2 (normedR Y Z) := normedV_real Y Z

theorem gatedV_real : gatedV (F := Ideal) (M2 Y) (M2 Z) (M2 O) (M2 fun _ => w) = M2 (dgatedR Y Z O w) := by
  unfold gatedV
  rw [siluV_real, normedV_eq, rowV_real, mulf_real, mulf_real, mulf_real, rmsV_real, meanV_real, overV_real, overV_real, mulf_real, subf_real, mulf_real]
  rfl

theorem ones_real : broadcast (α := Ideal .f32) S128x256 (Scalar.ofBits (F := Ideal) .f32 0x3F800000#32) = M2 fun _ _ => 1 := by
  funext j
  obtain ⟨a, b, rfl⟩ : ∃ (a : Fin 128) (b : Fin 256), j = ix2 a b := ⟨j 0, j 1, eq_ix2 j⟩
  exact Ideal.ofBits_one_f32

theorem gateV_real : gateV (F := Ideal) (M2 Y) (M2 Z) (M2 O) (M2 fun _ => w) = M2 (dzR Y Z O w) := by
  unfold gateV
  rw [gatedV_real, logistic_real, ones_real, mulf_real, mulf_real, subf_real, mulf_real, addf_real, mulf_real]
  rfl
end

theorem pairV_real (U V : Fin 128 → Fin 256 → ℝ) : pairV (F := Ideal) (M2 U) (M2 V) = M2 fun i k => ∑ l, U i l * V k l := by
  funext j
  obtain ⟨a, b, rfl⟩ : ∃ (a : Fin 128) (b : Fin 128), j = ix2 a b := ⟨j 0, j 1, eq_ix2 j⟩
  unfold pairV
  pointwise
  simp only [mul_coe, sum_coe]
  rfl

theorem sqV_real (U V : Fin 128 → Fin 128 → ℝ) : sqV (F := Ideal) (M2 U) (M2 V) = M2 fun i n => ∑ k, U i k * V k n := by
  funext j
  obtain ⟨a, b, rfl⟩ : ∃ (a : Fin 128) (b : Fin 128), j = ix2 a b := ⟨j 0, j 1, eq_ix2 j⟩
  unfold sqV
  pointwise
  simp only [mul_coe, sum_coe]
  rfl

theorem sqTV_real (U V : Fin 128 → Fin 128 → ℝ) : sqTV (F := Ideal) (M2 U) (M2 V) = M2 fun k n => ∑ i, U i k * V i n := by
  funext j
  obtain ⟨a, b, rfl⟩ : ∃ (a : Fin 128) (b : Fin 128), j = ix2 a b := ⟨j 0, j 1, eq_ix2 j⟩
  unfold sqTV
  pointwise
  simp only [mul_coe, sum_coe]
  rfl

theorem addCol_real (V M : Fin 128 → Fin 128 → ℝ) (h : Fin 128) :
    addCol (F := Ideal) (M2 V) (M2 M) h = M2 fun i k => V i k + if k = h then ∑ l, M i l else 0 := by
  funext j
  obtain ⟨a, b, rfl⟩ : ∃ (a : Fin 128) (b : Fin 128), j = ix2 a b := ⟨j 0, j 1, eq_ix2 j⟩
  unfold addCol zeroV
  pointwise
  simp only [eq_bit, select_bit, sum_coe, zero_coe, ite_coe, add_coe]
  rfl

theorem addRow_real (V M : Fin 128 → Fin 128 → ℝ) (h : Fin 128) :
    addRow (F := Ideal) (M2 V) (M2 M) h = M2 fun i k => V i k + if i = h then ∑ l, M l k else 0 := by
  funext j
  obtain ⟨a, b, rfl⟩ : ∃ (a : Fin 128) (b : Fin 128), j = ix2 a b := ⟨j 0, j 1, eq_ix2 j⟩
  unfold addRow zeroV
  pointwise
  simp only [eq_bit, select_bit, sum_coe, zero_coe, ite_coe, add_coe]
  rfl

theorem member_shift : ∀ l : Fin 1024, IntOp.shrsi .vector (BitVec.ofNat 32 l) 6#32 = BitVec.ofNat 32 (l / 64) := by decide +kernel

theorem memberV_real : memberV (F := Ideal) = M2 fun l h => if l.1 / 64 = h.1 then 1 else 0 := by
  funext j
  obtain ⟨a, b, rfl⟩ : ∃ (a : Fin 1024) (b : Fin 128), j = ix2 a b := ⟨j 0, j 1, eq_ix2 j⟩
  unfold memberV
  pointwise
  rw [member_shift]
  have e := eq_bit ⟨a.1 / 64, by omega⟩ b
  simp only [Fin.ext_iff] at e
  rw [e]
  by_cases h : a.1 / 64 = b.1 <;> simp only [h, if_true, if_false, M2_ix2] <;> simp [FloatOps.sitofp]

theorem sge_bit32 : ∀ a b : Fin 128, BitVec.setWidth 32 (IntOp.cmpi .sge (BitVec.ofNat 32 b) (BitVec.ofNat 32 a)) = if a ≤ b then 1#32 else 0#32 := by
  decide +kernel

theorem upperV_real : upperV (F := Ideal) = M2 fun i k => if i ≤ k then 1 else 0 := by
  funext j
  obtain ⟨a, b, rfl⟩ : ∃ (a : Fin 128) (b : Fin 128), j = ix2 a b := ⟨j 0, j 1, eq_ix2 j⟩
  unfold upperV
  pointwise
  rw [sge_bit32]
  by_cases h : a ≤ b <;> simp only [h, if_true, if_false, M2_ix2] <;> simp [FloatOps.sitofp]

/-- The sum over head `h`'s lanes. -/
def overHead (f : Fin 1024 → ℝ) (h : Fin 128) : ℝ := ∑ l, if l.1 / 64 = h.1 then f l else 0

theorem headSumV_real (V : Fin 128 → Fin 1024 → ℝ) : headSumV (F := Ideal) (M2 V) = M2 fun i h => overHead (V i) h := by
  funext j
  obtain ⟨a, b, rfl⟩ : ∃ (a : Fin 128) (b : Fin 128), j = ix2 a b := ⟨j 0, j 1, eq_ix2 j⟩
  unfold headSumV restV
  rw [memberV_real]
  pointwise
  simp only [M2_ix2, sub_coe, mul_coe, sum_coe, add_coe, sub_self, zero_mul, Finset.sum_const_zero, add_zero]
  simp [overHead]

theorem headSumR_real (V : Fin 8 → Fin 1024 → ℝ) : headSumR (F := Ideal) (M2 V) = M2 fun i h => overHead (V i) h := by
  funext j
  obtain ⟨a, b, rfl⟩ : ∃ (a : Fin 8) (b : Fin 128), j = ix2 a b := ⟨j 0, j 1, eq_ix2 j⟩
  unfold headSumR restV
  rw [memberV_real]
  pointwise
  simp only [M2_ix2, sub_coe, mul_coe, sum_coe, add_coe, sub_self, zero_mul, Finset.sum_const_zero, add_zero]
  simp [overHead]

theorem logCot_real (A B : Fin 128 → Fin 128 → ℝ) (C : Fin 128 → Fin 1024 → ℝ) (D : Fin 8 → Fin 1024 → ℝ) :
    logCot (F := Ideal) (M2 A) (M2 B) (M2 C) (M2 D)
      = M2 fun i h => (∑ k, if i ≤ k then A k h - B h k + overHead (C k) h else 0) + overHead (D 2) h := by
  unfold logCot
  rw [headSumV_real, headSumR_real, upperV_real,
    show transpose S128x128 [1, 0] (M2 B : FVec Ideal S128x128 .f32) transposes_S128x128_p1_0_S128x128 = M2 fun i j => B j i from by
      funext j
      obtain ⟨a, b, rfl⟩ : ∃ (a : Fin 128) (b : Fin 128), j = ix2 a b := ⟨j 0, j 1, eq_ix2 j⟩
      pointwise
      rfl, subf_real, addf_real, exactDot_real]
  funext j
  obtain ⟨a, b, rfl⟩ : ∃ (a : Fin 128) (b : Fin 128), j = ix2 a b := ⟨j 0, j 1, eq_ix2 j⟩
  pointwise
  simp only [M2_ix2, add_coe]
  simp

theorem rawCot_real (A : Fin 128 → Fin 128 → ℝ) (D : Fin 128 → Fin 1024 → ℝ) (rate : Fin 128 → ℝ) (R : Fin 128 → Fin 128 → ℝ) (b : Fin 128 → ℝ) :
    rawCot (F := Ideal) (M2 A) (M2 D) (M2 fun _ => rate) (M2 R) (M2 fun _ => b)
      = M2 fun i h => (overHead (D i) h + A i h * rate h) * (1 + Real.exp (-(R i h + b h)))⁻¹ := by
  unfold rawCot
  rw [headSumV_real]
  funext j
  obtain ⟨a, c, rfl⟩ : ∃ (a : Fin 128) (c : Fin 128), j = ix2 a c := ⟨j 0, j 1, eq_ix2 j⟩
  pointwise
  simp only [M2_ix2, add_coe, mul_coe]
  rw [show Ideal.logistic ((R a c + b c : ℝ) : EReal) = _ from Ideal.logistic_coe _]
  simp only [mul_coe]

theorem addSum_real (V : Fin 128 → Fin 128 → ℝ) (o : Fin 128 → ℝ) :
    addSum (F := Ideal) (M2 fun _ => o) (M2 V) = M2 fun _ h => o h + ∑ i, V i h := by
  funext j
  obtain ⟨a, b, rfl⟩ : ∃ (a : Fin 1) (b : Fin 128), j = ix2 a b := ⟨j 0, j 1, eq_ix2 j⟩
  unfold addSum
  pointwise
  simp only [M2_ix2, sum_coe, add_coe]

/-! ## A grid point on real data -/

/-- Head `j` of group `g`. -/
def headOf (g j : Fin 4) : Fin 128 := ⟨4 * g + j, by omega⟩

theorem headOf_nat (g : Fin 4) (j : ℕ) (hj : j < 4) : (Fin.ofNat 128 (4 * g + j) : Fin 128) = headOf g ⟨j, hj⟩ :=
  Fin.ext (Nat.mod_eq_of_lt (by omega))

/-- What a grid point reads, as real data. -/
structure RPoint where
  part : Fin 4 → RPart
  z : Fin 4 → Fin 128 → Fin 256 → ℝ
  o : Fin 4 → Fin 128 → Fin 256 → ℝ
  w : Fin 4 → Fin 256 → ℝ
  dh : Fin 4 → Fin 128 → Fin 256 → ℝ

/-- The vectors of a real point. -/
structure Point.Of (p : Point Ideal) (r : RPoint) : Prop where
  part : ∀ g, (p.part g).Of (r.part g)
  z : ∀ g, p.z g = M2 (r.z g)
  o : ∀ g, p.o g = M2 (r.o g)
  w : ∀ g, p.w g = M2 fun _ => r.w g
  dh : ∀ g, p.dh g = M2 (r.dh g)

namespace RPoint
variable (r : RPoint) (g : Fin 4)

def y : Fin 128 → Fin 256 → ℝ := (r.part g).y g
def dy (i : Fin 128) (l : Fin 256) : ℝ := dgatedR (r.y g) (r.z g) (r.o g) (r.w g) i l * silu (r.z g i l)
def dyo (i : Fin 128) (l : Fin 256) : ℝ := r.dy g i l * Real.exp ((r.part g).cs i (hd g l))
def ds (j : Fin 4) (i k : Fin 128) : ℝ := if k ≤ i then ∑ l, (if l.1 / 64 = j.1 then r.dy g i l else 0) * (r.part g).xdt g k l else 0
def sc (h : Fin 128) (i k : Fin 128) : ℝ := (r.part g).score i k * (r.part g).decay h i k
def dcb (i k : Fin 128) : ℝ := ∑ j, r.ds g j i k * (r.part g).decay (headOf g j) i k
def m (j : Fin 4) (i k : Fin 128) : ℝ := r.ds g j i k * r.sc g (headOf g j) i k
def dxd (i : Fin 128) (l : Fin 256) : ℝ := ∑ n, (r.part g).b i n * r.dh g n l
def dxdt (i : Fin 128) (l : Fin 256) : ℝ := (∑ k, r.sc g (hd g l) k i * r.dy g k l) + r.dxd g i l * (r.part g).toEnd g i l
def qq (i : Fin 128) (l : Fin 256) : ℝ := r.dxd g i l * (r.part g).xdt g i l * (r.part g).toEnd g i l
def dcs (i : Fin 128) (l : Fin 256) : ℝ := r.dy g i l * (r.part g).off g i l - r.qq g i l
def etot (l : Fin 256) : ℝ := Real.exp ((r.part g).tot (hd g l))
def dtot (l : Fin 256) : ℝ := (∑ i, r.qq g i l) + (∑ n, r.dh g n l * (r.part g).h n l) * r.etot g l
def dprev (n : Fin 128) (l : Fin 256) : ℝ := r.etot g l * r.dh g n l + ∑ i, (r.part g).c i n * r.dyo g i l
def dc (i n : Fin 128) : ℝ := (∑ l, r.dyo g i l * (r.part g).h n l) + ∑ k, r.dcb g i k * (r.part g).b k n
def db (k n : Fin 128) : ℝ := (∑ l, (r.part g).xdt g k l * (r.part g).toEnd g k l * r.dh g n l) + ∑ i, r.dcb g i k * (r.part g).c i n
def dx (i : Fin 128) (l : Fin 256) : ℝ := r.dxdt g i l * (r.part g).dt i (hd g l) + r.dy g i l * (r.part g).d l
def heads (i h : Fin 128) : ℝ := ∑ g : Fin 4, ∑ j : Fin 4, if h = headOf g j then ∑ k, r.m g j i k else 0
def rows (h k : Fin 128) : ℝ := ∑ g : Fin 4, ∑ j : Fin 4, if h = headOf g j then ∑ i, r.m g j i k else 0
end RPoint

theorem zeros_real {a b : ℕ} : zeroV (F := Ideal) ⟨2, ![a, b]⟩ = M2 fun _ _ => 0 := by
  funext j
  exact Ideal.ofBits_zero_f32

theorem select_head (j : ℕ) (hj : j < 4) (V : Fin 128 → Fin 256 → ℝ) :
    select (α := Ideal .f32) (headV j) (M2 V) (zeroV (F := Ideal) S128x256) = M2 fun i l => if l.1 / 64 = j then V i l else 0 := by
  funext x
  obtain ⟨a, l, rfl⟩ : ∃ (a : Fin 128) (l : Fin 256), x = ix2 a l := ⟨x 0, x 1, eq_ix2 x⟩
  rw [zeros_real]
  pointwise
  rw [headV_real j hj, select_bit]
  exact ite_coe _ _ _

theorem select_causal (V : Fin 128 → Fin 128 → ℝ) :
    select (α := Ideal .f32) (causalV (F := Ideal)) (M2 V) (zeroV (F := Ideal) S128x128) = M2 fun i k => if k ≤ i then V i k else 0 := by
  funext x
  obtain ⟨a, l, rfl⟩ : ∃ (a : Fin 128) (l : Fin 128), x = ix2 a l := ⟨x 0, x 1, eq_ix2 x⟩
  rw [zeros_real]
  pointwise
  rw [causalV_real, select_bit]
  exact ite_coe _ _ _

theorem same_row (V : Fin 1 → Fin 256 → ℝ) : shapeCast S1x256 (M2 V : FVec Ideal S1x256 .f32) shapeCasts_S1x256_S1x256 = M2 V := by
  funext j
  obtain ⟨a, b, rfl⟩ : ∃ (a : Fin 1) (b : Fin 256), j = ix2 a b := ⟨j 0, j 1, eq_ix2 j⟩
  pointwise

section
variable {p : Point Ideal} {r : RPoint} (E : p.Of r) (g : Fin 4)
include E

theorem dy_real : p.dy g = M2 (r.dy g) := by
  unfold Point.dy
  rw [y_real (E.part g), E.z, E.o, E.w, gatedV_real, siluV_real, mulf_real]; rfl

theorem dyo_real : p.dyo g = M2 (r.dyo g) := by
  unfold Point.dyo
  rw [dy_real E, (E.part g).cs, spreadV_real, exp_real, mulf_real]; rfl

theorem ds_real (j : Fin 4) : p.ds g j = M2 (r.ds g j) := by
  unfold Point.ds
  rw [dy_real E, select_head j j.2, xdt_real (E.part g), pairV_real, select_causal]; rfl

theorem decayAt_real (j : Fin 4) : (p.part g).decay g j = M2 ((r.part g).decay (headOf g j)) := by
  rw [decay_real (E.part g) g j j.2, headOf_nat g j j.2]

theorem sc_real (j : Fin 4) : p.sc g j = M2 (r.sc g (headOf g j)) := by
  unfold Point.sc
  rw [score_real (E.part g), decayAt_real E g j, mulf_real]; rfl

theorem dcb_real : p.dcb g = M2 (r.dcb g) := by
  unfold Point.dcb
  rw [zeros_real, show p.ds g 0 = _ from ds_real E g 0, show p.ds g 1 = _ from ds_real E g 1, show p.ds g 2 = _ from ds_real E g 2, show p.ds g 3 = _ from ds_real E g 3,
    show (p.part g).decay g 0 = _ from decayAt_real E g 0, show (p.part g).decay g 1 = _ from decayAt_real E g 1, show (p.part g).decay g 2 = _ from decayAt_real E g 2,
    show (p.part g).decay g 3 = _ from decayAt_real E g 3]
  simp only [mulf_real, addf_real]
  funext x
  refine congrArg (fun x : ℝ => (x : EReal)) ?_
  unfold RPoint.dcb
  rw [Fin.sum_univ_four]
  ring

theorem m_real (j : Fin 4) : p.m g j = M2 (r.m g j) := by
  unfold Point.m
  rw [ds_real E, sc_real E, mulf_real]; rfl

theorem dxd_real : p.dxd g = M2 (r.dxd g) := by
  unfold Point.dxd
  rw [(E.part g).b, E.dh, mixV_real]; rfl

theorem dxdt_real : p.dxdt g = M2 (r.dxdt g) := by
  unfold Point.dxdt
  rw [headsV_eq _ (fun j i l => ∑ k, r.sc g (Fin.ofNat 128 (4 * g + j)) k i * r.dy g k l) fun j hj => by
      rw [headOf_nat g j hj, dy_real E, show p.sc g j = _ from sc_real E g ⟨j, hj⟩, mixTV_real],
    dxd_real E, toEnd_real (E.part g), mulf_real, addf_real]
  funext x
  obtain ⟨a, l, rfl⟩ : ∃ (a : Fin 128) (l : Fin 256), x = ix2 a l := ⟨x 0, x 1, eq_ix2 x⟩
  refine congrArg (fun x : ℝ => (x : EReal)) ?_
  show (∑ k, r.sc g (Fin.ofNat 128 (4 * g + l / 64)) k a * r.dy g k l) + _ = _
  rw [show (Fin.ofNat 128 (4 * g + l / 64) : Fin 128) = hd g l from Fin.ext (Nat.mod_eq_of_lt (by omega))]
  rfl

theorem qq_real : p.qq g = M2 (r.qq g) := by
  unfold Point.qq
  rw [dxd_real E, xdt_real (E.part g), toEnd_real (E.part g), mulf_real, mulf_real]; rfl

theorem dcs_real : p.dcs g = M2 (r.dcs g) := by
  unfold Point.dcs
  rw [dy_real E, off_real (E.part g), qq_real E, mulf_real, subf_real]; rfl

theorem etot_real : p.etot g = M2 fun _ => r.etot g := by
  unfold Point.etot
  rw [(E.part g).tot, spreadR_real, exp_real]; rfl

theorem dtot_real : p.dtot g = M2 fun _ => r.dtot g := by
  unfold Point.dtot
  rw [qq_real E, E.dh, (E.part g).h, etot_real E, mulf_real, sumV_real, sumV_real, mulf_real, addf_real]; rfl

theorem dprev_real : p.dprev g = M2 (r.dprev g) := by
  unfold Point.dprev
  rw [etot_real E, E.dh, (E.part g).c, dyo_real E, rowV_real, mulf_real, mixTV_real, addf_real]; rfl

theorem dc_real : p.dc g = M2 (r.dc g) := by
  unfold Point.dc
  rw [dyo_real E, (E.part g).h, dcb_real E, (E.part g).b, pairV_real, sqV_real, addf_real]; rfl

theorem db_real : p.db g = M2 (r.db g) := by
  unfold Point.db
  rw [xdt_real (E.part g), toEnd_real (E.part g), E.dh, dcb_real E, (E.part g).c, mulf_real, pairV_real, sqTV_real, addf_real]; rfl

theorem dx_real : p.dx g = M2 (r.dx g) := by
  unfold Point.dx
  rw [dxdt_real E, (E.part g).dt, spreadV_real, dy_real E, (E.part g).d, same_row, rowV_real, mulf_real, mulf_real, addf_real]; rfl

end

section
variable {p : Point Ideal} {r : RPoint} (E : p.Of r)
include E

theorem addCol_m (V : Fin 128 → Fin 128 → ℝ) (g j : Fin 4) : addCol (F := Ideal) (M2 V) (p.m g j) (4 * g + j)
    = M2 fun i k => V i k + if k = headOf g j then ∑ l, r.m g j i l else 0 := by
  rw [m_real E]; exact addCol_real V _ (headOf g j)

theorem addRow_m (V : Fin 128 → Fin 128 → ℝ) (g j : Fin 4) : addRow (F := Ideal) (M2 V) (p.m g j) (4 * g + j)
    = M2 fun i k => V i k + if i = headOf g j then ∑ l, r.m g j l k else 0 := by
  rw [m_real E]; exact addRow_real V _ (headOf g j)

theorem heads_real : p.heads = M2 r.heads := by
  have step : ∀ (V : Fin 128 → Fin 128 → ℝ) (g : Fin 4),
      addCol (F := Ideal) (addCol (addCol (addCol (M2 V) (p.m g 0) (4 * g + 0)) (p.m g 1) (4 * g + 1)) (p.m g 2) (4 * g + 2)) (p.m g 3) (4 * g + 3)
        = M2 fun i k => V i k + ∑ j : Fin 4, if k = headOf g j then ∑ l, r.m g j i l else 0 := by
    intro V g
    refine (congrArg (fun v => addCol v (p.m g 3) (4 * g + 3)) ((congrArg (fun v => addCol v (p.m g 2) (4 * g + 2)) ((congrArg (fun v => addCol v (p.m g 1) (4 * g + 1))
      (addCol_m E V g 0)).trans (addCol_m E _ g 1))).trans (addCol_m E _ g 2))).trans ((addCol_m E _ g 3).trans (congrArg M2 (funext fun i => funext fun k => ?_)))
    rw [Fin.sum_univ_four]
    ring
  unfold Point.heads
  simp only [List.foldl]
  rw [zeros_real, step, step, step, step]
  refine congrArg M2 (funext fun i => funext fun k => ?_)
  unfold RPoint.heads
  simp only [Fin.sum_univ_four]
  ring

theorem rows_real : p.rows = M2 r.rows := by
  have step : ∀ (V : Fin 128 → Fin 128 → ℝ) (g : Fin 4),
      addRow (F := Ideal) (addRow (addRow (addRow (M2 V) (p.m g 0) (4 * g + 0)) (p.m g 1) (4 * g + 1)) (p.m g 2) (4 * g + 2)) (p.m g 3) (4 * g + 3)
        = M2 fun i k => V i k + ∑ j : Fin 4, if i = headOf g j then ∑ l, r.m g j l k else 0 := by
    intro V g
    refine (congrArg (fun v => addRow v (p.m g 3) (4 * g + 3)) ((congrArg (fun v => addRow v (p.m g 2) (4 * g + 2)) ((congrArg (fun v => addRow v (p.m g 1) (4 * g + 1))
      (addRow_m E V g 0)).trans (addRow_m E _ g 1))).trans (addRow_m E _ g 2))).trans ((addRow_m E _ g 3).trans (congrArg M2 (funext fun i => funext fun k => ?_)))
    rw [Fin.sum_univ_four]
    ring
  unfold Point.rows
  simp only [List.foldl]
  rw [zeros_real, step, step, step, step]
  refine congrArg M2 (funext fun i => funext fun k => ?_)
  unfold RPoint.rows
  simp only [Fin.sum_univ_four]
  ring
end

end Cert.SsdBwd

end
-- ==== Proof.SsdBwdPt.lean ====
/- What a grid point of the state space layer's backward kernel reads and leaves behind on real blocks. -/
module

public import proofs.«01_k».proof.Proof.SsdBwdVal
public import proofs.«01_k».proof.Proof.SsdHost

@[expose] public section

set_option maxRecDepth 16384

noncomputable section

namespace Cert.SsdBwd

open Cert.Kernel6Ideal Cert.Kernel6Ideal.Gen Cert.Ssd Cert.Reals Idealize.ShloMosaic Idealize.ShloMosaic.TcCoe Idealize.SL.Sem
open Cert.SsdFwd (rW rX rB rC rR rH inbX inbB inbC inbR inbW bX bR bZ bD load_M2 canon_lanes lanes_disj)
open Cert.SsdHost (A3 A3_ix3)

/-! ## Writes over earlier contents -/

/-- An index reads `G` after a list of stores of `G`'s values, if it did before where no store reaches. -/
theorem read_agree {sg : RefSig} {κ : Kind} {sp : Space} {s : Shape} {e : EltTy} (v : View sg κ sp s e) (f : v.ty.Contents (Elt Ideal)) (G : s.Idx → Elt Ideal e) (y : s.Idx) :
    ∀ L : List (View.Piece (Elt Ideal) s e), (∀ p ∈ L, ∀ x, p.2 x = G (p.1.emb x)) → ((∀ p ∈ L, y ∉ p.1.set) → v.read (Elt Ideal) f y = G y)
      → v.read (Elt Ideal) (v.writes (Elt Ideal) f L) y = G y
  | [], _, hf => hf fun _ h => absurd h List.not_mem_nil
  | p :: L, hL, hf => by
    by_cases hy : y ∈ p.1.set
    · obtain ⟨r, w⟩ := p
      obtain ⟨x, rfl⟩ : ∃ x, r.emb x = y := r.exists_idx_of_mem hy
      rw [View.read_writes_cons_emb]
      exact hL ⟨r, w⟩ List.mem_cons_self x
    · rw [View.writes_cons, View.read_slice_write_of_not_mem p.1 _ _ _ (by rwa [Rect.map_emb_univ])]
      exact read_agree v f G y L (fun q hq => hL q (List.mem_cons_of_mem _ hq)) fun h => hf fun q hq => by
        rcases List.mem_cons.mp hq with rfl | hq
        · exact hy
        · exact h q hq

/-- The same over any last stores. -/
theorem canon_agree {s : Shape} {e : EltTy} (G : s.Idx → Elt Ideal e) (L' : List (View.Piece (Elt Ideal) s e)) (y : s.Idx) :
    ∀ L : List (View.Piece (Elt Ideal) s e), (∀ p ∈ L, ∀ x, p.2 x = G (p.1.emb x)) → ((∀ p ∈ L, y ∉ p.1.set) → View.canon L' y = G y)
      → View.canon (L ++ L') y = G y
  | [], _, hf => hf fun _ h => absurd h List.not_mem_nil
  | p :: L, hL, hf => by
    by_cases hy : y ∈ p.1.set
    · obtain ⟨r, w⟩ := p
      obtain ⟨x, rfl⟩ : ∃ x, r.emb x = y := r.exists_idx_of_mem hy
      rw [List.cons_append, View.canon_cons_emb]
      exact hL ⟨r, w⟩ List.mem_cons_self x
    · rw [List.cons_append, View.canon_cons_of_not_mem p _ hy]
      exact canon_agree G L' y L (fun q hq => hL q (List.mem_cons_of_mem _ hq)) fun h => hf fun q hq => by
        rcases List.mem_cons.mp hq with rfl | hq
        · exact hy
        · exact h q hq

/-- The layer's real data and the cotangent of its output, among the cotangents of the columns it was joined with. -/
structure SeqB extends Seq where
  D : Fin 2048 → Fin 2048 → ℝ

namespace SeqB
variable (q : SeqB)

/-- The output's cotangent. -/
def o (c : Fin 16) (g : Fin 4) (i : Fin 128) (l : Fin 256) : ℝ := q.D (rowAt c i) ⟨1024 + (g * 256 + l), by omega⟩

/-- What chunk `c`'s point reads, `H` being the cotangent of the state it hands on. -/
def point (c : Fin 16) (H : Fin 128 → Fin 1024 → ℝ) : RPoint where
  part g := q.chunk c g
  z g i l := q.z c i g l
  o g := q.o c g
  w g l := q.w (lane g l)
  dh g n l := H n (lane g l)

end SeqB

/-- The output cotangent's block of a chunk. -/
def bO (q : SeqB) (k : Fin 16) (i : Fin 128) (l : Fin 1024) : ℝ := q.D (rowAt k i) ⟨1024 + l, by omega⟩

section
variable (c : Dev nD) (i : grid0.Coords) (arg1 : Memref sig .tc .vmem S128x2048 .f32) (harg1 : arg1.IsWhole)
  (arg2 : Memref sig .tc .vmem S128x128 .f32) (harg2 : arg2.IsWhole) (arg3 : Memref sig .tc .vmem S128x1024 .f32) (harg3 : arg3.IsWhole)
  (arg4 : Memref sig .tc .vmem S128x1024 .f32) (harg4 : arg4.IsWhole) (arg5 : Memref sig .tc .vmem S1x128x1024 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S1x1024 .f32) (harg8 : arg8.IsWhole) (arg9 : Memref sig .tc .vmem S1x1024 .f32) (harg9 : arg9.IsWhole)
  (arg13 : Memref sig .tc .vmem S1x1024 .f32) (harg13 : arg13.IsWhole)
  (arg14 : Memref sig .tc .vmem S8x128 .f32) (harg14 : arg14.IsWhole) (arg15 : Memref sig .tc .vmem S128x1024 .f32) (harg15 : arg15.IsWhole)
  (arg16 : Memref sig .tc .vmem S128x128 .f32) (arg17 : Memref sig .tc .vmem S8x1024 .f32) (harg17 : arg17.IsWhole)
  (arg18 : Memref sig .tc .vmem S128x1024 .f32) (arg19 : Memref sig .tc .vmem S128x1024 .f32)
  (q : SeqB) (k : Fin 16)

theorem rawL_real : rawL (F := Ideal) arg2 harg2 (M2 (bR q.toSeq k)) = M2 (bR q.toSeq k) :=
  load_M2 arg2 harg2 (bR q.toSeq k) 0 0 inb_S128x128_S128x128_0_0 (bR q.toSeq k) fun i j hi hj => by congr 1 <;> exact Fin.ext (Nat.zero_add _)

theorem biasL_real (b : Fin 128 → ℝ) : biasL (F := Ideal) arg6 harg6 (M2 fun _ => b) = M2 fun _ => b :=
  load_M2 arg6 harg6 (fun _ => b) 0 0 inb_S1x128_S1x128_0_0 (fun _ => b) fun i j hi hj => by congr 1; exact Fin.ext (Nat.zero_add _)

theorem rateL_real (b : Fin 128 → ℝ) : rateL (F := Ideal) arg7 harg7 (M2 fun _ => b) = M2 fun _ => b :=
  load_M2 arg7 harg7 (fun _ => b) 0 0 inb_S1x128_S1x128_0_0 (fun _ => b) fun i j hi hj => by congr 1; exact Fin.ext (Nat.zero_add _)

theorem rates_real (q : Seq) : rateV (F := Ideal) (M2 fun _ => pad q.al) = M2 fun _ => q.rate := by
  rw [rateV_real]; rfl

/-- A load of lanes of one matrix. -/
theorem load_A3 {sg : RefSig} {a b b' : ℕ} (M : Memref sg .tc .vmem ⟨3, ![1, a, b]⟩ .f32) (h : M.IsWhole) (V : Fin a → Fin b → ℝ) (o : ℕ)
    (inb : ∀ x, (![0, 0, o] : Fin 3 → ℕ) x + (![1, a, b'] : Fin 3 → ℕ) x ≤ (![1, a, b] : Fin 3 → ℕ) x) (f : Fin a → Fin b' → ℝ)
    (hf : ∀ (i : Fin a) (j : Fin b') (hj : o + j.1 < b), V i ⟨o + j, hj⟩ = f i j) :
    View.readAt (Elt Ideal) M.view (Rect.unit (s := ⟨3, ![1, a, b]⟩) ![0, 0, o] ![1, a, b'] inb).toLoadRect (h.unread (A3 fun (_ : Fin 1) i j => V i j))
      = A3 fun (_ : Fin 1) i j => f i j := by
  rw [View.readAt_eq_ld, h.read_unread]
  funext j
  obtain ⟨x, y, z, rfl⟩ : ∃ (x : Fin 1) (y : Fin a) (z : Fin b'), j = ix3 x y z := ⟨j 0, j 1, j 2, eq_ix3 j⟩
  have h2 : o + z.1 < b := by have := inb 2; have := z.2; simp at *; omega
  refine (View.ld_unit_apply_of _ _ _ inb (ix3 x y z) (ix3 x y ⟨o + z, h2⟩) fun u => ?_).trans ?_
  · match u with
    | ⟨0, _⟩ => show x.1 = 0 + x.1; omega
    | ⟨1, _⟩ => show y.1 = 0 + y.1; omega
    | ⟨2, _⟩ => rfl
  · exact congrArg (fun r : ℝ => (r : EReal)) (hf y z h2)

theorem one_matrix (V : Fin 128 → Fin 256 → ℝ) : shapeCast (α := Ideal .f32) S128x256 (A3 fun (_ : Fin 1) i j => V i j) shapeCasts_S1x128x256_S128x256 = M2 V := by
  funext j
  obtain ⟨x, y, rfl⟩ : ∃ (x : Fin 128) (y : Fin 256), j = ix2 x y := ⟨j 0, j 1, eq_ix2 j⟩
  pointwise
  rfl

/-- A load of a lane block of a state. -/
theorem load_state (H : Fin 128 → Fin 1024 → ℝ) (g : Fin 4) :
    shapeCast S128x256 (View.readAt (Elt Ideal) arg5.view (rP g).toLoadRect (harg5.unread (A3 fun (_ : Fin 1) n l => H n l))) shapeCasts_S1x128x256_S128x256
      = M2 fun n l => H n (lane g l) :=
  (congrArg (fun v => shapeCast (α := Ideal .f32) S128x256 v shapeCasts_S1x128x256_S128x256)
    (load_A3 arg5 harg5 H (256 * g) (inbP g) (fun n l => H n (lane g l)) fun i j hj => by
      refine congrArg (H i) (Fin.ext ?_)
      show 256 * g.1 + j.1 = g.1 * 256 + j.1; omega)).trans (one_matrix _)

/-- The vectors a chunk's point reads. -/
abbrev pointK (dh : Fin 4 → FVec Ideal S128x256 .f32) : Point Ideal :=
  point arg1 harg1 arg2 harg2 arg3 harg3 arg4 harg4 arg5 harg5 arg6 harg6 arg7 harg7 arg8 harg8 arg9 harg9 arg16 (M2 (bX q.toSeq k)) (M2 (bR q.toSeq k)) (M2 (bZ q.toSeq k)) (M2 (bO q k))
    (A3 fun (_ : Fin 1) n l => q.state k n l) (M2 fun _ => pad q.bias) (M2 fun _ => pad q.al) (M2 (bD q.toSeq)) (M2 fun _ => q.w) dh

theorem point_of (dh : Fin 4 → FVec Ideal S128x256 .f32) (H : Fin 128 → Fin 1024 → ℝ) (hh : ∀ g, dh g = M2 fun n l => H n (lane g l)) :
    (pointK arg1 harg1 arg2 harg2 arg3 harg3 arg4 harg4 arg5 harg5 arg6 harg6 arg7 harg7 arg8 harg8 arg9 harg9 arg16 q k dh).Of (q.point k H) := by
  have e1 := rawL_real arg2 harg2 q k
  have e2 := biasL_real arg6 harg6 (pad q.bias)
  have e3 := rateL_real arg7 harg7 (pad q.al)
  have el : logV (rawL (F := Ideal) arg2 harg2 (M2 (bR q.toSeq k))) (biasL arg6 harg6 (M2 fun _ => pad q.bias)) (rateL arg7 harg7 (M2 fun _ => pad q.al))
      = M2 fun i h => q.dt k i h * q.rate h := by
    rw [e1, e2, e3]; exact logV_real _ _ _
  have ec : cumV (logV (rawL (F := Ideal) arg2 harg2 (M2 (bR q.toSeq k))) (biasL arg6 harg6 (M2 fun _ => pad q.bias)) (rateL arg7 harg7 (M2 fun _ => pad q.al)))
      = M2 (q.cs k) := (congrArg cumV el).trans (cumV_real _)
  refine ⟨fun g => ⟨?_, ?_, ec, (congrArg totV el).trans (totV_real _), ?_, ?_, ?_, ?_, ?_, ?_⟩, fun g => ?_, fun g => ?_, fun g => ?_, fun g => hh g⟩
  · exact IdealRules.named_const.ideal_named_scalar _ _ _ _ rfl
  · exact (congrArg₂ dtV e1 e2).trans (dtV_real _ _)
  · intro r
    refine (dif_pos r.2).trans ?_
    rw [View.readCov_fill _ _ _ _ _ (by decide)]
    funext j
    obtain ⟨x, y, rfl⟩ : ∃ (x : Fin 1) (y : Fin 128), j = ix2 x y := ⟨j 0, j 1, eq_ix2 j⟩
    refine (View.ld_unit_apply_of _ _ _ _ (ix2 x y) (ix2 r y) fun z => ?_).trans ?_
    · match z with
      | ⟨0, _⟩ => show r.1 = r.1 + x.1; omega
      | ⟨1, _⟩ => show y.1 = 0 + y.1; omega
    · rw [ec]
      pointwise
      rfl
  · exact load_M2 arg1 harg1 (bX q.toSeq k) 0 (256 * g) (inbX g) (q.chunk k g).x fun i j hi hj => by
      refine congrArg₂ q.X (congrArg (rowAt k) (Fin.ext (Nat.zero_add _))) (Fin.ext ?_)
      show 256 * g.1 + j.1 = g.1 * 256 + j.1; omega
  · exact load_M2 arg1 harg1 (bX q.toSeq k) 0 (1024 + 128 * g) (inbB g) (q.chunk k g).b fun i j hi hj => by
      refine congrArg₂ q.X (congrArg (rowAt k) (Fin.ext (Nat.zero_add _))) (Fin.ext ?_)
      show 1024 + 128 * g.1 + j.1 = 1024 + (g.1 * 128 + j.1); omega
  · exact load_M2 arg1 harg1 (bX q.toSeq k) 0 (1536 + 128 * g) (inbC g) (q.chunk k g).c fun i j hi hj => by
      refine congrArg₂ q.X (congrArg (rowAt k) (Fin.ext (Nat.zero_add _))) (Fin.ext ?_)
      show 1536 + 128 * g.1 + j.1 = 1536 + (g.1 * 128 + j.1); omega
  · exact load_state arg5 harg5 (q.state k) g
  · exact load_M2 arg8 harg8 (bD q.toSeq) 0 (256 * g) (inbR g) (fun _ => (q.chunk k g).d) fun i j hi hj => by
      refine congrArg q.d (Fin.ext ?_)
      show (256 * g.1 + j.1) / 64 = g.1 * 4 + j.1 / 64; omega
  · exact load_M2 arg3 harg3 (bZ q.toSeq k) 0 (256 * g) (inbW g) (fun i l => q.z k i g l) fun i j hi hj => by
      refine congrArg₂ q.P (congrArg (rowAt k) (Fin.ext (Nat.zero_add _))) (Fin.ext ?_)
      show 2048 + (256 * g.1 + j.1) = 2048 + (g.1 * 256 + j.1); omega
  · exact load_M2 arg4 harg4 (bO q k) 0 (256 * g) (inbW g) (q.o k g) fun i j hi hj => by
      refine congrArg₂ q.D (congrArg (rowAt k) (Fin.ext (Nat.zero_add _))) (Fin.ext ?_)
      show 1024 + (256 * g.1 + j.1) = 1024 + (g.1 * 256 + j.1); omega
  · exact load_M2 arg9 harg9 (fun _ => q.w) 0 (256 * g) (inbR g) (fun _ l => q.w (lane g l)) fun i j hi hj => by
      refine congrArg q.w (Fin.ext ?_)
      show 256 * g.1 + j.1 = g.1 * 256 + j.1; omega

theorem held_real (H : Fin 128 → Fin 1024 → ℝ) (g : Fin 4) : held (F := Ideal) arg15 harg15 (M2 H) g = M2 fun n l => H n (lane g l) :=
  load_M2 arg15 harg15 H 0 (256 * g) (inbW g) _ fun i j hi hj => by
    refine congrArg₂ H (Fin.ext (Nat.zero_add _)) (Fin.ext ?_)
    show 256 * g.1 + j.1 = g.1 * 256 + j.1; omega

theorem fill_real : shapeCast S128x1024 (zeroV (F := Ideal) S128x1024) shapeCasts_S128x1024_S128x1024 = M2 fun _ _ => 0 := by
  funext j
  obtain ⟨x, y, rfl⟩ : ∃ (x : Fin 128) (y : Fin 1024), j = ix2 x y := ⟨j 0, j 1, eq_ix2 j⟩
  rw [zeros_real]
  pointwise

theorem fill8_real : shapeCast S8x1024 (zeroV (F := Ideal) S8x1024) shapeCasts_S8x1024_S8x1024 = M2 fun _ _ => 0 := by
  funext j
  obtain ⟨x, y, rfl⟩ : ∃ (x : Fin 8) (y : Fin 1024), j = ix2 x y := ⟨j 0, j 1, eq_ix2 j⟩
  rw [zeros_real]
  pointwise

section
variable (x0 : Vec Ideal S128x2048 .f32) (x1 : Vec Ideal S128x128 .f32) (x2 : Vec Ideal S128x1024 .f32) (x3 : Vec Ideal S128x1024 .f32) (x4 : Vec Ideal S1x128x1024 .f32)
  (x5 : Vec Ideal S1x128 .f32) (x6 : Vec Ideal S1x128 .f32) (x7 : Vec Ideal S1x1024 .f32) (x8 : Vec Ideal S1x1024 .f32)

theorem fresh_real (g : Fin 4) : View.readCov (Val := Elt Ideal) arg15.view
    (freshStores (F := Ideal) arg1 harg1 arg2 harg2 arg3 harg3 arg4 harg4 arg5 harg5 arg6 harg6 arg7 harg7 arg8 harg8 arg9 harg9 arg15 arg16 x0 x1 x2 x3 x4 x5 x6 x7 x8 g.1 g.2.le) (rW g).toLoadRect
      = M2 fun _ _ => 0 := by
  have key : ∀ (n : ℕ) (hn : n ≤ 4), n ≤ g.1 → View.readCov (Val := Elt Ideal) arg15.view
      (freshStores (F := Ideal) arg1 harg1 arg2 harg2 arg3 harg3 arg4 harg4 arg5 harg5 arg6 harg6 arg7 harg7 arg8 harg8 arg9 harg9 arg15 arg16 x0 x1 x2 x3 x4 x5 x6 x7 x8 n hn) (rW g).toLoadRect
        = M2 fun _ _ => 0 := by
    intro n
    induction n with
    | zero =>
      intro hn _
      unfold freshStores
      rw [View.readCov_fill _ _ _ _ _ (by decide), fill_real]
      rfl
    | succ n ih =>
      intro hn hg
      unfold freshStores
      rw [View.readCov_skip _ _ _ _ _ (lanes_disj ⟨n, hn⟩ g hg)]
      exact ih _ (Nat.le_of_succ_le hg)
  exact key g.1 g.2.le le_rfl
end

theorem rows_disj : ∀ k g : Fin 4, k < g → LoadRect.disj (rR k) (rR g).toLoadRect = true := by decide +kernel
theorem acc_disj : ∀ k g : Fin 4, k < g → LoadRect.disj (rA 0 k) (rA 0 g).toLoadRect = true ∧ LoadRect.disj (rA 2 k) (rA 0 g).toLoadRect = true := by decide +kernel

theorem freshNorm_real (p : Point Ideal) (g : Fin 4) : View.readCov (Val := Elt Ideal) arg13.view (freshNorm (F := Ideal) arg13 p g.1) (rR g).toLoadRect = M2 fun _ _ => 0 := by
  have key : ∀ n : ℕ, n ≤ g.1 → View.readCov (Val := Elt Ideal) arg13.view (freshNorm (F := Ideal) arg13 p n) (rR g).toLoadRect = M2 fun _ _ => 0 := by
    intro n
    induction n with
    | zero =>
      intro _
      unfold freshNorm
      rw [View.readCov_fill _ _ _ _ _ (by decide)]
      exact congrArg (fun v : S1x1024.Idx → Elt Ideal .f32 => View.ld v (rR g)) (zeros_real (a := 1) (b := 1024))
    | succ n ih =>
      intro hg
      unfold freshNorm
      rw [View.readCov_skip _ _ _ _ _ (rows_disj (Fin.ofNat 4 n) g (Fin.lt_def.mpr (by rw [Fin.val_ofNat, Nat.mod_eq_of_lt (by omega)]; omega)))]
      exact ih (Nat.le_of_succ_le hg)
  exact key g.1 le_rfl

theorem freshAcc_real (p : Point Ideal) (g : Fin 4) : View.readCov (Val := Elt Ideal) arg17.view (freshAcc (F := Ideal) arg17 p g.1) (rA 0 g).toLoadRect = M2 fun _ _ => 0 := by
  have key : ∀ n : ℕ, n ≤ g.1 → View.readCov (Val := Elt Ideal) arg17.view (freshAcc (F := Ideal) arg17 p n) (rA 0 g).toLoadRect = M2 fun _ _ => 0 := by
    intro n
    induction n with
    | zero =>
      intro _
      unfold freshAcc
      rw [View.readCov_fill _ _ _ _ _ (by decide), fill8_real]
      rfl
    | succ n ih =>
      intro hg
      have hd := acc_disj (Fin.ofNat 4 n) g (Fin.lt_def.mpr (by rw [Fin.val_ofNat, Nat.mod_eq_of_lt (by omega)]; omega))
      unfold freshAcc
      rw [View.readCov_skip _ _ _ _ _ hd.2, View.readCov_skip _ _ _ _ _ hd.1]
      exact ih (Nat.le_of_succ_le hg)
  exact key g.1 le_rfl

end

end Cert.SsdBwd

end
-- ==== Proof.SsdBwdStore.lean ====
/- The arrays a grid point of the state space layer's backward kernel leaves behind, on real blocks. -/
module

public import proofs.«01_k».proof.Proof.SsdBwdPt

@[expose] public section

set_option maxRecDepth 16384

noncomputable section

namespace Cert.SsdBwd

open Cert.Kernel6Ideal Cert.Kernel6Ideal.Gen Cert.Ssd Cert.Reals Idealize.ShloMosaic Idealize.ShloMosaic.TcCoe Idealize.SL.Sem
open Cert.SsdFwd (rW rX rB rC rR rH inbX inbB inbC inbR inbW bX bR bZ bD load_M2 canon_lanes lanes_disj)
open Cert.SsdHost (A3 A3_ix3)

namespace RPoint
variable (r : RPoint)

/-- The columns' cotangent at a point: the lanes', then the states' inputs', then their outputs'. -/
def cols (i : Fin 128) (l : Fin 2048) : ℝ :=
  if h : l.1 < 1024 then r.dx ⟨l / 256, by omega⟩ i ⟨l % 256, by omega⟩
  else if h : l.1 < 1536 then r.db ⟨(l - 1024) / 128, by omega⟩ i ⟨(l - 1024) % 128, by omega⟩
  else r.dc ⟨(l - 1536) / 128, by omega⟩ i ⟨(l - 1536) % 128, by omega⟩

/-- The gate's cotangent at a point. -/
def dz (i : Fin 128) (l : Fin 1024) : ℝ :=
  dzR (r.y (groupOf l)) (r.z (groupOf l)) (r.o (groupOf l)) (r.w (groupOf l)) i (placeOf l)

/-- The point's part of the norm weights' cotangent. -/
def dw (l : Fin 1024) : ℝ := ∑ i, r.o (groupOf l) i (placeOf l) * normedR (r.y (groupOf l)) (r.z (groupOf l)) i (placeOf l)

/-- The cotangent of the state carried in. -/
def before (n : Fin 128) (l : Fin 1024) : ℝ := r.dprev (groupOf l) n (placeOf l)

/-- The point's part of the skip weights' cotangent, lane by lane. -/
def dskip (l : Fin 1024) : ℝ := ∑ i, r.dy (groupOf l) i (placeOf l) * (r.part (groupOf l)).x i (placeOf l)

/-- The cotangents of the running sums, the chunk's total and the step sizes, lane by lane. -/
def lcs (i : Fin 128) (l : Fin 1024) : ℝ := r.dcs (groupOf l) i (placeOf l)
def ltot (l : Fin 1024) : ℝ := r.dtot (groupOf l) (placeOf l)
def ldt (i : Fin 128) (l : Fin 1024) : ℝ := r.dxdt (groupOf l) i (placeOf l) * (r.part (groupOf l)).x i (placeOf l)

/-- The accumulator after a point. -/
def acc (A : Fin 8 → Fin 1024 → ℝ) (a : Fin 8) (l : Fin 1024) : ℝ :=
  if a.1 = 0 then A 0 l + r.dskip l else if a.1 = 2 then r.ltot l else A a l

/-- The cotangent of the log decays. -/
def da (i h : Fin 128) : ℝ := (∑ k, if i ≤ k then r.heads k h - r.rows h k + overHead (r.lcs k) h else 0) + overHead r.ltot h

/-- The cotangent of the raw step sizes. -/
def draw (rate : Fin 128 → ℝ) (raw : Fin 128 → Fin 128 → ℝ) (i h : Fin 128) : ℝ :=
  (overHead (r.ldt i) h + r.da i h * rate h) * (1 + Real.exp (-raw i h))⁻¹

/-- The small sums after a point. -/
def small (rate : Fin 128 → ℝ) (raw : Fin 128 → Fin 128 → ℝ) (A : Fin 8 → Fin 128 → ℝ) (a : Fin 8) (h : Fin 128) : ℝ :=
  if a.1 = 0 then A 0 h + ∑ i, r.draw rate raw i h else if a.1 = 1 then A 1 h + ∑ i, r.da i h * (r.part 0).dt i h else A a h

end RPoint

/-! ## Lists of stores -/

theorem canon_over {s : Shape} {e : EltTy} (G : s.Idx → Elt Ideal e) (L L' : List (View.Piece (Elt Ideal) s e)) (hL : ∀ p ∈ L, ∀ x, p.2 x = G (p.1.emb x))
    (hc : ∀ y, (∀ p ∈ L, y ∉ p.1.set) → View.canon L' y = G y) : View.canon (L ++ L') = G :=
  funext fun y => canon_agree G L' y L hL (hc y)

theorem canon_all {s : Shape} {e : EltTy} (G : s.Idx → Elt Ideal e) (L : List (View.Piece (Elt Ideal) s e)) (hL : ∀ p ∈ L, ∀ x, p.2 x = G (p.1.emb x))
    (hc : ∀ y, ∃ p ∈ L, y ∈ p.1.set) : View.canon L = G :=
  (congrArg View.canon (List.append_nil L).symm).trans (canon_over G L [] hL fun y h => by obtain ⟨p, hp, hy⟩ := hc y; exact absurd hy (h p hp))

/-- A rectangle's values agree with a real array's when they are its entries there. -/
theorem unit_agree {e : EltTy} {a b a' b' : ℕ} (o0 o1 : ℕ) (inb : ∀ x, (![o0, o1] : Fin 2 → ℕ) x + (![a', b'] : Fin 2 → ℕ) x ≤ (![a, b] : Fin 2 → ℕ) x)
    (w : (⟨2, ![a', b']⟩ : Shape).Idx → Elt Ideal e) (G : (⟨2, ![a, b]⟩ : Shape).Idx → Elt Ideal e)
    (h : ∀ (i : Fin a') (j : Fin b') (hi : o0 + i.1 < a) (hj : o1 + j.1 < b), w (ix2 i j) = G (ix2 ⟨o0 + i, hi⟩ ⟨o1 + j, hj⟩))
    (x : (⟨2, ![a', b']⟩ : Shape).Idx) : w x = G ((Rect.unit (s := ⟨2, ![a, b]⟩) ![o0, o1] ![a', b'] inb).emb x) := by
  obtain ⟨i, j, rfl⟩ : ∃ (i : Fin a') (j : Fin b'), x = ix2 i j := ⟨x 0, x 1, eq_ix2 x⟩
  have h0 : o0 + i.1 < a := by have := inb 0; have := i.2; simp at *; omega
  have h1 : o1 + j.1 < b := by have := inb 1; have := j.2; simp at *; omega
  refine (h i j h0 h1).trans (congrArg G (funext fun z => Fin.ext ?_))
  match z with
  | ⟨0, _⟩ => show o0 + i.1 = o0 + 1 * i.1; omega
  | ⟨1, _⟩ => show o1 + j.1 = o1 + 1 * j.1; omega

theorem mem_unit {a b a' b' : ℕ} (o0 o1 : ℕ) (inb : ∀ x, (![o0, o1] : Fin 2 → ℕ) x + (![a', b'] : Fin 2 → ℕ) x ≤ (![a, b] : Fin 2 → ℕ) x)
    (i : Fin a) (j : Fin b) (h0 : o0 ≤ i.1) (h0' : i.1 < o0 + a') (h1 : o1 ≤ j.1) (h1' : j.1 < o1 + b') :
    (ix2 i j : (⟨2, ![a, b]⟩ : Shape).Idx) ∈ (Rect.unit (s := ⟨2, ![a, b]⟩) ![o0, o1] ![a', b'] inb).set :=
  (Rect.mem_set_unit (inb := inb)).mpr fun z => match z with
    | ⟨0, _⟩ => ⟨h0, h0'⟩
    | ⟨1, _⟩ => ⟨h1, h1'⟩

theorem all_four (g : Fin 4) : g ∈ ([3, 2, 1, 0] : List (Fin 4)) := by revert g; decide

section
variable {p : Point Ideal} {r : RPoint} (E : p.Of r)
include E

theorem cols_real : View.canon (colStores p) = M2 r.cols := by
  refine canon_all _ _ (fun pc hp => ?_) fun y => ?_
  · obtain ⟨g, _, hp⟩ := List.mem_flatMap.mp hp
    rcases List.mem_cons.mp hp with rfl | hp
    · refine unit_agree 0 (1536 + 128 * g) (inbC g) _ _ fun i j hi hj => ?_
      show p.dc g (ix2 i j) = _
      rw [dc_real E, M2_ix2, M2_ix2]
      refine congrArg (fun x : ℝ => (x : EReal)) ?_
      unfold RPoint.cols
      rw [dif_neg (by show ¬1536 + 128 * g.1 + j.1 < 1024; omega), dif_neg (by show ¬1536 + 128 * g.1 + j.1 < 1536; omega)]
      congr 1
      · congr 1
        exact Fin.ext (by show g.1 = (1536 + 128 * g.1 + j.1 - 1536) / 128; omega)
      · exact Fin.ext (by show i.1 = 0 + i.1; omega)
      · exact Fin.ext (by show j.1 = (1536 + 128 * g.1 + j.1 - 1536) % 128; omega)
    rcases List.mem_cons.mp hp with rfl | hp
    · refine unit_agree 0 (1024 + 128 * g) (inbB g) _ _ fun i j hi hj => ?_
      show p.db g (ix2 i j) = _
      rw [db_real E, M2_ix2, M2_ix2]
      refine congrArg (fun x : ℝ => (x : EReal)) ?_
      unfold RPoint.cols
      rw [dif_neg (by show ¬1024 + 128 * g.1 + j.1 < 1024; omega), dif_pos (by show 1024 + 128 * g.1 + j.1 < 1536; omega)]
      congr 1
      · congr 1
        exact Fin.ext (by show g.1 = (1024 + 128 * g.1 + j.1 - 1024) / 128; omega)
      · exact Fin.ext (by show i.1 = 0 + i.1; omega)
      · exact Fin.ext (by show j.1 = (1024 + 128 * g.1 + j.1 - 1024) % 128; omega)
    rcases List.mem_singleton.mp hp with rfl
    · refine unit_agree 0 (256 * g) (inbX g) _ _ fun i j hi hj => ?_
      show p.dx g (ix2 i j) = _
      rw [dx_real E, M2_ix2, M2_ix2]
      refine congrArg (fun x : ℝ => (x : EReal)) ?_
      unfold RPoint.cols
      rw [dif_pos (by show 256 * g.1 + j.1 < 1024; omega)]
      congr 1
      · congr 1
        exact Fin.ext (by show g.1 = (256 * g.1 + j.1) / 256; omega)
      · exact Fin.ext (by show i.1 = 0 + i.1; omega)
      · exact Fin.ext (by show j.1 = (256 * g.1 + j.1) % 256; omega)
  · obtain ⟨i, l, rfl⟩ : ∃ (i : Fin 128) (l : Fin 2048), y = ix2 i l := ⟨y 0, y 1, eq_ix2 y⟩
    by_cases h : l.1 < 1024
    · exact ⟨⟨rX ⟨l / 256, by omega⟩, p.dx ⟨l / 256, by omega⟩⟩, List.mem_flatMap.mpr ⟨⟨l / 256, by omega⟩, all_four _, List.mem_cons_of_mem _ (List.mem_cons_of_mem _ List.mem_cons_self)⟩,
        mem_unit _ _ (inbX ⟨l / 256, by omega⟩) i l (Nat.zero_le _) (by omega) (by show 256 * (l.1 / 256) ≤ l.1; omega) (by show l.1 < 256 * (l.1 / 256) + 256; omega)⟩
    by_cases h' : l.1 < 1536
    · exact ⟨⟨rB ⟨(l - 1024) / 128, by omega⟩, p.db ⟨(l - 1024) / 128, by omega⟩⟩, List.mem_flatMap.mpr ⟨⟨(l - 1024) / 128, by omega⟩, all_four _, List.mem_cons_of_mem _ List.mem_cons_self⟩,
        mem_unit _ _ (inbB ⟨(l - 1024) / 128, by omega⟩) i l (Nat.zero_le _) (by omega) (by show 1024 + 128 * ((l.1 - 1024) / 128) ≤ l.1; omega) (by show l.1 < 1024 + 128 * ((l.1 - 1024) / 128) + 128; omega)⟩
    · exact ⟨⟨rC ⟨(l - 1536) / 128, by omega⟩, p.dc ⟨(l - 1536) / 128, by omega⟩⟩, List.mem_flatMap.mpr ⟨⟨(l - 1536) / 128, by omega⟩, all_four _, List.mem_cons_self⟩,
        mem_unit _ _ (inbC ⟨(l - 1536) / 128, by omega⟩) i l (Nat.zero_le _) (by omega) (by show 1536 + 128 * ((l.1 - 1536) / 128) ≤ l.1; omega) (by show l.1 < 1536 + 128 * ((l.1 - 1536) / 128) + 128; omega)⟩

theorem gate_real : View.canon (gateStores p) = M2 r.dz := by
  refine (congrArg View.canon (List.append_nil _).symm).trans (canon_lanes _ [] _ fun g a l => ?_)
  rw [y_real (E.part g), E.z, E.o, E.w, gateV_real, M2_ix2, RPoint.dz, group_lane, place_lane]
  rfl

theorem state_real (L : List (View.Piece (Elt Ideal) S128x1024 .f32)) : View.canon (stateStores p ++ L) = M2 r.before := by
  refine canon_lanes _ L _ fun g a l => ?_
  rw [dprev_real E, M2_ix2, RPoint.before, group_lane, place_lane]
  pointwise
  rfl

theorem csBack_real (arg18 : Memref sig .tc .vmem S128x1024 .f32) : csBack (F := Ideal) arg18 p = M2 r.lcs := by
  unfold csBack
  rw [View.readCov_eq_canon']
  have e := canon_lanes (e := .f32) (fun g => shapeCast S128x256 (p.dcs g) shapeCasts_S128x256_S128x256) [] (M2 r.lcs : S128x1024.Idx → EReal) fun g a l => by
    rw [dcs_real E, M2_ix2, RPoint.lcs, group_lane, place_lane]
    pointwise
    rfl
  rw [List.append_nil] at e
  funext j
  refine Eq.trans (congrArg _ (funext fun z => Fin.ext ?_)) (congrFun e j)
  match z with
  | ⟨0, _⟩ => show 0 + 1 * (j 0).1 = (j 0).1; omega
  | ⟨1, _⟩ => show 0 + 1 * (j 1).1 = (j 1).1; omega

theorem dtBack_real (arg19 : Memref sig .tc .vmem S128x1024 .f32) : dtBack (F := Ideal) arg19 p = M2 r.ldt := by
  unfold dtBack
  rw [View.readCov_eq_canon']
  have e := canon_lanes (e := .f32) (fun g => shapeCast S128x256 (mulf (p.dxdt g) (p.part g).x) shapeCasts_S128x256_S128x256) [] (M2 r.ldt : S128x1024.Idx → EReal) fun g a l => by
    rw [dxdt_real E, (E.part g).x, mulf_real, M2_ix2, RPoint.ldt, group_lane, place_lane]
    pointwise
    rfl
  rw [List.append_nil] at e
  funext j
  refine Eq.trans (congrArg _ (funext fun z => Fin.ext ?_)) (congrFun e j)
  match z with
  | ⟨0, _⟩ => show 0 + 1 * (j 0).1 = (j 0).1; omega
  | ⟨1, _⟩ => show 0 + 1 * (j 1).1 = (j 1).1; omega

/-- The norm weights' sums, over any earlier ones. -/
theorem norm_real (old : Fin 4 → FVec Ideal S1x256 .f32) (A : Fin 1024 → ℝ) (h : ∀ g, old g = M2 fun _ l => A (lane g l)) (L : List (View.Piece (Elt Ideal) S1x1024 .f32)) :
    View.canon (normStores p old ++ L) = M2 fun _ l => A l + r.dw l := by
  refine canon_over _ _ L (fun pc hp => ?_) fun y hy => ?_
  · obtain ⟨g, _, rfl⟩ := List.mem_map.mp hp
    refine unit_agree 0 (256 * g) (inbR g) _ _ fun i j hi hj => ?_
    have ej : (⟨256 * g.1 + j.1, hj⟩ : Fin 1024) = lane g j := Fin.ext (by show 256 * g.1 + j.1 = g.1 * 256 + j.1; omega)
    show addf (shapeCast S1x256 (old g) shapeCasts_S1x256_S1x256) (sumV (mulf (p.o g) (normedV ((p.part g).y g) (p.z g)))) (ix2 i j) = _
    rw [h, same_row, y_real (E.part g), E.z, normedV_eq, E.o, mulf_real, sumV_real, addf_real, M2_ix2, M2_ix2, ej, RPoint.dw, group_lane, place_lane]
    rfl
  · obtain ⟨i, l, rfl⟩ : ∃ (i : Fin 1) (l : Fin 1024), y = ix2 i l := ⟨y 0, y 1, eq_ix2 y⟩
    refine absurd (mem_unit (a' := 1) (b' := 256) 0 (256 * groupOf l) (inbR (groupOf l)) i l (Nat.zero_le _) (by omega) (by show 256 * (l.1 / 256) ≤ l.1; omega) (by show l.1 < 256 * (l.1 / 256) + 256; omega))
      (hy ⟨rR (groupOf l), _⟩ (List.mem_map.mpr ⟨groupOf l, all_four _, rfl⟩))

/-- The accumulator's stores are entries of the accumulator after the point. -/
theorem acc_agree (old : Fin 4 → FVec Ideal S1x256 .f32) (A : Fin 8 → Fin 1024 → ℝ) (h : ∀ g, old g = M2 fun _ l => A 0 (lane g l)) :
    ∀ pc ∈ accStores p old, ∀ x, pc.2 x = (M2 (r.acc A) : S8x1024.Idx → EReal) (pc.1.emb x) := by
  intro pc hp
  obtain ⟨g, _, hp⟩ := List.mem_flatMap.mp hp
  rcases List.mem_cons.mp hp with rfl | hp
  · refine unit_agree 2 (256 * g) (inbA 2 g) _ _ fun i j hi hj => ?_
    have ej : (⟨256 * g.1 + j.1, hj⟩ : Fin 1024) = lane g j := Fin.ext (by show 256 * g.1 + j.1 = g.1 * 256 + j.1; omega)
    show shapeCast S1x256 (p.dtot g) shapeCasts_S1x256_S1x256 (ix2 i j) = _
    rw [dtot_real E, same_row, M2_ix2, M2_ix2, ej, RPoint.acc, if_neg (by show ¬2 + i.1 = 0; omega), if_pos (by show 2 + i.1 = 2; omega), RPoint.ltot, group_lane, place_lane]
  · rcases List.mem_singleton.mp hp with rfl
    refine unit_agree 0 (256 * g) (inbA 0 g) _ _ fun i j hi hj => ?_
    have ej : (⟨256 * g.1 + j.1, hj⟩ : Fin 1024) = lane g j := Fin.ext (by show 256 * g.1 + j.1 = g.1 * 256 + j.1; omega)
    show shapeCast S1x256 (addf (old g) (sumV (mulf (p.dy g) (p.part g).x))) shapeCasts_S1x256_S1x256 (ix2 i j) = _
    rw [h, dy_real E, (E.part g).x, mulf_real, sumV_real, addf_real, same_row, M2_ix2, M2_ix2, ej, RPoint.acc, if_pos (by show 0 + i.1 = 0; omega), RPoint.dskip, group_lane, place_lane]

omit E in
theorem acc_rest (old : Fin 4 → FVec Ideal S1x256 .f32) (A : Fin 8 → Fin 1024 → ℝ) (y : S8x1024.Idx) (hy : ∀ pc ∈ accStores p old, y ∉ pc.1.set) :
    (M2 A : S8x1024.Idx → EReal) y = M2 (r.acc A) y := by
  obtain ⟨a, l, rfl⟩ : ∃ (a : Fin 8) (l : Fin 1024), y = ix2 a l := ⟨y 0, y 1, eq_ix2 y⟩
  rw [M2_ix2, M2_ix2]
  have m : ∀ o : Fin 8, a.1 = o.1 → (ix2 a l : S8x1024.Idx) ∈ (rA o (groupOf l)).set := fun o ho =>
    mem_unit (a' := 1) (b' := 256) o (256 * groupOf l) (inbA o (groupOf l)) a l (by omega) (by omega) (by show 256 * (l.1 / 256) ≤ l.1; omega) (by show l.1 < 256 * (l.1 / 256) + 256; omega)
  have h0 : ¬a.1 = 0 := fun h => hy _ (List.mem_flatMap.mpr ⟨groupOf l, all_four _, List.mem_cons_of_mem _ List.mem_cons_self⟩) (m 0 h)
  have h2 : ¬a.1 = 2 := fun h => hy _ (List.mem_flatMap.mpr ⟨groupOf l, all_four _, List.mem_cons_self⟩) (m 2 h)
  rw [RPoint.acc, if_neg h0, if_neg h2]

end

/-! ## Reading back -/

/-- A read back of a covered rectangle. -/
theorem cov_unit {sg : RefSig} {a b a' b' : ℕ} (v : View sg .tc .vmem ⟨2, ![a, b]⟩ .f32) (L : List (View.Piece (Elt Ideal) ⟨2, ![a, b]⟩ .f32)) (o0 o1 : ℕ)
    (inb : ∀ x, (![o0, o1] : Fin 2 → ℕ) x + (![a', b'] : Fin 2 → ℕ) x ≤ (![a, b] : Fin 2 → ℕ) x) (W : Fin a' → Fin b' → ℝ)
    (h : ∀ (i : Fin a') (j : Fin b') (hi : o0 + i.1 < a) (hj : o1 + j.1 < b), View.canon L (ix2 ⟨o0 + i, hi⟩ ⟨o1 + j, hj⟩) = (W i j : EReal)) :
    View.readCov (Val := Elt Ideal) v L (Rect.unit (s := ⟨2, ![a, b]⟩) ![o0, o1] ![a', b'] inb).toLoadRect = M2 W := by
  rw [View.readCov_eq_canon']
  funext x
  obtain ⟨i, j, rfl⟩ : ∃ (i : Fin a') (j : Fin b'), x = ix2 i j := ⟨x 0, x 1, eq_ix2 x⟩
  have h0 : o0 + i.1 < a := by have := inb 0; have := i.2; simp at *; omega
  have h1 : o1 + j.1 < b := by have := inb 1; have := j.2; simp at *; omega
  refine (congrArg (View.canon L) (funext fun z => Fin.ext ?_)).trans (h i j h0 h1)
  match z with
  | ⟨0, _⟩ => show o0 + 1 * i.1 = o0 + i.1; omega
  | ⟨1, _⟩ => show o1 + 1 * j.1 = o1 + j.1; omega

/-- A read of a rectangle over what the stores left. -/
theorem at_unit {sg : RefSig} {a b a' b' : ℕ} (v : View sg .tc .vmem ⟨2, ![a, b]⟩ .f32) (f : v.ty.Contents (Elt Ideal)) (o0 o1 : ℕ)
    (inb : ∀ x, (![o0, o1] : Fin 2 → ℕ) x + (![a', b'] : Fin 2 → ℕ) x ≤ (![a, b] : Fin 2 → ℕ) x) (W : Fin a' → Fin b' → ℝ)
    (h : ∀ (i : Fin a') (j : Fin b') (hi : o0 + i.1 < a) (hj : o1 + j.1 < b), v.read (Elt Ideal) f (ix2 ⟨o0 + i, hi⟩ ⟨o1 + j, hj⟩) = (W i j : EReal)) :
    View.readAt (Elt Ideal) v (Rect.unit (s := ⟨2, ![a, b]⟩) ![o0, o1] ![a', b'] inb).toLoadRect f = M2 W := by
  rw [View.readAt_eq_ld]
  funext x
  obtain ⟨i, j, rfl⟩ : ∃ (i : Fin a') (j : Fin b'), x = ix2 i j := ⟨x 0, x 1, eq_ix2 x⟩
  have h0 : o0 + i.1 < a := by have := inb 0; have := i.2; simp at *; omega
  have h1 : o1 + j.1 < b := by have := inb 1; have := j.2; simp at *; omega
  exact (View.ld_unit_apply_of _ _ _ _ (ix2 i j) (ix2 ⟨o0 + i, h0⟩ ⟨o1 + j, h1⟩) fun z => by
    match z with
    | ⟨0, _⟩ => rfl
    | ⟨1, _⟩ => rfl).trans (h i j h0 h1)

seal View.readCov View.readAt

theorem freshAcc_list (arg17 : Memref sig .tc .vmem S8x1024 .f32) (p : Point Ideal) : freshAcc (F := Ideal) arg17 p 4
    = accStores p (fun g => View.readCov (Val := Elt Ideal) arg17.view (freshAcc (F := Ideal) arg17 p g.1) (rA 0 g).toLoadRect)
      ++ [⟨Rect.unit ![0, 0] S8x1024.size inb_S8x1024_S8x1024_0_0, shapeCast S8x1024 (zeroV (F := Ideal) S8x1024) shapeCasts_S8x1024_S8x1024⟩] := by rfl

theorem freshNorm_list (arg13 : Memref sig .tc .vmem S1x1024 .f32) (p : Point Ideal) : freshNorm (F := Ideal) arg13 p 4
    = normStores p (fun g => View.readCov (Val := Elt Ideal) arg13.view (freshNorm (F := Ideal) arg13 p g.1) (rR g).toLoadRect)
      ++ [⟨Rect.unit ![0, 0] S1x1024.size inb_S1x1024_S1x1024_0_0, zeroV (F := Ideal) S1x1024⟩] := by rfl

section
variable (arg2 : Memref sig .tc .vmem S128x128 .f32) (harg2 : arg2.IsWhole) (arg6 : Memref sig .tc .vmem S1x128 .f32) (harg6 : arg6.IsWhole)
  (arg7 : Memref sig .tc .vmem S1x128 .f32) (harg7 : arg7.IsWhole) (arg13 : Memref sig .tc .vmem S1x1024 .f32) (harg13 : arg13.IsWhole)
  (arg14 : Memref sig .tc .vmem S8x128 .f32) (harg14 : arg14.IsWhole) (arg17 : Memref sig .tc .vmem S8x1024 .f32) (harg17 : arg17.IsWhole)
  (arg18 : Memref sig .tc .vmem S128x1024 .f32) (arg19 : Memref sig .tc .vmem S128x1024 .f32)
  {p : Point Ideal} {r : RPoint} (E : p.Of r) (q : SeqB) (k : Fin 16)
include E

theorem acc_left (A : Fin 8 → Fin 1024 → ℝ) : arg17.view.read (Elt Ideal) (arg17.view.writes (Elt Ideal) (harg17.unread (M2 A : S8x1024.Idx → EReal))
    (accStores p fun g => View.readAt (Elt Ideal) arg17.view (rA 0 g).toLoadRect (harg17.unread (M2 A : S8x1024.Idx → EReal)))) = M2 (r.acc A) :=
  funext fun y => read_agree arg17.view _ (M2 (r.acc A)) y _
    (acc_agree E _ A fun g => load_M2 arg17 harg17 A 0 (256 * g) (inbA 0 g) _ fun i j hi hj => by
      refine congrArg₂ A (Fin.ext (by show 0 + i.1 = 0; omega)) (Fin.ext ?_)
      show 256 * g.1 + j.1 = g.1 * 256 + j.1; omega)
    fun h => (congrFun (harg17.read_unread _) y).trans (acc_rest _ A y h)

/-- The accumulator read back over earlier values. -/
theorem acc_back (A : Fin 8 → Fin 1024 → ℝ) : accBack (F := Ideal) arg17 harg17 (M2 A) p = M2 (r.acc A) :=
  at_unit arg17.view _ 0 0 _ (r.acc A) fun i j hi hj => by
    refine (congrFun (acc_left arg17 harg17 E A) _).trans ?_
    rw [M2_ix2]
    congr 2 <;> exact Fin.ext (Nat.zero_add _)

theorem acc_fresh : View.canon (freshAcc (F := Ideal) arg17 p 4) = M2 (r.acc fun _ _ => 0) := by
  rw [freshAcc_list]
  refine canon_over _ (accStores p fun g => View.readCov (Val := Elt Ideal) arg17.view (freshAcc (F := Ideal) arg17 p g.1) (rA 0 g).toLoadRect)
    [⟨Rect.unit ![0, 0] S8x1024.size inb_S8x1024_S8x1024_0_0, shapeCast S8x1024 (zeroV (F := Ideal) S8x1024) shapeCasts_S8x1024_S8x1024⟩]
    (acc_agree E _ _ fun g => freshAcc_real arg17 p g) fun y h => ?_
  refine Eq.trans ?_ (acc_rest _ _ y h)
  exact congrFun ((View.canon_cons_unit_lit _ _ [] (by decide)).trans fill8_real) y

/-- The accumulator read back at the first point. -/
theorem acc_first : freshBack (F := Ideal) arg17 p = M2 (r.acc fun _ _ => 0) :=
  cov_unit arg17.view _ 0 0 _ (r.acc fun _ _ => 0) fun i j hi hj => by
    rw [acc_fresh arg17 E, M2_ix2]
    congr 2 <;> exact Fin.ext (Nat.zero_add _)

theorem norm_fresh : View.canon (freshNorm (F := Ideal) arg13 p 4) = M2 fun _ l => r.dw l := by
  rw [freshNorm_list]
  refine (norm_real E (fun g => View.readCov (Val := Elt Ideal) arg13.view (freshNorm (F := Ideal) arg13 p g.1) (rR g).toLoadRect) (fun _ => 0)
    (fun g => freshNorm_real arg13 p g) [⟨Rect.unit ![0, 0] S1x1024.size inb_S1x1024_S1x1024_0_0, zeroV (F := Ideal) S1x1024⟩]).trans ?_
  simp only [zero_add]

theorem norm_left (A : Fin 1024 → ℝ) (L : List (View.Piece (Elt Ideal) S1x1024 .f32)) :
    View.canon (normStores p (fun g => View.readAt (Elt Ideal) arg13.view (rR g).toLoadRect (harg13.unread (M2 fun _ => A))) ++ L) = M2 fun _ l => A l + r.dw l :=
  norm_real E _ A (fun g => load_M2 arg13 harg13 (fun _ => A) 0 (256 * g) (inbR g) _ fun i j hi hj => by
    refine congrArg A (Fin.ext ?_)
    show 256 * g.1 + j.1 = g.1 * 256 + j.1; omega) L

theorem aAt_real (A : Fin 8 → Fin 1024 → ℝ) : aAt (F := Ideal) arg18 p (M2 (r.acc A)) = M2 r.da := by
  unfold aAt
  rw [heads_real E, rows_real E, csBack_real E, logCot_real]
  rfl

theorem rawAt_real (A : Fin 8 → Fin 1024 → ℝ) :
    rawAt (F := Ideal) arg2 harg2 arg6 harg6 arg7 harg7 arg18 arg19 (M2 (bR q.toSeq k)) (M2 fun _ => pad q.bias) (M2 fun _ => pad q.al) p (M2 (r.acc A)) = M2 (r.draw q.rate (q.raw k)) := by
  unfold rawAt
  rw [aAt_real arg18 E, dtBack_real E, rawL_real, biasL_real, rateL_real, rates_real, rawCot_real]
  rfl

theorem step_real : mulf (M2 r.da : FVec Ideal S128x128 .f32) (p.part 0).dt = M2 fun i h => r.da i h * (r.part 0).dt i h := by
  rw [(E.part 0).dt, mulf_real]

end

theorem row_real (arg14 : Memref sig .tc .vmem S8x128 .f32) (harg14 : arg14.IsWhole) (A : Fin 8 → Fin 128 → ℝ) (o : Fin 8) :
    View.readAt (Elt Ideal) arg14.view (rS o).toLoadRect (harg14.unread (M2 A : S8x128.Idx → EReal)) = M2 fun _ => A o :=
  load_M2 arg14 harg14 A o 0 (inbS o) (fun _ => A o) fun i j hi hj => by
    congr 1
    · exact Fin.ext (by show o.1 + i.1 = o.1; omega)
    · exact Fin.ext (Nat.zero_add _)

theorem row_set (o : Fin 8) (a : Fin 8) (h : Fin 128) (e : a.1 = o.1) : (ix2 a h : S8x128.Idx) ∈ (rS o).set :=
  mem_unit (a' := 1) (b' := 128) o 0 (inbS o) a h (by omega) (by omega) (Nat.zero_le _) (by omega)

theorem row_agree (o : Fin 8) (V : Fin 128 → ℝ) (w : FVec Ideal S1x128 .f32) (hw : w = M2 fun _ => V) (G : Fin 8 → Fin 128 → ℝ) (h : ∀ j, V j = G o j) (x : S1x128.Idx) :
    w x = (M2 G : S8x128.Idx → EReal) ((rS o).emb x) := by
  refine unit_agree (e := .f32) (a' := 1) (b' := 128) o 0 (inbS o) w (M2 G) (fun i j hi hj => ?_) x
  rw [hw, M2_ix2, M2_ix2, h]
  congr 2
  · exact Fin.ext (by show o.1 = o.1 + i.1; omega)
  · exact Fin.ext (Nat.zero_add _).symm

/-- Reading a row back over the row before it. -/
theorem row_back (arg14 : Memref sig .tc .vmem S8x128 .f32) (u w : FVec Ideal S1x128 .f32) :
    View.readCov (Val := Elt Ideal) arg14.view [⟨rS 0, u⟩, ⟨rS 1, w⟩] (rS 1).toLoadRect = w := by
  rw [View.readCov_eq_canon']
  funext x
  refine (View.canon_cons_of_not_mem (⟨rS 0, u⟩ : View.Piece (Elt Ideal) S8x128 .f32) [⟨rS 1, w⟩] (y := (rS 1).emb x) fun h => ?_).trans
    (View.canon_cons_emb (Val := Elt Ideal) (e := .f32) (rS 1) w [] x)
  have e : 1 + 1 * (x 0).1 < 0 + 1 := ((Rect.mem_set_unit (inb := inbS 0)).mp h 0).2
  omega

/-- Two rows stored over the others. -/
theorem two_rows (arg14 : Memref sig .tc .vmem S8x128 .f32) (w2 w1 : FVec Ideal S1x128 .f32) (L : List (View.Piece (Elt Ideal) S8x128 .f32)) (f : arg14.view.ty.Contents (Elt Ideal))
    (A G : Fin 8 → Fin 128 → ℝ) (hf : arg14.view.read (Elt Ideal) (arg14.view.writes (Elt Ideal) f L) = M2 A) (h2 : w2 = M2 fun _ => G 2) (h1 : w1 = M2 fun _ => G 1)
    (h : ∀ a l, ¬a.1 = 1 → ¬a.1 = 2 → A a l = G a l) :
    arg14.view.read (Elt Ideal) (arg14.view.writes (Elt Ideal) f ([⟨rS 2, w2⟩, ⟨rS 1, w1⟩] ++ L)) = M2 G := by
  funext y
  refine read_agree arg14.view (arg14.view.writes (Elt Ideal) f L) (M2 G) y [⟨rS 2, w2⟩, ⟨rS 1, w1⟩] (fun pc hp x => ?_) (fun hn => ?_)
  · rcases List.mem_cons.mp hp with rfl | hp
    · exact row_agree 2 _ _ h2 _ (fun _ => rfl) x
    · rcases List.mem_singleton.mp hp with rfl
      exact row_agree 1 _ _ h1 _ (fun _ => rfl) x
  · rw [hf]
    obtain ⟨a, l, rfl⟩ : ∃ (a : Fin 8) (l : Fin 128), y = ix2 a l := ⟨y 0, y 1, eq_ix2 y⟩
    rw [M2_ix2, M2_ix2]
    rw [h a l (fun e => hn _ (List.mem_cons_of_mem _ List.mem_cons_self) (row_set 1 a l e)) fun e => hn _ List.mem_cons_self (row_set 2 a l e)]

theorem head_row (B : Fin 8 → Fin 1024 → ℝ) : extractStridedSlice S1x128 ![0, 0] (headSumR (F := Ideal) (M2 B)) slices_S8x128_o0_0_S1x128 = M2 fun _ h => overHead (B 0) h := by
  rw [headSumR_real]
  funext z
  obtain ⟨a, l, rfl⟩ : ∃ (a : Fin 1) (l : Fin 128), z = ix2 a l := ⟨z 0, z 1, eq_ix2 z⟩
  pointwise
  obtain rfl : a = 0 := Subsingleton.elim _ _
  rfl

theorem times_row (A B : Fin 128 → ℝ) : mulf (F := Ideal) (φ := .f32) (shapeCast S1x128 (M2 fun (_ : Fin 1) => A : FVec Ideal S1x128 .f32) shapeCasts_S1x128_S1x128) (M2 fun (_ : Fin 1) => B) = M2 fun (_ : Fin 1) h => A h * B h := by
  funext z
  obtain ⟨a, l, rfl⟩ : ∃ (a : Fin 1) (l : Fin 128), z = ix2 a l := ⟨z 0, z 1, eq_ix2 z⟩
  pointwise
  simp only [M2_ix2, mul_coe]

/-- The rows stored at a point. -/
abbrev rowsAt (arg2 : Memref sig .tc .vmem S128x128 .f32) (harg2 : arg2.IsWhole) (arg6 : Memref sig .tc .vmem S1x128 .f32) (harg6 : arg6.IsWhole)
    (arg7 : Memref sig .tc .vmem S1x128 .f32) (harg7 : arg7.IsWhole) (arg18 : Memref sig .tc .vmem S128x1024 .f32) (arg19 : Memref sig .tc .vmem S128x1024 .f32)
    (q : SeqB) (k : Fin 16) (p : Point Ideal) (acc : FVec Ideal S8x1024 .f32) (o0 o1 : FVec Ideal S1x128 .f32) : List (View.Piece (Elt Ideal) S8x128 .f32) :=
  smallStores (F := Ideal) arg2 harg2 arg6 harg6 arg7 harg7 arg18 arg19 (M2 (bR q.toSeq k)) (M2 fun _ => pad q.bias) (M2 fun _ => pad q.al) p acc o0 o1

section
variable (arg2 : Memref sig .tc .vmem S128x128 .f32) (harg2 : arg2.IsWhole) (arg6 : Memref sig .tc .vmem S1x128 .f32) (harg6 : arg6.IsWhole)
  (arg7 : Memref sig .tc .vmem S1x128 .f32) (harg7 : arg7.IsWhole)
  (arg14 : Memref sig .tc .vmem S8x128 .f32) (harg14 : arg14.IsWhole)
  (arg18 : Memref sig .tc .vmem S128x1024 .f32) (arg19 : Memref sig .tc .vmem S128x1024 .f32)
  {p : Point Ideal} {r : RPoint} (E : p.Of r) (q : SeqB) (k : Fin 16) (B : Fin 8 → Fin 1024 → ℝ)
include E

theorem small_agree (A : Fin 8 → Fin 128 → ℝ) (o0 o1 : FVec Ideal S1x128 .f32) (h0 : o0 = M2 fun _ => A 0) (h1 : o1 = M2 fun _ => A 1) :
    ∀ pc ∈ rowsAt arg2 harg2 arg6 harg6 arg7 harg7 arg18 arg19 q k p (M2 (r.acc B)) o0 o1, ∀ x, pc.2 x = (M2 (r.small q.rate (q.raw k) A) : S8x128.Idx → EReal) (pc.1.emb x) := by
  intro pc hp x
  rcases List.mem_cons.mp hp with rfl | hp
  · exact row_agree 0 _ _ ((congrArg₂ addSum h0 (rawAt_real arg2 harg2 arg6 harg6 arg7 harg7 arg18 arg19 E q k B)).trans (addSum_real _ _)) _ (fun j => (if_pos rfl).symm) x
  · rcases List.mem_singleton.mp hp with rfl
    exact row_agree 1 _ _ ((congrArg₂ addSum h1 ((congrArg (fun v => mulf v (p.part 0).dt) (aAt_real arg18 E B)).trans (step_real E))).trans (addSum_real _ _)) _
      (fun j => ((if_neg (by decide)).trans (if_pos rfl)).symm) x

omit E in
theorem small_rest (A : Fin 8 → Fin 128 → ℝ) (acc : FVec Ideal S8x1024 .f32) (o0 o1 : FVec Ideal S1x128 .f32) (y : S8x128.Idx)
    (hy : ∀ pc ∈ rowsAt arg2 harg2 arg6 harg6 arg7 harg7 arg18 arg19 q k p acc o0 o1, y ∉ pc.1.set) :
    (M2 A : S8x128.Idx → EReal) y = M2 (r.small q.rate (q.raw k) A) y := by
  obtain ⟨a, l, rfl⟩ : ∃ (a : Fin 8) (l : Fin 128), y = ix2 a l := ⟨y 0, y 1, eq_ix2 y⟩
  rw [M2_ix2, M2_ix2]
  have h0 : ¬a.1 = 0 := fun h => hy _ List.mem_cons_self (row_set 0 a l h)
  have h1 : ¬a.1 = 1 := fun h => hy _ (List.mem_cons_of_mem _ List.mem_cons_self) (row_set 1 a l h)
  rw [RPoint.small, if_neg h0, if_neg h1]

theorem small_left (A : Fin 8 → Fin 128 → ℝ) : arg14.view.read (Elt Ideal) (arg14.view.writes (Elt Ideal) (harg14.unread (M2 A : S8x128.Idx → EReal))
    (rowsAt arg2 harg2 arg6 harg6 arg7 harg7 arg18 arg19 q k p (M2 (r.acc B))
      (View.readAt (Elt Ideal) arg14.view (rS 0).toLoadRect (harg14.unread (M2 A : S8x128.Idx → EReal)))
      (View.readAt (Elt Ideal) arg14.view (rS 1).toLoadRect (harg14.unread (M2 A : S8x128.Idx → EReal))))) = M2 (r.small q.rate (q.raw k) A) :=
  funext fun y => read_agree arg14.view _ (M2 (r.small q.rate (q.raw k) A)) y _
    (small_agree arg2 harg2 arg6 harg6 arg7 harg7 arg18 arg19 E q k B A _ _ (row_real arg14 harg14 A 0) (row_real arg14 harg14 A 1))
    fun h => (congrFun (harg14.read_unread _) y).trans (small_rest arg2 harg2 arg6 harg6 arg7 harg7 arg18 arg19 q k A _ _ _ y h)

/-- The small sums after the last point. -/
def RPoint.last (r : RPoint) (rate : Fin 128 → ℝ) (raw : Fin 128 → Fin 128 → ℝ) (B : Fin 8 → Fin 1024 → ℝ) (A : Fin 8 → Fin 128 → ℝ) (a : Fin 8) (h : Fin 128) : ℝ :=
  if a.1 = 2 then overHead (r.acc B 0) h else if a.1 = 1 then r.small rate raw A 1 h * rate h else r.small rate raw A a h

omit E in
theorem last_over (L : List (View.Piece (Elt Ideal) S8x128 .f32)) (f : arg14.view.ty.Contents (Elt Ideal)) (A : Fin 8 → Fin 128 → ℝ)
    (hf : arg14.view.read (Elt Ideal) (arg14.view.writes (Elt Ideal) f L) = M2 (r.small q.rate (q.raw k) A))
    (hc : View.readCov (Val := Elt Ideal) arg14.view L (rS 1).toLoadRect = M2 fun _ => r.small q.rate (q.raw k) A 1) :
    arg14.view.read (Elt Ideal) (arg14.view.writes (Elt Ideal) f (lastSmall (F := Ideal) arg7 harg7 arg14 (M2 fun _ => pad q.al) (M2 (r.acc B)) L)) = M2 (r.last q.rate (q.raw k) B A) := by
  refine two_rows arg14 _ _ L f _ _ hf (head_row (r.acc B)) ?_ (fun a l h1 h2 => ?_)
  · rw [hc, rateL_real, rates_real]
    exact (times_row _ _).trans (congrArg M2 (funext fun _ => funext fun h => ((if_neg (by decide)).trans (if_pos rfl)).symm))
  · rw [RPoint.last, if_neg h2, if_neg h1]

theorem last_left (A : Fin 8 → Fin 128 → ℝ) : arg14.view.read (Elt Ideal) (arg14.view.writes (Elt Ideal) (harg14.unread (M2 A : S8x128.Idx → EReal))
    (lastSmall (F := Ideal) arg7 harg7 arg14 (M2 fun _ => pad q.al) (M2 (r.acc B)) (rowsAt arg2 harg2 arg6 harg6 arg7 harg7 arg18 arg19 q k p (M2 (r.acc B))
      (View.readAt (Elt Ideal) arg14.view (rS 0).toLoadRect (harg14.unread (M2 A : S8x128.Idx → EReal)))
      (View.readAt (Elt Ideal) arg14.view (rS 1).toLoadRect (harg14.unread (M2 A : S8x128.Idx → EReal)))))) = M2 (r.last q.rate (q.raw k) B A) :=
  last_over arg7 harg7 arg14 q k B _ _ A (small_left arg2 harg2 arg6 harg6 arg7 harg7 arg14 harg14 arg18 arg19 E q k B A)
    ((row_back arg14 _ _).trans ((congrArg₂ addSum (row_real arg14 harg14 A 1) ((congrArg (fun v => mulf v (p.part 0).dt) (aAt_real arg18 E B)).trans (step_real E))).trans
      ((addSum_real _ _).trans (congrArg M2 (funext fun _ => funext fun h => ((if_neg (by decide)).trans (if_pos rfl)).symm)))))

theorem small_first : View.canon (freshSmall (F := Ideal) arg2 harg2 arg6 harg6 arg7 harg7 arg14 arg18 arg19 (M2 (bR q.toSeq k)) (M2 fun _ => pad q.bias) (M2 fun _ => pad q.al) p (M2 (r.acc B)))
    = M2 (r.small q.rate (q.raw k) fun _ _ => 0) := by
  have hz : View.canon [fillS (F := Ideal)] = M2 (fun (_ : Fin 8) (_ : Fin 128) => (0 : ℝ)) := (View.canon_cons_unit_lit _ _ [] (by decide)).trans zeros_real
  have c1 : View.readCov (Val := Elt Ideal) arg14.view [fillS (F := Ideal)] (rS 1).toLoadRect = M2 fun (_ : Fin 1) (_ : Fin 128) => (0 : ℝ) :=
    cov_unit arg14.view _ 1 0 (inbS 1) (fun _ _ => 0) fun i j hi hj => by rw [hz]
  have c0 : View.readCov (Val := Elt Ideal) arg14.view
      [⟨rS 1, addSum (View.readCov (Val := Elt Ideal) arg14.view [fillS (F := Ideal)] (rS 1).toLoadRect) (mulf (aAt (F := Ideal) arg18 p (M2 (r.acc B))) (p.part 0).dt)⟩, fillS (F := Ideal)] (rS 0).toLoadRect
        = M2 fun (_ : Fin 1) (_ : Fin 128) => (0 : ℝ) :=
    cov_unit arg14.view _ 0 0 (inbS 0) (fun _ _ => 0) fun i j hi hj => by
      refine (View.canon_cons_of_not_mem _ [fillS (F := Ideal)] fun h => ?_).trans (congrFun hz _)
      have e : 1 ≤ 0 + i.1 := ((Rect.mem_set_unit (inb := inbS 1)).mp h 0).1
      omega
  exact canon_over (M2 (r.small q.rate (q.raw k) fun _ _ => 0) : S8x128.Idx → EReal) (rowsAt arg2 harg2 arg6 harg6 arg7 harg7 arg18 arg19 q k p (M2 (r.acc B)) _ _) [fillS (F := Ideal)]
    (small_agree arg2 harg2 arg6 harg6 arg7 harg7 arg18 arg19 E q k B (fun _ _ => 0) _ _ c0 c1)
    fun y h => (congrFun hz y).trans (small_rest arg2 harg2 arg6 harg6 arg7 harg7 arg18 arg19 q k (fun _ _ => 0) _ _ _ y h)

end

end Cert.SsdBwd

end
-- ==== Proof.SsdBwdRun.lean ====
/- The backward kernel's grid points store what the named vector operations say. -/
module

public import proofs.«01_k».proof.Proof.SsdBwd

@[expose] public section

set_option maxRecDepth 16384

noncomputable section

namespace Cert.SsdBwd

open Cert.Kernel6Ideal Cert.Kernel6Ideal.Gen Cert.Ssd Idealize.ShloMosaic Idealize.ShloMosaic.TcCoe Idealize.SL.Sem
open Cert.SsdFwd (rW rX rB rC rR rH)

variable {F : FTy → Type} [FloatOps F] [Named F]

seal View.readAt View.readCov

section
variable (c : Dev nD) (i : grid0.Coords) (arg1 : Memref sig .tc .vmem S128x2048 .f32) (harg1 : arg1.IsWhole)
  (arg2 : Memref sig .tc .vmem S128x128 .f32) (harg2 : arg2.IsWhole) (arg3 : Memref sig .tc .vmem S128x1024 .f32) (harg3 : arg3.IsWhole)
  (arg4 : Memref sig .tc .vmem S128x1024 .f32) (harg4 : arg4.IsWhole) (arg5 : Memref sig .tc .vmem S1x128x1024 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S128x2048 .f32) (harg10 : arg10.IsWhole) (arg11 : Memref sig .tc .vmem S128x128 .bf16) (harg11 : arg11.IsWhole)
  (arg12 : Memref sig .tc .vmem S128x1024 .bf16) (harg12 : arg12.IsWhole) (arg13 : Memref sig .tc .vmem S1x1024 .f32) (harg13 : arg13.IsWhole)
  (arg14 : Memref sig .tc .vmem S8x128 .f32) (harg14 : arg14.IsWhole) (arg15 : Memref sig .tc .vmem S128x1024 .f32) (harg15 : arg15.IsWhole)
  (arg16 : Memref sig .tc .vmem S128x128 .f32) (harg16 : arg16.IsWhole) (arg17 : Memref sig .tc .vmem S8x1024 .f32) (harg17 : arg17.IsWhole)
  (arg18 : Memref sig .tc .vmem S128x1024 .f32) (harg18 : arg18.IsWhole) (arg19 : Memref sig .tc .vmem S128x1024 .f32) (harg19 : arg19.IsWhole)
  (x0 : Vec F S128x2048 .f32) (x1 : Vec F S128x128 .f32) (x2 : Vec F S128x1024 .f32) (x3 : Vec F S128x1024 .f32) (x4 : Vec F S1x128x1024 .f32)
  (x5 : Vec F S1x128 .f32) (x6 : Vec F S1x128 .f32) (x7 : Vec F S1x1024 .f32) (x8 : Vec F S1x1024 .f32)
  (xo12 : Vec F S1x1024 .f32) (xo13 : Vec F S8x128 .f32) (xs0 : Vec F S128x1024 .f32) (xs2 : Vec F S8x1024 .f32)

/-! The first point. -/

section
variable (hc0 : cond0_0 i) (hc1 : ¬cond0_1 i)

theorem state_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.2.2.1 = freshStores arg1 harg1 arg2 harg2 arg3 harg3 arg4 harg4 arg5 harg5 arg6 harg6 arg7 harg7 arg8 harg8 arg9 harg9 arg15 arg16
    x0 x1 x2 x3 x4 x5 x6 x7 x8 4 le_rfl := by rfl

theorem cols_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).1 = colStores (pointA arg1 harg1 arg2 harg2 arg3 harg3 arg4 harg4 arg5 harg5 arg6 harg6 arg7 harg7 arg8 harg8 arg9 harg9 arg15 arg16 x0 x1 x2 x3 x4 x5 x6 x7 x8) := by rfl

theorem gate_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.1 = gateStores (pointA arg1 harg1 arg2 harg2 arg3 harg3 arg4 harg4 arg5 harg5 arg6 harg6 arg7 harg7 arg8 harg8 arg9 harg9 arg15 arg16 x0 x1 x2 x3 x4 x5 x6 x7 x8) := by rfl

theorem norm_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.1 = freshNorm arg13 (pointA arg1 harg1 arg2 harg2 arg3 harg3 arg4 harg4 arg5 harg5 arg6 harg6 arg7 harg7 arg8 harg8 arg9 harg9 arg15 arg16 x0 x1 x2 x3 x4 x5 x6 x7 x8) 4 := by rfl

theorem acc_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.2.2.2.1 = freshAcc arg17 (pointA arg1 harg1 arg2 harg2 arg3 harg3 arg4 harg4 arg5 harg5 arg6 harg6 arg7 harg7 arg8 harg8 arg9 harg9 arg15 arg16 x0 x1 x2 x3 x4 x5 x6 x7 x8) 4 := by rfl

theorem raw_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.1 = [⟨Rect.unit ![0, 0] S128x128.size inb_S128x128_S128x128_0_0,
   truncf .bf16 (rawAt arg2 harg2 arg6 harg6 arg7 harg7 arg18 arg19 x1 x5 x6 (pointA arg1 harg1 arg2 harg2 arg3 harg3 arg4 harg4 arg5 harg5 arg6 harg6 arg7 harg7 arg8 harg8 arg9 harg9 arg15 arg16 x0 x1 x2 x3 x4 x5 x6 x7 x8) (freshBack arg17 (pointA arg1 harg1 arg2 harg2 arg3 harg3 arg4 harg4 arg5 harg5 arg6 harg6 arg7 harg7 arg8 harg8 arg9 harg9 arg15 arg16 x0 x1 x2 x3 x4 x5 x6 x7 x8))) bitsLt_bf16_f32⟩] := by rfl

set_option maxHeartbeats 1500000 in
theorem small_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.2.1 = freshSmall arg2 harg2 arg6 harg6 arg7 harg7 arg14 arg18 arg19 x1 x5 x6 (pointA arg1 harg1 arg2 harg2 arg3 harg3 arg4 harg4 arg5 harg5 arg6 harg6 arg7 harg7 arg8 harg8 arg9 harg9 arg15 arg16 x0 x1 x2 x3 x4 x5 x6 x7 x8) (freshBack arg17 (pointA arg1 harg1 arg2 harg2 arg3 harg3 arg4 harg4 arg5 harg5 arg6 harg6 arg7 harg7 arg8 harg8 arg9 harg9 arg15 arg16 x0 x1 x2 x3 x4 x5 x6 x7 x8)) := by rfl

end

/-! The points between. -/

section
variable (hc0 : ¬cond0_0 i) (hc1 : ¬cond0_1 i)

theorem cols_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).1 = colStores (pointB arg1 harg1 arg2 harg2 arg3 harg3 arg4 harg4 arg5 harg5 arg6 harg6 arg7 harg7 arg8 harg8 arg9 harg9 arg15 harg15 arg16 x0 x1 x2 x3 x4 x5 x6 x7 x8 xs0) := by rfl

theorem gate_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.2.1 = gateStores (pointB arg1 harg1 arg2 harg2 arg3 harg3 arg4 harg4 arg5 harg5 arg6 harg6 arg7 harg7 arg8 harg8 arg9 harg9 arg15 harg15 arg16 x0 x1 x2 x3 x4 x5 x6 x7 x8 xs0) := by rfl

theorem norm_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.2.2.1 = normStores (pointB arg1 harg1 arg2 harg2 arg3 harg3 arg4 harg4 arg5 harg5 arg6 harg6 arg7 harg7 arg8 harg8 arg9 harg9 arg15 harg15 arg16 x0 x1 x2 x3 x4 x5 x6 x7 x8 xs0) (fun g => View.readAt (Elt F) arg13.view (rR g).toLoadRect (harg13.unread xo12)) := by rfl

theorem state_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.2.2.2.2.1 = stateStores (pointB arg1 harg1 arg2 harg2 arg3 harg3 arg4 harg4 arg5 harg5 arg6 harg6 arg7 harg7 arg8 harg8 arg9 harg9 arg15 harg15 arg16 x0 x1 x2 x3 x4 x5 x6 x7 x8 xs0) := by rfl

theorem acc_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.2.2.2.2.2.1 = accStores (pointB arg1 harg1 arg2 harg2 arg3 harg3 arg4 harg4 arg5 harg5 arg6 harg6 arg7 harg7 arg8 harg8 arg9 harg9 arg15 harg15 arg16 x0 x1 x2 x3 x4 x5 x6 x7 x8 xs0) (fun g => View.readAt (Elt F) arg17.view (rA 0 g).toLoadRect (harg17.unread xs2)) := by rfl

theorem raw_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.1 = [⟨Rect.unit ![0, 0] S128x128.size inb_S128x128_S128x128_0_0,
   truncf .bf16 (rawAt arg2 harg2 arg6 harg6 arg7 harg7 arg18 arg19 x1 x5 x6 (pointB arg1 harg1 arg2 harg2 arg3 harg3 arg4 harg4 arg5 harg5 arg6 harg6 arg7 harg7 arg8 harg8 arg9 harg9 arg15 harg15 arg16 x0 x1 x2 x3 x4 x5 x6 x7 x8 xs0) (accBack arg17 harg17 xs2 (pointB arg1 harg1 arg2 harg2 arg3 harg3 arg4 harg4 arg5 harg5 arg6 harg6 arg7 harg7 arg8 harg8 arg9 harg9 arg15 harg15 arg16 x0 x1 x2 x3 x4 x5 x6 x7 x8 xs0))) bitsLt_bf16_f32⟩] := by rfl

theorem small_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.2.2.2.1 = smallStores arg2 harg2 arg6 harg6 arg7 harg7 arg18 arg19 x1 x5 x6 (pointB arg1 harg1 arg2 harg2 arg3 harg3 arg4 harg4 arg5 harg5 arg6 harg6 arg7 harg7 arg8 harg8 arg9 harg9 arg15 harg15 arg16 x0 x1 x2 x3 x4 x5 x6 x7 x8 xs0) (accBack arg17 harg17 xs2 (pointB arg1 harg1 arg2 harg2 arg3 harg3 arg4 harg4 arg5 harg5 arg6 harg6 arg7 harg7 arg8 harg8 arg9 harg9 arg15 harg15 arg16 x0 x1 x2 x3 x4 x5 x6 x7 x8 xs0))
   (View.readAt (Elt F) arg14.view (rS 0).toLoadRect (harg14.unread xo13)) (View.readAt (Elt F) arg14.view (rS 1).toLoadRect (harg14.unread xo13)) := by rfl

end

/-! The last point. -/

section
variable (hc0 : ¬cond0_0 i) (hc1 : cond0_1 i)

theorem cols_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).1 = colStores (pointB arg1 harg1 arg2 harg2 arg3 harg3 arg4 harg4 arg5 harg5 arg6 harg6 arg7 harg7 arg8 harg8 arg9 harg9 arg15 harg15 arg16 x0 x1 x2 x3 x4 x5 x6 x7 x8 xs0) := by rfl

theorem gate_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.2.1 = gateStores (pointB arg1 harg1 arg2 harg2 arg3 harg3 arg4 harg4 arg5 harg5 arg6 harg6 arg7 harg7 arg8 harg8 arg9 harg9 arg15 harg15 arg16 x0 x1 x2 x3 x4 x5 x6 x7 x8 xs0) := by rfl

theorem norm_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.2.2.1 = normStores (pointB arg1 harg1 arg2 harg2 arg3 harg3 arg4 harg4 arg5 harg5 arg6 harg6 arg7 harg7 arg8 harg8 arg9 harg9 arg15 harg15 arg16 x0 x1 x2 x3 x4 x5 x6 x7 x8 xs0) (fun g => View.readAt (Elt F) arg13.view (rR g).toLoadRect (harg13.unread xo12)) := by rfl

theorem raw_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.1 = [⟨Rect.unit ![0, 0] S128x128.size inb_S128x128_S128x128_0_0,
   truncf .bf16 (rawAt arg2 harg2 arg6 harg6 arg7 harg7 arg18 arg19 x1 x5 x6 (pointB arg1 harg1 arg2 harg2 arg3 harg3 arg4 harg4 arg5 harg5 arg6 harg6 arg7 harg7 arg8 harg8 arg9 harg9 arg15 harg15 arg16 x0 x1 x2 x3 x4 x5 x6 x7 x8 xs0) (accBack arg17 harg17 xs2 (pointB arg1 harg1 arg2 harg2 arg3 harg3 arg4 harg4 arg5 harg5 arg6 harg6 arg7 harg7 arg8 harg8 arg9 harg9 arg15 harg15 arg16 x0 x1 x2 x3 x4 x5 x6 x7 x8 xs0))) bitsLt_bf16_f32⟩] := by rfl

set_option maxHeartbeats 1500000 in
theorem small_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo12 xo13 xs0 xs2).2.2.2.2.1 = lastSmall arg7 harg7 arg14 x6 (accBack arg17 harg17 xs2 (pointB arg1 harg1 arg2 harg2 arg3 harg3 arg4 harg4 arg5 harg5 arg6 harg6 arg7 harg7 arg8 harg8 arg9 harg9 arg15 harg15 arg16 x0 x1 x2 x3 x4 x5 x6 x7 x8 xs0)) (smallStores arg2 harg2 arg6 harg6 arg7 harg7 arg18 arg19 x1 x5 x6 (pointB arg1 harg1 arg2 harg2 arg3 harg3 arg4 harg4 arg5 harg5 arg6 harg6 arg7 harg7 arg8 harg8 arg9 harg9 arg15 harg15 arg16 x0 x1 x2 x3 x4 x5 x6 x7 x8 xs0) (accBack arg17 harg17 xs2 (pointB arg1 harg1 arg2 harg2 arg3 harg3 arg4 harg4 arg5 harg5 arg6 harg6 arg7 harg7 arg8 harg8 arg9 harg9 arg15 harg15 arg16 x0 x1 x2 x3 x4 x5 x6 x7 x8 xs0))
   (View.readAt (Elt F) arg14.view (rS 0).toLoadRect (harg14.unread xo13)) (View.readAt (Elt F) arg14.view (rS 1).toLoadRect (harg14.unread xo13))) := by rfl

end

end

end Cert.SsdBwd

end
-- ==== Proof.SsdBwdCase.lean ====
/- What the backward kernel's grid points leave behind on real blocks. -/
module

public import proofs.«01_k».proof.Proof.SsdBwdStore
public import proofs.«01_k».proof.Proof.SsdBwdRun

@[expose] public section

set_option maxRecDepth 16384

noncomputable section

namespace Cert.SsdBwd

open Cert.Kernel6Ideal Cert.Kernel6Ideal.Gen Cert.Ssd Cert.Reals Idealize.ShloMosaic Idealize.ShloMosaic.TcCoe Idealize.SL.Sem
open Cert.SsdFwd (rW rX rB rC rR rH bX bR bZ bD load_M2)
open Cert.SsdHost (A3)

seal View.readAt View.readCov

section
variable (c : Dev nD) (i : grid0.Coords) (arg1 : Memref sig .tc .vmem S128x2048 .f32) (harg1 : arg1.IsWhole)
  (arg2 : Memref sig .tc .vmem S128x128 .f32) (harg2 : arg2.IsWhole) (arg3 : Memref sig .tc .vmem S128x1024 .f32) (harg3 : arg3.IsWhole)
  (arg4 : Memref sig .tc .vmem S128x1024 .f32) (harg4 : arg4.IsWhole) (arg5 : Memref sig .tc .vmem S1x128x1024 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S128x2048 .f32) (harg10 : arg10.IsWhole) (arg11 : Memref sig .tc .vmem S128x128 .bf16) (harg11 : arg11.IsWhole)
  (arg12 : Memref sig .tc .vmem S128x1024 .bf16) (harg12 : arg12.IsWhole) (arg13 : Memref sig .tc .vmem S1x1024 .f32) (harg13 : arg13.IsWhole)
  (arg14 : Memref sig .tc .vmem S8x128 .f32) (harg14 : arg14.IsWhole) (arg15 : Memref sig .tc .vmem S128x1024 .f32) (harg15 : arg15.IsWhole)
  (arg16 : Memref sig .tc .vmem S128x128 .f32) (harg16 : arg16.IsWhole) (arg17 : Memref sig .tc .vmem S8x1024 .f32) (harg17 : arg17.IsWhole)
  (arg18 : Memref sig .tc .vmem S128x1024 .f32) (harg18 : arg18.IsWhole) (arg19 : Memref sig .tc .vmem S128x1024 .f32) (harg19 : arg19.IsWhole)
  (q : SeqB) (k : Fin 16) (W : Fin 1024 → ℝ) (S : Fin 8 → Fin 128 → ℝ) (H : Fin 128 → Fin 1024 → ℝ) (A : Fin 8 → Fin 1024 → ℝ)

/-- The vectors the first point reads. -/
theorem first_of : (pointA (F := Ideal) arg1 harg1 arg2 harg2 arg3 harg3 arg4 harg4 arg5 harg5 arg6 harg6 arg7 harg7 arg8 harg8 arg9 harg9 arg15 arg16 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w)).Of (q.point k fun _ _ => 0) :=
  point_of arg1 harg1 arg2 harg2 arg3 harg3 arg4 harg4 arg5 harg5 arg6 harg6 arg7 harg7 arg8 harg8 arg9 harg9 arg16 q k _ _ fun g => fresh_real arg1 harg1 arg2 harg2 arg3 harg3 arg4 harg4 arg5 harg5 arg6 harg6 arg7 harg7 arg8 harg8 arg9 harg9 arg15 arg16 _ _ _ _ _ _ _ _ _ g

/-- The vectors a later point reads. -/
theorem later_of : (pointB (F := Ideal) arg1 harg1 arg2 harg2 arg3 harg3 arg4 harg4 arg5 harg5 arg6 harg6 arg7 harg7 arg8 harg8 arg9 harg9 arg15 harg15 arg16 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 H)).Of (q.point k H) :=
  point_of arg1 harg1 arg2 harg2 arg3 harg3 arg4 harg4 arg5 harg5 arg6 harg6 arg7 harg7 arg8 harg8 arg9 harg9 arg16 q k _ _ fun g => held_real arg15 harg15 H g

theorem raw_whole (v : FVec Ideal S128x128 .f32) (V : Fin 128 → Fin 128 → ℝ) (h : v = M2 V) :
    View.canon ([⟨Rect.unit ![0, 0] S128x128.size inb_S128x128_S128x128_0_0, truncf (F := Ideal) .bf16 v bitsLt_bf16_f32⟩] : List (View.Piece (Elt Ideal) S128x128 .bf16)) = M2 V :=
  (View.canon_cons_unit_lit _ _ [] (by decide)).trans h

theorem nil_norm (L : List (View.Piece (Elt Ideal) S1x1024 .f32)) : View.canon L = View.canon (L ++ []) := congrArg View.canon (List.append_nil L).symm
theorem nil_state (L : List (View.Piece (Elt Ideal) S128x1024 .f32)) : View.canon L = View.canon (L ++ []) := congrArg View.canon (List.append_nil L).symm

theorem fresh_state (p : Point Ideal) (hp : p = pointA (F := Ideal) arg1 harg1 arg2 harg2 arg3 harg3 arg4 harg4 arg5 harg5 arg6 harg6 arg7 harg7 arg8 harg8 arg9 harg9 arg15 arg16 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w)) :
    freshStores (F := Ideal) arg1 harg1 arg2 harg2 arg3 harg3 arg4 harg4 arg5 harg5 arg6 harg6 arg7 harg7 arg8 harg8 arg9 harg9 arg15 arg16 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) 4 le_rfl = stateStores p
      ++ [⟨Rect.unit ![0, 0] S128x1024.size inb_S128x1024_S128x1024_0_0, shapeCast S128x1024 (zeroV (F := Ideal) S128x1024) shapeCasts_S128x1024_S128x1024⟩] := by
  subst hp
  rfl

section
variable (hc0 : cond0_0 i) (hc1 : ¬cond0_1 i)

theorem out9_A : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) = M2 (q.point k (fun _ _ => 0)).cols := by
  unfold out0_A_9
  rw [View.read_writes_junk_eq_canon, cols_A]
  exact cols_real (first_of arg1 harg1 arg2 harg2 arg3 harg3 arg4 harg4 arg5 harg5 arg6 harg6 arg7 harg7 arg8 harg8 arg9 harg9 arg15 arg16 q k)

theorem out10_A : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) = M2 ((q.point k (fun _ _ => 0)).draw q.rate (q.raw k)) := by
  unfold out0_A_10
  rw [View.read_writes_junk_eq_canon, raw_A]
  rw [(acc_first arg17 (first_of arg1 harg1 arg2 harg2 arg3 harg3 arg4 harg4 arg5 harg5 arg6 harg6 arg7 harg7 arg8 harg8 arg9 harg9 arg15 arg16 q k))]
  exact raw_whole _ _ (rawAt_real arg2 harg2 arg6 harg6 arg7 harg7 arg18 arg19 (first_of arg1 harg1 arg2 harg2 arg3 harg3 arg4 harg4 arg5 harg5 arg6 harg6 arg7 harg7 arg8 harg8 arg9 harg9 arg15 arg16 q k) q k _)

theorem out11_A : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) = M2 (q.point k (fun _ _ => 0)).dz := by
  unfold out0_A_11
  rw [View.read_writes_junk_eq_canon, gate_A]
  exact gate_real (first_of arg1 harg1 arg2 harg2 arg3 harg3 arg4 harg4 arg5 harg5 arg6 harg6 arg7 harg7 arg8 harg8 arg9 harg9 arg15 arg16 q k)

theorem out12_A : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) = M2 fun _ => (q.point k (fun _ _ => 0)).dw := by
  unfold out0_A_12
  rw [View.read_writes_junk_eq_canon, norm_A]
  exact norm_fresh arg13 (first_of arg1 harg1 arg2 harg2 arg3 harg3 arg4 harg4 arg5 harg5 arg6 harg6 arg7 harg7 arg8 harg8 arg9 harg9 arg15 arg16 q k)

theorem out13_A : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) = M2 ((q.point k (fun _ _ => 0)).small q.rate (q.raw k) fun _ _ => 0) := by
  unfold out0_A_13
  rw [View.read_writes_junk_eq_canon, small_A]
  rw [(acc_first arg17 (first_of arg1 harg1 arg2 harg2 arg3 harg3 arg4 harg4 arg5 harg5 arg6 harg6 arg7 harg7 arg8 harg8 arg9 harg9 arg15 arg16 q k))]
  exact small_first arg2 harg2 arg6 harg6 arg7 harg7 arg14 arg18 arg19 (first_of arg1 harg1 arg2 harg2 arg3 harg3 arg4 harg4 arg5 harg5 arg6 harg6 arg7 harg7 arg8 harg8 arg9 harg9 arg15 arg16 q k) q k _

theorem hand_A : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) = M2 (q.point k (fun _ _ => 0)).before := by
  unfold sout0_A_0
  rw [View.read_writes_junk_eq_canon, state_A]
  rw [fresh_state arg1 harg1 arg2 harg2 arg3 harg3 arg4 harg4 arg5 harg5 arg6 harg6 arg7 harg7 arg8 harg8 arg9 harg9 arg15 arg16 q k _ rfl]
  exact state_real (first_of arg1 harg1 arg2 harg2 arg3 harg3 arg4 harg4 arg5 harg5 arg6 harg6 arg7 harg7 arg8 harg8 arg9 harg9 arg15 arg16 q k) _

theorem held_A : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) = M2 ((q.point k (fun _ _ => 0)).acc fun _ _ => 0) := by
  unfold sout0_A_2
  rw [View.read_writes_junk_eq_canon, acc_A]
  exact acc_fresh arg17 (first_of arg1 harg1 arg2 harg2 arg3 harg3 arg4 harg4 arg5 harg5 arg6 harg6 arg7 harg7 arg8 harg8 arg9 harg9 arg15 arg16 q k)

end

section
variable (hc0 : ¬cond0_0 i) (hc1 : ¬cond0_1 i)

theorem out9_B : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 (q.point k H).cols := by
  unfold out0_B_9
  rw [View.read_writes_junk_eq_canon, cols_B]
  exact cols_real (later_of arg1 harg1 arg2 harg2 arg3 harg3 arg4 harg4 arg5 harg5 arg6 harg6 arg7 harg7 arg8 harg8 arg9 harg9 arg15 harg15 arg16 q k H)

theorem out10_B : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 ((q.point k H).draw q.rate (q.raw k)) := by
  unfold out0_B_10
  rw [View.read_writes_junk_eq_canon, raw_B]
  rw [(acc_back arg17 harg17 (later_of arg1 harg1 arg2 harg2 arg3 harg3 arg4 harg4 arg5 harg5 arg6 harg6 arg7 harg7 arg8 harg8 arg9 harg9 arg15 harg15 arg16 q k H) A)]
  exact raw_whole _ _ (rawAt_real arg2 harg2 arg6 harg6 arg7 harg7 arg18 arg19 (later_of arg1 harg1 arg2 harg2 arg3 harg3 arg4 harg4 arg5 harg5 arg6 harg6 arg7 harg7 arg8 harg8 arg9 harg9 arg15 harg15 arg16 q k H) q k _)

theorem out11_B : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 (q.point k H).dz := by
  unfold out0_B_11
  rw [View.read_writes_junk_eq_canon, gate_B]
  exact gate_real (later_of arg1 harg1 arg2 harg2 arg3 harg3 arg4 harg4 arg5 harg5 arg6 harg6 arg7 harg7 arg8 harg8 arg9 harg9 arg15 harg15 arg16 q k H)

theorem out12_B : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 fun _ l => W l + (q.point k H).dw l := by
  unfold out0_B_12
  rw [View.read_writes_junk_eq_canon, norm_B]
  rw [nil_norm]
  exact norm_left arg13 harg13 (later_of arg1 harg1 arg2 harg2 arg3 harg3 arg4 harg4 arg5 harg5 arg6 harg6 arg7 harg7 arg8 harg8 arg9 harg9 arg15 harg15 arg16 q k H) W []

theorem out13_B : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 ((q.point k H).small q.rate (q.raw k) S) := by
  unfold out0_B_13
  rw [small_B]
  rw [(acc_back arg17 harg17 (later_of arg1 harg1 arg2 harg2 arg3 harg3 arg4 harg4 arg5 harg5 arg6 harg6 arg7 harg7 arg8 harg8 arg9 harg9 arg15 harg15 arg16 q k H) A)]
  exact small_left arg2 harg2 arg6 harg6 arg7 harg7 arg14 harg14 arg18 arg19 (later_of arg1 harg1 arg2 harg2 arg3 harg3 arg4 harg4 arg5 harg5 arg6 harg6 arg7 harg7 arg8 harg8 arg9 harg9 arg15 harg15 arg16 q k H) q k A S

theorem hand_B : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 (q.point k H).before := by
  unfold sout0_B_0
  rw [View.read_writes_junk_eq_canon, state_B]
  rw [nil_state]
  exact state_real (later_of arg1 harg1 arg2 harg2 arg3 harg3 arg4 harg4 arg5 harg5 arg6 harg6 arg7 harg7 arg8 harg8 arg9 harg9 arg15 harg15 arg16 q k H) []

theorem held_B : sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 ((q.point k H).acc A) := by
  unfold sout0_B_2
  rw [acc_B]
  exact acc_left arg17 harg17 (later_of arg1 harg1 arg2 harg2 arg3 harg3 arg4 harg4 arg5 harg5 arg6 harg6 arg7 harg7 arg8 harg8 arg9 harg9 arg15 harg15 arg16 q k H) A

end

section
variable (hc0 : ¬cond0_0 i) (hc1 : cond0_1 i)

theorem out9_C : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 (q.point k H).cols := by
  unfold out0_C_9
  rw [View.read_writes_junk_eq_canon, cols_C]
  exact cols_real (later_of arg1 harg1 arg2 harg2 arg3 harg3 arg4 harg4 arg5 harg5 arg6 harg6 arg7 harg7 arg8 harg8 arg9 harg9 arg15 harg15 arg16 q k H)

theorem out10_C : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 ((q.point k H).draw q.rate (q.raw k)) := by
  unfold out0_C_10
  rw [View.read_writes_junk_eq_canon, raw_C]
  rw [(acc_back arg17 harg17 (later_of arg1 harg1 arg2 harg2 arg3 harg3 arg4 harg4 arg5 harg5 arg6 harg6 arg7 harg7 arg8 harg8 arg9 harg9 arg15 harg15 arg16 q k H) A)]
  exact raw_whole _ _ (rawAt_real arg2 harg2 arg6 harg6 arg7 harg7 arg18 arg19 (later_of arg1 harg1 arg2 harg2 arg3 harg3 arg4 harg4 arg5 harg5 arg6 harg6 arg7 harg7 arg8 harg8 arg9 harg9 arg15 harg15 arg16 q k H) q k _)

theorem out11_C : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 (q.point k H).dz := by
  unfold out0_C_11
  rw [View.read_writes_junk_eq_canon, gate_C]
  exact gate_real (later_of arg1 harg1 arg2 harg2 arg3 harg3 arg4 harg4 arg5 harg5 arg6 harg6 arg7 harg7 arg8 harg8 arg9 harg9 arg15 harg15 arg16 q k H)

theorem out12_C : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 fun _ l => W l + (q.point k H).dw l := by
  unfold out0_C_12
  rw [View.read_writes_junk_eq_canon, norm_C]
  rw [nil_norm]
  exact norm_left arg13 harg13 (later_of arg1 harg1 arg2 harg2 arg3 harg3 arg4 harg4 arg5 harg5 arg6 harg6 arg7 harg7 arg8 harg8 arg9 harg9 arg15 harg15 arg16 q k H) W []

theorem out13_C : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (M2 (bX q.toSeq k)) (M2 (bR q.toSeq k)) (M2 (bZ q.toSeq k)) (M2 (bO q k)) (A3 fun (_ : Fin 1) n l => q.state k n l) (M2 fun _ => pad q.bias) (M2 fun _ => pad q.al) (M2 (bD q.toSeq)) (M2 fun _ => q.w) (M2 fun _ => W) (M2 S) (M2 H) (M2 A) = M2 ((q.point k H).last q.rate (q.raw k) A S) := by
  unfold out0_C_13
  rw [small_C]
  rw [(acc_back arg17 harg17 (later_of arg1 harg1 arg2 harg2 arg3 harg3 arg4 harg4 arg5 harg5 arg6 harg6 arg7 harg7 arg8 harg8 arg9 harg9 arg15 harg15 arg16 q k H) A)]
  exact last_left arg2 harg2 arg6 harg6 arg7 harg7 arg14 harg14 arg18 arg19 (later_of arg1 harg1 arg2 harg2 arg3 harg3 arg4 harg4 arg5 harg5 arg6 harg6 arg7 harg7 arg8 harg8 arg9 harg9 arg15 harg15 arg16 q k H) q k A S

end

end

end Cert.SsdBwd

end
-- ==== Proof.SsdBwdOut.lean ====
/- The state space layer's backward call over its grid: its five results on finite arguments. -/
module

public import proofs.«01_k».proof.Proof.SsdBwdCase
public import proofs.«01_k».proof.Proof.SsdFwdAlg
public import proofs.«01_k».proof.Proof.Gen.Kernel6Ideal.Value
public import proofs.«01_k».proof.Proof.Gen.Pre_finite6
public import Idealize.ShloMosaic.Lib.StableHlo.RunRead

@[expose] public section

set_option maxRecDepth 16384

noncomputable section

namespace Cert.SsdBwd

open Idealize.ShloMosaic Idealize.ShloMosaic.TcCoe Idealize.SL.Sem
open Cert.Kernel6Ideal Cert.Kernel6Ideal.Gen Cert.Ssd Cert.SsdHost Cert.Reals Cert.Norm
open Cert.SsdFwd (bX bR bZ bD real_row)

/-! ## The chunks in their order -/

namespace SeqB
variable (q : SeqB)

/-- The chunk of turn `n`: the last first. -/
def turn (n : ℕ) : Fin 16 := ⟨15 - n, by omega⟩

/-- The cotangent of the state after the chunk of turn `n`. -/
def carry : ℕ → Fin 128 → Fin 1024 → ℝ
  | 0 => fun _ _ => 0
  | n + 1 => (q.point (turn n) (carry n)).before

/-- Turn `n`'s point. -/
def pt (n : ℕ) : RPoint := q.point (turn n) (q.carry n)

/-- A chunk's point. -/
def back (k : Fin 16) : RPoint := q.point k (q.carry (15 - k))

/-- The norm weights' cotangent after `n` turns. -/
def wsum : ℕ → Fin 1024 → ℝ
  | 0 => fun _ => 0
  | n + 1 => fun l => wsum n l + (q.pt n).dw l

/-- The accumulator after `n` turns. -/
def accs : ℕ → Fin 8 → Fin 1024 → ℝ
  | 0 => fun _ _ => 0
  | n + 1 => (q.pt n).acc (accs n)

/-- The small sums after `n` turns. -/
def smalls : ℕ → Fin 8 → Fin 128 → ℝ
  | 0 => fun _ _ => 0
  | n + 1 => (q.pt n).small q.rate (q.raw (turn n)) (smalls n)

theorem carry_succ (n : ℕ) : q.carry (n + 1) = (q.pt n).before := rfl
theorem accs_succ (n : ℕ) : q.accs (n + 1) = (q.pt n).acc (q.accs n) := rfl
theorem smalls_succ (n : ℕ) : q.smalls (n + 1) = (q.pt n).small q.rate (q.raw (turn n)) (q.smalls n) := rfl
theorem wsum_succ (n : ℕ) : q.wsum (n + 1) = fun l => q.wsum n l + (q.pt n).dw l := rfl

end SeqB

variable (m : (ℓ : Loc nD τ sig) → Buf (Elt Ideal) ℓ)

theorem finite_args (hp : Cert.Pre_Kernel6Ideal_finite6 m) (c : Dev nD) :
    IsReal (m ((c : Thread nD τ).loc main_arg0)) ∧ IsReal (m ((c : Thread nD τ).loc main_arg1)) ∧ IsReal (m ((c : Thread nD τ).loc main_arg2))
    ∧ IsReal (m ((c : Thread nD τ).loc main_arg3)) ∧ IsReal (m ((c : Thread nD τ).loc main_arg4))
    ∧ IsReal (m ((c : Thread nD τ).loc main_arg5)) ∧ IsReal (m ((c : Thread nD τ).loc main_arg6)) := by
  have e := hp c
  unfold Cert.Pre_finite6.fn Cert.Pre_finite6.fn_part1 at e
  have e := congrFun e (fun a => a.elim0)
  have : Subsingleton Cert.Pre_finite6.S_.Idx := ⟨fun a b => funext fun i => i.elim0⟩
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_of_all _ _ (fun _ => word_inf) _ _ _ _ e0, real_of_all _ _ (fun _ => word_inf) _ _ _ _ e1,
    real_of_all _ _ (fun _ => word_inf) _ _ _ _ e2, real_of_all _ _ (fun _ => word_inf) _ _ _ _ e3,
    real_of_all _ _ (fun _ => word_inf) _ _ _ _ e4,
    real_of_all _ _ (fun _ => word_inf) _ _ _ _ e5, real_of_all _ _ (fun _ => word_inf) _ _ _ _ e6⟩

/-- The memory's argument arrays are the layer's real data and its output's cotangent `q`. -/
structure Holds (q : SeqB) (c : Dev nD) : Prop where
  h0 : m ((c : Thread nD τ).loc main_arg0) = M2 q.X
  h1 : m ((c : Thread nD τ).loc main_arg1) = M2 q.P
  h2 : m ((c : Thread nD τ).loc main_arg2) = M2 q.D
  h3 : m ((c : Thread nD τ).loc main_arg3) = M2 fun _ => q.bias
  h4 : m ((c : Thread nD τ).loc main_arg4) = M2 fun _ => q.al
  h5 : m ((c : Thread nD τ).loc main_arg5) = M2 fun _ => q.d
  h6 : m ((c : Thread nD τ).loc main_arg6) = M2 fun _ => q.w

theorem holds_of_finite (hp : Cert.Pre_Kernel6Ideal_finite6 m) (c : Dev nD) : ∃ q, Holds m q c := by
  obtain ⟨h0, h1, h2, h3, h4, h5, h6⟩ := finite_args m hp c
  obtain ⟨X, h0⟩ := real2 _ h0
  obtain ⟨P, h1⟩ := real2 _ h1
  obtain ⟨D, h2⟩ := real2 _ h2
  obtain ⟨b, h3⟩ := real_row _ h3
  obtain ⟨al, h4⟩ := real_row _ h4
  obtain ⟨d, h5⟩ := real_row _ h5
  obtain ⟨w, h6⟩ := real_row _ h6
  exact ⟨⟨⟨X, P, b, al, d, w⟩, D⟩, h0, h1, h2, h3, h4, h5, h6⟩

/-- Each window's block at a grid point. -/
theorem blockIdx : ∀ t : Fin cfg0.N, win0_0.index t = ![15 - t.val, 0]
    ∧ win0_1.index t = ![15 - t.val, 40]
    ∧ win0_2.index t = ![15 - t.val, 2]
    ∧ win0_3.index t = ![15 - t.val, 1]
    ∧ win0_4.index t = ![15 - t.val, 0, 0]
    ∧ win0_5.index t = ![0, 0]
    ∧ win0_6.index t = ![0, 0]
    ∧ win0_7.index t = ![0, 0]
    ∧ win0_8.index t = ![0, 0]
    ∧ win0_9.index t = ![15 - t.val, 0]
    ∧ win0_10.index t = ![15 - t.val, 0]
    ∧ win0_11.index t = ![15 - t.val, 0]
    ∧ win0_12.index t = ![0, 0]
    ∧ win0_13.index t = ![0, 0] :=
  (by decide +kernel : ∀ t : Fin grid0.N, _)

/-- The chunk a grid point works on. -/
def turn (t : Fin cfg0.N) : Fin 16 := SeqB.turn t.val

variable {m} {q : SeqB} {c : Dev nD} (H : Holds m q c) (t : Fin cfg0.N)

include H in
theorem block0 : iblk m c 0 t = M2 (bX q.toSeq (turn t)) := by
  funext y
  have e : (win0_0.blk t).view.emb y = ix2 (rowAt (turn t) (y 0)) (y 1) := by blk_ext [blockIdx t, rowAt, turn, SeqB.turn]
  blk_simp [iblk]
  rw [V_main_arg0 m c, H.h0]
  rw [e]
  rfl

include H in
theorem block1 : iblk m c 1 t = M2 (bR q.toSeq (turn t)) := by
  funext y
  have e : (win0_1.blk t).view.emb y = ix2 (rowAt (turn t) (y 0)) (⟨5120 + (y 1).1, by have : (y 1).1 < 128 := (y 1).2; omega⟩ : Fin 5632) := by blk_ext [blockIdx t, rowAt, turn, SeqB.turn]
  blk_simp [iblk]
  rw [V_main_arg1 m c, H.h1]
  rw [e]
  rfl

include H in
theorem block3 : iblk m c 3 t = M2 (bO q (turn t)) := by
  funext y
  have e : (win0_3.blk t).view.emb y = ix2 (rowAt (turn t) (y 0)) (⟨1024 + (y 1).1, by have : (y 1).1 < 1024 := (y 1).2; omega⟩ : Fin 2048) := by blk_ext [blockIdx t, rowAt, turn, SeqB.turn]
  blk_simp [iblk]
  rw [V_main_arg2 m c, H.h2]
  rw [e]
  rfl

include H in
theorem block8 : iblk m c 8 t = M2 fun _ => q.w := by
  funext y
  have e : (win0_8.blk t).view.emb y = ix2 (y 0) (y 1) := by blk_ext [blockIdx t]
  blk_simp [iblk]
  rw [V_main_arg6 m c, H.h6]
  rw [e]
  rfl

include H in
theorem block2 : X0_2 m c t = M2 (bZ q.toSeq (turn t)) := by
  funext y
  unfold X0_2 Pipeline.Window.fill
  rw [dif_pos (moved0_2 t y)]
  have e : (win0_2.blk t).view.emb (fun a => ⟨(y a).1, ((cfg0.win 2).moved_iff _ y).mp (moved0_2 t y) a⟩) = ix2 (rowAt (turn t) (y 0)) (⟨2048 + (y 1).1, by have : (y 1).1 < 1024 := (y 1).2; omega⟩ : Fin 5632) := by blk_ext [blockIdx t, rowAt, turn, SeqB.turn]
  blk_simp [iblk]
  rw [V_main_arg1 m c, H.h1]
  rw [e]
  rfl

set_option maxHeartbeats 4000000 in
include H in
theorem block5 : iblk m c 5 t = M2 fun _ => pad q.bias := by
  funext y
  have e : (win0_5.blk t).view.emb y = ix2 (y 0) (y 1) := by blk_ext [blockIdx t]
  blk_simp [iblk]
  entry_read
  refine (congrFun (SsdFwd.pad_real _ _ H.h3) _).trans ?_
  rw [e]
  rfl

set_option maxHeartbeats 4000000 in
include H in
theorem block6 : iblk m c 6 t = M2 fun _ => pad q.al := by
  funext y
  have e : (win0_6.blk t).view.emb y = ix2 (y 0) (y 1) := by blk_ext [blockIdx t]
  blk_simp [iblk]
  entry_read
  refine (congrFun (SsdFwd.pad_real _ _ H.h4) _).trans ?_
  rw [e]
  rfl

include H in
theorem block7 : iblk m c 7 t = M2 (bD q.toSeq) := by
  funext y
  have e : (win0_7.blk t).view.emb y = ix2 (y 0) (y 1) := by blk_ext [blockIdx t]
  blk_simp [iblk]
  entry_read
  refine (congrFun (SsdFwd.skip_real _ _ H.h5) _).trans ?_
  rw [e]
  rfl

/-- Two lists of pieces joined. -/
theorem concat_congr {F : Type} {S : Shape} {a : Fin S.rank} {l l' : List (Σ s : Shape, (s.Idx → F))} (e : l = l') (h) (h') : concatenate S a l h = concatenate S a l' h' := by
  subst e
  rfl

/-- The running sums of the log decays, the rates not reshaped. -/
abbrev sums (p : FVec Ideal S2048x5632 .f32) (b al : FVec Ideal S1x16 .f32) : FVec Ideal S4x4x16x128 .f32 := cumA (logA (dtAll p b) (Host.negf (Host.exp al)))

/-- What each chunk adds to the state, off those sums. -/
abbrev added (x : FVec Ideal S2048x2048 .f32) (p : FVec Ideal S2048x5632 .f32) (b al : FVec Ideal S1x16 .f32) : FVec Ideal S16x4x4x64x128 .f32 :=
  addedA (mulf (spreadA (toEndA (sums p b al))) (xdtAll x p b)) (inA x)

/-- The states before each chunk, by chunk, row and lane. -/
def prevOperand (x : FVec Ideal S2048x2048 .f32) (p : FVec Ideal S2048x5632 .f32) (b al : FVec Ideal S1x16 .f32) : FVec Ideal S16x128x1024 .f32 :=
  shapeCast S16x128x1024 (transpose S16x128x4x4x64 [0, 4, 1, 2, 3] (scanA (statesA (allDecay (chunkDecayA (sums p b al))) (allAdded (added x p b al)))) Gen.facts.transposes_S16x4x4x64x128_S16x128x4x4x64_0_4_1_2_3) Gen.facts.shapeCasts_S16x128x4x4x64_S16x128x1024

theorem rates_eq (q : Seq) : Host.negf (Host.exp (M2 fun (_ : Fin 1) => q.al) : FVec Ideal S1x16 .f32) = rateA (F := Ideal) (M2 fun _ => q.al) := by
  rw [rateA_real]
  funext i
  obtain ⟨s, h, rfl⟩ : ∃ (s : Fin 1) (h : Fin 16), i = ix2 s h := ⟨i 0, i 1, eq_ix2 i⟩
  pointwise
  simp only [M2_ix2, Ideal.exp_coe, neg_coe]

theorem prevOperand_real (q : Seq) : prevOperand (M2 q.X) (M2 q.P) (M2 fun _ => q.bias) (M2 fun _ => q.al) = A3 fun c n l => q.state c n l := by
  have e : sums (M2 q.P) (M2 fun _ => q.bias) (M2 fun _ => q.al) = csAll (F := Ideal) (M2 q.P) (M2 fun _ => q.bias) (M2 fun _ => q.al) := by
    unfold sums
    rw [rates_eq]
  unfold prevOperand added
  rw [e]
  have e' := prevAll_real q
  unfold prevAll addAll at e'
  rw [e']
  exact SsdFwd.laid_out _ _ fun c g j p n => rfl

set_option maxHeartbeats 4000000 in
theorem prev_entry (c : Dev nD) : V m c main_v188 = prevOperand (m ((c : Thread nD τ).loc main_arg0)) (m ((c : Thread nD τ).loc main_arg1)) (m ((c : Thread nD τ).loc main_arg3)) (m ((c : Thread nD τ).loc main_arg4)) := by
  unfold V
  simp only [List.flatten_cons, List.flatten_nil, List.append_nil]
  after_reads_simp
  unfold prevOperand
  refine congrArg (fun v => shapeCast S16x128x1024 (transpose S16x128x4x4x64 [0, 4, 1, 2, 3] v _) _) ?_
  unfold scanA
  refine concat_congr ?_ _ _
  after_reads_simp
  refine congrArg (fun v => [_, (⟨S16x4x4x64x128, v⟩ : Σ s : Shape, (s.Idx → Ideal .f32))]) ?_
  unfold statesA
  refine concat_congr ?_ _ _
  simp only [Matrix.cons_val, Fin.isValue]
  after_reads_simp
  rfl

include H in
theorem block4 : iblk m c 4 t = A3 fun (_ : Fin 1) n l => q.state (turn t) n l := by
  funext y
  have e : (win0_4.blk t).view.emb y = ix3 (turn t) (y 1) (y 2) := by blk_ext [blockIdx t, turn, SeqB.turn]
  blk_simp [iblk]
  refine (congrFun (prev_entry c) _).trans ?_
  rw [H.h0, H.h1, H.h3, H.h4, prevOperand_real, e]
  rfl

/-! ## Over the grid -/

include H in
/-- What the points leave to the next ones. -/
theorem left : ∀ (n : ℕ) (hn : n < cfg0.N), n < 15 →
    (outsAt0 m c n hn).2.2.2.1 = (M2 fun _ => q.wsum (n + 1)) ∧ (outsAt0 m c n hn).2.2.2.2.1 = M2 (q.smalls (n + 1))
    ∧ (outsAt0 m c n hn).2.2.2.2.2.1 = M2 (q.carry (n + 1)) ∧ (outsAt0 m c n hn).2.2.2.2.2.2 = M2 (q.accs (n + 1)) := by
  intro n
  induction n with
  | zero =>
    intro hn _
    rw [outsAt0_A m c ⟨0, hn⟩ rfl (by show ¬0 % 16 = 15; decide)]
    dsimp only
    rw [block0 H, block1 H, block2 H, block3 H, block4 H, block5 H, block6 H, block7 H, block8 H]
    rw [out12_A _ _ _ _ _ _ _ _ _ _ _ _ _ _ _ _ _ _ _ _ _ _ _ _ _ _ _ _ _ _ _ _ _ _ _ _ _ _ _ _ q _ _ _, out13_A _ _ _ _ _ _ _ _ _ _ _ _ _ _ _ _ _ _ _ _ _ _ _ _ _ _ _ _ _ _ _ _ _ _ _ _ _ _ _ _ q _ _ _, hand_A _ _ _ _ _ _ _ _ _ _ _ _ _ _ _ _ _ _ _ _ _ _ _ _ _ _ _ _ _ _ _ _ _ _ _ _ _ _ _ _ q _ _ _, held_A _ _ _ _ _ _ _ _ _ _ _ _ _ _ _ _ _ _ _ _ _ _ _ _ _ _ _ _ _ _ _ _ _ _ _ _ _ _ _ _ q _ _ _]
    refine ⟨congrArg M2 (funext fun _ => funext fun l => ?_), rfl, rfl, rfl⟩
    exact (zero_add _).symm
  | succ n ih =>
    intro hn h15
    have hN : cfg0.N = 16 := N_0
    rw [outsAt0_B m c ⟨n + 1, hn⟩ (by show ¬(n + 1) % 16 = 0; omega) (by show ¬(n + 1) % 16 = 15; omega)]
    dsimp only
    rw [block0 H, block1 H, block2 H, block3 H, block4 H, block5 H, block6 H, block7 H, block8 H]
    have e1 : ∀ h, (outsAt0 m c (n + 1 - 1) h).2.2.2.1 = (M2 fun _ => q.wsum (n + 1)) := fun h => (ih h (by omega)).1
    have e2 : ∀ h, (outsAt0 m c (n + 1 - 1) h).2.2.2.2.1 = M2 (q.smalls (n + 1)) := fun h => (ih h (by omega)).2.1
    have e3 : ∀ h, (outsAt0 m c (n + 1 - 1) h).2.2.2.2.2.1 = M2 (q.carry (n + 1)) := fun h => (ih h (by omega)).2.2.1
    have e4 : ∀ h, (outsAt0 m c (n + 1 - 1) h).2.2.2.2.2.2 = M2 (q.accs (n + 1)) := fun h => (ih h (by omega)).2.2.2
    rw [e1, e2, e3, e4]
    rw [out12_B _ _ _ _ _ _ _ _ _ _ _ _ _ _ _ _ _ _ _ _ _ _ _ _ _ _ _ _ _ _ _ _ _ _ _ _ _ _ _ _ q _ _ _ _ _ _ _, out13_B _ _ _ _ _ _ _ _ _ _ _ _ _ _ _ _ _ _ _ _ _ _ _ _ _ _ _ _ _ _ _ _ _ _ _ _ _ _ _ _ q _ _ _ _ _ _ _, hand_B _ _ _ _ _ _ _ _ _ _ _ _ _ _ _ _ _ _ _ _ _ _ _ _ _ _ _ _ _ _ _ _ _ _ _ _ _ _ _ _ q _ _ _ _ _ _ _, held_B _ _ _ _ _ _ _ _ _ _ _ _ _ _ _ _ _ _ _ _ _ _ _ _ _ _ _ _ _ _ _ _ _ _ _ _ _ _ _ _ q _ _ _ _ _ _ _]
    exact ⟨rfl, rfl, rfl, rfl⟩

include H in
/-- What a later point finds. -/
theorem found (ht : ¬t.val % 16 = 0) : (∀ h, (outsAt0 m c (t.val - 1) h).2.2.2.1 = (M2 fun _ => q.wsum t.val)) ∧ (∀ h, (outsAt0 m c (t.val - 1) h).2.2.2.2.1 = M2 (q.smalls t.val))
    ∧ (∀ h, (outsAt0 m c (t.val - 1) h).2.2.2.2.2.1 = M2 (q.carry t.val)) ∧ (∀ h, (outsAt0 m c (t.val - 1) h).2.2.2.2.2.2 = M2 (q.accs t.val)) := by
  have hN : cfg0.N = 16 := N_0
  have hlt := t.isLt
  have e : t.val - 1 + 1 = t.val := by omega
  have k := fun h => left H (t.val - 1) h (by omega)
  rw [e] at k
  exact ⟨fun h => (k h).1, fun h => (k h).2.1, fun h => (k h).2.2.1, fun h => (k h).2.2.2⟩

include H in
theorem at_point : (outsAt0 m c t.val t.isLt).1 = M2 (q.pt t.val).cols ∧ (outsAt0 m c t.val t.isLt).2.1 = M2 ((q.pt t.val).draw q.rate (q.raw (turn t)))
    ∧ (outsAt0 m c t.val t.isLt).2.2.1 = M2 (q.pt t.val).dz := by
  by_cases h : t.val % 16 = 0
  · have hN : cfg0.N = 16 := N_0
    have hlt := t.isLt
    have hk : t.val = 0 := by omega
    have hp : q.pt t.val = q.point (turn t) fun _ _ => 0 := by
      show q.point (SeqB.turn t.val) (q.carry t.val) = _
      rw [hk]
      show _ = q.point (SeqB.turn t.val) _
      rw [hk]
      rfl
    rw [outsAt0_A m c t h (by omega)]
    dsimp only
    rw [block0 H, block1 H, block2 H, block3 H, block4 H, block5 H, block6 H, block7 H, block8 H]
    rw [out9_A _ _ _ _ _ _ _ _ _ _ _ _ _ _ _ _ _ _ _ _ _ _ _ _ _ _ _ _ _ _ _ _ _ _ _ _ _ _ _ _ q _ _ _, out10_A _ _ _ _ _ _ _ _ _ _ _ _ _ _ _ _ _ _ _ _ _ _ _ _ _ _ _ _ _ _ _ _ _ _ _ _ _ _ _ _ q _ _ _, out11_A _ _ _ _ _ _ _ _ _ _ _ _ _ _ _ _ _ _ _ _ _ _ _ _ _ _ _ _ _ _ _ _ _ _ _ _ _ _ _ _ q _ _ _, hp]
    exact ⟨rfl, rfl, rfl⟩
  · obtain ⟨e1, e2, e3, e4⟩ := found H t h
    by_cases h' : t.val % 16 = 15
    · rw [outsAt0_C m c t h h']
      dsimp only
      rw [e1, e2, e3, e4, block0 H, block1 H, block2 H, block3 H, block4 H, block5 H, block6 H, block7 H, block8 H]
      rw [out9_C _ _ _ _ _ _ _ _ _ _ _ _ _ _ _ _ _ _ _ _ _ _ _ _ _ _ _ _ _ _ _ _ _ _ _ _ _ _ _ _ q _ _ _ _ _ _ _, out10_C _ _ _ _ _ _ _ _ _ _ _ _ _ _ _ _ _ _ _ _ _ _ _ _ _ _ _ _ _ _ _ _ _ _ _ _ _ _ _ _ q _ _ _ _ _ _ _, out11_C _ _ _ _ _ _ _ _ _ _ _ _ _ _ _ _ _ _ _ _ _ _ _ _ _ _ _ _ _ _ _ _ _ _ _ _ _ _ _ _ q _ _ _ _ _ _ _]
      exact ⟨rfl, rfl, rfl⟩
    · rw [outsAt0_B m c t h h']
      dsimp only
      rw [e1, e2, e3, e4, block0 H, block1 H, block2 H, block3 H, block4 H, block5 H, block6 H, block7 H, block8 H]
      rw [out9_B _ _ _ _ _ _ _ _ _ _ _ _ _ _ _ _ _ _ _ _ _ _ _ _ _ _ _ _ _ _ _ _ _ _ _ _ _ _ _ _ q _ _ _ _ _ _ _, out10_B _ _ _ _ _ _ _ _ _ _ _ _ _ _ _ _ _ _ _ _ _ _ _ _ _ _ _ _ _ _ _ _ _ _ _ _ _ _ _ _ q _ _ _ _ _ _ _, out11_B _ _ _ _ _ _ _ _ _ _ _ _ _ _ _ _ _ _ _ _ _ _ _ _ _ _ _ _ _ _ _ _ _ _ _ _ _ _ _ _ q _ _ _ _ _ _ _]
      exact ⟨rfl, rfl, rfl⟩

include H in
theorem at_last : (outsAt0 m c t0_15.val t0_15.isLt).2.2.2.1 = (M2 fun _ => q.wsum 16)
    ∧ (outsAt0 m c t0_15.val t0_15.isLt).2.2.2.2.1 = M2 ((q.pt 15).last q.rate (q.raw 0) (q.accs 15) (q.smalls 15)) := by
  obtain ⟨e1, e2, e3, e4⟩ := found H t0_15 (by decide)
  rw [outsAt0_C m c t0_15 (by decide) (by decide)]
  dsimp only
  rw [e1, e2, e3, e4, block0 H, block1 H, block2 H, block3 H, block4 H, block5 H, block6 H, block7 H, block8 H]
  rw [out12_C _ _ _ _ _ _ _ _ _ _ _ _ _ _ _ _ _ _ _ _ _ _ _ _ _ _ _ _ _ _ _ _ _ _ _ _ _ _ _ _ q _ _ _ _ _ _ _, out13_C _ _ _ _ _ _ _ _ _ _ _ _ _ _ _ _ _ _ _ _ _ _ _ _ _ _ _ _ _ _ _ _ _ _ _ _ _ _ _ _ q _ _ _ _ _ _ _]
  exact ⟨rfl, rfl⟩

theorem on_row {W : ℕ} (g : Fin 16 → Fin 128 → Fin W → ℝ) (k : Fin 16) (i : Fin 128) (l : Fin W) :
    (M2 fun s l => g (chunkOf s) (posOf s) l) (ix2 (rowAt k i) l) = ((g k i l : ℝ) : EReal) := by
  show ((g (chunkOf (rowAt k i)) (posOf (rowAt k i)) l : ℝ) : EReal) = _
  rw [chunk_row, pos_row]

theorem back_turn : q.back (turn t) = q.pt t.val := by
  have hN : cfg0.N = 16 := N_0
  have hlt := t.isLt
  show q.point (SeqB.turn t.val) (q.carry (15 - (15 - t.val))) = q.point (SeqB.turn t.val) (q.carry t.val)
  rw [show 15 - (15 - t.val) = t.val by omega]

include H in
theorem result_cols : (dats m 0 c).arrAt 9 cfg0.N = M2 fun s l => (q.back (chunkOf s)).cols (posOf s) l := by
  refine (dats m 0 c).arrAt_eq_of_covers 9 _ (by decide +kernel) fun t hf y => ?_
  have e : (win0_9.blk t).view.emb y = ix2 (rowAt (turn t) (y 0)) (y 1) := by blk_ext [blockIdx t, rowAt, turn, SeqB.turn]
  blk_simp
  rw [after0_9, (at_point H t).1, e]
  refine Eq.trans ?_ (on_row (fun k i l => (q.back k).cols i l) (turn t) (y 0) (y 1)).symm
  show _ = (((q.back (turn t)).cols (y 0) (y 1) : ℝ) : EReal)
  rw [back_turn]

include H in
theorem result_raw : (dats m 0 c).arrAt 10 cfg0.N = M2 fun s h => (q.back (chunkOf s)).draw q.rate (q.raw (chunkOf s)) (posOf s) h := by
  refine (dats m 0 c).arrAt_eq_of_covers 10 _ (by decide +kernel) fun t hf y => ?_
  have e : (win0_10.blk t).view.emb y = ix2 (rowAt (turn t) (y 0)) (y 1) := by blk_ext [blockIdx t, rowAt, turn, SeqB.turn]
  blk_simp
  rw [after0_10, (at_point H t).2.1, e]
  refine Eq.trans ?_ (on_row (fun k i l => (q.back k).draw q.rate (q.raw k) i l) (turn t) (y 0) (y 1)).symm
  show _ = (((q.back (turn t)).draw q.rate (q.raw (turn t)) (y 0) (y 1) : ℝ) : EReal)
  rw [back_turn]

include H in
theorem result_gate : (dats m 0 c).arrAt 11 cfg0.N = M2 fun s l => (q.back (chunkOf s)).dz (posOf s) l := by
  refine (dats m 0 c).arrAt_eq_of_covers 11 _ (by decide +kernel) fun t hf y => ?_
  have e : (win0_11.blk t).view.emb y = ix2 (rowAt (turn t) (y 0)) (y 1) := by blk_ext [blockIdx t, rowAt, turn, SeqB.turn]
  blk_simp
  rw [after0_11, (at_point H t).2.2, e]
  refine Eq.trans ?_ (on_row (fun k i l => (q.back k).dz i l) (turn t) (y 0) (y 1)).symm
  show _ = (((q.back (turn t)).dz (y 0) (y 1) : ℝ) : EReal)
  rw [back_turn]

include H in
theorem result_norm : (dats m 0 c).arrAt 12 cfg0.N = M2 fun _ => q.wsum 16 := by
  refine (dats m 0 c).arrAt_eq_of_after_last 12 t0_15 (by decide +kernel) _ fun j => ?_
  blk_simp
  rw [after0_12, (at_last H).1]

include H in
theorem result_small : (dats m 0 c).arrAt 13 cfg0.N = M2 ((q.pt 15).last q.rate (q.raw 0) (q.accs 15) (q.smalls 15)) := by
  refine (dats m 0 c).arrAt_eq_of_after_last 13 t0_15 (by decide +kernel) _ fun j => ?_
  blk_simp
  rw [after0_13, (at_last H).2]

end Cert.SsdBwd

end
-- ==== Proof.SsdBwdRefA.lean ====
/- The plain layer's backward pass on finite arguments: what its forward lines give, and its norm. -/
module

public import proofs.«01_k».proof.Proof.SsdBwdOut
public import proofs.«01_k».proof.Proof.Gen.Reference6Ideal.Run

@[expose] public section

set_option maxRecDepth 16384

noncomputable section

namespace Cert.SsdBwd

open Idealize.ShloMosaic Idealize.ShloMosaic.TcCoe Idealize.SL.Sem
open Cert.Reference6Ideal Cert.Reference6Ideal.Gen Cert.Ssd Cert.SsdHost Cert.Reals Cert.Norm
open Cert.Reference6Ideal.Value

/-- A device's buffers whose arguments are the real arrays of `q`. -/
structure RefHolds (V : Valuation Cert.Reference6Ideal.τ Cert.Reference6Ideal.sig (Elt Ideal)) (q : SeqB) : Prop where
  h0 : V (Proc.devRef .tc main_arg0) = M2 q.X
  h1 : V (Proc.devRef .tc main_arg1) = M2 q.P
  h2 : V (Proc.devRef .tc main_arg2) = M2 q.D
  h3 : V (Proc.devRef .tc main_arg3) = M2 fun _ => q.bias
  h4 : V (Proc.devRef .tc main_arg4) = M2 fun _ => q.al
  h5 : V (Proc.devRef .tc main_arg5) = M2 fun _ => q.d
  h6 : V (Proc.devRef .tc main_arg6) = M2 fun _ => q.w

variable {q : SeqB} {V : Valuation Cert.Reference6Ideal.τ Cert.Reference6Ideal.sig (Elt Ideal)} (E : RefHolds V q)
include E

theorem ref9 : res_main_v9 (F := Ideal) V = M2 fun s h => q.P s ⟨5120 + h, by omega⟩ + q.bias h := by
  have e : res_main_v9 (F := Ideal) V = rawA (F := Ideal) (V (Proc.devRef .tc main_arg1)) (V (Proc.devRef .tc main_arg3)) := rfl
  rw [e, E.h1, E.h3]
  exact rawA_real _ _

theorem ref10_0 : res_main_v10_0 (F := Ideal) V = M2 fun s h => softplus (q.P s ⟨5120 + h, by omega⟩ + q.bias h) := by
  have e : res_main_v10_0 (F := Ideal) V = dtAll (F := Ideal) (V (Proc.devRef .tc main_arg1)) (V (Proc.devRef .tc main_arg3)) := rfl
  rw [e, E.h1, E.h3]
  exact dtAll_real q.toSeq

theorem ref3 : res_main_v3 (F := Ideal) V = A3 fun s h p => q.X s ⟨h * 64 + p, by omega⟩ := by
  have e : res_main_v3 (F := Ideal) V = lanesA (F := Ideal) (V (Proc.devRef .tc main_arg0)) := rfl
  rw [e, E.h0]
  exact lanesA_real _

theorem ref17 : res_main_v17 (F := Ideal) V = A5 fun c i g j p => (q.chunk c g).xdt g i (ln j p) := by
  have e : res_main_v17 (F := Ideal) V = xdtAll (F := Ideal) (V (Proc.devRef .tc main_arg0)) (V (Proc.devRef .tc main_arg1)) (V (Proc.devRef .tc main_arg3)) := rfl
  rw [e, E.h0, E.h1, E.h3]
  exact xdtAll_real q.toSeq

theorem ref18 : res_main_v18 (F := Ideal) V = M2 fun _ h => -Real.exp (q.al h) := by
  have e : res_main_v18 (F := Ideal) V = rateA (F := Ideal) (V (Proc.devRef .tc main_arg4)) := rfl
  rw [e, E.h4]
  exact rateA_real _

theorem ref23 : res_main_v23 (F := Ideal) V = A4 fun c i g n => (q.chunk c g).b i n := by
  have e : res_main_v23 (F := Ideal) V = inA (F := Ideal) (V (Proc.devRef .tc main_arg0)) := rfl
  rw [e, E.h0]
  exact inA_real _

theorem ref24 : res_main_v24 (F := Ideal) V = A4 fun c i g n => (q.chunk c g).c i n := by
  have e : res_main_v24 (F := Ideal) V = outA (F := Ideal) (V (Proc.devRef .tc main_arg0)) := rfl
  rw [e, E.h0]
  exact outA_real _

theorem ref25 : res_main_v25 (F := Ideal) V = A4 fun g j c i => q.cs c i (hk g j) := by
  have e : res_main_v25 (F := Ideal) V = csAll (F := Ideal) (V (Proc.devRef .tc main_arg1)) (V (Proc.devRef .tc main_arg3)) (V (Proc.devRef .tc main_arg4)) := rfl
  rw [e, E.h1, E.h3, E.h4]
  exact csAll_real q.toSeq

theorem ref34 : res_main_v34 (F := Ideal) V = A5 fun g j c i k => (q.chunk c g).decay (hk g j) i k := by
  have e : res_main_v34 (F := Ideal) V = decayA (F := Ideal) (csAll (V (Proc.devRef .tc main_arg1)) (V (Proc.devRef .tc main_arg3)) (V (Proc.devRef .tc main_arg4))) := rfl
  rw [e, E.h1, E.h3, E.h4]
  rw [csAll_real q.toSeq, decayA_real]
  rfl

theorem ref36 : res_main_v36 (F := Ideal) V = A5 fun g (_ : Fin 1) c i k => (q.chunk c g).score i k := by
  unfold res_main_v36
  rw [ref23 E, ref24 E]
  funext y
  obtain ⟨x0, x1, x2, x3, x4, rfl⟩ : ∃ (x0 : Fin 4) (x1 : Fin 1) (x2 : Fin 16) (x3 : Fin 128) (x4 : Fin 128), y = ix5 x0 x1 x2 x3 x4 := ⟨y 0, y 1, y 2, y 3, y 4, eq_ix5 y⟩
  pointwise
  simp only [A4_ix4, mul_coe, sum_coe]
  rfl

theorem ref38 : res_main_v38 (F := Ideal) V = A5 fun g j c i k => (q.chunk c g).score i k * (q.chunk c g).decay (hk g j) i k := by
  unfold res_main_v38
  rw [ref36 E, ref34 E]
  funext y
  obtain ⟨x0, x1, x2, x3, x4, rfl⟩ : ∃ (x0 : Fin 4) (x1 : Fin 4) (x2 : Fin 16) (x3 : Fin 128) (x4 : Fin 128), y = ix5 x0 x1 x2 x3 x4 := ⟨y 0, y 1, y 2, y 3, y 4, eq_ix5 y⟩
  pointwise
  simp only [A5_ix5, mul_coe]

theorem ref44 : res_main_v44 (F := Ideal) V = A4 fun g j c i => Real.exp (q.tot c (hk g j) - q.cs c i (hk g j)) := by
  have e : res_main_v44 (F := Ideal) V = toEndA (F := Ideal) (csAll (V (Proc.devRef .tc main_arg1)) (V (Proc.devRef .tc main_arg3)) (V (Proc.devRef .tc main_arg4))) := rfl
  rw [e, E.h1, E.h3, E.h4]
  rw [csAll_real q.toSeq, toEndA_real]
  simp only [Seq.cs_last]

theorem ref46 : res_main_v46 (F := Ideal) V = A5 fun c i g j (_ : Fin 1) => Real.exp (q.tot c (hk g j) - q.cs c i (hk g j)) := by
  unfold res_main_v46
  rw [ref44 E]
  funext y
  obtain ⟨x0, x1, x2, x3, x4, rfl⟩ : ∃ (x0 : Fin 16) (x1 : Fin 128) (x2 : Fin 4) (x3 : Fin 4) (x4 : Fin 1), y = ix5 x0 x1 x2 x3 x4 := ⟨y 0, y 1, y 2, y 3, y 4, eq_ix5 y⟩
  pointwise
  rfl

theorem ref52 : res_main_v52 (F := Ideal) V = A3 fun g j c => Real.exp (q.tot c (hk g j)) := by
  unfold res_main_v52
  rw [ref25 E]
  funext y
  obtain ⟨x0, x1, x2, rfl⟩ : ∃ (x0 : Fin 4) (x1 : Fin 4) (x2 : Fin 16), y = ix3 x0 x1 x2 := ⟨y 0, y 1, y 2, eq_ix3 y⟩
  pointwise
  refine (congrArg Ideal.exp (?_ : _ = ((q.tot x2 (hk x0 x1) : ℝ) : EReal))).trans (Ideal.exp_coe _)
  rw [← Seq.cs_last]
  rfl

theorem ref54 : res_main_v54 (F := Ideal) V = A3 fun c g j => Real.exp (q.tot c (hk g j)) := by
  have e : res_main_v54 (F := Ideal) V = chunkDecayA (F := Ideal) (csAll (V (Proc.devRef .tc main_arg1)) (V (Proc.devRef .tc main_arg3)) (V (Proc.devRef .tc main_arg4))) := rfl
  rw [e, E.h1, E.h3, E.h4]
  exact chunkDecay_real q.toSeq

theorem ref223 : res_main_v223 (F := Ideal) V = A5 fun c g j p n => q.state c n (lane g (ln j p)) := by
  have e : res_main_v223 (F := Ideal) V = prevAll (F := Ideal) (V (Proc.devRef .tc main_arg0)) (V (Proc.devRef .tc main_arg1)) (V (Proc.devRef .tc main_arg3)) (V (Proc.devRef .tc main_arg4)) := rfl
  rw [e, E.h0, E.h1, E.h3, E.h4]
  exact prevAll_real q.toSeq

theorem ref226 : res_main_v226 (F := Ideal) V = A5 fun c i g j p => ∑ n, (q.chunk c g).c i n * (q.chunk c g).h n (ln j p) := by
  unfold res_main_v226
  rw [ref223 E, ref24 E]
  funext y
  obtain ⟨x0, x1, x2, x3, x4, rfl⟩ : ∃ (x0 : Fin 16) (x1 : Fin 128) (x2 : Fin 4) (x3 : Fin 4) (x4 : Fin 64), y = ix5 x0 x1 x2 x3 x4 := ⟨y 0, y 1, y 2, y 3, y 4, eq_ix5 y⟩
  pointwise
  simp only [A4_ix4, A5_ix5, mul_coe, sum_coe]
  exact congrArg (fun x : ℝ => (x : EReal)) (Finset.sum_congr rfl fun n _ => mul_comm _ _)

theorem ref227 : res_main_v227 (F := Ideal) V = A4 fun g j c i => Real.exp (q.cs c i (hk g j)) := by
  unfold res_main_v227
  rw [ref25 E]
  funext y
  obtain ⟨x0, x1, x2, x3, rfl⟩ : ∃ (x0 : Fin 4) (x1 : Fin 4) (x2 : Fin 16) (x3 : Fin 128), y = ix4 x0 x1 x2 x3 := ⟨y 0, y 1, y 2, y 3, eq_ix4 y⟩
  pointwise
  exact Ideal.exp_coe _

theorem ref229 : res_main_v229 (F := Ideal) V = A5 fun c i g j (_ : Fin 1) => Real.exp (q.cs c i (hk g j)) := by
  unfold res_main_v229
  rw [ref227 E]
  funext y
  obtain ⟨x0, x1, x2, x3, x4, rfl⟩ : ∃ (x0 : Fin 16) (x1 : Fin 128) (x2 : Fin 4) (x3 : Fin 4) (x4 : Fin 1), y = ix5 x0 x1 x2 x3 x4 := ⟨y 0, y 1, y 2, y 3, y 4, eq_ix5 y⟩
  pointwise
  rfl

theorem ref236 : res_main_v236 (F := Ideal) V = A3 fun (_ : Fin 1) h (_ : Fin 1) => q.d h := by
  unfold res_main_v236
  rw [E.h5]
  funext y
  obtain ⟨x0, x1, x2, rfl⟩ : ∃ (x0 : Fin 1) (x1 : Fin 16) (x2 : Fin 1), y = ix3 x0 x1 x2 := ⟨y 0, y 1, y 2, eq_ix3 y⟩
  pointwise
  rfl

theorem ref240 : res_main_v240 (F := Ideal) V = M2 fun s l => (q.chunk (chunkOf s) (groupOf l)).y (groupOf l) (posOf s) (placeOf l) := by
  have e : res_main_v240 (F := Ideal) V = yAll (F := Ideal) (V (Proc.devRef .tc main_arg0)) (V (Proc.devRef .tc main_arg1)) (V (Proc.devRef .tc main_arg3)) (V (Proc.devRef .tc main_arg4)) (V (Proc.devRef .tc main_arg5)) := rfl
  rw [e, E.h0, E.h1, E.h3, E.h4, E.h5]
  exact yAll_real q.toSeq

theorem ref0 : res_main_v0 (F := Ideal) V = M2 fun s l => q.P s ⟨2048 + l, by omega⟩ := by
  have e : res_main_v0 (F := Ideal) V = zA (F := Ideal) (V (Proc.devRef .tc main_arg1)) := rfl
  rw [e, E.h1]
  exact zA_real _

theorem ref241_2 : res_main_v241_2 (F := Ideal) V = M2 fun s l => (1 + Real.exp (-q.P s ⟨2048 + l, by omega⟩))⁻¹ := by
  have e : res_main_v241_2 (F := Ideal) V = sigA (F := Ideal) (zA (V (Proc.devRef .tc main_arg1))) := rfl
  rw [e, E.h1]
  rw [zA_real, sigA_real]

theorem ref241_0 : res_main_v241_0 (F := Ideal) V = M2 fun s l => silu (q.P s ⟨2048 + l, by omega⟩) := by
  unfold res_main_v241_0
  rw [ref0 E, ref241_2 E]
  funext y
  obtain ⟨x0, x1, rfl⟩ : ∃ (x0 : Fin 2048) (x1 : Fin 1024), y = ix2 x0 x1 := ⟨y 0, y 1, eq_ix2 y⟩
  pointwise
  simp only [M2_ix2, mul_coe]
  rfl

theorem ref243 : res_main_v243 (F := Ideal) V = A3 fun s g l => q.gated (chunkOf s) g (posOf s) l := by
  have e : res_main_v243 (F := Ideal) V = gatedA (yAll (F := Ideal) (V (Proc.devRef .tc main_arg0)) (V (Proc.devRef .tc main_arg1)) (V (Proc.devRef .tc main_arg3)) (V (Proc.devRef .tc main_arg4)) (V (Proc.devRef .tc main_arg5))) (zA (V (Proc.devRef .tc main_arg1))) := rfl
  rw [e, E.h0, E.h1, E.h3, E.h4, E.h5]
  exact gatedAll_real q.toSeq

theorem ref250 : res_main_v250 (F := Ideal) V = A3 fun s g (_ : Fin 1) => meanSq (q.gated (chunkOf s) g (posOf s)) := by
  unfold res_main_v250
  rw [ref243 E]
  funext y
  obtain ⟨x0, x1, x2, rfl⟩ : ∃ (x0 : Fin 2048) (x1 : Fin 4) (x2 : Fin 1), y = ix3 x0 x1 x2 := ⟨y 0, y 1, y 2, eq_ix3 y⟩
  pointwise
  simp only [A3_ix3, mul_coe, sum_coe, word_256, word_eps, div_coe _ _ (show (256 : ℝ) ≠ 0 by norm_num), add_coe]
  rfl

theorem ref251 : res_main_v251 (F := Ideal) V = A3 fun s g (_ : Fin 1) => (Real.sqrt (meanSq (q.gated (chunkOf s) g (posOf s))))⁻¹ := by
  unfold res_main_v251
  rw [ref250 E]
  funext y
  obtain ⟨x0, x1, x2, rfl⟩ : ∃ (x0 : Fin 2048) (x1 : Fin 4) (x2 : Fin 1), y = ix3 x0 x1 x2 := ⟨y 0, y 1, y 2, eq_ix3 y⟩
  pointwise
  exact rsqrt_pos _ (meanSq_pos _)

theorem ref257 : res_main_v257 (F := Ideal) V = M2 fun s l => q.gated (chunkOf s) (groupOf l) (posOf s) (placeOf l) * (Real.sqrt (meanSq (q.gated (chunkOf s) (groupOf l) (posOf s))))⁻¹ := by
  unfold res_main_v257
  rw [ref243 E, ref251 E]
  funext y
  obtain ⟨x0, x1, rfl⟩ : ∃ (x0 : Fin 2048) (x1 : Fin 1024), y = ix2 x0 x1 := ⟨y 0, y 1, eq_ix2 y⟩
  pointwise
  simp only [A3_ix3, mul_coe]
  rfl

theorem ref260 : res_main_v260 (F := Ideal) V = M2 fun s l => q.D s ⟨1024 + l, by omega⟩ := by
  unfold res_main_v260
  rw [E.h2]
  funext y
  obtain ⟨x0, x1, rfl⟩ : ∃ (x0 : Fin 2048) (x1 : Fin 1024), y = ix2 x0 x1 := ⟨y 0, y 1, eq_ix2 y⟩
  pointwise
  rfl

theorem ref267 : res_main_v267 (F := Ideal) V = A3 fun s g l => q.D s ⟨1024 + (lane g l).1, by have := (lane g l).2; omega⟩ * q.w (lane g l) := by
  unfold res_main_v267
  rw [ref260 E, E.h6]
  funext y
  obtain ⟨x0, x1, x2, rfl⟩ : ∃ (x0 : Fin 2048) (x1 : Fin 4) (x2 : Fin 256), y = ix3 x0 x1 x2 := ⟨y 0, y 1, y 2, eq_ix3 y⟩
  pointwise
  simp only [M2_ix2, mul_coe]
  rfl

theorem ref277 : res_main_v277 (F := Ideal) V = A3 fun s g (_ : Fin 256) => (∑ k, q.gated (chunkOf s) g (posOf s) k * (q.D s ⟨1024 + (lane g k).1, by have := (lane g k).2; omega⟩ * q.w (lane g k))) * (-(1 / 2) * ((Real.sqrt (meanSq (q.gated (chunkOf s) g (posOf s))))⁻¹ / meanSq (q.gated (chunkOf s) g (posOf s)))) / 256 := by
  unfold res_main_v277
  rw [ref243 E, ref267 E, ref251 E, ref250 E]
  funext y
  obtain ⟨x0, x1, x2, rfl⟩ : ∃ (x0 : Fin 2048) (x1 : Fin 4) (x2 : Fin 256), y = ix3 x0 x1 x2 := ⟨y 0, y 1, y 2, eq_ix3 y⟩
  pointwise
  simp only [A3_ix3, mul_coe, sum_coe, word_256, word_neg_half, div_coe _ _ (show (256 : ℝ) ≠ 0 by norm_num), div_coe _ _ (meanSq_pos _).ne', Fin.sum_univ_one, Finset.univ_unique, Finset.sum_singleton]

end Cert.SsdBwd

end
-- ==== Proof.SsdBwdRefB.lean ====
/- The plain layer's backward pass on finite arguments: the norm's gradient and the scan from the end. -/
module

public import proofs.«01_k».proof.Proof.SsdBwdRefA

@[expose] public section

set_option maxRecDepth 16384

noncomputable section

namespace Cert.SsdBwd

open Idealize.ShloMosaic Idealize.ShloMosaic.TcCoe Idealize.SL.Sem
open Cert.Reference6Ideal Cert.Reference6Ideal.Gen Cert.Ssd Cert.SsdHost Cert.Reals Cert.Norm
open Cert.Reference6Ideal.Value

/-- The norm's gradient, as the plain layer's chain of cotangents and in one formula. -/
theorem norm_grad (f o w : Fin 256 → ℝ) (l : Fin 256) :
    o l * w l * (Real.sqrt (meanSq f))⁻¹ + f l * ((∑ k, f k * (o k * w k)) * (-(1 / 2) * ((Real.sqrt (meanSq f))⁻¹ / meanSq f)) / 256)
      + (∑ k, f k * (o k * w k)) * (-(1 / 2) * ((Real.sqrt (meanSq f))⁻¹ / meanSq f)) / 256 * f l
    = (Real.sqrt (meanSq f))⁻¹ * (o l * w l - f l * (Real.sqrt (meanSq f))⁻¹ * ((∑ k, o k * w k * (f k * (Real.sqrt (meanSq f))⁻¹)) / 256)) := by
  have h : 0 < meanSq f := meanSq_pos f
  have e : (Real.sqrt (meanSq f))⁻¹ / meanSq f = (Real.sqrt (meanSq f))⁻¹ * ((Real.sqrt (meanSq f))⁻¹ * (Real.sqrt (meanSq f))⁻¹) := by
    rw [← mul_inv, Real.mul_self_sqrt h.le]; rfl
  have s : ∑ k, o k * w k * (f k * (Real.sqrt (meanSq f))⁻¹) = (∑ k, f k * (o k * w k)) * (Real.sqrt (meanSq f))⁻¹ := by
    rw [Finset.sum_mul]; exact Finset.sum_congr rfl fun k _ => by ring
  rw [e, s]
  ring

theorem lane_place (l : Fin 1024) : lane (groupOf l) (placeOf l) = l := Fin.ext (by simp only [lane, groupOf, placeOf]; omega)
theorem group_at (g j : Fin 4) (p : Fin 64) (h) : groupOf ⟨(g.1 * 4 + j.1) * 64 + p.1, h⟩ = g := Fin.ext (by simp only [groupOf]; omega)
theorem place_at (g j : Fin 4) (p : Fin 64) (h) : placeOf ⟨(g.1 * 4 + j.1) * 64 + p.1, h⟩ = ln j p := Fin.ext (by simp only [placeOf, ln]; omega)
theorem z_row (q : SeqB) (s : Fin 2048) (l : Fin 1024) : q.z (chunkOf s) (posOf s) (groupOf l) (placeOf l) = q.P s ⟨2048 + l, by omega⟩ := by
  unfold Seq.z
  rw [row_chunk]
  exact congrArg (q.P s) (Fin.ext (congrArg (2048 + ·) (congrArg Fin.val (lane_place l))))

/-- The cotangent of the gated output. -/
def dgated (q : SeqB) (s : Fin 2048) (l : Fin 1024) : ℝ :=
  dgatedR ((q.back (chunkOf s)).y (groupOf l)) ((q.back (chunkOf s)).z (groupOf l)) ((q.back (chunkOf s)).o (groupOf l)) ((q.back (chunkOf s)).w (groupOf l)) (posOf s) (placeOf l)

theorem slices_dec (k : Fin 16) : S16x4x4.Slices ![k, 0, 0] S1x4x4 := by revert k; decide
theorem slices_tail (k : Fin 16) : S16x4x4x1x1.Slices ![k, 0, 0, 0, 0] S1x4x4x1x1 := by revert k; decide

/-- One chunk's part of an array. -/
def pickState (v : FVec Ideal S16x4x4x64x128 .f32) (k : ℕ) (hk : k < 16) : FVec Ideal S4x4x64x128 .f32 :=
  shapeCast S4x4x64x128 (extractStridedSlice S1x4x4x64x128 ![k, 0, 0, 0, 0] v (slices_added ⟨k, hk⟩)) shapeCasts_S1x4x4x64x128_S4x4x64x128
def pickTail (v : FVec Ideal S16x4x4x1x1 .f32) (k : ℕ) (hk : k < 16) : FVec Ideal S4x4x1x1 .f32 :=
  shapeCast S4x4x1x1 (extractStridedSlice S1x4x4x1x1 ![k, 0, 0, 0, 0] v (slices_tail ⟨k, hk⟩)) shapeCasts_S1x4x4x1x1_S4x4x1x1
def pickDecay (v : FVec Ideal S16x4x4 .f32) (k : ℕ) (hk : k < 16) : FVec Ideal S4x4 .f32 :=
  shapeCast S4x4 (extractStridedSlice S1x4x4 ![k, 0, 0] v (slices_dec ⟨k, hk⟩)) shapeCasts_S1x4x4_S4x4

/-- A state's sum, head by head. -/
def allOf (v : FVec Ideal S4x4x64x128 .f32) : FVec Ideal S4x4 .f32 :=
  Host.reduceAdd (shapeCast S4x4x1x1 (Host.reduceAdd v (constant S_ .f32 0x00000000#32) reducesTo_S4x4x64x128_S4x4_d2_3 h_S_) shapeCasts_S4x4_S4x4x1x1) (constant S_ .f32 0x00000000#32) reducesTo_S4x4x1x1_S4x4_d2_3 h_S_

variable {q : SeqB} {V : Valuation Cert.Reference6Ideal.τ Cert.Reference6Ideal.sig (Elt Ideal)} (E : RefHolds V q)
include E

theorem ref282 : res_main_v282 (F := Ideal) V = M2 fun s l => dgated q s l := by
  unfold res_main_v282
  rw [ref267 E, ref251 E, ref243 E, ref277 E]
  funext y
  obtain ⟨x0, x1, rfl⟩ : ∃ (x0 : Fin 2048) (x1 : Fin 1024), y = ix2 x0 x1 := ⟨y 0, y 1, eq_ix2 y⟩
  pointwise
  simp only [A3_ix3, mul_coe, add_coe]
  refine congrArg (fun x : ℝ => (x : EReal)) ?_
  refine (norm_grad (q.gated (chunkOf x0) (groupOf x1) (posOf x0)) (fun k => q.D x0 ⟨1024 + (lane (groupOf x1) k).1, by have := (lane (groupOf x1) k).2; omega⟩) (fun k => q.w (lane (groupOf x1) k)) (placeOf x1)).trans ?_
  have ho : ∀ k, (q.back (chunkOf x0)).o (groupOf x1) (posOf x0) k = q.D x0 ⟨1024 + (lane (groupOf x1) k).1, by have := (lane (groupOf x1) k).2; omega⟩ := fun k => by
    show q.D (rowAt (chunkOf x0) (posOf x0)) _ = _
    rw [row_chunk]
    rfl
  show _ = dgated q x0 x1
  unfold dgated dgatedR normedR
  simp only [ho]
  rfl

theorem ref283 : res_main_v283 (F := Ideal) V = M2 fun s l => (q.back (chunkOf s)).y (groupOf l) (posOf s) (placeOf l) * dgated q s l := by
  unfold res_main_v283
  rw [ref240 E, ref282 E]
  funext y
  obtain ⟨x0, x1, rfl⟩ : ∃ (x0 : Fin 2048) (x1 : Fin 1024), y = ix2 x0 x1 := ⟨y 0, y 1, eq_ix2 y⟩
  pointwise
  simp only [M2_ix2, mul_coe]
  rfl

theorem ref286 : res_main_v286 (F := Ideal) V = A3 fun s h p => (q.back (chunkOf s)).dy (groupOf ⟨h * 64 + p, by omega⟩) (posOf s) (placeOf ⟨h * 64 + p, by omega⟩) := by
  unfold res_main_v286
  rw [ref282 E, ref241_0 E]
  funext y
  obtain ⟨x0, x1, x2, rfl⟩ : ∃ (x0 : Fin 2048) (x1 : Fin 16) (x2 : Fin 64), y = ix3 x0 x1 x2 := ⟨y 0, y 1, y 2, eq_ix3 y⟩
  pointwise
  simp only [M2_ix2, mul_coe]
  exact congrArg (fun x : ℝ => ((dgated q x0 ⟨x1.1 * 64 + x2.1, by omega⟩ * silu x : ℝ) : EReal)) (z_row q x0 ⟨x1.1 * 64 + x2.1, by omega⟩).symm

theorem ref296 : res_main_v296 (F := Ideal) V = A5 fun c i g j p => (q.back c).dy g i (ln j p) := by
  unfold res_main_v296
  rw [ref286 E]
  funext y
  obtain ⟨x0, x1, x2, x3, x4, rfl⟩ : ∃ (x0 : Fin 16) (x1 : Fin 128) (x2 : Fin 4) (x3 : Fin 4) (x4 : Fin 64), y = ix5 x0 x1 x2 x3 x4 := ⟨y 0, y 1, y 2, y 3, y 4, eq_ix5 y⟩
  pointwise
  refine congrArg (fun x : ℝ => (x : EReal)) (?_ : (q.back (chunkOf (rowAt x0 x1))).dy (groupOf ⟨(x2.1 * 4 + x3.1) * 64 + x4.1, by omega⟩) (posOf (rowAt x0 x1)) (placeOf ⟨(x2.1 * 4 + x3.1) * 64 + x4.1, by omega⟩) = (q.back x0).dy x2 x1 (ln x3 x4))
  rw [chunk_row, pos_row, group_at, place_at]

theorem ref305 : res_main_v305 (F := Ideal) V = A5 fun c g j p i => (q.back c).dyo g i (ln j p) := by
  unfold res_main_v305
  rw [ref296 E, ref229 E]
  funext y
  obtain ⟨x0, x1, x2, x3, x4, rfl⟩ : ∃ (x0 : Fin 16) (x1 : Fin 4) (x2 : Fin 4) (x3 : Fin 64) (x4 : Fin 128), y = ix5 x0 x1 x2 x3 x4 := ⟨y 0, y 1, y 2, y 3, y 4, eq_ix5 y⟩
  pointwise
  simp only [A5_ix5, mul_coe, RPoint.dyo, hd_ln]
  rfl

theorem ref308 : res_main_v308 (F := Ideal) V = A5 fun c g j p n => ∑ i, (q.chunk c g).c i n * (q.back c).dyo g i (ln j p) := by
  unfold res_main_v308
  rw [ref305 E, ref24 E]
  funext y
  obtain ⟨x0, x1, x2, x3, x4, rfl⟩ : ∃ (x0 : Fin 16) (x1 : Fin 4) (x2 : Fin 4) (x3 : Fin 64) (x4 : Fin 128), y = ix5 x0 x1 x2 x3 x4 := ⟨y 0, y 1, y 2, y 3, y 4, eq_ix5 y⟩
  pointwise
  simp only [A5_ix5, A4_ix4, mul_coe, sum_coe]
  exact congrArg (fun x : ℝ => (x : EReal)) (Finset.sum_congr rfl fun n _ => mul_comm _ _)

theorem ref310 : res_main_v310 (F := Ideal) V = A5 fun c g j p n => ∑ i, (q.chunk c g).c i n * (q.back c).dyo g i (ln j p) := by
  unfold res_main_v310
  rw [ref308 E]
  funext y
  obtain ⟨x0, x1, x2, x3, x4, rfl⟩ : ∃ (x0 : Fin 16) (x1 : Fin 4) (x2 : Fin 4) (x3 : Fin 64) (x4 : Fin 128), y = ix5 x0 x1 x2 x3 x4 := ⟨y 0, y 1, y 2, y 3, y 4, eq_ix5 y⟩
  pointwise

theorem ref312 : res_main_v312 (F := Ideal) V = A5 fun c g j p n => q.state c n (lane g (ln j p)) := by
  unfold res_main_v312
  rw [ref223 E]
  funext y
  obtain ⟨x0, x1, x2, x3, x4, rfl⟩ : ∃ (x0 : Fin 16) (x1 : Fin 4) (x2 : Fin 4) (x3 : Fin 64) (x4 : Fin 128), y = ix5 x0 x1 x2 x3 x4 := ⟨y 0, y 1, y 2, y 3, y 4, eq_ix5 y⟩
  pointwise

theorem ref309 : res_main_v309 (F := Ideal) V = A4 fun g j p n => q.carry 0 n (lane g (ln j p)) := by
  unfold res_main_v309
  funext y
  obtain ⟨x0, x1, x2, x3, rfl⟩ : ∃ (x0 : Fin 4) (x1 : Fin 4) (x2 : Fin 64) (x3 : Fin 128), y = ix4 x0 x1 x2 x3 := ⟨y 0, y 1, y 2, y 3, eq_ix4 y⟩
  pointwise
  exact EReal.coe_zero.symm

theorem ref58 : res_main_v58 (F := Ideal) V = A3 fun c g j => Real.exp (q.tot c (hk g j)) := by
  unfold res_main_v58
  rw [ref54 E]
  funext y
  obtain ⟨x0, x1, x2, rfl⟩ : ∃ (x0 : Fin 16) (x1 : Fin 4) (x2 : Fin 4), y = ix3 x0 x1 x2 := ⟨y 0, y 1, y 2, eq_ix3 y⟩
  pointwise

omit E in
theorem stack_state (x : Fin 16 → Fin 4 → Fin 4 → Fin 64 → Fin 128 → ℝ) {v0 v1 v2 v3 v4 v5 v6 v7 v8 v9 v10 v11 v12 v13 v14 v15 : FVec Ideal S4x4x64x128 .f32} (h0 : v0 = A4 (x 0)) (h1 : v1 = A4 (x 1)) (h2 : v2 = A4 (x 2)) (h3 : v3 = A4 (x 3)) (h4 : v4 = A4 (x 4)) (h5 : v5 = A4 (x 5)) (h6 : v6 = A4 (x 6)) (h7 : v7 = A4 (x 7)) (h8 : v8 = A4 (x 8)) (h9 : v9 = A4 (x 9)) (h10 : v10 = A4 (x 10)) (h11 : v11 = A4 (x 11)) (h12 : v12 = A4 (x 12)) (h13 : v13 = A4 (x 13)) (h14 : v14 = A4 (x 14)) (h15 : v15 = A4 (x 15)) (h) :
    concatenate (α := Ideal .f32) S16x4x4x64x128 0 [⟨S1x4x4x64x128, broadcastInDim S1x4x4x64x128 ![1, 2, 3, 4] bcast_S4x4x64x128_S1x4x4x64x128_1_2_3_4 v0⟩, ⟨S1x4x4x64x128, broadcastInDim S1x4x4x64x128 ![1, 2, 3, 4] bcast_S4x4x64x128_S1x4x4x64x128_1_2_3_4 v1⟩, ⟨S1x4x4x64x128, broadcastInDim S1x4x4x64x128 ![1, 2, 3, 4] bcast_S4x4x64x128_S1x4x4x64x128_1_2_3_4 v2⟩, ⟨S1x4x4x64x128, broadcastInDim S1x4x4x64x128 ![1, 2, 3, 4] bcast_S4x4x64x128_S1x4x4x64x128_1_2_3_4 v3⟩, ⟨S1x4x4x64x128, broadcastInDim S1x4x4x64x128 ![1, 2, 3, 4] bcast_S4x4x64x128_S1x4x4x64x128_1_2_3_4 v4⟩, ⟨S1x4x4x64x128, broadcastInDim S1x4x4x64x128 ![1, 2, 3, 4] bcast_S4x4x64x128_S1x4x4x64x128_1_2_3_4 v5⟩, ⟨S1x4x4x64x128, broadcastInDim S1x4x4x64x128 ![1, 2, 3, 4] bcast_S4x4x64x128_S1x4x4x64x128_1_2_3_4 v6⟩, ⟨S1x4x4x64x128, broadcastInDim S1x4x4x64x128 ![1, 2, 3, 4] bcast_S4x4x64x128_S1x4x4x64x128_1_2_3_4 v7⟩, ⟨S1x4x4x64x128, broadcastInDim S1x4x4x64x128 ![1, 2, 3, 4] bcast_S4x4x64x128_S1x4x4x64x128_1_2_3_4 v8⟩, ⟨S1x4x4x64x128, broadcastInDim S1x4x4x64x128 ![1, 2, 3, 4] bcast_S4x4x64x128_S1x4x4x64x128_1_2_3_4 v9⟩, ⟨S1x4x4x64x128, broadcastInDim S1x4x4x64x128 ![1, 2, 3, 4] bcast_S4x4x64x128_S1x4x4x64x128_1_2_3_4 v10⟩, ⟨S1x4x4x64x128, broadcastInDim S1x4x4x64x128 ![1, 2, 3, 4] bcast_S4x4x64x128_S1x4x4x64x128_1_2_3_4 v11⟩, ⟨S1x4x4x64x128, broadcastInDim S1x4x4x64x128 ![1, 2, 3, 4] bcast_S4x4x64x128_S1x4x4x64x128_1_2_3_4 v12⟩, ⟨S1x4x4x64x128, broadcastInDim S1x4x4x64x128 ![1, 2, 3, 4] bcast_S4x4x64x128_S1x4x4x64x128_1_2_3_4 v13⟩, ⟨S1x4x4x64x128, broadcastInDim S1x4x4x64x128 ![1, 2, 3, 4] bcast_S4x4x64x128_S1x4x4x64x128_1_2_3_4 v14⟩, ⟨S1x4x4x64x128, broadcastInDim S1x4x4x64x128 ![1, 2, 3, 4] bcast_S4x4x64x128_S1x4x4x64x128_1_2_3_4 v15⟩] h = A5 x := by
  subst h0 h1 h2 h3 h4 h5 h6 h7 h8 h9 h10 h11 h12 h13 h14 h15
  have e : ∀ k : Fin 16, (⟨S1x4x4x64x128, broadcastInDim S1x4x4x64x128 ![1, 2, 3, 4] bcast_S4x4x64x128_S1x4x4x64x128_1_2_3_4 (A4 (x k))⟩ : Σ s : Shape, (s.Idx → EReal)) = ⟨S1x4x4x64x128, fun i => ((x k (i 1) (i 2) (i 3) (i 4) : ℝ) : EReal)⟩ := fun k => by
    refine congrArg (fun v => (⟨S1x4x4x64x128, v⟩ : Σ s : Shape, (s.Idx → EReal))) (funext fun i => ?_)
    obtain ⟨z, x0, x1, x2, x3, rfl⟩ : ∃ (z : Fin 1) (x0 : Fin 4) (x1 : Fin 4) (x2 : Fin 64) (x3 : Fin 128), i = ix5 z x0 x1 x2 x3 := ⟨i 0, i 1, i 2, i 3, i 4, eq_ix5 i⟩
    pointwise
    rfl
  funext i
  obtain ⟨c, x0, x1, x2, x3, rfl⟩ : ∃ (c : Fin 16) (x0 : Fin 4) (x1 : Fin 4) (x2 : Fin 64) (x3 : Fin 128), i = ix5 c x0 x1 x2 x3 := ⟨i 0, i 1, i 2, i 3, i 4, eq_ix5 i⟩
  simp only [e]
  have hc := (by decide : Shape.Concatenates (List.replicate 16 S1x4x4x64x128) S16x4x4x64x128 0)
  refine (show _ = concatenate S16x4x4x64x128 0 (List.ofFn fun k : Fin 16 => (⟨S1x4x4x64x128, fun i =>
    ((x k (i 1) (i 2) (i 3) (i 4) : ℝ) : EReal)⟩ : Σ s : Shape, (s.Idx → EReal))) hc (ix5 c x0 x1 x2 x3) from rfl).trans ?_
  rw [concatenate_ofFn_unit_apply' 0 (fun (k : Fin 16) (i : S1x4x4x64x128.Idx) => ((x k (i 1) (i 2) (i 3) (i 4) : ℝ) : EReal)) hc rfl]
  rfl

omit E in
theorem stack_decay (x : Fin 16 → Fin 4 → Fin 4 → Fin 1 → Fin 1 → ℝ) {v0 v1 v2 v3 v4 v5 v6 v7 v8 v9 v10 v11 v12 v13 v14 v15 : FVec Ideal S4x4x1x1 .f32} (h0 : v0 = A4 (x 0)) (h1 : v1 = A4 (x 1)) (h2 : v2 = A4 (x 2)) (h3 : v3 = A4 (x 3)) (h4 : v4 = A4 (x 4)) (h5 : v5 = A4 (x 5)) (h6 : v6 = A4 (x 6)) (h7 : v7 = A4 (x 7)) (h8 : v8 = A4 (x 8)) (h9 : v9 = A4 (x 9)) (h10 : v10 = A4 (x 10)) (h11 : v11 = A4 (x 11)) (h12 : v12 = A4 (x 12)) (h13 : v13 = A4 (x 13)) (h14 : v14 = A4 (x 14)) (h15 : v15 = A4 (x 15)) (h) :
    concatenate (α := Ideal .f32) S16x4x4x1x1 0 [⟨S1x4x4x1x1, broadcastInDim S1x4x4x1x1 ![1, 2, 3, 4] bcast_S4x4x1x1_S1x4x4x1x1_1_2_3_4 v0⟩, ⟨S1x4x4x1x1, broadcastInDim S1x4x4x1x1 ![1, 2, 3, 4] bcast_S4x4x1x1_S1x4x4x1x1_1_2_3_4 v1⟩, ⟨S1x4x4x1x1, broadcastInDim S1x4x4x1x1 ![1, 2, 3, 4] bcast_S4x4x1x1_S1x4x4x1x1_1_2_3_4 v2⟩, ⟨S1x4x4x1x1, broadcastInDim S1x4x4x1x1 ![1, 2, 3, 4] bcast_S4x4x1x1_S1x4x4x1x1_1_2_3_4 v3⟩, ⟨S1x4x4x1x1, broadcastInDim S1x4x4x1x1 ![1, 2, 3, 4] bcast_S4x4x1x1_S1x4x4x1x1_1_2_3_4 v4⟩, ⟨S1x4x4x1x1, broadcastInDim S1x4x4x1x1 ![1, 2, 3, 4] bcast_S4x4x1x1_S1x4x4x1x1_1_2_3_4 v5⟩, ⟨S1x4x4x1x1, broadcastInDim S1x4x4x1x1 ![1, 2, 3, 4] bcast_S4x4x1x1_S1x4x4x1x1_1_2_3_4 v6⟩, ⟨S1x4x4x1x1, broadcastInDim S1x4x4x1x1 ![1, 2, 3, 4] bcast_S4x4x1x1_S1x4x4x1x1_1_2_3_4 v7⟩, ⟨S1x4x4x1x1, broadcastInDim S1x4x4x1x1 ![1, 2, 3, 4] bcast_S4x4x1x1_S1x4x4x1x1_1_2_3_4 v8⟩, ⟨S1x4x4x1x1, broadcastInDim S1x4x4x1x1 ![1, 2, 3, 4] bcast_S4x4x1x1_S1x4x4x1x1_1_2_3_4 v9⟩, ⟨S1x4x4x1x1, broadcastInDim S1x4x4x1x1 ![1, 2, 3, 4] bcast_S4x4x1x1_S1x4x4x1x1_1_2_3_4 v10⟩, ⟨S1x4x4x1x1, broadcastInDim S1x4x4x1x1 ![1, 2, 3, 4] bcast_S4x4x1x1_S1x4x4x1x1_1_2_3_4 v11⟩, ⟨S1x4x4x1x1, broadcastInDim S1x4x4x1x1 ![1, 2, 3, 4] bcast_S4x4x1x1_S1x4x4x1x1_1_2_3_4 v12⟩, ⟨S1x4x4x1x1, broadcastInDim S1x4x4x1x1 ![1, 2, 3, 4] bcast_S4x4x1x1_S1x4x4x1x1_1_2_3_4 v13⟩, ⟨S1x4x4x1x1, broadcastInDim S1x4x4x1x1 ![1, 2, 3, 4] bcast_S4x4x1x1_S1x4x4x1x1_1_2_3_4 v14⟩, ⟨S1x4x4x1x1, broadcastInDim S1x4x4x1x1 ![1, 2, 3, 4] bcast_S4x4x1x1_S1x4x4x1x1_1_2_3_4 v15⟩] h = A5 x := by
  subst h0 h1 h2 h3 h4 h5 h6 h7 h8 h9 h10 h11 h12 h13 h14 h15
  have e : ∀ k : Fin 16, (⟨S1x4x4x1x1, broadcastInDim S1x4x4x1x1 ![1, 2, 3, 4] bcast_S4x4x1x1_S1x4x4x1x1_1_2_3_4 (A4 (x k))⟩ : Σ s : Shape, (s.Idx → EReal)) = ⟨S1x4x4x1x1, fun i => ((x k (i 1) (i 2) (i 3) (i 4) : ℝ) : EReal)⟩ := fun k => by
    refine congrArg (fun v => (⟨S1x4x4x1x1, v⟩ : Σ s : Shape, (s.Idx → EReal))) (funext fun i => ?_)
    obtain ⟨z, x0, x1, x2, x3, rfl⟩ : ∃ (z : Fin 1) (x0 : Fin 4) (x1 : Fin 4) (x2 : Fin 1) (x3 : Fin 1), i = ix5 z x0 x1 x2 x3 := ⟨i 0, i 1, i 2, i 3, i 4, eq_ix5 i⟩
    pointwise
    rw [Subsingleton.elim x2 0]
    rw [Subsingleton.elim x3 0]
    rfl
  funext i
  obtain ⟨c, x0, x1, x2, x3, rfl⟩ : ∃ (c : Fin 16) (x0 : Fin 4) (x1 : Fin 4) (x2 : Fin 1) (x3 : Fin 1), i = ix5 c x0 x1 x2 x3 := ⟨i 0, i 1, i 2, i 3, i 4, eq_ix5 i⟩
  simp only [e]
  have hc := (by decide : Shape.Concatenates (List.replicate 16 S1x4x4x1x1) S16x4x4x1x1 0)
  refine (show _ = concatenate S16x4x4x1x1 0 (List.ofFn fun k : Fin 16 => (⟨S1x4x4x1x1, fun i =>
    ((x k (i 1) (i 2) (i 3) (i 4) : ℝ) : EReal)⟩ : Σ s : Shape, (s.Idx → EReal))) hc (ix5 c x0 x1 x2 x3) from rfl).trans ?_
  rw [concatenate_ofFn_unit_apply' 0 (fun (k : Fin 16) (i : S1x4x4x1x1.Idx) => ((x k (i 1) (i 2) (i 3) (i 4) : ℝ) : EReal)) hc rfl]
  rfl

omit E in
theorem stack_total (x : Fin 16 → Fin 4 → Fin 4 → ℝ) {v0 v1 v2 v3 v4 v5 v6 v7 v8 v9 v10 v11 v12 v13 v14 v15 : FVec Ideal S4x4 .f32} (h0 : v0 = M2 (x 0)) (h1 : v1 = M2 (x 1)) (h2 : v2 = M2 (x 2)) (h3 : v3 = M2 (x 3)) (h4 : v4 = M2 (x 4)) (h5 : v5 = M2 (x 5)) (h6 : v6 = M2 (x 6)) (h7 : v7 = M2 (x 7)) (h8 : v8 = M2 (x 8)) (h9 : v9 = M2 (x 9)) (h10 : v10 = M2 (x 10)) (h11 : v11 = M2 (x 11)) (h12 : v12 = M2 (x 12)) (h13 : v13 = M2 (x 13)) (h14 : v14 = M2 (x 14)) (h15 : v15 = M2 (x 15)) (h) :
    concatenate (α := Ideal .f32) S16x4x4 0 [⟨S1x4x4, broadcastInDim S1x4x4 ![1, 2] bcast_S4x4_S1x4x4_1_2 v0⟩, ⟨S1x4x4, broadcastInDim S1x4x4 ![1, 2] bcast_S4x4_S1x4x4_1_2 v1⟩, ⟨S1x4x4, broadcastInDim S1x4x4 ![1, 2] bcast_S4x4_S1x4x4_1_2 v2⟩, ⟨S1x4x4, broadcastInDim S1x4x4 ![1, 2] bcast_S4x4_S1x4x4_1_2 v3⟩, ⟨S1x4x4, broadcastInDim S1x4x4 ![1, 2] bcast_S4x4_S1x4x4_1_2 v4⟩, ⟨S1x4x4, broadcastInDim S1x4x4 ![1, 2] bcast_S4x4_S1x4x4_1_2 v5⟩, ⟨S1x4x4, broadcastInDim S1x4x4 ![1, 2] bcast_S4x4_S1x4x4_1_2 v6⟩, ⟨S1x4x4, broadcastInDim S1x4x4 ![1, 2] bcast_S4x4_S1x4x4_1_2 v7⟩, ⟨S1x4x4, broadcastInDim S1x4x4 ![1, 2] bcast_S4x4_S1x4x4_1_2 v8⟩, ⟨S1x4x4, broadcastInDim S1x4x4 ![1, 2] bcast_S4x4_S1x4x4_1_2 v9⟩, ⟨S1x4x4, broadcastInDim S1x4x4 ![1, 2] bcast_S4x4_S1x4x4_1_2 v10⟩, ⟨S1x4x4, broadcastInDim S1x4x4 ![1, 2] bcast_S4x4_S1x4x4_1_2 v11⟩, ⟨S1x4x4, broadcastInDim S1x4x4 ![1, 2] bcast_S4x4_S1x4x4_1_2 v12⟩, ⟨S1x4x4, broadcastInDim S1x4x4 ![1, 2] bcast_S4x4_S1x4x4_1_2 v13⟩, ⟨S1x4x4, broadcastInDim S1x4x4 ![1, 2] bcast_S4x4_S1x4x4_1_2 v14⟩, ⟨S1x4x4, broadcastInDim S1x4x4 ![1, 2] bcast_S4x4_S1x4x4_1_2 v15⟩] h = A3 x := by
  subst h0 h1 h2 h3 h4 h5 h6 h7 h8 h9 h10 h11 h12 h13 h14 h15
  have e : ∀ k : Fin 16, (⟨S1x4x4, broadcastInDim S1x4x4 ![1, 2] bcast_S4x4_S1x4x4_1_2 (M2 (x k))⟩ : Σ s : Shape, (s.Idx → EReal)) = ⟨S1x4x4, fun i => ((x k (i 1) (i 2) : ℝ) : EReal)⟩ := fun k => by
    refine congrArg (fun v => (⟨S1x4x4, v⟩ : Σ s : Shape, (s.Idx → EReal))) (funext fun i => ?_)
    obtain ⟨z, x0, x1, rfl⟩ : ∃ (z : Fin 1) (x0 : Fin 4) (x1 : Fin 4), i = ix3 z x0 x1 := ⟨i 0, i 1, i 2, eq_ix3 i⟩
    pointwise
    rfl
  funext i
  obtain ⟨c, x0, x1, rfl⟩ : ∃ (c : Fin 16) (x0 : Fin 4) (x1 : Fin 4), i = ix3 c x0 x1 := ⟨i 0, i 1, i 2, eq_ix3 i⟩
  simp only [e]
  have hc := (by decide : Shape.Concatenates (List.replicate 16 S1x4x4) S16x4x4 0)
  refine (show _ = concatenate S16x4x4 0 (List.ofFn fun k : Fin 16 => (⟨S1x4x4, fun i =>
    ((x k (i 1) (i 2) : ℝ) : EReal)⟩ : Σ s : Shape, (s.Idx → EReal))) hc (ix3 c x0 x1) from rfl).trans ?_
  rw [concatenate_ofFn_unit_apply' 0 (fun (k : Fin 16) (i : S1x4x4.Idx) => ((x k (i 1) (i 2) : ℝ) : EReal)) hc rfl]
  rfl

/-- One chunk's decay over its whole length. -/
theorem decay_at (k : ℕ) (lt : k < 16) : broadcastInDim S4x4x1x1 ![0, 1] bcast_S4x4_S4x4x1x1_0_1 (pickDecay (res_main_v58 V) k lt)
    = A4 fun g j (_ _ : Fin 1) => Real.exp (q.tot ⟨k, lt⟩ (hk g j)) := by
  rw [ref58 E]
  unfold pickDecay
  funext y
  obtain ⟨g, j, a, b, rfl⟩ : ∃ (g : Fin 4) (j : Fin 4) (a : Fin 1) (b : Fin 1), y = ix4 g j a b := ⟨y 0, y 1, y 2, y 3, eq_ix4 y⟩
  pointwise
  rfl

theorem ref224 : res_main_v224 (F := Ideal) V = A5 fun c g j (_ _ : Fin 1) => Real.exp (q.tot c (hk g j)) := by
  have e := stack_decay (fun c g j (_ _ : Fin 1) => Real.exp (q.tot c (hk g j))) (decay_at E 0 (by decide)) (decay_at E 1 (by decide)) (decay_at E 2 (by decide)) (decay_at E 3 (by decide)) (decay_at E 4 (by decide)) (decay_at E 5 (by decide)) (decay_at E 6 (by decide)) (decay_at E 7 (by decide)) (decay_at E 8 (by decide)) (decay_at E 9 (by decide)) (decay_at E 10 (by decide)) (decay_at E 11 (by decide)) (decay_at E 12 (by decide)) (decay_at E 13 (by decide)) (decay_at E 14 (by decide)) (decay_at E 15 (by decide))
  unfold res_main_v224
  refine ((concat_congr (congrArg (fun w => [(⟨S0x4x4x1x1, broadcastInDim S0x4x4x1x1 ![] bcast_S_S0x4x4x1x1 (constant (F := Ideal) S_ .f32 0x00000000#32)⟩ : Σ s : Shape, (s.Idx → EReal)), ⟨S16x4x4x1x1, w⟩]) (e _))) _ concatenates_S0x4x4x1x1_S16x4x4x1x1_S16x4x4x1x1_d0).trans ?_
  funext y
  obtain ⟨c, g, j, a, b, rfl⟩ : ∃ (c : Fin 16) (g : Fin 4) (j : Fin 4) (a : Fin 1) (b : Fin 1), y = ix5 c g j a b := ⟨y 0, y 1, y 2, y 3, y 4, eq_ix5 y⟩
  pointwise
  rw [dif_neg (by omega), Subsingleton.elim a 0, Subsingleton.elim b 0]

theorem ref314 : res_main_v314 (F := Ideal) V = A5 fun c g j (_ _ : Fin 1) => Real.exp (q.tot c (hk g j)) := by
  unfold res_main_v314
  rw [ref224 E]
  funext y
  obtain ⟨x0, x1, x2, x3, x4, rfl⟩ : ∃ (x0 : Fin 16) (x1 : Fin 4) (x2 : Fin 4) (x3 : Fin 1) (x4 : Fin 1), y = ix5 x0 x1 x2 x3 x4 := ⟨y 0, y 1, y 2, y 3, y 4, eq_ix5 y⟩
  pointwise
  rw [Subsingleton.elim x3 0, Subsingleton.elim x4 0]

/-- One step of the scan from the end: from the cotangent of the state after chunk `k` to that of the state before it. -/
theorem carry_step (k : ℕ) (hk : k < 16) (a a' : ℕ) (ha : a = 15 - k) (ha' : a' = a + 1) {v : FVec Ideal S4x4x64x128 .f32} (hv : v = A4 fun g j p n => q.carry a n (lane g (ln j p))) :
    addf (pickState (res_main_v310 V) k hk)
      (mulf (broadcastInDim S4x4x64x128 ![0, 1, 2, 3] bcast_S4x4x1x1_S4x4x64x128_0_1_2_3 (pickTail (res_main_v314 V) k hk)) v)
    = A4 fun g j p n => q.carry a' n (lane g (ln j p)) := by
  subst ha ha'
  rw [hv, ref310 E, ref314 E]
  unfold pickState pickTail
  funext y
  obtain ⟨g, j, p, n, rfl⟩ : ∃ (g : Fin 4) (j : Fin 4) (p : Fin 64) (n : Fin 128), y = ix4 g j p n := ⟨y 0, y 1, y 2, y 3, eq_ix4 y⟩
  pointwise
  simp only [A5_ix5, A4_ix4, mul_coe, add_coe]
  refine congrArg (fun x : ℝ => (x : EReal)) ?_
  have t : SeqB.turn (15 - k) = ⟨k, hk⟩ := Fin.ext (by show 15 - (15 - k) = k; omega)
  have b : q.pt (15 - k) = q.back ⟨k, hk⟩ := by show q.point (SeqB.turn (15 - k)) _ = _; rw [t]; rfl
  rw [SeqB.carry_succ, b]
  show _ = (q.back ⟨k, hk⟩).dprev (groupOf (lane g (ln j p))) n (placeOf (lane g (ln j p)))
  rw [group_lane, place_lane]
  unfold RPoint.dprev RPoint.etot
  rw [hd_ln, add_comm]
  rfl

theorem ref326 : res_main_v326 (F := Ideal) V = A4 fun g j p n => q.carry 1 n (lane g (ln j p)) := by
  unfold res_main_v326
  exact carry_step E 15 (by decide) 0 1 rfl rfl (ref309 E)

theorem ref339 : res_main_v339 (F := Ideal) V = A4 fun g j p n => q.carry 2 n (lane g (ln j p)) := by
  unfold res_main_v339
  exact carry_step E 14 (by decide) 1 2 rfl rfl (ref326 E)

theorem ref352 : res_main_v352 (F := Ideal) V = A4 fun g j p n => q.carry 3 n (lane g (ln j p)) := by
  unfold res_main_v352
  exact carry_step E 13 (by decide) 2 3 rfl rfl (ref339 E)

theorem ref365 : res_main_v365 (F := Ideal) V = A4 fun g j p n => q.carry 4 n (lane g (ln j p)) := by
  unfold res_main_v365
  exact carry_step E 12 (by decide) 3 4 rfl rfl (ref352 E)

theorem ref378 : res_main_v378 (F := Ideal) V = A4 fun g j p n => q.carry 5 n (lane g (ln j p)) := by
  unfold res_main_v378
  exact carry_step E 11 (by decide) 4 5 rfl rfl (ref365 E)

theorem ref391 : res_main_v391 (F := Ideal) V = A4 fun g j p n => q.carry 6 n (lane g (ln j p)) := by
  unfold res_main_v391
  exact carry_step E 10 (by decide) 5 6 rfl rfl (ref378 E)

theorem ref404 : res_main_v404 (F := Ideal) V = A4 fun g j p n => q.carry 7 n (lane g (ln j p)) := by
  unfold res_main_v404
  exact carry_step E 9 (by decide) 6 7 rfl rfl (ref391 E)

theorem ref417 : res_main_v417 (F := Ideal) V = A4 fun g j p n => q.carry 8 n (lane g (ln j p)) := by
  unfold res_main_v417
  exact carry_step E 8 (by decide) 7 8 rfl rfl (ref404 E)

theorem ref430 : res_main_v430 (F := Ideal) V = A4 fun g j p n => q.carry 9 n (lane g (ln j p)) := by
  unfold res_main_v430
  exact carry_step E 7 (by decide) 8 9 rfl rfl (ref417 E)

theorem ref443 : res_main_v443 (F := Ideal) V = A4 fun g j p n => q.carry 10 n (lane g (ln j p)) := by
  unfold res_main_v443
  exact carry_step E 6 (by decide) 9 10 rfl rfl (ref430 E)

theorem ref456 : res_main_v456 (F := Ideal) V = A4 fun g j p n => q.carry 11 n (lane g (ln j p)) := by
  unfold res_main_v456
  exact carry_step E 5 (by decide) 10 11 rfl rfl (ref443 E)

theorem ref469 : res_main_v469 (F := Ideal) V = A4 fun g j p n => q.carry 12 n (lane g (ln j p)) := by
  unfold res_main_v469
  exact carry_step E 4 (by decide) 11 12 rfl rfl (ref456 E)

theorem ref482 : res_main_v482 (F := Ideal) V = A4 fun g j p n => q.carry 13 n (lane g (ln j p)) := by
  unfold res_main_v482
  exact carry_step E 3 (by decide) 12 13 rfl rfl (ref469 E)

theorem ref495 : res_main_v495 (F := Ideal) V = A4 fun g j p n => q.carry 14 n (lane g (ln j p)) := by
  unfold res_main_v495
  exact carry_step E 2 (by decide) 13 14 rfl rfl (ref482 E)

theorem ref508 : res_main_v508 (F := Ideal) V = A4 fun g j p n => q.carry 15 n (lane g (ln j p)) := by
  unfold res_main_v508
  exact carry_step E 1 (by decide) 14 15 rfl rfl (ref495 E)

theorem ref560 : res_main_v560 (F := Ideal) V = A5 fun c g j p n => q.carry (15 - c) n (lane g (ln j p)) := by
  have e := stack_state (fun c g j p n => q.carry (15 - c) n (lane g (ln j p))) (ref508 E) (ref495 E) (ref482 E) (ref469 E) (ref456 E) (ref443 E) (ref430 E) (ref417 E) (ref404 E) (ref391 E) (ref378 E) (ref365 E) (ref352 E) (ref339 E) (ref326 E) (ref309 E)
  unfold res_main_v560
  refine ((concat_congr (congrArg (fun w => [(⟨S16x4x4x64x128, w⟩ : Σ s : Shape, (s.Idx → EReal)), ⟨S0x4x4x64x128, broadcastInDim S0x4x4x64x128 ![] bcast_S_S0x4x4x64x128 (constant (F := Ideal) S_ .f32 0x00000000#32)⟩]) (e _))) _ concatenates_S16x4x4x64x128_S0x4x4x64x128_S16x4x4x64x128_d0).trans ?_
  funext y
  obtain ⟨c, g, j, p, n, rfl⟩ : ∃ (c : Fin 16) (g : Fin 4) (j : Fin 4) (p : Fin 64) (n : Fin 128), y = ix5 c g j p n := ⟨y 0, y 1, y 2, y 3, y 4, eq_ix5 y⟩
  pointwise

/-- The cotangent of one chunk's whole decay. -/
theorem total_at (k : ℕ) (hk : k < 16) (a : ℕ) (ha : a = 15 - k) {v : FVec Ideal S4x4x64x128 .f32} (hv : v = A4 fun g j p n => q.carry a n (lane g (ln j p))) :
    allOf (mulf v (pickState (res_main_v312 V) k hk)) = M2 fun g j => ∑ p, ∑ n, q.carry (15 - k) n (lane g (ln j p)) * q.state k n (lane g (ln j p)) := by
  subst ha
  rw [hv, ref312 E]
  unfold allOf pickState
  funext y
  obtain ⟨g, j, rfl⟩ : ∃ (g : Fin 4) (j : Fin 4), y = ix2 g j := ⟨y 0, y 1, eq_ix2 y⟩
  pointwise
  simp only [A5_ix5, A4_ix4, mul_coe, sum_coe, Finset.univ_unique, Finset.sum_singleton]
  rfl

theorem ref559 : res_main_v559 (F := Ideal) V = A3 fun c g j => ∑ p, ∑ n, q.carry (15 - c) n (lane g (ln j p)) * q.state c n (lane g (ln j p)) := by
  unfold res_main_v559
  exact stack_total (fun c g j => ∑ p, ∑ n, q.carry (15 - c) n (lane g (ln j p)) * q.state c n (lane g (ln j p))) (total_at E 0 (by decide) 15 rfl (ref508 E)) (total_at E 1 (by decide) 14 rfl (ref495 E)) (total_at E 2 (by decide) 13 rfl (ref482 E)) (total_at E 3 (by decide) 12 rfl (ref469 E)) (total_at E 4 (by decide) 11 rfl (ref456 E)) (total_at E 5 (by decide) 10 rfl (ref443 E)) (total_at E 6 (by decide) 9 rfl (ref430 E)) (total_at E 7 (by decide) 8 rfl (ref417 E)) (total_at E 8 (by decide) 7 rfl (ref404 E)) (total_at E 9 (by decide) 6 rfl (ref391 E)) (total_at E 10 (by decide) 5 rfl (ref378 E)) (total_at E 11 (by decide) 4 rfl (ref365 E)) (total_at E 12 (by decide) 3 rfl (ref352 E)) (total_at E 13 (by decide) 2 rfl (ref339 E)) (total_at E 14 (by decide) 1 rfl (ref326 E)) (total_at E 15 (by decide) 0 rfl (ref309 E)) _

end Cert.SsdBwd

end
-- ==== Proof.SsdBwdRefC.lean ====
/- The plain layer's backward pass on finite arguments: the cotangents of the step sizes, the scores and the log decays. -/
module

public import proofs.«01_k».proof.Proof.SsdBwdRefB

@[expose] public section

set_option maxRecDepth 16384

noncomputable section

namespace Cert.SsdBwd

open Idealize.ShloMosaic Idealize.ShloMosaic.TcCoe Idealize.SL.Sem
open Cert.Reference6Ideal Cert.Reference6Ideal.Gen Cert.Ssd Cert.SsdHost Cert.Reals Cert.Norm
open Cert.Reference6Ideal.Value

/-- The group of a head, and its place in the group. -/
def gh (h : Fin 16) : Fin 4 := ⟨h / 4, by omega⟩
def jh (h : Fin 16) : Fin 4 := ⟨h % 4, by omega⟩

/-- A head among the padded lanes. -/
def wide (h : Fin 16) : Fin 128 := ⟨h, by omega⟩

theorem hk_head (h : Fin 16) : hk (gh h) (jh h) = wide h := Fin.ext (by show h.1 / 4 * 4 + h.1 % 4 = h.1; omega)
theorem hh_head (h : Fin 16) : hh (gh h) (jh h) = h := Fin.ext (by show h.1 / 4 * 4 + h.1 % 4 = h.1; omega)
theorem headOf_hk (g j : Fin 4) : headOf g j = hk g j := Fin.ext (by show 4 * g.1 + j.1 = g.1 * 4 + j.1; omega)
theorem group_head (h : Fin 16) (p : Fin 64) (e) : groupOf ⟨h.1 * 64 + p.1, e⟩ = gh h := Fin.ext (by show (h.1 * 64 + p.1) / 256 = h.1 / 4; omega)
theorem place_head (h : Fin 16) (p : Fin 64) (e) : placeOf ⟨h.1 * 64 + p.1, e⟩ = ln (jh h) p := Fin.ext (by show (h.1 * 64 + p.1) % 256 = h.1 % 4 * 64 + p.1; omega)

/-- A sum over a group's lanes that keeps one head's. -/
theorem sum_head (j : Fin 4) (f g : Fin 256 → ℝ) : (∑ l, (if l.1 / 64 = j.1 then f l else 0) * g l) = ∑ p, f (ln j p) * g (ln j p) := by
  simp only [ite_mul, zero_mul]
  rw [← Finset.sum_filter]
  refine Finset.sum_bij' (fun l _ => lp l) (fun p _ => ln j p) (fun _ _ => Finset.mem_univ _) (fun p _ => Finset.mem_filter.mpr ⟨Finset.mem_univ _, ?_⟩) ?_ ?_ ?_
  · show (j.1 * 64 + p.1) / 64 = j.1; omega
  · intro l hl
    have := (Finset.mem_filter.mp hl).2
    exact Fin.ext (by show j.1 * 64 + l.1 % 64 = l.1; omega)
  · intro p _; exact Fin.ext (by show (j.1 * 64 + p.1) % 64 = p.1; omega)
  · intro l hl
    have := (Finset.mem_filter.mp hl).2
    rw [show ln j (lp l) = l from Fin.ext (by show j.1 * 64 + l.1 % 64 = l.1; omega)]

/-- A head's sum over all the lanes. -/
theorem over_head (f : Fin 1024 → ℝ) (g j : Fin 4) : overHead f (hk g j) = ∑ p, f (lane g (ln j p)) := by
  unfold overHead
  rw [← Finset.sum_filter]
  refine Finset.sum_bij' (fun l _ => (⟨l.1 % 64, by omega⟩ : Fin 64)) (fun p _ => lane g (ln j p)) (fun _ _ => Finset.mem_univ _) (fun p _ => Finset.mem_filter.mpr ⟨Finset.mem_univ _, ?_⟩) ?_ ?_ ?_
  · show (g.1 * 256 + (j.1 * 64 + p.1)) / 64 = g.1 * 4 + j.1; omega
  · intro l hl
    have : l.1 / 64 = g.1 * 4 + j.1 := (Finset.mem_filter.mp hl).2
    exact Fin.ext (by show g.1 * 256 + (j.1 * 64 + l.1 % 64) = l.1; omega)
  · intro p _; exact Fin.ext (by show (g.1 * 256 + (j.1 * 64 + p.1)) % 64 = p.1; omega)
  · intro l hl
    have : l.1 / 64 = g.1 * 4 + j.1 := (Finset.mem_filter.mp hl).2
    exact congrArg f (Fin.ext (by show l.1 = g.1 * 256 + (j.1 * 64 + l.1 % 64); omega))

/-- No lane is in a head past the last. -/
theorem over_none (f : Fin 1024 → ℝ) (h : Fin 128) (hh : 16 ≤ h.1) : overHead f h = 0 :=
  Finset.sum_eq_zero fun l _ => if_neg (by omega)

theorem at_head (f : Fin 4 → Fin 4 → ℝ) (g j : Fin 4) : (∑ g' : Fin 4, ∑ j' : Fin 4, if hk g j = headOf g' j' then f g' j' else 0) = f g j := by
  have e : ∀ g' j' : Fin 4, (hk g j = headOf g' j') ↔ (g = g' ∧ j = j') := fun g' j' => by
    refine ⟨fun h => ?_, fun h => by rw [h.1, h.2, headOf_hk]⟩
    have : g.1 * 4 + j.1 = 4 * g'.1 + j'.1 := congrArg Fin.val h
    exact ⟨Fin.ext (by omega), Fin.ext (by omega)⟩
  simp only [e, ite_and, Finset.sum_ite_eq, Finset.mem_univ, if_true]
  rw [Finset.sum_eq_single g (fun b _ hb => by simp [hb.symm]) (by simp)]
  simp

theorem heads_at (r : RPoint) (i : Fin 128) (g j : Fin 4) : r.heads i (hk g j) = ∑ k, r.m g j i k := at_head (fun g j => ∑ k, r.m g j i k) g j
theorem rows_at (r : RPoint) (k : Fin 128) (g j : Fin 4) : r.rows (hk g j) k = ∑ i, r.m g j i k := at_head (fun g j => ∑ i, r.m g j i k) g j

/-- A sum from a position on of what is only at the last one. -/
theorem sum_last (i : Fin 128) (f : Fin 128 → ℝ) (b : ℝ) :
    (∑ k, if i ≤ k then f k + (if k.1 = 127 then b else 0) else 0) = (∑ k, if i ≤ k then f k else 0) + b := by
  have e : ∀ k : Fin 128, (if i ≤ k then f k + (if k.1 = 127 then b else 0) else 0) = (if i ≤ k then f k else 0) + (if k = ⟨127, by decide⟩ then b else 0) := fun k => by
    by_cases hk : k = ⟨127, by decide⟩
    · have hi : i ≤ k := by rw [hk]; exact Fin.le_def.mpr (by show i.1 ≤ 127; omega)
      rw [if_pos hi, if_pos hi, if_pos hk, if_pos (by rw [hk])]
    · have hk' : ¬k.1 = 127 := fun h => hk (Fin.ext h)
      rw [if_neg hk, if_neg hk']
      split <;> simp
  simp only [e, Finset.sum_add_distrib, Finset.sum_ite_eq', Finset.mem_univ, if_true]

/-- The sum over a window padded high: the entries from the one it stands at on. -/
theorem sum_window_from (f : Fin 128 → ℝ) (i : Fin 128) :
    (∑ n : Fin 128, if h : i.1 + n.1 < 128 then f ⟨i.1 + n.1, h⟩ else 0) = ∑ k, if i ≤ k then f k else 0 := by
  rw [← Finset.sum_filter]
  rw [← Finset.sum_filter_of_ne (p := fun n : Fin 128 => i.1 + n.1 < 128) (fun n _ hn => by by_contra h; exact hn (dif_neg h))]
  refine Finset.sum_bij' (fun n _ => (⟨(i.1 + n.1) % 128, Nat.mod_lt _ (by omega)⟩ : Fin 128)) (fun k _ => (⟨(k.1 + 128 - i.1) % 128, Nat.mod_lt _ (by omega)⟩ : Fin 128)) ?_ ?_ ?_ ?_ ?_
  · intro n hn
    have := (Finset.mem_filter.mp hn).2
    refine Finset.mem_filter.mpr ⟨Finset.mem_univ _, Fin.le_def.mpr ?_⟩
    show i.1 ≤ (i.1 + n.1) % 128
    omega
  · intro k hk
    have := Fin.le_def.mp (Finset.mem_filter.mp hk).2
    refine Finset.mem_filter.mpr ⟨Finset.mem_univ _, ?_⟩
    show i.1 + (k.1 + 128 - i.1) % 128 < 128
    omega
  · intro n hn
    have := (Finset.mem_filter.mp hn).2
    refine Fin.ext ?_
    show ((i.1 + n.1) % 128 + 128 - i.1) % 128 = n.1
    omega
  · intro k hk
    have := Fin.le_def.mp (Finset.mem_filter.mp hk).2
    refine Fin.ext ?_
    show (i.1 + (k.1 + 128 - i.1) % 128) % 128 = k.1
    omega
  · intro n hn
    have h := (Finset.mem_filter.mp hn).2
    rw [dif_pos h]
    exact congrArg f (Fin.ext (by show i.1 + n.1 = (i.1 + n.1) % 128; omega))

/-- The running sums from the end of each chunk. -/
def fromEnd (v : FVec Ideal S4x4x16x128 .f32) : FVec Ideal S4x4x16x128 .f32 :=
  Host.reduceWindowAdd ![1, 1, 1, 128] ![1, 1, 1, 1] ![0, 0, 0, 0] ![0, 0, 0, 127] v (broadcastInDim S_ ![] bcast_S_S_ (constant S_ .f32 0x00000000#32)) reduceWindows_S4x4x16x128_S4x4x16x128_w1s1p0_0_w1s1p0_0_w1s1p0_0_w128s1p0_127 h_S_

theorem fromEnd_real (a : Fin 4 → Fin 4 → Fin 16 → Fin 128 → ℝ) : fromEnd (A4 a) = A4 fun g j c i => ∑ k, if i ≤ k then a g j c k else 0 := by
  funext i
  obtain ⟨g, j, c, s, rfl⟩ : ∃ (g j : Fin 4) (c : Fin 16) (s : Fin 128), i = ix4 g j c s := ⟨i 0, i 1, i 2, i 3, eq_ix4 i⟩
  rw [A4_ix4, ← sum_window_from (a g j c) s]
  unfold fromEnd Host.reduceWindowAdd
  rw [Ideal.hostReduceWindowAdd_def]
  unfold Ideal.hostReduceWindowAdd Host.reduceWindow
  dsimp only
  rw [foldl_add]
  have hz : ∀ u : S_.Idx, broadcastInDim S_ ![] bcast_S_S_ (constant (F := Ideal) S_ .f32 0x00000000#32) u = 0 := fun u => by
    obtain rfl : u = ix0 := funext fun a => a.elim0
    pointwise
  simp only [hz]
  rw [zero_add, ← Fin.sum_univ_def, ← sum_coe]
  refine Fintype.sum_equiv (finCongr (by decide)) _ _ fun n => ?_
  have w0 : ((⟨4, ![1, 1, 1, 128]⟩ : Shape).rowMajor.symm n 0).val = 0 := by rw [window_last]; rfl
  have w1 : ((⟨4, ![1, 1, 1, 128]⟩ : Shape).rowMajor.symm n 1).val = 0 := by rw [window_last]; rfl
  have w2 : ((⟨4, ![1, 1, 1, 128]⟩ : Shape).rowMajor.symm n 2).val = 0 := by rw [window_last]; rfl
  have w3 : ((⟨4, ![1, 1, 1, 128]⟩ : Shape).rowMajor.symm n 3).val = n.1 := by rw [window_last]; rfl
  have hn : n.1 < 128 := (n.cast (by decide) : Fin 128).2
  by_cases h : s.1 + n.1 < 128
  · rw [dif_pos (show s.1 + (finCongr (by decide) n : Fin 128).1 < 128 from h), dif_pos]
    · refine (congrArg (A4 a) (?_ : _ = ix4 g j c (⟨s.1 + n.1, h⟩ : Fin 128))).trans rfl
      refine funext fun x => Fin.ext ?_
      match x with
      | ⟨0, _⟩ => show g.1 * 1 + ((⟨4, ![1, 1, 1, 128]⟩ : Shape).rowMajor.symm n 0).val - 0 = g.1; omega
      | ⟨1, _⟩ => show j.1 * 1 + ((⟨4, ![1, 1, 1, 128]⟩ : Shape).rowMajor.symm n 1).val - 0 = j.1; omega
      | ⟨2, _⟩ => show c.1 * 1 + ((⟨4, ![1, 1, 1, 128]⟩ : Shape).rowMajor.symm n 2).val - 0 = c.1; omega
      | ⟨3, _⟩ => show s.1 * 1 + ((⟨4, ![1, 1, 1, 128]⟩ : Shape).rowMajor.symm n 3).val - 0 = s.1 + n.1; omega
    · intro x
      match x with
      | ⟨0, _⟩ => show 0 ≤ g.1 * 1 + ((⟨4, ![1, 1, 1, 128]⟩ : Shape).rowMajor.symm n 0).val ∧ g.1 * 1 + ((⟨4, ![1, 1, 1, 128]⟩ : Shape).rowMajor.symm n 0).val - 0 < 4; omega
      | ⟨1, _⟩ => show 0 ≤ j.1 * 1 + ((⟨4, ![1, 1, 1, 128]⟩ : Shape).rowMajor.symm n 1).val ∧ j.1 * 1 + ((⟨4, ![1, 1, 1, 128]⟩ : Shape).rowMajor.symm n 1).val - 0 < 4; omega
      | ⟨2, _⟩ => show 0 ≤ c.1 * 1 + ((⟨4, ![1, 1, 1, 128]⟩ : Shape).rowMajor.symm n 2).val ∧ c.1 * 1 + ((⟨4, ![1, 1, 1, 128]⟩ : Shape).rowMajor.symm n 2).val - 0 < 16; omega
      | ⟨3, _⟩ => show 0 ≤ s.1 * 1 + ((⟨4, ![1, 1, 1, 128]⟩ : Shape).rowMajor.symm n 3).val ∧ s.1 * 1 + ((⟨4, ![1, 1, 1, 128]⟩ : Shape).rowMajor.symm n 3).val - 0 < 128; omega
  · rw [dif_neg (show ¬s.1 + (finCongr (by decide) n : Fin 128).1 < 128 from h), dif_neg]
    · rfl
    · intro hin
      have h3 : s.1 * 1 + ((⟨4, ![1, 1, 1, 128]⟩ : Shape).rowMajor.symm n 3).val - 0 < 128 := (hin 3).2
      omega

/-- The logistic function from the softplus. -/
theorem exp_sub_softplus (x : ℝ) : Real.exp (x - softplus x) = (1 + Real.exp (-x))⁻¹ := by
  have p : ∀ y : ℝ, 0 < 1 + Real.exp y := fun y => by positivity
  unfold softplus
  rcases le_total 0 x with h | h
  · rw [max_eq_left h, abs_of_nonneg h, show x - (x + Real.log (1 + Real.exp (-x))) = -Real.log (1 + Real.exp (-x)) by ring, Real.exp_neg, Real.exp_log (p _)]
  · rw [max_eq_right h, abs_of_nonpos h, neg_neg, zero_add, Real.exp_sub, Real.exp_log (p _)]
    have : Real.exp (-x) * Real.exp x = 1 := by rw [← Real.exp_add]; simp
    have q := p x
    have r := p (-x)
    field_simp
    linarith

/-- The parts of the log decays' cotangent, before their running sums: from the states' output, from the chunks' whole decays, from the decays to the end, and from the decays
between positions. -/
def part1 (V : Valuation Cert.Reference6Ideal.τ Cert.Reference6Ideal.sig (Elt Ideal)) : FVec Ideal S4x4x16x128 .f32 :=
  mulf (transpose S4x4x16x128 [2, 3, 0, 1] (Host.reduceAdd (shapeCast _ (Host.reduceAdd (mulf (res_main_v226 V) (res_main_v296 V)) (constant S_ .f32 0x00000000#32) reducesTo_S16x128x4x4x64_S16x128x4x4_d4 h_S_) shapeCasts_S16x128x4x4_S16x128x4x4x1) (constant S_ .f32 0x00000000#32) reducesTo_S16x128x4x4x1_S16x128x4x4_d4 h_S_) transposes_S16x128x4x4_S4x4x16x128_2_3_0_1) (res_main_v227 V)
def part2 (V : Valuation Cert.Reference6Ideal.τ Cert.Reference6Ideal.sig (Elt Ideal)) : FVec Ideal S4x4x16x128 .f32 :=
  pad S4x4x16x128 ![0, 0, 0, 127] ![0, 0, 0, 0] ![0, 0, 0, 0] (broadcastInDim S4x4x16x1 ![0, 1, 2] bcast_S4x4x16_S4x4x16x1_0_1_2 (mulf (transpose S4x4x16 [1, 2, 0] (concatenate S16x4x4 0 [⟨S16x4x4, (res_main_v559 V)⟩, ⟨S0x4x4, (broadcastInDim S0x4x4 ![] bcast_S_S0x4x4 (constant S_ .f32 0x00000000#32))⟩] concatenates_S16x4x4_S0x4x4_S16x4x4_d0) transposes_S16x4x4_S4x4x16_1_2_0) (res_main_v52 V))) (constant (F := Ideal) S_ .f32 0x00000000#32) pads_S4x4x16x1_S4x4x16x128_000_000_000_12700 h_S_
def part3 (V : Valuation Cert.Reference6Ideal.τ Cert.Reference6Ideal.sig (Elt Ideal)) : FVec Ideal S4x4x16x128 .f32 := Host.negf (res_main_v578 V)
def part4 (V : Valuation Cert.Reference6Ideal.τ Cert.Reference6Ideal.sig (Elt Ideal)) : FVec Ideal S4x4x16x128 .f32 :=
  pad S4x4x16x128 ![0, 0, 0, 127] ![0, 0, 0, 0] ![0, 0, 0, 0] (shapeCast _ (Host.reduceAdd (res_main_v578 V) (constant S_ .f32 0x00000000#32) reducesTo_S4x4x16x128_S4x4x16_d3 h_S_) shapeCasts_S4x4x16_S4x4x16x1) (constant (F := Ideal) S_ .f32 0x00000000#32) pads_S4x4x16x1_S4x4x16x128_000_000_000_12700 h_S_
def part5 (V : Valuation Cert.Reference6Ideal.τ Cert.Reference6Ideal.sig (Elt Ideal)) : FVec Ideal S4x4x16x128 .f32 :=
  Host.reduceAdd (shapeCast _ (Host.reduceAdd (Host.negf (res_main_v604 V)) (constant S_ .f32 0x00000000#32) reducesTo_S4x4x16x128x128_S4x4x16x128_d3 h_S_) shapeCasts_S4x4x16x128_S4x4x16x1x128) (constant S_ .f32 0x00000000#32) reducesTo_S4x4x16x1x128_S4x4x16x128_d3 h_S_
def part6 (V : Valuation Cert.Reference6Ideal.τ Cert.Reference6Ideal.sig (Elt Ideal)) : FVec Ideal S4x4x16x128 .f32 :=
  Host.reduceAdd (shapeCast _ (Host.reduceAdd (res_main_v604 V) (constant S_ .f32 0x00000000#32) reducesTo_S4x4x16x128x128_S4x4x16x128_d4 h_S_) shapeCasts_S4x4x16x128_S4x4x16x128x1) (constant S_ .f32 0x00000000#32) reducesTo_S4x4x16x128x1_S4x4x16x128_d4 h_S_

variable {q : SeqB} {V : Valuation Cert.Reference6Ideal.τ Cert.Reference6Ideal.sig (Elt Ideal)} (E : RefHolds V q)
include E

theorem ref286' : res_main_v286 (F := Ideal) V = A3 fun s h p => (q.back (chunkOf s)).dy (gh h) (posOf s) (ln (jh h) p) := by
  rw [ref286 E]
  refine congrArg A3 (funext fun s => funext fun h => funext fun p => ?_)
  rw [group_head, place_head]

omit E in
theorem x_row (s : Fin 2048) (h : Fin 16) (p : Fin 64) : ((q.back (chunkOf s)).part (gh h)).x (posOf s) (ln (jh h) p) = q.X s ⟨h * 64 + p, by omega⟩ := by
  show q.X (rowAt (chunkOf s) (posOf s)) ⟨(h.1 / 4) * 256 + (h.1 % 4 * 64 + p.1), _⟩ = _
  rw [row_chunk]
  exact congrArg (q.X s) (Fin.ext (by show (h.1 / 4) * 256 + (h.1 % 4 * 64 + p.1) = h.1 * 64 + p.1; omega))

theorem ref570 : res_main_v570 (F := Ideal) V = A5 fun c i g j p => (q.back c).dxd g i (ln j p) := by
  unfold res_main_v570
  rw [ref560 E, ref23 E]
  funext y
  obtain ⟨x0, x1, x2, x3, x4, rfl⟩ : ∃ (x0 : Fin 16) (x1 : Fin 128) (x2 : Fin 4) (x3 : Fin 4) (x4 : Fin 64), y = ix5 x0 x1 x2 x3 x4 := ⟨y 0, y 1, y 2, y 3, y 4, eq_ix5 y⟩
  pointwise
  simp only [A5_ix5, A4_ix4, mul_coe, sum_coe]
  exact congrArg (fun x : ℝ => (x : EReal)) (Finset.sum_congr rfl fun n _ => mul_comm _ _)

theorem ref578 : res_main_v578 (F := Ideal) V = A4 fun g j c i => ∑ p, (q.back c).qq g i (ln j p) := by
  unfold res_main_v578
  rw [ref570 E, ref17 E, ref44 E]
  funext y
  obtain ⟨x0, x1, x2, x3, rfl⟩ : ∃ (x0 : Fin 4) (x1 : Fin 4) (x2 : Fin 16) (x3 : Fin 128), y = ix4 x0 x1 x2 x3 := ⟨y 0, y 1, y 2, y 3, eq_ix4 y⟩
  pointwise
  simp only [A5_ix5, A4_ix4, mul_coe, sum_coe, Finset.univ_unique, Finset.sum_singleton]
  refine congrArg (fun x : ℝ => (x : EReal)) ?_
  rw [Finset.sum_mul]
  refine Finset.sum_congr rfl fun p _ => ?_
  unfold RPoint.qq RPart.toEnd
  rw [hd_ln]
  rfl

theorem ref585 : res_main_v585 (F := Ideal) V = A5 fun c g j p i => (q.back c).dy g i (ln j p) := by
  unfold res_main_v585
  rw [ref296 E]
  funext y
  obtain ⟨x0, x1, x2, x3, x4, rfl⟩ : ∃ (x0 : Fin 16) (x1 : Fin 4) (x2 : Fin 4) (x3 : Fin 64) (x4 : Fin 128), y = ix5 x0 x1 x2 x3 x4 := ⟨y 0, y 1, y 2, y 3, y 4, eq_ix5 y⟩
  pointwise
  rfl

theorem ref587 : res_main_v587 (F := Ideal) V = A5 fun g j c i k => ∑ p, (q.back c).dy g i (ln j p) * (q.chunk c g).xdt g k (ln j p) := by
  unfold res_main_v587
  rw [ref585 E, ref17 E]
  funext y
  obtain ⟨x0, x1, x2, x3, x4, rfl⟩ : ∃ (x0 : Fin 4) (x1 : Fin 4) (x2 : Fin 16) (x3 : Fin 128) (x4 : Fin 128), y = ix5 x0 x1 x2 x3 x4 := ⟨y 0, y 1, y 2, y 3, y 4, eq_ix5 y⟩
  pointwise
  simp only [A5_ix5, mul_coe, sum_coe]

omit E in
theorem ds_at (c : Fin 16) (g j : Fin 4) (i k : Fin 128) : (q.back c).ds g j i k = if k ≤ i then ∑ p, (q.back c).dy g i (ln j p) * (q.chunk c g).xdt g k (ln j p) else 0 := by
  unfold RPoint.ds
  rw [sum_head]
  rfl

theorem ref596 : res_main_v596 (F := Ideal) V = A4 fun g c i k => (q.back c).dcb g i k := by
  unfold res_main_v596
  rw [ref587 E, ref34 E]
  funext y
  obtain ⟨x0, x1, x2, x3, rfl⟩ : ∃ (x0 : Fin 4) (x1 : Fin 16) (x2 : Fin 128) (x3 : Fin 128), y = ix4 x0 x1 x2 x3 := ⟨y 0, y 1, y 2, y 3, eq_ix4 y⟩
  pointwise
  simp only [A5_ix5, mul_coe, sum_coe, Finset.univ_unique, Finset.sum_singleton]
  refine congrArg (fun x : ℝ => (x : EReal)) ?_
  show _ = (q.back x1).dcb x0 x2 x3
  unfold RPoint.dcb
  refine Finset.sum_congr rfl fun j _ => ?_
  rw [ds_at, headOf_hk]
  show _ * (q.chunk _ _).decay _ _ _ = _ * (q.chunk _ _).decay _ _ _
  unfold RPart.decay
  split <;> simp

theorem ref604 : res_main_v604 (F := Ideal) V = A5 fun g j c i k => (q.back c).m g j i k := by
  unfold res_main_v604 res_main_v33_1
  rw [ref36 E, ref587 E, ref34 E]
  funext y
  obtain ⟨x0, x1, x2, x3, x4, rfl⟩ : ∃ (x0 : Fin 4) (x1 : Fin 4) (x2 : Fin 16) (x3 : Fin 128) (x4 : Fin 128), y = ix5 x0 x1 x2 x3 x4 := ⟨y 0, y 1, y 2, y 3, y 4, eq_ix5 y⟩
  pointwise
  rw [sge_bit, select_bit, select_bit]
  simp only [A5_ix5, mul_coe]
  unfold RPoint.m
  rw [ds_at, headOf_hk]
  by_cases h : x4 ≤ x3
  · rw [if_pos h, if_pos h]
    refine congrArg (fun x : ℝ => (x : EReal)) ?_
    unfold RPoint.sc
    show (q.chunk _ _).score _ _ * _ * (q.chunk _ _).decay _ _ _ = _ * ((q.chunk _ _).score _ _ * (q.chunk _ _).decay _ _ _)
    ring
  · rw [if_neg h, if_neg h, zero_mul]
    rfl

theorem part1_real : part1 V = A4 fun (g j : Fin 4) (c : Fin 16) (i : Fin 128) => (∑ p, (∑ n, (q.chunk c g).c i n * (q.chunk c g).h n (ln j p)) * (q.back c).dy g i (ln j p)) * Real.exp (q.cs c i (hk g j)) := by
  unfold part1
  rw [ref226 E, ref296 E, ref227 E]
  funext y
  obtain ⟨g, j, c, i, rfl⟩ : ∃ (g : Fin 4) (j : Fin 4) (c : Fin 16) (i : Fin 128), y = ix4 g j c i := ⟨y 0, y 1, y 2, y 3, eq_ix4 y⟩
  pointwise
  simp only [A5_ix5, A4_ix4, mul_coe, sum_coe, Finset.univ_unique, Finset.sum_singleton]

theorem part2_real : part2 V = A4 fun (g j : Fin 4) (c : Fin 16) (i : Fin 128) => if i.1 = 127 then (∑ p, ∑ n, q.carry (15 - c) n (lane g (ln j p)) * q.state c n (lane g (ln j p))) * Real.exp (q.tot c (hk g j)) else 0 := by
  unfold part2
  rw [ref559 E, ref52 E]
  funext y
  obtain ⟨g, j, c, i, rfl⟩ : ∃ (g : Fin 4) (j : Fin 4) (c : Fin 16) (i : Fin 128), y = ix4 g j c i := ⟨y 0, y 1, y 2, y 3, eq_ix4 y⟩
  pointwise
  by_cases hi : i.1 = 127
  · rw [dif_pos (by omega)]
    simp only [A3_ix3, A4_ix4, mul_coe, sum_coe, if_pos hi]
  · rw [dif_neg (by omega), A4_ix4, if_neg hi]
    rfl

theorem part3_real : part3 V = A4 fun (g j : Fin 4) (c : Fin 16) (i : Fin 128) => -∑ p, (q.back c).qq g i (ln j p) := by
  unfold part3
  rw [ref578 E]
  funext y
  obtain ⟨g, j, c, i, rfl⟩ : ∃ (g : Fin 4) (j : Fin 4) (c : Fin 16) (i : Fin 128), y = ix4 g j c i := ⟨y 0, y 1, y 2, y 3, eq_ix4 y⟩
  pointwise
  simp only [A4_ix4, neg_coe]

theorem part4_real : part4 V = A4 fun (g j : Fin 4) (c : Fin 16) (i : Fin 128) => if i.1 = 127 then ∑ k, ∑ p, (q.back c).qq g k (ln j p) else 0 := by
  unfold part4
  rw [ref578 E]
  funext y
  obtain ⟨g, j, c, i, rfl⟩ : ∃ (g : Fin 4) (j : Fin 4) (c : Fin 16) (i : Fin 128), y = ix4 g j c i := ⟨y 0, y 1, y 2, y 3, eq_ix4 y⟩
  pointwise
  by_cases hi : i.1 = 127
  · rw [dif_pos (by omega)]
    simp only [A3_ix3, A4_ix4, mul_coe, sum_coe, if_pos hi]
  · rw [dif_neg (by omega), A4_ix4, if_neg hi]
    rfl

theorem part5_real : part5 V = A4 fun (g j : Fin 4) (c : Fin 16) (i : Fin 128) => -∑ k, (q.back c).m g j k i := by
  unfold part5
  rw [ref604 E]
  funext y
  obtain ⟨g, j, c, i, rfl⟩ : ∃ (g : Fin 4) (j : Fin 4) (c : Fin 16) (i : Fin 128), y = ix4 g j c i := ⟨y 0, y 1, y 2, y 3, eq_ix4 y⟩
  pointwise
  simp only [A5_ix5, neg_coe, sum_coe, Finset.univ_unique, Finset.sum_singleton, Finset.sum_neg_distrib]
  rfl

theorem part6_real : part6 V = A4 fun (g j : Fin 4) (c : Fin 16) (i : Fin 128) => ∑ k, (q.back c).m g j i k := by
  unfold part6
  rw [ref604 E]
  funext y
  obtain ⟨g, j, c, i, rfl⟩ : ∃ (g : Fin 4) (j : Fin 4) (c : Fin 16) (i : Fin 128), y = ix4 g j c i := ⟨y 0, y 1, y 2, y 3, eq_ix4 y⟩
  pointwise
  simp only [A5_ix5, neg_coe, sum_coe, Finset.univ_unique, Finset.sum_singleton]
  rfl

omit E in
theorem logs_eq : res_main_v618 (F := Ideal) V = shapeCast _ (transpose S16x128x4x4 [2, 3, 0, 1] (fromEnd (addf (addf (addf (addf (addf (part1 V) (part2 V)) (part3 V)) (part4 V)) (part5 V)) (part6 V))) transposes_S4x4x16x128_S16x128x4x4_2_3_0_1) shapeCasts_S16x128x4x4_S2048x16 := rfl

theorem ref618 : res_main_v618 (F := Ideal) V = M2 fun s h => (q.back (chunkOf s)).da (posOf s) (wide h) := by
  rw [logs_eq, part1_real E, part2_real E, part3_real E, part4_real E, part5_real E, part6_real E]
  have e : (addf (addf (addf (addf (addf ((A4 fun (g j : Fin 4) (c : Fin 16) (i : Fin 128) => (∑ p, (∑ n, (q.chunk c g).c i n * (q.chunk c g).h n (ln j p)) * (q.back c).dy g i (ln j p)) * Real.exp (q.cs c i (hk g j)) : FVec Ideal S4x4x16x128 .f32))
      (A4 fun (g j : Fin 4) (c : Fin 16) (i : Fin 128) => if i.1 = 127 then (∑ p, ∑ n, q.carry (15 - c) n (lane g (ln j p)) * q.state c n (lane g (ln j p))) * Real.exp (q.tot c (hk g j)) else 0 : FVec Ideal S4x4x16x128 .f32))
      (A4 fun (g j : Fin 4) (c : Fin 16) (i : Fin 128) => -∑ p, (q.back c).qq g i (ln j p) : FVec Ideal S4x4x16x128 .f32))
      (A4 fun (g j : Fin 4) (c : Fin 16) (i : Fin 128) => if i.1 = 127 then ∑ k, ∑ p, (q.back c).qq g k (ln j p) else 0 : FVec Ideal S4x4x16x128 .f32))
      (A4 fun (g j : Fin 4) (c : Fin 16) (i : Fin 128) => -∑ k, (q.back c).m g j k i : FVec Ideal S4x4x16x128 .f32))
      (A4 fun (g j : Fin 4) (c : Fin 16) (i : Fin 128) => ∑ k, (q.back c).m g j i k : FVec Ideal S4x4x16x128 .f32) : FVec Ideal S4x4x16x128 .f32)
      = (A4 fun (g j : Fin 4) (c : Fin 16) (i : Fin 128) => ((q.back c).heads i (hk g j) - (q.back c).rows (hk g j) i + overHead ((q.back c).lcs i) (hk g j)) + (if i.1 = 127 then overHead (q.back c).ltot (hk g j) else 0) : FVec Ideal S4x4x16x128 .f32) := by
    funext y
    obtain ⟨g, j, c, i, rfl⟩ : ∃ (g : Fin 4) (j : Fin 4) (c : Fin 16) (i : Fin 128), y = ix4 g j c i := ⟨y 0, y 1, y 2, y 3, eq_ix4 y⟩
    pointwise
    simp only [A4_ix4, add_coe]
    refine congrArg (fun x : ℝ => (x : EReal)) ?_
    rw [heads_at, rows_at, over_head, over_head]
    have a : ∀ p, (q.back c).lcs i (lane g (ln j p)) = (∑ n, (q.chunk c g).c i n * (q.chunk c g).h n (ln j p)) * (q.back c).dy g i (ln j p) * Real.exp (q.cs c i (hk g j)) - (q.back c).qq g i (ln j p) := fun p => by
      unfold RPoint.lcs RPoint.dcs RPart.off
      rw [group_lane, place_lane, hd_ln]
      show _ * ((∑ n, (q.chunk c g).c i n * (q.chunk c g).h n (ln j p)) * Real.exp (q.cs c i (hk g j))) - _ = _
      ring
    have b : ∀ p, (q.back c).ltot (lane g (ln j p)) = (∑ k, (q.back c).qq g k (ln j p)) + (∑ n, q.carry (15 - c) n (lane g (ln j p)) * q.state c n (lane g (ln j p))) * Real.exp (q.tot c (hk g j)) := fun p => by
      unfold RPoint.ltot RPoint.dtot RPoint.etot
      rw [group_lane, place_lane, hd_ln]
      rfl
    simp only [a, b, Finset.sum_add_distrib, Finset.sum_sub_distrib, ← Finset.sum_mul]
    rw [Finset.sum_comm (f := fun p k => (q.back c).qq g k (ln j p))]
    split <;> ring
  rw [e, fromEnd_real]
  funext y
  obtain ⟨s, h, rfl⟩ : ∃ (s : Fin 2048) (h : Fin 16), y = ix2 s h := ⟨y 0, y 1, eq_ix2 y⟩
  pointwise
  refine congrArg (fun x : ℝ => (x : EReal)) ?_
  refine (sum_last (posOf s) (fun k => (q.back (chunkOf s)).heads k (hk (gh h) (jh h)) - (q.back (chunkOf s)).rows (hk (gh h) (jh h)) k + overHead ((q.back (chunkOf s)).lcs k) (hk (gh h) (jh h))) (overHead (q.back (chunkOf s)).ltot (hk (gh h) (jh h)))).trans ?_
  rw [hk_head]
  rfl

theorem ref625 : res_main_v625 (F := Ideal) V = A3 fun s h p => (q.back (chunkOf s)).dxdt (gh h) (posOf s) (ln (jh h) p) := by
  unfold res_main_v625
  rw [ref46 E, ref570 E, ref585 E, ref38 E]
  funext y
  obtain ⟨s, h, p, rfl⟩ : ∃ (s : Fin 2048) (h : Fin 16) (p : Fin 64), y = ix3 s h p := ⟨y 0, y 1, y 2, eq_ix3 y⟩
  pointwise
  simp only [A5_ix5, mul_coe, add_coe, sum_coe]
  refine congrArg (fun x : ℝ => (x : EReal)) ?_
  show _ = (q.back (chunkOf s)).dxdt (gh h) (posOf s) (ln (jh h) p)
  unfold RPoint.dxdt RPart.toEnd RPoint.sc
  rw [hd_ln, add_comm]
  refine congrArg₂ (· + ·) (Finset.sum_congr rfl fun k _ => mul_comm _ _) (mul_comm _ _)

theorem ref637 : res_main_v637 (F := Ideal) V = M2 fun s h => (q.back (chunkOf s)).draw q.rate (q.raw (chunkOf s)) (posOf s) (wide h) := by
  unfold res_main_v637
  rw [ref618 E, ref18 E, ref3 E, ref625 E, ref9 E, ref10_0 E]
  funext y
  obtain ⟨s, h, rfl⟩ : ∃ (s : Fin 2048) (h : Fin 16), y = ix2 s h := ⟨y 0, y 1, eq_ix2 y⟩
  pointwise
  simp only [M2_ix2, A3_ix3, word_inf, if_neg (EReal.coe_ne_top _), mul_coe, sum_coe, sub_coe, add_coe, Ideal.exp_coe, Finset.univ_unique, Finset.sum_singleton]
  refine congrArg (fun x : ℝ => (x : EReal)) ?_
  show _ = (q.back (chunkOf s)).draw q.rate (q.raw (chunkOf s)) (posOf s) (wide h)
  have hr : q.raw (chunkOf s) (posOf s) (wide h) = q.P s ⟨5120 + h, by omega⟩ + q.bias h := by
    unfold Seq.raw
    rw [row_chunk, ← hk_head, pad_head, hh_head]
    rw [hk_head]
    rfl
  have hl : overHead ((q.back (chunkOf s)).ldt (posOf s)) (wide h) = ∑ p : Fin 64, q.X s ⟨h * 64 + p, by omega⟩ * (q.back (chunkOf s)).dxdt (gh h) (posOf s) (ln (jh h) p) := by
    rw [← hk_head, over_head]
    refine Finset.sum_congr rfl fun p _ => ?_
    unfold RPoint.ldt
    rw [group_lane, place_lane, x_row, mul_comm]
  unfold RPoint.draw
  rw [hr, hl, exp_sub_softplus, ← hk_head, rate_head, hh_head, add_comm]

end Cert.SsdBwd

end
-- ==== Proof.SsdBwdRefD.lean ====
/- The plain layer's backward pass on finite arguments: its results. -/
module

public import proofs.«01_k».proof.Proof.SsdBwdRefC

@[expose] public section

set_option maxRecDepth 16384

noncomputable section

namespace Cert.SsdBwd

open Idealize.ShloMosaic Idealize.ShloMosaic.TcCoe Idealize.SL.Sem
open Cert.Reference6Ideal Cert.Reference6Ideal.Gen Cert.Ssd Cert.SsdHost Cert.Reals Cert.Norm
open Cert.Reference6Ideal.Value

/-- A group's lanes, head by head. -/
theorem sum_lanes (f : Fin 256 → ℝ) : ∑ l, f l = ∑ j : Fin 4, ∑ p : Fin 64, f (ln j p) := by
  rw [← Fintype.sum_prod_type' (f := fun j p => f (ln j p))]
  exact Fintype.sum_equiv ⟨fun l => (lj l, lp l), fun x => ln x.1 x.2, ln_lj, fun x => Prod.ext (Fin.ext (by show (x.1.1 * 64 + x.2.1) / 64 = x.1.1; omega)) (Fin.ext (by show (x.1.1 * 64 + x.2.1) % 64 = x.2.1; omega))⟩ _ _ fun l => by
    show f l = f (ln (lj l) (lp l))
    rw [ln_lj]

/-- The rows, chunk by chunk. -/
theorem sum_rows (f : Fin 2048 → ℝ) : ∑ s, f s = ∑ c : Fin 16, ∑ i : Fin 128, f (rowAt c i) := by
  rw [← Fintype.sum_prod_type' (f := fun c i => f (rowAt c i))]
  exact Fintype.sum_equiv ⟨fun s => (chunkOf s, posOf s), fun x => rowAt x.1 x.2, row_chunk, fun x => Prod.ext (chunk_row _ _) (pos_row _ _)⟩ _ _ fun s => by
    show f s = f (rowAt (chunkOf s) (posOf s))
    rw [row_chunk]

/-- The turns, as chunks. -/
theorem sum_turns (f : Fin 16 → ℝ) : ∑ n ∈ Finset.range 16, f (SeqB.turn n) = ∑ c, f c := by
  rw [Finset.sum_range]
  exact Fintype.sum_equiv Fin.revPerm _ _ fun n => congrArg f (Fin.ext (by show 15 - n.1 = (Fin.rev n).1; rw [Fin.val_rev]; omega))

section
variable (q : SeqB)

theorem pt_back (n : ℕ) (hn : n < 16) : q.pt n = q.back (SeqB.turn n) := by
  show q.point (SeqB.turn n) (q.carry n) = q.point (SeqB.turn n) (q.carry (15 - (15 - n)))
  rw [show 15 - (15 - n) = n by omega]

theorem wsum_eq (n : ℕ) (l : Fin 1024) : q.wsum n l = ∑ k ∈ Finset.range n, (q.pt k).dw l := by
  induction n with
  | zero => rfl
  | succ n ih => rw [SeqB.wsum_succ, Finset.sum_range_succ, ← ih]

theorem accs_eq (n : ℕ) (l : Fin 1024) : q.accs n 0 l = ∑ k ∈ Finset.range n, (q.pt k).dskip l := by
  induction n with
  | zero => rfl
  | succ n ih => rw [SeqB.accs_succ, Finset.sum_range_succ, ← ih]; rfl

theorem smalls_zero (n : ℕ) (h : Fin 128) : q.smalls n 0 h = ∑ k ∈ Finset.range n, ∑ i, (q.pt k).draw q.rate (q.raw (SeqB.turn k)) i h := by
  induction n with
  | zero => rfl
  | succ n ih => rw [SeqB.smalls_succ, Finset.sum_range_succ, ← ih]; rfl

theorem smalls_one (n : ℕ) (h : Fin 128) : q.smalls n 1 h = ∑ k ∈ Finset.range n, ∑ i, (q.pt k).da i h * ((q.pt k).part 0).dt i h := by
  induction n with
  | zero => rfl
  | succ n ih => rw [SeqB.smalls_succ, Finset.sum_range_succ, ← ih]; rfl

theorem smalls_rest (n : ℕ) (a : Fin 8) (h0 : a.1 ≠ 0) (h1 : a.1 ≠ 1) (h : Fin 128) : q.smalls n a h = 0 := by
  induction n with
  | zero => rfl
  | succ n ih => rw [SeqB.smalls_succ, RPoint.small, if_neg h0, if_neg h1, ih]

theorem over_turns (f : RPoint → Fin 16 → ℝ) : ∑ k ∈ Finset.range 16, f (q.pt k) (SeqB.turn k) = ∑ c, f (q.back c) c := by
  rw [← sum_turns fun c => f (q.back c) c]
  exact Finset.sum_congr rfl fun k hk => by rw [pt_back q k (Finset.mem_range.mp hk)]

theorem rate_none (h : Fin 128) (hh : ¬h.1 < 16) : q.rate h = 0 := if_neg hh
theorem draw_none (c : Fin 16) (i h : Fin 128) (hh : ¬h.1 < 16) : (q.back c).draw q.rate (q.raw c) i h = 0 := by
  unfold RPoint.draw
  rw [over_none _ h (by omega), rate_none q h hh]
  ring

theorem turn_last : SeqB.turn 15 = 0 := Fin.ext rfl

/-- The small sums' rows. -/
theorem last_zero (h : Fin 128) : (q.pt 15).last q.rate (q.raw 0) (q.accs 15) (q.smalls 15) 0 h = ∑ c, ∑ i, (q.back c).draw q.rate (q.raw c) i h := by
  rw [← over_turns q fun r c => ∑ i, r.draw q.rate (q.raw c) i h, ← smalls_zero q 16 h, show q.smalls 16 = (q.pt 15).small q.rate (q.raw (SeqB.turn 15)) (q.smalls 15) from SeqB.smalls_succ q 15, turn_last, RPoint.last, if_neg (by decide), if_neg (by decide)]

theorem last_one (h : Fin 128) : (q.pt 15).last q.rate (q.raw 0) (q.accs 15) (q.smalls 15) 1 h = (∑ c, ∑ i, (q.back c).da i h * q.dt c i h) * q.rate h := by
  rw [← over_turns q fun r c => ∑ i, r.da i h * q.dt c i h]
  exact congrArg (· * q.rate h) (smalls_one q 16 h)

theorem last_two (h : Fin 128) : (q.pt 15).last q.rate (q.raw 0) (q.accs 15) (q.smalls 15) 2 h = overHead (fun l => ∑ c, (q.back c).dskip l) h := by
  refine congrArg (fun f => overHead f h) (funext fun l => ?_)
  rw [← over_turns q fun r _ => r.dskip l]
  exact accs_eq q 16 l

theorem last_rest (a : Fin 8) (ha : 3 ≤ a.1) (h : Fin 128) : (q.pt 15).last q.rate (q.raw 0) (q.accs 15) (q.smalls 15) a h = 0 := by
  unfold RPoint.last
  rw [if_neg (by omega), if_neg (by omega)]
  exact smalls_rest q 16 a (by omega) (by omega) h
end

/-- The three parts of the columns' cotangent. -/
def partC (V : Valuation Cert.Reference6Ideal.τ Cert.Reference6Ideal.sig (Elt Ideal)) : FVec Ideal S2048x512 .f32 :=
  shapeCast _ (shapeCast _ (addf (transpose S16x128x4x128 [0, 2, 1, 3] (Host.dotGeneral (φ₁ := .f32) (φ₂ := .f32) dot_S16x4x4x64x128_S16x4x4x64x128_S16x4x128x128_23_23_4_4_01_01 none (res_main_v305 V) (res_main_v223 V)) transposes_S16x4x128x128_S16x128x4x128_0_2_1_3) (transpose S16x128x4x128 [1, 2, 0, 3] (Host.dotGeneral (φ₁ := .f32) (φ₂ := .f32) dot_S4x16x128x128_S16x128x4x128_S4x16x128x128_3_1_2_3_01_20 none (res_main_v596 V) (res_main_v23 V)) transposes_S4x16x128x128_S16x128x4x128_1_2_0_3)) shapeCasts_S16x128x4x128_S2048x4x128) shapeCasts_S2048x4x128_S2048x512
def partB (V : Valuation Cert.Reference6Ideal.τ Cert.Reference6Ideal.sig (Elt Ideal)) : FVec Ideal S2048x512 .f32 :=
  shapeCast _ (shapeCast _ (addf (transpose S16x128x4x128 [0, 3, 1, 2] (Host.dotGeneral (φ₁ := .f32) (φ₂ := .f32) dot_S16x4x4x64x128_S16x128x4x4x64_S16x4x128x128_23_34_4_1_01_02 none (res_main_v560 V) (res_main_v48 V)) transposes_S16x4x128x128_S16x128x4x128_0_3_1_2) (transpose S16x128x4x128 [1, 2, 0, 3] (Host.dotGeneral (φ₁ := .f32) (φ₂ := .f32) dot_S4x16x128x128_S16x128x4x128_S4x16x128x128_2_1_3_3_01_20 none (res_main_v596 V) (res_main_v24 V)) transposes_S4x16x128x128_S16x128x4x128_1_2_0_3)) shapeCasts_S16x128x4x128_S2048x4x128) shapeCasts_S2048x4x128_S2048x512
def partX (V : Valuation Cert.Reference6Ideal.τ Cert.Reference6Ideal.sig (Elt Ideal)) : FVec Ideal S2048x1024 .f32 :=
  shapeCast _ (addf (mulf (res_main_v286 V) (broadcastInDim S2048x16x64 ![0, 1, 2] bcast_S1x16x1_S2048x16x64_0_1_2 (res_main_v236 V))) (mulf (res_main_v625 V) (broadcastInDim S2048x16x64 ![0, 1, 2] bcast_S2048x16x1_S2048x16x64_0_1_2 (res_main_v14 V)))) shapeCasts_S2048x16x64_S2048x1024

/-- The three rows of the small cotangents. -/
def row0 (V : Valuation Cert.Reference6Ideal.τ Cert.Reference6Ideal.sig (Elt Ideal)) : FVec Ideal S1x16 .f32 := shapeCast _ (Host.reduceAdd (res_main_v637 V) (constant S_ .f32 0x00000000#32) reducesTo_S2048x16_S16_d0 h_S_) shapeCasts_S16_S1x16
def row1 (V : Valuation Cert.Reference6Ideal.τ Cert.Reference6Ideal.sig (Elt Ideal)) : FVec Ideal S1x16 .f32 := broadcastInDim S1x16 ![1] bcast_S16_S1x16_1 (mulf (Host.negf (Host.reduceAdd (shapeCast _ (Host.reduceAdd (mulf (res_main_v10_0 V) (res_main_v618 V)) (constant S_ .f32 0x00000000#32) reducesTo_S2048x16_S16_d0 h_S_) shapeCasts_S16_S1x16) (constant S_ .f32 0x00000000#32) reducesTo_S1x16_S16_d0 h_S_)) (res_main_v12 V))
def row2 (V : Valuation Cert.Reference6Ideal.τ Cert.Reference6Ideal.sig (Elt Ideal)) : FVec Ideal S1x16 .f32 := broadcastInDim S1x16 ![1] bcast_S16_S1x16_1 (Host.reduceAdd (broadcastInDim S16x1 ![0] bcast_S16_S16x1_0 (Host.reduceAdd (shapeCast _ (Host.reduceAdd (mulf (res_main_v3 V) (res_main_v286 V)) (constant S_ .f32 0x00000000#32) reducesTo_S2048x16x64_S16_d0_2 h_S_) shapeCasts_S16_S1x16x1) (constant S_ .f32 0x00000000#32) reducesTo_S1x16x1_S16_d0_2 h_S_)) (constant S_ .f32 0x00000000#32) reducesTo_S16x1_S16_d1 h_S_)

/-- A row with zeros past the heads. -/
def wideRow (v : FVec Ideal S1x16 .f32) : FVec Ideal S1x128 .f32 :=
  concatenate S1x128 1 [⟨S1x16, v⟩, ⟨S1x112, broadcastInDim S1x112 ![] bcast_S_S1x112 (constant S_ .f32 0x00000000#32)⟩] concatenates_S1x16_S1x112_S1x128_d1

theorem wideRow_real (f : Fin 128 → ℝ) (hf : ∀ h : Fin 128, ¬h.1 < 16 → f h = 0) (v : FVec Ideal S1x16 .f32) (hv : v = M2 fun _ h => f (wide h)) : wideRow v = M2 fun _ => f := by
  subst hv
  unfold wideRow
  funext y
  obtain ⟨a, h, rfl⟩ : ∃ (a : Fin 1) (h : Fin 128), y = ix2 a h := ⟨y 0, y 1, eq_ix2 y⟩
  pointwise
  simp only [M2_ix2]
  by_cases hh : h.1 < 16
  · rw [dif_pos hh]
    rfl
  · rw [dif_neg hh, hf h hh]
    rfl

/-- A host sum over the outer axes of a three-axis array. -/
theorem reduce_ends {a n b : ℕ} (h : (⟨3, ![a, n, b]⟩ : Shape).ReducesTo [0, 2] ⟨1, ![n]⟩) (x : (⟨3, ![a, n, b]⟩ : Shape).Idx → EReal) (init : EReal)
    (k : Fin n) : Ideal.hostReduceAdd h x init (ix1 k) = init + ∑ s, ∑ p, x (ix3 s k p) := by
  unfold Ideal.hostReduceAdd
  rw [← Finset.sum_product']
  refine congrArg (init + ·) (Finset.sum_bij' (fun i _ => ((i 0 : Fin a), (i 2 : Fin b))) (fun z _ => ix3 z.1 k z.2) (fun _ _ => Finset.mem_univ _) (fun z _ => Finset.mem_filter.mpr ⟨Finset.mem_univ _, ?_⟩) (fun i hi => ?_) (fun _ _ => rfl) (fun i hi => ?_))
  · funext c
    match c with
    | ⟨0, _⟩ => rfl
  · have e1 : i 1 = k := congrFun (Finset.mem_filter.mp hi).2 0
    exact (congrArg (fun k => ix3 (i 0 : Fin a) k (i 2 : Fin b)) e1.symm).trans (eq_ix3 i).symm
  · have e1 : i 1 = k := congrFun (Finset.mem_filter.mp hi).2 0
    exact congrArg x ((eq_ix3 i).trans (congrArg (fun k => ix3 (i 0 : Fin a) k (i 2 : Fin b)) e1))

theorem lane_group (l : Fin 1024) : groupOf l = gh ⟨l / 64, by omega⟩ := Fin.ext (by show l.1 / 256 = l.1 / 64 / 4; omega)
theorem lane_spot (l : Fin 1024) : placeOf l = ln (jh ⟨l / 64, by omega⟩) ⟨l % 64, by omega⟩ := Fin.ext (by show l.1 % 256 = l.1 / 64 % 4 * 64 + l.1 % 64; omega)

theorem dx_head (q : SeqB) (c : Fin 16) (i : Fin 128) (h : Fin 16) (p : Fin 64) : (q.back c).dx (gh h) i (ln (jh h) p)
    = (q.back c).dxdt (gh h) i (ln (jh h) p) * softplus (q.P (rowAt c i) ⟨5120 + h, by omega⟩ + q.bias h) + (q.back c).dy (gh h) i (ln (jh h) p) * q.d h := by
  have ed : ((q.back c).part (gh h)).d (ln (jh h) p) = q.d h :=
    congrArg q.d (Fin.ext (by show h.1 / 4 * 4 + (h.1 % 4 * 64 + p.1) / 64 = h.1; omega))
  have et : ((q.back c).part (gh h)).dt i (hk (gh h) (jh h)) = q.dt c i (hk (gh h) (jh h)) := rfl
  unfold RPoint.dx
  rw [hd_ln, ed, et, dt_head]
  simp only [hh_head]

variable {q : SeqB} {V : Valuation Cert.Reference6Ideal.τ Cert.Reference6Ideal.sig (Elt Ideal)} (E : RefHolds V q)
include E

theorem ref12 : res_main_v12 (F := Ideal) V = fun i => ((Real.exp (q.al (i 0)) : ℝ) : EReal) := by
  unfold res_main_v12
  rw [E.h4]
  funext y
  obtain ⟨x0, rfl⟩ : ∃ (x0 : Fin 16), y = ix1 x0 := ⟨y 0, eq_ix1 y⟩
  pointwise
  exact Ideal.exp_coe _

theorem ref14 : res_main_v14 (F := Ideal) V = A3 fun s h (_ : Fin 1) => softplus (q.P s ⟨5120 + h, by omega⟩ + q.bias h) := by
  unfold res_main_v14
  rw [ref10_0 E]
  funext y
  obtain ⟨x0, x1, x2, rfl⟩ : ∃ (x0 : Fin 2048) (x1 : Fin 16) (x2 : Fin 1), y = ix3 x0 x1 x2 := ⟨y 0, y 1, y 2, eq_ix3 y⟩
  pointwise
  rfl

theorem ref48 : res_main_v48 (F := Ideal) V = A5 fun c i g j p => Real.exp (q.tot c (hk g j) - q.cs c i (hk g j)) * (q.chunk c g).xdt g i (ln j p) := by
  unfold res_main_v48
  rw [ref46 E, ref17 E]
  funext y
  obtain ⟨x0, x1, x2, x3, x4, rfl⟩ : ∃ (x0 : Fin 16) (x1 : Fin 128) (x2 : Fin 4) (x3 : Fin 4) (x4 : Fin 64), y = ix5 x0 x1 x2 x3 x4 := ⟨y 0, y 1, y 2, y 3, y 4, eq_ix5 y⟩
  pointwise
  simp only [A5_ix5, mul_coe]

theorem partC_real : partC V = M2 fun s m => (q.back (chunkOf s)).dc ⟨m / 128, by omega⟩ (posOf s) ⟨m % 128, by omega⟩ := by
  unfold partC
  rw [ref305 E, ref223 E, ref596 E, ref23 E]
  funext y
  obtain ⟨s, m, rfl⟩ : ∃ (s : Fin 2048) (m : Fin 512), y = ix2 s m := ⟨y 0, y 1, eq_ix2 y⟩
  pointwise
  simp only [A5_ix5, A4_ix4, mul_coe, add_coe, sum_coe]
  refine congrArg (fun x : ℝ => (x : EReal)) ?_
  show _ = (q.back (chunkOf s)).dc ⟨m / 128, by omega⟩ (posOf s) ⟨m % 128, by omega⟩
  unfold RPoint.dc
  rw [sum_lanes]
  rfl

theorem partB_real : partB V = M2 fun s m => (q.back (chunkOf s)).db ⟨m / 128, by omega⟩ (posOf s) ⟨m % 128, by omega⟩ := by
  unfold partB
  rw [ref560 E, ref48 E, ref596 E, ref24 E]
  funext y
  obtain ⟨s, m, rfl⟩ : ∃ (s : Fin 2048) (m : Fin 512), y = ix2 s m := ⟨y 0, y 1, eq_ix2 y⟩
  pointwise
  simp only [A5_ix5, A4_ix4, mul_coe, add_coe, sum_coe]
  refine congrArg (fun x : ℝ => (x : EReal)) ?_
  show _ = (q.back (chunkOf s)).db ⟨m / 128, by omega⟩ (posOf s) ⟨m % 128, by omega⟩
  unfold RPoint.db RPart.toEnd
  rw [sum_lanes]
  simp only [hd_ln]
  refine congrArg₂ (· + ·) (Finset.sum_congr rfl fun j _ => Finset.sum_congr rfl fun p _ => ?_) rfl
  rw [mul_comm, mul_comm (Real.exp _)]
  rfl

theorem partX_real : partX V = M2 fun s l => (q.back (chunkOf s)).dx (groupOf l) (posOf s) (placeOf l) := by
  unfold partX
  rw [ref286' E, ref236 E, ref625 E, ref14 E]
  funext y
  obtain ⟨s, l, rfl⟩ : ∃ (s : Fin 2048) (l : Fin 1024), y = ix2 s l := ⟨y 0, y 1, eq_ix2 y⟩
  pointwise
  simp only [A3_ix3, mul_coe, add_coe]
  refine congrArg (fun x : ℝ => (x : EReal)) ?_
  show _ = (q.back (chunkOf s)).dx (groupOf l) (posOf s) (placeOf l)
  rw [lane_group, lane_spot, dx_head, row_chunk, add_comm]

theorem ref647 : (addf (addf (pad S2048x2048 ![0, 1536] ![0, 0] ![0, 0] (partC V) (constant S_ .f32 0x00000000#32) pads_S2048x512_S2048x2048_000_153600 h_S_) (pad S2048x2048 ![0, 1024] ![0, 512] ![0, 0] (partB V) (constant S_ .f32 0x00000000#32) pads_S2048x512_S2048x2048_000_10245120 h_S_)) (pad S2048x2048 ![0, 0] ![0, 1024] ![0, 0] (partX V) (constant S_ .f32 0x00000000#32) pads_S2048x1024_S2048x2048_000_010240 h_S_) : FVec Ideal S2048x2048 .f32) = M2 fun s l => (q.back (chunkOf s)).cols (posOf s) l := by
  rw [partC_real E, partB_real E, partX_real E]
  funext y
  obtain ⟨s, l, rfl⟩ : ∃ (s : Fin 2048) (l : Fin 2048), y = ix2 s l := ⟨y 0, y 1, eq_ix2 y⟩
  pointwise
  simp only [M2_ix2]
  unfold RPoint.cols
  by_cases h1 : l.1 < 1024
  · rw [dif_neg (by omega), dif_neg (by omega), dif_pos h1, dif_pos h1, add_zero, zero_add]
    rfl
  · by_cases h2 : l.1 < 1536
    · rw [dif_neg (by omega), dif_pos (by omega), dif_neg h1, dif_neg h1, dif_pos h2, zero_add, add_zero]
    · rw [dif_pos (by omega), dif_neg (by omega), dif_neg h1, dif_neg h1, dif_neg h2, add_zero, add_zero]

theorem ref658 : (truncf .bf16 (concatenate S2048x128 1 [⟨S2048x16, (res_main_v637 V)⟩, ⟨S2048x112, (broadcastInDim S2048x112 ![] bcast_S_S2048x112 (constant S_ .f32 0x00000000#32))⟩] concatenates_S2048x16_S2048x112_S2048x128_d1) bitsLt_bf16_f32) = M2 fun s h => (q.back (chunkOf s)).draw q.rate (q.raw (chunkOf s)) (posOf s) h := by
  rw [ref637 E]
  funext y
  obtain ⟨s, l, rfl⟩ : ∃ (s : Fin 2048) (l : Fin 128), y = ix2 s l := ⟨y 0, y 1, eq_ix2 y⟩
  pointwise
  simp only [M2_ix2]
  by_cases h : l.1 < 16
  · rw [dif_pos h]
    rfl
  · rw [dif_neg h, draw_none q _ _ _ h]
    rfl

theorem ref659 : (truncf .bf16 (addf (mulf (res_main_v283 V) (res_main_v241_2 V)) (mulf (mulf (res_main_v0 V) (res_main_v283 V)) (mulf (res_main_v241_2 V) (subf (broadcastInDim S2048x1024 ![] bcast_S_S2048x1024 (constant S_ .f32 0x3F800000#32)) (res_main_v241_2 V))))) bitsLt_bf16_f32) = M2 fun s l => (q.back (chunkOf s)).dz (posOf s) l := by
  rw [ref283 E, ref241_2 E, ref0 E]
  funext y
  obtain ⟨s, l, rfl⟩ : ∃ (s : Fin 2048) (l : Fin 1024), y = ix2 s l := ⟨y 0, y 1, eq_ix2 y⟩
  pointwise
  rw [show (1 : EReal) = ((1 : ℝ) : EReal) from rfl]
  simp only [M2_ix2, mul_coe, add_coe, sub_coe]
  refine congrArg (fun x : ℝ => (x : EReal)) ?_
  show _ = (q.back (chunkOf s)).dz (posOf s) l
  have hz : (q.back (chunkOf s)).z (groupOf l) (posOf s) (placeOf l) = q.P s ⟨2048 + l, by omega⟩ := z_row q s l
  unfold RPoint.dz dzR
  rw [hz]
  unfold dgated
  ring

theorem ref264 : (shapeCast _ (Host.reduceAdd (mulf (res_main_v257 V) (res_main_v260 V)) (constant S_ .f32 0x00000000#32) reducesTo_S2048x1024_S1024_d0 h_S_) shapeCasts_S1024_S1x1024) = M2 fun (s : Fin 1) l => q.wsum 16 l := by
  rw [ref257 E, ref260 E]
  funext y
  obtain ⟨s, l, rfl⟩ : ∃ (s : Fin 1) (l : Fin 1024), y = ix2 s l := ⟨y 0, y 1, eq_ix2 y⟩
  pointwise
  simp only [M2_ix2, mul_coe, sum_coe]
  refine congrArg (fun x : ℝ => (x : EReal)) ?_
  show _ = q.wsum 16 l
  rw [wsum_eq, over_turns q fun r _ => r.dw l, sum_rows]
  refine Finset.sum_congr rfl fun c _ => Finset.sum_congr rfl fun i _ => ?_
  rw [chunk_row, pos_row, mul_comm]
  refine congrArg₂ (· * ·) ?_ rfl
  show _ = q.D (rowAt c i) ⟨1024 + (lane (groupOf l) (placeOf l)).1, _⟩
  simp only [lane_place]

/-- The rows of the small sums' cotangents over the chunks. -/
theorem row0_real : row0 V = M2 fun _ h => ∑ c, ∑ i, (q.back c).draw q.rate (q.raw c) i (wide h) := by
  unfold row0
  rw [ref637 E]
  funext y
  obtain ⟨a, h, rfl⟩ : ∃ (a : Fin 1) (h : Fin 16), y = ix2 a h := ⟨y 0, y 1, eq_ix2 y⟩
  pointwise
  simp only [M2_ix2, sum_coe]
  refine congrArg (fun x : ℝ => (x : EReal)) ?_
  show _ = ∑ c, ∑ i, (q.back c).draw q.rate (q.raw c) i (wide h)
  rw [sum_rows]
  simp only [chunk_row, pos_row]

theorem row1_real : row1 V = M2 fun _ h => (∑ c, ∑ i, (q.back c).da i (wide h) * q.dt c i (wide h)) * q.rate (wide h) := by
  unfold row1
  rw [ref10_0 E, ref618 E, ref12 E]
  funext y
  obtain ⟨a, h, rfl⟩ : ∃ (a : Fin 1) (h : Fin 16), y = ix2 a h := ⟨y 0, y 1, eq_ix2 y⟩
  pointwise
  simp only [M2_ix2, sum_coe, mul_coe, neg_coe, Finset.univ_unique, Finset.sum_singleton]
  refine congrArg (fun x : ℝ => (x : EReal)) ?_
  show _ = (∑ c, ∑ i, (q.back c).da i (wide h) * q.dt c i (wide h)) * q.rate (wide h)
  rw [sum_rows]
  simp only [chunk_row, pos_row, ← hk_head, dt_head, rate_head, hh_head]
  rw [neg_mul, mul_neg]
  refine congrArg (fun x => -(x * _)) (Finset.sum_congr rfl fun c _ => Finset.sum_congr rfl fun i _ => mul_comm _ _)

theorem row2_real : row2 V = M2 fun _ h => overHead (fun l => ∑ c, (q.back c).dskip l) (wide h) := by
  unfold row2
  rw [ref3 E, ref286' E]
  funext y
  obtain ⟨a, h, rfl⟩ : ∃ (a : Fin 1) (h : Fin 16), y = ix2 a h := ⟨y 0, y 1, eq_ix2 y⟩
  pointwise
  rw [reduce_ends]
  pointwise
  rw [reduce_ends]
  pointwise
  simp only [A3_ix3, sum_coe, mul_coe, Finset.univ_unique, Finset.sum_singleton]
  refine congrArg (fun x : ℝ => (x : EReal)) ?_
  show _ = overHead (fun l => ∑ c, (q.back c).dskip l) (wide h)
  rw [← hk_head, over_head, sum_rows]
  simp only [chunk_row, pos_row, RPoint.dskip, group_lane, place_lane]
  symm
  rw [Finset.sum_comm]
  refine Finset.sum_congr rfl fun c _ => ?_
  rw [Finset.sum_comm]
  refine Finset.sum_congr rfl fun i _ => Finset.sum_congr rfl fun p _ => ?_
  have e : ((q.back c).part (gh h)).x i (ln (jh h) p) = q.X (rowAt c i) ⟨h * 64 + p, by omega⟩ :=
    congrArg (q.X (rowAt c i)) (Fin.ext (by show h.1 / 4 * 256 + (h.1 % 4 * 64 + p.1) = h.1 * 64 + p.1; omega))
  rw [e, mul_comm]

theorem ref655 : ((concatenate S8x128 0 [⟨S1x128, wideRow (row0 V)⟩, ⟨S1x128, wideRow (row1 V)⟩, ⟨S1x128, wideRow (row2 V)⟩, ⟨S5x128, ((broadcastInDim (α := EReal) S5x128 ![] bcast_S_S5x128 (constant S_ .f32 0x00000000#32 : FVec Ideal S_ .f32)) : (⟨S5x128, .f32⟩ : BufTy).Contents (Elt Ideal))⟩] concatenates_S1x128_S1x128_S1x128_S5x128_S8x128_d0 : (⟨S8x128, .f32⟩ : BufTy).Contents (Elt Ideal))) = M2 ((q.pt 15).last q.rate (q.raw 0) (q.accs 15) (q.smalls 15)) := by
  rw [wideRow_real (fun h => ∑ c, ∑ i, (q.back c).draw q.rate (q.raw c) i h) (fun h hh => Finset.sum_eq_zero fun c _ => Finset.sum_eq_zero fun i _ => draw_none q c i h hh) _ (row0_real E),
    wideRow_real (fun h => (∑ c, ∑ i, (q.back c).da i h * q.dt c i h) * q.rate h) (fun h hh => by rw [rate_none q h hh, mul_zero]) _ (row1_real E),
    wideRow_real (overHead fun l => ∑ c, (q.back c).dskip l) (fun h hh => over_none _ h (by omega)) _ (row2_real E)]
  funext y
  obtain ⟨a, h, rfl⟩ : ∃ (a : Fin 8) (h : Fin 128), y = ix2 a h := ⟨y 0, y 1, eq_ix2 y⟩
  pointwise
  simp only [M2_ix2]
  by_cases h0 : a.1 < 1
  · rw [dif_pos h0, show a = 0 from Fin.ext (by show a.1 = 0; omega), last_zero]
  · by_cases h1 : a.1 - 1 < 1
    · rw [dif_neg h0, dif_pos h1, show a = 1 from Fin.ext (by show a.1 = 1; omega), last_one]
    · by_cases h2 : a.1 - 1 - 1 < 1
      · rw [dif_neg h0, dif_neg h1, dif_pos h2, show a = 2 from Fin.ext (by show a.1 = 2; omega), last_two]
      · rw [dif_neg h0, dif_neg h1, dif_neg h2, last_rest q a (by omega)]
        rfl

end Cert.SsdBwd

end
-- ==== Proof.SsdBwdAlg.lean ====
/- The state space layer's backward call equals the plain layer's gradient over the extended reals. -/
module

public import proofs.«01_k».proof.Defs
public import proofs.«01_k».proof.Proof.SsdBwdOut
public import proofs.«01_k».proof.Proof.SsdBwdRefD
public import proofs.«01_k».proof.Proof.Gen.Reference6Ideal.Run
public import proofs.«01_k».proof.Proof.Gen.Pre_finite6

@[expose] public section

set_option maxRecDepth 16384

noncomputable section

namespace Cert.SsdBwd

open Idealize.ShloMosaic Idealize.ShloMosaic.TcCoe Idealize.SL.Sem

theorem algebraic : Cert.algebraic_Kernel6Ideal_Reference6Ideal_pre_finite6 := by
  pair_intro
  · exact Cert.Kernel6Ideal.Value.run_blocks m g
  · refine (θ_run _ _ _).mono (fun r h c => ?_) (Cert.Reference6Ideal.Value.run m' g')
    obtain ⟨e0, e1, e2, e3, e4, er⟩ := h c
    obtain ⟨q, H⟩ := holds_of_finite m hpre c
    obtain ⟨a0, a1, a2, a3, a4, a5, a6⟩ := hagree c
    clear h
    have E : RefHolds (StableHlo.launchContents m' c) q :=
      ⟨a0.trans H.h0, a1.trans H.h1, a2.trans H.h2, a3.trans H.h3, a4.trans H.h4, a5.trans H.h5, a6.trans H.h6⟩
    exact ⟨e0.trans ((ref647 E).trans (result_cols H).symm), e1.trans ((ref658 E).trans (result_raw H).symm), e2.trans ((ref659 E).trans (result_gate H).symm),
      e3.trans ((ref264 E).trans (result_norm H).symm), e4.trans ((ref655 E).trans (result_small H).symm), er⟩

end Cert.SsdBwd

end
-- ==== Proof.ConvRows.lean ====
/- Rows of an array of 256 columns: loads and stores of a block of rows, and an array read after a list of stores. -/
module

public import Idealize.ShloMosaic.Lib.Pipeline.ValueKit
public import Idealize.ShloMosaic.Lib.Pointwise

@[expose] public section

set_option maxRecDepth 16384

noncomputable section

namespace Cert.ConvRows

open Idealize.ShloMosaic Idealize.ShloMosaic.TcCoe Idealize.SL.Sem

/-- `n` rows from row `a`. -/
def rowsAt {α : Type} {N : ℕ} (n a : ℕ) (h : a + n ≤ N) (X : (⟨2, ![N, 256]⟩ : Shape).Idx → α) : (⟨2, ![n, 256]⟩ : Shape).Idx → α :=
  fun j => X (ix2 ⟨a + (j 0).1, Nat.lt_of_lt_of_le (Nat.add_lt_add_left (j 0).2 a) h⟩ (j 1))

theorem rowsAt_congr {α : Type} {N : ℕ} (n a : ℕ) (h : a + n ≤ N) (X Y : (⟨2, ![N, 256]⟩ : Shape).Idx → α)
    (e : ∀ (i : Fin N) (j : Fin 256), a ≤ i.1 → i.1 < a + n → X (ix2 i j) = Y (ix2 i j)) : rowsAt n a h X = rowsAt n a h Y :=
  funext fun j => e ⟨a + (j 0).1, Nat.lt_of_lt_of_le (Nat.add_lt_add_left (j 0).2 a) h⟩ (j 1) (Nat.le_add_right _ _) (Nat.add_lt_add_left (j 0).2 a)

section
variable {F : FTy → Type} [FloatOps F] {sg : RefSig} {κ : Kind} {sp : Space} {e : EltTy} {N n a : ℕ} {off : Fin 2 → ℕ}

/-- A load of rows. -/
theorem load_rows (v : View sg κ sp ⟨2, ![N, 256]⟩ e) (f : v.ty.Contents (Elt F)) (hoff : off = ![a, 0])
    (inb : ∀ x, off x + (![n, 256] : Fin 2 → ℕ) x ≤ (⟨2, ![N, 256]⟩ : Shape).size x) (h : a + n ≤ N) :
    View.readAt (Elt F) v (Rect.unit (s := ⟨2, ![N, 256]⟩) off ![n, 256] inb).toLoadRect f = rowsAt n a h (v.read (Elt F) f) := by
  subst hoff
  rw [View.readAt_eq_ld]
  funext j
  exact View.ld_unit_apply_of _ _ _ inb j _ fun u => match u with
    | ⟨0, _⟩ => rfl
    | ⟨1, _⟩ => (Nat.zero_add _).symm

theorem emb_rows (hoff : off = ![a, 0])
    (inb : ∀ x, off x + (![n, 256] : Fin 2 → ℕ) x ≤ (⟨2, ![N, 256]⟩ : Shape).size x) (h : a + n ≤ N) (i : Fin n) (j : Fin 256) :
    (Rect.unit (s := ⟨2, ![N, 256]⟩) off ![n, 256] inb).emb (ix2 i j) = ix2 ⟨a + i.1, by omega⟩ j := by
  subst hoff
  refine funext fun u => Fin.ext ((show _ = _ from Rect.idx_unit_val (s := ⟨2, ![N, 256]⟩) ![a, 0] ![n, 256] inb (ix2 i j) u).trans ?_)
  match u with
  | ⟨0, _⟩ => rfl
  | ⟨1, _⟩ => exact Nat.zero_add _

theorem mem_rows (hoff : off = ![a, 0])
    (inb : ∀ x, off x + (![n, 256] : Fin 2 → ℕ) x ≤ (⟨2, ![N, 256]⟩ : Shape).size x) (i : Fin N) (j : Fin 256) (h1 : a ≤ i.1) (h2 : i.1 < a + n) :
    (ix2 i j : (⟨2, ![N, 256]⟩ : Shape).Idx) ∈ (Rect.unit (s := ⟨2, ![N, 256]⟩) off ![n, 256] inb).set := by
  subst hoff
  exact (Rect.mem_set_unit (inb := inb)).mpr fun z => match z with
    | ⟨0, _⟩ => ⟨h1, h2⟩
    | ⟨1, _⟩ => ⟨Nat.zero_le _, lt_of_lt_of_eq j.2 (Nat.zero_add _).symm⟩

/-- An index reads `G` after a list of stores of `G`'s values, if it did before where no store reaches. -/
theorem read_stores {s : Shape} (v : View sg κ sp s e) (f : v.ty.Contents (Elt F)) (G : s.Idx → Elt F e) (y : s.Idx) :
    ∀ L : List (View.Piece (Elt F) s e), (∀ p ∈ L, ∀ x, p.2 x = G (p.1.emb x)) → ((∀ p ∈ L, y ∉ p.1.set) → v.read (Elt F) f y = G y)
      → v.read (Elt F) (v.writes (Elt F) f L) y = G y
  | [], _, hf => hf fun _ h => absurd h List.not_mem_nil
  | p :: L, hL, hf => by
    by_cases hy : y ∈ p.1.set
    · obtain ⟨r, w⟩ := p
      obtain ⟨x, rfl⟩ : ∃ x, r.emb x = y := r.exists_idx_of_mem hy
      rw [View.read_writes_cons_emb]
      exact hL ⟨r, w⟩ List.mem_cons_self x
    · rw [View.writes_cons, View.read_slice_write_of_not_mem p.1 _ _ _ (by rwa [Rect.map_emb_univ])]
      exact read_stores v f G y L (fun q hq => hL q (List.mem_cons_of_mem _ hq)) fun h => hf fun q hq => by
        rcases List.mem_cons.mp hq with rfl | hq
        · exact hy
        · exact h q hq
end

end Cert.ConvRows

end
-- ==== Proof.ConvBwdLoops.lean ====
/- What the three counted loops of the convolution's backward kernel leave in its scratch buffers and in its results. -/
module

public import proofs.«01_k».proof.Proof.Gen.Kernel3Ideal.Frame.Runs
public import proofs.«01_k».proof.Proof.ConvRows
public import proofs.«01_k».proof.Proof.Real
public import Idealize.ShloMosaic.Lib.Pipeline.ValueKit

@[expose] public section

set_option maxRecDepth 16384

noncomputable section

namespace Cert.ConvBwd

open Idealize.ShloMosaic Idealize.ShloMosaic.TcCoe Idealize.SL.Sem
open Cert.Kernel3Ideal Cert.Kernel3Ideal.Gen Cert.ConvRows

/-! ## The trips' rows -/

theorem off1 : ∀ k : Fin k0_t1_loop.trips, k0_off1 k = ![256 * k.1, 0] := by decide
theorem off2 : ∀ k : Fin k0_t1_loop.trips, k0_off2 k = ![8 + 256 * k.1, 0] := by decide
theorem off3 : ∀ k : Fin k0_t2_loop.trips, k0_off3 k = ![256 * k.1, 0] := by decide
theorem off4 : ∀ k : Fin k0_t2_loop.trips, k0_off4 k = ![256 * k.1, 0] := by decide
theorem off5 : ∀ k : Fin k0_t2_loop.trips, k0_off5 k = ![256 * k.1, 0] := by decide
theorem off6 : ∀ k : Fin k0_t3_loop.trips, k0_off6 k = ![256 * k.1, 0] := by decide
theorem off7 : ∀ k : Fin k0_t3_loop.trips, k0_off7 k = ![256 * k.1, 0] := by decide

variable {F : FTy → Type} [FloatOps F]

/-! ## What the buffers hold -/

section
variable (x0 x1 : Vec F S2048x256 .f32) (x2 : Vec F S8x256 .f32) (x3 : Vec F S1x256 .f32)

/-- The forward input after eight rows of zeros. -/
def padX : Vec F S2056x256 .f32 := fun y =>
  if h : (y 0).1 < 8 then k0_pay1 (ix2 ⟨(y 0).1, h⟩ (y 1)) else x0 (ix2 ⟨(y 0).1 - 8, by have : (y 0).1 < 2056 := (y 0).2; omega⟩ (y 1))

/-- The rows a trip of the second loop reads of it. -/
def winX (k : ℕ) (hk : k < 8) : Vec F S264x256 .f32 := rowsAt 264 (256 * k) (by omega) (padX x0)

/-- The cotangent times the sigmoid, -/
def gate (k : ℕ) (hk : k < 8) : FVec F S256x256 .f32 :=
  k0_pay10 (winX x0 k hk) (rowsAt 1 3 (by omega) x2) (rowsAt 1 0 (by omega) x2) (rowsAt 1 1 (by omega) x2) (rowsAt 1 2 (by omega) x2)
    (rowsAt 1 0 (by omega) x3) (rowsAt 256 (256 * k) (by omega) x1)

/-- and the gate's slope without its one. -/
def slope (k : ℕ) (hk : k < 8) : FVec F S256x256 .f32 :=
  k0_pay11 (winX x0 k hk) (rowsAt 1 3 (by omega) x2) (rowsAt 1 0 (by omega) x2) (rowsAt 1 1 (by omega) x2) (rowsAt 1 2 (by omega) x2)
    (rowsAt 1 0 (by omega) x3)

/-- The convolution's cotangent on a trip's rows. -/
def cot (k : ℕ) (hk : k < 8) : FVec F S256x256 .f32 := k0_pay13 (gate x0 x1 x2 x3 k hk) (slope x0 x2 x3 k hk) k0_pay12

/-- The convolution's cotangent before eight rows of zeros. -/
def padD : Vec F S2056x256 .f32 := fun y =>
  if h : (y 0).1 < 2048 then cot x0 x1 x2 x3 ((y 0).1 / 256) (by omega) (ix2 ⟨(y 0).1 % 256, Nat.mod_lt _ (by omega)⟩ (y 1))
  else k0_pay3 (ix2 ⟨(y 0).1 - 2048, by have : (y 0).1 < 2056 := (y 0).2; omega⟩ (y 1))

/-- One trip's part of the gradients of the weights and of the bias, added to what stood there. -/
def addW (k : ℕ) (hk : k < 8) (w : Vec F S8x256 .f32) : Vec F S8x256 .f32 := fun y =>
  if (y 0).1 = 0 then k0_pay15 (winX x0 k hk) (gate x0 x1 x2 x3 k hk) (slope x0 x2 x3 k hk) k0_pay12 (rowsAt 1 0 (by omega) w) (ix2 0 (y 1))
  else if (y 0).1 = 1 then k0_pay16 (winX x0 k hk) (gate x0 x1 x2 x3 k hk) (slope x0 x2 x3 k hk) k0_pay12 (rowsAt 1 1 (by omega) w) (ix2 0 (y 1))
  else if (y 0).1 = 2 then k0_pay17 (winX x0 k hk) (gate x0 x1 x2 x3 k hk) (slope x0 x2 x3 k hk) k0_pay12 (rowsAt 1 2 (by omega) w) (ix2 0 (y 1))
  else if (y 0).1 = 3 then k0_pay5 (winX x0 k hk) (cot x0 x1 x2 x3 k hk) (k0_pay18 (rowsAt 1 3 (by omega) w)) (ix2 0 (y 1))
  else if (y 0).1 = 4 then k0_pay6 (cot x0 x1 x2 x3 k hk) (rowsAt 1 4 (by omega) w) (ix2 0 (y 1))
  else w y

/-- The gradients of the weights and of the bias after `k` trips. -/
def sumW : ℕ → Vec F S8x256 .f32
  | 0 => k0_pay4
  | k + 1 => if h : k < 8 then addW x0 x1 x2 x3 k h (sumW k) else sumW k

theorem sumW_succ (k : ℕ) (hk : k < 8) : sumW x0 x1 x2 x3 (k + 1) = addW x0 x1 x2 x3 k hk (sumW x0 x1 x2 x3 k) := dif_pos hk

/-- The input's gradient on a trip's rows. -/
def back (k : ℕ) (hk : k < 8) : FVec F S256x256 .bf16 :=
  k0_pay7 (rowsAt 264 (256 * k) (by omega) (padD x0 x1 x2 x3)) (rowsAt 1 3 (by omega) x2) (rowsAt 1 0 (by omega) x2) (rowsAt 1 1 (by omega) x2) (rowsAt 1 2 (by omega) x2)

/-- The input's gradient. -/
def outX : Vec F S2048x256 .bf16 := fun y =>
  back x0 x1 x2 x3 ((y 0).1 / 256) (by have : (y 0).1 < 2048 := (y 0).2; omega) (ix2 ⟨(y 0).1 % 256, Nat.mod_lt _ (by omega)⟩ (y 1))
end

/-! ## A trip keeps what is stated of the trips before it -/

section
variable (𝒱 : Variants) (c : Dev nD) (bd : Option 𝒱.V) (i : grid0.Coords) (arg1 : Memref sig .tc .vmem S2048x256 .f32) (harg1 : arg1.IsWhole)
  (arg2 : Memref sig .tc .vmem S2048x256 .f32) (harg2 : arg2.IsWhole) (arg3 : Memref sig .tc .vmem S8x256 .f32) (harg3 : arg3.IsWhole)
  (arg4 : Memref sig .tc .vmem S1x256 .f32) (harg4 : arg4.IsWhole) (arg5 : Memref sig .tc .vmem S2048x256 .bf16) (harg5 : arg5.IsWhole)
  (arg6 : Memref sig .tc .vmem S8x256 .f32) (harg6 : arg6.IsWhole) (arg7 : Memref sig .tc .vmem S2056x256 .f32) (harg7 : arg7.IsWhole)
  (arg8 : Memref sig .tc .vmem S2056x256 .f32) (harg8 : arg8.IsWhole)
  (x0 x1 : Vec F S2048x256 .f32) (x2 : Vec F S8x256 .f32) (x3 : Vec F S1x256 .f32)

/-- Before trip `k` of the first loop. -/
def Filled (k : ℕ) (f : BufTy.Contents (Elt F) arg7.view.ty) : Prop :=
  ∀ y : S2056x256.Idx, (y 0).1 < 8 + 256 * k → arg7.view.read (Elt F) f y = padX x0 y

theorem fill_trip (k : Fin k0_t1_loop.trips) (X : BufTy.Contents (Elt F) arg1.view.ty) (hX : arg1.view.read (Elt F) X = x0)
    (f : BufTy.Contents (Elt F) arg7.view.ty) (h : Filled arg7 x0 k.1 f) :
    Filled arg7 x0 (k.1 + 1) (arg7.view.writes (Elt F) f
      (tripL_k0_t1 (F := F) 𝒱 c bd i arg1 harg1 arg2 harg2 arg3 harg3 arg4 harg4 arg5 harg5 arg6 harg6 arg7 harg7 arg8 harg8 X k)) := by
  have hk : k.1 < 8 := k.2
  intro y hy
  obtain ⟨a, b, rfl⟩ : ∃ (a : Fin 2056) (b : Fin 256), y = ix2 a b := ⟨y 0, y 1, eq_ix2 y⟩
  have hy' : a.1 < 8 + 256 * (k.1 + 1) := hy
  unfold tripL_k0_t1 trip_k0_t1
  dsimp only
  refine read_stores _ _ _ _ _ (fun p hp x => ?_) fun hn => h _ ?_
  · obtain rfl := List.mem_singleton.mp hp
    obtain ⟨r, s, rfl⟩ : ∃ (r : Fin 256) (s : Fin 256), x = ix2 r s := ⟨x 0, x 1, eq_ix2 x⟩
    rw [emb_rows (off2 k) _ (by omega)]
    dsimp only
    rw [load_rows arg1.view X (off1 k) _ (by omega), hX]
    unfold k0_pay2 padX
    dsimp only
    rw [shapeCast_self]
    refine Eq.trans ?_ (dif_neg (by show ¬(8 + 256 * k.1 + r.1 < 8); omega)).symm
    exact congrArg x0 (congrArg (fun u => ix2 u s) (Fin.ext (by show 256 * k.1 + r.1 = 8 + 256 * k.1 + r.1 - 8; omega)))
  · show a.1 < 8 + 256 * k.1
    by_contra hc
    exact hn _ List.mem_cons_self (mem_rows (off2 k) (k0_off2_inb k) a b (by omega) (by omega))

/-- Before trip `k` of the second loop: the convolution's cotangent, -/
def Cots (k : ℕ) (f : BufTy.Contents (Elt F) arg8.view.ty) : Prop :=
  ∀ y : S2056x256.Idx, ((y 0).1 < 256 * k ∨ 2048 ≤ (y 0).1) → arg8.view.read (Elt F) f y = padD x0 x1 x2 x3 y

variable (X2 : BufTy.Contents (Elt F) arg2.view.ty) (X3 : BufTy.Contents (Elt F) arg3.view.ty) (X4 : BufTy.Contents (Elt F) arg4.view.ty)
  (X7 : BufTy.Contents (Elt F) arg7.view.ty)

theorem reads_window (k : Fin k0_t2_loop.trips) (h7 : Filled arg7 x0 8 X7) : trip_k0_t2.sl.r arg7 X7 k = winX x0 k.1 k.2 := by
  have hk : k.1 < 8 := k.2
  unfold trip_k0_t2.sl.r winX
  rw [load_rows arg7.view X7 (off3 k) _ (by omega)]
  exact rowsAt_congr _ _ _ _ _ fun a b _ h2 => h7 (ix2 a b) (by show a.1 < 8 + 256 * 8; omega)

theorem reads_gate (k : Fin k0_t2_loop.trips) (h7 : Filled arg7 x0 8 X7) (h2 : arg2.view.read (Elt F) X2 = x1) (h3 : arg3.view.read (Elt F) X3 = x2)
    (h4 : arg4.view.read (Elt F) X4 = x3) : trip_k0_t2.sl.r_1 arg2 arg3 arg4 arg7 X2 X3 X4 X7 k = gate x0 x1 x2 x3 k.1 k.2 := by
  have hk : k.1 < 8 := k.2
  have e := reads_window arg7 x0 X7 k h7
  unfold trip_k0_t2.sl.r at e
  unfold trip_k0_t2.sl.r_1 gate
  rw [e, load_rows arg2.view X2 (off4 k) _ (by omega), load_rows arg3.view X3 (a := 3) rfl _ (by omega), load_rows arg3.view X3 (a := 0) rfl _ (by omega),
    load_rows arg3.view X3 (a := 1) rfl _ (by omega), load_rows arg3.view X3 (a := 2) rfl _ (by omega), load_rows arg4.view X4 (a := 0) rfl _ (by omega), h2, h3, h4]

theorem reads_slope (k : Fin k0_t2_loop.trips) (h7 : Filled arg7 x0 8 X7) (h3 : arg3.view.read (Elt F) X3 = x2)
    (h4 : arg4.view.read (Elt F) X4 = x3) : trip_k0_t2.sl.r_2 arg3 arg4 arg7 X3 X4 X7 k = slope x0 x2 x3 k.1 k.2 := by
  have hk : k.1 < 8 := k.2
  have e := reads_window arg7 x0 X7 k h7
  unfold trip_k0_t2.sl.r at e
  unfold trip_k0_t2.sl.r_2 slope
  rw [e, load_rows arg3.view X3 (a := 3) rfl _ (by omega), load_rows arg3.view X3 (a := 0) rfl _ (by omega),
    load_rows arg3.view X3 (a := 1) rfl _ (by omega), load_rows arg3.view X3 (a := 2) rfl _ (by omega), load_rows arg4.view X4 (a := 0) rfl _ (by omega), h3, h4]

theorem cot_trip (k : Fin k0_t2_loop.trips) (h7 : Filled arg7 x0 8 X7) (h2 : arg2.view.read (Elt F) X2 = x1) (h3 : arg3.view.read (Elt F) X3 = x2)
    (h4 : arg4.view.read (Elt F) X4 = x3) (f6 : BufTy.Contents (Elt F) arg6.view.ty) (f8 : BufTy.Contents (Elt F) arg8.view.ty) (h : Cots arg8 x0 x1 x2 x3 k.1 f8) :
    Cots arg8 x0 x1 x2 x3 (k.1 + 1) (arg8.view.writes (Elt F) f8
      (tripL_k0_t2 (F := F) 𝒱 c bd i arg1 harg1 arg2 harg2 arg3 harg3 arg4 harg4 arg5 harg5 arg6 harg6 arg7 harg7 arg8 harg8 X2 X3 X4 X7 k f6 f8).2) := by
  have hk : k.1 < 8 := k.2
  intro y hy
  obtain ⟨a, b, rfl⟩ : ∃ (a : Fin 2056) (b : Fin 256), y = ix2 a b := ⟨y 0, y 1, eq_ix2 y⟩
  have hy' : a.1 < 256 * (k.1 + 1) ∨ 2048 ≤ a.1 := hy
  unfold tripL_k0_t2 trip_k0_t2
  dsimp only
  rw [reads_gate arg2 arg3 arg4 arg7 x0 x1 x2 x3 X2 X3 X4 X7 k h7 h2 h3 h4, reads_slope arg3 arg4 arg7 x0 x2 x3 X3 X4 X7 k h7 h3 h4]
  refine read_stores _ _ _ _ _ (fun p hp x => ?_) fun hn => h _ ?_
  · obtain rfl := List.mem_singleton.mp hp
    obtain ⟨r, s, rfl⟩ : ∃ (r : Fin 256) (s : Fin 256), x = ix2 r s := ⟨x 0, x 1, eq_ix2 x⟩
    rw [emb_rows (off5 k) _ (by omega)]
    dsimp only
    unfold k0_pay14 padD
    dsimp only
    rw [shapeCast_self]
    refine Eq.trans ?_ (dif_pos (by show 256 * k.1 + r.1 < 2048; omega)).symm
    have e1 : (256 * k.1 + r.1) / 256 = k.1 := by omega
    have e2 : (256 * k.1 + r.1) % 256 = r.1 := by omega
    exact (show ∀ (q : ℕ) (hq : q < 8) (t : Fin 256), q = k.1 → t = r → cot x0 x1 x2 x3 k.1 k.2 (ix2 r s) = cot x0 x1 x2 x3 q hq (ix2 t s) from
      fun q hq t h1 h2 => by subst h1; subst h2; rfl) _ _ _ e1 (Fin.ext e2)
  · show a.1 < 256 * k.1 ∨ 2048 ≤ a.1
    by_contra hc
    exact hn _ List.mem_cons_self (mem_rows (off5 k) (k0_off5_inb k) a b (by omega) (by omega))

/-- and the gradients summed so far. -/
theorem sum_trip (k : Fin k0_t2_loop.trips) (h7 : Filled arg7 x0 8 X7) (h2 : arg2.view.read (Elt F) X2 = x1) (h3 : arg3.view.read (Elt F) X3 = x2)
    (h4 : arg4.view.read (Elt F) X4 = x3) (f6 : BufTy.Contents (Elt F) arg6.view.ty) (f8 : BufTy.Contents (Elt F) arg8.view.ty)
    (h : arg6.view.read (Elt F) f6 = sumW x0 x1 x2 x3 k.1) :
    arg6.view.read (Elt F) (arg6.view.writes (Elt F) f6
      (tripL_k0_t2 (F := F) 𝒱 c bd i arg1 harg1 arg2 harg2 arg3 harg3 arg4 harg4 arg5 harg5 arg6 harg6 arg7 harg7 arg8 harg8 X2 X3 X4 X7 k f6 f8).1) = sumW x0 x1 x2 x3 (k.1 + 1) := by
  have hk : k.1 < 8 := k.2
  rw [sumW_succ x0 x1 x2 x3 k.1 k.2]
  funext y
  obtain ⟨a, b, rfl⟩ : ∃ (a : Fin 8) (b : Fin 256), y = ix2 a b := ⟨y 0, y 1, eq_ix2 y⟩
  have e3 : trip_k0_t2.sl.r_3 arg2 arg3 arg4 arg7 X2 X3 X4 X7 k = cot x0 x1 x2 x3 k.1 k.2 := by
    unfold trip_k0_t2.sl.r_3 cot
    rw [reads_gate arg2 arg3 arg4 arg7 x0 x1 x2 x3 X2 X3 X4 X7 k h7 h2 h3 h4, reads_slope arg3 arg4 arg7 x0 x2 x3 X3 X4 X7 k h7 h3 h4]
  unfold tripL_k0_t2 trip_k0_t2
  dsimp only
  rw [e3, reads_window arg7 x0 X7 k h7, reads_gate arg2 arg3 arg4 arg7 x0 x1 x2 x3 X2 X3 X4 X7 k h7 h2 h3 h4, reads_slope arg3 arg4 arg7 x0 x2 x3 X3 X4 X7 k h7 h3 h4]
  unfold trip_k0_t2.sl.r_4 trip_k0_t2.sl.v95 trip_k0_t2.sl.v87 trip_k0_t2.sl.v78 trip_k0_t2.sl.v69
  rw [load_rows arg6.view f6 (a := 0) rfl _ (by omega), load_rows arg6.view f6 (a := 1) rfl _ (by omega), load_rows arg6.view f6 (a := 2) rfl _ (by omega),
    load_rows arg6.view f6 (a := 3) rfl _ (by omega), load_rows arg6.view f6 (a := 4) rfl _ (by omega), h]
  refine read_stores _ _ _ _ _ (fun p hp x => ?_) fun hn => ?_
  · simp only [List.mem_cons, List.not_mem_nil, or_false] at hp
    rcases hp with rfl | rfl | rfl | rfl | rfl <;>
      (obtain ⟨r, s, rfl⟩ : ∃ (r : Fin 1) (s : Fin 256), x = ix2 r s := ⟨x 0, x 1, eq_ix2 x⟩
       obtain rfl := Fin.fin_one_eq_zero r)
    · rw [emb_rows (a := 4) rfl _ (by omega)]; rfl
    · rw [emb_rows (a := 3) rfl _ (by omega)]; rfl
    · rw [emb_rows (a := 2) rfl _ (by omega)]; rfl
    · rw [emb_rows (a := 1) rfl _ (by omega)]; rfl
    · rw [emb_rows (a := 0) rfl _ (by omega)]; rfl
  · skip
    have n0 : a.1 ≠ 0 := fun e => hn _ (List.mem_cons_of_mem _ (List.mem_cons_of_mem _ (List.mem_cons_of_mem _ (List.mem_cons_of_mem _ List.mem_cons_self)))) (mem_rows (a := 0) rfl inb_S8x256_S1x256_0_0 a b (by omega) (by omega))
    have n1 : a.1 ≠ 1 := fun e => hn _ (List.mem_cons_of_mem _ (List.mem_cons_of_mem _ (List.mem_cons_of_mem _ List.mem_cons_self))) (mem_rows (a := 1) rfl inb_S8x256_S1x256_1_0 a b (by omega) (by omega))
    have n2 : a.1 ≠ 2 := fun e => hn _ (List.mem_cons_of_mem _ (List.mem_cons_of_mem _ List.mem_cons_self)) (mem_rows (a := 2) rfl inb_S8x256_S1x256_2_0 a b (by omega) (by omega))
    have n3 : a.1 ≠ 3 := fun e => hn _ (List.mem_cons_of_mem _ List.mem_cons_self) (mem_rows (a := 3) rfl inb_S8x256_S1x256_3_0 a b (by omega) (by omega))
    have n4 : a.1 ≠ 4 := fun e => hn _ (List.mem_cons_self) (mem_rows (a := 4) rfl inb_S8x256_S1x256_4_0 a b (by omega) (by omega))
    rw [h]
    unfold addW
    exact ((if_neg n0).trans ((if_neg n1).trans ((if_neg n2).trans ((if_neg n3).trans (if_neg n4))))).symm

/-- Before trip `k` of the third loop. -/
def Backs (k : ℕ) (f : BufTy.Contents (Elt F) arg5.view.ty) : Prop :=
  ∀ y : S2048x256.Idx, (y 0).1 < 256 * k → arg5.view.read (Elt F) f y = outX x0 x1 x2 x3 y

theorem back_trip (k : Fin k0_t3_loop.trips) (X8 : BufTy.Contents (Elt F) arg8.view.ty) (h3 : arg3.view.read (Elt F) X3 = x2) (h8 : Cots arg8 x0 x1 x2 x3 8 X8)
    (f : BufTy.Contents (Elt F) arg5.view.ty) (h : Backs arg5 x0 x1 x2 x3 k.1 f) :
    Backs arg5 x0 x1 x2 x3 (k.1 + 1) (arg5.view.writes (Elt F) f
      (tripL_k0_t3 (F := F) 𝒱 c bd i arg1 harg1 arg2 harg2 arg3 harg3 arg4 harg4 arg5 harg5 arg6 harg6 arg7 harg7 arg8 harg8 X3 X8 k)) := by
  have hk : k.1 < 8 := k.2
  intro y hy
  obtain ⟨a, b, rfl⟩ : ∃ (a : Fin 2048) (b : Fin 256), y = ix2 a b := ⟨y 0, y 1, eq_ix2 y⟩
  have hy' : a.1 < 256 * (k.1 + 1) := hy
  have e8 : arg8.view.read (Elt F) X8 = padD x0 x1 x2 x3 := funext fun z => h8 z (by omega)
  unfold tripL_k0_t3 trip_k0_t3
  dsimp only
  rw [load_rows arg8.view X8 (off6 k) _ (by omega), load_rows arg3.view X3 (a := 3) rfl _ (by omega), load_rows arg3.view X3 (a := 0) rfl _ (by omega),
    load_rows arg3.view X3 (a := 1) rfl _ (by omega), load_rows arg3.view X3 (a := 2) rfl _ (by omega), h3, e8]
  refine read_stores _ _ _ _ _ (fun p hp x => ?_) fun hn => h _ ?_
  · obtain rfl := List.mem_singleton.mp hp
    obtain ⟨r, s, rfl⟩ : ∃ (r : Fin 256) (s : Fin 256), x = ix2 r s := ⟨x 0, x 1, eq_ix2 x⟩
    rw [emb_rows (off7 k) _ (by omega)]
    have e1 : (256 * k.1 + r.1) / 256 = k.1 := by omega
    have e2 : (256 * k.1 + r.1) % 256 = r.1 := by omega
    exact (show ∀ (q : ℕ) (hq : q < 8) (t : Fin 256), q = k.1 → t = r → back x0 x1 x2 x3 k.1 k.2 (ix2 r s) = back x0 x1 x2 x3 q hq (ix2 t s) from
      fun q hq t h1 h2 => by subst h1; subst h2; rfl) _ _ _ e1 (Fin.ext e2)
  · show a.1 < 256 * k.1
    by_contra hc
    exact hn _ List.mem_cons_self (mem_rows (off7 k) (k0_off7_inb k) a b (by omega) (by omega))
end

end Cert.ConvBwd

end
-- ==== Proof.ConvBwdRun.lean ====
/- The convolution's backward kernel run once: what a grid point leaves in its two results, and the arrays the pipeline writes. -/
module

public import proofs.«01_k».proof.Proof.ConvBwdLoops

@[expose] public section

set_option maxRecDepth 16384

noncomputable section

namespace Cert.ConvBwd

open Cert.ConvRows Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S2048x256 .f32) (harg1 : arg1.IsWhole)
  (arg2 : Memref sig .tc .vmem S2048x256 .f32) (harg2 : arg2.IsWhole) (arg3 : Memref sig .tc .vmem S8x256 .f32) (harg3 : arg3.IsWhole)
  (arg4 : Memref sig .tc .vmem S1x256 .f32) (harg4 : arg4.IsWhole) (arg5 : Memref sig .tc .vmem S2048x256 .bf16) (harg5 : arg5.IsWhole)
  (arg6 : Memref sig .tc .vmem S8x256 .f32) (harg6 : arg6.IsWhole) (arg7 : Memref sig .tc .vmem S2056x256 .f32) (harg7 : arg7.IsWhole)
  (arg8 : Memref sig .tc .vmem S2056x256 .f32) (harg8 : arg8.IsWhole)
  (x0 x1 : Vec F S2048x256 .f32) (x2 : Vec F S8x256 .f32) (x3 : Vec F S1x256 .f32)

/-- A buffer held at contents of which something is known. -/
abbrev held {sp : Space} {s : Shape} {e : EltTy} (M : Memref sig .tc sp s e) (G : BufTy.Contents (Elt F) M.view.ty → Prop) : sProp 𝕄 :=
  iprop(∃ f, (M.view.loc (c : Thread nD τ) ↦[M.view.set]{fullShare} f) ∗ ⌜G f⌝)

/-- Before trip `k` of the first loop, -/
abbrev inv1 (X1 : BufTy.Contents (Elt F) arg1.view.ty) (k : ℕ) (_u : PUnit) : sProp 𝕄 :=
  iprop((arg1.view.loc (c : Thread nD τ) ↦[arg1.view.set]{fullShare} X1) ∗ held c arg7 (Filled arg7 x0 k))

/-- of the second, -/
abbrev inv2 (X2 : BufTy.Contents (Elt F) arg2.view.ty) (X3 : BufTy.Contents (Elt F) arg3.view.ty) (X4 : BufTy.Contents (Elt F) arg4.view.ty)
    (X7 : BufTy.Contents (Elt F) arg7.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg7.view.loc (c : Thread nD τ) ↦[arg7.view.set]{fullShare} X7)
    ∗ held c arg6 (fun f => arg6.view.read (Elt F) f = sumW x0 x1 x2 x3 k) ∗ held c arg8 (Cots arg8 x0 x1 x2 x3 k))

/-- and of the third. -/
abbrev inv3 (X3 : BufTy.Contents (Elt F) arg3.view.ty) (X8 : BufTy.Contents (Elt F) arg8.view.ty) (k : ℕ) (_u : PUnit) : sProp 𝕄 :=
  iprop((arg3.view.loc (c : Thread nD τ) ↦[arg3.view.set]{fullShare} X3) ∗ (arg8.view.loc (c : Thread nD τ) ↦[arg8.view.set]{fullShare} X8)
    ∗ held c arg5 (Backs arg5 x0 x1 x2 x3 k))

theorem step1 (X1 : BufTy.Contents (Elt F) arg1.view.ty) (h1 : arg1.view.read (Elt F) X1 = x0) (E : Set ℕ) (k : Fin k0_t1_loop.trips) (acc : PUnit) :
    inv1 c arg1 arg7 x0 X1 k.1 acc ⊢ wp frame (wpE (defs₀ (F := F)) Variants.none c none) E (k0_t1_body (F := F) i arg1 harg1 arg2 harg2 arg3 harg3 arg4 harg4 arg5 harg5 arg6 harg6 arg7 harg7 arg8 harg8 k acc)
      (inv1 c arg1 arg7 x0 X1 (k.1 + 1)) := by
  iintro ⟨HR, ⟨%f, HW, %h⟩⟩
  iapply (wp_wand_r frame (wpE (defs₀ (F := F)) Variants.none (c : Thread nD τ) none) E)
  isplitl [HR HW]
  · iapply ((trip_k0_t1 (F := F) Variants.none c none i arg1 harg1 arg2 harg2 arg3 harg3 arg4 harg4 arg5 harg5 arg6 harg6 arg7 harg7 arg8 harg8 X1 k).2 E f)
    isplitl [HR]; · iexact HR
    iexact HW
  · iintro %_ ⟨HR, HW⟩
    isplitl [HR]; · iexact HR
    iexists _; isplitl [HW]; · iexact HW
    ipureintro
    exact fill_trip Variants.none c none i arg1 harg1 arg2 harg2 arg3 harg3 arg4 harg4 arg5 harg5 arg6 harg6 arg7 harg7 arg8 harg8 x0 k X1 h1 f h

theorem step2 (X2 : BufTy.Contents (Elt F) arg2.view.ty) (X3 : BufTy.Contents (Elt F) arg3.view.ty) (X4 : BufTy.Contents (Elt F) arg4.view.ty)
    (X7 : BufTy.Contents (Elt F) arg7.view.ty) (h7 : Filled arg7 x0 8 X7) (h2 : arg2.view.read (Elt F) X2 = x1) (h3 : arg3.view.read (Elt F) X3 = x2)
    (h4 : arg4.view.read (Elt F) X4 = x3) (E : Set ℕ) (k : Fin k0_t2_loop.trips) (acc : PUnit) :
    inv2 c arg2 arg3 arg4 arg6 arg7 arg8 x0 x1 x2 x3 X2 X3 X4 X7 k.1 acc
      ⊢ wp frame (wpE (defs₀ (F := F)) Variants.none c none) E (k0_t2_body (F := F) i arg1 harg1 arg2 harg2 arg3 harg3 arg4 harg4 arg5 harg5 arg6 harg6 arg7 harg7 arg8 harg8 k acc)
        (inv2 c arg2 arg3 arg4 arg6 arg7 arg8 x0 x1 x2 x3 X2 X3 X4 X7 (k.1 + 1)) := by
  iintro ⟨H2, H3, H4, H7, ⟨%f6, H6, %h6⟩, ⟨%f8, H8, %h8⟩⟩
  iapply (wp_wand_r frame (wpE (defs₀ (F := F)) Variants.none (c : Thread nD τ) none) E)
  isplitl [H2 H3 H4 H7 H6 H8]
  · iapply ((trip_k0_t2 (F := F) Variants.none c none i arg1 harg1 arg2 harg2 arg3 harg3 arg4 harg4 arg5 harg5 arg6 harg6 arg7 harg7 arg8 harg8 X2 X3 X4 X7 k).2.2 E f6 f8)
    isplitl [H2]; · iexact H2
    isplitl [H3]; · iexact H3
    isplitl [H4]; · iexact H4
    isplitl [H7]; · iexact H7
    isplitl [H6]; · iexact H6
    iexact H8
  · iintro %_ ⟨H2, H3, H4, H7, H6, H8⟩
    isplitl [H2]; · iexact H2
    isplitl [H3]; · iexact H3
    isplitl [H4]; · iexact H4
    isplitl [H7]; · iexact H7
    isplitl [H6]
    · iexists _; isplitl [H6]; · iexact H6
      ipureintro
      exact sum_trip Variants.none c none i arg1 harg1 arg2 harg2 arg3 harg3 arg4 harg4 arg5 harg5 arg6 harg6 arg7 harg7 arg8 harg8 x0 x1 x2 x3 X2 X3 X4 X7 k h7 h2 h3 h4 f6 f8 h6
    iexists _; isplitl [H8]; · iexact H8
    ipureintro
    exact cot_trip Variants.none c none i arg1 harg1 arg2 harg2 arg3 harg3 arg4 harg4 arg5 harg5 arg6 harg6 arg7 harg7 arg8 harg8 x0 x1 x2 x3 X2 X3 X4 X7 k h7 h2 h3 h4 f6 f8 h8

theorem step3 (X3 : BufTy.Contents (Elt F) arg3.view.ty) (X8 : BufTy.Contents (Elt F) arg8.view.ty) (h3 : arg3.view.read (Elt F) X3 = x2)
    (h8 : Cots arg8 x0 x1 x2 x3 8 X8) (E : Set ℕ) (k : Fin k0_t3_loop.trips) (acc : PUnit) :
    inv3 c arg3 arg5 arg8 x0 x1 x2 x3 X3 X8 k.1 acc ⊢ wp frame (wpE (defs₀ (F := F)) Variants.none c none) E (k0_t3_body (F := F) i arg1 harg1 arg2 harg2 arg3 harg3 arg4 harg4 arg5 harg5 arg6 harg6 arg7 harg7 arg8 harg8 k acc)
      (inv3 c arg3 arg5 arg8 x0 x1 x2 x3 X3 X8 (k.1 + 1)) := by
  iintro ⟨H3, H8, ⟨%f, HW, %h⟩⟩
  iapply (wp_wand_r frame (wpE (defs₀ (F := F)) Variants.none (c : Thread nD τ) none) E)
  isplitl [H3 H8 HW]
  · iapply ((trip_k0_t3 (F := F) Variants.none c none i arg1 harg1 arg2 harg2 arg3 harg3 arg4 harg4 arg5 harg5 arg6 harg6 arg7 harg7 arg8 harg8 X3 X8 k).2 E f)
    isplitl [H3]; · iexact H3
    isplitl [H8]; · iexact H8
    iexact HW
  · iintro %_ ⟨H3, H8, HW⟩
    isplitl [H3]; · iexact H3
    isplitl [H8]; · iexact H8
    iexists _; isplitl [HW]; · iexact HW
    ipureintro
    exact back_trip Variants.none c none i arg1 harg1 arg2 harg2 arg3 harg3 arg4 harg4 arg5 harg5 arg6 harg6 arg7 harg7 arg8 harg8 x0 x1 x2 x3 X3 k X8 h3 h8 f h

theorem zero_rows (f : BufTy.Contents (Elt F) arg7.view.ty) : Filled arg7 x0 0 (arg7.view.writes (Elt F) f
    [⟨Rect.unit (s := S2056x256) ![0, 0] S8x256.size inb_S2056x256_S8x256_0_0, k0_pay1 (F := F)⟩]) := by
  intro y hy
  obtain ⟨a, b, rfl⟩ : ∃ (a : Fin 2056) (b : Fin 256), y = ix2 a b := ⟨y 0, y 1, eq_ix2 y⟩
  have hy' : a.1 < 8 + 256 * 0 := hy
  refine read_stores _ _ _ _ _ (fun p hp x => ?_) fun hn => absurd (mem_rows (a := 0) (n := 8) rfl inb_S2056x256_S8x256_0_0 a b (by omega) (by omega)) (hn _ List.mem_cons_self)
  obtain rfl := List.mem_singleton.mp hp
  obtain ⟨r, s, rfl⟩ : ∃ (r : Fin 8) (s : Fin 256), x = ix2 r s := ⟨x 0, x 1, eq_ix2 x⟩
  rw [show (Rect.unit (s := S2056x256) ![0, 0] S8x256.size inb_S2056x256_S8x256_0_0).emb (ix2 r s) = _ from emb_rows (a := 0) rfl inb_S2056x256_S8x256_0_0 (by omega) r s]
  refine Eq.trans ?_ (dif_pos (by show 0 + r.1 < 8; omega)).symm
  exact congrArg k0_pay1 (congrArg (fun u => ix2 u s) (Fin.ext (Nat.zero_add _).symm))

theorem padD_end (a : Fin 2056) (b : Fin 256) (ha : 2048 ≤ a.1) :
    padD x0 x1 x2 x3 (ix2 a b) = k0_pay3 (ix2 ⟨a.1 - 2048, by omega⟩ b) := dif_neg (not_lt.mpr ha)

theorem zero_end (f : BufTy.Contents (Elt F) arg8.view.ty) : Cots arg8 x0 x1 x2 x3 0 (arg8.view.writes (Elt F) f
    [⟨Rect.unit (s := S2056x256) ![2048, 0] S8x256.size inb_S2056x256_S8x256_2048_0, k0_pay3 (F := F)⟩]) := by
  have key : ∀ (n : ℕ) (hn : n = 2048) (hin : ∀ a : Fin 2, (![n, 0] : Fin 2 → ℕ) a + S8x256.size a ≤ S2056x256.size a), Cots arg8 x0 x1 x2 x3 0 (arg8.view.writes (Elt F) f
    [⟨Rect.unit (s := S2056x256) ![n, 0] S8x256.size hin, k0_pay3 (F := F)⟩]) := by
    intro n hn hin y hy
    obtain ⟨a, b, rfl⟩ : ∃ (a : Fin 2056) (b : Fin 256), y = ix2 a b := ⟨y 0, y 1, eq_ix2 y⟩
    have hy' : a.1 < 256 * 0 ∨ 2048 ≤ a.1 := hy
    refine read_stores _ _ _ _ _ (fun p hp x => ?_) fun hne => absurd (mem_rows (a := n) (n := 8) rfl hin a b (by omega) (by omega)) (hne _ List.mem_cons_self)
    obtain rfl := List.mem_singleton.mp hp
    obtain ⟨r, s, rfl⟩ : ∃ (r : Fin 8) (s : Fin 256), x = ix2 r s := ⟨x 0, x 1, eq_ix2 x⟩
    rw [show (Rect.unit (s := S2056x256) ![n, 0] S8x256.size hin).emb (ix2 r s) = _ from emb_rows (a := n) rfl hin (by omega) r s]
    rw [padD_end x0 x1 x2 x3 _ s (by show 2048 ≤ n + r.1; omega)]
    exact congrArg k0_pay3 (congrArg (fun u => ix2 u s) (Fin.ext (by show r.1 = n + r.1 - 2048; omega)))
  exact key 2048 rfl inb_S2056x256_S8x256_2048_0

theorem zero_sums (f : BufTy.Contents (Elt F) arg6.view.ty) : arg6.view.read (Elt F) (arg6.view.writes (Elt F) f
    [⟨Rect.unit (s := S8x256) ![0, 0] S8x256.size inb_S8x256_S8x256_0_0, k0_pay4 (F := F)⟩]) = sumW x0 x1 x2 x3 0 := by
  funext y
  obtain ⟨a, b, rfl⟩ : ∃ (a : Fin 8) (b : Fin 256), y = ix2 a b := ⟨y 0, y 1, eq_ix2 y⟩
  refine read_stores _ _ _ _ _ (fun p hp x => ?_) fun hn => absurd (mem_rows (a := 0) (n := 8) rfl inb_S8x256_S8x256_0_0 a b (by omega) (by omega)) (hn _ List.mem_cons_self)
  obtain rfl := List.mem_singleton.mp hp
  obtain ⟨r, s, rfl⟩ : ∃ (r : Fin 8) (s : Fin 256), x = ix2 r s := ⟨x 0, x 1, eq_ix2 x⟩
  rw [show (Rect.unit (s := S8x256) ![0, 0] S8x256.size inb_S8x256_S8x256_0_0).emb (ix2 r s) = _ from emb_rows (a := 0) rfl inb_S8x256_S8x256_0_0 (by omega) r s]
  exact congrArg k0_pay4 (congrArg (fun u => ix2 u s) (Fin.ext (Nat.zero_add _).symm))

theorem no_cots (f : BufTy.Contents (Elt F) arg5.view.ty) : Backs arg5 x0 x1 x2 x3 0 f := fun y hy => absurd hy (Nat.not_lt_zero _)

/-- The body: its inputs as they were, its results the named ones, its scratch at something. -/
theorem body_run (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (outX x0 x1 x2 x3) ∗ owns (c : Thread nD τ) arg6 fullShare (sumW x0 x1 x2 x3 8)
          ∗ (∃ d, owns (c : Thread nD τ) arg7 fullShare d) ∗ (∃ d, owns (c : Thread nD τ) arg8 fullShare d)) -∗ K ⟨⟩))
      ⊢ wp frame (wpE (defs₀ (F := F)) Variants.none c none) E (cc0_ssd_conv_bwd i arg1 harg1 arg2 harg2 arg3 harg3 arg4 harg4 arg5 harg5 arg6 harg6 arg7 harg7 arg8 harg8) K := by
  simp only [cc0_ssd_conv_bwd_eq_skeleton]; unfold cc0_ssd_conv_bwd_skel
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, Hk⟩
  simp only [Prog.lift, Prog.bind_op, Prog.bind_ret]
  sl_step
  sl_step
  sl_for (inv1 c arg1 arg7 x0 f1) $$ [H1 H7]
  case region => exact step1 c i arg1 harg1 arg2 harg2 arg3 harg3 arg4 harg4 arg5 harg5 arg6 harg6 arg7 harg7 arg8 harg8 x0 f1 h1 E
  · isplitl [H1]; · iexact H1
    iexists _; isplitl [H7]; · iexact H7
    ipureintro; exact zero_rows arg7 x0 f7
  clear f7
  iintro %_ ⟨H1, %f7, H7, %h7⟩
  sl_step
  sl_step
  sl_step
  sl_step
  have h7 : Filled arg7 x0 8 f7 := h7
  sl_for (inv2 c arg2 arg3 arg4 arg6 arg7 arg8 x0 x1 x2 x3 f2 f3 f4 f7) $$ [H2 H3 H4 H7 H6 H8]
  case region => exact step2 c i arg1 harg1 arg2 harg2 arg3 harg3 arg4 harg4 arg5 harg5 arg6 harg6 arg7 harg7 arg8 harg8 x0 x1 x2 x3 f2 f3 f4 f7 h7 h2 h3 h4 E
  · isplitl [H2]; · iexact H2
    isplitl [H3]; · iexact H3
    isplitl [H4]; · iexact H4
    isplitl [H7]; · iexact H7
    isplitl [H6]
    · iexists _; isplitl [H6]; · iexact H6
      ipureintro; exact zero_sums arg6 x0 x1 x2 x3 f6
    iexists _; isplitl [H8]; · iexact H8
    ipureintro; exact zero_end arg8 x0 x1 x2 x3 f8
  clear f6 f8
  iintro %_ ⟨H2, H3, H4, H7, ⟨%f6, H6, %h6⟩, ⟨%f8, H8, %h8⟩⟩
  have h8 : Cots arg8 x0 x1 x2 x3 8 f8 := h8
  sl_for (inv3 c arg3 arg5 arg8 x0 x1 x2 x3 f3 f8) $$ [H3 H8 H5]
  case region => exact step3 c i arg1 harg1 arg2 harg2 arg3 harg3 arg4 harg4 arg5 harg5 arg6 harg6 arg7 harg7 arg8 harg8 x0 x1 x2 x3 f3 f8 h3 h8 E
  · isplitl [H3]; · iexact H3
    isplitl [H8]; · iexact H8
    iexists _; isplitl [H5]; · iexact H5
    ipureintro; exact no_cots arg5 x0 x1 x2 x3 f5
  clear f5
  iintro %_ ⟨H3, H8, %f5, H5, %h5⟩
  have h5 : Backs arg5 x0 x1 x2 x3 8 f5 := h5
  sl_step
  iapply Hk
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact funext fun y => h5 y (y 0).2
    iexact H5
  isplitl [H6]
  · iexists _; isplitr; · ipureintro; exact h6
    iexact H6
  isplitl [H7]
  · iexists _, _; isplitr; swap; · iexact H7
    ipureintro; rfl
  iexists _, _; isplitr; swap; · iexact H8
  ipureintro; rfl
end

end Cert.ConvBwd

end
-- ==== Proof.ConvBwdFrame.lean ====
/- The convolution's backward kernel as a whole: the pipeline's data, its run, the arguments kept and the two results block by block. -/
module

public import proofs.«01_k».proof.Proof.ConvBwdRun
public import proofs.«01_k».proof.Proof.Gen.Kernel3
public import Idealize.ShloMosaic.Lib.Pipeline.Value

@[expose] public section

set_option maxRecDepth 16384

noncomputable section

namespace Cert.ConvBwd

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input gradient's block of a grid point, -/
def outAt (c : Dev nD) (t : Fin cfg0.N) : Vec F S2048x256 .bf16 := outX (iblk m c 0 t) (iblk m c 1 t) (iblk m c 2 t) (iblk m c 3 t)

/-- and its block of the weights' and the bias's gradients. -/
def sumAt (c : Dev nD) (t : Fin cfg0.N) : Vec F S8x256 .f32 := sumW (iblk m c 0 t) (iblk m c 1 t) (iblk m c 2 t) (iblk m c 3 t) 8

/-- What each buffer of the pipeline holds after a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => sumAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]
theorem after_5 (c : Dev nD) (t : Fin cfg0.N) : (dats m 0 c).after 5 t = sumAt m c t := by dsimp only [dats]

/-- The body's contract at a grid point. -/
theorem body_point (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t))) := by
  unfold bodyAt0
  simp only [before0_0_of m (dats m 0 c) (A_eq m c 0) (after_0 m c) t, before0_1_of m (dats m 0 c) (A_eq m c 1) (after_1 m c) t,
    before0_2_of m (dats m 0 c) (A_eq m c 2) (after_2 m c) t, before0_3_of m (dats m 0 c) (A_eq m c 3) (after_3 m c) t]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, PhiA0_eq]
  unfold outAt sumAt
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_point m c t) rfl .rfl fun _ => .rfl

set_option backward.isDefEq.respectTransparency.types false in
/-- Every run ends, with the arrays the data name and no semaphore held up. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_all m ρ)

/-- The frame: the arguments end as they began and every counter at zero. -/
theorem frame_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ)) ((θ_run defs _ _).mono (fun _ h => h.2) (run_all m ρ))

/-! ## The results, block by block -/

theorem apart4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne
    ((by decide +kernel : ∀ t t' : Fin grid0.N, win0_4.index t = win0_4.index t' → t = t') t t' h)

theorem apart5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne
    ((by decide +kernel : ∀ t t' : Fin grid0.N, win0_5.index t = win0_5.index t' → t = t') t t' h)

theorem block4 (c : Dev nD) (t : Fin cfg0.N) (hf : (cfg0.win 4).flush t = true) :
    ((cfg0.win 4).blk t).view.read (Elt F) ((dats m 0 c).arrAt 4 cfg0.N) = (cfg0.win 4).cut (grid0.coords t) (outAt m c t) := by
  rw [(dats m 0 c).read_blk_arrAt_eq_flushed 4 apart4 cfg0.N t t.isLt hf]
  show (cfg0.win 4).cut (grid0.coords t) ((dats m 0 c).after 4 t) = _
  rw [after_4]

theorem block5 (c : Dev nD) (t : Fin cfg0.N) (hf : (cfg0.win 5).flush t = true) :
    ((cfg0.win 5).blk t).view.read (Elt F) ((dats m 0 c).arrAt 5 cfg0.N) = (cfg0.win 5).cut (grid0.coords t) (sumAt m c t) := by
  rw [(dats m 0 c).read_blk_arrAt_eq_flushed 5 apart5 cfg0.N t t.isLt hf]
  show (cfg0.win 5).cut (grid0.coords t) ((dats m 0 c).after 5 t) = _
  rw [after_5]

/-- The two results after a run. -/
theorem run_results : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N :=
  (θ_run defs _ _).mono (fun r h c => ⟨(h c).1 4, (h c).1 5⟩) (run_arrays m ρ)

/-! ## The printed kernel before idealization: the same program, its calls one by one the same -/

theorem calls_eq : @Cert.Kernel3.defs₀ Bits _ _ = @Cert.Kernel3Ideal.defs₀ Bits _ _ :=
  congrArg Defs.onTc (funext fun l => funext fun a => by
    match l, a with
    | ⟨0, _⟩, (t, s) => rfl
    | ⟨n + 1, h⟩, _ => exact absurd h (Nat.not_lt.2 (Nat.le_add_left _ _)))

theorem defs_eq : @Cert.Kernel3.defs Bits _ _ = @Cert.Kernel3Ideal.defs Bits _ _ := congrArg (Pipeline.defs _) calls_eq

end Cert.ConvBwd

namespace Cert.ConvBwd

open Cert.Kernel3 Idealize.ShloMosaic Idealize.ShloMosaic.TcCoe Idealize.SL.Sem

/-- The kernel's frame. -/
theorem frame_printed (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact frame_kept (F := Bits) m ρ

end Cert.ConvBwd

end
-- ==== Proof.ConvBwdMath.lean ====
/- The causal convolution of four taps followed by `silu`, and the gradients of its input, its weights and its bias, over the reals. -/
module

public import proofs.«01_k».proof.Proof.Real

@[expose] public section

noncomputable section

namespace Cert.ConvBwd

open Idealize.ShloMosaic Cert.Reals

/-- A matrix of reals as an array. -/
abbrev Mat {a b : ℕ} (V : Fin a → Fin b → ℝ) : (⟨2, ![a, b]⟩ : Shape).Idx → EReal := fun i => ((V (i 0) (i 1) : ℝ) : EReal)

theorem Mat_ix2 {a b : ℕ} (V : Fin a → Fin b → ℝ) (i : Fin a) (j : Fin b) : Mat V (ix2 i j) = ((V i j : ℝ) : EReal) := rfl

section
variable {C : ℕ} (x d : Fin 2048 → Fin C → ℝ) (w : Fin 4 → Fin C → ℝ) (b : Fin C → ℝ)

/-- The input after three rows of zeros. -/
def lead (r : ℕ) (j : Fin C) : ℝ := if h : 3 ≤ r ∧ r < 2051 then x ⟨r - 3, by omega⟩ j else 0

/-- The convolution, -/
def pre (s : ℕ) (j : Fin C) : ℝ := w 0 j * lead x s j + w 1 j * lead x (s + 1) j + w 2 j * lead x (s + 2) j + w 3 j * lead x (s + 3) j + b j

/-- the sigmoid, -/
def sg (p : ℝ) : ℝ := (1 + Real.exp (-p))⁻¹

/-- the slope of `silu`, -/
def gain (p : ℝ) : ℝ := sg p * (1 + p * (1 - sg p))

/-- a matrix with rows of zeros after it, -/
def past (s : ℕ) (j : Fin C) : ℝ := if h : s < 2048 then x ⟨s, h⟩ j else 0

/-- the convolution's cotangent, with rows of zeros after it, -/
def dpre (s : ℕ) (j : Fin C) : ℝ := past (fun t j => d t j * gain (pre x w b t j)) s j

/-- the input's gradient, -/
def dx (s : Fin 2048) (j : Fin C) : ℝ :=
  w 3 j * dpre x d w b s j + w 2 j * dpre x d w b (s + 1) j + w 1 j * dpre x d w b (s + 2) j + w 0 j * dpre x d w b (s + 3) j

/-- a weight's, -/
def dw (k : Fin 4) (j : Fin C) : ℝ := ∑ s : Fin 2048, dpre x d w b s j * lead x (s + k) j

/-- the bias's, -/
def db (j : Fin C) : ℝ := ∑ s : Fin 2048, dpre x d w b s j

/-- and the last two in one array of eight rows. -/
def dwb (i : Fin 8) (j : Fin C) : ℝ := if h : i.1 < 4 then dw x d w b ⟨i.1, h⟩ j else if i.1 = 4 then db x d w b j else 0
end

end Cert.ConvBwd

end
-- ==== Proof.ConvBwdVal.lean ====
/- The blocks the convolution's backward kernel leaves, at real arrays. -/
module

public import proofs.«01_k».proof.Proof.ConvBwdLoops
public import proofs.«01_k».proof.Proof.ConvBwdMath
public import Idealize.ShloMosaic.Lib.Pointwise

@[expose] public section

set_option maxRecDepth 16384

noncomputable section

namespace Cert.ConvBwd

open Idealize.ShloMosaic Idealize.ShloMosaic.TcCoe Idealize.SL.Sem
open Cert.ConvRows Cert.Kernel3Ideal Cert.Kernel3Ideal.Gen Cert.Reals

/-! ## One trip -/

section
variable (W : Fin 264 → Fin 256 → ℝ) (v0 v1 v2 v3 b u : Fin 256 → ℝ) (G S : Fin 256 → Fin 256 → ℝ)

theorem row_at {r r' : Fin 264} (j : Fin 256) (h : r.1 = r'.1) : W r j = W r' j := congrArg (fun t => W t j) (Fin.ext h)

/-- The convolution on the rows of a window. -/
def taps (r j : Fin 256) : ℝ :=
  v0 j * W ⟨r + 5, by omega⟩ j + v1 j * W ⟨r + 6, by omega⟩ j + v2 j * W ⟨r + 7, by omega⟩ j + v3 j * W ⟨r + 8, by omega⟩ j + b j

theorem pay8_real : k0_pay8 (F := Ideal) (Mat W) (Mat fun _ => v3) (Mat fun _ => v0) (Mat fun _ => v1) (Mat fun _ => v2) (Mat fun _ => b) = Mat (taps W v0 v1 v2 v3 b) := by
  funext y
  obtain ⟨r, j, rfl⟩ : ∃ (r : Fin 256) (j : Fin 256), y = ix2 r j := ⟨y 0, y 1, eq_ix2 y⟩
  unfold k0_pay8
  pointwise
  simp only [Mat_ix2, mul_coe, add_coe]
  refine congrArg (fun x : ℝ => (x : EReal)) ?_
  unfold taps
  rw [row_at W (r' := ⟨r + 8, by omega⟩) j (by dsimp only; omega), row_at W (r := ⟨(8 + r.1 + 264 - 3) % 264, _⟩) (r' := ⟨r + 5, by omega⟩) j (by dsimp only; omega),
    row_at W (r := ⟨(8 + r.1 + 264 - 2) % 264, _⟩) (r' := ⟨r + 6, by omega⟩) j (by dsimp only; omega),
    row_at W (r := ⟨(8 + r.1 + 264 - 1) % 264, _⟩) (r' := ⟨r + 7, by omega⟩) j (by dsimp only; omega)]
  ring

theorem pay7_real : k0_pay7 (F := Ideal) (Mat W) (Mat fun _ => v3) (Mat fun _ => v0) (Mat fun _ => v1) (Mat fun _ => v2)
    = Mat fun (r : Fin 256) j => v3 j * W ⟨r, by omega⟩ j + v2 j * W ⟨r + 1, by omega⟩ j + v1 j * W ⟨r + 2, by omega⟩ j + v0 j * W ⟨r + 3, by omega⟩ j := by
  funext y
  obtain ⟨r, j, rfl⟩ : ∃ (r : Fin 256) (j : Fin 256), y = ix2 r j := ⟨y 0, y 1, eq_ix2 y⟩
  unfold k0_pay7
  pointwise
  simp only [Mat_ix2, mul_coe, add_coe]
  refine congrArg (fun x : ℝ => (x : EReal)) ?_
  rw [row_at W (r := ⟨(r.1 + 264 - 261) % 264, _⟩) (r' := ⟨r + 3, by omega⟩) j (by dsimp only; omega),
    row_at W (r := ⟨(r.1 + 264 - 262) % 264, _⟩) (r' := ⟨r + 2, by omega⟩) j (by dsimp only; omega),
    row_at W (r := ⟨(r.1 + 264 - 263) % 264, _⟩) (r' := ⟨r + 1, by omega⟩) j (by dsimp only; omega)]
  ring

theorem pay10_real : k0_pay10 (F := Ideal) (Mat W) (Mat fun _ => v3) (Mat fun _ => v0) (Mat fun _ => v1) (Mat fun _ => v2) (Mat fun _ => b) (Mat G)
    = Mat fun r j => G r j * sg (taps W v0 v1 v2 v3 b r j) := by
  funext y
  obtain ⟨r, j, rfl⟩ : ∃ (r : Fin 256) (j : Fin 256), y = ix2 r j := ⟨y 0, y 1, eq_ix2 y⟩
  unfold k0_pay10 k0_pay9
  dsimp only
  rw [pay8_real]
  pointwise
  simp only [Mat_ix2, Ideal.logistic_coe, mul_coe]
  rfl

theorem pay11_real : k0_pay11 (F := Ideal) (Mat W) (Mat fun _ => v3) (Mat fun _ => v0) (Mat fun _ => v1) (Mat fun _ => v2) (Mat fun _ => b)
    = Mat fun r j => taps W v0 v1 v2 v3 b r j * (1 - sg (taps W v0 v1 v2 v3 b r j)) := by
  funext y
  obtain ⟨r, j, rfl⟩ : ∃ (r : Fin 256) (j : Fin 256), y = ix2 r j := ⟨y 0, y 1, eq_ix2 y⟩
  unfold k0_pay11 k0_pay9
  dsimp only
  rw [pay8_real]
  pointwise
  rw [show (1 : EReal) = ((1 : ℝ) : EReal) from rfl]
  simp only [Mat_ix2, Ideal.logistic_coe, sub_coe, mul_coe]
  rfl

theorem pay13_real : k0_pay13 (F := Ideal) (Mat G) (Mat S) k0_pay12 = Mat fun r j => G r j * (1 + S r j) := by
  funext y
  obtain ⟨r, j, rfl⟩ : ∃ (r : Fin 256) (j : Fin 256), y = ix2 r j := ⟨y 0, y 1, eq_ix2 y⟩
  unfold k0_pay13 k0_pay12
  pointwise
  rw [show (1 : EReal) = ((1 : ℝ) : EReal) from rfl]
  simp only [Mat_ix2, add_coe, mul_coe]

variable (Q : Fin 256 → Fin 256 → ℝ) (hQ : k0_pay13 (F := Ideal) (Mat G) (Mat S) k0_pay12 = Mat Q)

include hQ in
theorem pay15_real : k0_pay15 (F := Ideal) (Mat W) (Mat G) (Mat S) k0_pay12 (Mat fun _ => u)
    = Mat fun (_ : Fin 1) j => u j + ∑ r : Fin 256, Q r j * W ⟨r + 5, by omega⟩ j := by
  funext y
  obtain ⟨r, j, rfl⟩ : ∃ (r : Fin 1) (j : Fin 256), y = ix2 r j := ⟨y 0, y 1, eq_ix2 y⟩
  unfold k0_pay15
  dsimp only
  rw [hQ]
  pointwise
  simp only [Mat_ix2, mul_coe, sum_coe, add_coe]
  exact congrArg (fun x : ℝ => ((u j + x : ℝ) : EReal)) (Finset.sum_congr rfl fun x _ => by
    rw [row_at W (r := ⟨(8 + x.1 + 264 - 3) % 264, _⟩) (r' := ⟨x + 5, by omega⟩) j (by dsimp only; omega)])

include hQ in
theorem pay16_real : k0_pay16 (F := Ideal) (Mat W) (Mat G) (Mat S) k0_pay12 (Mat fun _ => u)
    = Mat fun (_ : Fin 1) j => u j + ∑ r : Fin 256, Q r j * W ⟨r + 6, by omega⟩ j := by
  funext y
  obtain ⟨r, j, rfl⟩ : ∃ (r : Fin 1) (j : Fin 256), y = ix2 r j := ⟨y 0, y 1, eq_ix2 y⟩
  unfold k0_pay16
  dsimp only
  rw [hQ]
  pointwise
  simp only [Mat_ix2, mul_coe, sum_coe, add_coe]
  exact congrArg (fun x : ℝ => ((u j + x : ℝ) : EReal)) (Finset.sum_congr rfl fun x _ => by
    rw [row_at W (r := ⟨(8 + x.1 + 264 - 2) % 264, _⟩) (r' := ⟨x + 6, by omega⟩) j (by dsimp only; omega)])

include hQ in
theorem pay17_real : k0_pay17 (F := Ideal) (Mat W) (Mat G) (Mat S) k0_pay12 (Mat fun _ => u)
    = Mat fun (_ : Fin 1) j => u j + ∑ r : Fin 256, Q r j * W ⟨r + 7, by omega⟩ j := by
  funext y
  obtain ⟨r, j, rfl⟩ : ∃ (r : Fin 1) (j : Fin 256), y = ix2 r j := ⟨y 0, y 1, eq_ix2 y⟩
  unfold k0_pay17
  dsimp only
  rw [hQ]
  pointwise
  simp only [Mat_ix2, mul_coe, sum_coe, add_coe]
  exact congrArg (fun x : ℝ => ((u j + x : ℝ) : EReal)) (Finset.sum_congr rfl fun x _ => by
    rw [row_at W (r := ⟨(8 + x.1 + 264 - 1) % 264, _⟩) (r' := ⟨x + 7, by omega⟩) j (by dsimp only; omega)])

theorem pay5_real : k0_pay5 (F := Ideal) (Mat W) (Mat Q) (k0_pay18 (Mat fun _ => u))
    = Mat fun (_ : Fin 1) j => u j + ∑ r : Fin 256, Q r j * W ⟨r + 8, by omega⟩ j := by
  funext y
  obtain ⟨r, j, rfl⟩ : ∃ (r : Fin 1) (j : Fin 256), y = ix2 r j := ⟨y 0, y 1, eq_ix2 y⟩
  unfold k0_pay5 k0_pay18
  pointwise
  simp only [Mat_ix2, mul_coe, sum_coe, add_coe]
  exact congrArg (fun x : ℝ => ((u j + x : ℝ) : EReal)) (Finset.sum_congr rfl fun x _ => by
    rw [row_at W (r' := ⟨x + 8, by omega⟩) j (by dsimp only; omega)])

theorem pay6_real : k0_pay6 (F := Ideal) (Mat Q) (Mat fun _ => u) = Mat fun (_ : Fin 1) j => u j + ∑ r : Fin 256, Q r j := by
  funext y
  obtain ⟨r, j, rfl⟩ : ∃ (r : Fin 1) (j : Fin 256), y = ix2 r j := ⟨y 0, y 1, eq_ix2 y⟩
  unfold k0_pay6
  pointwise
  simp only [Mat_ix2, sum_coe, add_coe]
end

/-! ## All trips -/

section
variable (x d : Fin 2048 → Fin 256 → ℝ) (w : Fin 4 → Fin 256 → ℝ) (b : Fin 256 → ℝ)

/-- The weights before four rows of zeros. -/
def pad8 {C : ℕ} (w : Fin 4 → Fin C → ℝ) (i : Fin 8) (j : Fin C) : ℝ := if h : i.1 < 4 then w ⟨i, h⟩ j else 0

theorem padX_real : padX (F := Ideal) (Mat x) = Mat fun (r : Fin 2056) j => lead x (r - 5) j := by
  funext y
  obtain ⟨r, j, rfl⟩ : ∃ (r : Fin 2056) (j : Fin 256), y = ix2 r j := ⟨y 0, y 1, eq_ix2 y⟩
  show padX (F := Ideal) (Mat x) (ix2 r j) = ((lead x (r - 5) j : ℝ) : EReal)
  unfold padX lead
  by_cases h : r.1 < 8
  · refine (dif_pos (show ((ix2 r j : (⟨2, ![2056, 256]⟩ : Shape).Idx) 0).1 < 8 from h)).trans ?_
    rw [dif_neg (by omega)]
    unfold k0_pay1
    pointwise
    rfl
  · refine (dif_neg (show ¬((ix2 r j : (⟨2, ![2056, 256]⟩ : Shape).Idx) 0).1 < 8 from h)).trans ?_
    rw [dif_pos (by omega)]
    exact congrArg (fun t => ((x t j : ℝ) : EReal)) (Fin.ext (show r.1 - 8 = r.1 - 5 - 3 by omega))

theorem winX_real (k : ℕ) (hk : k < 8) : winX (F := Ideal) (Mat x) k hk = Mat fun (r : Fin 264) j => lead x (256 * k + r - 5) j := by
  unfold winX
  rw [padX_real]
  rfl

theorem row_real {N : ℕ} (V : Fin N → Fin 256 → ℝ) (a : ℕ) (h : a + 1 ≤ N) : rowsAt 1 a h (Mat V) = Mat fun _ => V ⟨a, h⟩ := by
  funext y
  obtain ⟨r, j, rfl⟩ : ∃ (r : Fin 1) (j : Fin 256), y = ix2 r j := ⟨y 0, y 1, eq_ix2 y⟩
  obtain rfl := Fin.fin_one_eq_zero r
  rfl

theorem taps_real (k : ℕ) (hk : k < 8) (r j : Fin 256) :
    taps (fun (r : Fin 264) j => lead x (256 * k + r - 5) j) (w 0) (w 1) (w 2) (w 3) b r j = pre x w b (256 * k + r) j := by
  unfold taps pre
  dsimp only
  rw [show 256 * k + (r.1 + 5) - 5 = 256 * k + r.1 by omega, show 256 * k + (r.1 + 6) - 5 = 256 * k + r.1 + 1 by omega,
    show 256 * k + (r.1 + 7) - 5 = 256 * k + r.1 + 2 by omega, show 256 * k + (r.1 + 8) - 5 = 256 * k + r.1 + 3 by omega]

theorem gate_real (k : ℕ) (hk : k < 8) : gate (F := Ideal) (Mat x) (Mat d) (Mat (pad8 w)) (Mat fun _ => b) k hk
    = Mat fun (r : Fin 256) j => d ⟨256 * k + r, by omega⟩ j * sg (pre x w b (256 * k + r) j) := by
  unfold gate
  rw [winX_real, row_real, row_real, row_real, row_real, row_real]
  refine (pay10_real _ (w 0) (w 1) (w 2) (w 3) b fun r j => d ⟨256 * k + r, by omega⟩ j).trans ?_
  simp only [taps_real x w b k hk]

theorem slope_real (k : ℕ) (hk : k < 8) : slope (F := Ideal) (Mat x) (Mat (pad8 w)) (Mat fun _ => b) k hk
    = Mat fun (r : Fin 256) j => pre x w b (256 * k + r) j * (1 - sg (pre x w b (256 * k + r) j)) := by
  unfold slope
  rw [winX_real, row_real, row_real, row_real, row_real, row_real]
  refine (pay11_real _ (w 0) (w 1) (w 2) (w 3) b).trans ?_
  simp only [taps_real x w b k hk]

theorem cot_at (k : ℕ) (hk : k < 8) : k0_pay13 (F := Ideal) (Mat fun (r : Fin 256) j => d ⟨256 * k + r, by omega⟩ j * sg (pre x w b (256 * k + r) j))
      (Mat fun (r : Fin 256) j => pre x w b (256 * k + r) j * (1 - sg (pre x w b (256 * k + r) j))) k0_pay12
    = Mat fun (r : Fin 256) j => dpre x d w b (256 * k + r) j := by
  rw [pay13_real]
  funext y
  obtain ⟨r, j, rfl⟩ : ∃ (r : Fin 256) (j : Fin 256), y = ix2 r j := ⟨y 0, y 1, eq_ix2 y⟩
  refine congrArg (fun x : ℝ => (x : EReal)) ?_
  show d ⟨256 * k + r, by omega⟩ j * sg (pre x w b (256 * k + r) j) * (1 + pre x w b (256 * k + r) j * (1 - sg (pre x w b (256 * k + r) j))) = dpre x d w b (256 * k + r) j
  unfold dpre past gain
  rw [dif_pos (by omega), mul_assoc]

theorem cot_real (k : ℕ) (hk : k < 8) : cot (F := Ideal) (Mat x) (Mat d) (Mat (pad8 w)) (Mat fun _ => b) k hk
    = Mat fun (r : Fin 256) j => dpre x d w b (256 * k + r) j := by
  unfold cot
  rw [gate_real, slope_real, cot_at x d w b k hk]

theorem padD_real : padD (F := Ideal) (Mat x) (Mat d) (Mat (pad8 w)) (Mat fun _ => b) = Mat fun (r : Fin 2056) j => dpre x d w b r j := by
  funext y
  obtain ⟨r, j, rfl⟩ : ∃ (r : Fin 2056) (j : Fin 256), y = ix2 r j := ⟨y 0, y 1, eq_ix2 y⟩
  show padD (F := Ideal) (Mat x) (Mat d) (Mat (pad8 w)) (Mat fun _ => b) (ix2 r j) = ((dpre x d w b r j : ℝ) : EReal)
  unfold padD
  by_cases h : r.1 < 2048
  · refine (dif_pos (show ((ix2 r j : (⟨2, ![2056, 256]⟩ : Shape).Idx) 0).1 < 2048 from h)).trans ?_
    rw [cot_real]
    exact congrArg (fun t => ((dpre x d w b t j : ℝ) : EReal)) (show 256 * (r.1 / 256) + r.1 % 256 = r.1 by omega)
  · refine (dif_neg (show ¬((ix2 r j : (⟨2, ![2056, 256]⟩ : Shape).Idx) 0).1 < 2048 from h)).trans ?_
    unfold dpre past
    rw [dif_neg h]
    unfold k0_pay3
    pointwise
    rfl

/-- The input's gradient. -/
theorem outX_real : outX (F := Ideal) (Mat x) (Mat d) (Mat (pad8 w)) (Mat fun _ => b) = Mat fun s j => dx x d w b s j := by
  funext y
  obtain ⟨r, j, rfl⟩ : ∃ (r : Fin 2048) (j : Fin 256), y = ix2 r j := ⟨y 0, y 1, eq_ix2 y⟩
  unfold outX back
  rw [padD_real, row_real, row_real, row_real, row_real]
  refine (congrFun (pay7_real (fun (i : Fin 264) j => dpre x d w b (256 * (r.1 / 256) + i) j) (w 0) (w 1) (w 2) (w 3)) _).trans ?_
  refine congrArg (fun x : ℝ => (x : EReal)) ?_
  show w 3 j * dpre x d w b (256 * (r.1 / 256) + r.1 % 256) j + w 2 j * dpre x d w b (256 * (r.1 / 256) + (r.1 % 256 + 1)) j
    + w 1 j * dpre x d w b (256 * (r.1 / 256) + (r.1 % 256 + 2)) j + w 0 j * dpre x d w b (256 * (r.1 / 256) + (r.1 % 256 + 3)) j = dx x d w b r j
  unfold dx
  rw [show 256 * (r.1 / 256) + r.1 % 256 = r.1 by omega, show 256 * (r.1 / 256) + (r.1 % 256 + 1) = r.1 + 1 by omega,
    show 256 * (r.1 / 256) + (r.1 % 256 + 2) = r.1 + 2 by omega, show 256 * (r.1 / 256) + (r.1 % 256 + 3) = r.1 + 3 by omega]

/-- A row's part of the gradients of the weights and the bias. -/
def part (i : Fin 8) (j : Fin 256) (s : ℕ) : ℝ :=
  if i.1 < 4 then dpre x d w b s j * lead x (s + i) j else if i.1 = 4 then dpre x d w b s j else 0

theorem addW_real (k : ℕ) (hk : k < 8) (A : Fin 8 → Fin 256 → ℝ) : addW (F := Ideal) (Mat x) (Mat d) (Mat (pad8 w)) (Mat fun _ => b) k hk (Mat A)
    = Mat fun i j => A i j + ∑ r : Fin 256, part x d w b i j (256 * k + r) := by
  funext y
  obtain ⟨i, j, rfl⟩ : ∃ (r : Fin 8) (j : Fin 256), y = ix2 r j := ⟨y 0, y 1, eq_ix2 y⟩
  unfold addW
  rw [gate_real, slope_real, cot_real, winX_real, row_real, row_real, row_real, row_real, row_real]
  rw [pay15_real _ _ _ _ _ (cot_at x d w b k hk), pay16_real _ _ _ _ _ (cot_at x d w b k hk), pay17_real _ _ _ _ _ (cot_at x d w b k hk), pay5_real, pay6_real]
  dsimp only [Mat]
  have e5 : ∀ r : Fin 256, 256 * k + (r.1 + 5) - 5 = 256 * k + r.1 := fun r => by omega
  have e6 : ∀ r : Fin 256, 256 * k + (r.1 + 6) - 5 = 256 * k + r.1 + 1 := fun r => by omega
  have e7 : ∀ r : Fin 256, 256 * k + (r.1 + 7) - 5 = 256 * k + r.1 + 2 := fun r => by omega
  have e8 : ∀ r : Fin 256, 256 * k + (r.1 + 8) - 5 = 256 * k + r.1 + 3 := fun r => by omega
  fin_cases i <;> simp [part, e5, e6, e7, e8]

theorem sumW_real (k : ℕ) (hk : k ≤ 8) : sumW (F := Ideal) (Mat x) (Mat d) (Mat (pad8 w)) (Mat fun _ => b) k
    = Mat fun i j => ∑ s ∈ Finset.range (256 * k), part x d w b i j s := by
  induction k with
  | zero =>
    funext y
    obtain ⟨i, j, rfl⟩ : ∃ (r : Fin 8) (j : Fin 256), y = ix2 r j := ⟨y 0, y 1, eq_ix2 y⟩
    unfold sumW k0_pay4
    pointwise
    rfl
  | succ k ih =>
    rw [sumW_succ _ _ _ _ k (by omega), ih (by omega), addW_real]
    funext y
    obtain ⟨i, j, rfl⟩ : ∃ (r : Fin 8) (j : Fin 256), y = ix2 r j := ⟨y 0, y 1, eq_ix2 y⟩
    refine congrArg (fun x : ℝ => (x : EReal)) ?_
    show ∑ s ∈ Finset.range (256 * k), part x d w b i j s + ∑ r : Fin 256, part x d w b i j (256 * k + r) = ∑ s ∈ Finset.range (256 * (k + 1)), part x d w b i j s
    rw [show 256 * (k + 1) = 256 * k + 256 by ring, Finset.sum_range_add, Finset.sum_range fun n => part x d w b i j (256 * k + n)]

/-- The gradients of the weights and of the bias. -/
theorem sums_all : sumW (F := Ideal) (Mat x) (Mat d) (Mat (pad8 w)) (Mat fun _ => b) 8 = Mat fun i j => dwb x d w b i j := by
  rw [sumW_real x d w b 8 (le_refl 8)]
  funext y
  obtain ⟨i, j, rfl⟩ : ∃ (r : Fin 8) (j : Fin 256), y = ix2 r j := ⟨y 0, y 1, eq_ix2 y⟩
  refine congrArg (fun x : ℝ => (x : EReal)) ?_
  show ∑ s ∈ Finset.range (256 * 8), part x d w b i j s = dwb x d w b i j
  rw [Finset.sum_range]
  unfold part dwb dw db
  by_cases h : i.1 < 4
  · rw [dif_pos h]; simp only [if_pos h]
  · rw [dif_neg h]; simp only [if_neg h]
    by_cases h' : i.1 = 4
    · simp only [if_pos h']
    · simp only [if_neg h', Finset.sum_const_zero]
end

end Cert.ConvBwd

end
-- ==== Proof.ConvBwdRef.lean ====
/- The convolution's gradients as the reference computes them, at real arrays. -/
module

public import proofs.«01_k».proof.Proof.ConvBwdMath
public import proofs.«01_k».proof.Proof.Gen.Reference3Ideal.Run
public import Idealize.ShloMosaic.Lib.Pipeline.ReadBack
public import Idealize.ShloMosaic.Lib.Pointwise

@[expose] public section

set_option maxRecDepth 16384

noncomputable section

namespace Cert.ConvBwd.Ref

open Cert.Reference3Ideal Cert.Reference3Ideal.Gen Cert.Reference3Ideal.Value Cert.Reals Idealize.ShloMosaic Idealize.ShloMosaic.TcCoe Idealize.SL.Sem

variable {F : FTy → Type} [FloatOps F] (a0 : Vec F S2048x5632 .f32) (a1 : Vec F S2048x2048 .f32) (a2 : Vec F S4x2048 .f32) (a3 : Vec F S1x2048 .f32)

/-- Zero and one. -/
def zero : FVec F S_ .f32 := constant S_ .f32 0x00000000#32
def one : FVec F S2048x2048 .f32 := broadcastInDim S2048x2048 ![] bcast_S_S2048x2048 (constant (F := F) S_ .f32 0x3F800000#32)
def zeros3 : FVec F S3x2048 .f32 := broadcastInDim S3x2048 ![] bcast_S_S3x2048 (constant (F := F) S_ .f32 0x00000000#32)

/-- The input after three rows of zeros, -/
def xp : FVec F S2051x2048 .f32 :=
  concatenate S2051x2048 0 [⟨S3x2048, zeros3⟩, ⟨S2048x2048, (extractStridedSlice S2048x2048 ![0, 3072] a0 slices_S2048x5632_S2048x2048_0_3072)⟩] concatenates_S3x2048_S2048x2048_S2051x2048_d0

/-- its four windows, -/
def x0 : FVec F S2048x2048 .f32 := extractStridedSlice S2048x2048 ![0, 0] (xp a0) slices_S2051x2048_S2048x2048_0_0
def x1 : FVec F S2048x2048 .f32 := extractStridedSlice S2048x2048 ![1, 0] (xp a0) slices_S2051x2048_S2048x2048_1_0
def x2 : FVec F S2048x2048 .f32 := extractStridedSlice S2048x2048 ![2, 0] (xp a0) slices_S2051x2048_S2048x2048_2_0
def x3 : FVec F S2048x2048 .f32 := extractStridedSlice S2048x2048 ![3, 0] (xp a0) slices_S2051x2048_S2048x2048_3_0

/-- the four weights on every row, -/
def w0 : FVec F S2048x2048 .f32 := broadcastInDim S2048x2048 ![0, 1] bcast_S1x2048_S2048x2048_0_1 (extractStridedSlice S1x2048 ![0, 0] a2 slices_S4x2048_S1x2048_0_0)
def w1 : FVec F S2048x2048 .f32 := broadcastInDim S2048x2048 ![0, 1] bcast_S1x2048_S2048x2048_0_1 (extractStridedSlice S1x2048 ![1, 0] a2 slices_S4x2048_S1x2048_1_0)
def w2 : FVec F S2048x2048 .f32 := broadcastInDim S2048x2048 ![0, 1] bcast_S1x2048_S2048x2048_0_1 (extractStridedSlice S1x2048 ![2, 0] a2 slices_S4x2048_S1x2048_2_0)
def w3 : FVec F S2048x2048 .f32 := broadcastInDim S2048x2048 ![0, 1] bcast_S1x2048_S2048x2048_0_1 (extractStridedSlice S1x2048 ![3, 0] a2 slices_S4x2048_S1x2048_3_0)

/-- the convolution, -/
def conv : FVec F S2048x2048 .f32 :=
  addf (addf (addf (addf (mulf (w0 a2) (x0 a0)) (mulf (w1 a2) (x1 a0))) (mulf (w2 a2) (x2 a0))) (mulf (w3 a2) (x3 a0)))
    (broadcastInDim S2048x2048 ![0, 1] bcast_S1x2048_S2048x2048_0_1 a3)

/-- the sigmoid and the cotangent. -/
def sigm (p : FVec F S2048x2048 .f32) : FVec F S2048x2048 .f32 := Host.divf one (addf one (Host.exp (Host.negf p)))
def cotan (p d : FVec F S2048x2048 .f32) : FVec F S2048x2048 .f32 := addf (mulf d (sigm p)) (mulf (mulf p d) (mulf (sigm p) (subf one (sigm p))))

/-- The gradient of the input from the cotangent `g`, -/
def dxA (g : FVec F S2048x2048 .f32) : FVec F S2048x2048 .bf16 :=
  truncf .bf16 (extractStridedSlice S2048x2048 ![3, 0] (addf (addf (addf (pad S2051x2048 ![3, 0] ![0, 0] ![0, 0] (mulf (w3 a2) g) zero pads_S2048x2048_S2051x2048_300_000 h_S_)
    (pad S2051x2048 ![2, 0] ![1, 0] ![0, 0] (mulf (w2 a2) g) zero pads_S2048x2048_S2051x2048_210_000 h_S_)) (pad S2051x2048 ![1, 0] ![2, 0] ![0, 0] (mulf (w1 a2) g) zero pads_S2048x2048_S2051x2048_120_000 h_S_))
    (pad S2051x2048 ![0, 0] ![3, 0] ![0, 0] (mulf (w0 a2) g) zero pads_S2048x2048_S2051x2048_030_000 h_S_)) slices_S2051x2048_S2048x2048_3_0) bitsLt_bf16_f32

/-- a row of column sums, -/
def sums (v : FVec F S2048x2048 .f32) : FVec F S1x2048 .f32 := shapeCast _ (Host.reduceAdd v zero reducesTo_S2048x2048_S2048_d0 h_S_) shapeCasts_S2048_S1x2048

/-- the gradient of the weights, -/
def dwA (g : FVec F S2048x2048 .f32) : FVec F S4x2048 .f32 :=
  addf (addf (addf (pad S4x2048 ![3, 0] ![0, 0] ![0, 0] (sums (mulf g (x3 a0))) zero pads_S1x2048_S4x2048_300_000 h_S_)
    (pad S4x2048 ![2, 0] ![1, 0] ![0, 0] (sums (mulf g (x2 a0))) zero pads_S1x2048_S4x2048_210_000 h_S_))
    (pad S4x2048 ![1, 0] ![2, 0] ![0, 0] (sums (mulf g (x1 a0))) zero pads_S1x2048_S4x2048_120_000 h_S_))
    (pad S4x2048 ![0, 0] ![3, 0] ![0, 0] (sums (mulf g (x0 a0))) zero pads_S1x2048_S4x2048_030_000 h_S_)

/-- and the three in one array. -/
def dwbA (g : FVec F S2048x2048 .f32) : FVec F S8x2048 .f32 :=
  concatenate S8x2048 0 [⟨S4x2048, dwA a0 g⟩, ⟨S1x2048, sums g⟩, ⟨S3x2048, zeros3⟩] concatenates_S4x2048_S1x2048_S3x2048_S8x2048_d0

section
variable (m : (ℓ : Loc nD τ sig) → Buf (Elt F) ℓ) (c : Dev nD)

theorem dx_named : res_main_v65 (F := F) m c = dxA (m ((c.tc : Thread nD τ).loc main_arg2)) (cotan (conv (m ((c.tc : Thread nD τ).loc main_arg0)) (m ((c.tc : Thread nD τ).loc main_arg2)) (m ((c.tc : Thread nD τ).loc main_arg3))) (m ((c.tc : Thread nD τ).loc main_arg1))) := rfl

theorem dwb_named : res_main_v67 (F := F) m c = dwbA (m ((c.tc : Thread nD τ).loc main_arg0)) (cotan (conv (m ((c.tc : Thread nD τ).loc main_arg0)) (m ((c.tc : Thread nD τ).loc main_arg2)) (m ((c.tc : Thread nD τ).loc main_arg3))) (m ((c.tc : Thread nD τ).loc main_arg1))) := rfl
end

/-! ## At real arrays -/
variable (P : Fin 2048 → Fin 5632 → ℝ) (d g : Fin 2048 → Fin 2048 → ℝ) (w : Fin 4 → Fin 2048 → ℝ) (b : Fin 2048 → ℝ)

/-- The convolution's columns of the projection. -/
def cols (s : Fin 2048) (j : Fin 2048) : ℝ := P s ⟨3072 + j, by omega⟩

theorem xp_real : xp (F := Ideal) (Mat P) = Mat fun (r : Fin 2051) j => lead (cols P) r j := by
  funext y
  obtain ⟨r, j, rfl⟩ : ∃ (r : Fin 2051) (j : Fin 2048), y = ix2 r j := ⟨y 0, y 1, eq_ix2 y⟩
  unfold xp zeros3
  pointwise
  show _ = ((lead (cols P) r j : ℝ) : EReal)
  unfold lead cols
  by_cases h : r.1 < 3
  · rw [dif_pos h, dif_neg (by omega)]; rfl
  · rw [dif_neg h, dif_pos ⟨by omega, r.2⟩]; rfl

theorem tap0 : x0 (F := Ideal) (Mat P) = Mat fun s j => lead (cols P) s j := by
  funext y
  obtain ⟨s, j, rfl⟩ : ∃ (r : Fin 2048) (j : Fin 2048), y = ix2 r j := ⟨y 0, y 1, eq_ix2 y⟩
  unfold x0
  rw [xp_real]
  pointwise
  rfl

theorem tap1 : x1 (F := Ideal) (Mat P) = Mat fun s j => lead (cols P) (s + 1) j := by
  funext y
  obtain ⟨s, j, rfl⟩ : ∃ (r : Fin 2048) (j : Fin 2048), y = ix2 r j := ⟨y 0, y 1, eq_ix2 y⟩
  unfold x1
  rw [xp_real]
  pointwise
  exact congrArg (fun r => ((lead (cols P) r j : ℝ) : EReal)) (Nat.add_comm _ _)

theorem tap2 : x2 (F := Ideal) (Mat P) = Mat fun s j => lead (cols P) (s + 2) j := by
  funext y
  obtain ⟨s, j, rfl⟩ : ∃ (r : Fin 2048) (j : Fin 2048), y = ix2 r j := ⟨y 0, y 1, eq_ix2 y⟩
  unfold x2
  rw [xp_real]
  pointwise
  exact congrArg (fun r => ((lead (cols P) r j : ℝ) : EReal)) (Nat.add_comm _ _)

theorem tap3 : x3 (F := Ideal) (Mat P) = Mat fun s j => lead (cols P) (s + 3) j := by
  funext y
  obtain ⟨s, j, rfl⟩ : ∃ (r : Fin 2048) (j : Fin 2048), y = ix2 r j := ⟨y 0, y 1, eq_ix2 y⟩
  unfold x3
  rw [xp_real]
  pointwise
  exact congrArg (fun r => ((lead (cols P) r j : ℝ) : EReal)) (Nat.add_comm _ _)

theorem conv_real : conv (F := Ideal) (Mat P) (Mat w) (Mat fun _ => b) = Mat fun s j => pre (cols P) w b s j := by
  funext y
  obtain ⟨s, j, rfl⟩ : ∃ (r : Fin 2048) (j : Fin 2048), y = ix2 r j := ⟨y 0, y 1, eq_ix2 y⟩
  unfold conv w0 w1 w2 w3
  rw [tap0, tap1, tap2, tap3]
  pointwise
  simp only [Mat_ix2, mul_coe, add_coe]
  rfl

theorem cotan_real (p : Fin 2048 → Fin 2048 → ℝ) : cotan (F := Ideal) (Mat p) (Mat g) = Mat fun s j => g s j * gain (p s j) := by
  funext y
  obtain ⟨s, j, rfl⟩ : ∃ (r : Fin 2048) (j : Fin 2048), y = ix2 r j := ⟨y 0, y 1, eq_ix2 y⟩
  unfold cotan sigm one
  pointwise
  rw [show (1 : EReal) = ((1 : ℝ) : EReal) from rfl]
  simp only [Mat_ix2, neg_coe, Ideal.exp_coe, add_coe, div_logistic, sub_coe, mul_coe]
  refine congrArg (fun x : ℝ => (x : EReal)) ?_
  show g s j * sg (p s j) + p s j * g s j * (sg (p s j) * (1 - sg (p s j))) = g s j * (sg (p s j) * (1 + p s j * (1 - sg (p s j))))
  ring

theorem pick (j : Fin 2048) (a : ℝ) (n : ℕ) {p : Prop} [Decidable p] (f : p → Fin 2048) (hp : p ↔ n < 2048) (hf : ∀ h, (f h).1 = n) :
    (if h : p then ((a * g (f h) j : ℝ) : EReal) else 0) = ((a * past g n j : ℝ) : EReal) := by
  unfold past
  by_cases h : p
  · rw [dif_pos h, dif_pos (hp.mp h), show f h = ⟨n, hp.mp h⟩ from Fin.ext (hf h)]
  · rw [dif_neg h, dif_neg fun q => h (hp.mpr q), mul_zero]; rfl

theorem dx_real : dxA (F := Ideal) (Mat w) (Mat g)
    = Mat fun s j => w 3 j * past g s j + w 2 j * past g (s + 1) j + w 1 j * past g (s + 2) j + w 0 j * past g (s + 3) j := by
  funext y
  obtain ⟨s, j, rfl⟩ : ∃ (r : Fin 2048) (j : Fin 2048), y = ix2 r j := ⟨y 0, y 1, eq_ix2 y⟩
  unfold dxA w0 w1 w2 w3 zero
  pointwise
  simp only [Mat_ix2, mul_coe]
  have e3 : w 3 j * g s j = w 3 j * past g s j := by unfold past; rw [dif_pos s.2]
  refine (congrArg₂ (· + ·) (congrArg₂ (· + ·) (congrArg₂ (· + ·) (congrArg (fun x : ℝ => (x : EReal)) e3) (pick g j (w 2 j) (s + 1) _ (by omega) fun h => by dsimp only; omega))
    (pick g j (w 1 j) (s + 2) _ (by omega) fun h => by dsimp only; omega)) (pick g j (w 0 j) (s + 3) _ (by omega) fun h => by dsimp only; omega)).trans ?_
  simp only [add_coe]

theorem sums_real (v : Fin 2048 → Fin 2048 → ℝ) : sums (F := Ideal) (Mat v) = Mat fun _ j => ∑ s, v s j := by
  funext y
  obtain ⟨s, j, rfl⟩ : ∃ (r : Fin 1) (j : Fin 2048), y = ix2 r j := ⟨y 0, y 1, eq_ix2 y⟩
  unfold sums zero
  pointwise
  simp only [Mat_ix2, sum_coe]

theorem times_real (u v : Fin 2048 → Fin 2048 → ℝ) : mulf (F := Ideal) (φ := .f32) (Mat u) (Mat v) = Mat fun s j => u s j * v s j :=
  funext fun y => mul_coe _ _

theorem dwb_real : dwbA (F := Ideal) (Mat P) (Mat g)
    = Mat fun (i : Fin 8) j => if i.1 < 4 then ∑ s : Fin 2048, g s j * lead (cols P) (s + i) j else if i.1 = 4 then ∑ s : Fin 2048, g s j else 0 := by
  funext y
  obtain ⟨i, j, rfl⟩ : ∃ (r : Fin 8) (j : Fin 2048), y = ix2 r j := ⟨y 0, y 1, eq_ix2 y⟩
  unfold dwbA dwA
  rw [tap0, tap1, tap2, tap3, times_real, times_real, times_real, times_real, sums_real, sums_real, sums_real, sums_real, sums_real]
  unfold zero zeros3
  pointwise
  show _ = (((if i.1 < 4 then ∑ s : Fin 2048, g s j * lead (cols P) (s + i) j else if i.1 = 4 then ∑ s : Fin 2048, g s j else 0 : ℝ)) : EReal)
  fin_cases i <;> simp [Mat_ix2]

section
variable (m : (ℓ : Loc nD τ sig) → Buf (Elt Ideal) ℓ) (c : Dev nD) (h0 : m ((c.tc : Thread nD τ).loc main_arg0) = Mat P)
  (h1 : m ((c.tc : Thread nD τ).loc main_arg1) = Mat d) (h2 : m ((c.tc : Thread nD τ).loc main_arg2) = Mat w)
  (h3 : m ((c.tc : Thread nD τ).loc main_arg3) = Mat fun _ => b)
include h0 h1 h2 h3

/-- The first result, -/
theorem dx_result : res_main_v65 (F := Ideal) m c = Mat fun s j => dx (cols P) d w b s j := by
  rw [dx_named, h0, h1, h2, h3, conv_real, cotan_real, dx_real]
  rfl

/-- and the second. -/
theorem dwb_result : res_main_v67 (F := Ideal) m c = Mat fun i j => dwb (cols P) d w b i j := by
  rw [dwb_named, h0, h1, h2, h3, conv_real, cotan_real, dwb_real]
  funext y
  obtain ⟨i, j, rfl⟩ : ∃ (r : Fin 8) (j : Fin 2048), y = ix2 r j := ⟨y 0, y 1, eq_ix2 y⟩
  have e : ∀ s : Fin 2048, d s j * gain (pre (cols P) w b s j) = dpre (cols P) d w b s j := fun s => by
    unfold dpre past; rw [dif_pos s.2]
  refine congrArg (fun x : ℝ => (x : EReal)) ?_
  show (if i.1 < 4 then ∑ s : Fin 2048, d s j * gain (pre (cols P) w b s j) * lead (cols P) (s + i) j
    else if i.1 = 4 then ∑ s : Fin 2048, d s j * gain (pre (cols P) w b s j) else 0) = dwb (cols P) d w b i j
  simp only [e]
  unfold dwb dw db
  by_cases h : i.1 < 4
  · rw [if_pos h, dif_pos h]
  · rw [if_neg h, dif_neg h]
end

end Cert.ConvBwd.Ref

end
-- ==== Proof.ConvBwdAlg.lean ====
/- The convolution's backward kernel leaves the gradients the reference computes, on finite arguments. -/
module

public import proofs.«01_k».proof.Defs
public import proofs.«01_k».proof.Proof.ConvBwdFrame
public import proofs.«01_k».proof.Proof.ConvBwdVal
public import proofs.«01_k».proof.Proof.ConvBwdRef
public import proofs.«01_k».proof.Proof.Norm
public import proofs.«01_k».proof.Proof.Gen.Pre_finite3

@[expose] public section

set_option maxRecDepth 16384

noncomputable section

namespace Cert.ConvBwd

open Idealize.ShloMosaic Idealize.ShloMosaic.TcCoe Idealize.SL.Sem
open Cert.Kernel3Ideal Cert.Kernel3Ideal.Gen Cert.Reals Cert.Norm

variable (m : (ℓ : Loc nD τ sig) → Buf (Elt Ideal) ℓ)

/-- The memory's argument arrays are real matrices. -/
structure Holds (P : Fin 2048 → Fin 5632 → ℝ) (d : Fin 2048 → Fin 2048 → ℝ) (w : Fin 4 → Fin 2048 → ℝ) (b : Fin 2048 → ℝ) (c : Dev nD) : Prop where
  h0 : m ((c : Thread nD τ).loc main_arg0) = Mat P
  h1 : m ((c : Thread nD τ).loc main_arg1) = Mat d
  h2 : m ((c : Thread nD τ).loc main_arg2) = Mat w
  h3 : m ((c : Thread nD τ).loc main_arg3) = Mat fun _ => b

theorem holds_of_finite (hp : Cert.Pre_Kernel3Ideal_finite3 m) (c : Dev nD) : ∃ P d w b, Holds m P d w b c := by
  have e := hp c
  unfold Cert.Pre_finite3.fn at e
  have e := congrFun e (fun a => a.elim0)
  have : Subsingleton Cert.Pre_finite3.S_.Idx := ⟨fun a b => funext fun i => i.elim0⟩
  obtain ⟨e, e3⟩ := IntOp.andi_eq_one.mp e
  obtain ⟨e, e2⟩ := IntOp.andi_eq_one.mp e
  obtain ⟨e0, e1⟩ := IntOp.andi_eq_one.mp e
  obtain ⟨P, h0⟩ := real2 _ (real_of_all _ _ (fun _ => word_inf) _ _ _ _ e0)
  obtain ⟨d, h1⟩ := real2 _ (real_of_all _ _ (fun _ => word_inf) _ _ _ _ e1)
  obtain ⟨w, h2⟩ := real2 _ (real_of_all _ _ (fun _ => word_inf) _ _ _ _ e2)
  obtain ⟨b, h3⟩ := real2 _ (real_of_all _ _ (fun _ => word_inf) _ _ _ _ e3)
  exact ⟨P, d, w, b 0, h0, h1, h2, h3.trans (funext fun i => congrArg (fun a : Fin 1 => ((b a (i 1) : ℝ) : EReal)) (Subsingleton.elim _ _))⟩

/-- Each window's block at a grid point. -/
theorem blockIdx : ∀ t : Fin cfg0.N, win0_0.index t = ![0, 12 + t.val]
    ∧ win0_1.index t = ![0, t.val]
    ∧ win0_2.index t = ![0, t.val]
    ∧ win0_3.index t = ![0, t.val]
    ∧ win0_4.index t = ![0, t.val]
    ∧ win0_5.index t = ![0, t.val] :=
  (by decide +kernel : ∀ t : Fin grid0.N, _)

/-- The column of the whole a grid point's column is. -/
def col (t : Fin cfg0.N) (j : Fin 256) : Fin 2048 := ⟨256 * t.val + j.1, by have := t.isLt; have : cfg0.N = 8 := N_0; omega⟩

variable {m} {P : Fin 2048 → Fin 5632 → ℝ} {d : Fin 2048 → Fin 2048 → ℝ} {w : Fin 4 → Fin 2048 → ℝ} {b : Fin 2048 → ℝ} {c : Dev nD}
  (H : Holds m P d w b c) (t : Fin cfg0.N)

include H in
theorem blk0 : iblk m c 0 t = Mat fun (s : Fin 2048) j => Ref.cols P s (col t j) := by
  funext y
  have e : (win0_0.blk t).view.emb y = ix2 (⟨(y 0).1, (y 0).2⟩ : Fin 2048) (⟨3072 + (col t (y 1)).1, by have := (col t (y 1)).2; omega⟩ : Fin 5632) := by blk_ext [blockIdx t, col]
  blk_simp [iblk]
  rw [V_main_arg0 m c, H.h0]
  rw [e]
  rfl
include H in
theorem blk1 : iblk m c 1 t = Mat fun (s : Fin 2048) j => d s (col t j) := by
  funext y
  have e : (win0_1.blk t).view.emb y = ix2 (⟨(y 0).1, (y 0).2⟩ : Fin 2048) (col t (y 1)) := by blk_ext [blockIdx t, col]
  blk_simp [iblk]
  rw [V_main_arg1 m c, H.h1]
  rw [e]
  rfl

/-- The weights before four rows of zeros. -/
theorem padded (v : S4x2048.Idx → EReal) (hv : v = Mat w) :
    concatenate S8x2048 0 [⟨S4x2048, v⟩, ⟨S4x2048, broadcastInDim S4x2048 ![] bcast_S_S4x2048 (constant (F := Ideal) S_ FTy.f32 0#32)⟩]
      concatenates_S4x2048_S4x2048_S8x2048_d0 = Mat (pad8 w) := by
  subst hv
  funext y
  obtain ⟨i, j, rfl⟩ : ∃ (i : Fin 8) (j : Fin 2048), y = ix2 i j := ⟨y 0, y 1, eq_ix2 y⟩
  show _ = ((pad8 w i j : ℝ) : EReal)
  pointwise
  unfold pad8
  by_cases h : i.1 < 4
  · rw [dif_pos h, dif_pos h]; rfl
  · rw [dif_neg h, dif_neg h]; rfl

include H in
theorem blk2 : iblk m c 2 t = Mat (pad8 fun k j => w k (col t j)) := by
  funext y
  have e : (win0_2.blk t).view.emb y = ix2 (⟨(y 0).1, (y 0).2⟩ : Fin 8) (col t (y 1)) := by blk_ext [blockIdx t, col]
  blk_simp [iblk]
  entry_read
  refine (congrFun (padded _ H.h2) _).trans ?_
  rw [e]
  rfl
include H in
theorem blk3 : iblk m c 3 t = Mat fun (_ : Fin 1) j => b (col t j) := by
  funext y
  have e : (win0_3.blk t).view.emb y = ix2 (⟨(y 0).1, (y 0).2⟩ : Fin 1) (col t (y 1)) := by blk_ext [blockIdx t, col]
  blk_simp [iblk]
  rw [V_main_arg3 m c, H.h3]
  rw [e]
  rfl

include H in
/-- The input's gradient, -/
theorem arr_dx : (dats m 0 c).arrAt 4 cfg0.N = Mat fun (s : Fin 2048) j => dx (Ref.cols P) d w b s j := by
  refine (dats m 0 c).arrAt_eq_of_covers 4 _ (by decide +kernel) fun t hf y => ?_
  have e : (win0_4.blk t).view.emb y = ix2 (⟨(y 0).1, (y 0).2⟩ : Fin 2048) (col t (y 1)) := by blk_ext [blockIdx t, col]
  blk_simp
  rw [after_4, outAt, blk0 H, blk1 H, blk2 H, blk3 H, outX_real, e]
  rfl

include H in
/-- and those of the weights and the bias. -/
theorem arr_dwb : (dats m 0 c).arrAt 5 cfg0.N = Mat fun (i : Fin 8) j => dwb (Ref.cols P) d w b i j := by
  refine (dats m 0 c).arrAt_eq_of_covers 5 _ (by decide +kernel) fun t hf y => ?_
  have e : (win0_5.blk t).view.emb y = ix2 (⟨(y 0).1, (y 0).2⟩ : Fin 8) (col t (y 1)) := by blk_ext [blockIdx t, col]
  blk_simp
  rw [after_5, sumAt, blk0 H, blk1 H, blk2 H, blk3 H, sums_all, e]
  rfl

variable (m) in
/-- A run's results and its arguments. -/
theorem run_kept (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1, (h.1 c).2, h.2.1 c⟩) (θ_run_and (run_results m ρ) (frame_kept m ρ))

theorem algebraic : Cert.algebraic_Kernel3Ideal_Reference3Ideal_pre_finite3 := by
  pair_intro
  · exact run_kept m g
  · refine (θ_run _ _ _).mono (fun r h c => ?_) (Cert.Reference3Ideal.Value.run m' g')
    obtain ⟨e0, e1, er⟩ := h c
    obtain ⟨P, d, w, b, H⟩ := holds_of_finite m hpre c
    obtain ⟨a0, a1, a2, a3⟩ := hagree c
    refine ⟨e0.trans (Eq.trans ?_ (arr_dx H).symm), e1.trans (Eq.trans ?_ (arr_dwb H).symm), er⟩
    · exact Ref.dx_result P d w b m' c (a0.trans H.h0) (a1.trans H.h1) (a2.trans H.h2) (a3.trans H.h3)
    · exact Ref.dwb_result P d w b m' c (a0.trans H.h0) (a1.trans H.h1) (a2.trans H.h2) (a3.trans H.h3)

end Cert.ConvBwd

end
-- ==== Proof.DWff2.lean ====
/- d_w_ff2: the gradient of the feed-forward's second weight. The kernel recomputes the squared relu of the forward input
   block by block and multiplies its transpose by the cotangent; the reference multiplies the transposed cotangent by
   the squared relu and transposes the product. The two sums have the same terms with their factors exchanged, so they
   agree at every extended real and no precondition is needed. -/
module

public import proofs.«01_k».proof.Proof.Gen.Kernel7Ideal.Value
public import proofs.«01_k».proof.Proof.Gen.Reference7Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DWff2

open Idealize.ShloMosaic Idealize.ShloMosaic.TcCoe Idealize.SL.Sem
open Cert.Kernel7Ideal Cert.Kernel7Ideal.Gen

/-- The reference's squared relu of the forward input. -/
def hidden (X : FVec Ideal S2048x4096 .f32) : FVec Ideal S2048x4096 .f32 :=
  mulf (maximumf X (broadcastInDim Cert.Reference7Ideal.S2048x4096 ![] Cert.Reference7Ideal.Gen.bcast_S_S2048x4096 (constant Cert.Reference7Ideal.S_ .f32 0x00000000#32))) (maximumf X (broadcastInDim Cert.Reference7Ideal.S2048x4096 ![] Cert.Reference7Ideal.Gen.bcast_S_S2048x4096 (constant Cert.Reference7Ideal.S_ .f32 0x00000000#32)))

/-- What the reference computes of the cotangent `D` and the forward input `X`. -/
def weightGrad (D : FVec Ideal S2048x1024 .f32) (X : FVec Ideal S2048x4096 .f32) : FVec Ideal S4096x1024 .bf16 :=
  truncf .bf16 (transpose Cert.Reference7Ideal.S4096x1024 [1, 0] (Host.dotGeneral Cert.Reference7Ideal.dot_S2048x1024_S2048x4096_S1024x4096_0_0_1_1_n_n none D (hidden X)) Cert.Reference7Ideal.Gen.transposes_S1024x4096_S4096x1024_1_0) Cert.Reference7Ideal.Gen.bitsLt_bf16_f32

variable (m : (ℓ : Loc nD τ sig) → Buf (Elt Ideal) ℓ)

/-- Each window's block at a grid point. -/
theorem blockIdx : ∀ t : Fin cfg0.N, win0_0.index t = ![0, t.val] ∧ win0_1.index t = ![0, 0]
    ∧ win0_2.index t = ![t.val, 0] :=
  (by decide +kernel : ∀ t : Fin grid0.N, _)

/-- The stored block at an index is the reference's gradient at the array index the block puts there. -/
theorem stored (c : Dev nD) (t : Fin cfg0.N) (y : S512x1024.Idx) :
    k0_pay1 (F := Ideal) (iblk m c 0 t) (iblk m c 1 t) y
      = weightGrad (m ((c : Thread nD τ).loc main_arg0)) (m ((c : Thread nD τ).loc main_arg2))
          (((cfg0.win 2).blk t).view.emb y) := by
  pointwise [k0_pay1, weightGrad, hidden]
  refine Finset.sum_congr rfl fun k _ => ?_
  rw [mul_comm]
  blk_point [iblk, V, blockIdx t]

/-- The result array after the run is the reference's gradient of the argument arrays. -/
theorem result (c : Dev nD) : (dats m 0 c).arrAt 2 (cfgs 0).N
    = weightGrad (m ((c : Thread nD τ).loc main_arg0)) (m ((c : Thread nD τ).loc main_arg2)) := by
  refine (dats m 0 c).arrAt_eq_of_covers 2 _ (by decide +kernel) fun t _ y => ?_
  blk_simp
  rw [after0_2]
  frame_out
  exact stored m c t y

theorem algebraic : Cert.algebraic_Kernel7Ideal_Reference7Ideal := by
  pair_intro
  · run_from Cert.Kernel7Ideal.Gen.run_main m g
  · run_from Cert.Reference7Ideal.Value.run m' g'
    exact (result m c).symm

end Cert.DWff2

end
-- ==== Proof.ConvFwdRun.lean ====
/- The convolution's forward kernel: what its two counted loops leave, its run, and the array the pipeline writes. -/
module

public import proofs.«01_k».proof.Proof.ConvRows
public import proofs.«01_k».proof.Proof.Gen.Kernel8Ideal.Frame.Runs
public import proofs.«01_k».proof.Proof.Gen.Kernel8
public import Idealize.ShloMosaic.Lib.Pipeline.Value

@[expose] public section

set_option maxRecDepth 16384

noncomputable section

namespace Cert.ConvFwd

open Cert.Kernel8Ideal Cert.Kernel8Ideal.Gen Cert.ConvRows Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem off1 : ∀ k : Fin k0_t1_loop.trips, k0_off1 k = ![256 * k.1, 0] := by decide
theorem off2 : ∀ k : Fin k0_t1_loop.trips, k0_off2 k = ![8 + 256 * k.1, 0] := by decide
theorem off3 : ∀ k : Fin k0_t2_loop.trips, k0_off3 k = ![256 * k.1, 0] := by decide
theorem off4 : ∀ k : Fin k0_t2_loop.trips, k0_off4 k = ![256 * k.1, 0] := by decide

variable {F : FTy → Type} [FloatOps F]

local notation "𝕄" => MT nD τ sig Unit (Elt F) ℕ (UR sig nD τ) ℕ

/-! ## What the buffers hold -/

section
variable (x : Vec F S2048x256 .f32) (w : Vec F S8x256 .f32) (b : Vec F S1x256 .f32)

/-- The input after eight rows of zeros. -/
def padX : Vec F S2056x256 .f32 := fun y =>
  if h : (y 0).1 < 8 then k0_pay1 (ix2 ⟨(y 0).1, h⟩ (y 1)) else x (ix2 ⟨(y 0).1 - 8, by have : (y 0).1 < 2056 := (y 0).2; omega⟩ (y 1))

/-- The output on a trip's rows. -/
def outRows (k : ℕ) (hk : k < 8) : FVec F S256x256 .f32 :=
  k0_pay3 (rowsAt 264 (256 * k) (by omega) (padX x)) (rowsAt 1 3 (by omega) w) (rowsAt 1 0 (by omega) w) (rowsAt 1 1 (by omega) w) (rowsAt 1 2 (by omega) w)
    (rowsAt 1 0 (by omega) b)

/-- The output. -/
def outY : Vec F S2048x256 .f32 := fun y =>
  outRows x w b ((y 0).1 / 256) (by have : (y 0).1 < 2048 := (y 0).2; omega) (ix2 ⟨(y 0).1 % 256, Nat.mod_lt _ (by omega)⟩ (y 1))
end

/-! ## A trip keeps what is stated of the trips before it -/

section
variable (c : Dev nD) (i : grid0.Coords) (arg1 : Memref sig .tc .vmem S2048x256 .f32) (harg1 : arg1.IsWhole)
  (arg2 : Memref sig .tc .vmem S8x256 .f32) (harg2 : arg2.IsWhole) (arg3 : Memref sig .tc .vmem S1x256 .f32) (harg3 : arg3.IsWhole)
  (arg4 : Memref sig .tc .vmem S2048x256 .f32) (harg4 : arg4.IsWhole) (arg5 : Memref sig .tc .vmem S2056x256 .f32) (harg5 : arg5.IsWhole)
  (x : Vec F S2048x256 .f32) (w : Vec F S8x256 .f32) (b : Vec F S1x256 .f32)

/-- Before trip `k` of the first loop. -/
def Filled (k : ℕ) (f : BufTy.Contents (Elt F) arg5.view.ty) : Prop :=
  ∀ y : S2056x256.Idx, (y 0).1 < 8 + 256 * k → arg5.view.read (Elt F) f y = padX x y

theorem fill_trip (k : Fin k0_t1_loop.trips) (X : BufTy.Contents (Elt F) arg1.view.ty) (hX : arg1.view.read (Elt F) X = x)
    (f : BufTy.Contents (Elt F) arg5.view.ty) (h : Filled arg5 x k.1 f) :
    Filled arg5 x (k.1 + 1) (arg5.view.writes (Elt F) f
      (tripL_k0_t1 (F := F) Variants.none c none i arg1 harg1 arg2 harg2 arg3 harg3 arg4 harg4 arg5 harg5 X k)) := by
  have hk : k.1 < 8 := k.2
  intro y hy
  obtain ⟨a, s, rfl⟩ : ∃ (a : Fin 2056) (s : Fin 256), y = ix2 a s := ⟨y 0, y 1, eq_ix2 y⟩
  have hy' : a.1 < 8 + 256 * (k.1 + 1) := hy
  unfold tripL_k0_t1 trip_k0_t1
  dsimp only
  refine read_stores _ _ _ _ _ (fun p hp z => ?_) fun hn => h _ ?_
  · obtain rfl := List.mem_singleton.mp hp
    obtain ⟨r, s, rfl⟩ : ∃ (r : Fin 256) (s : Fin 256), z = ix2 r s := ⟨z 0, z 1, eq_ix2 z⟩
    rw [emb_rows (off2 k) _ (by omega)]
    dsimp only
    rw [load_rows arg1.view X (off1 k) _ (by omega), hX]
    unfold k0_pay2 padX
    dsimp only
    rw [shapeCast_self]
    refine Eq.trans ?_ (dif_neg (by show ¬(8 + 256 * k.1 + r.1 < 8); omega)).symm
    exact congrArg x (congrArg (fun u => ix2 u s) (Fin.ext (by show 256 * k.1 + r.1 = 8 + 256 * k.1 + r.1 - 8; omega)))
  · show a.1 < 8 + 256 * k.1
    by_contra hc
    exact hn _ List.mem_cons_self (mem_rows (off2 k) (k0_off2_inb k) a s (by omega) (by omega))

/-- Before trip `k` of the second loop. -/
def Done (k : ℕ) (f : BufTy.Contents (Elt F) arg4.view.ty) : Prop :=
  ∀ y : S2048x256.Idx, (y 0).1 < 256 * k → arg4.view.read (Elt F) f y = outY x w b y

variable (X2 : BufTy.Contents (Elt F) arg2.view.ty) (X3 : BufTy.Contents (Elt F) arg3.view.ty) (X5 : BufTy.Contents (Elt F) arg5.view.ty)

theorem out_trip (k : Fin k0_t2_loop.trips) (h2 : arg2.view.read (Elt F) X2 = w) (h3 : arg3.view.read (Elt F) X3 = b) (h5 : Filled arg5 x 8 X5)
    (f : BufTy.Contents (Elt F) arg4.view.ty) (h : Done arg4 x w b k.1 f) :
    Done arg4 x w b (k.1 + 1) (arg4.view.writes (Elt F) f
      (tripL_k0_t2 (F := F) Variants.none c none i arg1 harg1 arg2 harg2 arg3 harg3 arg4 harg4 arg5 harg5 X2 X3 X5 k)) := by
  have hk : k.1 < 8 := k.2
  intro y hy
  obtain ⟨a, s, rfl⟩ : ∃ (a : Fin 2048) (s : Fin 256), y = ix2 a s := ⟨y 0, y 1, eq_ix2 y⟩
  have hy' : a.1 < 256 * (k.1 + 1) := hy
  have e5 : arg5.view.read (Elt F) X5 = padX x := funext fun z => h5 z (by have : (z 0).1 < 2056 := (z 0).2; omega)
  unfold tripL_k0_t2 trip_k0_t2
  dsimp only
  rw [load_rows arg5.view X5 (off3 k) _ (by omega), load_rows arg2.view X2 (a := 3) rfl _ (by omega), load_rows arg2.view X2 (a := 0) rfl _ (by omega),
    load_rows arg2.view X2 (a := 1) rfl _ (by omega), load_rows arg2.view X2 (a := 2) rfl _ (by omega), load_rows arg3.view X3 (a := 0) rfl _ (by omega), h2, h3, e5]
  refine read_stores _ _ _ _ _ (fun p hp z => ?_) fun hn => h _ ?_
  · obtain rfl := List.mem_singleton.mp hp
    obtain ⟨r, s, rfl⟩ : ∃ (r : Fin 256) (s : Fin 256), z = ix2 r s := ⟨z 0, z 1, eq_ix2 z⟩
    rw [emb_rows (off4 k) _ (by omega)]
    have e1 : (256 * k.1 + r.1) / 256 = k.1 := by omega
    have e2 : (256 * k.1 + r.1) % 256 = r.1 := by omega
    exact (show ∀ (q : ℕ) (hq : q < 8) (t : Fin 256), q = k.1 → t = r → outRows x w b k.1 k.2 (ix2 r s) = outRows x w b q hq (ix2 t s) from
      fun q hq t h1 h2 => by subst h1; subst h2; rfl) _ _ _ e1 (Fin.ext e2)
  · show a.1 < 256 * k.1
    by_contra hc
    exact hn _ List.mem_cons_self (mem_rows (off4 k) (k0_off4_inb k) a s (by omega) (by omega))

/-! ## The body -/

/-- A buffer held at contents of which something is known. -/
abbrev held {sp : Space} {s : Shape} {e : EltTy} (M : Memref sig .tc sp s e) (G : BufTy.Contents (Elt F) M.view.ty → Prop) : sProp 𝕄 :=
  iprop(∃ f, (M.view.loc (c : Thread nD τ) ↦[M.view.set]{fullShare} f) ∗ ⌜G f⌝)

/-- Before trip `k` of the first loop, -/
abbrev inv1 (X1 : BufTy.Contents (Elt F) arg1.view.ty) (k : ℕ) (_u : PUnit) : sProp 𝕄 :=
  iprop((arg1.view.loc (c : Thread nD τ) ↦[arg1.view.set]{fullShare} X1) ∗ held c arg5 (Filled arg5 x k))

/-- and of the second. -/
abbrev inv2 (k : ℕ) (_u : PUnit) : sProp 𝕄 :=
  iprop((arg2.view.loc (c : Thread nD τ) ↦[arg2.view.set]{fullShare} X2) ∗ (arg3.view.loc (c : Thread nD τ) ↦[arg3.view.set]{fullShare} X3)
    ∗ (arg5.view.loc (c : Thread nD τ) ↦[arg5.view.set]{fullShare} X5) ∗ held c arg4 (Done arg4 x w b k))

theorem step1 (X1 : BufTy.Contents (Elt F) arg1.view.ty) (h1 : arg1.view.read (Elt F) X1 = x) (E : Set ℕ) (k : Fin k0_t1_loop.trips) (acc : PUnit) :
    inv1 c arg1 arg5 x X1 k.1 acc ⊢ wp frame (wpE (defs₀ (F := F)) Variants.none c none) E (k0_t1_body (F := F) i arg1 harg1 arg2 harg2 arg3 harg3 arg4 harg4 arg5 harg5 k acc)
      (inv1 c arg1 arg5 x X1 (k.1 + 1)) := by
  iintro ⟨HR, ⟨%f, HW, %h⟩⟩
  iapply (wp_wand_r frame (wpE (defs₀ (F := F)) Variants.none (c : Thread nD τ) none) E)
  isplitl [HR HW]
  · iapply ((trip_k0_t1 (F := F) Variants.none c none i arg1 harg1 arg2 harg2 arg3 harg3 arg4 harg4 arg5 harg5 X1 k).2 E f)
    isplitl [HR]; · iexact HR
    iexact HW
  · iintro %_ ⟨HR, HW⟩
    isplitl [HR]; · iexact HR
    iexists _; isplitl [HW]; · iexact HW
    ipureintro
    exact fill_trip c i arg1 harg1 arg2 harg2 arg3 harg3 arg4 harg4 arg5 harg5 x k X1 h1 f h

theorem step2 (h2 : arg2.view.read (Elt F) X2 = w) (h3 : arg3.view.read (Elt F) X3 = b) (h5 : Filled arg5 x 8 X5) (E : Set ℕ)
    (k : Fin k0_t2_loop.trips) (acc : PUnit) :
    inv2 c arg2 arg3 arg4 arg5 x w b X2 X3 X5 k.1 acc
      ⊢ wp frame (wpE (defs₀ (F := F)) Variants.none c none) E (k0_t2_body (F := F) i arg1 harg1 arg2 harg2 arg3 harg3 arg4 harg4 arg5 harg5 k acc)
        (inv2 c arg2 arg3 arg4 arg5 x w b X2 X3 X5 (k.1 + 1)) := by
  iintro ⟨H2, H3, H5, ⟨%f, HW, %h⟩⟩
  iapply (wp_wand_r frame (wpE (defs₀ (F := F)) Variants.none (c : Thread nD τ) none) E)
  isplitl [H2 H3 H5 HW]
  · iapply ((trip_k0_t2 (F := F) Variants.none c none i arg1 harg1 arg2 harg2 arg3 harg3 arg4 harg4 arg5 harg5 X2 X3 X5 k).2 E f)
    isplitl [H2]; · iexact H2
    isplitl [H3]; · iexact H3
    isplitl [H5]; · iexact H5
    iexact HW
  · iintro %_ ⟨H2, H3, H5, HW⟩
    isplitl [H2]; · iexact H2
    isplitl [H3]; · iexact H3
    isplitl [H5]; · iexact H5
    iexists _; isplitl [HW]; · iexact HW
    ipureintro
    exact out_trip c i arg1 harg1 arg2 harg2 arg3 harg3 arg4 harg4 arg5 harg5 x w b X2 X3 X5 k h2 h3 h5 f h

theorem zero_rows (f : BufTy.Contents (Elt F) arg5.view.ty) : Filled arg5 x 0 (arg5.view.writes (Elt F) f
    [⟨Rect.unit (s := S2056x256) ![0, 0] S8x256.size inb_S2056x256_S8x256_0_0, k0_pay1 (F := F)⟩]) := by
  intro y hy
  obtain ⟨a, s, rfl⟩ : ∃ (a : Fin 2056) (s : Fin 256), y = ix2 a s := ⟨y 0, y 1, eq_ix2 y⟩
  have hy' : a.1 < 8 + 256 * 0 := hy
  refine read_stores _ _ _ _ _ (fun p hp z => ?_) fun hn => absurd (mem_rows (a := 0) (n := 8) rfl inb_S2056x256_S8x256_0_0 a s (by omega) (by omega)) (hn _ List.mem_cons_self)
  obtain rfl := List.mem_singleton.mp hp
  obtain ⟨r, s, rfl⟩ : ∃ (r : Fin 8) (s : Fin 256), z = ix2 r s := ⟨z 0, z 1, eq_ix2 z⟩
  rw [show (Rect.unit (s := S2056x256) ![0, 0] S8x256.size inb_S2056x256_S8x256_0_0).emb (ix2 r s) = _ from emb_rows (a := 0) rfl inb_S2056x256_S8x256_0_0 (by omega) r s]
  refine Eq.trans ?_ (dif_pos (by show 0 + r.1 < 8; omega)).symm
  exact congrArg k0_pay1 (congrArg (fun u => ix2 u s) (Fin.ext (Nat.zero_add _).symm))

/-- The body: its inputs as they were, its result the named one, its scratch at something. -/
theorem body_run (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
          ∗ owns (c : Thread nD τ) arg4 fullShare (outY x w b) ∗ (∃ d, owns (c : Thread nD τ) arg5 fullShare d)) -∗ K ⟨⟩))
      ⊢ wp frame (wpE (defs₀ (F := F)) Variants.none c none) E (cc0_ssd_conv_fwd i arg1 harg1 arg2 harg2 arg3 harg3 arg4 harg4 arg5 harg5) K := by
  simp only [cc0_ssd_conv_fwd_eq_skeleton]; unfold cc0_ssd_conv_fwd_skel
  unfold owns
  iintro ⟨⟨%f1, %h1, H1⟩, ⟨%f2, %h2, H2⟩, ⟨%f3, %h3, H3⟩, ⟨%d4, %f4, -, H4⟩, ⟨%d5, %f5, -, H5⟩, Hk⟩
  simp only [Prog.lift, Prog.bind_op, Prog.bind_ret]
  sl_step
  sl_step
  sl_for (inv1 c arg1 arg5 x f1) $$ [H1 H5]
  case region => exact step1 c i arg1 harg1 arg2 harg2 arg3 harg3 arg4 harg4 arg5 harg5 x f1 h1 E
  · isplitl [H1]; · iexact H1
    iexists _; isplitl [H5]; · iexact H5
    ipureintro; exact zero_rows arg5 x f5
  clear f5
  iintro %_ ⟨H1, %f5, H5, %h5⟩
  have h5 : Filled arg5 x 8 f5 := h5
  sl_for (inv2 c arg2 arg3 arg4 arg5 x w b f2 f3 f5) $$ [H2 H3 H4 H5]
  case region => exact step2 c i arg1 harg1 arg2 harg2 arg3 harg3 arg4 harg4 arg5 harg5 x w b f2 f3 f5 h2 h3 h5 E
  · isplitl [H2]; · iexact H2
    isplitl [H3]; · iexact H3
    isplitl [H5]; · iexact H5
    iexists _; isplitl [H4]; · iexact H4
    ipureintro; exact fun y hy => absurd hy (Nat.not_lt_zero _)
  clear f4
  iintro %_ ⟨H2, H3, H5, %f4, H4, %h4⟩
  have h4 : Done arg4 x w b 8 f4 := h4
  sl_step
  iapply Hk
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact funext fun y => h4 y (y 0).2
    iexact H4
  iexists _, _; isplitr; swap; · iexact H5
  ipureintro; rfl
end

/-! ## The pipeline -/

variable (m : (ℓ : Loc nD τ sig) → Buf (Elt F) ℓ) (ρ : Dev nD → PrngReg)

/-- The output's block of a grid point. -/
def outAt (c : Dev nD) (t : Fin cfg0.N) : Vec F S2048x256 .f32 := outY (iblk m c 0 t) (iblk m c 1 t) (iblk m c 2 t)

/-- What each buffer of the pipeline holds after a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- The body's contract at a grid point. -/
theorem body_point (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t))) := by
  unfold bodyAt0
  simp only [before0_0_of m (dats m 0 c) (A_eq m c 0) (after_0 m c) t, before0_1_of m (dats m 0 c) (A_eq m c 1) (after_1 m c) t,
    before0_2_of m (dats m 0 c) (A_eq m c 2) (after_2 m c) t]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, PhiA0_eq]
  unfold outAt
  iintro ⟨⟨HS, Hg⟩, Ho, ⟨%d0, H0⟩, ⟨%d1, H1⟩, ⟨%d2, H2⟩, ⟨%d3, H3⟩⟩
  iapply (body_run c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_point m c t) rfl .rfl fun _ => .rfl

set_option backward.isDefEq.respectTransparency.types false in
/-- Every run ends, with the arrays the data name and no semaphore held up. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_all m ρ)

/-- The frame: the arguments end as they began and every counter at zero. -/
theorem frame_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_all m ρ))

/-- The result after a run, and the arguments. -/
theorem run_kept : θ_run defs (onTc (τ := τ) (main (F := F))) ⟨m, fun _ => 0, ρ⟩ fun r => ∀ c : Dev nD,
      r.2.mem ((c : Thread nD τ).loc main_v2) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, h.2.1 c⟩) (θ_run_and (run_arrays m ρ) (frame_kept m ρ))

/-! ## The result, block by block -/

/-! ## The printed kernel before idealization: the same program, its calls one by one the same -/

theorem calls_eq : @Cert.Kernel8.defs₀ Bits _ _ = @Cert.Kernel8Ideal.defs₀ Bits _ _ :=
  congrArg Defs.onTc (funext fun l => funext fun a => by
    match l, a with
    | ⟨0, _⟩, (t, s) => rfl
    | ⟨n + 1, h⟩, _ => exact absurd h (Nat.not_lt.2 (Nat.le_add_left _ _)))

theorem defs_eq : @Cert.Kernel8.defs Bits _ _ = @Cert.Kernel8Ideal.defs Bits _ _ := congrArg (Pipeline.defs _) calls_eq

end Cert.ConvFwd

namespace Cert.ConvFwd

open Cert.Kernel8 Idealize.ShloMosaic Idealize.ShloMosaic.TcCoe Idealize.SL.Sem

/-- The kernel's frame. -/
theorem frame_printed (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact frame_kept (F := Bits) m ρ

end Cert.ConvFwd

end
-- ==== Proof.ConvFwd.lean ====
/- ssd_conv_fwd: the causal depthwise convolution and its `silu`. Both programs add the same four products and the bias, in
   another order, and multiply by the logistic function, so they agree at every extended real and no precondition is needed. -/
module

public import proofs.«01_k».proof.Proof.ConvFwdRun
public import proofs.«01_k».proof.Proof.Gen.Reference8Ideal.Run
public import proofs.«01_k».proof.Defs
public import Idealize.ShloMosaic.Lib.Claim

@[expose] public section

set_option maxRecDepth 16384

noncomputable section

namespace Cert.ConvFwd

open Idealize.ShloMosaic Idealize.ShloMosaic.TcCoe Idealize.SL.Sem

/-! ## The convolution -/

/-- An array after three rows of zeros, and zero past its end. -/
def lead {C : ℕ} (X : Fin 2048 → Fin C → EReal) (n : ℕ) (j : Fin C) : EReal :=
  if h : 3 ≤ n ∧ n - 3 < 2048 then X ⟨n - 3, h.2⟩ j else 0

/-- The convolution with four weights, and its bias. -/
def pre {C : ℕ} (X : Fin 2048 → Fin C → EReal) (w : Fin 4 → Fin C → EReal) (b : Fin C → EReal) (s : ℕ) (j : Fin C) : EReal :=
  w 0 j * lead X s j + w 1 j * lead X (s + 1) j + w 2 j * lead X (s + 2) j + w 3 j * lead X (s + 3) j + b j

/-- A number times its logistic function. -/
def silu (u : EReal) : EReal := u * Ideal.logistic u

namespace Ref

open Cert.Reference8Ideal Cert.Reference8Ideal.Gen

section
variable {F : FTy → Type} [FloatOps F]

/-- The reference's padded columns, -/
def padded (P : FVec F S2048x5632 .f32) : FVec F S2051x2048 .f32 :=
  (concatenate S2051x2048 0 [⟨S3x2048, (broadcastInDim S3x2048 ![] bcast_S_S3x2048 (constant S_ .f32 0x00000000#32))⟩, ⟨S2048x2048, (extractStridedSlice S2048x2048 ![0, 3072] P slices_S2048x5632_S2048x2048_0_3072)⟩] concatenates_S3x2048_S2048x2048_S2051x2048_d0)

/-- its convolution, -/
def conv (P : FVec F S2048x5632 .f32) (w : FVec F S4x2048 .f32) (b : FVec F S1x2048 .f32) : FVec F S2048x2048 .f32 :=
  (addf (addf (addf (addf (mulf (broadcastInDim S2048x2048 ![0, 1] bcast_S1x2048_S2048x2048_0_1 (extractStridedSlice S1x2048 ![0, 0] w slices_S4x2048_S1x2048_0_0)) (extractStridedSlice S2048x2048 ![0, 0] (padded P) slices_S2051x2048_S2048x2048_0_0)) (mulf (broadcastInDim S2048x2048 ![0, 1] bcast_S1x2048_S2048x2048_0_1 (extractStridedSlice S1x2048 ![1, 0] w slices_S4x2048_S1x2048_1_0)) (extractStridedSlice S2048x2048 ![1, 0] (padded P) slices_S2051x2048_S2048x2048_1_0))) (mulf (broadcastInDim S2048x2048 ![0, 1] bcast_S1x2048_S2048x2048_0_1 (extractStridedSlice S1x2048 ![2, 0] w slices_S4x2048_S1x2048_2_0)) (extractStridedSlice S2048x2048 ![2, 0] (padded P) slices_S2051x2048_S2048x2048_2_0))) (mulf (broadcastInDim S2048x2048 ![0, 1] bcast_S1x2048_S2048x2048_0_1 (extractStridedSlice S1x2048 ![3, 0] w slices_S4x2048_S1x2048_3_0)) (extractStridedSlice S2048x2048 ![3, 0] (padded P) slices_S2051x2048_S2048x2048_3_0))) (broadcastInDim S2048x2048 ![0, 1] bcast_S1x2048_S2048x2048_0_1 b))

/-- and its result. -/
def out (P : FVec F S2048x5632 .f32) (w : FVec F S4x2048 .f32) (b : FVec F S1x2048 .f32) : FVec F S2048x2048 .f32 :=
  mulf (conv P w b) (Host.divf (broadcastInDim S2048x2048 ![] bcast_S_S2048x2048 (constant S_ .f32 0x3F800000#32)) (addf (broadcastInDim S2048x2048 ![] bcast_S_S2048x2048 (constant S_ .f32 0x3F800000#32)) (Host.exp (Host.negf (conv P w b)))))

theorem result_eq (m : (ℓ : Loc nD τ sig) → Buf (Elt F) ℓ) (c : Dev nD) : Cert.Reference8Ideal.Value.res_main_v24 m c
    = out (m ((c.tc : Thread nD τ).loc main_arg0)) (m ((c.tc : Thread nD τ).loc main_arg1)) (m ((c.tc : Thread nD τ).loc main_arg2)) := rfl
end

variable (P : FVec Ideal S2048x5632 .f32) (w : FVec Ideal S4x2048 .f32) (b : FVec Ideal S1x2048 .f32)

/-- The columns the convolution takes. -/
def cols (i j : Fin 2048) : EReal := P (ix2 i (⟨3072 + j.1, by omega⟩ : Fin 5632))

theorem padded_at (i : Fin 2051) (j : Fin 2048) : padded P (ix2 i j) = lead (cols P) i j := by
  unfold padded
  pointwise
  unfold lead
  by_cases h : i.1 < 3
  · rw [dif_pos h, dif_neg (by omega)]
  · rw [dif_neg h, dif_pos (by omega)]
    rfl

theorem conv_at (s j : Fin 2048) : conv P w b (ix2 s j) = pre (cols P) (fun k j => w (ix2 k j)) (fun j => b (ix2 0 j)) s j := by
  have e : ∀ (i : Fin 2051) (n : ℕ), i.1 = n → padded P (ix2 i j) = lead (cols P) n j := fun i n h => by subst h; exact padded_at P i j
  unfold conv pre
  pointwise
  rw [e _ s.1 rfl, e _ (s.1 + 1) (Nat.add_comm _ _), e _ (s.1 + 2) (Nat.add_comm _ _), e _ (s.1 + 3) (Nat.add_comm _ _)]

theorem out_at (s j : Fin 2048) : out P w b (ix2 s j) = silu (pre (cols P) (fun k j => w (ix2 k j)) (fun j => b (ix2 0 j)) s j) := by
  rw [← conv_at P w b s j]
  unfold out
  pointwise
  rfl

end Ref

open Cert.Kernel8Ideal Cert.Kernel8Ideal.Gen Cert.ConvRows

/-! ## The kernel's blocks -/

section
variable (x : Vec Ideal S2048x256 .f32) (w : Vec Ideal S8x256 .f32) (b : Vec Ideal S1x256 .f32)

theorem padX_at (r : Fin 2056) (j : Fin 256) : padX (F := Ideal) x (ix2 r j) = lead (fun i j => x (ix2 i j)) (r - 5) j := by
  unfold padX lead
  by_cases h : r.1 < 8
  · refine (dif_pos (show ((ix2 r j : (⟨2, ![2056, 256]⟩ : Shape).Idx) 0).1 < 8 from h)).trans ?_
    rw [dif_neg (by omega)]
    unfold k0_pay1
    pointwise
  · refine (dif_neg (show ¬((ix2 r j : (⟨2, ![2056, 256]⟩ : Shape).Idx) 0).1 < 8 from h)).trans ?_
    rw [dif_pos (by omega)]
    exact congrArg (fun t => x (ix2 t j)) (Fin.ext (show r.1 - 8 = r.1 - 5 - 3 by omega))

theorem reorder (a0 a1 a2 a3 c0 c1 c2 c3 : EReal) : c3 * a3 + c0 * a0 + c1 * a1 + c2 * a2 = a0 * c0 + a1 * c1 + a2 * c2 + a3 * c3 := by
  rw [mul_comm c3, mul_comm c0, mul_comm c1, mul_comm c2, add_assoc, add_assoc, add_comm, ← add_assoc (a0 * c0)]

theorem pay3_at (W : Vec Ideal S264x256 .f32) (v0 v1 v2 v3 b : Vec Ideal S1x256 .f32) (r j : Fin 256) :
    k0_pay3 (F := Ideal) W v3 v0 v1 v2 b (ix2 r j)
      = silu (v0 (ix2 0 j) * W (ix2 ⟨r + 5, by omega⟩ j) + v1 (ix2 0 j) * W (ix2 ⟨r + 6, by omega⟩ j) + v2 (ix2 0 j) * W (ix2 ⟨r + 7, by omega⟩ j)
          + v3 (ix2 0 j) * W (ix2 ⟨r + 8, by omega⟩ j) + b (ix2 0 j)) := by
  have e : ∀ (i i' : Fin 264), i.1 = i'.1 → W (ix2 i j) = W (ix2 i' j) := fun i i' h => by rw [Fin.ext h]
  unfold k0_pay3
  pointwise
  rw [e _ ⟨r + 8, by omega⟩ (by dsimp only; omega), e ⟨(8 + r.1 + 264 - 3) % 264, _⟩ ⟨r + 5, by omega⟩ (by dsimp only; omega),
    e ⟨(8 + r.1 + 264 - 2) % 264, _⟩ ⟨r + 6, by omega⟩ (by dsimp only; omega), e ⟨(8 + r.1 + 264 - 1) % 264, _⟩ ⟨r + 7, by omega⟩ (by dsimp only; omega)]
  rw [reorder]
  rfl

/-- The output at an index. -/
theorem outY_at (s : Fin 2048) (j : Fin 256) : outY (F := Ideal) x w b (ix2 s j)
    = silu (pre (fun i j => x (ix2 i j)) (fun k j => w (ix2 (⟨k.1, by omega⟩ : Fin 8) j)) (fun j => b (ix2 0 j)) s j) := by
  have e : ∀ (i : Fin 264) (n : ℕ), 256 * (s.1 / 256) + i.1 - 5 = n → rowsAt 264 (256 * (s.1 / 256)) (by omega) (padX x) (ix2 i j) = lead (fun i j => x (ix2 i j)) n j :=
    fun i n h => by subst h; exact padX_at x _ j
  show outRows x w b (s.1 / 256) _ (ix2 ⟨s.1 % 256, _⟩ j) = _
  unfold outRows
  rw [pay3_at]
  rw [e _ s.1 (by dsimp only; omega), e _ (s.1 + 1) (by dsimp only; omega), e _ (s.1 + 2) (by dsimp only; omega), e _ (s.1 + 3) (by dsimp only; omega)]
  rfl
end

/-! ## The pair -/

variable (m : (ℓ : Loc nD τ sig) → Buf (Elt Ideal) ℓ)

/-- Each window's block at a grid point. -/
theorem blockIdx : ∀ t : Fin cfg0.N, win0_0.index t = ![0, 12 + t.val] ∧ win0_1.index t = ![0, t.val]
    ∧ win0_2.index t = ![0, t.val] ∧ win0_3.index t = ![0, t.val] :=
  (by decide +kernel : ∀ t : Fin grid0.N, _)

/-- The column of the whole a grid point's column is. -/
def col (t : Fin cfg0.N) (j : Fin 256) : Fin 2048 := ⟨256 * t.val + j.1, by have := t.isLt; have : cfg0.N = 8 := N_0; omega⟩

variable (c : Dev nD) (t : Fin cfg0.N)

theorem blk0 (s : Fin 2048) (j : Fin 256) : iblk m c 0 t (ix2 s j) = Ref.cols (m ((c : Thread nD τ).loc main_arg0)) s (col t j) := by
  have e : (win0_0.blk t).view.emb (ix2 s j) = ix2 s (⟨3072 + (col t j).1, by have := (col t j).2; omega⟩ : Fin 5632) := by blk_ext [blockIdx t, col]
  blk_simp [iblk]
  rw [V_main_arg0 m c, e]
  rfl

theorem weights_at (v : S4x2048.Idx → EReal) (i : Fin 4) (j : Fin 2048) :
    concatenate S8x2048 0 [⟨S4x2048, v⟩, ⟨S4x2048, broadcastInDim S4x2048 ![] bcast_S_S4x2048 (constant (F := Ideal) S_ FTy.f32 0#32)⟩]
      concatenates_S4x2048_S4x2048_S8x2048_d0 (ix2 (⟨i.1, by omega⟩ : Fin 8) j) = v (ix2 i j) := by
  pointwise

theorem blk1 (i : Fin 4) (j : Fin 256) : iblk m c 1 t (ix2 (⟨i.1, by omega⟩ : Fin 8) j) = m ((c : Thread nD τ).loc main_arg1) (ix2 i (col t j)) := by
  have e : (win0_1.blk t).view.emb (ix2 (⟨i.1, by omega⟩ : Fin 8) j) = ix2 (⟨i.1, by omega⟩ : Fin 8) (col t j) := by blk_ext [blockIdx t, col]
  blk_simp [iblk]
  entry_read
  rw [e]
  exact weights_at _ i (col t j)

theorem blk2 (j : Fin 256) : iblk m c 2 t (ix2 0 j) = m ((c : Thread nD τ).loc main_arg2) (ix2 0 (col t j)) := by
  have e : (win0_2.blk t).view.emb (ix2 0 j) = ix2 (0 : Fin 1) (col t j) := by blk_ext [blockIdx t, col]
  blk_simp [iblk]
  rw [V_main_arg2 m c, e]

/-- The array after the run is the reference's result of the argument arrays. -/
theorem result : (dats (F := Ideal) m 0 c).arrAt 3 cfg0.N
    = Ref.out (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨s, j, rfl⟩ : ∃ (s : Fin 2048) (j : Fin 256), y = ix2 s j := ⟨y 0, y 1, eq_ix2 y⟩
  have e : (win0_3.blk t).view.emb (ix2 s j) = ix2 s (col t j) := by blk_ext [blockIdx t, col]
  blk_simp
  rw [after_3, outAt, e, Ref.out_at]
  refine (outY_at _ _ _ s j).trans (congrArg silu ?_)
  unfold pre lead
  simp only [blk0, blk1, blk2]

theorem algebraic : Cert.algebraic_Kernel8Ideal_Reference8Ideal := by
  pair_intro
  · exact run_kept m g
  · refine (θ_run _ _ _).mono (fun r h c => ?_) (Cert.Reference8Ideal.Value.run m' g')
    obtain ⟨e0, er⟩ := h c
    obtain ⟨a0, a1, a2⟩ := hagree c
    refine ⟨e0.trans (Eq.trans ?_ (result m c).symm), er⟩
    exact (Ref.result_eq m' c).trans (by rw [a0, a1, a2])

end Cert.ConvFwd

end
-- ==== Proof.Ff2.lean ====
/- ff2: the feed-forward's second product, the residual and the norm. The kernel computes a block of rows at a time the
   squared relu of the first product, its product with the weight, the scaled residual and the row's norm; the reference
   computes the same terms of whole arrays. They agree at every extended real, so no precondition is needed. -/
module

public import proofs.«01_k».proof.Proof.Gen.Kernel9Ideal.Value
public import proofs.«01_k».proof.Proof.Gen.Reference9Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ff2

open Idealize.ShloMosaic Idealize.ShloMosaic.TcCoe Idealize.SL.Sem

section Reference

open Cert.Reference9Ideal Cert.Reference9Ideal.Gen

variable {F : FTy → Type} [FloatOps F]

/-- The reference's product of the squared relu with the weight. -/
def product (X : FVec F S2048x4096 .f32) (W : FVec F S4096x1024 .f32) : FVec F S2048x1024 .f32 :=
  Host.dotGeneral dot_S2048x4096_S4096x1024_S2048x1024_1_0_0_1_n_n none
    (mulf (maximumf X (broadcastInDim S2048x4096 ![] bcast_S_S2048x4096 (constant S_ .f32 0x00000000#32)))
      (maximumf X (broadcastInDim S2048x4096 ![] bcast_S_S2048x4096 (constant S_ .f32 0x00000000#32)))) W

/-- The scaled residual and the product. -/
def total (X : FVec F S2048x4096 .f32) (W : FVec F S4096x1024 .f32) (R : FVec F S2048x1024 .f32) : FVec F S2048x1024 .f32 :=
  addf (mulf (broadcastInDim S2048x1024 ![] bcast_S_S2048x1024 (constant S_ .f32 0x3F9837F0#32)) R) (product X W)

/-- The mean of each row. -/
def mean (T : FVec F S2048x1024 .f32) : FVec F S2048x1 .f32 :=
  Host.divf (broadcastInDim S2048x1 ![0] bcast_S2048_S2048x1_0
      (Host.reduceAdd T (constant S_ .f32 0x00000000#32) reducesTo_S2048x1024_S2048_d1 h_S_))
    (broadcastInDim S2048x1 ![] bcast_S_S2048x1 (constant S_ .f32 0x44800000#32))

/-- Each entry less its row's mean. -/
def centered (T : FVec F S2048x1024 .f32) : FVec F S2048x1024 .f32 :=
  subf T (broadcastInDim S2048x1024 ![0, 1] bcast_S2048x1_S2048x1024_0_1 (mean T))

/-- The norm of each row, scaled and shifted. -/
def normed (T : FVec F S2048x1024 .f32) (G B : FVec F S1x1024 .f32) : FVec F S2048x1024 .f32 :=
  addf (mulf (mulf (centered T) (broadcastInDim S2048x1024 ![0, 1] bcast_S2048x1_S2048x1024_0_1
      (Host.rsqrt (addf (mean (mulf (centered T) (centered T)))
        (broadcastInDim S2048x1 ![] bcast_S_S2048x1 (constant S_ .f32 0x3727C5AC#32))))))
      (broadcastInDim S2048x1024 ![0, 1] bcast_S1x1024_S2048x1024_0_1 G))
    (broadcastInDim S2048x1024 ![0, 1] bcast_S1x1024_S2048x1024_0_1 B)

theorem reference_norm (m : (ℓ : Loc nD τ sig) → Buf (Elt F) ℓ) (c : Dev nD) :
    Value.res_main_v25 (F := F) m c = normed (total (m ((c.tc : Thread nD τ).loc main_arg0)) (m ((c.tc : Thread nD τ).loc main_arg1))
      (m ((c.tc : Thread nD τ).loc main_arg2))) (m ((c.tc : Thread nD τ).loc main_arg3)) (m ((c.tc : Thread nD τ).loc main_arg4)) := rfl

theorem reference_norm_half (m : (ℓ : Loc nD τ sig) → Buf (Elt F) ℓ) (c : Dev nD) :
    Value.res_main_v26 (F := F) m c = truncf .bf16 (Value.res_main_v25 (F := F) m c) bitsLt_bf16_f32 := rfl

end Reference

open Cert.Kernel9Ideal Cert.Kernel9Ideal.Gen

variable (m : (ℓ : Loc nD τ sig) → Buf (Elt Ideal) ℓ)

/-- Each window's block at a grid point. -/
theorem blockIdx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- The array's row that block `t`'s row `i` is. -/
def rowOf (t : Fin cfg0.N) (i : Fin 512) : Fin 2048 := ⟨t.val * 512 + i.val, by have := t.isLt; have : cfg0.N = 4 := N_0; omega⟩

/-- The arrays of the program's memory. -/
def argX (c : Dev nD) : FVec Ideal S2048x4096 .f32 := m ((c : Thread nD τ).loc main_arg0)
def argW (c : Dev nD) : FVec Ideal S4096x1024 .f32 := m ((c : Thread nD τ).loc main_arg1)
def argR (c : Dev nD) : FVec Ideal S2048x1024 .f32 := m ((c : Thread nD τ).loc main_arg2)
def argG (c : Dev nD) : FVec Ideal S1x1024 .f32 := m ((c : Thread nD τ).loc main_arg3)
def argB (c : Dev nD) : FVec Ideal S1x1024 .f32 := m ((c : Thread nD τ).loc main_arg4)

/-- The reference's norm of those arrays. -/
def normOf (c : Dev nD) : FVec Ideal S2048x1024 .f32 :=
  normed (F := Ideal) (total (F := Ideal) (argX m c) (argW m c) (argR m c)) (argG m c) (argB m c)

variable (c : Dev nD) (t : Fin cfg0.N)

theorem block0 : iblk m c 0 t = fun y : S512x4096.Idx => argX m c (ix2 (rowOf t (y 0)) (y 1)) := by
  funext y
  have e : (win0_0.blk t).view.emb y = ix2 (rowOf t (y 0)) (y 1) := by blk_ext [blockIdx t, rowOf]
  blk_simp [iblk]
  entry_read
  pointwise
  rw [e]
  rfl

theorem block1 : iblk m c 1 t = fun y : S4096x1024.Idx => argW m c (ix2 (y 0) (y 1)) := by
  funext y
  have e : (win0_1.blk t).view.emb y = ix2 (y 0) (y 1) := by blk_ext [blockIdx t]
  blk_simp [iblk]
  entry_read
  pointwise
  rw [e]
  exact congrArg (argW m c) (eq_ix2 y).symm

theorem block2 : iblk m c 2 t = fun y : S512x1024.Idx => argR m c (ix2 (rowOf t (y 0)) (y 1)) := by
  funext y
  have e : (win0_2.blk t).view.emb y = ix2 (rowOf t (y 0)) (y 1) := by blk_ext [blockIdx t, rowOf]
  blk_simp [iblk]
  rw [V_main_arg2 m c, e]
  rfl

theorem block3 : iblk m c 3 t = fun y : S1x1024.Idx => argG m c (ix2 (y 0) (y 1)) := by
  funext y
  have e : (win0_3.blk t).view.emb y = ix2 (y 0) (y 1) := by blk_ext [blockIdx t]
  blk_simp [iblk]
  rw [V_main_arg3 m c, e]
  rfl

theorem block4 : iblk m c 4 t = fun y : S1x1024.Idx => argB m c (ix2 (y 0) (y 1)) := by
  funext y
  have e : (win0_4.blk t).view.emb y = ix2 (y 0) (y 1) := by blk_ext [blockIdx t]
  blk_simp [iblk]
  rw [V_main_arg4 m c, e]
  rfl

/-- The product a block stores, at an index. -/
theorem stored_product (i : Fin 512) (k : Fin 1024) :
    k0_pay2 (F := Ideal) (iblk m c 0 t) (iblk m c 1 t) (ix2 i k)
      = product (F := Ideal) (argX m c) (argW m c) (ix2 (rowOf t i) k) := by
  rw [block0, block1]
  pointwise [k0_pay2, product]

/-- The norm a block stores, at an index. -/
theorem stored_norm (i : Fin 512) (k : Fin 1024) :
    k0_pay3 (F := Ideal) (iblk m c 0 t) (iblk m c 1 t) (iblk m c 2 t) (iblk m c 3 t) (iblk m c 4 t) (ix2 i k)
      = normOf m c (ix2 (rowOf t i) k) := by
  rw [block0, block1, block2, block3, block4]
  pointwise [k0_pay3, k0_pay2, normOf, normed, centered, mean, total, product]

theorem result_product : (dats m 0 c).arrAt 5 (cfgs 0).N = product (F := Ideal) (argX m c) (argW m c) := by
  refine (dats m 0 c).arrAt_eq_of_covers 5 _ (by decide +kernel) fun t _ y => ?_
  have e : (win0_5.blk t).view.emb y = ix2 (rowOf t (y 0)) (y 1) := by blk_ext [blockIdx t, rowOf]
  blk_simp
  rw [after0_5]
  frame_out
  rw [e, eq_ix2 y]
  exact stored_product m c t _ _

theorem result_norm : (dats m 0 c).arrAt 6 (cfgs 0).N
 = normOf m c := by
  refine (dats m 0 c).arrAt_eq_of_covers 6 _ (by decide +kernel) fun t _ y => ?_
  have e : (win0_6.blk t).view.emb y = ix2 (rowOf t (y 0)) (y 1) := by blk_ext [blockIdx t, rowOf]
  blk_simp
  rw [after0_6]
  frame_out
  rw [e, eq_ix2 y]
  unfold k0_pay4
  frame_out
  exact stored_norm m c t _ _

theorem result_norm_half : (dats m 0 c).arrAt 7 (cfgs 0).N
 = normOf m c := by
  refine (dats m 0 c).arrAt_eq_of_covers 7 _ (by decide +kernel) fun t _ y => ?_
  have e : (win0_7.blk t).view.emb y = ix2 (rowOf t (y 0)) (y 1) := by blk_ext [blockIdx t, rowOf]
  blk_simp
  rw [after0_7]
  frame_out
  rw [e, eq_ix2 y]
  unfold k0_pay4 k0_pay1
  frame_out
  exact stored_norm m c t _ _

theorem algebraic : Cert.algebraic_Kernel9Ideal_Reference9Ideal := by
  pair_intro
  · exact Cert.Kernel9Ideal.Value.run_blocks m g
  · refine (θ_run _ _ _).mono (fun r h c => ?_) (Cert.Reference9Ideal.Value.run m' g')
    obtain ⟨e0, e1, e2, er⟩ := h c
    obtain ⟨a0, a1, a2, a3, a4⟩ := hagree c
    clear h
    rw [reference_norm_half] at e2
    rw [reference_norm, a0, a1, a2, a3, a4] at e1 e2
    rw [a0, a1] at e0
    exact ⟨e0.trans (result_product m c).symm, e1.trans (result_norm m c).symm, e2.trans (result_norm_half m c).symm, er⟩

end Cert.Ff2

end
-- ==== Proof.DX.lean ====
/- d_x: the gradient of the step's input. The kernel multiplies the five pieces of the projections' cotangent by their
   rows of the transposed weight, one after the other, and adds the scaled cotangent of the residual; the reference puts
   the pieces side by side and multiplies once. The sum over the columns is cut at the pieces' ends; the zeros that fill
   the last piece add nothing. The two agree at every extended real, so no precondition is needed. -/
module

public import proofs.«01_k».proof.Proof.Gen.Kernel10Ideal.Value
public import proofs.«01_k».proof.Proof.Gen.Reference10Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DX

open Idealize.ShloMosaic Idealize.ShloMosaic.TcCoe Idealize.SL.Sem

section Reference

open Cert.Reference10Ideal Cert.Reference10Ideal.Gen

variable {F : FTy → Type} [FloatOps F]

/-- The five pieces of the projections' cotangent, side by side. -/
def pieces (A B C : FVec F S2048x1024 .f32) (D : FVec F S2048x2048 .f32) (E : FVec F S2048x16 .f32) : FVec F S2048x5136 .f32 :=
  concatenate S2048x5136 1 [⟨S2048x1024, (A : (⟨S2048x1024, .f32⟩ : BufTy).Contents (Elt F))⟩,
    ⟨S2048x1024, (B : (⟨S2048x1024, .f32⟩ : BufTy).Contents (Elt F))⟩,
    ⟨S2048x1024, (C : (⟨S2048x1024, .f32⟩ : BufTy).Contents (Elt F))⟩,
    ⟨S2048x2048, (D : (⟨S2048x2048, .f32⟩ : BufTy).Contents (Elt F))⟩,
    ⟨S2048x16, (E : (⟨S2048x16, .f32⟩ : BufTy).Contents (Elt F))⟩]
    concatenates_S2048x1024_S2048x1024_S2048x1024_S2048x2048_S2048x16_S2048x5136_d1

/-- The gradient of the input: the scaled cotangent of the residual and the product of the pieces with the weight. -/
def inputGrad (P : FVec F S2048x5136 .f32) (W : FVec F S1024x5136 .f32) (R : FVec F S2048x1024 .f32) : FVec F S2048x1024 .f32 :=
  addf (mulf (broadcastInDim S2048x1024 ![] bcast_S_S2048x1024 (constant S_ .f32 0x3F9837F0#32)) R)
    (Host.dotGeneral dot_S2048x5136_S1024x5136_S2048x1024_1_1_0_0_n_n none P W)

variable (A B C : FVec Ideal S2048x1024 .f32) (D : FVec Ideal S2048x2048 .f32) (E : FVec Ideal S2048x16 .f32)

/-- An entry of the gradient. -/
theorem grad_at (P : FVec Ideal S2048x5136 .f32) (W : FVec Ideal S1024x5136 .f32) (R : FVec Ideal S2048x1024 .f32) (i : Fin 2048) (k : Fin 1024) :
    inputGrad (F := Ideal) P W R (ix2 i k) = Ideal.ofBits FTy.f32 0x3F9837F0#32 * R (ix2 i k) + ∑ p, P (ix2 i p) * W (ix2 k p) := by
  pointwise [inputGrad]

/-! The pieces' entries, each piece from the column where it begins. -/

theorem pieces_0 (i : Fin 2048) (p : Fin 1024) (h : p.1 < 5136) : pieces (F := Ideal) A B C D E (ix2 i ⟨p.1, h⟩) = A (ix2 i p) := by
  pointwise [pieces]

theorem pieces_1 (i : Fin 2048) (p : Fin 1024) (h : 1024 + p.1 < 5136) : pieces (F := Ideal) A B C D E (ix2 i ⟨1024 + p.1, h⟩) = B (ix2 i p) := by
  pointwise [pieces]

theorem pieces_2 (i : Fin 2048) (p : Fin 1024) (h : 2048 + p.1 < 5136) : pieces (F := Ideal) A B C D E (ix2 i ⟨2048 + p.1, h⟩) = C (ix2 i p) := by
  pointwise [pieces]
  rw [dif_neg (by omega), dif_neg (by omega), dif_pos (by omega)]
  exact congrArg (fun q => C (ix2 i q)) (Fin.ext (by dsimp only; omega))

theorem pieces_3 (i : Fin 2048) (p : Fin 2048) (h : 3072 + p.1 < 5136) : pieces (F := Ideal) A B C D E (ix2 i ⟨3072 + p.1, h⟩) = D (ix2 i p) := by
  pointwise [pieces]
  rw [dif_neg (by omega), dif_neg (by omega), dif_neg (by omega), dif_pos (by omega)]
  exact congrArg (fun q => D (ix2 i q)) (Fin.ext (by dsimp only; omega))

theorem pieces_4 (i : Fin 2048) (p : Fin 16) (h : 5120 + p.1 < 5136) : pieces (F := Ideal) A B C D E (ix2 i ⟨5120 + p.1, h⟩) = E (ix2 i p) := by
  pointwise [pieces]
  rw [dif_neg (by omega), dif_neg (by omega), dif_neg (by omega), dif_neg (by omega)]
  exact congrArg (fun q => E (ix2 i q)) (Fin.ext (by dsimp only; omega))

/-- A sum over the 5136 columns, cut where the pieces end, the last one filled with zeros to 128. -/
theorem sum_cut (f : ℕ → EReal) (hf : ∀ p, 5136 ≤ p → f p = 0) :
    ∑ p : Fin 5136, f p.1 = ∑ p : Fin 1024, f p.1 + ∑ p : Fin 1024, f (1024 + p.1) + ∑ p : Fin 1024, f (2048 + p.1)
      + ∑ p : Fin 2048, f (3072 + p.1) + ∑ p : Fin 128, f (5120 + p.1) := by
  have e : ∑ p ∈ Finset.range (5136 + 112), f p = ∑ p ∈ Finset.range 5136, f p := by
    rw [Finset.sum_range_add, Finset.sum_eq_zero (fun p _ => hf (5136 + p) (Nat.le_add_right _ _)), add_zero]
  rw [← Finset.sum_range f, ← Finset.sum_range f, ← Finset.sum_range (fun p => f (1024 + p)), ← Finset.sum_range (fun p => f (2048 + p)),
    ← Finset.sum_range (fun p => f (3072 + p)), ← Finset.sum_range (fun p => f (5120 + p)), ← e,
    show 5136 + 112 = 1024 + 1024 + 1024 + 2048 + 128 from rfl]
  simp only [Finset.sum_range_add]

end Reference

open Cert.Kernel10Ideal Cert.Kernel10Ideal.Gen

variable (m : (ℓ : Loc nD τ sig) → Buf (Elt Ideal) ℓ)

/-- Each window's block at a grid point. -/
theorem blockIdx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![t.val, 0] ∧ win0_7.index t = ![t.val, 0] :=
  (by decide +kernel : ∀ t : Fin grid0.N, _)

/-- The array's row that block `t`'s row `i` is. -/
def rowOf (t : Fin cfg0.N) (i : Fin 256) : Fin 2048 := ⟨t.val * 256 + i.val, by have := t.isLt; have : cfg0.N = 8 := N_0; omega⟩

/-- The arrays of the program's memory. -/
def argW (c : Dev nD) : FVec Ideal S1024x5136 .f32 := m ((c : Thread nD τ).loc main_arg1)
def argA (c : Dev nD) : FVec Ideal S2048x1024 .f32 := m ((c : Thread nD τ).loc main_arg2)
def argB (c : Dev nD) : FVec Ideal S2048x1024 .f32 := m ((c : Thread nD τ).loc main_arg3)
def argC (c : Dev nD) : FVec Ideal S2048x1024 .f32 := m ((c : Thread nD τ).loc main_arg4)
def argD (c : Dev nD) : FVec Ideal S2048x2048 .f32 := m ((c : Thread nD τ).loc main_arg5)
def argE (c : Dev nD) : FVec Ideal S2048x16 .f32 := m ((c : Thread nD τ).loc main_arg6)
def argR (c : Dev nD) : FVec Ideal S2048x1024 .f32 := m ((c : Thread nD τ).loc main_arg7)

/-- The array's gradient, from the memory's arrays. -/
def gradOf (c : Dev nD) : FVec Ideal S2048x1024 .f32 :=
  inputGrad (F := Ideal) (pieces (F := Ideal) (argA m c) (argB m c) (argC m c) (argD m c) (argE m c)) (argW m c) (argR m c)

variable (c : Dev nD) (t : Fin cfg0.N)

theorem block0 : iblk m c 0 t = fun y : S256x1024.Idx => argA m c (ix2 (rowOf t (y 0)) (y 1)) := by
  funext y
  have e : (win0_0.blk t).view.emb y = ix2 (rowOf t (y 0)) (y 1) := by blk_ext [blockIdx t, rowOf]
  blk_simp [iblk]
  entry_read
  pointwise
  rw [e]
  rfl

theorem block1 : iblk m c 1 t = fun y : S256x1024.Idx => argB m c (ix2 (rowOf t (y 0)) (y 1)) := by
  funext y
  have e : (win0_1.blk t).view.emb y = ix2 (rowOf t (y 0)) (y 1) := by blk_ext [blockIdx t, rowOf]
  blk_simp [iblk]
  entry_read
  pointwise
  rw [e]
  rfl

theorem block2 : iblk m c 2 t = fun y : S256x1024.Idx => argC m c (ix2 (rowOf t (y 0)) (y 1)) := by
  funext y
  have e : (win0_2.blk t).view.emb y = ix2 (rowOf t (y 0)) (y 1) := by blk_ext [blockIdx t, rowOf]
  blk_simp [iblk]
  entry_read
  pointwise
  rw [e]
  rfl

theorem block3 : iblk m c 3 t = fun y : S256x2048.Idx => argD m c (ix2 (rowOf t (y 0)) (y 1)) := by
  funext y
  have e : (win0_3.blk t).view.emb y = ix2 (rowOf t (y 0)) (y 1) := by blk_ext [blockIdx t, rowOf]
  blk_simp [iblk]
  entry_read
  pointwise
  rw [e]
  rfl

theorem block6 : iblk m c 6 t = fun y : S256x1024.Idx => argR m c (ix2 (rowOf t (y 0)) (y 1)) := by
  funext y
  have e : (win0_6.blk t).view.emb y = ix2 (rowOf t (y 0)) (y 1) := by blk_ext [blockIdx t, rowOf]
  blk_simp [iblk]
  rw [V_main_arg7 m c, e]
  rfl

theorem block4 : iblk m c 4 t = fun y : S256x128.Idx => if h : (y 1).1 < 16 then argE m c (ix2 (rowOf t (y 0)) ⟨(y 1).1, h⟩) else 0 := by
  funext y
  have e : (win0_4.blk t).view.emb y = ix2 (rowOf t (y 0)) (y 1) := by blk_ext [blockIdx t, rowOf]
  blk_simp [iblk]
  entry_read
  rw [e]
  pointwise
  rfl

theorem block5 : iblk m c 5 t = fun y : S5632x1024.Idx => if h : (y 0).1 < 5136 then argW m c (ix2 (y 1) ⟨(y 0).1, h⟩) else 0 := by
  funext y
  have e : (win0_5.blk t).view.emb y = ix2 (y 0) (y 1) := by blk_ext [blockIdx t]
  blk_simp [iblk]
  entry_read
  rw [e]
  pointwise
  rfl

/-- The products of a row's columns with a row of the weight, and zero past the last column. -/
def term (c : Dev nD) (i : Fin 2048) (k : Fin 1024) (p : ℕ) : EReal :=
  if h : p < 5136 then pieces (F := Ideal) (argA m c) (argB m c) (argC m c) (argD m c) (argE m c) (ix2 i ⟨p, h⟩) * argW m c (ix2 k ⟨p, h⟩) else 0

theorem term_of (i : Fin 2048) (k : Fin 1024) (p : ℕ) (h : p < 5136) : term m c i k p
    = pieces (F := Ideal) (argA m c) (argB m c) (argC m c) (argD m c) (argE m c) (ix2 i ⟨p, h⟩) * argW m c (ix2 k ⟨p, h⟩) := dif_pos h

theorem term_past (i : Fin 2048) (k : Fin 1024) (p : ℕ) (h : 5136 ≤ p) : term m c i k p = 0 := dif_neg (Nat.not_lt.mpr h)

/-- The stored block at an index. -/
theorem stored (i : Fin 256) (k : Fin 1024) :
    k0_pay1 (F := Ideal) (k0_pay2 (iblk m c 0 t) (View.ld (iblk m c 5 t) r0_1) (iblk m c 1 t) (View.ld (iblk m c 5 t) r0_2)
        (iblk m c 2 t) (View.ld (iblk m c 5 t) r0_3) (iblk m c 3 t) (View.ld (iblk m c 5 t) r0_5) (iblk m c 4 t)
        (View.ld (iblk m c 5 t) r0_7)) (iblk m c 6 t) (ix2 i k)
      = gradOf m c (ix2 (rowOf t i) k) := by
  rw [gradOf, grad_at, block0, block1, block2, block3, block4, block5, block6]
  pointwise [k0_pay1, k0_pay2]
  rw [add_comm (Ideal.ofBits _ _ * _)]
  have e : ∀ p : Fin 5136, pieces (F := Ideal) (argA m c) (argB m c) (argC m c) (argD m c) (argE m c) (ix2 (rowOf t i) p) * argW m c (ix2 k p)
      = term m c (rowOf t i) k p.1 := fun p => (term_of m c _ _ _ p.2).symm
  rw [Finset.sum_congr rfl fun p _ => e p, sum_cut _ fun p hp => term_past m c _ _ p hp]
  refine congrArg₂ (· + ·) (congrArg₂ (· + ·) (congrArg₂ (· + ·) (congrArg₂ (· + ·) (congrArg₂ (· + ·) ?_ ?_) ?_) ?_) ?_) rfl
  · refine Finset.sum_congr rfl fun x _ => ?_
    have h : x.1 < 5136 := by omega
    rw [term_of m c _ _ _ h, pieces_0]
    exact congrArg _ (dif_pos h)
  · refine Finset.sum_congr rfl fun x _ => ?_
    have h : 1024 + x.1 < 5136 := by omega
    rw [term_of m c _ _ _ h, pieces_1]
    exact congrArg _ (dif_pos h)
  · refine Finset.sum_congr rfl fun x _ => ?_
    have h : 2048 + x.1 < 5136 := by omega
    rw [term_of m c _ _ _ h, pieces_2]
    exact congrArg _ (dif_pos h)
  · refine Finset.sum_congr rfl fun x _ => ?_
    have h : 3072 + x.1 < 5136 := by omega
    rw [term_of m c _ _ _ h, pieces_3]
    exact congrArg _ (dif_pos h)
  · refine (congrArg₂ (· + ·) (Finset.sum_congr rfl fun x _ => ?_) (Finset.sum_congr rfl fun x _ => ?_)).trans
      (Fin.sum_univ_add fun p : Fin (16 + 112) => term m c (rowOf t i) k (5120 + p.1)).symm
    · have h : 5120 + x.1 < 5136 := by omega
      refine Eq.trans ?_ (term_of m c _ _ _ h).symm
      rw [pieces_4]
      exact congrArg _ (dif_pos h)
    · exact (zero_mul _).trans (term_past m c _ _ (5120 + (16 + x.1)) (by omega)).symm

theorem result : (dats m 0 c).arrAt 7 (cfgs 0).N = gradOf m c := by
  refine (dats m 0 c).arrAt_eq_of_covers 7 _ (by decide +kernel) fun t _ y => ?_
  have e : (win0_7.blk t).view.emb y = ix2 (rowOf t (y 0)) (y 1) := by blk_ext [blockIdx t, rowOf]
  blk_simp
  rw [after0_7]
  frame_out
  rw [e, eq_ix2 y]
  exact stored m c t _ _

theorem algebraic : Cert.algebraic_Kernel10Ideal_Reference10Ideal := by
  pair_intro
  · run_from Cert.Kernel10Ideal.Gen.run_main m g
  · refine (θ_run _ _ _).mono (fun r h c => ?_) (Cert.Reference10Ideal.Value.run m' g')
    obtain ⟨e0, er⟩ := h c
    obtain ⟨a0, a1, a2, a3, a4, a5, a6, a7⟩ := hagree c
    clear h
    rw [a1, a2, a3, a4, a5, a6, a7] at e0
    exact ⟨e0.trans (result m c).symm, er⟩

end Cert.DX

end
-- ==== Proof.AdamW.lean ====
/- adamw_w_ff2: the sum of the four chips' parts of a gradient and one step of the optimiser. The kernel adds the parts
   one after the other; the reference sums over the first axis. Every other line is the same on both sides, so they agree
   at every extended real and no precondition is needed. -/
module

public import proofs.«01_k».proof.Proof.Gen.Kernel11Ideal.Value
public import proofs.«01_k».proof.Proof.Gen.Reference11Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.AdamW

open Idealize.ShloMosaic Idealize.ShloMosaic.TcCoe Idealize.SL.Sem

section Reference

open Cert.Reference11Ideal Cert.Reference11Ideal.Gen

variable {F : FTy → Type} [FloatOps F]

/-- The sum of the four parts. -/
def gradient (P : FVec F S4x512x1024 .f32) : FVec F S512x1024 .f32 :=
  Host.reduceAdd P (constant S_ .f32 0x00000000#32) reducesTo_S4x512x1024_S512x1024_d0 h_S_

/-- A word in every entry. -/
def fill (w : BitVec 32) : FVec F S512x1024 .f32 := broadcastInDim S512x1024 ![] bcast_S_S512x1024 (constant S_ .f32 w)

/-- The new first moment. -/
def first (M G : FVec F S512x1024 .f32) : FVec F S512x1024 .f32 :=
  addf (mulf (fill 0x3F666666#32) M) (mulf (fill 0x3DCCCCCD#32) G)

/-- The new second moment. -/
def second (V G : FVec F S512x1024 .f32) : FVec F S512x1024 .f32 :=
  addf (mulf (fill 0x3F7FBE77#32) V) (mulf (fill 0x3A83126F#32) (mulf G G))

/-- The change of the weight, from the new moments. -/
def delta (W M V : FVec F S512x1024 .f32) : FVec F S512x1024 .f32 :=
  mulf (fill 0xBA83126F#32) (addf (Host.divf (Host.divf M (fill 0x3F26BD02#32))
    (addf (Host.sqrt (Host.divf V (fill 0x3C231ACC#32))) (fill 0x322BCC77#32))) (mulf (fill 0x3C23D70A#32) W))

end Reference

open Cert.Kernel11Ideal Cert.Kernel11Ideal.Gen

variable (m : (ℓ : Loc nD τ sig) → Buf (Elt Ideal) ℓ)

/-- Each window's block at a grid point. -/
theorem blockIdx : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The array's row that block `t`'s row `i` is. -/
def rowOf (t : Fin cfg0.N) (i : Fin 256) : Fin 512 := ⟨t.val * 256 + i.val, by have := t.isLt; have : cfg0.N = 2 := N_0; omega⟩

/-- The arrays of the program's memory. -/
def argP (c : Dev nD) : FVec Ideal S4x512x1024 .f32 := m ((c : Thread nD τ).loc main_arg0)
def argW (c : Dev nD) : FVec Ideal S512x1024 .f32 := m ((c : Thread nD τ).loc main_arg1)
def argM (c : Dev nD) : FVec Ideal S512x1024 .f32 := m ((c : Thread nD τ).loc main_arg2)
def argV (c : Dev nD) : FVec Ideal S512x1024 .f32 := m ((c : Thread nD τ).loc main_arg3)

/-- The four results of those arrays. -/
def gradOf (c : Dev nD) : FVec Ideal S512x1024 .f32 := gradient (F := Ideal) (argP m c)
def firstOf (c : Dev nD) : FVec Ideal S512x1024 .f32 := first (F := Ideal) (argM m c) (gradOf m c)
def secondOf (c : Dev nD) : FVec Ideal S512x1024 .f32 := second (F := Ideal) (argV m c) (gradOf m c)
def deltaOf (c : Dev nD) : FVec Ideal S512x1024 .f32 := delta (F := Ideal) (argW m c) (firstOf m c) (secondOf m c)

variable (c : Dev nD) (t : Fin cfg0.N)

theorem block0 : iblk m c 0 t = fun y : S4x256x1024.Idx => argP m c (ix3 (y 0) (rowOf t (y 1)) (y 2)) := by
  funext y
  have e : (win0_0.blk t).view.emb y = ix3 (y 0) (rowOf t (y 1)) (y 2) := by blk_ext [blockIdx t, rowOf]
  blk_simp [iblk]
  entry_read
  pointwise
  rw [e]
  rfl

theorem block1 : iblk m c 1 t = fun y : S256x1024.Idx => argW m c (ix2 (rowOf t (y 0)) (y 1)) := by
  funext y
  have e : (win0_1.blk t).view.emb y = ix2 (rowOf t (y 0)) (y 1) := by blk_ext [blockIdx t, rowOf]
  blk_simp [iblk]
  rw [V_main_arg1 m c, e]
  rfl

theorem block2 : iblk m c 2 t = fun y : S256x1024.Idx => argM m c (ix2 (rowOf t (y 0)) (y 1)) := by
  funext y
  have e : (win0_2.blk t).view.emb y = ix2 (rowOf t (y 0)) (y 1) := by blk_ext [blockIdx t, rowOf]
  blk_simp [iblk]
  rw [V_main_arg2 m c, e]
  rfl

theorem block3 : iblk m c 3 t = fun y : S256x1024.Idx => argV m c (ix2 (rowOf t (y 0)) (y 1)) := by
  funext y
  have e : (win0_3.blk t).view.emb y = ix2 (rowOf t (y 0)) (y 1) := by blk_ext [blockIdx t, rowOf]
  blk_simp [iblk]
  rw [V_main_arg3 m c, e]
  rfl

/-- What a block stores, at an index. -/
theorem stored_gradient (i : Fin 256) (k : Fin 1024) :
    k0_pay2 (F := Ideal) (View.ld (iblk m c 0 t) r0_0) (View.ld (iblk m c 0 t) r0_1) (View.ld (iblk m c 0 t) r0_2)
      (View.ld (iblk m c 0 t) r0_3) (ix2 i k) = gradOf m c (ix2 (rowOf t i) k) := by
  rw [block0]
  pointwise [k0_pay2, gradOf, gradient]
  rw [Fin.sum_univ_four]

theorem stored_first (i : Fin 256) (k : Fin 1024) :
    k0_pay3 (F := Ideal) (View.ld (iblk m c 0 t) r0_0) (View.ld (iblk m c 0 t) r0_1) (View.ld (iblk m c 0 t) r0_2)
      (View.ld (iblk m c 0 t) r0_3) (iblk m c 2 t) (ix2 i k) = firstOf m c (ix2 (rowOf t i) k) := by
  have e := stored_gradient m c t i k
  unfold k0_pay3
  generalize k0_pay2 (F := Ideal) (View.ld (iblk m c 0 t) r0_0) (View.ld (iblk m c 0 t) r0_1) (View.ld (iblk m c 0 t) r0_2)
    (View.ld (iblk m c 0 t) r0_3) = Z at e ⊢
  rw [block2]
  pointwise [firstOf, first, fill]
  rw [e]

theorem stored_second (i : Fin 256) (k : Fin 1024) :
    k0_pay4 (F := Ideal) (View.ld (iblk m c 0 t) r0_0) (View.ld (iblk m c 0 t) r0_1) (View.ld (iblk m c 0 t) r0_2)
      (View.ld (iblk m c 0 t) r0_3) (iblk m c 3 t) (ix2 i k) = secondOf m c (ix2 (rowOf t i) k) := by
  have e := stored_gradient m c t i k
  unfold k0_pay4
  generalize k0_pay2 (F := Ideal) (View.ld (iblk m c 0 t) r0_0) (View.ld (iblk m c 0 t) r0_1) (View.ld (iblk m c 0 t) r0_2)
    (View.ld (iblk m c 0 t) r0_3) = Z at e ⊢
  rw [block3]
  pointwise [secondOf, second, fill]
  rw [e]

theorem stored_delta (A B : FVec Ideal S256x1024 .f32) (i : Fin 256) (k : Fin 1024)
    (hA : A (ix2 i k) = firstOf m c (ix2 (rowOf t i) k)) (hB : B (ix2 i k) = secondOf m c (ix2 (rowOf t i) k)) :
    k0_pay1 (F := Ideal) A B (iblk m c 1 t) (ix2 i k) = deltaOf m c (ix2 (rowOf t i) k) := by
  rw [block1]
  pointwise [k0_pay1, deltaOf, delta, fill]
  rw [hA, hB]

theorem result_gradient : (dats m 0 c).arrAt 4 (cfgs 0).N = gradOf m c := by
  refine (dats m 0 c).arrAt_eq_of_covers 4 _ (by decide +kernel) fun t _ y => ?_
  have e : (win0_4.blk t).view.emb y = ix2 (rowOf t (y 0)) (y 1) := by blk_ext [blockIdx t, rowOf]
  blk_simp
  rw [after0_4]
  frame_out
  rw [e, eq_ix2 y]
  exact stored_gradient m c t _ _

theorem result_first : (dats m 0 c).arrAt 6 (cfgs 0).N = firstOf m c := by
  refine (dats m 0 c).arrAt_eq_of_covers 6 _ (by decide +kernel) fun t _ y => ?_
  have e : (win0_6.blk t).view.emb y = ix2 (rowOf t (y 0)) (y 1) := by blk_ext [blockIdx t, rowOf]
  blk_simp
  rw [after0_6]
  frame_out
  rw [e, eq_ix2 y]
  exact stored_first m c t _ _

theorem result_second : (dats m 0 c).arrAt 7 (cfgs 0).N = secondOf m c := by
  refine (dats m 0 c).arrAt_eq_of_covers 7 _ (by decide +kernel) fun t _ y => ?_
  have e : (win0_7.blk t).view.emb y = ix2 (rowOf t (y 0)) (y 1) := by blk_ext [blockIdx t, rowOf]
  blk_simp
  rw [after0_7]
  frame_out
  rw [e, eq_ix2 y]
  unfold k0_pay5
  frame_out
  exact stored_second m c t _ _

theorem result_delta : (dats m 0 c).arrAt 5 (cfgs 0).N = deltaOf m c := by
  refine (dats m 0 c).arrAt_eq_of_covers 5 _ (by decide +kernel) fun t _ y => ?_
  have e : (win0_5.blk t).view.emb y = ix2 (rowOf t (y 0)) (y 1) := by blk_ext [blockIdx t, rowOf]
  blk_simp
  rw [after0_5]
  frame_out
  rw [e, eq_ix2 y]
  unfold k0_pay5
  frame_out
  exact stored_delta m c t _ _ _ _ (stored_first m c t _ _) (stored_second m c t _ _)

theorem algebraic : Cert.algebraic_Kernel11Ideal_Reference11Ideal := by
  pair_intro
  · exact Cert.Kernel11Ideal.Value.run_blocks m g
  · refine (θ_run _ _ _).mono (fun r h c => ?_) (Cert.Reference11Ideal.Value.run m' g')
    obtain ⟨e0, e1, e2, e3, er⟩ := h c
    obtain ⟨a0, a1, a2, a3⟩ := hagree c
    clear h
    rw [a0] at e0
    rw [a0, a1, a2, a3] at e1
    rw [a0, a2] at e2
    rw [a0, a3] at e3
    exact ⟨e0.trans (result_gradient m c).symm, e1.trans (result_delta m c).symm, e2.trans (result_first m c).symm,
      e3.trans (result_second m c).symm, er⟩

end Cert.AdamW

end
-- ==== Proof.DWff1.lean ====
/- d_w_ff1: the gradient of the feed-forward's first weight. The kernel multiplies the
   transpose of the forward input's block by the cotangent's; the reference exchanges the two axes of its product and cuts the columns into the eight devices' groups, as the kernel stores them.
   The two sums have the same terms with their factors exchanged, so they agree at every extended real and no
   precondition is needed. -/
module

public import proofs.«01_k».proof.Proof.Gen.Kernel12Ideal.Value
public import proofs.«01_k».proof.Proof.Gen.Reference12Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DWff1

open Idealize.ShloMosaic Idealize.ShloMosaic.TcCoe Idealize.SL.Sem

section Reference

open Cert.Reference12Ideal Cert.Reference12Ideal.Gen

/-- What the reference computes of the cotangent `D` and the forward input `X`. -/
def weightGrad (D : FVec Ideal S2048x4096 .f32) (X : FVec Ideal S2048x1024 .f32) : FVec Ideal S8x1024x512 .bf16 :=
  transpose S8x1024x512 [1, 0, 2] (shapeCast _ (truncf .bf16 (transpose S1024x4096 [1, 0] (Host.dotGeneral dot_S2048x4096_S2048x1024_S4096x1024_0_0_1_1_n_n none D X) transposes_S4096x1024_S1024x4096_1_0) bitsLt_bf16_f32) shapeCasts_S1024x4096_S1024x8x512) transposes_S1024x8x512_S8x1024x512_1_0_2

end Reference

open Cert.Kernel12Ideal Cert.Kernel12Ideal.Gen

variable (m : (ℓ : Loc nD τ sig) → Buf (Elt Ideal) ℓ)

/-- Each window's block at a grid point. -/
theorem blockIdx : ∀ t : Fin cfg0.N, win0_0.index t = ![0, 0] ∧ win0_1.index t = ![0, t.val]
    ∧ win0_2.index t = ![t.val, 0, 0] :=
  (by decide +kernel : ∀ t : Fin grid0.N, _)

/-- The stored block at an index is the reference's gradient at the array index the block puts there. -/
theorem stored (c : Dev nD) (t : Fin cfg0.N) (y : S1x1024x512.Idx) :
    k0_pay1 (F := Ideal) (iblk m c 0 t) (iblk m c 1 t) y
      = weightGrad (m ((c : Thread nD τ).loc main_arg0)) (m ((c : Thread nD τ).loc main_arg2))
          (((cfg0.win 2).blk t).view.emb y) := by
  pointwise [k0_pay1, weightGrad]
  refine Finset.sum_congr rfl fun k _ => ?_
  rw [mul_comm]
  blk_simp [iblk]
  entry_read
  blk_point [iblk, V, blockIdx t]

/-- The result array after the run is the reference's gradient of the argument arrays. -/
theorem result (c : Dev nD) : (dats m 0 c).arrAt 2 (cfgs 0).N
    = weightGrad (m ((c : Thread nD τ).loc main_arg0)) (m ((c : Thread nD τ).loc main_arg2)) := by
  refine (dats m 0 c).arrAt_eq_of_covers 2 _ (by decide +kernel) fun t _ y => ?_
  blk_simp
  rw [after0_2]
  frame_out
  exact stored m c t y

theorem algebraic : Cert.algebraic_Kernel12Ideal_Reference12Ideal := by
  pair_intro
  · run_from Cert.Kernel12Ideal.Gen.run_main m g
  · run_from Cert.Reference12Ideal.Value.run m' g'
    exact (result m c).symm

end Cert.DWff1

end
-- ==== Proof.DWout.lean ====
/- d_w_out: the gradient of the weight that mixes the two branches. The kernel multiplies the
   transpose of the forward input's block by the cotangent's; the reference exchanges the two axes of its product.
   The two sums have the same terms with their factors exchanged, so they agree at every extended real and no
   precondition is needed. -/
module

public import proofs.«01_k».proof.Proof.Gen.Kernel13Ideal.Value
public import proofs.«01_k».proof.Proof.Gen.Reference13Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DWout

open Idealize.ShloMosaic Idealize.ShloMosaic.TcCoe Idealize.SL.Sem

section Reference

open Cert.Reference13Ideal Cert.Reference13Ideal.Gen

/-- What the reference computes of the cotangent `D` and the forward input `X`. -/
def weightGrad (D : FVec Ideal S2048x1024 .f32) (X : FVec Ideal S2048x2048 .f32) : FVec Ideal S2048x1024 .bf16 :=
  truncf .bf16 (transpose S2048x1024 [1, 0] (Host.dotGeneral dot_S2048x1024_S2048x2048_S1024x2048_0_0_1_1_n_n none D X) transposes_S1024x2048_S2048x1024_1_0) bitsLt_bf16_f32

end Reference

open Cert.Kernel13Ideal Cert.Kernel13Ideal.Gen

variable (m : (ℓ : Loc nD τ sig) → Buf (Elt Ideal) ℓ)

/-- Each window's block at a grid point. -/
theorem blockIdx : ∀ t : Fin cfg0.N, win0_0.index t = ![0, t.val] ∧ win0_1.index t = ![0, 0]
    ∧ win0_2.index t = ![t.val, 0] :=
  (by decide +kernel : ∀ t : Fin grid0.N, _)

/-- The stored block at an index is the reference's gradient at the array index the block puts there. -/
theorem stored (c : Dev nD) (t : Fin cfg0.N) (y : S512x1024.Idx) :
    k0_pay1 (F := Ideal) (iblk m c 0 t) (iblk m c 1 t) y
      = weightGrad (m ((c : Thread nD τ).loc main_arg0)) (m ((c : Thread nD τ).loc main_arg2))
          (((cfg0.win 2).blk t).view.emb y) := by
  pointwise [k0_pay1, weightGrad]
  refine Finset.sum_congr rfl fun k _ => ?_
  rw [mul_comm]
  blk_simp [iblk]
  entry_read
  blk_point [iblk, V, blockIdx t]

/-- The result array after the run is the reference's gradient of the argument arrays. -/
theorem result (c : Dev nD) : (dats m 0 c).arrAt 2 (cfgs 0).N
    = weightGrad (m ((c : Thread nD τ).loc main_arg0)) (m ((c : Thread nD τ).loc main_arg2)) := by
  refine (dats m 0 c).arrAt_eq_of_covers 2 _ (by decide +kernel) fun t _ y => ?_
  blk_simp
  rw [after0_2]
  frame_out
  exact stored m c t y

theorem algebraic : Cert.algebraic_Kernel13Ideal_Reference13Ideal := by
  pair_intro
  · run_from Cert.Kernel13Ideal.Gen.run_main m g
  · run_from Cert.Reference13Ideal.Value.run m' g'
    exact (result m c).symm

end Cert.DWout

end
-- ==== Proof.DWgate.lean ====
/- d_w_ple_gate: the gradient of the gate's weight. The kernel multiplies the
   transpose of the forward input's block by the cotangent's; the reference exchanges the two axes of its product.
   The two sums have the same terms with their factors exchanged, so they agree at every extended real and no
   precondition is needed. -/
module

public import proofs.«01_k».proof.Proof.Gen.Kernel14Ideal.Value
public import proofs.«01_k».proof.Proof.Gen.Reference14Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DWgate

open Idealize.ShloMosaic Idealize.ShloMosaic.TcCoe Idealize.SL.Sem

section Reference

open Cert.Reference14Ideal Cert.Reference14Ideal.Gen

/-- What the reference computes of the cotangent `D` and the forward input `X`. -/
def weightGrad (D : FVec Ideal S2048x1024 .f32) (X : FVec Ideal S2048x1024 .f32) : FVec Ideal S1024x1024 .bf16 :=
  truncf .bf16 (transpose S1024x1024 [1, 0] (Host.dotGeneral dot_S2048x1024_S2048x1024_S1024x1024_0_0_1_1_n_n none D X) transposes_S1024x1024_S1024x1024_1_0) bitsLt_bf16_f32

end Reference

open Cert.Kernel14Ideal Cert.Kernel14Ideal.Gen

variable (m : (ℓ : Loc nD τ sig) → Buf (Elt Ideal) ℓ)

/-- Each window's block at a grid point. -/
theorem blockIdx : ∀ t : Fin cfg0.N, win0_0.index t = ![0, t.val] ∧ win0_1.index t = ![0, 0]
    ∧ win0_2.index t = ![t.val, 0] :=
  (by decide +kernel : ∀ t : Fin grid0.N, _)

/-- The stored block at an index is the reference's gradient at the array index the block puts there. -/
theorem stored (c : Dev nD) (t : Fin cfg0.N) (y : S512x1024.Idx) :
    k0_pay1 (F := Ideal) (iblk m c 0 t) (iblk m c 1 t) y
      = weightGrad (m ((c : Thread nD τ).loc main_arg0)) (m ((c : Thread nD τ).loc main_arg2))
          (((cfg0.win 2).blk t).view.emb y) := by
  pointwise [k0_pay1, weightGrad]
  refine Finset.sum_congr rfl fun k _ => ?_
  rw [mul_comm]
  blk_simp [iblk]
  entry_read
  blk_point [iblk, V, blockIdx t]

/-- The result array after the run is the reference's gradient of the argument arrays. -/
theorem result (c : Dev nD) : (dats m 0 c).arrAt 2 (cfgs 0).N
    = weightGrad (m ((c : Thread nD τ).loc main_arg0)) (m ((c : Thread nD τ).loc main_arg2)) := by
  refine (dats m 0 c).arrAt_eq_of_covers 2 _ (by decide +kernel) fun t _ y => ?_
  blk_simp
  rw [after0_2]
  frame_out
  exact stored m c t y

theorem algebraic : Cert.algebraic_Kernel14Ideal_Reference14Ideal := by
  pair_intro
  · run_from Cert.Kernel14Ideal.Gen.run_main m g
  · run_from Cert.Reference14Ideal.Value.run m' g'
    exact (result m c).symm

end Cert.DWgate

end
-- ==== Proof.DWple.lean ====
/- d_w_ple: the gradient of the weight of the per-layer embedding. The kernel multiplies the
   transpose of the forward input's block by the cotangent's; the reference exchanges the two axes of its product and cuts the columns into the eight devices' groups, as the kernel stores them.
   The two sums have the same terms with their factors exchanged, so they agree at every extended real and no
   precondition is needed. -/
module

public import proofs.«01_k».proof.Proof.Gen.Kernel15Ideal.Value
public import proofs.«01_k».proof.Proof.Gen.Reference15Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DWple

open Idealize.ShloMosaic Idealize.ShloMosaic.TcCoe Idealize.SL.Sem

section Reference

open Cert.Reference15Ideal Cert.Reference15Ideal.Gen

/-- What the reference computes of the cotangent `D` and the forward input `X`. -/
def weightGrad (D : FVec Ideal S2048x1024 .f32) (X : FVec Ideal S2048x256 .f32) : FVec Ideal S8x256x128 .bf16 :=
  transpose S8x256x128 [1, 0, 2] (shapeCast _ (truncf .bf16 (transpose S256x1024 [1, 0] (Host.dotGeneral dot_S2048x1024_S2048x256_S1024x256_0_0_1_1_n_n none D X) transposes_S1024x256_S256x1024_1_0) bitsLt_bf16_f32) shapeCasts_S256x1024_S256x8x128) transposes_S256x8x128_S8x256x128_1_0_2

end Reference

open Cert.Kernel15Ideal Cert.Kernel15Ideal.Gen

variable (m : (ℓ : Loc nD τ sig) → Buf (Elt Ideal) ℓ)

/-- Each window's block at a grid point. -/
theorem blockIdx : ∀ t : Fin cfg0.N, win0_0.index t = ![0, 0] ∧ win0_1.index t = ![0, t.val]
    ∧ win0_2.index t = ![t.val, 0, 0] :=
  (by decide +kernel : ∀ t : Fin grid0.N, _)

/-- The stored block at an index is the reference's gradient at the array index the block puts there. -/
theorem stored (c : Dev nD) (t : Fin cfg0.N) (y : S1x256x128.Idx) :
    k0_pay1 (F := Ideal) (iblk m c 0 t) (iblk m c 1 t) y
      = weightGrad (m ((c : Thread nD τ).loc main_arg0)) (m ((c : Thread nD τ).loc main_arg2))
          (((cfg0.win 2).blk t).view.emb y) := by
  pointwise [k0_pay1, weightGrad]
  refine Finset.sum_congr rfl fun k _ => ?_
  rw [mul_comm]
  blk_simp [iblk]
  entry_read
  blk_point [iblk, V, blockIdx t]

/-- The result array after the run is the reference's gradient of the argument arrays. -/
theorem result (c : Dev nD) : (dats m 0 c).arrAt 2 (cfgs 0).N
    = weightGrad (m ((c : Thread nD τ).loc main_arg0)) (m ((c : Thread nD τ).loc main_arg2)) := by
  refine (dats m 0 c).arrAt_eq_of_covers 2 _ (by decide +kernel) fun t _ y => ?_
  blk_simp
  rw [after0_2]
  frame_out
  exact stored m c t y

theorem algebraic : Cert.algebraic_Kernel15Ideal_Reference15Ideal := by
  pair_intro
  · run_from Cert.Kernel15Ideal.Gen.run_main m g
  · run_from Cert.Reference15Ideal.Value.run m' g'
    exact (result m c).symm

end Cert.DWple

end
-- ==== Proof.LnBwd1.lean ====
/- d_x1: the product with the transposed first weight of the feed-forward, then the gradient of the first layer norm:
   the function of d_x2 at another shape, with blocks of 256 rows. -/
module

public import proofs.«01_k».proof.Proof.Gen.Kernel16Ideal.Value
public import proofs.«01_k».proof.Proof.Gen.Reference16Ideal.Run
public import proofs.«01_k».proof.Proof.Gen.Pre_finite16
public import proofs.«01_k».proof.Proof.Norm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.LnBwd1

open Idealize.ShloMosaic Idealize.ShloMosaic.TcCoe Idealize.SL.Sem
open Cert.Kernel16Ideal Cert.Kernel16Ideal.Gen
open Cert.Reals Cert.Norm

variable (m : (ℓ : Loc nD τ sig) → Buf (Elt Ideal) ℓ)

theorem finite_args (hp : Cert.Pre_Kernel16Ideal_finite16 m) (c : Dev nD) :
    IsReal (m ((c : Thread nD τ).loc main_arg0)) ∧ IsReal (m ((c : Thread nD τ).loc main_arg1))
    ∧ IsReal (m ((c : Thread nD τ).loc main_arg2)) ∧ IsReal (m ((c : Thread nD τ).loc main_arg4))
    ∧ IsReal (m ((c : Thread nD τ).loc main_arg5)) ∧ IsReal (m ((c : Thread nD τ).loc main_arg6)) := by
  have e := hp c
  unfold Cert.Pre_finite16.fn Cert.Pre_finite16.fn_part1 at e
  have e := congrFun e (fun a => a.elim0)
  have : Subsingleton Cert.Pre_finite16.S_.Idx := ⟨fun a b => funext fun i => i.elim0⟩
  obtain ⟨e, e6⟩ := IntOp.andi_eq_one.mp e
  obtain ⟨e, e5⟩ := IntOp.andi_eq_one.mp e
  obtain ⟨e, e4⟩ := IntOp.andi_eq_one.mp e
  obtain ⟨e, e2⟩ := IntOp.andi_eq_one.mp e
  obtain ⟨e0, e1⟩ := IntOp.andi_eq_one.mp e
  exact ⟨real_of_all _ _ (fun _ => word_inf) _ _ _ _ e0, real_of_all _ _ (fun _ => word_inf) _ _ _ _ e1,
    real_of_all _ _ (fun _ => word_inf) _ _ _ _ e2, real_of_all _ _ (fun _ => word_inf) _ _ _ _ e4,
    real_of_all _ _ (fun _ => word_inf) _ _ _ _ e5, real_of_all _ _ (fun _ => word_inf) _ _ _ _ e6⟩

/-- The cotangent of the norm's output at a row. -/
def cotan (d : Fin 1024 → ℝ) (a : Fin 4096 → ℝ) (b : Fin 1024 → Fin 4096 → ℝ) (k : Fin 1024) : ℝ := alpha * d k + ∑ p, a p * b k p

theorem stored_dt (X R : S256x1024.Idx → ℝ) (A : S256x4096.Idx → ℝ) (B : S1024x4096.Idx → ℝ) (G : S1x1024.Idx → ℝ) (D : S256x1024.Idx → ℝ)
    (i : Fin 256) (k : Fin 1024) :
    k0_pay1 (F := Ideal) (k0_pay9 (fun i => (X i : EReal)) (fun i => (R i : EReal))) (k0_pay10 (fun i => (X i : EReal)) (fun i => (R i : EReal)))
      (k0_pay11 (fun i => (A i : EReal)) (fun i => (B i : EReal)) (fun i => (D i : EReal)) (fun i => (G i : EReal)))
      (k0_pay12 (fun i => (A i : EReal)) (fun i => (B i : EReal)) (fun i => (D i : EReal)) (fun i => (G i : EReal))) (ix2 i k)
      = ((gradK (fun k => alpha * X (ix2 i k) + R (ix2 i k)) (fun k => cotan (fun k => D (ix2 i k)) (fun p => A (ix2 i p)) (fun k p => B (ix2 k p)) k * G (ix2 0 k)) k : ℝ) : EReal) := by
  pointwise [k0_pay1, k0_pay9, k0_pay10, k0_pay11, k0_pay12, k0_pay8, k0_pay7]
  simp only [word_1024, word_eps, word_alpha, add_coe, sub_coe, mul_coe, sum_coe, div_1024, rsqrt_var]
  rfl

/-- The parts of the eight blocks' sums that a block adds to the gradients of the scale and of the shift. -/
theorem stored_dg (X R : S256x1024.Idx → ℝ) (A : S256x4096.Idx → ℝ) (B : S1024x4096.Idx → ℝ) (D : S256x1024.Idx → ℝ) (W : Vec Ideal S1x1024 .f32)
    (k : Fin 1024) :
    k0_pay5 (F := Ideal) (k0_pay7 (fun i => (A i : EReal)) (fun i => (B i : EReal)) (fun i => (D i : EReal)))
       (k0_pay10 (fun i => (X i : EReal)) (fun i => (R i : EReal))) W (ix2 0 k)
      = W (ix2 0 k) + ((∑ i : Fin 256, cotan (fun k => D (ix2 i k)) (fun p => A (ix2 i p)) (fun k p => B (ix2 k p)) k
          * hat (fun k => alpha * X (ix2 i k) + R (ix2 i k)) k : ℝ) : EReal) := by
  pointwise [k0_pay5, k0_pay9, k0_pay10, k0_pay8, k0_pay7]
  simp only [word_1024, word_eps, word_alpha, add_coe, sub_coe, mul_coe, sum_coe, div_1024, rsqrt_var]
  rfl
theorem stored_db (A : S256x4096.Idx → ℝ) (B : S1024x4096.Idx → ℝ) (D : S256x1024.Idx → ℝ) (W : Vec Ideal S1x1024 .f32)
    (k : Fin 1024) :
    k0_pay6 (F := Ideal) (k0_pay7 (fun i => (A i : EReal)) (fun i => (B i : EReal)) (fun i => (D i : EReal))) W (ix2 0 k)
      = W (ix2 0 k) + ((∑ i : Fin 256, cotan (fun k => D (ix2 i k)) (fun p => A (ix2 i p)) (fun k p => B (ix2 k p)) k : ℝ) : EReal) := by
  pointwise [k0_pay6, k0_pay7]
  simp only [word_1024, word_eps, word_alpha, add_coe, sub_coe, mul_coe, sum_coe, div_1024, rsqrt_var]
  rfl

/-- Real arrays the arguments are equal to. -/
structure Args where
  X : Fin 2048 → Fin 1024 → ℝ
  R : Fin 2048 → Fin 1024 → ℝ
  G : Fin 1024 → ℝ
  B : Fin 1024 → Fin 4096 → ℝ
  A : Fin 2048 → Fin 4096 → ℝ
  D : Fin 2048 → Fin 1024 → ℝ

/-- The four results of real arguments, as the kernel's formulas give them. -/
def Args.cot (q : Args) (i : Fin 2048) : Fin 1024 → ℝ := cotan (q.D i) (q.A i) q.B
def Args.row (q : Args) (i : Fin 2048) : Fin 1024 → ℝ := fun k => alpha * q.X i k + q.R i k
def Args.dt (q : Args) : S2048x1024.Idx → EReal := fun j =>
  ((gradK (q.row (j 0)) (fun k => q.cot (j 0) k * q.G k) (j 1) : ℝ) : EReal)
def Args.dg (q : Args) : S1x1024.Idx → EReal := fun j => ((∑ i, q.cot i (j 1) * hat (q.row i) (j 1) : ℝ) : EReal)
def Args.db (q : Args) : S1x1024.Idx → EReal := fun j => ((∑ i, q.cot i (j 1) : ℝ) : EReal)

/-- The memory's argument arrays are the real arrays `q`. -/
structure Holds (q : Args) (c : Dev nD) : Prop where
  h0 : m ((c : Thread nD τ).loc main_arg0) = fun i => (q.X (i 0) (i 1) : EReal)
  h1 : m ((c : Thread nD τ).loc main_arg1) = fun i => (q.R (i 0) (i 1) : EReal)
  h2 : m ((c : Thread nD τ).loc main_arg2) = fun i => (q.G (i 1) : EReal)
  h4 : m ((c : Thread nD τ).loc main_arg4) = fun i => (q.B (i 0) (i 1) : EReal)
  h5 : m ((c : Thread nD τ).loc main_arg5) = fun i => (q.A (i 0) (i 1) : EReal)
  h6 : m ((c : Thread nD τ).loc main_arg6) = fun i => (q.D (i 0) (i 1) : EReal)

theorem holds_of_finite (hp : Cert.Pre_Kernel16Ideal_finite16 m) (c : Dev nD) : ∃ q, Holds m q c := by
  obtain ⟨h0, h1, h2, h4, h5, h6⟩ := finite_args m hp c
  obtain ⟨X, h0⟩ := real2 _ h0
  obtain ⟨R, h1⟩ := real2 _ h1
  obtain ⟨G, h2⟩ := real2 _ h2
  obtain ⟨B, h4⟩ := real2 _ h4
  obtain ⟨A, h5⟩ := real2 _ h5
  obtain ⟨D, h6⟩ := real2 _ h6
  refine ⟨⟨X, R, G 0, B, A, D⟩, h0, h1, h2.trans (funext fun i => ?_), h4, h5, h6⟩
  congr 2
  exact Subsingleton.elim _ _

/-- Each window's block at a grid point. -/
theorem blockIdx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- The array's row that block `t`'s row `i` is. -/
def rowOf (t : Fin cfg0.N) (i : Fin 256) : Fin 2048 := ⟨t.val * 256 + i.val, by have := t.isLt; have : cfg0.N = 8 := N_0; omega⟩

variable {m} {q : Args} {c : Dev nD} (H : Holds m q c) (t : Fin cfg0.N)

include H in
theorem block0 : iblk m c 0 t = fun y : S256x4096.Idx => (q.A (rowOf t (y 0)) (y 1) : EReal) := by
  funext y
  have e : (win0_0.blk t).view.emb y = ix2 (rowOf t (y 0)) (y 1) := by blk_ext [blockIdx t, rowOf]
  blk_simp [iblk]
  entry_read
  rw [H.h5]
  pointwise
  rw [e]
  rfl
include H in
theorem block1 : iblk m c 1 t = fun y : S1024x4096.Idx => (q.B (y 0) (y 1) : EReal) := by
  funext y
  have e : (win0_1.blk t).view.emb y = ix2 (y 0) (y 1) := by blk_ext [blockIdx t, rowOf]
  blk_simp [iblk]
  entry_read
  rw [H.h4]
  pointwise
  rw [e]
  rfl
include H in
theorem block2 : iblk m c 2 t = fun y : S256x1024.Idx => (q.X (rowOf t (y 0)) (y 1) : EReal) := by
  funext y
  have e : (win0_2.blk t).view.emb y = ix2 (rowOf t (y 0)) (y 1) := by blk_ext [blockIdx t, rowOf]
  blk_simp [iblk]
  rw [V_main_arg0 m c, H.h0]
  rw [e]
  rfl
include H in
theorem block3 : iblk m c 3 t = fun y : S256x1024.Idx => (q.R (rowOf t (y 0)) (y 1) : EReal) := by
  funext y
  have e : (win0_3.blk t).view.emb y = ix2 (rowOf t (y 0)) (y 1) := by blk_ext [blockIdx t, rowOf]
  blk_simp [iblk]
  rw [V_main_arg1 m c, H.h1]
  rw [e]
  rfl
include H in
theorem block4 : iblk m c 4 t = fun y : S1x1024.Idx => (q.G (y 1) : EReal) := by
  funext y
  have e : (win0_4.blk t).view.emb y = ix2 (y 0) (y 1) := by blk_ext [blockIdx t, rowOf]
  blk_simp [iblk]
  rw [V_main_arg2 m c, H.h2]
  rw [e]
  rfl
include H in
theorem block5 : iblk m c 5 t = fun y : S256x1024.Idx => (q.D (rowOf t (y 0)) (y 1) : EReal) := by
  funext y
  have e : (win0_5.blk t).view.emb y = ix2 (rowOf t (y 0)) (y 1) := by blk_ext [blockIdx t, rowOf]
  blk_simp [iblk]
  rw [V_main_arg6 m c, H.h6]
  rw [e]
  rfl

include H in
theorem result_dt : (dats m 0 c).arrAt 6 (cfgs 0).N = q.dt := by
  refine (dats m 0 c).arrAt_eq_of_covers 6 _ (by decide +kernel) fun t hf y => ?_
  have e : (win0_6.blk t).view.emb y = ix2 (rowOf t (y 0)) (y 1) := by blk_ext [blockIdx t, rowOf]
  blk_simp
  rw [after0_6]
  by_cases h : t.val % 8 = 0
  · rw [outsAt0_A m c t h]; dsimp only; frame_out
    rw [block0 H, block1 H, block2 H, block3 H, block4 H, block5 H, e, eq_ix2 y]
    exact stored_dt _ _ _ _ _ _ _ _
  · rw [outsAt0_B m c t h]; dsimp only; frame_out
    rw [block0 H, block1 H, block2 H, block3 H, block4 H, block5 H, e, eq_ix2 y]
    exact stored_dt _ _ _ _ _ _ _ _
include H in
theorem result_dtb : (dats m 0 c).arrAt 7 (cfgs 0).N = q.dt := by
  refine (dats m 0 c).arrAt_eq_of_covers 7 _ (by decide +kernel) fun t hf y => ?_
  have e : (win0_7.blk t).view.emb y = ix2 (rowOf t (y 0)) (y 1) := by blk_ext [blockIdx t, rowOf]
  blk_simp
  rw [after0_7]
  by_cases h : t.val % 8 = 0
  · rw [outsAt0_A m c t h]; dsimp only; frame_out
    rw [block0 H, block1 H, block2 H, block3 H, block4 H, block5 H, e, eq_ix2 y]
    exact stored_dt _ _ _ _ _ _ _ _
  · rw [outsAt0_B m c t h]; dsimp only; frame_out
    rw [block0 H, block1 H, block2 H, block3 H, block4 H, block5 H, e, eq_ix2 y]
    exact stored_dt _ _ _ _ _ _ _ _

theorem zero_dg (j : S1x1024.Idx) : k0_pay3 (F := Ideal) j = 0 := by pointwise! [k0_pay3]
theorem zero_db (j : S1x1024.Idx) : k0_pay4 (F := Ideal) j = 0 := by pointwise! [k0_pay4]

/-- A sum over the 2048 rows is the sum of the eight blocks' sums. -/
theorem sum_rows (f : Fin 2048 → ℝ) : (∑ p : Fin cfg0.N, ((∑ i : Fin 256, f (rowOf p i) : ℝ) : EReal)) = ((∑ i, f i : ℝ) : EReal) := by
  rw [sum_coe, Fin.sum_univ_tiles 8 256 rfl f]
  rfl

include H in
theorem result_dg : (dats m 0 c).arrAt 8 (cfgs 0).N = q.dg := by
  refine (dats m 0 c).arrAt_eq_of_after_last 8 t0_7 (by decide +kernel) _ fun j => ?_
  blk_simp
  obtain ⟨k, rfl⟩ : ∃ k, j = ix2 0 k := ⟨j 1, (eq_ix2 j).trans (by congr 1; exact Subsingleton.elim _ _)⟩
  rw [after0_8, Pipeline.eq_sum_fin_of_reset_step_apply_last (fun n h => (outsAt0 m c n h).2.2.1) 8 (fun _ => 0)
    (fun t j => ((∑ i : Fin 256, q.cot (rowOf t i) (j 1) * hat (q.row (rowOf t i)) (j 1) : ℝ) : EReal))
    (fun t h j => by
      obtain ⟨k, rfl⟩ : ∃ k, j = ix2 0 k := ⟨j 1, (eq_ix2 j).trans (by congr 1; exact Subsingleton.elim _ _)⟩
      rw [outsAt0_A m c t h]; frame_out; rw [block0 H, block1 H, block2 H, block3 H, block5 H]
      refine (stored_dg _ _ _ _ _ _ _).trans ?_; rw [zero_dg]; rfl)
    (fun t h j => by
      obtain ⟨k, rfl⟩ : ∃ k, j = ix2 0 k := ⟨j 1, (eq_ix2 j).trans (by congr 1; exact Subsingleton.elim _ _)⟩
      rw [outsAt0_B m c t h]; frame_out; rw [block0 H, block1 H, block2 H, block3 H, block5 H]
      exact stored_dg _ _ _ _ _ _ _)
    (le_of_eq N_0) t0_7 rfl (ix2 0 k), zero_add]
  exact sum_rows fun i => q.cot i k * hat (q.row i) k

include H in
theorem result_db : (dats m 0 c).arrAt 9 (cfgs 0).N = q.db := by
  refine (dats m 0 c).arrAt_eq_of_after_last 9 t0_7 (by decide +kernel) _ fun j => ?_
  blk_simp
  obtain ⟨k, rfl⟩ : ∃ k, j = ix2 0 k := ⟨j 1, (eq_ix2 j).trans (by congr 1; exact Subsingleton.elim _ _)⟩
  rw [after0_9, Pipeline.eq_sum_fin_of_reset_step_apply_last (fun n h => (outsAt0 m c n h).2.2.2) 8 (fun _ => 0)
    (fun t j => ((∑ i : Fin 256, q.cot (rowOf t i) (j 1) : ℝ) : EReal))
    (fun t h j => by
      obtain ⟨k, rfl⟩ : ∃ k, j = ix2 0 k := ⟨j 1, (eq_ix2 j).trans (by congr 1; exact Subsingleton.elim _ _)⟩
      rw [outsAt0_A m c t h]; frame_out; rw [block0 H, block1 H, block5 H]
      refine (stored_db _ _ _ _ _).trans ?_; rw [zero_db]; rfl)
    (fun t h j => by
      obtain ⟨k, rfl⟩ : ∃ k, j = ix2 0 k := ⟨j 1, (eq_ix2 j).trans (by congr 1; exact Subsingleton.elim _ _)⟩
      rw [outsAt0_B m c t h]; frame_out; rw [block0 H, block1 H, block5 H]
      exact stored_db _ _ _ _ _)
    (le_of_eq N_0) t0_7 rfl (ix2 0 k), zero_add]
  exact sum_rows fun i => q.cot i k

section Reference

open Cert.Reference16Ideal Cert.Reference16Ideal.Gen

variable (m' : (ℓ : Loc Cert.Reference16Ideal.nD Cert.Reference16Ideal.τ Cert.Reference16Ideal.sig) → Buf (Elt Ideal) ℓ)

/-- The reference's composed terms of arrays that are real. -/
theorem ref_dt (q : Args) (c : Dev 1)
    (h0 : m' ((c.tc : Thread Cert.Reference16Ideal.nD Cert.Reference16Ideal.τ).loc main_arg0) = fun i => (q.X (i 0) (i 1) : EReal))
    (h1 : m' ((c.tc : Thread Cert.Reference16Ideal.nD Cert.Reference16Ideal.τ).loc main_arg1) = fun i => (q.R (i 0) (i 1) : EReal))
    (h2 : m' ((c.tc : Thread Cert.Reference16Ideal.nD Cert.Reference16Ideal.τ).loc main_arg2) = fun i => (q.G (i 1) : EReal))
    (h4 : m' ((c.tc : Thread Cert.Reference16Ideal.nD Cert.Reference16Ideal.τ).loc main_arg4) = fun i => (q.B (i 0) (i 1) : EReal))
    (h5 : m' ((c.tc : Thread Cert.Reference16Ideal.nD Cert.Reference16Ideal.τ).loc main_arg5) = fun i => (q.A (i 0) (i 1) : EReal))
    (h6 : m' ((c.tc : Thread Cert.Reference16Ideal.nD Cert.Reference16Ideal.τ).loc main_arg6) = fun i => (q.D (i 0) (i 1) : EReal)) :
    Cert.Reference16Ideal.Value.res_main_v61 (F := Ideal) m' c = q.dt := by
  funext j
  unfold Cert.Reference16Ideal.Value.res_main_v61
  rw [h0, h1, h2, h4, h5, h6]
  rw [eq_ix2 j]
  pointwise
  simp only [word_1024, word_eps, word_alpha, word_neg_half, add_coe, sub_coe, mul_coe, neg_coe, sum_coe, div_1024, rsqrt_var, div_var]
  refine Eq.trans ?_ (congrArg (fun x : ℝ => (x : EReal)) (gradR_eq (q.row (j 0)) (fun k => q.cot (j 0) k * q.G k) (j 1)))
  simp only [Args.cot, cotan, add_comm (alpha * _) (∑ p, _)]
  rfl

end Reference

theorem algebraic : Cert.algebraic_Kernel16Ideal_Reference16Ideal_pre_finite16 := by
  pair_intro
  · exact Cert.Kernel16Ideal.Value.run_blocks m g
  · refine (θ_run _ _ _).mono (fun r h c => ?_) (Cert.Reference16Ideal.Value.run m' g')
    obtain ⟨e0, e1, e2, e3, er⟩ := h c
    obtain ⟨q, H⟩ := holds_of_finite m hpre c
    obtain ⟨a0, a1, a2, a3, a4, a5, a6⟩ := hagree c
    clear h
    have r0 := ref_dt m' q c (a0.trans H.h0) (a1.trans H.h1) (a2.trans H.h2) (a4.trans H.h4) (a5.trans H.h5) (a6.trans H.h6)
    refine ⟨e0.trans (r0.trans (result_dt H).symm), e1.trans (Eq.trans ?_ (result_dtb H).symm), e2.trans (Eq.trans ?_ (result_dg H).symm),
      e3.trans (Eq.trans ?_ (result_db H).symm), er⟩
    · exact r0
    · rw [a0.trans H.h0, a1.trans H.h1, a4.trans H.h4, a5.trans H.h5, a6.trans H.h6]
      funext j
      obtain ⟨k, rfl⟩ : ∃ k, j = ix2 0 k := ⟨j 1, (eq_ix2 j).trans (by congr 1; exact Subsingleton.elim _ _)⟩
      pointwise
      simp only [word_1024, word_eps, word_alpha, add_coe, sub_coe, mul_coe, sum_coe, div_1024, rsqrt_var]
      refine congrArg (fun x : ℝ => (x : EReal)) (Finset.sum_congr rfl fun i _ => ?_)
      change hat (q.row i) k * ((∑ p, q.A i p * q.B k p) + alpha * q.D i k) = (alpha * q.D i k + ∑ p, q.A i p * q.B k p) * hat (q.row i) k
      ring
    · rw [a4.trans H.h4, a5.trans H.h5, a6.trans H.h6]
      funext j
      obtain ⟨k, rfl⟩ : ∃ k, j = ix2 0 k := ⟨j 1, (eq_ix2 j).trans (by congr 1; exact Subsingleton.elim _ _)⟩
      pointwise
      simp only [word_alpha, add_coe, mul_coe, sum_coe]
      refine congrArg (fun x : ℝ => (x : EReal)) (Finset.sum_congr rfl fun i _ => ?_)
      exact add_comm _ _

end Cert.LnBwd1

end
-- ==== Proof.InProj.lean ====
/- in_proj: the product of the input with the weight of the projections. The kernel multiplies by the transposed weight
   filled with zero rows to 5632; the reference multiplies by the weight and fills the product's columns with zeros. A
   sum of products with zero is zero at every extended real, so they agree and no precondition is needed. -/
module

public import proofs.«01_k».proof.Proof.Gen.Kernel17Ideal.Value
public import proofs.«01_k».proof.Proof.Gen.Reference17Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProj

open Idealize.ShloMosaic Idealize.ShloMosaic.TcCoe Idealize.SL.Sem

section Reference

open Cert.Reference17Ideal Cert.Reference17Ideal.Gen

/-- What the reference computes of the input and the weight. -/
def projection (X : FVec Ideal S2048x1024 .f32) (W : FVec Ideal S1024x5136 .f32) : FVec Ideal S2048x5632 .f32 :=
  concatenate S2048x5632 1 [⟨S2048x5136, (Host.dotGeneral dot_S2048x1024_S1024x5136_S2048x5136_1_0_0_1_n_n none X W : FVec Ideal S2048x5136 .f32)⟩,
    ⟨S2048x496, (broadcastInDim S2048x496 ![] bcast_S_S2048x496 (constant S_ .f32 0x00000000#32) : FVec Ideal S2048x496 .f32)⟩]
    concatenates_S2048x5136_S2048x496_S2048x5632_d1

/-- An entry of the projection, a product in the first 5136 columns and zero after. -/
theorem projection_at (X : FVec Ideal S2048x1024 .f32) (W : FVec Ideal S1024x5136 .f32) (j : S2048x5632.Idx) :
    projection X W j = ∑ p : Fin 1024, X (ix2 (j 0) p) * (if h : (j 1).1 < 5136 then W (ix2 p ⟨(j 1).1, h⟩) else 0) := by
  rw [eq_ix2 j]
  pointwise [projection]
  split
  · rfl
  · simp

end Reference

open Cert.Kernel17Ideal Cert.Kernel17Ideal.Gen

variable (m : (ℓ : Loc nD τ sig) → Buf (Elt Ideal) ℓ)

/-- Each window's block at a grid point. -/
theorem blockIdx : ∀ t : Fin cfg0.N, win0_0.index t = ![0, 0] ∧ win0_1.index t = ![t.val, 0]
    ∧ win0_2.index t = ![0, t.val] :=
  (by decide +kernel : ∀ t : Fin grid0.N, _)

/-- The array's column that block `t`'s column `i` is. -/
def colOf (t : Fin cfg0.N) (i : Fin 512) : Fin 5632 := ⟨t.val * 512 + i.val, by have := t.isLt; have : cfg0.N = 11 := N_0; omega⟩

variable (c : Dev nD) (t : Fin cfg0.N)

/-- The arrays of the program's memory. -/
def argX : FVec Ideal S2048x1024 .f32 := m ((c : Thread nD τ).loc main_arg0)
def argW : FVec Ideal S1024x5136 .f32 := m ((c : Thread nD τ).loc main_arg1)

theorem block0 : iblk m c 0 t = fun y : S2048x1024.Idx => argX m c (ix2 (y 0) (y 1)) := by
  funext y
  have e : (win0_0.blk t).view.emb y = ix2 (y 0) (y 1) := by blk_ext [blockIdx t]
  blk_simp [iblk]
  entry_read
  pointwise
  rw [e]
  exact congrArg (argX m c) (eq_ix2 y).symm

theorem block1 : iblk m c 1 t = fun y : S512x1024.Idx =>
    if h : (colOf t (y 0)).1 < 5136 then argW m c (ix2 (y 1) ⟨(colOf t (y 0)).1, h⟩) else 0 := by
  funext y
  have e : (win0_1.blk t).view.emb y = ix2 (colOf t (y 0)) (y 1) := by blk_ext [blockIdx t, colOf]
  blk_simp [iblk]
  entry_read
  rw [e]
  pointwise
  rfl

/-- The stored block at an index is the reference's projection at the array index the block puts there. -/
theorem stored (i : Fin 2048) (k : Fin 512) :
    k0_pay1 (F := Ideal) (iblk m c 0 t) (iblk m c 1 t) (ix2 i k) = projection (argX m c) (argW m c) (ix2 i (colOf t k)) := by
  rw [projection_at, block0, block1]
  pointwise [k0_pay1]

/-- The result array after the run is the reference's projection of the argument arrays. -/
theorem result : (dats m 0 c).arrAt 2 (cfgs 0).N = projection (argX m c) (argW m c) := by
  refine (dats m 0 c).arrAt_eq_of_covers 2 _ (by decide +kernel) fun t _ y => ?_
  have e : (win0_2.blk t).view.emb y = ix2 (y 0) (colOf t (y 1)) := by blk_ext [blockIdx t, colOf]
  blk_simp
  rw [after0_2]
  frame_out
  rw [e, eq_ix2 y]
  exact stored m c t _ _

theorem algebraic : Cert.algebraic_Kernel17Ideal_Reference17Ideal := by
  pair_intro
  · run_from Cert.Kernel17Ideal.Gen.run_main m g
  · run_from Cert.Reference17Ideal.Value.run m' g'
    exact (result m c).symm

end Cert.InProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.DPre
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite2
public import proofs.«01_k».proof.Proof.LnBwd
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite4
public import proofs.«01_k».proof.Proof.Head
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite5
public import proofs.«01_k».proof.Proof.SsdFwdAlg
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite6
public import proofs.«01_k».proof.Proof.SsdBwdAlg
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Pre_finite3
public import proofs.«01_k».proof.Proof.ConvBwdAlg
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.DWff2
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame.Runs
public import proofs.«01_k».proof.Proof.Gen.Reference8Ideal
public import proofs.«01_k».proof.Proof.Gen.Reference8Ideal.Run
public import proofs.«01_k».proof.Proof.ConvFwd
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Ff2
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.DX
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.AdamW
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.DWff1
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.DWout
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.DWgate
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.DWple
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Pre_finite16
public import proofs.«01_k».proof.Proof.LnBwd1
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.InProj
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel3.Gen.facts, Cert.Kernel3Ideal.Gen.facts, Cert.Reference3Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Pre_finite2.Gen.facts, Cert.Pre_finite4.Gen.facts, Cert.Pre_finite5.Gen.facts, Cert.Pre_finite6.Gen.facts, Cert.Pre_finite3.Gen.facts, Cert.Pre_finite16.Gen.facts,
  fun m ρ _ => Cert.Kernel.Gen.frame m ρ,
  fun m ρ _ => Cert.KernelIdeal.Gen.frame m ρ,
  fun m ρ _ => (θ_run _ _ _).mono (fun r h => ⟨fun c => (h c).2, sem_eq_zero_of_no_sems (by decide) r.2⟩)
    (Cert.ReferenceIdeal.Value.run m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run _ _ _).mono (fun r h => ⟨fun c => (h c).2.2.2.2, sem_eq_zero_of_no_sems (by decide) r.2⟩)
    (Cert.Reference2Ideal.Value.run m ρ),
  fun m ρ _ => (θ_run _ _ _).mono (fun r h => ⟨fun c => (h c).2.2.2.2, sem_eq_zero_of_no_sems (by decide) r.2⟩)
    (Cert.Reference2Ideal.Value.run m ρ),
  fun m ρ _ => Cert.Kernel4.Gen.frame m ρ,
  fun m ρ _ => Cert.Kernel4Ideal.Gen.frame m ρ,
  fun m ρ _ => Cert.Kernel4Ideal.Gen.frame m ρ,
  fun m ρ _ => (θ_run _ _ _).mono (fun r h => ⟨fun c => (h c).2.2.2.2.2.2, sem_eq_zero_of_no_sems (by decide) r.2⟩)
    (Cert.Reference4Ideal.Value.run m ρ),
  fun m ρ _ => (θ_run _ _ _).mono (fun r h => ⟨fun c => (h c).2.2.2.2.2.2, sem_eq_zero_of_no_sems (by decide) r.2⟩)
    (Cert.Reference4Ideal.Value.run m ρ),
  fun m ρ _ => Cert.Kernel5.Gen.frame m ρ,
  fun m ρ _ => Cert.Kernel5Ideal.Gen.frame m ρ,
  fun m ρ _ => Cert.Kernel5Ideal.Gen.frame m ρ,
  fun m ρ _ => (θ_run _ _ _).mono (fun r h => ⟨fun c => (h c).2.2, sem_eq_zero_of_no_sems (by decide) r.2⟩)
    (Cert.Reference5Ideal.Value.run m ρ),
  fun m ρ _ => (θ_run _ _ _).mono (fun r h => ⟨fun c => (h c).2.2, sem_eq_zero_of_no_sems (by decide) r.2⟩)
    (Cert.Reference5Ideal.Value.run m ρ),
  fun m ρ _ => Cert.Kernel6.Gen.frame m ρ,
  fun m ρ _ => Cert.Kernel6Ideal.Gen.frame m ρ,
  fun m ρ _ => Cert.Kernel6Ideal.Gen.frame m ρ,
  fun m ρ _ => (θ_run _ _ _).mono (fun r h => ⟨fun c => (h c).2.2.2.2.2, sem_eq_zero_of_no_sems (by decide) r.2⟩)
    (Cert.Reference6Ideal.Value.run m ρ),
  fun m ρ _ => (θ_run _ _ _).mono (fun r h => ⟨fun c => (h c).2.2.2.2.2, sem_eq_zero_of_no_sems (by decide) r.2⟩)
    (Cert.Reference6Ideal.Value.run m ρ),
  fun m ρ _ => Cert.ConvBwd.frame_printed m ρ,
  fun m ρ _ => Cert.ConvBwd.frame_kept m ρ,
  fun m ρ _ => Cert.ConvBwd.frame_kept m ρ,
  fun m ρ _ => (θ_run _ _ _).mono (fun r h => ⟨fun c => (h c).2.2, sem_eq_zero_of_no_sems (by decide) r.2⟩)
    (Cert.Reference3Ideal.Value.run m ρ),
  fun m ρ _ => (θ_run _ _ _).mono (fun r h => ⟨fun c => (h c).2.2, sem_eq_zero_of_no_sems (by decide) r.2⟩)
    (Cert.Reference3Ideal.Value.run m ρ),
  fun m ρ _ => Cert.Kernel7.Gen.frame m ρ,
  fun m ρ _ => Cert.Kernel7Ideal.Gen.frame m ρ,
  fun m ρ _ => (θ_run _ _ _).mono (fun r h => ⟨fun c => (h c).2, sem_eq_zero_of_no_sems (by decide) r.2⟩)
    (Cert.Reference7Ideal.Value.run m ρ),
  fun m ρ _ => Cert.ConvFwd.frame_printed m ρ,
  fun m ρ _ => Cert.ConvFwd.frame_kept m ρ,
  fun m ρ _ => (θ_run _ _ _).mono (fun r h => ⟨fun c => (h c).2, sem_eq_zero_of_no_sems (by decide) r.2⟩)
    (Cert.Reference8Ideal.Value.run m ρ),
  fun m ρ _ => Cert.Kernel9.Gen.frame m ρ,
  fun m ρ _ => Cert.Kernel9Ideal.Gen.frame m ρ,
  fun m ρ _ => (θ_run _ _ _).mono (fun r h => ⟨fun c => (h c).2.2.2, sem_eq_zero_of_no_sems (by decide) r.2⟩)
    (Cert.Reference9Ideal.Value.run m ρ),
  fun m ρ _ => Cert.Kernel10.Gen.frame m ρ,
  fun m ρ _ => Cert.Kernel10Ideal.Gen.frame m ρ,
  fun m ρ _ => (θ_run _ _ _).mono (fun r h => ⟨fun c => (h c).2, sem_eq_zero_of_no_sems (by decide) r.2⟩)
    (Cert.Reference10Ideal.Value.run m ρ),
  fun m ρ _ => Cert.Kernel11.Gen.frame m ρ,
  fun m ρ _ => Cert.Kernel11Ideal.Gen.frame m ρ,
  fun m ρ _ => (θ_run _ _ _).mono (fun r h => ⟨fun c => (h c).2.2.2.2, sem_eq_zero_of_no_sems (by decide) r.2⟩)
    (Cert.Reference11Ideal.Value.run m ρ),
  fun m ρ _ => Cert.Kernel12.Gen.frame m ρ,
  fun m ρ _ => Cert.Kernel12Ideal.Gen.frame m ρ,
  fun m ρ _ => (θ_run _ _ _).mono (fun r h => ⟨fun c => (h c).2, sem_eq_zero_of_no_sems (by decide) r.2⟩)
    (Cert.Reference12Ideal.Value.run m ρ),
  fun m ρ _ => Cert.Kernel13.Gen.frame m ρ,
  fun m ρ _ => Cert.Kernel13Ideal.Gen.frame m ρ,
  fun m ρ _ => (θ_run _ _ _).mono (fun r h => ⟨fun c => (h c).2, sem_eq_zero_of_no_sems (by decide) r.2⟩)
    (Cert.Reference13Ideal.Value.run m ρ),
  fun m ρ _ => Cert.Kernel14.Gen.frame m ρ,
  fun m ρ _ => Cert.Kernel14Ideal.Gen.frame m ρ,
  fun m ρ _ => (θ_run _ _ _).mono (fun r h => ⟨fun c => (h c).2, sem_eq_zero_of_no_sems (by decide) r.2⟩)
    (Cert.Reference14Ideal.Value.run m ρ),
  fun m ρ _ => Cert.Kernel15.Gen.frame m ρ,
  fun m ρ _ => Cert.Kernel15Ideal.Gen.frame m ρ,
  fun m ρ _ => (θ_run _ _ _).mono (fun r h => ⟨fun c => (h c).2, sem_eq_zero_of_no_sems (by decide) r.2⟩)
    (Cert.Reference15Ideal.Value.run m ρ),
  fun m ρ _ => Cert.Kernel16.Gen.frame m ρ,
  fun m ρ _ => Cert.Kernel16Ideal.Gen.frame m ρ,
  fun m ρ _ => Cert.Kernel16Ideal.Gen.frame m ρ,
  fun m ρ _ => (θ_run _ _ _).mono (fun r h => ⟨fun c => (h c).2.2.2.2, sem_eq_zero_of_no_sems (by decide) r.2⟩)
    (Cert.Reference16Ideal.Value.run m ρ),
  fun m ρ _ => (θ_run _ _ _).mono (fun r h => ⟨fun c => (h c).2.2.2.2, sem_eq_zero_of_no_sems (by decide) r.2⟩)
    (Cert.Reference16Ideal.Value.run m ρ),
  fun m ρ _ => Cert.Kernel17.Gen.frame m ρ,
  fun m ρ _ => Cert.Kernel17Ideal.Gen.frame m ρ,
  fun m ρ _ => (θ_run _ _ _).mono (fun r h => ⟨fun c => (h c).2, sem_eq_zero_of_no_sems (by decide) r.2⟩)
    (Cert.Reference17Ideal.Value.run m ρ),
  trivial,
  Cert.DPre.algebraic,
  trivial,
  Cert.LnBwd.algebraic,
  trivial,
  Cert.Head.algebraic,
  IdealRules.named_const.statement _ _ _ _ _ rfl,
  Cert.SsdFwd.algebraic,
  IdealRules.named_const.statement _ _ _ _ _ rfl,
  Cert.SsdBwd.algebraic,
  trivial,
  Cert.ConvBwd.algebraic,
  trivial,
  Cert.DWff2.algebraic,
  trivial,
  Cert.ConvFwd.algebraic,
  trivial,
  Cert.Ff2.algebraic,
  trivial,
  Cert.DX.algebraic,
  trivial,
  Cert.AdamW.algebraic,
  trivial,
  Cert.DWff1.algebraic,
  trivial,
  Cert.DWout.algebraic,
  trivial,
  Cert.DWgate.algebraic,
  trivial,
  Cert.DWple.algebraic,
  trivial,
  Cert.LnBwd1.algebraic,
  trivial,
  Cert.InProj.algebraic⟩

end Cert.Proof

end
